-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_RefDwUpIdeal (m : (ℓ : Loc Cert.RefDwUpIdeal.nD Cert.RefDwUpIdeal.τ Cert.RefDwUpIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_RefDwQkvIdeal (m : (ℓ : Loc Cert.RefDwQkvIdeal.nD Cert.RefDwQkvIdeal.τ Cert.RefDwQkvIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_RefDwOIdeal (m : (ℓ : Loc Cert.RefDwOIdeal.nD Cert.RefDwOIdeal.τ Cert.RefDwOIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def Pre_DwZ (m : (ℓ : Loc Cert.DwZ.nD Cert.DwZ.τ Cert.DwZ.sig) → Buf (Elt Bits) ℓ) : Prop :=
  True

def Pre_DwZIdeal (m : (ℓ : Loc Cert.DwZIdeal.nD Cert.DwZIdeal.τ Cert.DwZIdeal.sig) → Buf (Elt Ideal) ℓ) : Prop :=
  True

def Pre_RefDwZIdeal (m : (ℓ : Loc Cert.RefDwZIdeal.nD Cert.RefDwZIdeal.τ Cert.RefDwZIdeal.sig) → Buf (Elt Ideal) ℓ) : Prop :=
  True

def Pre_DwXbc (m : (ℓ : Loc Cert.DwXbc.nD Cert.DwXbc.τ Cert.DwXbc.sig) → Buf (Elt Bits) ℓ) : Prop :=
  True

def Pre_DwXbcIdeal (m : (ℓ : Loc Cert.DwXbcIdeal.nD Cert.DwXbcIdeal.τ Cert.DwXbcIdeal.sig) → Buf (Elt Ideal) ℓ) : Prop :=
  True

def Pre_RefDwXbcIdeal (m : (ℓ : Loc Cert.RefDwXbcIdeal.nD Cert.RefDwXbcIdeal.τ Cert.RefDwXbcIdeal.sig) → Buf (Elt Ideal) ℓ) : Prop :=
  True

def Pre_DwDt (m : (ℓ : Loc Cert.DwDt.nD Cert.DwDt.τ Cert.DwDt.sig) → Buf (Elt Bits) ℓ) : Prop :=
  True

def Pre_DwDtIdeal (m : (ℓ : Loc Cert.DwDtIdeal.nD Cert.DwDtIdeal.τ Cert.DwDtIdeal.sig) → Buf (Elt Ideal) ℓ) : Prop :=
  True

def Pre_RefDwDtIdeal (m : (ℓ : Loc Cert.RefDwDtIdeal.nD Cert.RefDwDtIdeal.τ Cert.RefDwDtIdeal.sig) → Buf (Elt Ideal) ℓ) : Prop :=
  True

def Pre_Du0 (m : (ℓ : Loc Cert.Du0.nD Cert.Du0.τ Cert.Du0.sig) → Buf (Elt Bits) ℓ) : Prop :=
  True

def Pre_Du0Ideal (m : (ℓ : Loc Cert.Du0Ideal.nD Cert.Du0Ideal.τ Cert.Du0Ideal.sig) → Buf (Elt Ideal) ℓ) : Prop :=
  True

def Pre_RefDu0Ideal (m : (ℓ : Loc Cert.RefDu0Ideal.nD Cert.RefDu0Ideal.τ Cert.RefDu0Ideal.sig) → Buf (Elt Ideal) ℓ) : Prop :=
  True

def Pre_Du1 (m : (ℓ : Loc Cert.Du1.nD Cert.Du1.τ Cert.Du1.sig) → Buf (Elt Bits) ℓ) : Prop :=
  True

def Pre_Du1Ideal (m : (ℓ : Loc Cert.Du1Ideal.nD Cert.Du1Ideal.τ Cert.Du1Ideal.sig) → Buf (Elt Ideal) ℓ) : Prop :=
  True

def Pre_RefDu1Ideal (m : (ℓ : Loc Cert.RefDu1Ideal.nD Cert.RefDu1Ideal.τ Cert.RefDu1Ideal.sig) → Buf (Elt Ideal) ℓ) : Prop :=
  True

def Pre_Du2 (m : (ℓ : Loc Cert.Du2.nD Cert.Du2.τ Cert.Du2.sig) → Buf (Elt Bits) ℓ) : Prop :=
  True

def Pre_Du2Ideal (m : (ℓ : Loc Cert.Du2Ideal.nD Cert.Du2Ideal.τ Cert.Du2Ideal.sig) → Buf (Elt Ideal) ℓ) : Prop :=
  True

def Pre_RefDu2Ideal (m : (ℓ : Loc Cert.RefDu2Ideal.nD Cert.RefDu2Ideal.τ Cert.RefDu2Ideal.sig) → Buf (Elt Ideal) ℓ) : Prop :=
  True

def Pre_Du3 (m : (ℓ : Loc Cert.Du3.nD Cert.Du3.τ Cert.Du3.sig) → Buf (Elt Bits) ℓ) : Prop :=
  True

def Pre_Du3Ideal (m : (ℓ : Loc Cert.Du3Ideal.nD Cert.Du3Ideal.τ Cert.Du3Ideal.sig) → Buf (Elt Ideal) ℓ) : Prop :=
  True

def Pre_RefDu3Ideal (m : (ℓ : Loc Cert.RefDu3Ideal.nD Cert.RefDu3Ideal.τ Cert.RefDu3Ideal.sig) → Buf (Elt Ideal) ℓ) : Prop :=
  True

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_RefDh0Ideal (m : (ℓ : Loc Cert.RefDh0Ideal.nD Cert.RefDh0Ideal.τ Cert.RefDh0Ideal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_RefDh1Ideal (m : (ℓ : Loc Cert.RefDh1Ideal.nD Cert.RefDh1Ideal.τ Cert.RefDh1Ideal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_RefDh2Ideal (m : (ℓ : Loc Cert.RefDh2Ideal.nD Cert.RefDh2Ideal.τ Cert.RefDh2Ideal.sig) → Buf (Elt Ideal) ℓ) : Prop :=
  True

def Pre_Dh3 (m : (ℓ : Loc Cert.Dh3.nD Cert.Dh3.τ Cert.Dh3.sig) → Buf (Elt Bits) ℓ) : Prop :=
  True

def Pre_Dh3Ideal (m : (ℓ : Loc Cert.Dh3Ideal.nD Cert.Dh3Ideal.τ Cert.Dh3Ideal.sig) → Buf (Elt Ideal) ℓ) : Prop :=
  True

def Pre_RefDh3Ideal (m : (ℓ : Loc Cert.RefDh3Ideal.nD Cert.RefDh3Ideal.τ Cert.RefDh3Ideal.sig) → Buf (Elt Ideal) ℓ) : Prop :=
  True

def Pre_DhQkv0 (m : (ℓ : Loc Cert.DhQkv0.nD Cert.DhQkv0.τ Cert.DhQkv0.sig) → Buf (Elt Bits) ℓ) : Prop :=
  True

def Pre_DhQkv0Ideal (m : (ℓ : Loc Cert.DhQkv0Ideal.nD Cert.DhQkv0Ideal.τ Cert.DhQkv0Ideal.sig) → Buf (Elt Ideal) ℓ) : Prop :=
  True

def Pre_RefDhQkv0Ideal (m : (ℓ : Loc Cert.RefDhQkv0Ideal.nD Cert.RefDhQkv0Ideal.τ Cert.RefDhQkv0Ideal.sig) → Buf (Elt Ideal) ℓ) : Prop :=
  True

def Pre_DhQkv1 (m : (ℓ : Loc Cert.DhQkv1.nD Cert.DhQkv1.τ Cert.DhQkv1.sig) → Buf (Elt Bits) ℓ) : Prop :=
  True

def Pre_DhQkv1Ideal (m : (ℓ : Loc Cert.DhQkv1Ideal.nD Cert.DhQkv1Ideal.τ Cert.DhQkv1Ideal.sig) → Buf (Elt Ideal) ℓ) : Prop :=
  True

def Pre_RefDhQkv1Ideal (m : (ℓ : Loc Cert.RefDhQkv1Ideal.nD Cert.RefDhQkv1Ideal.τ Cert.RefDhQkv1Ideal.sig) → Buf (Elt Ideal) ℓ) : Prop :=
  True

def Pre_Do0 (m : (ℓ : Loc Cert.Do0.nD Cert.Do0.τ Cert.Do0.sig) → Buf (Elt Bits) ℓ) : Prop :=
  True

def Pre_Do0Ideal (m : (ℓ : Loc Cert.Do0Ideal.nD Cert.Do0Ideal.τ Cert.Do0Ideal.sig) → Buf (Elt Ideal) ℓ) : Prop :=
  True

def Pre_RefDo0Ideal (m : (ℓ : Loc Cert.RefDo0Ideal.nD Cert.RefDo0Ideal.τ Cert.RefDo0Ideal.sig) → Buf (Elt Ideal) ℓ) : Prop :=
  True

def Pre_Do1 (m : (ℓ : Loc Cert.Do1.nD Cert.Do1.τ Cert.Do1.sig) → Buf (Elt Bits) ℓ) : Prop :=
  True

def Pre_Do1Ideal (m : (ℓ : Loc Cert.Do1Ideal.nD Cert.Do1Ideal.τ Cert.Do1Ideal.sig) → Buf (Elt Ideal) ℓ) : Prop :=
  True

def Pre_RefDo1Ideal (m : (ℓ : Loc Cert.RefDo1Ideal.nD Cert.RefDo1Ideal.τ Cert.RefDo1Ideal.sig) → Buf (Elt Ideal) ℓ) : Prop :=
  True

def Pre_Ds0 (m : (ℓ : Loc Cert.Ds0.nD Cert.Ds0.τ Cert.Ds0.sig) → Buf (Elt Bits) ℓ) : Prop :=
  True

def Pre_Ds0Ideal (m : (ℓ : Loc Cert.Ds0Ideal.nD Cert.Ds0Ideal.τ Cert.Ds0Ideal.sig) → Buf (Elt Ideal) ℓ) : Prop :=
  True

def Pre_RefDs0Ideal (m : (ℓ : Loc Cert.RefDs0Ideal.nD Cert.RefDs0Ideal.τ Cert.RefDs0Ideal.sig) → Buf (Elt Ideal) ℓ) : Prop :=
  True

def Pre_DhIn0 (m : (ℓ : Loc Cert.DhIn0.nD Cert.DhIn0.τ Cert.DhIn0.sig) → Buf (Elt Bits) ℓ) : Prop :=
  True

def Pre_DhIn0Ideal (m : (ℓ : Loc Cert.DhIn0Ideal.nD Cert.DhIn0Ideal.τ Cert.DhIn0Ideal.sig) → Buf (Elt Ideal) ℓ) : Prop :=
  True

def Pre_RefDhIn0Ideal (m : (ℓ : Loc Cert.RefDhIn0Ideal.nD Cert.RefDhIn0Ideal.τ Cert.RefDhIn0Ideal.sig) → Buf (Elt Ideal) ℓ) : Prop :=
  True

def Pre_Dyn0 (m : (ℓ : Loc Cert.Dyn0.nD Cert.Dyn0.τ Cert.Dyn0.sig) → Buf (Elt Bits) ℓ) : Prop :=
  True

def Pre_Dyn0Ideal (m : (ℓ : Loc Cert.Dyn0Ideal.nD Cert.Dyn0Ideal.τ Cert.Dyn0Ideal.sig) → Buf (Elt Ideal) ℓ) : Prop :=
  True

def Pre_RefDyn0Ideal (m : (ℓ : Loc Cert.RefDyn0Ideal.nD Cert.RefDyn0Ideal.τ Cert.RefDyn0Ideal.sig) → Buf (Elt Ideal) ℓ) : Prop :=
  True

def Pre_DhZ (m : (ℓ : Loc Cert.DhZ.nD Cert.DhZ.τ Cert.DhZ.sig) → Buf (Elt Bits) ℓ) : Prop :=
  True

def Pre_DhZIdeal (m : (ℓ : Loc Cert.DhZIdeal.nD Cert.DhZIdeal.τ Cert.DhZIdeal.sig) → Buf (Elt Ideal) ℓ) : Prop :=
  True

def Pre_RefDhZIdeal (m : (ℓ : Loc Cert.RefDhZIdeal.nD Cert.RefDhZIdeal.τ Cert.RefDhZIdeal.sig) → Buf (Elt Ideal) ℓ) : Prop :=
  True

def Pre_DhXbc (m : (ℓ : Loc Cert.DhXbc.nD Cert.DhXbc.τ Cert.DhXbc.sig) → Buf (Elt Bits) ℓ) : Prop :=
  True

def Pre_DhXbcIdeal (m : (ℓ : Loc Cert.DhXbcIdeal.nD Cert.DhXbcIdeal.τ Cert.DhXbcIdeal.sig) → Buf (Elt Ideal) ℓ) : Prop :=
  True

def Pre_RefDhXbcIdeal (m : (ℓ : Loc Cert.RefDhXbcIdeal.nD Cert.RefDhXbcIdeal.τ Cert.RefDhXbcIdeal.sig) → Buf (Elt Ideal) ℓ) : Prop :=
  True

def Pre_DhDt (m : (ℓ : Loc Cert.DhDt.nD Cert.DhDt.τ Cert.DhDt.sig) → Buf (Elt Bits) ℓ) : Prop :=
  True

def Pre_DhDtIdeal (m : (ℓ : Loc Cert.DhDtIdeal.nD Cert.DhDtIdeal.τ Cert.DhDtIdeal.sig) → Buf (Elt Ideal) ℓ) : Prop :=
  True

def Pre_RefDhDtIdeal (m : (ℓ : Loc Cert.RefDhDtIdeal.nD Cert.RefDhDtIdeal.τ Cert.RefDhDtIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_RefUp0Ideal (m : (ℓ : Loc Cert.RefUp0Ideal.nD Cert.RefUp0Ideal.τ Cert.RefUp0Ideal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_RefUp1Ideal (m : (ℓ : Loc Cert.RefUp1Ideal.nD Cert.RefUp1Ideal.τ Cert.RefUp1Ideal.sig) → Buf (Elt Ideal) ℓ) : Prop :=
  True

def Pre_Up2 (m : (ℓ : Loc Cert.Up2.nD Cert.Up2.τ Cert.Up2.sig) → Buf (Elt Bits) ℓ) : Prop :=
  True

def Pre_Up2Ideal (m : (ℓ : Loc Cert.Up2Ideal.nD Cert.Up2Ideal.τ Cert.Up2Ideal.sig) → Buf (Elt Ideal) ℓ) : Prop :=
  True

def Pre_RefUp2Ideal (m : (ℓ : Loc Cert.RefUp2Ideal.nD Cert.RefUp2Ideal.τ Cert.RefUp2Ideal.sig) → Buf (Elt Ideal) ℓ) : Prop :=
  True

def Pre_Up3 (m : (ℓ : Loc Cert.Up3.nD Cert.Up3.τ Cert.Up3.sig) → Buf (Elt Bits) ℓ) : Prop :=
  True

def Pre_Up3Ideal (m : (ℓ : Loc Cert.Up3Ideal.nD Cert.Up3Ideal.τ Cert.Up3Ideal.sig) → Buf (Elt Ideal) ℓ) : Prop :=
  True

def Pre_RefUp3Ideal (m : (ℓ : Loc Cert.RefUp3Ideal.nD Cert.RefUp3Ideal.τ Cert.RefUp3Ideal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_RefDown0Ideal (m : (ℓ : Loc Cert.RefDown0Ideal.nD Cert.RefDown0Ideal.τ Cert.RefDown0Ideal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_RefDown1Ideal (m : (ℓ : Loc Cert.RefDown1Ideal.nD Cert.RefDown1Ideal.τ Cert.RefDown1Ideal.sig) → Buf (Elt Ideal) ℓ) : Prop :=
  True

def Pre_Down2 (m : (ℓ : Loc Cert.Down2.nD Cert.Down2.τ Cert.Down2.sig) → Buf (Elt Bits) ℓ) : Prop :=
  True

def Pre_Down2Ideal (m : (ℓ : Loc Cert.Down2Ideal.nD Cert.Down2Ideal.τ Cert.Down2Ideal.sig) → Buf (Elt Ideal) ℓ) : Prop :=
  True

def Pre_RefDown2Ideal (m : (ℓ : Loc Cert.RefDown2Ideal.nD Cert.RefDown2Ideal.τ Cert.RefDown2Ideal.sig) → Buf (Elt Ideal) ℓ) : Prop :=
  True

def Pre_Down3 (m : (ℓ : Loc Cert.Down3.nD Cert.Down3.τ Cert.Down3.sig) → Buf (Elt Bits) ℓ) : Prop :=
  True

def Pre_Down3Ideal (m : (ℓ : Loc Cert.Down3Ideal.nD Cert.Down3Ideal.τ Cert.Down3Ideal.sig) → Buf (Elt Ideal) ℓ) : Prop :=
  True

def Pre_RefDown3Ideal (m : (ℓ : Loc Cert.RefDown3Ideal.nD Cert.RefDown3Ideal.τ Cert.RefDown3Ideal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_RefQkv0Ideal (m : (ℓ : Loc Cert.RefQkv0Ideal.nD Cert.RefQkv0Ideal.τ Cert.RefQkv0Ideal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_RefQkv1Ideal (m : (ℓ : Loc Cert.RefQkv1Ideal.nD Cert.RefQkv1Ideal.τ Cert.RefQkv1Ideal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_RefOut0Ideal (m : (ℓ : Loc Cert.RefOut0Ideal.nD Cert.RefOut0Ideal.τ Cert.RefOut0Ideal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_RefOut1Ideal (m : (ℓ : Loc Cert.RefOut1Ideal.nD Cert.RefOut1Ideal.τ Cert.RefOut1Ideal.sig) → Buf (Elt Ideal) ℓ) : Prop :=
  True

def Pre_CfIn (m : (ℓ : Loc Cert.CfIn.nD Cert.CfIn.τ Cert.CfIn.sig) → Buf (Elt Bits) ℓ) : Prop :=
  True

def Pre_CfInIdeal (m : (ℓ : Loc Cert.CfInIdeal.nD Cert.CfInIdeal.τ Cert.CfInIdeal.sig) → Buf (Elt Ideal) ℓ) : Prop :=
  True

def Pre_RefCfInIdeal (m : (ℓ : Loc Cert.RefCfInIdeal.nD Cert.RefCfInIdeal.τ Cert.RefCfInIdeal.sig) → Buf (Elt Ideal) ℓ) : Prop :=
  True

def Pre_CfOut (m : (ℓ : Loc Cert.CfOut.nD Cert.CfOut.τ Cert.CfOut.sig) → Buf (Elt Bits) ℓ) : Prop :=
  True

def Pre_CfOutIdeal (m : (ℓ : Loc Cert.CfOutIdeal.nD Cert.CfOutIdeal.τ Cert.CfOutIdeal.sig) → Buf (Elt Ideal) ℓ) : Prop :=
  True

def Pre_RefCfOutIdeal (m : (ℓ : Loc Cert.RefCfOutIdeal.nD Cert.RefCfOutIdeal.τ Cert.RefCfOutIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_RefZIdeal (m : (ℓ : Loc Cert.RefZIdeal.nD Cert.RefZIdeal.τ Cert.RefZIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_RefXbcIdeal (m : (ℓ : Loc Cert.RefXbcIdeal.nD Cert.RefXbcIdeal.τ Cert.RefXbcIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_RefDtIdeal (m : (ℓ : Loc Cert.RefDtIdeal.nD Cert.RefDtIdeal.τ Cert.RefDtIdeal.sig) → Buf (Elt Ideal) ℓ) : Prop :=
  True

def Pre_M2Out0 (m : (ℓ : Loc Cert.M2Out0.nD Cert.M2Out0.τ Cert.M2Out0.sig) → Buf (Elt Bits) ℓ) : Prop :=
  True

def Pre_M2Out0Ideal (m : (ℓ : Loc Cert.M2Out0Ideal.nD Cert.M2Out0Ideal.τ Cert.M2Out0Ideal.sig) → Buf (Elt Ideal) ℓ) : Prop :=
  True

def Pre_RefM2Out0Ideal (m : (ℓ : Loc Cert.RefM2Out0Ideal.nD Cert.RefM2Out0Ideal.τ Cert.RefM2Out0Ideal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_RefAdamQkvIdeal (m : (ℓ : Loc Cert.RefAdamQkvIdeal.nD Cert.RefAdamQkvIdeal.τ Cert.RefAdamQkvIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_RefAdamOIdeal (m : (ℓ : Loc Cert.RefAdamOIdeal.nD Cert.RefAdamOIdeal.τ Cert.RefAdamOIdeal.sig) → Buf (Elt Ideal) ℓ) : Prop :=
  True

def Pre_AdamCfIn (m : (ℓ : Loc Cert.AdamCfIn.nD Cert.AdamCfIn.τ Cert.AdamCfIn.sig) → Buf (Elt Bits) ℓ) : Prop :=
  True

def Pre_AdamCfInIdeal (m : (ℓ : Loc Cert.AdamCfInIdeal.nD Cert.AdamCfInIdeal.τ Cert.AdamCfInIdeal.sig) → Buf (Elt Ideal) ℓ) : Prop :=
  True

def Pre_RefAdamCfInIdeal (m : (ℓ : Loc Cert.RefAdamCfInIdeal.nD Cert.RefAdamCfInIdeal.τ Cert.RefAdamCfInIdeal.sig) → Buf (Elt Ideal) ℓ) : Prop :=
  True

def Pre_AdamCfOut (m : (ℓ : Loc Cert.AdamCfOut.nD Cert.AdamCfOut.τ Cert.AdamCfOut.sig) → Buf (Elt Bits) ℓ) : Prop :=
  True

def Pre_AdamCfOutIdeal (m : (ℓ : Loc Cert.AdamCfOutIdeal.nD Cert.AdamCfOutIdeal.τ Cert.AdamCfOutIdeal.sig) → Buf (Elt Ideal) ℓ) : Prop :=
  True

def Pre_RefAdamCfOutIdeal (m : (ℓ : Loc Cert.RefAdamCfOutIdeal.nD Cert.RefAdamCfOutIdeal.τ Cert.RefAdamCfOutIdeal.sig) → Buf (Elt Ideal) ℓ) : Prop :=
  True

def Pre_AdamM2In (m : (ℓ : Loc Cert.AdamM2In.nD Cert.AdamM2In.τ Cert.AdamM2In.sig) → Buf (Elt Bits) ℓ) : Prop :=
  True

def Pre_AdamM2InIdeal (m : (ℓ : Loc Cert.AdamM2InIdeal.nD Cert.AdamM2InIdeal.τ Cert.AdamM2InIdeal.sig) → Buf (Elt Ideal) ℓ) : Prop :=
  True

def Pre_RefAdamM2InIdeal (m : (ℓ : Loc Cert.RefAdamM2InIdeal.nD Cert.RefAdamM2InIdeal.τ Cert.RefAdamM2InIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_RefAdamMlpIdeal (m : (ℓ : Loc Cert.RefAdamMlpIdeal.nD Cert.RefAdamMlpIdeal.τ Cert.RefAdamMlpIdeal.sig) → Buf (Elt Ideal) ℓ) : Prop :=
  True

def Pre_AdamCfConv (m : (ℓ : Loc Cert.AdamCfConv.nD Cert.AdamCfConv.τ Cert.AdamCfConv.sig) → Buf (Elt Bits) ℓ) : Prop :=
  True

def Pre_AdamCfConvIdeal (m : (ℓ : Loc Cert.AdamCfConvIdeal.nD Cert.AdamCfConvIdeal.τ Cert.AdamCfConvIdeal.sig) → Buf (Elt Ideal) ℓ) : Prop :=
  True

def Pre_RefAdamCfConvIdeal (m : (ℓ : Loc Cert.RefAdamCfConvIdeal.nD Cert.RefAdamCfConvIdeal.τ Cert.RefAdamCfConvIdeal.sig) → Buf (Elt Ideal) ℓ) : Prop :=
  True

def Pre_AdamM2Conv (m : (ℓ : Loc Cert.AdamM2Conv.nD Cert.AdamM2Conv.τ Cert.AdamM2Conv.sig) → Buf (Elt Bits) ℓ) : Prop :=
  True

def Pre_AdamM2ConvIdeal (m : (ℓ : Loc Cert.AdamM2ConvIdeal.nD Cert.AdamM2ConvIdeal.τ Cert.AdamM2ConvIdeal.sig) → Buf (Elt Ideal) ℓ) : Prop :=
  True

def Pre_RefAdamM2ConvIdeal (m : (ℓ : Loc Cert.RefAdamM2ConvIdeal.nD Cert.RefAdamM2ConvIdeal.τ Cert.RefAdamM2ConvIdeal.sig) → Buf (Elt Ideal) ℓ) : Prop :=
  True

def Pre_AdamM2Bias (m : (ℓ : Loc Cert.AdamM2Bias.nD Cert.AdamM2Bias.τ Cert.AdamM2Bias.sig) → Buf (Elt Bits) ℓ) : Prop :=
  True

def Pre_AdamM2BiasIdeal (m : (ℓ : Loc Cert.AdamM2BiasIdeal.nD Cert.AdamM2BiasIdeal.τ Cert.AdamM2BiasIdeal.sig) → Buf (Elt Ideal) ℓ) : Prop :=
  True

def Pre_RefAdamM2BiasIdeal (m : (ℓ : Loc Cert.RefAdamM2BiasIdeal.nD Cert.RefAdamM2BiasIdeal.τ Cert.RefAdamM2BiasIdeal.sig) → Buf (Elt Ideal) ℓ) : Prop :=
  True

def Pre_AdamM2Norm (m : (ℓ : Loc Cert.AdamM2Norm.nD Cert.AdamM2Norm.τ Cert.AdamM2Norm.sig) → Buf (Elt Bits) ℓ) : Prop :=
  True

def Pre_AdamM2NormIdeal (m : (ℓ : Loc Cert.AdamM2NormIdeal.nD Cert.AdamM2NormIdeal.τ Cert.AdamM2NormIdeal.sig) → Buf (Elt Ideal) ℓ) : Prop :=
  True

def Pre_RefAdamM2NormIdeal (m : (ℓ : Loc Cert.RefAdamM2NormIdeal.nD Cert.RefAdamM2NormIdeal.τ Cert.RefAdamM2NormIdeal.sig) → Buf (Elt Ideal) ℓ) : Prop :=
  True

def Pre_AdamRepl (m : (ℓ : Loc Cert.AdamRepl.nD Cert.AdamRepl.τ Cert.AdamRepl.sig) → Buf (Elt Bits) ℓ) : Prop :=
  True

def Pre_AdamReplIdeal (m : (ℓ : Loc Cert.AdamReplIdeal.nD Cert.AdamReplIdeal.τ Cert.AdamReplIdeal.sig) → Buf (Elt Ideal) ℓ) : Prop :=
  True

def Pre_RefAdamReplIdeal (m : (ℓ : Loc Cert.RefAdamReplIdeal.nD Cert.RefAdamReplIdeal.τ Cert.RefAdamReplIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RefRmsBwdIdeal (m : (ℓ : Loc Cert.RefRmsBwdIdeal.nD Cert.RefRmsBwdIdeal.τ Cert.RefRmsBwdIdeal.sig) → Buf (Elt Ideal) ℓ) : Prop :=
  True

def Pre_BiasIn (m : (ℓ : Loc Cert.BiasIn.nD Cert.BiasIn.τ Cert.BiasIn.sig) → Buf (Elt Bits) ℓ) : Prop :=
  True

def Pre_BiasInIdeal (m : (ℓ : Loc Cert.BiasInIdeal.nD Cert.BiasInIdeal.τ Cert.BiasInIdeal.sig) → Buf (Elt Ideal) ℓ) : Prop :=
  True

def Pre_RefBiasInIdeal (m : (ℓ : Loc Cert.RefBiasInIdeal.nD Cert.RefBiasInIdeal.τ Cert.RefBiasInIdeal.sig) → Buf (Elt Ideal) ℓ) : Prop :=
  True

def Pre_BiasOut (m : (ℓ : Loc Cert.BiasOut.nD Cert.BiasOut.τ Cert.BiasOut.sig) → Buf (Elt Bits) ℓ) : Prop :=
  True

def Pre_BiasOutIdeal (m : (ℓ : Loc Cert.BiasOutIdeal.nD Cert.BiasOutIdeal.τ Cert.BiasOutIdeal.sig) → Buf (Elt Ideal) ℓ) : Prop :=
  True

def Pre_RefBiasOutIdeal (m : (ℓ : Loc Cert.RefBiasOutIdeal.nD Cert.RefBiasOutIdeal.τ Cert.RefBiasOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1)
      ∧ r.2.mem ((c.tc : Thread Cert.RefDwDownIdeal.nD Cert.RefDwDownIdeal.τ).loc Cert.RefDwDownIdeal.main_arg2) = m ((c.tc : Thread Cert.RefDwDownIdeal.nD Cert.RefDwDownIdeal.τ).loc Cert.RefDwDownIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_RefDwUpIdeal [hRefDwUpIdeal : Cert.RefDwUpIdeal.Facts] : Prop :=
  ∀ (m : (ℓ : Loc Cert.RefDwUpIdeal.nD Cert.RefDwUpIdeal.τ Cert.RefDwUpIdeal.sig) → Buf (Elt Ideal) ℓ) (g : Dev Cert.RefDwUpIdeal.nD → PrngReg), Pre_RefDwUpIdeal m →
    θ_run (Cert.RefDwUpIdeal.defs (F := Ideal)) (onTc (τ := Cert.RefDwUpIdeal.τ) (Cert.RefDwUpIdeal.main (F := Ideal))) ⟨m, fun _ => 0, g⟩ (fun r => (∀ c : Dev Cert.RefDwUpIdeal.nD,
      r.2.mem ((c.tc : Thread Cert.RefDwUpIdeal.nD Cert.RefDwUpIdeal.τ).loc Cert.RefDwUpIdeal.main_arg0) = m ((c.tc : Thread Cert.RefDwUpIdeal.nD Cert.RefDwUpIdeal.τ).loc Cert.RefDwUpIdeal.main_arg0)
      ∧ r.2.mem ((c.tc : Thread Cert.RefDwUpIdeal.nD Cert.RefDwUpIdeal.τ).loc Cert.RefDwUpIdeal.main_arg1) = m ((c.tc : Thread Cert.RefDwUpIdeal.nD Cert.RefDwUpIdeal.τ).loc Cert.RefDwUpIdeal.main_arg1)
      ∧ r.2.mem ((c.tc : Thread Cert.RefDwUpIdeal.nD Cert.RefDwUpIdeal.τ).loc Cert.RefDwUpIdeal.main_arg2) = m ((c.tc : Thread Cert.RefDwUpIdeal.nD Cert.RefDwUpIdeal.τ).loc Cert.RefDwUpIdeal.main_arg2))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2))
      ∧ r.2.sem = fun _ => 0)

def quiescent_RefDwQkvIdeal [hRefDwQkvIdeal : Cert.RefDwQkvIdeal.Facts] : Prop :=
  ∀ (m : (ℓ : Loc Cert.RefDwQkvIdeal.nD Cert.RefDwQkvIdeal.τ Cert.RefDwQkvIdeal.sig) → Buf (Elt Ideal) ℓ) (g : Dev Cert.RefDwQkvIdeal.nD → PrngReg), Pre_RefDwQkvIdeal m →
    θ_run (Cert.RefDwQkvIdeal.defs (F := Ideal)) (onTc (τ := Cert.RefDwQkvIdeal.τ) (Cert.RefDwQkvIdeal.main (F := Ideal))) ⟨m, fun _ => 0, g⟩ (fun r => (∀ c : Dev Cert.RefDwQkvIdeal.nD,
      r.2.mem ((c.tc : Thread Cert.RefDwQkvIdeal.nD Cert.RefDwQkvIdeal.τ).loc Cert.RefDwQkvIdeal.main_arg0) = m ((c.tc : Thread Cert.RefDwQkvIdeal.nD Cert.RefDwQkvIdeal.τ).loc Cert.RefDwQkvIdeal.main_arg0)
      ∧ r.2.mem ((c.tc : Thread Cert.RefDwQkvIdeal.nD Cert.RefDwQkvIdeal.τ).loc Cert.RefDwQkvIdeal.main_arg1) = m ((c.tc : Thread Cert.RefDwQkvIdeal.nD Cert.RefDwQkvIdeal.τ).loc Cert.RefDwQkvIdeal.main_arg1)
      ∧ r.2.mem ((c.tc : Thread Cert.RefDwQkvIdeal.nD Cert.RefDwQkvIdeal.τ).loc Cert.RefDwQkvIdeal.main_arg2) = m ((c.tc : Thread Cert.RefDwQkvIdeal.nD Cert.RefDwQkvIdeal.τ).loc Cert.RefDwQkvIdeal.main_arg2))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1)
      ∧ r.2.mem ((c.tc : Thread Cert.DwO.nD Cert.DwO.τ).loc Cert.DwO.main_arg2) = m ((c.tc : Thread Cert.DwO.nD Cert.DwO.τ).loc Cert.DwO.main_arg2))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1)
      ∧ r.2.mem ((c.tc : Thread Cert.DwOIdeal.nD Cert.DwOIdeal.τ).loc Cert.DwOIdeal.main_arg2) = m ((c.tc : Thread Cert.DwOIdeal.nD Cert.DwOIdeal.τ).loc Cert.DwOIdeal.main_arg2))
      ∧ r.2.sem = fun _ => 0)

def quiescent_RefDwOIdeal [hRefDwOIdeal : Cert.RefDwOIdeal.Facts] : Prop :=
  ∀ (m : (ℓ : Loc Cert.RefDwOIdeal.nD Cert.RefDwOIdeal.τ Cert.RefDwOIdeal.sig) → Buf (Elt Ideal) ℓ) (g : Dev Cert.RefDwOIdeal.nD → PrngReg), Pre_RefDwOIdeal m →
    θ_run (Cert.RefDwOIdeal.defs (F := Ideal)) (onTc (τ := Cert.RefDwOIdeal.τ) (Cert.RefDwOIdeal.main (F := Ideal))) ⟨m, fun _ => 0, g⟩ (fun r => (∀ c : Dev Cert.RefDwOIdeal.nD,
      r.2.mem ((c.tc : Thread Cert.RefDwOIdeal.nD Cert.RefDwOIdeal.τ).loc Cert.RefDwOIdeal.main_arg0) = m ((c.tc : Thread Cert.RefDwOIdeal.nD Cert.RefDwOIdeal.τ).loc Cert.RefDwOIdeal.main_arg0)
      ∧ r.2.mem ((c.tc : Thread Cert.RefDwOIdeal.nD Cert.RefDwOIdeal.τ).loc Cert.RefDwOIdeal.main_arg1) = m ((c.tc : Thread Cert.RefDwOIdeal.nD Cert.RefDwOIdeal.τ).loc Cert.RefDwOIdeal.main_arg1)
      ∧ r.2.mem ((c.tc : Thread Cert.RefDwOIdeal.nD Cert.RefDwOIdeal.τ).loc Cert.RefDwOIdeal.main_arg2) = m ((c.tc : Thread Cert.RefDwOIdeal.nD Cert.RefDwOIdeal.τ).loc Cert.RefDwOIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1)
      ∧ r.2.mem ((c.tc : Thread Cert.RefDwInIdeal.nD Cert.RefDwInIdeal.τ).loc Cert.RefDwInIdeal.main_arg2) = m ((c.tc : Thread Cert.RefDwInIdeal.nD Cert.RefDwInIdeal.τ).loc Cert.RefDwInIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1)
      ∧ r.2.mem ((c.tc : Thread Cert.RefDwOutIdeal.nD Cert.RefDwOutIdeal.τ).loc Cert.RefDwOutIdeal.main_arg2) = m ((c.tc : Thread Cert.RefDwOutIdeal.nD Cert.RefDwOutIdeal.τ).loc Cert.RefDwOutIdeal.main_arg2))
      ∧ r.2.sem = fun _ => 0)

def quiescent_DwZ [hDwZ : Cert.DwZ.Facts] : Prop :=
  ∀ (m : (ℓ : Loc Cert.DwZ.nD Cert.DwZ.τ Cert.DwZ.sig) → Buf (Elt Bits) ℓ) (g : Dev Cert.DwZ.nD → PrngReg), Pre_DwZ m →
    θ_run (Cert.DwZ.defs (F := Bits)) (onTc (τ := Cert.DwZ.τ) (Cert.DwZ.main (F := Bits))) ⟨m, fun _ => 0, g⟩ (fun r => (∀ c : Dev Cert.DwZ.nD,
      r.2.mem ((c.tc : Thread Cert.DwZ.nD Cert.DwZ.τ).loc Cert.DwZ.main_arg0) = m ((c.tc : Thread Cert.DwZ.nD Cert.DwZ.τ).loc Cert.DwZ.main_arg0)
      ∧ r.2.mem ((c.tc : Thread Cert.DwZ.nD Cert.DwZ.τ).loc Cert.DwZ.main_arg1) = m ((c.tc : Thread Cert.DwZ.nD Cert.DwZ.τ).loc Cert.DwZ.main_arg1)
      ∧ r.2.mem ((c.tc : Thread Cert.DwZ.nD Cert.DwZ.τ).loc Cert.DwZ.main_arg2) = m ((c.tc : Thread Cert.DwZ.nD Cert.DwZ.τ).loc Cert.DwZ.main_arg2))
      ∧ r.2.sem = fun _ => 0)

def quiescent_DwZIdeal [hDwZIdeal : Cert.DwZIdeal.Facts] : Prop :=
  ∀ (m : (ℓ : Loc Cert.DwZIdeal.nD Cert.DwZIdeal.τ Cert.DwZIdeal.sig) → Buf (Elt Ideal) ℓ) (g : Dev Cert.DwZIdeal.nD → PrngReg), Pre_DwZIdeal m →
    θ_run (Cert.DwZIdeal.defs (F := Ideal)) (onTc (τ := Cert.DwZIdeal.τ) (Cert.DwZIdeal.main (F := Ideal))) ⟨m, fun _ => 0, g⟩ (fun r => (∀ c : Dev Cert.DwZIdeal.nD,
      r.2.mem ((c.tc : Thread Cert.DwZIdeal.nD Cert.DwZIdeal.τ).loc Cert.DwZIdeal.main_arg0) = m ((c.tc : Thread Cert.DwZIdeal.nD Cert.DwZIdeal.τ).loc Cert.DwZIdeal.main_arg0)
      ∧ r.2.mem ((c.tc : Thread Cert.DwZIdeal.nD Cert.DwZIdeal.τ).loc Cert.DwZIdeal.main_arg1) = m ((c.tc : Thread Cert.DwZIdeal.nD Cert.DwZIdeal.τ).loc Cert.DwZIdeal.main_arg1)
      ∧ r.2.mem ((c.tc : Thread Cert.DwZIdeal.nD Cert.DwZIdeal.τ).loc Cert.DwZIdeal.main_arg2) = m ((c.tc : Thread Cert.DwZIdeal.nD Cert.DwZIdeal.τ).loc Cert.DwZIdeal.main_arg2))
      ∧ r.2.sem = fun _ => 0)

def quiescent_RefDwZIdeal [hRefDwZIdeal : Cert.RefDwZIdeal.Facts] : Prop :=
  ∀ (m : (ℓ : Loc Cert.RefDwZIdeal.nD Cert.RefDwZIdeal.τ Cert.RefDwZIdeal.sig) → Buf (Elt Ideal) ℓ) (g : Dev Cert.RefDwZIdeal.nD → PrngReg), Pre_RefDwZIdeal m →
    θ_run (Cert.RefDwZIdeal.defs (F := Ideal)) (onTc (τ := Cert.RefDwZIdeal.τ) (Cert.RefDwZIdeal.main (F := Ideal))) ⟨m, fun _ => 0, g⟩ (fun r => (∀ c : Dev Cert.RefDwZIdeal.nD,
      r.2.mem ((c.tc : Thread Cert.RefDwZIdeal.nD Cert.RefDwZIdeal.τ).loc Cert.RefDwZIdeal.main_arg0) = m ((c.tc : Thread Cert.RefDwZIdeal.nD Cert.RefDwZIdeal.τ).loc Cert.RefDwZIdeal.main_arg0)
      ∧ r.2.mem ((c.tc : Thread Cert.RefDwZIdeal.nD Cert.RefDwZIdeal.τ).loc Cert.RefDwZIdeal.main_arg1) = m ((c.tc : Thread Cert.RefDwZIdeal.nD Cert.RefDwZIdeal.τ).loc Cert.RefDwZIdeal.main_arg1)
      ∧ r.2.mem ((c.tc : Thread Cert.RefDwZIdeal.nD Cert.RefDwZIdeal.τ).loc Cert.RefDwZIdeal.main_arg2) = m ((c.tc : Thread Cert.RefDwZIdeal.nD Cert.RefDwZIdeal.τ).loc Cert.RefDwZIdeal.main_arg2))
      ∧ r.2.sem = fun _ => 0)

def quiescent_DwXbc [hDwXbc : Cert.DwXbc.Facts] : Prop :=
  ∀ (m : (ℓ : Loc Cert.DwXbc.nD Cert.DwXbc.τ Cert.DwXbc.sig) → Buf (Elt Bits) ℓ) (g : Dev Cert.DwXbc.nD → PrngReg), Pre_DwXbc m →
    θ_run (Cert.DwXbc.defs (F := Bits)) (onTc (τ := Cert.DwXbc.τ) (Cert.DwXbc.main (F := Bits))) ⟨m, fun _ => 0, g⟩ (fun r => (∀ c : Dev Cert.DwXbc.nD,
      r.2.mem ((c.tc : Thread Cert.DwXbc.nD Cert.DwXbc.τ).loc Cert.DwXbc.main_arg0) = m ((c.tc : Thread Cert.DwXbc.nD Cert.DwXbc.τ).loc Cert.DwXbc.main_arg0)
      ∧ r.2.mem ((c.tc : Thread Cert.DwXbc.nD Cert.DwXbc.τ).loc Cert.DwXbc.main_arg1) = m ((c.tc : Thread Cert.DwXbc.nD Cert.DwXbc.τ).loc Cert.DwXbc.main_arg1)
      ∧ r.2.mem ((c.tc : Thread Cert.DwXbc.nD Cert.DwXbc.τ).loc Cert.DwXbc.main_arg2) = m ((c.tc : Thread Cert.DwXbc.nD Cert.DwXbc.τ).loc Cert.DwXbc.main_arg2))
      ∧ r.2.sem = fun _ => 0)

def quiescent_DwXbcIdeal [hDwXbcIdeal : Cert.DwXbcIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg), Pre_DwXbcIdeal m →
    θ_run (Cert.DwXbcIdeal.defs (F := Ideal)) (onTc (τ := Cert.DwXbcIdeal.τ) (Cert.DwXbcIdeal.main (F := Ideal))) ⟨m, fun _ => 0, g⟩ (fun r => (∀ c : Dev Cert.DwXbcIdeal.nD,
      r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
      ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1)
      ∧ r.2.mem ((c.tc : Thread Cert.DwXbcIdeal.nD Cert.DwXbcIdeal.τ).loc Cert.DwXbcIdeal.main_arg2) = m ((c.tc : Thread Cert.DwXbcIdeal.nD Cert.DwXbcIdeal.τ).loc Cert.DwXbcIdeal.main_arg2))
      ∧ r.2.sem = fun _ => 0)

def quiescent_RefDwXbcIdeal [hRefDwXbcIdeal : Cert.RefDwXbcIdeal.Facts] : Prop :=
  ∀ (m : (ℓ : Loc Cert.RefDwXbcIdeal.nD Cert.RefDwXbcIdeal.τ Cert.RefDwXbcIdeal.sig) → Buf (Elt Ideal) ℓ) (g : Dev Cert.RefDwXbcIdeal.nD → PrngReg), Pre_RefDwXbcIdeal m →
    θ_run (Cert.RefDwXbcIdeal.defs (F := Ideal)) (onTc (τ := Cert.RefDwXbcIdeal.τ) (Cert.RefDwXbcIdeal.main (F := Ideal))) ⟨m, fun _ => 0, g⟩ (fun r => (∀ c : Dev Cert.RefDwXbcIdeal.nD,
      r.2.mem ((c.tc : Thread Cert.RefDwXbcIdeal.nD Cert.RefDwXbcIdeal.τ).loc Cert.RefDwXbcIdeal.main_arg0) = m ((c.tc : Thread Cert.RefDwXbcIdeal.nD Cert.RefDwXbcIdeal.τ).loc Cert.RefDwXbcIdeal.main_arg0)
      ∧ r.2.mem ((c.tc : Thread Cert.RefDwXbcIdeal.nD Cert.RefDwXbcIdeal.τ).loc Cert.RefDwXbcIdeal.main_arg1) = m ((c.tc : Thread Cert.RefDwXbcIdeal.nD Cert.RefDwXbcIdeal.τ).loc Cert.RefDwXbcIdeal.main_arg1)
      ∧ r.2.mem ((c.tc : Thread Cert.RefDwXbcIdeal.nD Cert.RefDwXbcIdeal.τ).loc Cert.RefDwXbcIdeal.main_arg2) = m ((c.tc : Thread Cert.RefDwXbcIdeal.nD Cert.RefDwXbcIdeal.τ).loc Cert.RefDwXbcIdeal.main_arg2))
      ∧ r.2.sem = fun _ => 0)

def quiescent_DwDt [hDwDt : Cert.DwDt.Facts] : Prop :=
  ∀ (m : (ℓ : Loc Cert.DwDt.nD Cert.DwDt.τ Cert.DwDt.sig) → Buf (Elt Bits) ℓ) (g : Dev Cert.DwDt.nD → PrngReg), Pre_DwDt m →
    θ_run (Cert.DwDt.defs (F := Bits)) (onTc (τ := Cert.DwDt.τ) (Cert.DwDt.main (F := Bits))) ⟨m, fun _ => 0, g⟩ (fun r => (∀ c : Dev Cert.DwDt.nD,
      r.2.mem ((c.tc : Thread Cert.DwDt.nD Cert.DwDt.τ).loc Cert.DwDt.main_arg0) = m ((c.tc : Thread Cert.DwDt.nD Cert.DwDt.τ).loc Cert.DwDt.main_arg0)
      ∧ r.2.mem ((c.tc : Thread Cert.DwDt.nD Cert.DwDt.τ).loc Cert.DwDt.main_arg1) = m ((c.tc : Thread Cert.DwDt.nD Cert.DwDt.τ).loc Cert.DwDt.main_arg1)
      ∧ r.2.mem ((c.tc : Thread Cert.DwDt.nD Cert.DwDt.τ).loc Cert.DwDt.main_arg2) = m ((c.tc : Thread Cert.DwDt.nD Cert.DwDt.τ).loc Cert.DwDt.main_arg2))
      ∧ r.2.sem = fun _ => 0)

def quiescent_DwDtIdeal [hDwDtIdeal : Cert.DwDtIdeal.Facts] : Prop :=
  ∀ (m : (ℓ : Loc Cert.DwDtIdeal.nD Cert.DwDtIdeal.τ Cert.DwDtIdeal.sig) → Buf (Elt Ideal) ℓ) (g : Dev Cert.DwDtIdeal.nD → PrngReg), Pre_DwDtIdeal m →
    θ_run (Cert.DwDtIdeal.defs (F := Ideal)) (onTc (τ := Cert.DwDtIdeal.τ) (Cert.DwDtIdeal.main (F := Ideal))) ⟨m, fun _ => 0, g⟩ (fun r => (∀ c : Dev Cert.DwDtIdeal.nD,
      r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
      ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1)
      ∧ r.2.mem ((c.tc : Thread Cert.DwDtIdeal.nD Cert.DwDtIdeal.τ).loc Cert.DwDtIdeal.main_arg2) = m ((c.tc : Thread Cert.DwDtIdeal.nD Cert.DwDtIdeal.τ).loc Cert.DwDtIdeal.main_arg2))
      ∧ r.2.sem = fun _ => 0)

def quiescent_RefDwDtIdeal [hRefDwDtIdeal : Cert.RefDwDtIdeal.Facts] : Prop :=
  ∀ (m : (ℓ : Loc Cert.RefDwDtIdeal.nD Cert.RefDwDtIdeal.τ Cert.RefDwDtIdeal.sig) → Buf (Elt Ideal) ℓ) (g : Dev Cert.RefDwDtIdeal.nD → PrngReg), Pre_RefDwDtIdeal m →
    θ_run (Cert.RefDwDtIdeal.defs (F := Ideal)) (onTc (τ := Cert.RefDwDtIdeal.τ) (Cert.RefDwDtIdeal.main (F := Ideal))) ⟨m, fun _ => 0, g⟩ (fun r => (∀ c : Dev Cert.RefDwDtIdeal.nD,
      r.2.mem ((c.tc : Thread Cert.RefDwDtIdeal.nD Cert.RefDwDtIdeal.τ).loc Cert.RefDwDtIdeal.main_arg0) = m ((c.tc : Thread Cert.RefDwDtIdeal.nD Cert.RefDwDtIdeal.τ).loc Cert.RefDwDtIdeal.main_arg0)
      ∧ r.2.mem ((c.tc : Thread Cert.RefDwDtIdeal.nD Cert.RefDwDtIdeal.τ).loc Cert.RefDwDtIdeal.main_arg1) = m ((c.tc : Thread Cert.RefDwDtIdeal.nD Cert.RefDwDtIdeal.τ).loc Cert.RefDwDtIdeal.main_arg1)
      ∧ r.2.mem ((c.tc : Thread Cert.RefDwDtIdeal.nD Cert.RefDwDtIdeal.τ).loc Cert.RefDwDtIdeal.main_arg2) = m ((c.tc : Thread Cert.RefDwDtIdeal.nD Cert.RefDwDtIdeal.τ).loc Cert.RefDwDtIdeal.main_arg2))
      ∧ r.2.sem = fun _ => 0)

def quiescent_Du0 [hDu0 : Cert.Du0.Facts] : Prop :=
  ∀ (m : (ℓ : Loc Cert.Du0.nD Cert.Du0.τ Cert.Du0.sig) → Buf (Elt Bits) ℓ) (g : Dev Cert.Du0.nD → PrngReg), Pre_Du0 m →
    θ_run (Cert.Du0.defs (F := Bits)) (onTc (τ := Cert.Du0.τ) (Cert.Du0.main (F := Bits))) ⟨m, fun _ => 0, g⟩ (fun r => (∀ c : Dev Cert.Du0.nD,
      r.2.mem ((c.tc : Thread Cert.Du0.nD Cert.Du0.τ).loc Cert.Du0.main_arg0) = m ((c.tc : Thread Cert.Du0.nD Cert.Du0.τ).loc Cert.Du0.main_arg0)
      ∧ r.2.mem ((c.tc : Thread Cert.Du0.nD Cert.Du0.τ).loc Cert.Du0.main_arg1) = m ((c.tc : Thread Cert.Du0.nD Cert.Du0.τ).loc Cert.Du0.main_arg1)
      ∧ r.2.mem ((c.tc : Thread Cert.Du0.nD Cert.Du0.τ).loc Cert.Du0.main_arg2) = m ((c.tc : Thread Cert.Du0.nD Cert.Du0.τ).loc Cert.Du0.main_arg2))
      ∧ r.2.sem = fun _ => 0)

def quiescent_Du0Ideal [hDu0Ideal : Cert.Du0Ideal.Facts] : Prop :=
  ∀ (m : (ℓ : Loc Cert.Du0Ideal.nD Cert.Du0Ideal.τ Cert.Du0Ideal.sig) → Buf (Elt Ideal) ℓ) (g : Dev Cert.Du0Ideal.nD → PrngReg), Pre_Du0Ideal m →
    θ_run (Cert.Du0Ideal.defs (F := Ideal)) (onTc (τ := Cert.Du0Ideal.τ) (Cert.Du0Ideal.main (F := Ideal))) ⟨m, fun _ => 0, g⟩ (fun r => (∀ c : Dev Cert.Du0Ideal.nD,
      r.2.mem ((c.tc : Thread Cert.Du0Ideal.nD Cert.Du0Ideal.τ).loc Cert.Du0Ideal.main_arg0) = m ((c.tc : Thread Cert.Du0Ideal.nD Cert.Du0Ideal.τ).loc Cert.Du0Ideal.main_arg0)
      ∧ r.2.mem ((c.tc : Thread Cert.Du0Ideal.nD Cert.Du0Ideal.τ).loc Cert.Du0Ideal.main_arg1) = m ((c.tc : Thread Cert.Du0Ideal.nD Cert.Du0Ideal.τ).loc Cert.Du0Ideal.main_arg1)
      ∧ r.2.mem ((c.tc : Thread Cert.Du0Ideal.nD Cert.Du0Ideal.τ).loc Cert.Du0Ideal.main_arg2) = m ((c.tc : Thread Cert.Du0Ideal.nD Cert.Du0Ideal.τ).loc Cert.Du0Ideal.main_arg2))
      ∧ r.2.sem = fun _ => 0)

def quiescent_RefDu0Ideal [hRefDu0Ideal : Cert.RefDu0Ideal.Facts] : Prop :=
  ∀ (m : (ℓ : Loc Cert.RefDu0Ideal.nD Cert.RefDu0Ideal.τ Cert.RefDu0Ideal.sig) → Buf (Elt Ideal) ℓ) (g : Dev Cert.RefDu0Ideal.nD → PrngReg), Pre_RefDu0Ideal m →
    θ_run (Cert.RefDu0Ideal.defs (F := Ideal)) (onTc (τ := Cert.RefDu0Ideal.τ) (Cert.RefDu0Ideal.main (F := Ideal))) ⟨m, fun _ => 0, g⟩ (fun r => (∀ c : Dev Cert.RefDu0Ideal.nD,
      r.2.mem ((c.tc : Thread Cert.RefDu0Ideal.nD Cert.RefDu0Ideal.τ).loc Cert.RefDu0Ideal.main_arg0) = m ((c.tc : Thread Cert.RefDu0Ideal.nD Cert.RefDu0Ideal.τ).loc Cert.RefDu0Ideal.main_arg0)
      ∧ r.2.mem ((c.tc : Thread Cert.RefDu0Ideal.nD Cert.RefDu0Ideal.τ).loc Cert.RefDu0Ideal.main_arg1) = m ((c.tc : Thread Cert.RefDu0Ideal.nD Cert.RefDu0Ideal.τ).loc Cert.RefDu0Ideal.main_arg1)
      ∧ r.2.mem ((c.tc : Thread Cert.RefDu0Ideal.nD Cert.RefDu0Ideal.τ).loc Cert.RefDu0Ideal.main_arg2) = m ((c.tc : Thread Cert.RefDu0Ideal.nD Cert.RefDu0Ideal.τ).loc Cert.RefDu0Ideal.main_arg2))
      ∧ r.2.sem = fun _ => 0)

def quiescent_Du1 [hDu1 : Cert.Du1.Facts] : Prop :=
  ∀ (m : (ℓ : Loc Cert.Du1.nD Cert.Du1.τ Cert.Du1.sig) → Buf (Elt Bits) ℓ) (g : Dev Cert.Du1.nD → PrngReg), Pre_Du1 m →
    θ_run (Cert.Du1.defs (F := Bits)) (onTc (τ := Cert.Du1.τ) (Cert.Du1.main (F := Bits))) ⟨m, fun _ => 0, g⟩ (fun r => (∀ c : Dev Cert.Du1.nD,
      r.2.mem ((c.tc : Thread Cert.Du1.nD Cert.Du1.τ).loc Cert.Du1.main_arg0) = m ((c.tc : Thread Cert.Du1.nD Cert.Du1.τ).loc Cert.Du1.main_arg0)
      ∧ r.2.mem ((c.tc : Thread Cert.Du1.nD Cert.Du1.τ).loc Cert.Du1.main_arg1) = m ((c.tc : Thread Cert.Du1.nD Cert.Du1.τ).loc Cert.Du1.main_arg1)
      ∧ r.2.mem ((c.tc : Thread Cert.Du1.nD Cert.Du1.τ).loc Cert.Du1.main_arg2) = m ((c.tc : Thread Cert.Du1.nD Cert.Du1.τ).loc Cert.Du1.main_arg2))
      ∧ r.2.sem = fun _ => 0)

def quiescent_Du1Ideal [hDu1Ideal : Cert.Du1Ideal.Facts] : Prop :=
  ∀ (m : (ℓ : Loc Cert.Du1Ideal.nD Cert.Du1Ideal.τ Cert.Du1Ideal.sig) → Buf (Elt Ideal) ℓ) (g : Dev Cert.Du1Ideal.nD → PrngReg), Pre_Du1Ideal m →
    θ_run (Cert.Du1Ideal.defs (F := Ideal)) (onTc (τ := Cert.Du1Ideal.τ) (Cert.Du1Ideal.main (F := Ideal))) ⟨m, fun _ => 0, g⟩ (fun r => (∀ c : Dev Cert.Du1Ideal.nD,
      r.2.mem ((c.tc : Thread Cert.Du1Ideal.nD Cert.Du1Ideal.τ).loc Cert.Du1Ideal.main_arg0) = m ((c.tc : Thread Cert.Du1Ideal.nD Cert.Du1Ideal.τ).loc Cert.Du1Ideal.main_arg0)
      ∧ r.2.mem ((c.tc : Thread Cert.Du1Ideal.nD Cert.Du1Ideal.τ).loc Cert.Du1Ideal.main_arg1) = m ((c.tc : Thread Cert.Du1Ideal.nD Cert.Du1Ideal.τ).loc Cert.Du1Ideal.main_arg1)
      ∧ r.2.mem ((c.tc : Thread Cert.Du1Ideal.nD Cert.Du1Ideal.τ).loc Cert.Du1Ideal.main_arg2) = m ((c.tc : Thread Cert.Du1Ideal.nD Cert.Du1Ideal.τ).loc Cert.Du1Ideal.main_arg2))
      ∧ r.2.sem = fun _ => 0)

def quiescent_RefDu1Ideal [hRefDu1Ideal : Cert.RefDu1Ideal.Facts] : Prop :=
  ∀ (m : (ℓ : Loc Cert.RefDu1Ideal.nD Cert.RefDu1Ideal.τ Cert.RefDu1Ideal.sig) → Buf (Elt Ideal) ℓ) (g : Dev Cert.RefDu1Ideal.nD → PrngReg), Pre_RefDu1Ideal m →
    θ_run (Cert.RefDu1Ideal.defs (F := Ideal)) (onTc (τ := Cert.RefDu1Ideal.τ) (Cert.RefDu1Ideal.main (F := Ideal))) ⟨m, fun _ => 0, g⟩ (fun r => (∀ c : Dev Cert.RefDu1Ideal.nD,
      r.2.mem ((c.tc : Thread Cert.RefDu1Ideal.nD Cert.RefDu1Ideal.τ).loc Cert.RefDu1Ideal.main_arg0) = m ((c.tc : Thread Cert.RefDu1Ideal.nD Cert.RefDu1Ideal.τ).loc Cert.RefDu1Ideal.main_arg0)
      ∧ r.2.mem ((c.tc : Thread Cert.RefDu1Ideal.nD Cert.RefDu1Ideal.τ).loc Cert.RefDu1Ideal.main_arg1) = m ((c.tc : Thread Cert.RefDu1Ideal.nD Cert.RefDu1Ideal.τ).loc Cert.RefDu1Ideal.main_arg1)
      ∧ r.2.mem ((c.tc : Thread Cert.RefDu1Ideal.nD Cert.RefDu1Ideal.τ).loc Cert.RefDu1Ideal.main_arg2) = m ((c.tc : Thread Cert.RefDu1Ideal.nD Cert.RefDu1Ideal.τ).loc Cert.RefDu1Ideal.main_arg2))
      ∧ r.2.sem = fun _ => 0)

def quiescent_Du2 [hDu2 : Cert.Du2.Facts] : Prop :=
  ∀ (m : (ℓ : Loc Cert.Du2.nD Cert.Du2.τ Cert.Du2.sig) → Buf (Elt Bits) ℓ) (g : Dev Cert.Du2.nD → PrngReg), Pre_Du2 m →
    θ_run (Cert.Du2.defs (F := Bits)) (onTc (τ := Cert.Du2.τ) (Cert.Du2.main (F := Bits))) ⟨m, fun _ => 0, g⟩ (fun r => (∀ c : Dev Cert.Du2.nD,
      r.2.mem ((c.tc : Thread Cert.Du2.nD Cert.Du2.τ).loc Cert.Du2.main_arg0) = m ((c.tc : Thread Cert.Du2.nD Cert.Du2.τ).loc Cert.Du2.main_arg0)
      ∧ r.2.mem ((c.tc : Thread Cert.Du2.nD Cert.Du2.τ).loc Cert.Du2.main_arg1) = m ((c.tc : Thread Cert.Du2.nD Cert.Du2.τ).loc Cert.Du2.main_arg1)
      ∧ r.2.mem ((c.tc : Thread Cert.Du2.nD Cert.Du2.τ).loc Cert.Du2.main_arg2) = m ((c.tc : Thread Cert.Du2.nD Cert.Du2.τ).loc Cert.Du2.main_arg2))
      ∧ r.2.sem = fun _ => 0)

def quiescent_Du2Ideal [hDu2Ideal : Cert.Du2Ideal.Facts] : Prop :=
  ∀ (m : (ℓ : Loc Cert.Du2Ideal.nD Cert.Du2Ideal.τ Cert.Du2Ideal.sig) → Buf (Elt Ideal) ℓ) (g : Dev Cert.Du2Ideal.nD → PrngReg), Pre_Du2Ideal m →
    θ_run (Cert.Du2Ideal.defs (F := Ideal)) (onTc (τ := Cert.Du2Ideal.τ) (Cert.Du2Ideal.main (F := Ideal))) ⟨m, fun _ => 0, g⟩ (fun r => (∀ c : Dev Cert.Du2Ideal.nD,
      r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
      ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
      ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2))
      ∧ r.2.sem = fun _ => 0)

def quiescent_RefDu2Ideal [hRefDu2Ideal : Cert.RefDu2Ideal.Facts] : Prop :=
  ∀ (m : (ℓ : Loc Cert.RefDu2Ideal.nD Cert.RefDu2Ideal.τ Cert.RefDu2Ideal.sig) → Buf (Elt Ideal) ℓ) (g : Dev Cert.RefDu2Ideal.nD → PrngReg), Pre_RefDu2Ideal m →
    θ_run (Cert.RefDu2Ideal.defs (F := Ideal)) (onTc (τ := Cert.RefDu2Ideal.τ) (Cert.RefDu2Ideal.main (F := Ideal))) ⟨m, fun _ => 0, g⟩ (fun r => (∀ c : Dev Cert.RefDu2Ideal.nD,
      r.2.mem ((c.tc : Thread Cert.RefDu2Ideal.nD Cert.RefDu2Ideal.τ).loc Cert.RefDu2Ideal.main_arg0) = m ((c.tc : Thread Cert.RefDu2Ideal.nD Cert.RefDu2Ideal.τ).loc Cert.RefDu2Ideal.main_arg0)
      ∧ r.2.mem ((c.tc : Thread Cert.RefDu2Ideal.nD Cert.RefDu2Ideal.τ).loc Cert.RefDu2Ideal.main_arg1) = m ((c.tc : Thread Cert.RefDu2Ideal.nD Cert.RefDu2Ideal.τ).loc Cert.RefDu2Ideal.main_arg1)
      ∧ r.2.mem ((c.tc : Thread Cert.RefDu2Ideal.nD Cert.RefDu2Ideal.τ).loc Cert.RefDu2Ideal.main_arg2) = m ((c.tc : Thread Cert.RefDu2Ideal.nD Cert.RefDu2Ideal.τ).loc Cert.RefDu2Ideal.main_arg2))
      ∧ r.2.sem = fun _ => 0)

def quiescent_Du3 [hDu3 : Cert.Du3.Facts] : Prop :=
  ∀ (m : (ℓ : Loc Cert.Du3.nD Cert.Du3.τ Cert.Du3.sig) → Buf (Elt Bits) ℓ) (g : Dev Cert.Du3.nD → PrngReg), Pre_Du3 m →
    θ_run (Cert.Du3.defs (F := Bits)) (onTc (τ := Cert.Du3.τ) (Cert.Du3.main (F := Bits))) ⟨m, fun _ => 0, g⟩ (fun r => (∀ c : Dev Cert.Du3.nD,
      r.2.mem ((c.tc : Thread Cert.Du3.nD Cert.Du3.τ).loc Cert.Du3.main_arg0) = m ((c.tc : Thread Cert.Du3.nD Cert.Du3.τ).loc Cert.Du3.main_arg0)
      ∧ r.2.mem ((c.tc : Thread Cert.Du3.nD Cert.Du3.τ).loc Cert.Du3.main_arg1) = m ((c.tc : Thread Cert.Du3.nD Cert.Du3.τ).loc Cert.Du3.main_arg1)
      ∧ r.2.mem ((c.tc : Thread Cert.Du3.nD Cert.Du3.τ).loc Cert.Du3.main_arg2) = m ((c.tc : Thread Cert.Du3.nD Cert.Du3.τ).loc Cert.Du3.main_arg2))
      ∧ r.2.sem = fun _ => 0)

def quiescent_Du3Ideal [hDu3Ideal : Cert.Du3Ideal.Facts] : Prop :=
  ∀ (m : (ℓ : Loc Cert.Du3Ideal.nD Cert.Du3Ideal.τ Cert.Du3Ideal.sig) → Buf (Elt Ideal) ℓ) (g : Dev Cert.Du3Ideal.nD → PrngReg), Pre_Du3Ideal m →
    θ_run (Cert.Du3Ideal.defs (F := Ideal)) (onTc (τ := Cert.Du3Ideal.τ) (Cert.Du3Ideal.main (F := Ideal))) ⟨m, fun _ => 0, g⟩ (fun r => (∀ c : Dev Cert.Du3Ideal.nD,
      r.2.mem ((c.tc : Thread Cert.Du3Ideal.nD Cert.Du3Ideal.τ).loc Cert.Du3Ideal.main_arg0) = m ((c.tc : Thread Cert.Du3Ideal.nD Cert.Du3Ideal.τ).loc Cert.Du3Ideal.main_arg0)
      ∧ r.2.mem ((c.tc : Thread Cert.Du3Ideal.nD Cert.Du3Ideal.τ).loc Cert.Du3Ideal.main_arg1) = m ((c.tc : Thread Cert.Du3Ideal.nD Cert.Du3Ideal.τ).loc Cert.Du3Ideal.main_arg1)
      ∧ r.2.mem ((c.tc : Thread Cert.Du3Ideal.nD Cert.Du3Ideal.τ).loc Cert.Du3Ideal.main_arg2) = m ((c.tc : Thread Cert.Du3Ideal.nD Cert.Du3Ideal.τ).loc Cert.Du3Ideal.main_arg2))
      ∧ r.2.sem = fun _ => 0)

def quiescent_RefDu3Ideal [hRefDu3Ideal : Cert.RefDu3Ideal.Facts] : Prop :=
  ∀ (m : (ℓ : Loc Cert.RefDu3Ideal.nD Cert.RefDu3Ideal.τ Cert.RefDu3Ideal.sig) → Buf (Elt Ideal) ℓ) (g : Dev Cert.RefDu3Ideal.nD → PrngReg), Pre_RefDu3Ideal m →
    θ_run (Cert.RefDu3Ideal.defs (F := Ideal)) (onTc (τ := Cert.RefDu3Ideal.τ) (Cert.RefDu3Ideal.main (F := Ideal))) ⟨m, fun _ => 0, g⟩ (fun r => (∀ c : Dev Cert.RefDu3Ideal.nD,
      r.2.mem ((c.tc : Thread Cert.RefDu3Ideal.nD Cert.RefDu3Ideal.τ).loc Cert.RefDu3Ideal.main_arg0) = m ((c.tc : Thread Cert.RefDu3Ideal.nD Cert.RefDu3Ideal.τ).loc Cert.RefDu3Ideal.main_arg0)
      ∧ r.2.mem ((c.tc : Thread Cert.RefDu3Ideal.nD Cert.RefDu3Ideal.τ).loc Cert.RefDu3Ideal.main_arg1) = m ((c.tc : Thread Cert.RefDu3Ideal.nD Cert.RefDu3Ideal.τ).loc Cert.RefDu3Ideal.main_arg1)
      ∧ r.2.mem ((c.tc : Thread Cert.RefDu3Ideal.nD Cert.RefDu3Ideal.τ).loc Cert.RefDu3Ideal.main_arg2) = m ((c.tc : Thread Cert.RefDu3Ideal.nD Cert.RefDu3Ideal.τ).loc Cert.RefDu3Ideal.main_arg2))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1)
      ∧ r.2.mem ((c.tc : Thread Cert.Dh0.nD Cert.Dh0.τ).loc Cert.Dh0.main_arg2) = m ((c.tc : Thread Cert.Dh0.nD Cert.Dh0.τ).loc Cert.Dh0.main_arg2))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2))
      ∧ r.2.sem = fun _ => 0)

def quiescent_RefDh0Ideal [hRefDh0Ideal : Cert.RefDh0Ideal.Facts] : Prop :=
  ∀ (m : (ℓ : Loc Cert.RefDh0Ideal.nD Cert.RefDh0Ideal.τ Cert.RefDh0Ideal.sig) → Buf (Elt Ideal) ℓ) (g : Dev Cert.RefDh0Ideal.nD → PrngReg), Pre_RefDh0Ideal m →
    θ_run (Cert.RefDh0Ideal.defs (F := Ideal)) (onTc (τ := Cert.RefDh0Ideal.τ) (Cert.RefDh0Ideal.main (F := Ideal))) ⟨m, fun _ => 0, g⟩ (fun r => (∀ c : Dev Cert.RefDh0Ideal.nD,
      r.2.mem ((c.tc : Thread Cert.RefDh0Ideal.nD Cert.RefDh0Ideal.τ).loc Cert.RefDh0Ideal.main_arg0) = m ((c.tc : Thread Cert.RefDh0Ideal.nD Cert.RefDh0Ideal.τ).loc Cert.RefDh0Ideal.main_arg0)
      ∧ r.2.mem ((c.tc : Thread Cert.RefDh0Ideal.nD Cert.RefDh0Ideal.τ).loc Cert.RefDh0Ideal.main_arg1) = m ((c.tc : Thread Cert.RefDh0Ideal.nD Cert.RefDh0Ideal.τ).loc Cert.RefDh0Ideal.main_arg1)
      ∧ r.2.mem ((c.tc : Thread Cert.RefDh0Ideal.nD Cert.RefDh0Ideal.τ).loc Cert.RefDh0Ideal.main_arg2) = m ((c.tc : Thread Cert.RefDh0Ideal.nD Cert.RefDh0Ideal.τ).loc Cert.RefDh0Ideal.main_arg2))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2))
      ∧ r.2.sem = fun _ => 0)

def quiescent_RefDh1Ideal [hRefDh1Ideal : Cert.RefDh1Ideal.Facts] : Prop :=
  ∀ (m : (ℓ : Loc Cert.RefDh1Ideal.nD Cert.RefDh1Ideal.τ Cert.RefDh1Ideal.sig) → Buf (Elt Ideal) ℓ) (g : Dev Cert.RefDh1Ideal.nD → PrngReg), Pre_RefDh1Ideal m →
    θ_run (Cert.RefDh1Ideal.defs (F := Ideal)) (onTc (τ := Cert.RefDh1Ideal.τ) (Cert.RefDh1Ideal.main (F := Ideal))) ⟨m, fun _ => 0, g⟩ (fun r => (∀ c : Dev Cert.RefDh1Ideal.nD,
      r.2.mem ((c.tc : Thread Cert.RefDh1Ideal.nD Cert.RefDh1Ideal.τ).loc Cert.RefDh1Ideal.main_arg0) = m ((c.tc : Thread Cert.RefDh1Ideal.nD Cert.RefDh1Ideal.τ).loc Cert.RefDh1Ideal.main_arg0)
      ∧ r.2.mem ((c.tc : Thread Cert.RefDh1Ideal.nD Cert.RefDh1Ideal.τ).loc Cert.RefDh1Ideal.main_arg1) = m ((c.tc : Thread Cert.RefDh1Ideal.nD Cert.RefDh1Ideal.τ).loc Cert.RefDh1Ideal.main_arg1)
      ∧ r.2.mem ((c.tc : Thread Cert.RefDh1Ideal.nD Cert.RefDh1Ideal.τ).loc Cert.RefDh1Ideal.main_arg2) = m ((c.tc : Thread Cert.RefDh1Ideal.nD Cert.RefDh1Ideal.τ).loc Cert.RefDh1Ideal.main_arg2))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_RefDh2Ideal [hRefDh2Ideal : Cert.RefDh2Ideal.Facts] : Prop :=
  ∀ (m : (ℓ : Loc Cert.RefDh2Ideal.nD Cert.RefDh2Ideal.τ Cert.RefDh2Ideal.sig) → Buf (Elt Ideal) ℓ) (g : Dev Cert.RefDh2Ideal.nD → PrngReg), Pre_RefDh2Ideal m →
    θ_run (Cert.RefDh2Ideal.defs (F := Ideal)) (onTc (τ := Cert.RefDh2Ideal.τ) (Cert.RefDh2Ideal.main (F := Ideal))) ⟨m, fun _ => 0, g⟩ (fun r => (∀ c : Dev Cert.RefDh2Ideal.nD,
      r.2.mem ((c.tc : Thread Cert.RefDh2Ideal.nD Cert.RefDh2Ideal.τ).loc Cert.RefDh2Ideal.main_arg0) = m ((c.tc : Thread Cert.RefDh2Ideal.nD Cert.RefDh2Ideal.τ).loc Cert.RefDh2Ideal.main_arg0)
      ∧ r.2.mem ((c.tc : Thread Cert.RefDh2Ideal.nD Cert.RefDh2Ideal.τ).loc Cert.RefDh2Ideal.main_arg1) = m ((c.tc : Thread Cert.RefDh2Ideal.nD Cert.RefDh2Ideal.τ).loc Cert.RefDh2Ideal.main_arg1)
      ∧ r.2.mem ((c.tc : Thread Cert.RefDh2Ideal.nD Cert.RefDh2Ideal.τ).loc Cert.RefDh2Ideal.main_arg2) = m ((c.tc : Thread Cert.RefDh2Ideal.nD Cert.RefDh2Ideal.τ).loc Cert.RefDh2Ideal.main_arg2))
      ∧ r.2.sem = fun _ => 0)

def quiescent_Dh3 [hDh3 : Cert.Dh3.Facts] : Prop :=
  ∀ (m : (ℓ : Loc Cert.Dh3.nD Cert.Dh3.τ Cert.Dh3.sig) → Buf (Elt Bits) ℓ) (g : Dev Cert.Dh3.nD → PrngReg), Pre_Dh3 m →
    θ_run (Cert.Dh3.defs (F := Bits)) (onTc (τ := Cert.Dh3.τ) (Cert.Dh3.main (F := Bits))) ⟨m, fun _ => 0, g⟩ (fun r => (∀ c : Dev Cert.Dh3.nD,
      r.2.mem ((c.tc : Thread Cert.Dh3.nD Cert.Dh3.τ).loc Cert.Dh3.main_arg0) = m ((c.tc : Thread Cert.Dh3.nD Cert.Dh3.τ).loc Cert.Dh3.main_arg0)
      ∧ r.2.mem ((c.tc : Thread Cert.Dh3.nD Cert.Dh3.τ).loc Cert.Dh3.main_arg1) = m ((c.tc : Thread Cert.Dh3.nD Cert.Dh3.τ).loc Cert.Dh3.main_arg1)
      ∧ r.2.mem ((c.tc : Thread Cert.Dh3.nD Cert.Dh3.τ).loc Cert.Dh3.main_arg2) = m ((c.tc : Thread Cert.Dh3.nD Cert.Dh3.τ).loc Cert.Dh3.main_arg2))
      ∧ r.2.sem = fun _ => 0)

def quiescent_Dh3Ideal [hDh3Ideal : Cert.Dh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
      ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2))
      ∧ r.2.sem = fun _ => 0)

def quiescent_RefDh3Ideal [hRefDh3Ideal : Cert.RefDh3Ideal.Facts] : Prop :=
  ∀ (m : (ℓ : Loc Cert.RefDh3Ideal.nD Cert.RefDh3Ideal.τ Cert.RefDh3Ideal.sig) → Buf (Elt Ideal) ℓ) (g : Dev Cert.RefDh3Ideal.nD → PrngReg), Pre_RefDh3Ideal m →
    θ_run (Cert.RefDh3Ideal.defs (F := Ideal)) (onTc (τ := Cert.RefDh3Ideal.τ) (Cert.RefDh3Ideal.main (F := Ideal))) ⟨m, fun _ => 0, g⟩ (fun r => (∀ c : Dev Cert.RefDh3Ideal.nD,
      r.2.mem ((c.tc : Thread Cert.RefDh3Ideal.nD Cert.RefDh3Ideal.τ).loc Cert.RefDh3Ideal.main_arg0) = m ((c.tc : Thread Cert.RefDh3Ideal.nD Cert.RefDh3Ideal.τ).loc Cert.RefDh3Ideal.main_arg0)
      ∧ r.2.mem ((c.tc : Thread Cert.RefDh3Ideal.nD Cert.RefDh3Ideal.τ).loc Cert.RefDh3Ideal.main_arg1) = m ((c.tc : Thread Cert.RefDh3Ideal.nD Cert.RefDh3Ideal.τ).loc Cert.RefDh3Ideal.main_arg1)
      ∧ r.2.mem ((c.tc : Thread Cert.RefDh3Ideal.nD Cert.RefDh3Ideal.τ).loc Cert.RefDh3Ideal.main_arg2) = m ((c.tc : Thread Cert.RefDh3Ideal.nD Cert.RefDh3Ideal.τ).loc Cert.RefDh3Ideal.main_arg2))
      ∧ r.2.sem = fun _ => 0)

def quiescent_DhQkv0 [hDhQkv0 : Cert.DhQkv0.Facts] : Prop :=
  ∀ (m : (ℓ : Loc Cert.DhQkv0.nD Cert.DhQkv0.τ Cert.DhQkv0.sig) → Buf (Elt Bits) ℓ) (g : Dev Cert.DhQkv0.nD → PrngReg), Pre_DhQkv0 m →
    θ_run (Cert.DhQkv0.defs (F := Bits)) (onTc (τ := Cert.DhQkv0.τ) (Cert.DhQkv0.main (F := Bits))) ⟨m, fun _ => 0, g⟩ (fun r => (∀ c : Dev Cert.DhQkv0.nD,
      r.2.mem ((c.tc : Thread Cert.DhQkv0.nD Cert.DhQkv0.τ).loc Cert.DhQkv0.main_arg0) = m ((c.tc : Thread Cert.DhQkv0.nD Cert.DhQkv0.τ).loc Cert.DhQkv0.main_arg0)
      ∧ r.2.mem ((c.tc : Thread Cert.DhQkv0.nD Cert.DhQkv0.τ).loc Cert.DhQkv0.main_arg1) = m ((c.tc : Thread Cert.DhQkv0.nD Cert.DhQkv0.τ).loc Cert.DhQkv0.main_arg1)
      ∧ r.2.mem ((c.tc : Thread Cert.DhQkv0.nD Cert.DhQkv0.τ).loc Cert.DhQkv0.main_arg2) = m ((c.tc : Thread Cert.DhQkv0.nD Cert.DhQkv0.τ).loc Cert.DhQkv0.main_arg2))
      ∧ r.2.sem = fun _ => 0)

def quiescent_DhQkv0Ideal [hDhQkv0Ideal : Cert.DhQkv0Ideal.Facts] : Prop :=
  ∀ (m : (ℓ : Loc Cert.DhQkv0Ideal.nD Cert.DhQkv0Ideal.τ Cert.DhQkv0Ideal.sig) → Buf (Elt Ideal) ℓ) (g : Dev Cert.DhQkv0Ideal.nD → PrngReg), Pre_DhQkv0Ideal m →
    θ_run (Cert.DhQkv0Ideal.defs (F := Ideal)) (onTc (τ := Cert.DhQkv0Ideal.τ) (Cert.DhQkv0Ideal.main (F := Ideal))) ⟨m, fun _ => 0, g⟩ (fun r => (∀ c : Dev Cert.DhQkv0Ideal.nD,
      r.2.mem ((c.tc : Thread Cert.DhQkv0Ideal.nD Cert.DhQkv0Ideal.τ).loc Cert.DhQkv0Ideal.main_arg0) = m ((c.tc : Thread Cert.DhQkv0Ideal.nD Cert.DhQkv0Ideal.τ).loc Cert.DhQkv0Ideal.main_arg0)
      ∧ r.2.mem ((c.tc : Thread Cert.DhQkv0Ideal.nD Cert.DhQkv0Ideal.τ).loc Cert.DhQkv0Ideal.main_arg1) = m ((c.tc : Thread Cert.DhQkv0Ideal.nD Cert.DhQkv0Ideal.τ).loc Cert.DhQkv0Ideal.main_arg1)
      ∧ r.2.mem ((c.tc : Thread Cert.DhQkv0Ideal.nD Cert.DhQkv0Ideal.τ).loc Cert.DhQkv0Ideal.main_arg2) = m ((c.tc : Thread Cert.DhQkv0Ideal.nD Cert.DhQkv0Ideal.τ).loc Cert.DhQkv0Ideal.main_arg2))
      ∧ r.2.sem = fun _ => 0)

def quiescent_RefDhQkv0Ideal [hRefDhQkv0Ideal : Cert.RefDhQkv0Ideal.Facts] : Prop :=
  ∀ (m : (ℓ : Loc Cert.RefDhQkv0Ideal.nD Cert.RefDhQkv0Ideal.τ Cert.RefDhQkv0Ideal.sig) → Buf (Elt Ideal) ℓ) (g : Dev Cert.RefDhQkv0Ideal.nD → PrngReg), Pre_RefDhQkv0Ideal m →
    θ_run (Cert.RefDhQkv0Ideal.defs (F := Ideal)) (onTc (τ := Cert.RefDhQkv0Ideal.τ) (Cert.RefDhQkv0Ideal.main (F := Ideal))) ⟨m, fun _ => 0, g⟩ (fun r => (∀ c : Dev Cert.RefDhQkv0Ideal.nD,
      r.2.mem ((c.tc : Thread Cert.RefDhQkv0Ideal.nD Cert.RefDhQkv0Ideal.τ).loc Cert.RefDhQkv0Ideal.main_arg0) = m ((c.tc : Thread Cert.RefDhQkv0Ideal.nD Cert.RefDhQkv0Ideal.τ).loc Cert.RefDhQkv0Ideal.main_arg0)
      ∧ r.2.mem ((c.tc : Thread Cert.RefDhQkv0Ideal.nD Cert.RefDhQkv0Ideal.τ).loc Cert.RefDhQkv0Ideal.main_arg1) = m ((c.tc : Thread Cert.RefDhQkv0Ideal.nD Cert.RefDhQkv0Ideal.τ).loc Cert.RefDhQkv0Ideal.main_arg1)
      ∧ r.2.mem ((c.tc : Thread Cert.RefDhQkv0Ideal.nD Cert.RefDhQkv0Ideal.τ).loc Cert.RefDhQkv0Ideal.main_arg2) = m ((c.tc : Thread Cert.RefDhQkv0Ideal.nD Cert.RefDhQkv0Ideal.τ).loc Cert.RefDhQkv0Ideal.main_arg2))
      ∧ r.2.sem = fun _ => 0)

def quiescent_DhQkv1 [hDhQkv1 : Cert.DhQkv1.Facts] : Prop :=
  ∀ (m : (ℓ : Loc Cert.DhQkv1.nD Cert.DhQkv1.τ Cert.DhQkv1.sig) → Buf (Elt Bits) ℓ) (g : Dev Cert.DhQkv1.nD → PrngReg), Pre_DhQkv1 m →
    θ_run (Cert.DhQkv1.defs (F := Bits)) (onTc (τ := Cert.DhQkv1.τ) (Cert.DhQkv1.main (F := Bits))) ⟨m, fun _ => 0, g⟩ (fun r => (∀ c : Dev Cert.DhQkv1.nD,
      r.2.mem ((c.tc : Thread Cert.DhQkv1.nD Cert.DhQkv1.τ).loc Cert.DhQkv1.main_arg0) = m ((c.tc : Thread Cert.DhQkv1.nD Cert.DhQkv1.τ).loc Cert.DhQkv1.main_arg0)
      ∧ r.2.mem ((c.tc : Thread Cert.DhQkv1.nD Cert.DhQkv1.τ).loc Cert.DhQkv1.main_arg1) = m ((c.tc : Thread Cert.DhQkv1.nD Cert.DhQkv1.τ).loc Cert.DhQkv1.main_arg1)
      ∧ r.2.mem ((c.tc : Thread Cert.DhQkv1.nD Cert.DhQkv1.τ).loc Cert.DhQkv1.main_arg2) = m ((c.tc : Thread Cert.DhQkv1.nD Cert.DhQkv1.τ).loc Cert.DhQkv1.main_arg2))
      ∧ r.2.sem = fun _ => 0)

def quiescent_DhQkv1Ideal [hDhQkv1Ideal : Cert.DhQkv1Ideal.Facts] : Prop :=
  ∀ (m : (ℓ : Loc Cert.DhQkv1Ideal.nD Cert.DhQkv1Ideal.τ Cert.DhQkv1Ideal.sig) → Buf (Elt Ideal) ℓ) (g : Dev Cert.DhQkv1Ideal.nD → PrngReg), Pre_DhQkv1Ideal m →
    θ_run (Cert.DhQkv1Ideal.defs (F := Ideal)) (onTc (τ := Cert.DhQkv1Ideal.τ) (Cert.DhQkv1Ideal.main (F := Ideal))) ⟨m, fun _ => 0, g⟩ (fun r => (∀ c : Dev Cert.DhQkv1Ideal.nD,
      r.2.mem ((c.tc : Thread Cert.DhQkv1Ideal.nD Cert.DhQkv1Ideal.τ).loc Cert.DhQkv1Ideal.main_arg0) = m ((c.tc : Thread Cert.DhQkv1Ideal.nD Cert.DhQkv1Ideal.τ).loc Cert.DhQkv1Ideal.main_arg0)
      ∧ r.2.mem ((c.tc : Thread Cert.DhQkv1Ideal.nD Cert.DhQkv1Ideal.τ).loc Cert.DhQkv1Ideal.main_arg1) = m ((c.tc : Thread Cert.DhQkv1Ideal.nD Cert.DhQkv1Ideal.τ).loc Cert.DhQkv1Ideal.main_arg1)
      ∧ r.2.mem ((c.tc : Thread Cert.DhQkv1Ideal.nD Cert.DhQkv1Ideal.τ).loc Cert.DhQkv1Ideal.main_arg2) = m ((c.tc : Thread Cert.DhQkv1Ideal.nD Cert.DhQkv1Ideal.τ).loc Cert.DhQkv1Ideal.main_arg2))
      ∧ r.2.sem = fun _ => 0)

def quiescent_RefDhQkv1Ideal [hRefDhQkv1Ideal : Cert.RefDhQkv1Ideal.Facts] : Prop :=
  ∀ (m : (ℓ : Loc Cert.RefDhQkv1Ideal.nD Cert.RefDhQkv1Ideal.τ Cert.RefDhQkv1Ideal.sig) → Buf (Elt Ideal) ℓ) (g : Dev Cert.RefDhQkv1Ideal.nD → PrngReg), Pre_RefDhQkv1Ideal m →
    θ_run (Cert.RefDhQkv1Ideal.defs (F := Ideal)) (onTc (τ := Cert.RefDhQkv1Ideal.τ) (Cert.RefDhQkv1Ideal.main (F := Ideal))) ⟨m, fun _ => 0, g⟩ (fun r => (∀ c : Dev Cert.RefDhQkv1Ideal.nD,
      r.2.mem ((c.tc : Thread Cert.RefDhQkv1Ideal.nD Cert.RefDhQkv1Ideal.τ).loc Cert.RefDhQkv1Ideal.main_arg0) = m ((c.tc : Thread Cert.RefDhQkv1Ideal.nD Cert.RefDhQkv1Ideal.τ).loc Cert.RefDhQkv1Ideal.main_arg0)
      ∧ r.2.mem ((c.tc : Thread Cert.RefDhQkv1Ideal.nD Cert.RefDhQkv1Ideal.τ).loc Cert.RefDhQkv1Ideal.main_arg1) = m ((c.tc : Thread Cert.RefDhQkv1Ideal.nD Cert.RefDhQkv1Ideal.τ).loc Cert.RefDhQkv1Ideal.main_arg1)
      ∧ r.2.mem ((c.tc : Thread Cert.RefDhQkv1Ideal.nD Cert.RefDhQkv1Ideal.τ).loc Cert.RefDhQkv1Ideal.main_arg2) = m ((c.tc : Thread Cert.RefDhQkv1Ideal.nD Cert.RefDhQkv1Ideal.τ).loc Cert.RefDhQkv1Ideal.main_arg2))
      ∧ r.2.sem = fun _ => 0)

def quiescent_Do0 [hDo0 : Cert.Do0.Facts] : Prop :=
  ∀ (m : (ℓ : Loc Cert.Do0.nD Cert.Do0.τ Cert.Do0.sig) → Buf (Elt Bits) ℓ) (g : Dev Cert.Do0.nD → PrngReg), Pre_Do0 m →
    θ_run (Cert.Do0.defs (F := Bits)) (onTc (τ := Cert.Do0.τ) (Cert.Do0.main (F := Bits))) ⟨m, fun _ => 0, g⟩ (fun r => (∀ c : Dev Cert.Do0.nD,
      r.2.mem ((c.tc : Thread Cert.Do0.nD Cert.Do0.τ).loc Cert.Do0.main_arg0) = m ((c.tc : Thread Cert.Do0.nD Cert.Do0.τ).loc Cert.Do0.main_arg0)
      ∧ r.2.mem ((c.tc : Thread Cert.Do0.nD Cert.Do0.τ).loc Cert.Do0.main_arg1) = m ((c.tc : Thread Cert.Do0.nD Cert.Do0.τ).loc Cert.Do0.main_arg1)
      ∧ r.2.mem ((c.tc : Thread Cert.Do0.nD Cert.Do0.τ).loc Cert.Do0.main_arg2) = m ((c.tc : Thread Cert.Do0.nD Cert.Do0.τ).loc Cert.Do0.main_arg2))
      ∧ r.2.sem = fun _ => 0)

def quiescent_Do0Ideal [hDo0Ideal : Cert.Do0Ideal.Facts] : Prop :=
  ∀ (m : (ℓ : Loc Cert.Do0Ideal.nD Cert.Do0Ideal.τ Cert.Do0Ideal.sig) → Buf (Elt Ideal) ℓ) (g : Dev Cert.Do0Ideal.nD → PrngReg), Pre_Do0Ideal m →
    θ_run (Cert.Do0Ideal.defs (F := Ideal)) (onTc (τ := Cert.Do0Ideal.τ) (Cert.Do0Ideal.main (F := Ideal))) ⟨m, fun _ => 0, g⟩ (fun r => (∀ c : Dev Cert.Do0Ideal.nD,
      r.2.mem ((c.tc : Thread Cert.Do0Ideal.nD Cert.Do0Ideal.τ).loc Cert.Do0Ideal.main_arg0) = m ((c.tc : Thread Cert.Do0Ideal.nD Cert.Do0Ideal.τ).loc Cert.Do0Ideal.main_arg0)
      ∧ r.2.mem ((c.tc : Thread Cert.Do0Ideal.nD Cert.Do0Ideal.τ).loc Cert.Do0Ideal.main_arg1) = m ((c.tc : Thread Cert.Do0Ideal.nD Cert.Do0Ideal.τ).loc Cert.Do0Ideal.main_arg1)
      ∧ r.2.mem ((c.tc : Thread Cert.Do0Ideal.nD Cert.Do0Ideal.τ).loc Cert.Do0Ideal.main_arg2) = m ((c.tc : Thread Cert.Do0Ideal.nD Cert.Do0Ideal.τ).loc Cert.Do0Ideal.main_arg2))
      ∧ r.2.sem = fun _ => 0)

def quiescent_RefDo0Ideal [hRefDo0Ideal : Cert.RefDo0Ideal.Facts] : Prop :=
  ∀ (m : (ℓ : Loc Cert.RefDo0Ideal.nD Cert.RefDo0Ideal.τ Cert.RefDo0Ideal.sig) → Buf (Elt Ideal) ℓ) (g : Dev Cert.RefDo0Ideal.nD → PrngReg), Pre_RefDo0Ideal m →
    θ_run (Cert.RefDo0Ideal.defs (F := Ideal)) (onTc (τ := Cert.RefDo0Ideal.τ) (Cert.RefDo0Ideal.main (F := Ideal))) ⟨m, fun _ => 0, g⟩ (fun r => (∀ c : Dev Cert.RefDo0Ideal.nD,
      r.2.mem ((c.tc : Thread Cert.RefDo0Ideal.nD Cert.RefDo0Ideal.τ).loc Cert.RefDo0Ideal.main_arg0) = m ((c.tc : Thread Cert.RefDo0Ideal.nD Cert.RefDo0Ideal.τ).loc Cert.RefDo0Ideal.main_arg0)
      ∧ r.2.mem ((c.tc : Thread Cert.RefDo0Ideal.nD Cert.RefDo0Ideal.τ).loc Cert.RefDo0Ideal.main_arg1) = m ((c.tc : Thread Cert.RefDo0Ideal.nD Cert.RefDo0Ideal.τ).loc Cert.RefDo0Ideal.main_arg1)
      ∧ r.2.mem ((c.tc : Thread Cert.RefDo0Ideal.nD Cert.RefDo0Ideal.τ).loc Cert.RefDo0Ideal.main_arg2) = m ((c.tc : Thread Cert.RefDo0Ideal.nD Cert.RefDo0Ideal.τ).loc Cert.RefDo0Ideal.main_arg2))
      ∧ r.2.sem = fun _ => 0)

def quiescent_Do1 [hDo1 : Cert.Do1.Facts] : Prop :=
  ∀ (m : (ℓ : Loc Cert.Do1.nD Cert.Do1.τ Cert.Do1.sig) → Buf (Elt Bits) ℓ) (g : Dev Cert.Do1.nD → PrngReg), Pre_Do1 m →
    θ_run (Cert.Do1.defs (F := Bits)) (onTc (τ := Cert.Do1.τ) (Cert.Do1.main (F := Bits))) ⟨m, fun _ => 0, g⟩ (fun r => (∀ c : Dev Cert.Do1.nD,
      r.2.mem ((c.tc : Thread Cert.Do1.nD Cert.Do1.τ).loc Cert.Do1.main_arg0) = m ((c.tc : Thread Cert.Do1.nD Cert.Do1.τ).loc Cert.Do1.main_arg0)
      ∧ r.2.mem ((c.tc : Thread Cert.Do1.nD Cert.Do1.τ).loc Cert.Do1.main_arg1) = m ((c.tc : Thread Cert.Do1.nD Cert.Do1.τ).loc Cert.Do1.main_arg1)
      ∧ r.2.mem ((c.tc : Thread Cert.Do1.nD Cert.Do1.τ).loc Cert.Do1.main_arg2) = m ((c.tc : Thread Cert.Do1.nD Cert.Do1.τ).loc Cert.Do1.main_arg2))
      ∧ r.2.sem = fun _ => 0)

def quiescent_Do1Ideal [hDo1Ideal : Cert.Do1Ideal.Facts] : Prop :=
  ∀ (m : (ℓ : Loc Cert.Do1Ideal.nD Cert.Do1Ideal.τ Cert.Do1Ideal.sig) → Buf (Elt Ideal) ℓ) (g : Dev Cert.Do1Ideal.nD → PrngReg), Pre_Do1Ideal m →
    θ_run (Cert.Do1Ideal.defs (F := Ideal)) (onTc (τ := Cert.Do1Ideal.τ) (Cert.Do1Ideal.main (F := Ideal))) ⟨m, fun _ => 0, g⟩ (fun r => (∀ c : Dev Cert.Do1Ideal.nD,
      r.2.mem ((c.tc : Thread Cert.Do1Ideal.nD Cert.Do1Ideal.τ).loc Cert.Do1Ideal.main_arg0) = m ((c.tc : Thread Cert.Do1Ideal.nD Cert.Do1Ideal.τ).loc Cert.Do1Ideal.main_arg0)
      ∧ r.2.mem ((c.tc : Thread Cert.Do1Ideal.nD Cert.Do1Ideal.τ).loc Cert.Do1Ideal.main_arg1) = m ((c.tc : Thread Cert.Do1Ideal.nD Cert.Do1Ideal.τ).loc Cert.Do1Ideal.main_arg1)
      ∧ r.2.mem ((c.tc : Thread Cert.Do1Ideal.nD Cert.Do1Ideal.τ).loc Cert.Do1Ideal.main_arg2) = m ((c.tc : Thread Cert.Do1Ideal.nD Cert.Do1Ideal.τ).loc Cert.Do1Ideal.main_arg2))
      ∧ r.2.sem = fun _ => 0)

def quiescent_RefDo1Ideal [hRefDo1Ideal : Cert.RefDo1Ideal.Facts] : Prop :=
  ∀ (m : (ℓ : Loc Cert.RefDo1Ideal.nD Cert.RefDo1Ideal.τ Cert.RefDo1Ideal.sig) → Buf (Elt Ideal) ℓ) (g : Dev Cert.RefDo1Ideal.nD → PrngReg), Pre_RefDo1Ideal m →
    θ_run (Cert.RefDo1Ideal.defs (F := Ideal)) (onTc (τ := Cert.RefDo1Ideal.τ) (Cert.RefDo1Ideal.main (F := Ideal))) ⟨m, fun _ => 0, g⟩ (fun r => (∀ c : Dev Cert.RefDo1Ideal.nD,
      r.2.mem ((c.tc : Thread Cert.RefDo1Ideal.nD Cert.RefDo1Ideal.τ).loc Cert.RefDo1Ideal.main_arg0) = m ((c.tc : Thread Cert.RefDo1Ideal.nD Cert.RefDo1Ideal.τ).loc Cert.RefDo1Ideal.main_arg0)
      ∧ r.2.mem ((c.tc : Thread Cert.RefDo1Ideal.nD Cert.RefDo1Ideal.τ).loc Cert.RefDo1Ideal.main_arg1) = m ((c.tc : Thread Cert.RefDo1Ideal.nD Cert.RefDo1Ideal.τ).loc Cert.RefDo1Ideal.main_arg1)
      ∧ r.2.mem ((c.tc : Thread Cert.RefDo1Ideal.nD Cert.RefDo1Ideal.τ).loc Cert.RefDo1Ideal.main_arg2) = m ((c.tc : Thread Cert.RefDo1Ideal.nD Cert.RefDo1Ideal.τ).loc Cert.RefDo1Ideal.main_arg2))
      ∧ r.2.sem = fun _ => 0)

def quiescent_Ds0 [hDs0 : Cert.Ds0.Facts] : Prop :=
  ∀ (m : (ℓ : Loc Cert.Ds0.nD Cert.Ds0.τ Cert.Ds0.sig) → Buf (Elt Bits) ℓ) (g : Dev Cert.Ds0.nD → PrngReg), Pre_Ds0 m →
    θ_run (Cert.Ds0.defs (F := Bits)) (onTc (τ := Cert.Ds0.τ) (Cert.Ds0.main (F := Bits))) ⟨m, fun _ => 0, g⟩ (fun r => (∀ c : Dev Cert.Ds0.nD,
      r.2.mem ((c.tc : Thread Cert.Ds0.nD Cert.Ds0.τ).loc Cert.Ds0.main_arg0) = m ((c.tc : Thread Cert.Ds0.nD Cert.Ds0.τ).loc Cert.Ds0.main_arg0)
      ∧ r.2.mem ((c.tc : Thread Cert.Ds0.nD Cert.Ds0.τ).loc Cert.Ds0.main_arg1) = m ((c.tc : Thread Cert.Ds0.nD Cert.Ds0.τ).loc Cert.Ds0.main_arg1)
      ∧ r.2.mem ((c.tc : Thread Cert.Ds0.nD Cert.Ds0.τ).loc Cert.Ds0.main_arg2) = m ((c.tc : Thread Cert.Ds0.nD Cert.Ds0.τ).loc Cert.Ds0.main_arg2))
      ∧ r.2.sem = fun _ => 0)

def quiescent_Ds0Ideal [hDs0Ideal : Cert.Ds0Ideal.Facts] : Prop :=
  ∀ (m : (ℓ : Loc Cert.Ds0Ideal.nD Cert.Ds0Ideal.τ Cert.Ds0Ideal.sig) → Buf (Elt Ideal) ℓ) (g : Dev Cert.Ds0Ideal.nD → PrngReg), Pre_Ds0Ideal m →
    θ_run (Cert.Ds0Ideal.defs (F := Ideal)) (onTc (τ := Cert.Ds0Ideal.τ) (Cert.Ds0Ideal.main (F := Ideal))) ⟨m, fun _ => 0, g⟩ (fun r => (∀ c : Dev Cert.Ds0Ideal.nD,
      r.2.mem ((c.tc : Thread Cert.Ds0Ideal.nD Cert.Ds0Ideal.τ).loc Cert.Ds0Ideal.main_arg0) = m ((c.tc : Thread Cert.Ds0Ideal.nD Cert.Ds0Ideal.τ).loc Cert.Ds0Ideal.main_arg0)
      ∧ r.2.mem ((c.tc : Thread Cert.Ds0Ideal.nD Cert.Ds0Ideal.τ).loc Cert.Ds0Ideal.main_arg1) = m ((c.tc : Thread Cert.Ds0Ideal.nD Cert.Ds0Ideal.τ).loc Cert.Ds0Ideal.main_arg1)
      ∧ r.2.mem ((c.tc : Thread Cert.Ds0Ideal.nD Cert.Ds0Ideal.τ).loc Cert.Ds0Ideal.main_arg2) = m ((c.tc : Thread Cert.Ds0Ideal.nD Cert.Ds0Ideal.τ).loc Cert.Ds0Ideal.main_arg2))
      ∧ r.2.sem = fun _ => 0)

def quiescent_RefDs0Ideal [hRefDs0Ideal : Cert.RefDs0Ideal.Facts] : Prop :=
  ∀ (m : (ℓ : Loc Cert.RefDs0Ideal.nD Cert.RefDs0Ideal.τ Cert.RefDs0Ideal.sig) → Buf (Elt Ideal) ℓ) (g : Dev Cert.RefDs0Ideal.nD → PrngReg), Pre_RefDs0Ideal m →
    θ_run (Cert.RefDs0Ideal.defs (F := Ideal)) (onTc (τ := Cert.RefDs0Ideal.τ) (Cert.RefDs0Ideal.main (F := Ideal))) ⟨m, fun _ => 0, g⟩ (fun r => (∀ c : Dev Cert.RefDs0Ideal.nD,
      r.2.mem ((c.tc : Thread Cert.RefDs0Ideal.nD Cert.RefDs0Ideal.τ).loc Cert.RefDs0Ideal.main_arg0) = m ((c.tc : Thread Cert.RefDs0Ideal.nD Cert.RefDs0Ideal.τ).loc Cert.RefDs0Ideal.main_arg0)
      ∧ r.2.mem ((c.tc : Thread Cert.RefDs0Ideal.nD Cert.RefDs0Ideal.τ).loc Cert.RefDs0Ideal.main_arg1) = m ((c.tc : Thread Cert.RefDs0Ideal.nD Cert.RefDs0Ideal.τ).loc Cert.RefDs0Ideal.main_arg1)
      ∧ r.2.mem ((c.tc : Thread Cert.RefDs0Ideal.nD Cert.RefDs0Ideal.τ).loc Cert.RefDs0Ideal.main_arg2) = m ((c.tc : Thread Cert.RefDs0Ideal.nD Cert.RefDs0Ideal.τ).loc Cert.RefDs0Ideal.main_arg2))
      ∧ r.2.sem = fun _ => 0)

def quiescent_DhIn0 [hDhIn0 : Cert.DhIn0.Facts] : Prop :=
  ∀ (m : (ℓ : Loc Cert.DhIn0.nD Cert.DhIn0.τ Cert.DhIn0.sig) → Buf (Elt Bits) ℓ) (g : Dev Cert.DhIn0.nD → PrngReg), Pre_DhIn0 m →
    θ_run (Cert.DhIn0.defs (F := Bits)) (onTc (τ := Cert.DhIn0.τ) (Cert.DhIn0.main (F := Bits))) ⟨m, fun _ => 0, g⟩ (fun r => (∀ c : Dev Cert.DhIn0.nD,
      r.2.mem ((c.tc : Thread Cert.DhIn0.nD Cert.DhIn0.τ).loc Cert.DhIn0.main_arg0) = m ((c.tc : Thread Cert.DhIn0.nD Cert.DhIn0.τ).loc Cert.DhIn0.main_arg0)
      ∧ r.2.mem ((c.tc : Thread Cert.DhIn0.nD Cert.DhIn0.τ).loc Cert.DhIn0.main_arg1) = m ((c.tc : Thread Cert.DhIn0.nD Cert.DhIn0.τ).loc Cert.DhIn0.main_arg1)
      ∧ r.2.mem ((c.tc : Thread Cert.DhIn0.nD Cert.DhIn0.τ).loc Cert.DhIn0.main_arg2) = m ((c.tc : Thread Cert.DhIn0.nD Cert.DhIn0.τ).loc Cert.DhIn0.main_arg2))
      ∧ r.2.sem = fun _ => 0)

def quiescent_DhIn0Ideal [hDhIn0Ideal : Cert.DhIn0Ideal.Facts] : Prop :=
  ∀ (m : (ℓ : Loc Cert.DhIn0Ideal.nD Cert.DhIn0Ideal.τ Cert.DhIn0Ideal.sig) → Buf (Elt Ideal) ℓ) (g : Dev Cert.DhIn0Ideal.nD → PrngReg), Pre_DhIn0Ideal m →
    θ_run (Cert.DhIn0Ideal.defs (F := Ideal)) (onTc (τ := Cert.DhIn0Ideal.τ) (Cert.DhIn0Ideal.main (F := Ideal))) ⟨m, fun _ => 0, g⟩ (fun r => (∀ c : Dev Cert.DhIn0Ideal.nD,
      r.2.mem ((c.tc : Thread Cert.DhIn0Ideal.nD Cert.DhIn0Ideal.τ).loc Cert.DhIn0Ideal.main_arg0) = m ((c.tc : Thread Cert.DhIn0Ideal.nD Cert.DhIn0Ideal.τ).loc Cert.DhIn0Ideal.main_arg0)
      ∧ r.2.mem ((c.tc : Thread Cert.DhIn0Ideal.nD Cert.DhIn0Ideal.τ).loc Cert.DhIn0Ideal.main_arg1) = m ((c.tc : Thread Cert.DhIn0Ideal.nD Cert.DhIn0Ideal.τ).loc Cert.DhIn0Ideal.main_arg1)
      ∧ r.2.mem ((c.tc : Thread Cert.DhIn0Ideal.nD Cert.DhIn0Ideal.τ).loc Cert.DhIn0Ideal.main_arg2) = m ((c.tc : Thread Cert.DhIn0Ideal.nD Cert.DhIn0Ideal.τ).loc Cert.DhIn0Ideal.main_arg2))
      ∧ r.2.sem = fun _ => 0)

def quiescent_RefDhIn0Ideal [hRefDhIn0Ideal : Cert.RefDhIn0Ideal.Facts] : Prop :=
  ∀ (m : (ℓ : Loc Cert.RefDhIn0Ideal.nD Cert.RefDhIn0Ideal.τ Cert.RefDhIn0Ideal.sig) → Buf (Elt Ideal) ℓ) (g : Dev Cert.RefDhIn0Ideal.nD → PrngReg), Pre_RefDhIn0Ideal m →
    θ_run (Cert.RefDhIn0Ideal.defs (F := Ideal)) (onTc (τ := Cert.RefDhIn0Ideal.τ) (Cert.RefDhIn0Ideal.main (F := Ideal))) ⟨m, fun _ => 0, g⟩ (fun r => (∀ c : Dev Cert.RefDhIn0Ideal.nD,
      r.2.mem ((c.tc : Thread Cert.RefDhIn0Ideal.nD Cert.RefDhIn0Ideal.τ).loc Cert.RefDhIn0Ideal.main_arg0) = m ((c.tc : Thread Cert.RefDhIn0Ideal.nD Cert.RefDhIn0Ideal.τ).loc Cert.RefDhIn0Ideal.main_arg0)
      ∧ r.2.mem ((c.tc : Thread Cert.RefDhIn0Ideal.nD Cert.RefDhIn0Ideal.τ).loc Cert.RefDhIn0Ideal.main_arg1) = m ((c.tc : Thread Cert.RefDhIn0Ideal.nD Cert.RefDhIn0Ideal.τ).loc Cert.RefDhIn0Ideal.main_arg1)
      ∧ r.2.mem ((c.tc : Thread Cert.RefDhIn0Ideal.nD Cert.RefDhIn0Ideal.τ).loc Cert.RefDhIn0Ideal.main_arg2) = m ((c.tc : Thread Cert.RefDhIn0Ideal.nD Cert.RefDhIn0Ideal.τ).loc Cert.RefDhIn0Ideal.main_arg2))
      ∧ r.2.sem = fun _ => 0)

def quiescent_Dyn0 [hDyn0 : Cert.Dyn0.Facts] : Prop :=
  ∀ (m : (ℓ : Loc Cert.Dyn0.nD Cert.Dyn0.τ Cert.Dyn0.sig) → Buf (Elt Bits) ℓ) (g : Dev Cert.Dyn0.nD → PrngReg), Pre_Dyn0 m →
    θ_run (Cert.Dyn0.defs (F := Bits)) (onTc (τ := Cert.Dyn0.τ) (Cert.Dyn0.main (F := Bits))) ⟨m, fun _ => 0, g⟩ (fun r => (∀ c : Dev Cert.Dyn0.nD,
      r.2.mem ((c.tc : Thread Cert.Dyn0.nD Cert.Dyn0.τ).loc Cert.Dyn0.main_arg0) = m ((c.tc : Thread Cert.Dyn0.nD Cert.Dyn0.τ).loc Cert.Dyn0.main_arg0)
      ∧ r.2.mem ((c.tc : Thread Cert.Dyn0.nD Cert.Dyn0.τ).loc Cert.Dyn0.main_arg1) = m ((c.tc : Thread Cert.Dyn0.nD Cert.Dyn0.τ).loc Cert.Dyn0.main_arg1)
      ∧ r.2.mem ((c.tc : Thread Cert.Dyn0.nD Cert.Dyn0.τ).loc Cert.Dyn0.main_arg2) = m ((c.tc : Thread Cert.Dyn0.nD Cert.Dyn0.τ).loc Cert.Dyn0.main_arg2))
      ∧ r.2.sem = fun _ => 0)

def quiescent_Dyn0Ideal [hDyn0Ideal : Cert.Dyn0Ideal.Facts] : Prop :=
  ∀ (m : (ℓ : Loc Cert.Dyn0Ideal.nD Cert.Dyn0Ideal.τ Cert.Dyn0Ideal.sig) → Buf (Elt Ideal) ℓ) (g : Dev Cert.Dyn0Ideal.nD → PrngReg), Pre_Dyn0Ideal m →
    θ_run (Cert.Dyn0Ideal.defs (F := Ideal)) (onTc (τ := Cert.Dyn0Ideal.τ) (Cert.Dyn0Ideal.main (F := Ideal))) ⟨m, fun _ => 0, g⟩ (fun r => (∀ c : Dev Cert.Dyn0Ideal.nD,
      r.2.mem ((c.tc : Thread Cert.Dyn0Ideal.nD Cert.Dyn0Ideal.τ).loc Cert.Dyn0Ideal.main_arg0) = m ((c.tc : Thread Cert.Dyn0Ideal.nD Cert.Dyn0Ideal.τ).loc Cert.Dyn0Ideal.main_arg0)
      ∧ r.2.mem ((c.tc : Thread Cert.Dyn0Ideal.nD Cert.Dyn0Ideal.τ).loc Cert.Dyn0Ideal.main_arg1) = m ((c.tc : Thread Cert.Dyn0Ideal.nD Cert.Dyn0Ideal.τ).loc Cert.Dyn0Ideal.main_arg1)
      ∧ r.2.mem ((c.tc : Thread Cert.Dyn0Ideal.nD Cert.Dyn0Ideal.τ).loc Cert.Dyn0Ideal.main_arg2) = m ((c.tc : Thread Cert.Dyn0Ideal.nD Cert.Dyn0Ideal.τ).loc Cert.Dyn0Ideal.main_arg2))
      ∧ r.2.sem = fun _ => 0)

def quiescent_RefDyn0Ideal [hRefDyn0Ideal : Cert.RefDyn0Ideal.Facts] : Prop :=
  ∀ (m : (ℓ : Loc Cert.RefDyn0Ideal.nD Cert.RefDyn0Ideal.τ Cert.RefDyn0Ideal.sig) → Buf (Elt Ideal) ℓ) (g : Dev Cert.RefDyn0Ideal.nD → PrngReg), Pre_RefDyn0Ideal m →
    θ_run (Cert.RefDyn0Ideal.defs (F := Ideal)) (onTc (τ := Cert.RefDyn0Ideal.τ) (Cert.RefDyn0Ideal.main (F := Ideal))) ⟨m, fun _ => 0, g⟩ (fun r => (∀ c : Dev Cert.RefDyn0Ideal.nD,
      r.2.mem ((c.tc : Thread Cert.RefDyn0Ideal.nD Cert.RefDyn0Ideal.τ).loc Cert.RefDyn0Ideal.main_arg0) = m ((c.tc : Thread Cert.RefDyn0Ideal.nD Cert.RefDyn0Ideal.τ).loc Cert.RefDyn0Ideal.main_arg0)
      ∧ r.2.mem ((c.tc : Thread Cert.RefDyn0Ideal.nD Cert.RefDyn0Ideal.τ).loc Cert.RefDyn0Ideal.main_arg1) = m ((c.tc : Thread Cert.RefDyn0Ideal.nD Cert.RefDyn0Ideal.τ).loc Cert.RefDyn0Ideal.main_arg1)
      ∧ r.2.mem ((c.tc : Thread Cert.RefDyn0Ideal.nD Cert.RefDyn0Ideal.τ).loc Cert.RefDyn0Ideal.main_arg2) = m ((c.tc : Thread Cert.RefDyn0Ideal.nD Cert.RefDyn0Ideal.τ).loc Cert.RefDyn0Ideal.main_arg2))
      ∧ r.2.sem = fun _ => 0)

def quiescent_DhZ [hDhZ : Cert.DhZ.Facts] : Prop :=
  ∀ (m : (ℓ : Loc Cert.DhZ.nD Cert.DhZ.τ Cert.DhZ.sig) → Buf (Elt Bits) ℓ) (g : Dev Cert.DhZ.nD → PrngReg), Pre_DhZ m →
    θ_run (Cert.DhZ.defs (F := Bits)) (onTc (τ := Cert.DhZ.τ) (Cert.DhZ.main (F := Bits))) ⟨m, fun _ => 0, g⟩ (fun r => (∀ c : Dev Cert.DhZ.nD,
      r.2.mem ((c.tc : Thread Cert.DhZ.nD Cert.DhZ.τ).loc Cert.DhZ.main_arg0) = m ((c.tc : Thread Cert.DhZ.nD Cert.DhZ.τ).loc Cert.DhZ.main_arg0)
      ∧ r.2.mem ((c.tc : Thread Cert.DhZ.nD Cert.DhZ.τ).loc Cert.DhZ.main_arg1) = m ((c.tc : Thread Cert.DhZ.nD Cert.DhZ.τ).loc Cert.DhZ.main_arg1)
      ∧ r.2.mem ((c.tc : Thread Cert.DhZ.nD Cert.DhZ.τ).loc Cert.DhZ.main_arg2) = m ((c.tc : Thread Cert.DhZ.nD Cert.DhZ.τ).loc Cert.DhZ.main_arg2))
      ∧ r.2.sem = fun _ => 0)

def quiescent_DhZIdeal [hDhZIdeal : Cert.DhZIdeal.Facts] : Prop :=
  ∀ (m : (ℓ : Loc Cert.DhZIdeal.nD Cert.DhZIdeal.τ Cert.DhZIdeal.sig) → Buf (Elt Ideal) ℓ) (g : Dev Cert.DhZIdeal.nD → PrngReg), Pre_DhZIdeal m →
    θ_run (Cert.DhZIdeal.defs (F := Ideal)) (onTc (τ := Cert.DhZIdeal.τ) (Cert.DhZIdeal.main (F := Ideal))) ⟨m, fun _ => 0, g⟩ (fun r => (∀ c : Dev Cert.DhZIdeal.nD,
      r.2.mem ((c.tc : Thread Cert.DhZIdeal.nD Cert.DhZIdeal.τ).loc Cert.DhZIdeal.main_arg0) = m ((c.tc : Thread Cert.DhZIdeal.nD Cert.DhZIdeal.τ).loc Cert.DhZIdeal.main_arg0)
      ∧ r.2.mem ((c.tc : Thread Cert.DhZIdeal.nD Cert.DhZIdeal.τ).loc Cert.DhZIdeal.main_arg1) = m ((c.tc : Thread Cert.DhZIdeal.nD Cert.DhZIdeal.τ).loc Cert.DhZIdeal.main_arg1)
      ∧ r.2.mem ((c.tc : Thread Cert.DhZIdeal.nD Cert.DhZIdeal.τ).loc Cert.DhZIdeal.main_arg2) = m ((c.tc : Thread Cert.DhZIdeal.nD Cert.DhZIdeal.τ).loc Cert.DhZIdeal.main_arg2))
      ∧ r.2.sem = fun _ => 0)

def quiescent_RefDhZIdeal [hRefDhZIdeal : Cert.RefDhZIdeal.Facts] : Prop :=
  ∀ (m : (ℓ : Loc Cert.RefDhZIdeal.nD Cert.RefDhZIdeal.τ Cert.RefDhZIdeal.sig) → Buf (Elt Ideal) ℓ) (g : Dev Cert.RefDhZIdeal.nD → PrngReg), Pre_RefDhZIdeal m →
    θ_run (Cert.RefDhZIdeal.defs (F := Ideal)) (onTc (τ := Cert.RefDhZIdeal.τ) (Cert.RefDhZIdeal.main (F := Ideal))) ⟨m, fun _ => 0, g⟩ (fun r => (∀ c : Dev Cert.RefDhZIdeal.nD,
      r.2.mem ((c.tc : Thread Cert.RefDhZIdeal.nD Cert.RefDhZIdeal.τ).loc Cert.RefDhZIdeal.main_arg0) = m ((c.tc : Thread Cert.RefDhZIdeal.nD Cert.RefDhZIdeal.τ).loc Cert.RefDhZIdeal.main_arg0)
      ∧ r.2.mem ((c.tc : Thread Cert.RefDhZIdeal.nD Cert.RefDhZIdeal.τ).loc Cert.RefDhZIdeal.main_arg1) = m ((c.tc : Thread Cert.RefDhZIdeal.nD Cert.RefDhZIdeal.τ).loc Cert.RefDhZIdeal.main_arg1)
      ∧ r.2.mem ((c.tc : Thread Cert.RefDhZIdeal.nD Cert.RefDhZIdeal.τ).loc Cert.RefDhZIdeal.main_arg2) = m ((c.tc : Thread Cert.RefDhZIdeal.nD Cert.RefDhZIdeal.τ).loc Cert.RefDhZIdeal.main_arg2))
      ∧ r.2.sem = fun _ => 0)

def quiescent_DhXbc [hDhXbc : Cert.DhXbc.Facts] : Prop :=
  ∀ (m : (ℓ : Loc Cert.DhXbc.nD Cert.DhXbc.τ Cert.DhXbc.sig) → Buf (Elt Bits) ℓ) (g : Dev Cert.DhXbc.nD → PrngReg), Pre_DhXbc m →
    θ_run (Cert.DhXbc.defs (F := Bits)) (onTc (τ := Cert.DhXbc.τ) (Cert.DhXbc.main (F := Bits))) ⟨m, fun _ => 0, g⟩ (fun r => (∀ c : Dev Cert.DhXbc.nD,
      r.2.mem ((c.tc : Thread Cert.DhXbc.nD Cert.DhXbc.τ).loc Cert.DhXbc.main_arg0) = m ((c.tc : Thread Cert.DhXbc.nD Cert.DhXbc.τ).loc Cert.DhXbc.main_arg0)
      ∧ r.2.mem ((c.tc : Thread Cert.DhXbc.nD Cert.DhXbc.τ).loc Cert.DhXbc.main_arg1) = m ((c.tc : Thread Cert.DhXbc.nD Cert.DhXbc.τ).loc Cert.DhXbc.main_arg1)
      ∧ r.2.mem ((c.tc : Thread Cert.DhXbc.nD Cert.DhXbc.τ).loc Cert.DhXbc.main_arg2) = m ((c.tc : Thread Cert.DhXbc.nD Cert.DhXbc.τ).loc Cert.DhXbc.main_arg2)
      ∧ r.2.mem ((c.tc : Thread Cert.DhXbc.nD Cert.DhXbc.τ).loc Cert.DhXbc.main_arg3) = m ((c.tc : Thread Cert.DhXbc.nD Cert.DhXbc.τ).loc Cert.DhXbc.main_arg3))
      ∧ r.2.sem = fun _ => 0)

def quiescent_DhXbcIdeal [hDhXbcIdeal : Cert.DhXbcIdeal.Facts] : Prop :=
  ∀ (m : (ℓ : Loc Cert.DhXbcIdeal.nD Cert.DhXbcIdeal.τ Cert.DhXbcIdeal.sig) → Buf (Elt Ideal) ℓ) (g : Dev Cert.DhXbcIdeal.nD → PrngReg), Pre_DhXbcIdeal m →
    θ_run (Cert.DhXbcIdeal.defs (F := Ideal)) (onTc (τ := Cert.DhXbcIdeal.τ) (Cert.DhXbcIdeal.main (F := Ideal))) ⟨m, fun _ => 0, g⟩ (fun r => (∀ c : Dev Cert.DhXbcIdeal.nD,
      r.2.mem ((c.tc : Thread Cert.DhXbcIdeal.nD Cert.DhXbcIdeal.τ).loc Cert.DhXbcIdeal.main_arg0) = m ((c.tc : Thread Cert.DhXbcIdeal.nD Cert.DhXbcIdeal.τ).loc Cert.DhXbcIdeal.main_arg0)
      ∧ r.2.mem ((c.tc : Thread Cert.DhXbcIdeal.nD Cert.DhXbcIdeal.τ).loc Cert.DhXbcIdeal.main_arg1) = m ((c.tc : Thread Cert.DhXbcIdeal.nD Cert.DhXbcIdeal.τ).loc Cert.DhXbcIdeal.main_arg1)
      ∧ r.2.mem ((c.tc : Thread Cert.DhXbcIdeal.nD Cert.DhXbcIdeal.τ).loc Cert.DhXbcIdeal.main_arg2) = m ((c.tc : Thread Cert.DhXbcIdeal.nD Cert.DhXbcIdeal.τ).loc Cert.DhXbcIdeal.main_arg2)
      ∧ r.2.mem ((c.tc : Thread Cert.DhXbcIdeal.nD Cert.DhXbcIdeal.τ).loc Cert.DhXbcIdeal.main_arg3) = m ((c.tc : Thread Cert.DhXbcIdeal.nD Cert.DhXbcIdeal.τ).loc Cert.DhXbcIdeal.main_arg3))
      ∧ r.2.sem = fun _ => 0)

def quiescent_RefDhXbcIdeal [hRefDhXbcIdeal : Cert.RefDhXbcIdeal.Facts] : Prop :=
  ∀ (m : (ℓ : Loc Cert.RefDhXbcIdeal.nD Cert.RefDhXbcIdeal.τ Cert.RefDhXbcIdeal.sig) → Buf (Elt Ideal) ℓ) (g : Dev Cert.RefDhXbcIdeal.nD → PrngReg), Pre_RefDhXbcIdeal m →
    θ_run (Cert.RefDhXbcIdeal.defs (F := Ideal)) (onTc (τ := Cert.RefDhXbcIdeal.τ) (Cert.RefDhXbcIdeal.main (F := Ideal))) ⟨m, fun _ => 0, g⟩ (fun r => (∀ c : Dev Cert.RefDhXbcIdeal.nD,
      r.2.mem ((c.tc : Thread Cert.RefDhXbcIdeal.nD Cert.RefDhXbcIdeal.τ).loc Cert.RefDhXbcIdeal.main_arg0) = m ((c.tc : Thread Cert.RefDhXbcIdeal.nD Cert.RefDhXbcIdeal.τ).loc Cert.RefDhXbcIdeal.main_arg0)
      ∧ r.2.mem ((c.tc : Thread Cert.RefDhXbcIdeal.nD Cert.RefDhXbcIdeal.τ).loc Cert.RefDhXbcIdeal.main_arg1) = m ((c.tc : Thread Cert.RefDhXbcIdeal.nD Cert.RefDhXbcIdeal.τ).loc Cert.RefDhXbcIdeal.main_arg1)
      ∧ r.2.mem ((c.tc : Thread Cert.RefDhXbcIdeal.nD Cert.RefDhXbcIdeal.τ).loc Cert.RefDhXbcIdeal.main_arg2) = m ((c.tc : Thread Cert.RefDhXbcIdeal.nD Cert.RefDhXbcIdeal.τ).loc Cert.RefDhXbcIdeal.main_arg2)
      ∧ r.2.mem ((c.tc : Thread Cert.RefDhXbcIdeal.nD Cert.RefDhXbcIdeal.τ).loc Cert.RefDhXbcIdeal.main_arg3) = m ((c.tc : Thread Cert.RefDhXbcIdeal.nD Cert.RefDhXbcIdeal.τ).loc Cert.RefDhXbcIdeal.main_arg3))
      ∧ r.2.sem = fun _ => 0)

def quiescent_DhDt [hDhDt : Cert.DhDt.Facts] : Prop :=
  ∀ (m : (ℓ : Loc Cert.DhDt.nD Cert.DhDt.τ Cert.DhDt.sig) → Buf (Elt Bits) ℓ) (g : Dev Cert.DhDt.nD → PrngReg), Pre_DhDt m →
    θ_run (Cert.DhDt.defs (F := Bits)) (onTc (τ := Cert.DhDt.τ) (Cert.DhDt.main (F := Bits))) ⟨m, fun _ => 0, g⟩ (fun r => (∀ c : Dev Cert.DhDt.nD,
      r.2.mem ((c.tc : Thread Cert.DhDt.nD Cert.DhDt.τ).loc Cert.DhDt.main_arg0) = m ((c.tc : Thread Cert.DhDt.nD Cert.DhDt.τ).loc Cert.DhDt.main_arg0)
      ∧ r.2.mem ((c.tc : Thread Cert.DhDt.nD Cert.DhDt.τ).loc Cert.DhDt.main_arg1) = m ((c.tc : Thread Cert.DhDt.nD Cert.DhDt.τ).loc Cert.DhDt.main_arg1)
      ∧ r.2.mem ((c.tc : Thread Cert.DhDt.nD Cert.DhDt.τ).loc Cert.DhDt.main_arg2) = m ((c.tc : Thread Cert.DhDt.nD Cert.DhDt.τ).loc Cert.DhDt.main_arg2)
      ∧ r.2.mem ((c.tc : Thread Cert.DhDt.nD Cert.DhDt.τ).loc Cert.DhDt.main_arg3) = m ((c.tc : Thread Cert.DhDt.nD Cert.DhDt.τ).loc Cert.DhDt.main_arg3))
      ∧ r.2.sem = fun _ => 0)

def quiescent_DhDtIdeal [hDhDtIdeal : Cert.DhDtIdeal.Facts] : Prop :=
  ∀ (m : (ℓ : Loc Cert.DhDtIdeal.nD Cert.DhDtIdeal.τ Cert.DhDtIdeal.sig) → Buf (Elt Ideal) ℓ) (g : Dev Cert.DhDtIdeal.nD → PrngReg), Pre_DhDtIdeal m →
    θ_run (Cert.DhDtIdeal.defs (F := Ideal)) (onTc (τ := Cert.DhDtIdeal.τ) (Cert.DhDtIdeal.main (F := Ideal))) ⟨m, fun _ => 0, g⟩ (fun r => (∀ c : Dev Cert.DhDtIdeal.nD,
      r.2.mem ((c.tc : Thread Cert.DhDtIdeal.nD Cert.DhDtIdeal.τ).loc Cert.DhDtIdeal.main_arg0) = m ((c.tc : Thread Cert.DhDtIdeal.nD Cert.DhDtIdeal.τ).loc Cert.DhDtIdeal.main_arg0)
      ∧ r.2.mem ((c.tc : Thread Cert.DhDtIdeal.nD Cert.DhDtIdeal.τ).loc Cert.DhDtIdeal.main_arg1) = m ((c.tc : Thread Cert.DhDtIdeal.nD Cert.DhDtIdeal.τ).loc Cert.DhDtIdeal.main_arg1)
      ∧ r.2.mem ((c.tc : Thread Cert.DhDtIdeal.nD Cert.DhDtIdeal.τ).loc Cert.DhDtIdeal.main_arg2) = m ((c.tc : Thread Cert.DhDtIdeal.nD Cert.DhDtIdeal.τ).loc Cert.DhDtIdeal.main_arg2)
      ∧ r.2.mem ((c.tc : Thread Cert.DhDtIdeal.nD Cert.DhDtIdeal.τ).loc Cert.DhDtIdeal.main_arg3) = m ((c.tc : Thread Cert.DhDtIdeal.nD Cert.DhDtIdeal.τ).loc Cert.DhDtIdeal.main_arg3))
      ∧ r.2.sem = fun _ => 0)

def quiescent_RefDhDtIdeal [hRefDhDtIdeal : Cert.RefDhDtIdeal.Facts] : Prop :=
  ∀ (m : (ℓ : Loc Cert.RefDhDtIdeal.nD Cert.RefDhDtIdeal.τ Cert.RefDhDtIdeal.sig) → Buf (Elt Ideal) ℓ) (g : Dev Cert.RefDhDtIdeal.nD → PrngReg), Pre_RefDhDtIdeal m →
    θ_run (Cert.RefDhDtIdeal.defs (F := Ideal)) (onTc (τ := Cert.RefDhDtIdeal.τ) (Cert.RefDhDtIdeal.main (F := Ideal))) ⟨m, fun _ => 0, g⟩ (fun r => (∀ c : Dev Cert.RefDhDtIdeal.nD,
      r.2.mem ((c.tc : Thread Cert.RefDhDtIdeal.nD Cert.RefDhDtIdeal.τ).loc Cert.RefDhDtIdeal.main_arg0) = m ((c.tc : Thread Cert.RefDhDtIdeal.nD Cert.RefDhDtIdeal.τ).loc Cert.RefDhDtIdeal.main_arg0)
      ∧ r.2.mem ((c.tc : Thread Cert.RefDhDtIdeal.nD Cert.RefDhDtIdeal.τ).loc Cert.RefDhDtIdeal.main_arg1) = m ((c.tc : Thread Cert.RefDhDtIdeal.nD Cert.RefDhDtIdeal.τ).loc Cert.RefDhDtIdeal.main_arg1)
      ∧ r.2.mem ((c.tc : Thread Cert.RefDhDtIdeal.nD Cert.RefDhDtIdeal.τ).loc Cert.RefDhDtIdeal.main_arg2) = m ((c.tc : Thread Cert.RefDhDtIdeal.nD Cert.RefDhDtIdeal.τ).loc Cert.RefDhDtIdeal.main_arg2)
      ∧ r.2.mem ((c.tc : Thread Cert.RefDhDtIdeal.nD Cert.RefDhDtIdeal.τ).loc Cert.RefDhDtIdeal.main_arg3) = m ((c.tc : Thread Cert.RefDhDtIdeal.nD Cert.RefDhDtIdeal.τ).loc Cert.RefDhDtIdeal.main_arg3))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ r.2.sem = fun _ => 0)

def quiescent_RefUp0Ideal [hRefUp0Ideal : Cert.RefUp0Ideal.Facts] : Prop :=
  ∀ (m : (ℓ : Loc Cert.RefUp0Ideal.nD Cert.RefUp0Ideal.τ Cert.RefUp0Ideal.sig) → Buf (Elt Ideal) ℓ) (g : Dev Cert.RefUp0Ideal.nD → PrngReg), Pre_RefUp0Ideal m →
    θ_run (Cert.RefUp0Ideal.defs (F := Ideal)) (onTc (τ := Cert.RefUp0Ideal.τ) (Cert.RefUp0Ideal.main (F := Ideal))) ⟨m, fun _ => 0, g⟩ (fun r => (∀ c : Dev Cert.RefUp0Ideal.nD,
      r.2.mem ((c.tc : Thread Cert.RefUp0Ideal.nD Cert.RefUp0Ideal.τ).loc Cert.RefUp0Ideal.main_arg0) = m ((c.tc : Thread Cert.RefUp0Ideal.nD Cert.RefUp0Ideal.τ).loc Cert.RefUp0Ideal.main_arg0)
      ∧ r.2.mem ((c.tc : Thread Cert.RefUp0Ideal.nD Cert.RefUp0Ideal.τ).loc Cert.RefUp0Ideal.main_arg1) = m ((c.tc : Thread Cert.RefUp0Ideal.nD Cert.RefUp0Ideal.τ).loc Cert.RefUp0Ideal.main_arg1))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ r.2.sem = fun _ => 0)

def quiescent_RefUp1Ideal [hRefUp1Ideal : Cert.RefUp1Ideal.Facts] : Prop :=
  ∀ (m : (ℓ : Loc Cert.RefUp1Ideal.nD Cert.RefUp1Ideal.τ Cert.RefUp1Ideal.sig) → Buf (Elt Ideal) ℓ) (g : Dev Cert.RefUp1Ideal.nD → PrngReg), Pre_RefUp1Ideal m →
    θ_run (Cert.RefUp1Ideal.defs (F := Ideal)) (onTc (τ := Cert.RefUp1Ideal.τ) (Cert.RefUp1Ideal.main (F := Ideal))) ⟨m, fun _ => 0, g⟩ (fun r => (∀ c : Dev Cert.RefUp1Ideal.nD,
      r.2.mem ((c.tc : Thread Cert.RefUp1Ideal.nD Cert.RefUp1Ideal.τ).loc Cert.RefUp1Ideal.main_arg0) = m ((c.tc : Thread Cert.RefUp1Ideal.nD Cert.RefUp1Ideal.τ).loc Cert.RefUp1Ideal.main_arg0)
      ∧ r.2.mem ((c.tc : Thread Cert.RefUp1Ideal.nD Cert.RefUp1Ideal.τ).loc Cert.RefUp1Ideal.main_arg1) = m ((c.tc : Thread Cert.RefUp1Ideal.nD Cert.RefUp1Ideal.τ).loc Cert.RefUp1Ideal.main_arg1))
      ∧ r.2.sem = fun _ => 0)

def quiescent_Up2 [hUp2 : Cert.Up2.Facts] : Prop :=
  ∀ (m : (ℓ : Loc Cert.Up2.nD Cert.Up2.τ Cert.Up2.sig) → Buf (Elt Bits) ℓ) (g : Dev Cert.Up2.nD → PrngReg), Pre_Up2 m →
    θ_run (Cert.Up2.defs (F := Bits)) (onTc (τ := Cert.Up2.τ) (Cert.Up2.main (F := Bits))) ⟨m, fun _ => 0, g⟩ (fun r => (∀ c : Dev Cert.Up2.nD,
      r.2.mem ((c.tc : Thread Cert.Up2.nD Cert.Up2.τ).loc Cert.Up2.main_arg0) = m ((c.tc : Thread Cert.Up2.nD Cert.Up2.τ).loc Cert.Up2.main_arg0)
      ∧ r.2.mem ((c.tc : Thread Cert.Up2.nD Cert.Up2.τ).loc Cert.Up2.main_arg1) = m ((c.tc : Thread Cert.Up2.nD Cert.Up2.τ).loc Cert.Up2.main_arg1))
      ∧ r.2.sem = fun _ => 0)

def quiescent_Up2Ideal [hUp2Ideal : Cert.Up2Ideal.Facts] : Prop :=
  ∀ (m : (ℓ : Loc Cert.Up2Ideal.nD Cert.Up2Ideal.τ Cert.Up2Ideal.sig) → Buf (Elt Ideal) ℓ) (g : Dev Cert.Up2Ideal.nD → PrngReg), Pre_Up2Ideal m →
    θ_run (Cert.Up2Ideal.defs (F := Ideal)) (onTc (τ := Cert.Up2Ideal.τ) (Cert.Up2Ideal.main (F := Ideal))) ⟨m, fun _ => 0, g⟩ (fun r => (∀ c : Dev Cert.Up2Ideal.nD,
      r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
      ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1))
      ∧ r.2.sem = fun _ => 0)

def quiescent_RefUp2Ideal [hRefUp2Ideal : Cert.RefUp2Ideal.Facts] : Prop :=
  ∀ (m : (ℓ : Loc Cert.RefUp2Ideal.nD Cert.RefUp2Ideal.τ Cert.RefUp2Ideal.sig) → Buf (Elt Ideal) ℓ) (g : Dev Cert.RefUp2Ideal.nD → PrngReg), Pre_RefUp2Ideal m →
    θ_run (Cert.RefUp2Ideal.defs (F := Ideal)) (onTc (τ := Cert.RefUp2Ideal.τ) (Cert.RefUp2Ideal.main (F := Ideal))) ⟨m, fun _ => 0, g⟩ (fun r => (∀ c : Dev Cert.RefUp2Ideal.nD,
      r.2.mem ((c.tc : Thread Cert.RefUp2Ideal.nD Cert.RefUp2Ideal.τ).loc Cert.RefUp2Ideal.main_arg0) = m ((c.tc : Thread Cert.RefUp2Ideal.nD Cert.RefUp2Ideal.τ).loc Cert.RefUp2Ideal.main_arg0)
      ∧ r.2.mem ((c.tc : Thread Cert.RefUp2Ideal.nD Cert.RefUp2Ideal.τ).loc Cert.RefUp2Ideal.main_arg1) = m ((c.tc : Thread Cert.RefUp2Ideal.nD Cert.RefUp2Ideal.τ).loc Cert.RefUp2Ideal.main_arg1))
      ∧ r.2.sem = fun _ => 0)

def quiescent_Up3 [hUp3 : Cert.Up3.Facts] : Prop :=
  ∀ (m : (ℓ : Loc Cert.Up3.nD Cert.Up3.τ Cert.Up3.sig) → Buf (Elt Bits) ℓ) (g : Dev Cert.Up3.nD → PrngReg), Pre_Up3 m →
    θ_run (Cert.Up3.defs (F := Bits)) (onTc (τ := Cert.Up3.τ) (Cert.Up3.main (F := Bits))) ⟨m, fun _ => 0, g⟩ (fun r => (∀ c : Dev Cert.Up3.nD,
      r.2.mem ((c.tc : Thread Cert.Up3.nD Cert.Up3.τ).loc Cert.Up3.main_arg0) = m ((c.tc : Thread Cert.Up3.nD Cert.Up3.τ).loc Cert.Up3.main_arg0)
      ∧ r.2.mem ((c.tc : Thread Cert.Up3.nD Cert.Up3.τ).loc Cert.Up3.main_arg1) = m ((c.tc : Thread Cert.Up3.nD Cert.Up3.τ).loc Cert.Up3.main_arg1))
      ∧ r.2.sem = fun _ => 0)

def quiescent_Up3Ideal [hUp3Ideal : Cert.Up3Ideal.Facts] : Prop :=
  ∀ (m : (ℓ : Loc Cert.Up3Ideal.nD Cert.Up3Ideal.τ Cert.Up3Ideal.sig) → Buf (Elt Ideal) ℓ) (g : Dev Cert.Up3Ideal.nD → PrngReg), Pre_Up3Ideal m →
    θ_run (Cert.Up3Ideal.defs (F := Ideal)) (onTc (τ := Cert.Up3Ideal.τ) (Cert.Up3Ideal.main (F := Ideal))) ⟨m, fun _ => 0, g⟩ (fun r => (∀ c : Dev Cert.Up3Ideal.nD,
      r.2.mem ((c.tc : Thread Cert.Up3Ideal.nD Cert.Up3Ideal.τ).loc Cert.Up3Ideal.main_arg0) = m ((c.tc : Thread Cert.Up3Ideal.nD Cert.Up3Ideal.τ).loc Cert.Up3Ideal.main_arg0)
      ∧ r.2.mem ((c.tc : Thread Cert.Up3Ideal.nD Cert.Up3Ideal.τ).loc Cert.Up3Ideal.main_arg1) = m ((c.tc : Thread Cert.Up3Ideal.nD Cert.Up3Ideal.τ).loc Cert.Up3Ideal.main_arg1))
      ∧ r.2.sem = fun _ => 0)

def quiescent_RefUp3Ideal [hRefUp3Ideal : Cert.RefUp3Ideal.Facts] : Prop :=
  ∀ (m : (ℓ : Loc Cert.RefUp3Ideal.nD Cert.RefUp3Ideal.τ Cert.RefUp3Ideal.sig) → Buf (Elt Ideal) ℓ) (g : Dev Cert.RefUp3Ideal.nD → PrngReg), Pre_RefUp3Ideal m →
    θ_run (Cert.RefUp3Ideal.defs (F := Ideal)) (onTc (τ := Cert.RefUp3Ideal.τ) (Cert.RefUp3Ideal.main (F := Ideal))) ⟨m, fun _ => 0, g⟩ (fun r => (∀ c : Dev Cert.RefUp3Ideal.nD,
      r.2.mem ((c.tc : Thread Cert.RefUp3Ideal.nD Cert.RefUp3Ideal.τ).loc Cert.RefUp3Ideal.main_arg0) = m ((c.tc : Thread Cert.RefUp3Ideal.nD Cert.RefUp3Ideal.τ).loc Cert.RefUp3Ideal.main_arg0)
      ∧ r.2.mem ((c.tc : Thread Cert.RefUp3Ideal.nD Cert.RefUp3Ideal.τ).loc Cert.RefUp3Ideal.main_arg1) = m ((c.tc : Thread Cert.RefUp3Ideal.nD Cert.RefUp3Ideal.τ).loc Cert.RefUp3Ideal.main_arg1))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ r.2.sem = fun _ => 0)

def quiescent_RefDown0Ideal [hRefDown0Ideal : Cert.RefDown0Ideal.Facts] : Prop :=
  ∀ (m : (ℓ : Loc Cert.RefDown0Ideal.nD Cert.RefDown0Ideal.τ Cert.RefDown0Ideal.sig) → Buf (Elt Ideal) ℓ) (g : Dev Cert.RefDown0Ideal.nD → PrngReg), Pre_RefDown0Ideal m →
    θ_run (Cert.RefDown0Ideal.defs (F := Ideal)) (onTc (τ := Cert.RefDown0Ideal.τ) (Cert.RefDown0Ideal.main (F := Ideal))) ⟨m, fun _ => 0, g⟩ (fun r => (∀ c : Dev Cert.RefDown0Ideal.nD,
      r.2.mem ((c.tc : Thread Cert.RefDown0Ideal.nD Cert.RefDown0Ideal.τ).loc Cert.RefDown0Ideal.main_arg0) = m ((c.tc : Thread Cert.RefDown0Ideal.nD Cert.RefDown0Ideal.τ).loc Cert.RefDown0Ideal.main_arg0)
      ∧ r.2.mem ((c.tc : Thread Cert.RefDown0Ideal.nD Cert.RefDown0Ideal.τ).loc Cert.RefDown0Ideal.main_arg1) = m ((c.tc : Thread Cert.RefDown0Ideal.nD Cert.RefDown0Ideal.τ).loc Cert.RefDown0Ideal.main_arg1)
      ∧ r.2.mem ((c.tc : Thread Cert.RefDown0Ideal.nD Cert.RefDown0Ideal.τ).loc Cert.RefDown0Ideal.main_arg2) = m ((c.tc : Thread Cert.RefDown0Ideal.nD Cert.RefDown0Ideal.τ).loc Cert.RefDown0Ideal.main_arg2))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2))
      ∧ r.2.sem = fun _ => 0)

def quiescent_RefDown1Ideal [hRefDown1Ideal : Cert.RefDown1Ideal.Facts] : Prop :=
  ∀ (m : (ℓ : Loc Cert.RefDown1Ideal.nD Cert.RefDown1Ideal.τ Cert.RefDown1Ideal.sig) → Buf (Elt Ideal) ℓ) (g : Dev Cert.RefDown1Ideal.nD → PrngReg), Pre_RefDown1Ideal m →
    θ_run (Cert.RefDown1Ideal.defs (F := Ideal)) (onTc (τ := Cert.RefDown1Ideal.τ) (Cert.RefDown1Ideal.main (F := Ideal))) ⟨m, fun _ => 0, g⟩ (fun r => (∀ c : Dev Cert.RefDown1Ideal.nD,
      r.2.mem ((c.tc : Thread Cert.RefDown1Ideal.nD Cert.RefDown1Ideal.τ).loc Cert.RefDown1Ideal.main_arg0) = m ((c.tc : Thread Cert.RefDown1Ideal.nD Cert.RefDown1Ideal.τ).loc Cert.RefDown1Ideal.main_arg0)
      ∧ r.2.mem ((c.tc : Thread Cert.RefDown1Ideal.nD Cert.RefDown1Ideal.τ).loc Cert.RefDown1Ideal.main_arg1) = m ((c.tc : Thread Cert.RefDown1Ideal.nD Cert.RefDown1Ideal.τ).loc Cert.RefDown1Ideal.main_arg1)
      ∧ r.2.mem ((c.tc : Thread Cert.RefDown1Ideal.nD Cert.RefDown1Ideal.τ).loc Cert.RefDown1Ideal.main_arg2) = m ((c.tc : Thread Cert.RefDown1Ideal.nD Cert.RefDown1Ideal.τ).loc Cert.RefDown1Ideal.main_arg2))
      ∧ r.2.sem = fun _ => 0)

def quiescent_Down2 [hDown2 : Cert.Down2.Facts] : Prop :=
  ∀ (m : (ℓ : Loc Cert.Down2.nD Cert.Down2.τ Cert.Down2.sig) → Buf (Elt Bits) ℓ) (g : Dev Cert.Down2.nD → PrngReg), Pre_Down2 m →
    θ_run (Cert.Down2.defs (F := Bits)) (onTc (τ := Cert.Down2.τ) (Cert.Down2.main (F := Bits))) ⟨m, fun _ => 0, g⟩ (fun r => (∀ c : Dev Cert.Down2.nD,
      r.2.mem ((c.tc : Thread Cert.Down2.nD Cert.Down2.τ).loc Cert.Down2.main_arg0) = m ((c.tc : Thread Cert.Down2.nD Cert.Down2.τ).loc Cert.Down2.main_arg0)
      ∧ r.2.mem ((c.tc : Thread Cert.Down2.nD Cert.Down2.τ).loc Cert.Down2.main_arg1) = m ((c.tc : Thread Cert.Down2.nD Cert.Down2.τ).loc Cert.Down2.main_arg1)
      ∧ r.2.mem ((c.tc : Thread Cert.Down2.nD Cert.Down2.τ).loc Cert.Down2.main_arg2) = m ((c.tc : Thread Cert.Down2.nD Cert.Down2.τ).loc Cert.Down2.main_arg2))
      ∧ r.2.sem = fun _ => 0)

def quiescent_Down2Ideal [hDown2Ideal : Cert.Down2Ideal.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
      ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2))
      ∧ r.2.sem = fun _ => 0)

def quiescent_RefDown2Ideal [hRefDown2Ideal : Cert.RefDown2Ideal.Facts] : Prop :=
  ∀ (m : (ℓ : Loc Cert.RefDown2Ideal.nD Cert.RefDown2Ideal.τ Cert.RefDown2Ideal.sig) → Buf (Elt Ideal) ℓ) (g : Dev Cert.RefDown2Ideal.nD → PrngReg), Pre_RefDown2Ideal m →
    θ_run (Cert.RefDown2Ideal.defs (F := Ideal)) (onTc (τ := Cert.RefDown2Ideal.τ) (Cert.RefDown2Ideal.main (F := Ideal))) ⟨m, fun _ => 0, g⟩ (fun r => (∀ c : Dev Cert.RefDown2Ideal.nD,
      r.2.mem ((c.tc : Thread Cert.RefDown2Ideal.nD Cert.RefDown2Ideal.τ).loc Cert.RefDown2Ideal.main_arg0) = m ((c.tc : Thread Cert.RefDown2Ideal.nD Cert.RefDown2Ideal.τ).loc Cert.RefDown2Ideal.main_arg0)
      ∧ r.2.mem ((c.tc : Thread Cert.RefDown2Ideal.nD Cert.RefDown2Ideal.τ).loc Cert.RefDown2Ideal.main_arg1) = m ((c.tc : Thread Cert.RefDown2Ideal.nD Cert.RefDown2Ideal.τ).loc Cert.RefDown2Ideal.main_arg1)
      ∧ r.2.mem ((c.tc : Thread Cert.RefDown2Ideal.nD Cert.RefDown2Ideal.τ).loc Cert.RefDown2Ideal.main_arg2) = m ((c.tc : Thread Cert.RefDown2Ideal.nD Cert.RefDown2Ideal.τ).loc Cert.RefDown2Ideal.main_arg2))
      ∧ r.2.sem = fun _ => 0)

def quiescent_Down3 [hDown3 : Cert.Down3.Facts] : Prop :=
  ∀ (m : (ℓ : Loc Cert.Down3.nD Cert.Down3.τ Cert.Down3.sig) → Buf (Elt Bits) ℓ) (g : Dev Cert.Down3.nD → PrngReg), Pre_Down3 m →
    θ_run (Cert.Down3.defs (F := Bits)) (onTc (τ := Cert.Down3.τ) (Cert.Down3.main (F := Bits))) ⟨m, fun _ => 0, g⟩ (fun r => (∀ c : Dev Cert.Down3.nD,
      r.2.mem ((c.tc : Thread Cert.Down3.nD Cert.Down3.τ).loc Cert.Down3.main_arg0) = m ((c.tc : Thread Cert.Down3.nD Cert.Down3.τ).loc Cert.Down3.main_arg0)
      ∧ r.2.mem ((c.tc : Thread Cert.Down3.nD Cert.Down3.τ).loc Cert.Down3.main_arg1) = m ((c.tc : Thread Cert.Down3.nD Cert.Down3.τ).loc Cert.Down3.main_arg1)
      ∧ r.2.mem ((c.tc : Thread Cert.Down3.nD Cert.Down3.τ).loc Cert.Down3.main_arg2) = m ((c.tc : Thread Cert.Down3.nD Cert.Down3.τ).loc Cert.Down3.main_arg2))
      ∧ r.2.sem = fun _ => 0)

def quiescent_Down3Ideal [hDown3Ideal : Cert.Down3Ideal.Facts] : Prop :=
  ∀ (m : (ℓ : Loc Cert.Down3Ideal.nD Cert.Down3Ideal.τ Cert.Down3Ideal.sig) → Buf (Elt Ideal) ℓ) (g : Dev Cert.Down3Ideal.nD → PrngReg), Pre_Down3Ideal m →
    θ_run (Cert.Down3Ideal.defs (F := Ideal)) (onTc (τ := Cert.Down3Ideal.τ) (Cert.Down3Ideal.main (F := Ideal))) ⟨m, fun _ => 0, g⟩ (fun r => (∀ c : Dev Cert.Down3Ideal.nD,
      r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
      ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1)
      ∧ r.2.mem ((c.tc : Thread Cert.Down3Ideal.nD Cert.Down3Ideal.τ).loc Cert.Down3Ideal.main_arg2) = m ((c.tc : Thread Cert.Down3Ideal.nD Cert.Down3Ideal.τ).loc Cert.Down3Ideal.main_arg2))
      ∧ r.2.sem = fun _ => 0)

def quiescent_RefDown3Ideal [hRefDown3Ideal : Cert.RefDown3Ideal.Facts] : Prop :=
  ∀ (m : (ℓ : Loc Cert.RefDown3Ideal.nD Cert.RefDown3Ideal.τ Cert.RefDown3Ideal.sig) → Buf (Elt Ideal) ℓ) (g : Dev Cert.RefDown3Ideal.nD → PrngReg), Pre_RefDown3Ideal m →
    θ_run (Cert.RefDown3Ideal.defs (F := Ideal)) (onTc (τ := Cert.RefDown3Ideal.τ) (Cert.RefDown3Ideal.main (F := Ideal))) ⟨m, fun _ => 0, g⟩ (fun r => (∀ c : Dev Cert.RefDown3Ideal.nD,
      r.2.mem ((c.tc : Thread Cert.RefDown3Ideal.nD Cert.RefDown3Ideal.τ).loc Cert.RefDown3Ideal.main_arg0) = m ((c.tc : Thread Cert.RefDown3Ideal.nD Cert.RefDown3Ideal.τ).loc Cert.RefDown3Ideal.main_arg0)
      ∧ r.2.mem ((c.tc : Thread Cert.RefDown3Ideal.nD Cert.RefDown3Ideal.τ).loc Cert.RefDown3Ideal.main_arg1) = m ((c.tc : Thread Cert.RefDown3Ideal.nD Cert.RefDown3Ideal.τ).loc Cert.RefDown3Ideal.main_arg1)
      ∧ r.2.mem ((c.tc : Thread Cert.RefDown3Ideal.nD Cert.RefDown3Ideal.τ).loc Cert.RefDown3Ideal.main_arg2) = m ((c.tc : Thread Cert.RefDown3Ideal.nD Cert.RefDown3Ideal.τ).loc Cert.RefDown3Ideal.main_arg2))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ r.2.sem = fun _ => 0)

def quiescent_RefQkv0Ideal [hRefQkv0Ideal : Cert.RefQkv0Ideal.Facts] : Prop :=
  ∀ (m : (ℓ : Loc Cert.RefQkv0Ideal.nD Cert.RefQkv0Ideal.τ Cert.RefQkv0Ideal.sig) → Buf (Elt Ideal) ℓ) (g : Dev Cert.RefQkv0Ideal.nD → PrngReg), Pre_RefQkv0Ideal m →
    θ_run (Cert.RefQkv0Ideal.defs (F := Ideal)) (onTc (τ := Cert.RefQkv0Ideal.τ) (Cert.RefQkv0Ideal.main (F := Ideal))) ⟨m, fun _ => 0, g⟩ (fun r => (∀ c : Dev Cert.RefQkv0Ideal.nD,
      r.2.mem ((c.tc : Thread Cert.RefQkv0Ideal.nD Cert.RefQkv0Ideal.τ).loc Cert.RefQkv0Ideal.main_arg0) = m ((c.tc : Thread Cert.RefQkv0Ideal.nD Cert.RefQkv0Ideal.τ).loc Cert.RefQkv0Ideal.main_arg0)
      ∧ r.2.mem ((c.tc : Thread Cert.RefQkv0Ideal.nD Cert.RefQkv0Ideal.τ).loc Cert.RefQkv0Ideal.main_arg1) = m ((c.tc : Thread Cert.RefQkv0Ideal.nD Cert.RefQkv0Ideal.τ).loc Cert.RefQkv0Ideal.main_arg1))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_RefQkv1Ideal [hRefQkv1Ideal : Cert.RefQkv1Ideal.Facts] : Prop :=
  ∀ (m : (ℓ : Loc Cert.RefQkv1Ideal.nD Cert.RefQkv1Ideal.τ Cert.RefQkv1Ideal.sig) → Buf (Elt Ideal) ℓ) (g : Dev Cert.RefQkv1Ideal.nD → PrngReg), Pre_RefQkv1Ideal m →
    θ_run (Cert.RefQkv1Ideal.defs (F := Ideal)) (onTc (τ := Cert.RefQkv1Ideal.τ) (Cert.RefQkv1Ideal.main (F := Ideal))) ⟨m, fun _ => 0, g⟩ (fun r => (∀ c : Dev Cert.RefQkv1Ideal.nD,
      r.2.mem ((c.tc : Thread Cert.RefQkv1Ideal.nD Cert.RefQkv1Ideal.τ).loc Cert.RefQkv1Ideal.main_arg0) = m ((c.tc : Thread Cert.RefQkv1Ideal.nD Cert.RefQkv1Ideal.τ).loc Cert.RefQkv1Ideal.main_arg0)
      ∧ r.2.mem ((c.tc : Thread Cert.RefQkv1Ideal.nD Cert.RefQkv1Ideal.τ).loc Cert.RefQkv1Ideal.main_arg1) = m ((c.tc : Thread Cert.RefQkv1Ideal.nD Cert.RefQkv1Ideal.τ).loc Cert.RefQkv1Ideal.main_arg1))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2))
      ∧ r.2.sem = fun _ => 0)

def quiescent_RefOut0Ideal [hRefOut0Ideal : Cert.RefOut0Ideal.Facts] : Prop :=
  ∀ (m : (ℓ : Loc Cert.RefOut0Ideal.nD Cert.RefOut0Ideal.τ Cert.RefOut0Ideal.sig) → Buf (Elt Ideal) ℓ) (g : Dev Cert.RefOut0Ideal.nD → PrngReg), Pre_RefOut0Ideal m →
    θ_run (Cert.RefOut0Ideal.defs (F := Ideal)) (onTc (τ := Cert.RefOut0Ideal.τ) (Cert.RefOut0Ideal.main (F := Ideal))) ⟨m, fun _ => 0, g⟩ (fun r => (∀ c : Dev Cert.RefOut0Ideal.nD,
      r.2.mem ((c.tc : Thread Cert.RefOut0Ideal.nD Cert.RefOut0Ideal.τ).loc Cert.RefOut0Ideal.main_arg0) = m ((c.tc : Thread Cert.RefOut0Ideal.nD Cert.RefOut0Ideal.τ).loc Cert.RefOut0Ideal.main_arg0)
      ∧ r.2.mem ((c.tc : Thread Cert.RefOut0Ideal.nD Cert.RefOut0Ideal.τ).loc Cert.RefOut0Ideal.main_arg1) = m ((c.tc : Thread Cert.RefOut0Ideal.nD Cert.RefOut0Ideal.τ).loc Cert.RefOut0Ideal.main_arg1)
      ∧ r.2.mem ((c.tc : Thread Cert.RefOut0Ideal.nD Cert.RefOut0Ideal.τ).loc Cert.RefOut0Ideal.main_arg2) = m ((c.tc : Thread Cert.RefOut0Ideal.nD Cert.RefOut0Ideal.τ).loc Cert.RefOut0Ideal.main_arg2))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2))
      ∧ r.2.sem = fun _ => 0)

def quiescent_RefOut1Ideal [hRefOut1Ideal : Cert.RefOut1Ideal.Facts] : Prop :=
  ∀ (m : (ℓ : Loc Cert.RefOut1Ideal.nD Cert.RefOut1Ideal.τ Cert.RefOut1Ideal.sig) → Buf (Elt Ideal) ℓ) (g : Dev Cert.RefOut1Ideal.nD → PrngReg), Pre_RefOut1Ideal m →
    θ_run (Cert.RefOut1Ideal.defs (F := Ideal)) (onTc (τ := Cert.RefOut1Ideal.τ) (Cert.RefOut1Ideal.main (F := Ideal))) ⟨m, fun _ => 0, g⟩ (fun r => (∀ c : Dev Cert.RefOut1Ideal.nD,
      r.2.mem ((c.tc : Thread Cert.RefOut1Ideal.nD Cert.RefOut1Ideal.τ).loc Cert.RefOut1Ideal.main_arg0) = m ((c.tc : Thread Cert.RefOut1Ideal.nD Cert.RefOut1Ideal.τ).loc Cert.RefOut1Ideal.main_arg0)
      ∧ r.2.mem ((c.tc : Thread Cert.RefOut1Ideal.nD Cert.RefOut1Ideal.τ).loc Cert.RefOut1Ideal.main_arg1) = m ((c.tc : Thread Cert.RefOut1Ideal.nD Cert.RefOut1Ideal.τ).loc Cert.RefOut1Ideal.main_arg1)
      ∧ r.2.mem ((c.tc : Thread Cert.RefOut1Ideal.nD Cert.RefOut1Ideal.τ).loc Cert.RefOut1Ideal.main_arg2) = m ((c.tc : Thread Cert.RefOut1Ideal.nD Cert.RefOut1Ideal.τ).loc Cert.RefOut1Ideal.main_arg2))
      ∧ r.2.sem = fun _ => 0)

def quiescent_CfIn [hCfIn : Cert.CfIn.Facts] : Prop :=
  ∀ (m : (ℓ : Loc Cert.CfIn.nD Cert.CfIn.τ Cert.CfIn.sig) → Buf (Elt Bits) ℓ) (g : Dev Cert.CfIn.nD → PrngReg), Pre_CfIn m →
    θ_run (Cert.CfIn.defs (F := Bits)) (onTc (τ := Cert.CfIn.τ) (Cert.CfIn.main (F := Bits))) ⟨m, fun _ => 0, g⟩ (fun r => (∀ c : Dev Cert.CfIn.nD,
      r.2.mem ((c.tc : Thread Cert.CfIn.nD Cert.CfIn.τ).loc Cert.CfIn.main_arg0) = m ((c.tc : Thread Cert.CfIn.nD Cert.CfIn.τ).loc Cert.CfIn.main_arg0)
      ∧ r.2.mem ((c.tc : Thread Cert.CfIn.nD Cert.CfIn.τ).loc Cert.CfIn.main_arg1) = m ((c.tc : Thread Cert.CfIn.nD Cert.CfIn.τ).loc Cert.CfIn.main_arg1)
      ∧ r.2.mem ((c.tc : Thread Cert.CfIn.nD Cert.CfIn.τ).loc Cert.CfIn.main_arg2) = m ((c.tc : Thread Cert.CfIn.nD Cert.CfIn.τ).loc Cert.CfIn.main_arg2))
      ∧ r.2.sem = fun _ => 0)

def quiescent_CfInIdeal [hCfInIdeal : Cert.CfInIdeal.Facts] : Prop :=
  ∀ (m : (ℓ : Loc Cert.CfInIdeal.nD Cert.CfInIdeal.τ Cert.CfInIdeal.sig) → Buf (Elt Ideal) ℓ) (g : Dev Cert.CfInIdeal.nD → PrngReg), Pre_CfInIdeal m →
    θ_run (Cert.CfInIdeal.defs (F := Ideal)) (onTc (τ := Cert.CfInIdeal.τ) (Cert.CfInIdeal.main (F := Ideal))) ⟨m, fun _ => 0, g⟩ (fun r => (∀ c : Dev Cert.CfInIdeal.nD,
      r.2.mem ((c.tc : Thread Cert.CfInIdeal.nD Cert.CfInIdeal.τ).loc Cert.CfInIdeal.main_arg0) = m ((c.tc : Thread Cert.CfInIdeal.nD Cert.CfInIdeal.τ).loc Cert.CfInIdeal.main_arg0)
      ∧ r.2.mem ((c.tc : Thread Cert.CfInIdeal.nD Cert.CfInIdeal.τ).loc Cert.CfInIdeal.main_arg1) = m ((c.tc : Thread Cert.CfInIdeal.nD Cert.CfInIdeal.τ).loc Cert.CfInIdeal.main_arg1)
      ∧ r.2.mem ((c.tc : Thread Cert.CfInIdeal.nD Cert.CfInIdeal.τ).loc Cert.CfInIdeal.main_arg2) = m ((c.tc : Thread Cert.CfInIdeal.nD Cert.CfInIdeal.τ).loc Cert.CfInIdeal.main_arg2))
      ∧ r.2.sem = fun _ => 0)

def quiescent_RefCfInIdeal [hRefCfInIdeal : Cert.RefCfInIdeal.Facts] : Prop :=
  ∀ (m : (ℓ : Loc Cert.RefCfInIdeal.nD Cert.RefCfInIdeal.τ Cert.RefCfInIdeal.sig) → Buf (Elt Ideal) ℓ) (g : Dev Cert.RefCfInIdeal.nD → PrngReg), Pre_RefCfInIdeal m →
    θ_run (Cert.RefCfInIdeal.defs (F := Ideal)) (onTc (τ := Cert.RefCfInIdeal.τ) (Cert.RefCfInIdeal.main (F := Ideal))) ⟨m, fun _ => 0, g⟩ (fun r => (∀ c : Dev Cert.RefCfInIdeal.nD,
      r.2.mem ((c.tc : Thread Cert.RefCfInIdeal.nD Cert.RefCfInIdeal.τ).loc Cert.RefCfInIdeal.main_arg0) = m ((c.tc : Thread Cert.RefCfInIdeal.nD Cert.RefCfInIdeal.τ).loc Cert.RefCfInIdeal.main_arg0)
      ∧ r.2.mem ((c.tc : Thread Cert.RefCfInIdeal.nD Cert.RefCfInIdeal.τ).loc Cert.RefCfInIdeal.main_arg1) = m ((c.tc : Thread Cert.RefCfInIdeal.nD Cert.RefCfInIdeal.τ).loc Cert.RefCfInIdeal.main_arg1)
      ∧ r.2.mem ((c.tc : Thread Cert.RefCfInIdeal.nD Cert.RefCfInIdeal.τ).loc Cert.RefCfInIdeal.main_arg2) = m ((c.tc : Thread Cert.RefCfInIdeal.nD Cert.RefCfInIdeal.τ).loc Cert.RefCfInIdeal.main_arg2))
      ∧ r.2.sem = fun _ => 0)

def quiescent_CfOut [hCfOut : Cert.CfOut.Facts] : Prop :=
  ∀ (m : (ℓ : Loc Cert.CfOut.nD Cert.CfOut.τ Cert.CfOut.sig) → Buf (Elt Bits) ℓ) (g : Dev Cert.CfOut.nD → PrngReg), Pre_CfOut m →
    θ_run (Cert.CfOut.defs (F := Bits)) (onTc (τ := Cert.CfOut.τ) (Cert.CfOut.main (F := Bits))) ⟨m, fun _ => 0, g⟩ (fun r => (∀ c : Dev Cert.CfOut.nD,
      r.2.mem ((c.tc : Thread Cert.CfOut.nD Cert.CfOut.τ).loc Cert.CfOut.main_arg0) = m ((c.tc : Thread Cert.CfOut.nD Cert.CfOut.τ).loc Cert.CfOut.main_arg0)
      ∧ r.2.mem ((c.tc : Thread Cert.CfOut.nD Cert.CfOut.τ).loc Cert.CfOut.main_arg1) = m ((c.tc : Thread Cert.CfOut.nD Cert.CfOut.τ).loc Cert.CfOut.main_arg1)
      ∧ r.2.mem ((c.tc : Thread Cert.CfOut.nD Cert.CfOut.τ).loc Cert.CfOut.main_arg2) = m ((c.tc : Thread Cert.CfOut.nD Cert.CfOut.τ).loc Cert.CfOut.main_arg2)
      ∧ r.2.mem ((c.tc : Thread Cert.CfOut.nD Cert.CfOut.τ).loc Cert.CfOut.main_arg3) = m ((c.tc : Thread Cert.CfOut.nD Cert.CfOut.τ).loc Cert.CfOut.main_arg3))
      ∧ r.2.sem = fun _ => 0)

def quiescent_CfOutIdeal [hCfOutIdeal : Cert.CfOutIdeal.Facts] : Prop :=
  ∀ (m : (ℓ : Loc Cert.CfOutIdeal.nD Cert.CfOutIdeal.τ Cert.CfOutIdeal.sig) → Buf (Elt Ideal) ℓ) (g : Dev Cert.CfOutIdeal.nD → PrngReg), Pre_CfOutIdeal m →
    θ_run (Cert.CfOutIdeal.defs (F := Ideal)) (onTc (τ := Cert.CfOutIdeal.τ) (Cert.CfOutIdeal.main (F := Ideal))) ⟨m, fun _ => 0, g⟩ (fun r => (∀ c : Dev Cert.CfOutIdeal.nD,
      r.2.mem ((c.tc : Thread Cert.CfOutIdeal.nD Cert.CfOutIdeal.τ).loc Cert.CfOutIdeal.main_arg0) = m ((c.tc : Thread Cert.CfOutIdeal.nD Cert.CfOutIdeal.τ).loc Cert.CfOutIdeal.main_arg0)
      ∧ r.2.mem ((c.tc : Thread Cert.CfOutIdeal.nD Cert.CfOutIdeal.τ).loc Cert.CfOutIdeal.main_arg1) = m ((c.tc : Thread Cert.CfOutIdeal.nD Cert.CfOutIdeal.τ).loc Cert.CfOutIdeal.main_arg1)
      ∧ r.2.mem ((c.tc : Thread Cert.CfOutIdeal.nD Cert.CfOutIdeal.τ).loc Cert.CfOutIdeal.main_arg2) = m ((c.tc : Thread Cert.CfOutIdeal.nD Cert.CfOutIdeal.τ).loc Cert.CfOutIdeal.main_arg2)
      ∧ r.2.mem ((c.tc : Thread Cert.CfOutIdeal.nD Cert.CfOutIdeal.τ).loc Cert.CfOutIdeal.main_arg3) = m ((c.tc : Thread Cert.CfOutIdeal.nD Cert.CfOutIdeal.τ).loc Cert.CfOutIdeal.main_arg3))
      ∧ r.2.sem = fun _ => 0)

def quiescent_RefCfOutIdeal [hRefCfOutIdeal : Cert.RefCfOutIdeal.Facts] : Prop :=
  ∀ (m : (ℓ : Loc Cert.RefCfOutIdeal.nD Cert.RefCfOutIdeal.τ Cert.RefCfOutIdeal.sig) → Buf (Elt Ideal) ℓ) (g : Dev Cert.RefCfOutIdeal.nD → PrngReg), Pre_RefCfOutIdeal m →
    θ_run (Cert.RefCfOutIdeal.defs (F := Ideal)) (onTc (τ := Cert.RefCfOutIdeal.τ) (Cert.RefCfOutIdeal.main (F := Ideal))) ⟨m, fun _ => 0, g⟩ (fun r => (∀ c : Dev Cert.RefCfOutIdeal.nD,
      r.2.mem ((c.tc : Thread Cert.RefCfOutIdeal.nD Cert.RefCfOutIdeal.τ).loc Cert.RefCfOutIdeal.main_arg0) = m ((c.tc : Thread Cert.RefCfOutIdeal.nD Cert.RefCfOutIdeal.τ).loc Cert.RefCfOutIdeal.main_arg0)
      ∧ r.2.mem ((c.tc : Thread Cert.RefCfOutIdeal.nD Cert.RefCfOutIdeal.τ).loc Cert.RefCfOutIdeal.main_arg1) = m ((c.tc : Thread Cert.RefCfOutIdeal.nD Cert.RefCfOutIdeal.τ).loc Cert.RefCfOutIdeal.main_arg1)
      ∧ r.2.mem ((c.tc : Thread Cert.RefCfOutIdeal.nD Cert.RefCfOutIdeal.τ).loc Cert.RefCfOutIdeal.main_arg2) = m ((c.tc : Thread Cert.RefCfOutIdeal.nD Cert.RefCfOutIdeal.τ).loc Cert.RefCfOutIdeal.main_arg2)
      ∧ r.2.mem ((c.tc : Thread Cert.RefCfOutIdeal.nD Cert.RefCfOutIdeal.τ).loc Cert.RefCfOutIdeal.main_arg3) = m ((c.tc : Thread Cert.RefCfOutIdeal.nD Cert.RefCfOutIdeal.τ).loc Cert.RefCfOutIdeal.main_arg3))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_RefZIdeal [hRefZIdeal : Cert.RefZIdeal.Facts] : Prop :=
  ∀ (m : (ℓ : Loc Cert.RefZIdeal.nD Cert.RefZIdeal.τ Cert.RefZIdeal.sig) → Buf (Elt Ideal) ℓ) (g : Dev Cert.RefZIdeal.nD → PrngReg), Pre_RefZIdeal m →
    θ_run (Cert.RefZIdeal.defs (F := Ideal)) (onTc (τ := Cert.RefZIdeal.τ) (Cert.RefZIdeal.main (F := Ideal))) ⟨m, fun _ => 0, g⟩ (fun r => (∀ c : Dev Cert.RefZIdeal.nD,
      r.2.mem ((c.tc : Thread Cert.RefZIdeal.nD Cert.RefZIdeal.τ).loc Cert.RefZIdeal.main_arg0) = m ((c.tc : Thread Cert.RefZIdeal.nD Cert.RefZIdeal.τ).loc Cert.RefZIdeal.main_arg0)
      ∧ r.2.mem ((c.tc : Thread Cert.RefZIdeal.nD Cert.RefZIdeal.τ).loc Cert.RefZIdeal.main_arg1) = m ((c.tc : Thread Cert.RefZIdeal.nD Cert.RefZIdeal.τ).loc Cert.RefZIdeal.main_arg1))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ r.2.sem = fun _ => 0)

def quiescent_RefXbcIdeal [hRefXbcIdeal : Cert.RefXbcIdeal.Facts] : Prop :=
  ∀ (m : (ℓ : Loc Cert.RefXbcIdeal.nD Cert.RefXbcIdeal.τ Cert.RefXbcIdeal.sig) → Buf (Elt Ideal) ℓ) (g : Dev Cert.RefXbcIdeal.nD → PrngReg), Pre_RefXbcIdeal m →
    θ_run (Cert.RefXbcIdeal.defs (F := Ideal)) (onTc (τ := Cert.RefXbcIdeal.τ) (Cert.RefXbcIdeal.main (F := Ideal))) ⟨m, fun _ => 0, g⟩ (fun r => (∀ c : Dev Cert.RefXbcIdeal.nD,
      r.2.mem ((c.tc : Thread Cert.RefXbcIdeal.nD Cert.RefXbcIdeal.τ).loc Cert.RefXbcIdeal.main_arg0) = m ((c.tc : Thread Cert.RefXbcIdeal.nD Cert.RefXbcIdeal.τ).loc Cert.RefXbcIdeal.main_arg0)
      ∧ r.2.mem ((c.tc : Thread Cert.RefXbcIdeal.nD Cert.RefXbcIdeal.τ).loc Cert.RefXbcIdeal.main_arg1) = m ((c.tc : Thread Cert.RefXbcIdeal.nD Cert.RefXbcIdeal.τ).loc Cert.RefXbcIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_RefDtIdeal [hRefDtIdeal : Cert.RefDtIdeal.Facts] : Prop :=
  ∀ (m : (ℓ : Loc Cert.RefDtIdeal.nD Cert.RefDtIdeal.τ Cert.RefDtIdeal.sig) → Buf (Elt Ideal) ℓ) (g : Dev Cert.RefDtIdeal.nD → PrngReg), Pre_RefDtIdeal m →
    θ_run (Cert.RefDtIdeal.defs (F := Ideal)) (onTc (τ := Cert.RefDtIdeal.τ) (Cert.RefDtIdeal.main (F := Ideal))) ⟨m, fun _ => 0, g⟩ (fun r => (∀ c : Dev Cert.RefDtIdeal.nD,
      r.2.mem ((c.tc : Thread Cert.RefDtIdeal.nD Cert.RefDtIdeal.τ).loc Cert.RefDtIdeal.main_arg0) = m ((c.tc : Thread Cert.RefDtIdeal.nD Cert.RefDtIdeal.τ).loc Cert.RefDtIdeal.main_arg0)
      ∧ r.2.mem ((c.tc : Thread Cert.RefDtIdeal.nD Cert.RefDtIdeal.τ).loc Cert.RefDtIdeal.main_arg1) = m ((c.tc : Thread Cert.RefDtIdeal.nD Cert.RefDtIdeal.τ).loc Cert.RefDtIdeal.main_arg1))
      ∧ r.2.sem = fun _ => 0)

def quiescent_M2Out0 [hM2Out0 : Cert.M2Out0.Facts] : Prop :=
  ∀ (m : (ℓ : Loc Cert.M2Out0.nD Cert.M2Out0.τ Cert.M2Out0.sig) → Buf (Elt Bits) ℓ) (g : Dev Cert.M2Out0.nD → PrngReg), Pre_M2Out0 m →
    θ_run (Cert.M2Out0.defs (F := Bits)) (onTc (τ := Cert.M2Out0.τ) (Cert.M2Out0.main (F := Bits))) ⟨m, fun _ => 0, g⟩ (fun r => (∀ c : Dev Cert.M2Out0.nD,
      r.2.mem ((c.tc : Thread Cert.M2Out0.nD Cert.M2Out0.τ).loc Cert.M2Out0.main_arg0) = m ((c.tc : Thread Cert.M2Out0.nD Cert.M2Out0.τ).loc Cert.M2Out0.main_arg0)
      ∧ r.2.mem ((c.tc : Thread Cert.M2Out0.nD Cert.M2Out0.τ).loc Cert.M2Out0.main_arg1) = m ((c.tc : Thread Cert.M2Out0.nD Cert.M2Out0.τ).loc Cert.M2Out0.main_arg1)
      ∧ r.2.mem ((c.tc : Thread Cert.M2Out0.nD Cert.M2Out0.τ).loc Cert.M2Out0.main_arg2) = m ((c.tc : Thread Cert.M2Out0.nD Cert.M2Out0.τ).loc Cert.M2Out0.main_arg2))
      ∧ r.2.sem = fun _ => 0)

def quiescent_M2Out0Ideal [hM2Out0Ideal : Cert.M2Out0Ideal.Facts] : Prop :=
  ∀ (m : (ℓ : Loc Cert.M2Out0Ideal.nD Cert.M2Out0Ideal.τ Cert.M2Out0Ideal.sig) → Buf (Elt Ideal) ℓ) (g : Dev Cert.M2Out0Ideal.nD → PrngReg), Pre_M2Out0Ideal m →
    θ_run (Cert.M2Out0Ideal.defs (F := Ideal)) (onTc (τ := Cert.M2Out0Ideal.τ) (Cert.M2Out0Ideal.main (F := Ideal))) ⟨m, fun _ => 0, g⟩ (fun r => (∀ c : Dev Cert.M2Out0Ideal.nD,
      r.2.mem ((c.tc : Thread Cert.M2Out0Ideal.nD Cert.M2Out0Ideal.τ).loc Cert.M2Out0Ideal.main_arg0) = m ((c.tc : Thread Cert.M2Out0Ideal.nD Cert.M2Out0Ideal.τ).loc Cert.M2Out0Ideal.main_arg0)
      ∧ r.2.mem ((c.tc : Thread Cert.M2Out0Ideal.nD Cert.M2Out0Ideal.τ).loc Cert.M2Out0Ideal.main_arg1) = m ((c.tc : Thread Cert.M2Out0Ideal.nD Cert.M2Out0Ideal.τ).loc Cert.M2Out0Ideal.main_arg1)
      ∧ r.2.mem ((c.tc : Thread Cert.M2Out0Ideal.nD Cert.M2Out0Ideal.τ).loc Cert.M2Out0Ideal.main_arg2) = m ((c.tc : Thread Cert.M2Out0Ideal.nD Cert.M2Out0Ideal.τ).loc Cert.M2Out0Ideal.main_arg2))
      ∧ r.2.sem = fun _ => 0)

def quiescent_RefM2Out0Ideal [hRefM2Out0Ideal : Cert.RefM2Out0Ideal.Facts] : Prop :=
  ∀ (m : (ℓ : Loc Cert.RefM2Out0Ideal.nD Cert.RefM2Out0Ideal.τ Cert.RefM2Out0Ideal.sig) → Buf (Elt Ideal) ℓ) (g : Dev Cert.RefM2Out0Ideal.nD → PrngReg), Pre_RefM2Out0Ideal m →
    θ_run (Cert.RefM2Out0Ideal.defs (F := Ideal)) (onTc (τ := Cert.RefM2Out0Ideal.τ) (Cert.RefM2Out0Ideal.main (F := Ideal))) ⟨m, fun _ => 0, g⟩ (fun r => (∀ c : Dev Cert.RefM2Out0Ideal.nD,
      r.2.mem ((c.tc : Thread Cert.RefM2Out0Ideal.nD Cert.RefM2Out0Ideal.τ).loc Cert.RefM2Out0Ideal.main_arg0) = m ((c.tc : Thread Cert.RefM2Out0Ideal.nD Cert.RefM2Out0Ideal.τ).loc Cert.RefM2Out0Ideal.main_arg0)
      ∧ r.2.mem ((c.tc : Thread Cert.RefM2Out0Ideal.nD Cert.RefM2Out0Ideal.τ).loc Cert.RefM2Out0Ideal.main_arg1) = m ((c.tc : Thread Cert.RefM2Out0Ideal.nD Cert.RefM2Out0Ideal.τ).loc Cert.RefM2Out0Ideal.main_arg1)
      ∧ r.2.mem ((c.tc : Thread Cert.RefM2Out0Ideal.nD Cert.RefM2Out0Ideal.τ).loc Cert.RefM2Out0Ideal.main_arg2) = m ((c.tc : Thread Cert.RefM2Out0Ideal.nD Cert.RefM2Out0Ideal.τ).loc Cert.RefM2Out0Ideal.main_arg2))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_RefAdamQkvIdeal [hRefAdamQkvIdeal : Cert.RefAdamQkvIdeal.Facts] : Prop :=
  ∀ (m : (ℓ : Loc Cert.RefAdamQkvIdeal.nD Cert.RefAdamQkvIdeal.τ Cert.RefAdamQkvIdeal.sig) → Buf (Elt Ideal) ℓ) (g : Dev Cert.RefAdamQkvIdeal.nD → PrngReg), Pre_RefAdamQkvIdeal m →
    θ_run (Cert.RefAdamQkvIdeal.defs (F := Ideal)) (onTc (τ := Cert.RefAdamQkvIdeal.τ) (Cert.RefAdamQkvIdeal.main (F := Ideal))) ⟨m, fun _ => 0, g⟩ (fun r => (∀ c : Dev Cert.RefAdamQkvIdeal.nD,
      r.2.mem ((c.tc : Thread Cert.RefAdamQkvIdeal.nD Cert.RefAdamQkvIdeal.τ).loc Cert.RefAdamQkvIdeal.main_arg0) = m ((c.tc : Thread Cert.RefAdamQkvIdeal.nD Cert.RefAdamQkvIdeal.τ).loc Cert.RefAdamQkvIdeal.main_arg0)
      ∧ r.2.mem ((c.tc : Thread Cert.RefAdamQkvIdeal.nD Cert.RefAdamQkvIdeal.τ).loc Cert.RefAdamQkvIdeal.main_arg1) = m ((c.tc : Thread Cert.RefAdamQkvIdeal.nD Cert.RefAdamQkvIdeal.τ).loc Cert.RefAdamQkvIdeal.main_arg1)
      ∧ r.2.mem ((c.tc : Thread Cert.RefAdamQkvIdeal.nD Cert.RefAdamQkvIdeal.τ).loc Cert.RefAdamQkvIdeal.main_arg2) = m ((c.tc : Thread Cert.RefAdamQkvIdeal.nD Cert.RefAdamQkvIdeal.τ).loc Cert.RefAdamQkvIdeal.main_arg2)
      ∧ r.2.mem ((c.tc : Thread Cert.RefAdamQkvIdeal.nD Cert.RefAdamQkvIdeal.τ).loc Cert.RefAdamQkvIdeal.main_arg3) = m ((c.tc : Thread Cert.RefAdamQkvIdeal.nD Cert.RefAdamQkvIdeal.τ).loc Cert.RefAdamQkvIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_RefAdamOIdeal [hRefAdamOIdeal : Cert.RefAdamOIdeal.Facts] : Prop :=
  ∀ (m : (ℓ : Loc Cert.RefAdamOIdeal.nD Cert.RefAdamOIdeal.τ Cert.RefAdamOIdeal.sig) → Buf (Elt Ideal) ℓ) (g : Dev Cert.RefAdamOIdeal.nD → PrngReg), Pre_RefAdamOIdeal m →
    θ_run (Cert.RefAdamOIdeal.defs (F := Ideal)) (onTc (τ := Cert.RefAdamOIdeal.τ) (Cert.RefAdamOIdeal.main (F := Ideal))) ⟨m, fun _ => 0, g⟩ (fun r => (∀ c : Dev Cert.RefAdamOIdeal.nD,
      r.2.mem ((c.tc : Thread Cert.RefAdamOIdeal.nD Cert.RefAdamOIdeal.τ).loc Cert.RefAdamOIdeal.main_arg0) = m ((c.tc : Thread Cert.RefAdamOIdeal.nD Cert.RefAdamOIdeal.τ).loc Cert.RefAdamOIdeal.main_arg0)
      ∧ r.2.mem ((c.tc : Thread Cert.RefAdamOIdeal.nD Cert.RefAdamOIdeal.τ).loc Cert.RefAdamOIdeal.main_arg1) = m ((c.tc : Thread Cert.RefAdamOIdeal.nD Cert.RefAdamOIdeal.τ).loc Cert.RefAdamOIdeal.main_arg1)
      ∧ r.2.mem ((c.tc : Thread Cert.RefAdamOIdeal.nD Cert.RefAdamOIdeal.τ).loc Cert.RefAdamOIdeal.main_arg2) = m ((c.tc : Thread Cert.RefAdamOIdeal.nD Cert.RefAdamOIdeal.τ).loc Cert.RefAdamOIdeal.main_arg2)
      ∧ r.2.mem ((c.tc : Thread Cert.RefAdamOIdeal.nD Cert.RefAdamOIdeal.τ).loc Cert.RefAdamOIdeal.main_arg3) = m ((c.tc : Thread Cert.RefAdamOIdeal.nD Cert.RefAdamOIdeal.τ).loc Cert.RefAdamOIdeal.main_arg3))
      ∧ r.2.sem = fun _ => 0)

def quiescent_AdamCfIn [hAdamCfIn : Cert.AdamCfIn.Facts] : Prop :=
  ∀ (m : (ℓ : Loc Cert.AdamCfIn.nD Cert.AdamCfIn.τ Cert.AdamCfIn.sig) → Buf (Elt Bits) ℓ) (g : Dev Cert.AdamCfIn.nD → PrngReg), Pre_AdamCfIn m →
    θ_run (Cert.AdamCfIn.defs (F := Bits)) (onTc (τ := Cert.AdamCfIn.τ) (Cert.AdamCfIn.main (F := Bits))) ⟨m, fun _ => 0, g⟩ (fun r => (∀ c : Dev Cert.AdamCfIn.nD,
      r.2.mem ((c.tc : Thread Cert.AdamCfIn.nD Cert.AdamCfIn.τ).loc Cert.AdamCfIn.main_arg0) = m ((c.tc : Thread Cert.AdamCfIn.nD Cert.AdamCfIn.τ).loc Cert.AdamCfIn.main_arg0)
      ∧ r.2.mem ((c.tc : Thread Cert.AdamCfIn.nD Cert.AdamCfIn.τ).loc Cert.AdamCfIn.main_arg1) = m ((c.tc : Thread Cert.AdamCfIn.nD Cert.AdamCfIn.τ).loc Cert.AdamCfIn.main_arg1)
      ∧ r.2.mem ((c.tc : Thread Cert.AdamCfIn.nD Cert.AdamCfIn.τ).loc Cert.AdamCfIn.main_arg2) = m ((c.tc : Thread Cert.AdamCfIn.nD Cert.AdamCfIn.τ).loc Cert.AdamCfIn.main_arg2)
      ∧ r.2.mem ((c.tc : Thread Cert.AdamCfIn.nD Cert.AdamCfIn.τ).loc Cert.AdamCfIn.main_arg3) = m ((c.tc : Thread Cert.AdamCfIn.nD Cert.AdamCfIn.τ).loc Cert.AdamCfIn.main_arg3))
      ∧ r.2.sem = fun _ => 0)

def quiescent_AdamCfInIdeal [hAdamCfInIdeal : Cert.AdamCfInIdeal.Facts] : Prop :=
  ∀ (m : (ℓ : Loc Cert.AdamCfInIdeal.nD Cert.AdamCfInIdeal.τ Cert.AdamCfInIdeal.sig) → Buf (Elt Ideal) ℓ) (g : Dev Cert.AdamCfInIdeal.nD → PrngReg), Pre_AdamCfInIdeal m →
    θ_run (Cert.AdamCfInIdeal.defs (F := Ideal)) (onTc (τ := Cert.AdamCfInIdeal.τ) (Cert.AdamCfInIdeal.main (F := Ideal))) ⟨m, fun _ => 0, g⟩ (fun r => (∀ c : Dev Cert.AdamCfInIdeal.nD,
      r.2.mem ((c.tc : Thread Cert.AdamCfInIdeal.nD Cert.AdamCfInIdeal.τ).loc Cert.AdamCfInIdeal.main_arg0) = m ((c.tc : Thread Cert.AdamCfInIdeal.nD Cert.AdamCfInIdeal.τ).loc Cert.AdamCfInIdeal.main_arg0)
      ∧ r.2.mem ((c.tc : Thread Cert.AdamCfInIdeal.nD Cert.AdamCfInIdeal.τ).loc Cert.AdamCfInIdeal.main_arg1) = m ((c.tc : Thread Cert.AdamCfInIdeal.nD Cert.AdamCfInIdeal.τ).loc Cert.AdamCfInIdeal.main_arg1)
      ∧ r.2.mem ((c.tc : Thread Cert.AdamCfInIdeal.nD Cert.AdamCfInIdeal.τ).loc Cert.AdamCfInIdeal.main_arg2) = m ((c.tc : Thread Cert.AdamCfInIdeal.nD Cert.AdamCfInIdeal.τ).loc Cert.AdamCfInIdeal.main_arg2)
      ∧ r.2.mem ((c.tc : Thread Cert.AdamCfInIdeal.nD Cert.AdamCfInIdeal.τ).loc Cert.AdamCfInIdeal.main_arg3) = m ((c.tc : Thread Cert.AdamCfInIdeal.nD Cert.AdamCfInIdeal.τ).loc Cert.AdamCfInIdeal.main_arg3))
      ∧ r.2.sem = fun _ => 0)

def quiescent_RefAdamCfInIdeal [hRefAdamCfInIdeal : Cert.RefAdamCfInIdeal.Facts] : Prop :=
  ∀ (m : (ℓ : Loc Cert.RefAdamCfInIdeal.nD Cert.RefAdamCfInIdeal.τ Cert.RefAdamCfInIdeal.sig) → Buf (Elt Ideal) ℓ) (g : Dev Cert.RefAdamCfInIdeal.nD → PrngReg), Pre_RefAdamCfInIdeal m →
    θ_run (Cert.RefAdamCfInIdeal.defs (F := Ideal)) (onTc (τ := Cert.RefAdamCfInIdeal.τ) (Cert.RefAdamCfInIdeal.main (F := Ideal))) ⟨m, fun _ => 0, g⟩ (fun r => (∀ c : Dev Cert.RefAdamCfInIdeal.nD,
      r.2.mem ((c.tc : Thread Cert.RefAdamCfInIdeal.nD Cert.RefAdamCfInIdeal.τ).loc Cert.RefAdamCfInIdeal.main_arg0) = m ((c.tc : Thread Cert.RefAdamCfInIdeal.nD Cert.RefAdamCfInIdeal.τ).loc Cert.RefAdamCfInIdeal.main_arg0)
      ∧ r.2.mem ((c.tc : Thread Cert.RefAdamCfInIdeal.nD Cert.RefAdamCfInIdeal.τ).loc Cert.RefAdamCfInIdeal.main_arg1) = m ((c.tc : Thread Cert.RefAdamCfInIdeal.nD Cert.RefAdamCfInIdeal.τ).loc Cert.RefAdamCfInIdeal.main_arg1)
      ∧ r.2.mem ((c.tc : Thread Cert.RefAdamCfInIdeal.nD Cert.RefAdamCfInIdeal.τ).loc Cert.RefAdamCfInIdeal.main_arg2) = m ((c.tc : Thread Cert.RefAdamCfInIdeal.nD Cert.RefAdamCfInIdeal.τ).loc Cert.RefAdamCfInIdeal.main_arg2)
      ∧ r.2.mem ((c.tc : Thread Cert.RefAdamCfInIdeal.nD Cert.RefAdamCfInIdeal.τ).loc Cert.RefAdamCfInIdeal.main_arg3) = m ((c.tc : Thread Cert.RefAdamCfInIdeal.nD Cert.RefAdamCfInIdeal.τ).loc Cert.RefAdamCfInIdeal.main_arg3))
      ∧ r.2.sem = fun _ => 0)

def quiescent_AdamCfOut [hAdamCfOut : Cert.AdamCfOut.Facts] : Prop :=
  ∀ (m : (ℓ : Loc Cert.AdamCfOut.nD Cert.AdamCfOut.τ Cert.AdamCfOut.sig) → Buf (Elt Bits) ℓ) (g : Dev Cert.AdamCfOut.nD → PrngReg), Pre_AdamCfOut m →
    θ_run (Cert.AdamCfOut.defs (F := Bits)) (onTc (τ := Cert.AdamCfOut.τ) (Cert.AdamCfOut.main (F := Bits))) ⟨m, fun _ => 0, g⟩ (fun r => (∀ c : Dev Cert.AdamCfOut.nD,
      r.2.mem ((c.tc : Thread Cert.AdamCfOut.nD Cert.AdamCfOut.τ).loc Cert.AdamCfOut.main_arg0) = m ((c.tc : Thread Cert.AdamCfOut.nD Cert.AdamCfOut.τ).loc Cert.AdamCfOut.main_arg0)
      ∧ r.2.mem ((c.tc : Thread Cert.AdamCfOut.nD Cert.AdamCfOut.τ).loc Cert.AdamCfOut.main_arg1) = m ((c.tc : Thread Cert.AdamCfOut.nD Cert.AdamCfOut.τ).loc Cert.AdamCfOut.main_arg1)
      ∧ r.2.mem ((c.tc : Thread Cert.AdamCfOut.nD Cert.AdamCfOut.τ).loc Cert.AdamCfOut.main_arg2) = m ((c.tc : Thread Cert.AdamCfOut.nD Cert.AdamCfOut.τ).loc Cert.AdamCfOut.main_arg2)
      ∧ r.2.mem ((c.tc : Thread Cert.AdamCfOut.nD Cert.AdamCfOut.τ).loc Cert.AdamCfOut.main_arg3) = m ((c.tc : Thread Cert.AdamCfOut.nD Cert.AdamCfOut.τ).loc Cert.AdamCfOut.main_arg3))
      ∧ r.2.sem = fun _ => 0)

def quiescent_AdamCfOutIdeal [hAdamCfOutIdeal : Cert.AdamCfOutIdeal.Facts] : Prop :=
  ∀ (m : (ℓ : Loc Cert.AdamCfOutIdeal.nD Cert.AdamCfOutIdeal.τ Cert.AdamCfOutIdeal.sig) → Buf (Elt Ideal) ℓ) (g : Dev Cert.AdamCfOutIdeal.nD → PrngReg), Pre_AdamCfOutIdeal m →
    θ_run (Cert.AdamCfOutIdeal.defs (F := Ideal)) (onTc (τ := Cert.AdamCfOutIdeal.τ) (Cert.AdamCfOutIdeal.main (F := Ideal))) ⟨m, fun _ => 0, g⟩ (fun r => (∀ c : Dev Cert.AdamCfOutIdeal.nD,
      r.2.mem ((c.tc : Thread Cert.AdamCfOutIdeal.nD Cert.AdamCfOutIdeal.τ).loc Cert.AdamCfOutIdeal.main_arg0) = m ((c.tc : Thread Cert.AdamCfOutIdeal.nD Cert.AdamCfOutIdeal.τ).loc Cert.AdamCfOutIdeal.main_arg0)
      ∧ r.2.mem ((c.tc : Thread Cert.AdamCfOutIdeal.nD Cert.AdamCfOutIdeal.τ).loc Cert.AdamCfOutIdeal.main_arg1) = m ((c.tc : Thread Cert.AdamCfOutIdeal.nD Cert.AdamCfOutIdeal.τ).loc Cert.AdamCfOutIdeal.main_arg1)
      ∧ r.2.mem ((c.tc : Thread Cert.AdamCfOutIdeal.nD Cert.AdamCfOutIdeal.τ).loc Cert.AdamCfOutIdeal.main_arg2) = m ((c.tc : Thread Cert.AdamCfOutIdeal.nD Cert.AdamCfOutIdeal.τ).loc Cert.AdamCfOutIdeal.main_arg2)
      ∧ r.2.mem ((c.tc : Thread Cert.AdamCfOutIdeal.nD Cert.AdamCfOutIdeal.τ).loc Cert.AdamCfOutIdeal.main_arg3) = m ((c.tc : Thread Cert.AdamCfOutIdeal.nD Cert.AdamCfOutIdeal.τ).loc Cert.AdamCfOutIdeal.main_arg3))
      ∧ r.2.sem = fun _ => 0)

def quiescent_RefAdamCfOutIdeal [hRefAdamCfOutIdeal : Cert.RefAdamCfOutIdeal.Facts] : Prop :=
  ∀ (m : (ℓ : Loc Cert.RefAdamCfOutIdeal.nD Cert.RefAdamCfOutIdeal.τ Cert.RefAdamCfOutIdeal.sig) → Buf (Elt Ideal) ℓ) (g : Dev Cert.RefAdamCfOutIdeal.nD → PrngReg), Pre_RefAdamCfOutIdeal m →
    θ_run (Cert.RefAdamCfOutIdeal.defs (F := Ideal)) (onTc (τ := Cert.RefAdamCfOutIdeal.τ) (Cert.RefAdamCfOutIdeal.main (F := Ideal))) ⟨m, fun _ => 0, g⟩ (fun r => (∀ c : Dev Cert.RefAdamCfOutIdeal.nD,
      r.2.mem ((c.tc : Thread Cert.RefAdamCfOutIdeal.nD Cert.RefAdamCfOutIdeal.τ).loc Cert.RefAdamCfOutIdeal.main_arg0) = m ((c.tc : Thread Cert.RefAdamCfOutIdeal.nD Cert.RefAdamCfOutIdeal.τ).loc Cert.RefAdamCfOutIdeal.main_arg0)
      ∧ r.2.mem ((c.tc : Thread Cert.RefAdamCfOutIdeal.nD Cert.RefAdamCfOutIdeal.τ).loc Cert.RefAdamCfOutIdeal.main_arg1) = m ((c.tc : Thread Cert.RefAdamCfOutIdeal.nD Cert.RefAdamCfOutIdeal.τ).loc Cert.RefAdamCfOutIdeal.main_arg1)
      ∧ r.2.mem ((c.tc : Thread Cert.RefAdamCfOutIdeal.nD Cert.RefAdamCfOutIdeal.τ).loc Cert.RefAdamCfOutIdeal.main_arg2) = m ((c.tc : Thread Cert.RefAdamCfOutIdeal.nD Cert.RefAdamCfOutIdeal.τ).loc Cert.RefAdamCfOutIdeal.main_arg2)
      ∧ r.2.mem ((c.tc : Thread Cert.RefAdamCfOutIdeal.nD Cert.RefAdamCfOutIdeal.τ).loc Cert.RefAdamCfOutIdeal.main_arg3) = m ((c.tc : Thread Cert.RefAdamCfOutIdeal.nD Cert.RefAdamCfOutIdeal.τ).loc Cert.RefAdamCfOutIdeal.main_arg3))
      ∧ r.2.sem = fun _ => 0)

def quiescent_AdamM2In [hAdamM2In : Cert.AdamM2In.Facts] : Prop :=
  ∀ (m : (ℓ : Loc Cert.AdamM2In.nD Cert.AdamM2In.τ Cert.AdamM2In.sig) → Buf (Elt Bits) ℓ) (g : Dev Cert.AdamM2In.nD → PrngReg), Pre_AdamM2In m →
    θ_run (Cert.AdamM2In.defs (F := Bits)) (onTc (τ := Cert.AdamM2In.τ) (Cert.AdamM2In.main (F := Bits))) ⟨m, fun _ => 0, g⟩ (fun r => (∀ c : Dev Cert.AdamM2In.nD,
      r.2.mem ((c.tc : Thread Cert.AdamM2In.nD Cert.AdamM2In.τ).loc Cert.AdamM2In.main_arg0) = m ((c.tc : Thread Cert.AdamM2In.nD Cert.AdamM2In.τ).loc Cert.AdamM2In.main_arg0)
      ∧ r.2.mem ((c.tc : Thread Cert.AdamM2In.nD Cert.AdamM2In.τ).loc Cert.AdamM2In.main_arg1) = m ((c.tc : Thread Cert.AdamM2In.nD Cert.AdamM2In.τ).loc Cert.AdamM2In.main_arg1)
      ∧ r.2.mem ((c.tc : Thread Cert.AdamM2In.nD Cert.AdamM2In.τ).loc Cert.AdamM2In.main_arg2) = m ((c.tc : Thread Cert.AdamM2In.nD Cert.AdamM2In.τ).loc Cert.AdamM2In.main_arg2)
      ∧ r.2.mem ((c.tc : Thread Cert.AdamM2In.nD Cert.AdamM2In.τ).loc Cert.AdamM2In.main_arg3) = m ((c.tc : Thread Cert.AdamM2In.nD Cert.AdamM2In.τ).loc Cert.AdamM2In.main_arg3))
      ∧ r.2.sem = fun _ => 0)

def quiescent_AdamM2InIdeal [hAdamM2InIdeal : Cert.AdamM2InIdeal.Facts] : Prop :=
  ∀ (m : (ℓ : Loc Cert.AdamM2InIdeal.nD Cert.AdamM2InIdeal.τ Cert.AdamM2InIdeal.sig) → Buf (Elt Ideal) ℓ) (g : Dev Cert.AdamM2InIdeal.nD → PrngReg), Pre_AdamM2InIdeal m →
    θ_run (Cert.AdamM2InIdeal.defs (F := Ideal)) (onTc (τ := Cert.AdamM2InIdeal.τ) (Cert.AdamM2InIdeal.main (F := Ideal))) ⟨m, fun _ => 0, g⟩ (fun r => (∀ c : Dev Cert.AdamM2InIdeal.nD,
      r.2.mem ((c.tc : Thread Cert.AdamM2InIdeal.nD Cert.AdamM2InIdeal.τ).loc Cert.AdamM2InIdeal.main_arg0) = m ((c.tc : Thread Cert.AdamM2InIdeal.nD Cert.AdamM2InIdeal.τ).loc Cert.AdamM2InIdeal.main_arg0)
      ∧ r.2.mem ((c.tc : Thread Cert.AdamM2InIdeal.nD Cert.AdamM2InIdeal.τ).loc Cert.AdamM2InIdeal.main_arg1) = m ((c.tc : Thread Cert.AdamM2InIdeal.nD Cert.AdamM2InIdeal.τ).loc Cert.AdamM2InIdeal.main_arg1)
      ∧ r.2.mem ((c.tc : Thread Cert.AdamM2InIdeal.nD Cert.AdamM2InIdeal.τ).loc Cert.AdamM2InIdeal.main_arg2) = m ((c.tc : Thread Cert.AdamM2InIdeal.nD Cert.AdamM2InIdeal.τ).loc Cert.AdamM2InIdeal.main_arg2)
      ∧ r.2.mem ((c.tc : Thread Cert.AdamM2InIdeal.nD Cert.AdamM2InIdeal.τ).loc Cert.AdamM2InIdeal.main_arg3) = m ((c.tc : Thread Cert.AdamM2InIdeal.nD Cert.AdamM2InIdeal.τ).loc Cert.AdamM2InIdeal.main_arg3))
      ∧ r.2.sem = fun _ => 0)

def quiescent_RefAdamM2InIdeal [hRefAdamM2InIdeal : Cert.RefAdamM2InIdeal.Facts] : Prop :=
  ∀ (m : (ℓ : Loc Cert.RefAdamM2InIdeal.nD Cert.RefAdamM2InIdeal.τ Cert.RefAdamM2InIdeal.sig) → Buf (Elt Ideal) ℓ) (g : Dev Cert.RefAdamM2InIdeal.nD → PrngReg), Pre_RefAdamM2InIdeal m →
    θ_run (Cert.RefAdamM2InIdeal.defs (F := Ideal)) (onTc (τ := Cert.RefAdamM2InIdeal.τ) (Cert.RefAdamM2InIdeal.main (F := Ideal))) ⟨m, fun _ => 0, g⟩ (fun r => (∀ c : Dev Cert.RefAdamM2InIdeal.nD,
      r.2.mem ((c.tc : Thread Cert.RefAdamM2InIdeal.nD Cert.RefAdamM2InIdeal.τ).loc Cert.RefAdamM2InIdeal.main_arg0) = m ((c.tc : Thread Cert.RefAdamM2InIdeal.nD Cert.RefAdamM2InIdeal.τ).loc Cert.RefAdamM2InIdeal.main_arg0)
      ∧ r.2.mem ((c.tc : Thread Cert.RefAdamM2InIdeal.nD Cert.RefAdamM2InIdeal.τ).loc Cert.RefAdamM2InIdeal.main_arg1) = m ((c.tc : Thread Cert.RefAdamM2InIdeal.nD Cert.RefAdamM2InIdeal.τ).loc Cert.RefAdamM2InIdeal.main_arg1)
      ∧ r.2.mem ((c.tc : Thread Cert.RefAdamM2InIdeal.nD Cert.RefAdamM2InIdeal.τ).loc Cert.RefAdamM2InIdeal.main_arg2) = m ((c.tc : Thread Cert.RefAdamM2InIdeal.nD Cert.RefAdamM2InIdeal.τ).loc Cert.RefAdamM2InIdeal.main_arg2)
      ∧ r.2.mem ((c.tc : Thread Cert.RefAdamM2InIdeal.nD Cert.RefAdamM2InIdeal.τ).loc Cert.RefAdamM2InIdeal.main_arg3) = m ((c.tc : Thread Cert.RefAdamM2InIdeal.nD Cert.RefAdamM2InIdeal.τ).loc Cert.RefAdamM2InIdeal.main_arg3))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_RefAdamMlpIdeal [hRefAdamMlpIdeal : Cert.RefAdamMlpIdeal.Facts] : Prop :=
  ∀ (m : (ℓ : Loc Cert.RefAdamMlpIdeal.nD Cert.RefAdamMlpIdeal.τ Cert.RefAdamMlpIdeal.sig) → Buf (Elt Ideal) ℓ) (g : Dev Cert.RefAdamMlpIdeal.nD → PrngReg), Pre_RefAdamMlpIdeal m →
    θ_run (Cert.RefAdamMlpIdeal.defs (F := Ideal)) (onTc (τ := Cert.RefAdamMlpIdeal.τ) (Cert.RefAdamMlpIdeal.main (F := Ideal))) ⟨m, fun _ => 0, g⟩ (fun r => (∀ c : Dev Cert.RefAdamMlpIdeal.nD,
      r.2.mem ((c.tc : Thread Cert.RefAdamMlpIdeal.nD Cert.RefAdamMlpIdeal.τ).loc Cert.RefAdamMlpIdeal.main_arg0) = m ((c.tc : Thread Cert.RefAdamMlpIdeal.nD Cert.RefAdamMlpIdeal.τ).loc Cert.RefAdamMlpIdeal.main_arg0)
      ∧ r.2.mem ((c.tc : Thread Cert.RefAdamMlpIdeal.nD Cert.RefAdamMlpIdeal.τ).loc Cert.RefAdamMlpIdeal.main_arg1) = m ((c.tc : Thread Cert.RefAdamMlpIdeal.nD Cert.RefAdamMlpIdeal.τ).loc Cert.RefAdamMlpIdeal.main_arg1)
      ∧ r.2.mem ((c.tc : Thread Cert.RefAdamMlpIdeal.nD Cert.RefAdamMlpIdeal.τ).loc Cert.RefAdamMlpIdeal.main_arg2) = m ((c.tc : Thread Cert.RefAdamMlpIdeal.nD Cert.RefAdamMlpIdeal.τ).loc Cert.RefAdamMlpIdeal.main_arg2)
      ∧ r.2.mem ((c.tc : Thread Cert.RefAdamMlpIdeal.nD Cert.RefAdamMlpIdeal.τ).loc Cert.RefAdamMlpIdeal.main_arg3) = m ((c.tc : Thread Cert.RefAdamMlpIdeal.nD Cert.RefAdamMlpIdeal.τ).loc Cert.RefAdamMlpIdeal.main_arg3))
      ∧ r.2.sem = fun _ => 0)

def quiescent_AdamCfConv [hAdamCfConv : Cert.AdamCfConv.Facts] : Prop :=
  ∀ (m : (ℓ : Loc Cert.AdamCfConv.nD Cert.AdamCfConv.τ Cert.AdamCfConv.sig) → Buf (Elt Bits) ℓ) (g : Dev Cert.AdamCfConv.nD → PrngReg), Pre_AdamCfConv m →
    θ_run (Cert.AdamCfConv.defs (F := Bits)) (onTc (τ := Cert.AdamCfConv.τ) (Cert.AdamCfConv.main (F := Bits))) ⟨m, fun _ => 0, g⟩ (fun r => (∀ c : Dev Cert.AdamCfConv.nD,
      r.2.mem ((c.tc : Thread Cert.AdamCfConv.nD Cert.AdamCfConv.τ).loc Cert.AdamCfConv.main_arg0) = m ((c.tc : Thread Cert.AdamCfConv.nD Cert.AdamCfConv.τ).loc Cert.AdamCfConv.main_arg0)
      ∧ r.2.mem ((c.tc : Thread Cert.AdamCfConv.nD Cert.AdamCfConv.τ).loc Cert.AdamCfConv.main_arg1) = m ((c.tc : Thread Cert.AdamCfConv.nD Cert.AdamCfConv.τ).loc Cert.AdamCfConv.main_arg1)
      ∧ r.2.mem ((c.tc : Thread Cert.AdamCfConv.nD Cert.AdamCfConv.τ).loc Cert.AdamCfConv.main_arg2) = m ((c.tc : Thread Cert.AdamCfConv.nD Cert.AdamCfConv.τ).loc Cert.AdamCfConv.main_arg2)
      ∧ r.2.mem ((c.tc : Thread Cert.AdamCfConv.nD Cert.AdamCfConv.τ).loc Cert.AdamCfConv.main_arg3) = m ((c.tc : Thread Cert.AdamCfConv.nD Cert.AdamCfConv.τ).loc Cert.AdamCfConv.main_arg3))
      ∧ r.2.sem = fun _ => 0)

def quiescent_AdamCfConvIdeal [hAdamCfConvIdeal : Cert.AdamCfConvIdeal.Facts] : Prop :=
  ∀ (m : (ℓ : Loc Cert.AdamCfConvIdeal.nD Cert.AdamCfConvIdeal.τ Cert.AdamCfConvIdeal.sig) → Buf (Elt Ideal) ℓ) (g : Dev Cert.AdamCfConvIdeal.nD → PrngReg), Pre_AdamCfConvIdeal m →
    θ_run (Cert.AdamCfConvIdeal.defs (F := Ideal)) (onTc (τ := Cert.AdamCfConvIdeal.τ) (Cert.AdamCfConvIdeal.main (F := Ideal))) ⟨m, fun _ => 0, g⟩ (fun r => (∀ c : Dev Cert.AdamCfConvIdeal.nD,
      r.2.mem ((c.tc : Thread Cert.AdamCfConvIdeal.nD Cert.AdamCfConvIdeal.τ).loc Cert.AdamCfConvIdeal.main_arg0) = m ((c.tc : Thread Cert.AdamCfConvIdeal.nD Cert.AdamCfConvIdeal.τ).loc Cert.AdamCfConvIdeal.main_arg0)
      ∧ r.2.mem ((c.tc : Thread Cert.AdamCfConvIdeal.nD Cert.AdamCfConvIdeal.τ).loc Cert.AdamCfConvIdeal.main_arg1) = m ((c.tc : Thread Cert.AdamCfConvIdeal.nD Cert.AdamCfConvIdeal.τ).loc Cert.AdamCfConvIdeal.main_arg1)
      ∧ r.2.mem ((c.tc : Thread Cert.AdamCfConvIdeal.nD Cert.AdamCfConvIdeal.τ).loc Cert.AdamCfConvIdeal.main_arg2) = m ((c.tc : Thread Cert.AdamCfConvIdeal.nD Cert.AdamCfConvIdeal.τ).loc Cert.AdamCfConvIdeal.main_arg2)
      ∧ r.2.mem ((c.tc : Thread Cert.AdamCfConvIdeal.nD Cert.AdamCfConvIdeal.τ).loc Cert.AdamCfConvIdeal.main_arg3) = m ((c.tc : Thread Cert.AdamCfConvIdeal.nD Cert.AdamCfConvIdeal.τ).loc Cert.AdamCfConvIdeal.main_arg3))
      ∧ r.2.sem = fun _ => 0)

def quiescent_RefAdamCfConvIdeal [hRefAdamCfConvIdeal : Cert.RefAdamCfConvIdeal.Facts] : Prop :=
  ∀ (m : (ℓ : Loc Cert.RefAdamCfConvIdeal.nD Cert.RefAdamCfConvIdeal.τ Cert.RefAdamCfConvIdeal.sig) → Buf (Elt Ideal) ℓ) (g : Dev Cert.RefAdamCfConvIdeal.nD → PrngReg), Pre_RefAdamCfConvIdeal m →
    θ_run (Cert.RefAdamCfConvIdeal.defs (F := Ideal)) (onTc (τ := Cert.RefAdamCfConvIdeal.τ) (Cert.RefAdamCfConvIdeal.main (F := Ideal))) ⟨m, fun _ => 0, g⟩ (fun r => (∀ c : Dev Cert.RefAdamCfConvIdeal.nD,
      r.2.mem ((c.tc : Thread Cert.RefAdamCfConvIdeal.nD Cert.RefAdamCfConvIdeal.τ).loc Cert.RefAdamCfConvIdeal.main_arg0) = m ((c.tc : Thread Cert.RefAdamCfConvIdeal.nD Cert.RefAdamCfConvIdeal.τ).loc Cert.RefAdamCfConvIdeal.main_arg0)
      ∧ r.2.mem ((c.tc : Thread Cert.RefAdamCfConvIdeal.nD Cert.RefAdamCfConvIdeal.τ).loc Cert.RefAdamCfConvIdeal.main_arg1) = m ((c.tc : Thread Cert.RefAdamCfConvIdeal.nD Cert.RefAdamCfConvIdeal.τ).loc Cert.RefAdamCfConvIdeal.main_arg1)
      ∧ r.2.mem ((c.tc : Thread Cert.RefAdamCfConvIdeal.nD Cert.RefAdamCfConvIdeal.τ).loc Cert.RefAdamCfConvIdeal.main_arg2) = m ((c.tc : Thread Cert.RefAdamCfConvIdeal.nD Cert.RefAdamCfConvIdeal.τ).loc Cert.RefAdamCfConvIdeal.main_arg2)
      ∧ r.2.mem ((c.tc : Thread Cert.RefAdamCfConvIdeal.nD Cert.RefAdamCfConvIdeal.τ).loc Cert.RefAdamCfConvIdeal.main_arg3) = m ((c.tc : Thread Cert.RefAdamCfConvIdeal.nD Cert.RefAdamCfConvIdeal.τ).loc Cert.RefAdamCfConvIdeal.main_arg3))
      ∧ r.2.sem = fun _ => 0)

def quiescent_AdamM2Conv [hAdamM2Conv : Cert.AdamM2Conv.Facts] : Prop :=
  ∀ (m : (ℓ : Loc Cert.AdamM2Conv.nD Cert.AdamM2Conv.τ Cert.AdamM2Conv.sig) → Buf (Elt Bits) ℓ) (g : Dev Cert.AdamM2Conv.nD → PrngReg), Pre_AdamM2Conv m →
    θ_run (Cert.AdamM2Conv.defs (F := Bits)) (onTc (τ := Cert.AdamM2Conv.τ) (Cert.AdamM2Conv.main (F := Bits))) ⟨m, fun _ => 0, g⟩ (fun r => (∀ c : Dev Cert.AdamM2Conv.nD,
      r.2.mem ((c.tc : Thread Cert.AdamM2Conv.nD Cert.AdamM2Conv.τ).loc Cert.AdamM2Conv.main_arg0) = m ((c.tc : Thread Cert.AdamM2Conv.nD Cert.AdamM2Conv.τ).loc Cert.AdamM2Conv.main_arg0)
      ∧ r.2.mem ((c.tc : Thread Cert.AdamM2Conv.nD Cert.AdamM2Conv.τ).loc Cert.AdamM2Conv.main_arg1) = m ((c.tc : Thread Cert.AdamM2Conv.nD Cert.AdamM2Conv.τ).loc Cert.AdamM2Conv.main_arg1)
      ∧ r.2.mem ((c.tc : Thread Cert.AdamM2Conv.nD Cert.AdamM2Conv.τ).loc Cert.AdamM2Conv.main_arg2) = m ((c.tc : Thread Cert.AdamM2Conv.nD Cert.AdamM2Conv.τ).loc Cert.AdamM2Conv.main_arg2)
      ∧ r.2.mem ((c.tc : Thread Cert.AdamM2Conv.nD Cert.AdamM2Conv.τ).loc Cert.AdamM2Conv.main_arg3) = m ((c.tc : Thread Cert.AdamM2Conv.nD Cert.AdamM2Conv.τ).loc Cert.AdamM2Conv.main_arg3))
      ∧ r.2.sem = fun _ => 0)

def quiescent_AdamM2ConvIdeal [hAdamM2ConvIdeal : Cert.AdamM2ConvIdeal.Facts] : Prop :=
  ∀ (m : (ℓ : Loc Cert.AdamM2ConvIdeal.nD Cert.AdamM2ConvIdeal.τ Cert.AdamM2ConvIdeal.sig) → Buf (Elt Ideal) ℓ) (g : Dev Cert.AdamM2ConvIdeal.nD → PrngReg), Pre_AdamM2ConvIdeal m →
    θ_run (Cert.AdamM2ConvIdeal.defs (F := Ideal)) (onTc (τ := Cert.AdamM2ConvIdeal.τ) (Cert.AdamM2ConvIdeal.main (F := Ideal))) ⟨m, fun _ => 0, g⟩ (fun r => (∀ c : Dev Cert.AdamM2ConvIdeal.nD,
      r.2.mem ((c.tc : Thread Cert.AdamM2ConvIdeal.nD Cert.AdamM2ConvIdeal.τ).loc Cert.AdamM2ConvIdeal.main_arg0) = m ((c.tc : Thread Cert.AdamM2ConvIdeal.nD Cert.AdamM2ConvIdeal.τ).loc Cert.AdamM2ConvIdeal.main_arg0)
      ∧ r.2.mem ((c.tc : Thread Cert.AdamM2ConvIdeal.nD Cert.AdamM2ConvIdeal.τ).loc Cert.AdamM2ConvIdeal.main_arg1) = m ((c.tc : Thread Cert.AdamM2ConvIdeal.nD Cert.AdamM2ConvIdeal.τ).loc Cert.AdamM2ConvIdeal.main_arg1)
      ∧ r.2.mem ((c.tc : Thread Cert.AdamM2ConvIdeal.nD Cert.AdamM2ConvIdeal.τ).loc Cert.AdamM2ConvIdeal.main_arg2) = m ((c.tc : Thread Cert.AdamM2ConvIdeal.nD Cert.AdamM2ConvIdeal.τ).loc Cert.AdamM2ConvIdeal.main_arg2)
      ∧ r.2.mem ((c.tc : Thread Cert.AdamM2ConvIdeal.nD Cert.AdamM2ConvIdeal.τ).loc Cert.AdamM2ConvIdeal.main_arg3) = m ((c.tc : Thread Cert.AdamM2ConvIdeal.nD Cert.AdamM2ConvIdeal.τ).loc Cert.AdamM2ConvIdeal.main_arg3))
      ∧ r.2.sem = fun _ => 0)

def quiescent_RefAdamM2ConvIdeal [hRefAdamM2ConvIdeal : Cert.RefAdamM2ConvIdeal.Facts] : Prop :=
  ∀ (m : (ℓ : Loc Cert.RefAdamM2ConvIdeal.nD Cert.RefAdamM2ConvIdeal.τ Cert.RefAdamM2ConvIdeal.sig) → Buf (Elt Ideal) ℓ) (g : Dev Cert.RefAdamM2ConvIdeal.nD → PrngReg), Pre_RefAdamM2ConvIdeal m →
    θ_run (Cert.RefAdamM2ConvIdeal.defs (F := Ideal)) (onTc (τ := Cert.RefAdamM2ConvIdeal.τ) (Cert.RefAdamM2ConvIdeal.main (F := Ideal))) ⟨m, fun _ => 0, g⟩ (fun r => (∀ c : Dev Cert.RefAdamM2ConvIdeal.nD,
      r.2.mem ((c.tc : Thread Cert.RefAdamM2ConvIdeal.nD Cert.RefAdamM2ConvIdeal.τ).loc Cert.RefAdamM2ConvIdeal.main_arg0) = m ((c.tc : Thread Cert.RefAdamM2ConvIdeal.nD Cert.RefAdamM2ConvIdeal.τ).loc Cert.RefAdamM2ConvIdeal.main_arg0)
      ∧ r.2.mem ((c.tc : Thread Cert.RefAdamM2ConvIdeal.nD Cert.RefAdamM2ConvIdeal.τ).loc Cert.RefAdamM2ConvIdeal.main_arg1) = m ((c.tc : Thread Cert.RefAdamM2ConvIdeal.nD Cert.RefAdamM2ConvIdeal.τ).loc Cert.RefAdamM2ConvIdeal.main_arg1)
      ∧ r.2.mem ((c.tc : Thread Cert.RefAdamM2ConvIdeal.nD Cert.RefAdamM2ConvIdeal.τ).loc Cert.RefAdamM2ConvIdeal.main_arg2) = m ((c.tc : Thread Cert.RefAdamM2ConvIdeal.nD Cert.RefAdamM2ConvIdeal.τ).loc Cert.RefAdamM2ConvIdeal.main_arg2)
      ∧ r.2.mem ((c.tc : Thread Cert.RefAdamM2ConvIdeal.nD Cert.RefAdamM2ConvIdeal.τ).loc Cert.RefAdamM2ConvIdeal.main_arg3) = m ((c.tc : Thread Cert.RefAdamM2ConvIdeal.nD Cert.RefAdamM2ConvIdeal.τ).loc Cert.RefAdamM2ConvIdeal.main_arg3))
      ∧ r.2.sem = fun _ => 0)

def quiescent_AdamM2Bias [hAdamM2Bias : Cert.AdamM2Bias.Facts] : Prop :=
  ∀ (m : (ℓ : Loc Cert.AdamM2Bias.nD Cert.AdamM2Bias.τ Cert.AdamM2Bias.sig) → Buf (Elt Bits) ℓ) (g : Dev Cert.AdamM2Bias.nD → PrngReg), Pre_AdamM2Bias m →
    θ_run (Cert.AdamM2Bias.defs (F := Bits)) (onTc (τ := Cert.AdamM2Bias.τ) (Cert.AdamM2Bias.main (F := Bits))) ⟨m, fun _ => 0, g⟩ (fun r => (∀ c : Dev Cert.AdamM2Bias.nD,
      r.2.mem ((c.tc : Thread Cert.AdamM2Bias.nD Cert.AdamM2Bias.τ).loc Cert.AdamM2Bias.main_arg0) = m ((c.tc : Thread Cert.AdamM2Bias.nD Cert.AdamM2Bias.τ).loc Cert.AdamM2Bias.main_arg0)
      ∧ r.2.mem ((c.tc : Thread Cert.AdamM2Bias.nD Cert.AdamM2Bias.τ).loc Cert.AdamM2Bias.main_arg1) = m ((c.tc : Thread Cert.AdamM2Bias.nD Cert.AdamM2Bias.τ).loc Cert.AdamM2Bias.main_arg1)
      ∧ r.2.mem ((c.tc : Thread Cert.AdamM2Bias.nD Cert.AdamM2Bias.τ).loc Cert.AdamM2Bias.main_arg2) = m ((c.tc : Thread Cert.AdamM2Bias.nD Cert.AdamM2Bias.τ).loc Cert.AdamM2Bias.main_arg2)
      ∧ r.2.mem ((c.tc : Thread Cert.AdamM2Bias.nD Cert.AdamM2Bias.τ).loc Cert.AdamM2Bias.main_arg3) = m ((c.tc : Thread Cert.AdamM2Bias.nD Cert.AdamM2Bias.τ).loc Cert.AdamM2Bias.main_arg3))
      ∧ r.2.sem = fun _ => 0)

def quiescent_AdamM2BiasIdeal [hAdamM2BiasIdeal : Cert.AdamM2BiasIdeal.Facts] : Prop :=
  ∀ (m : (ℓ : Loc Cert.AdamM2BiasIdeal.nD Cert.AdamM2BiasIdeal.τ Cert.AdamM2BiasIdeal.sig) → Buf (Elt Ideal) ℓ) (g : Dev Cert.AdamM2BiasIdeal.nD → PrngReg), Pre_AdamM2BiasIdeal m →
    θ_run (Cert.AdamM2BiasIdeal.defs (F := Ideal)) (onTc (τ := Cert.AdamM2BiasIdeal.τ) (Cert.AdamM2BiasIdeal.main (F := Ideal))) ⟨m, fun _ => 0, g⟩ (fun r => (∀ c : Dev Cert.AdamM2BiasIdeal.nD,
      r.2.mem ((c.tc : Thread Cert.AdamM2BiasIdeal.nD Cert.AdamM2BiasIdeal.τ).loc Cert.AdamM2BiasIdeal.main_arg0) = m ((c.tc : Thread Cert.AdamM2BiasIdeal.nD Cert.AdamM2BiasIdeal.τ).loc Cert.AdamM2BiasIdeal.main_arg0)
      ∧ r.2.mem ((c.tc : Thread Cert.AdamM2BiasIdeal.nD Cert.AdamM2BiasIdeal.τ).loc Cert.AdamM2BiasIdeal.main_arg1) = m ((c.tc : Thread Cert.AdamM2BiasIdeal.nD Cert.AdamM2BiasIdeal.τ).loc Cert.AdamM2BiasIdeal.main_arg1)
      ∧ r.2.mem ((c.tc : Thread Cert.AdamM2BiasIdeal.nD Cert.AdamM2BiasIdeal.τ).loc Cert.AdamM2BiasIdeal.main_arg2) = m ((c.tc : Thread Cert.AdamM2BiasIdeal.nD Cert.AdamM2BiasIdeal.τ).loc Cert.AdamM2BiasIdeal.main_arg2)
      ∧ r.2.mem ((c.tc : Thread Cert.AdamM2BiasIdeal.nD Cert.AdamM2BiasIdeal.τ).loc Cert.AdamM2BiasIdeal.main_arg3) = m ((c.tc : Thread Cert.AdamM2BiasIdeal.nD Cert.AdamM2BiasIdeal.τ).loc Cert.AdamM2BiasIdeal.main_arg3))
      ∧ r.2.sem = fun _ => 0)

def quiescent_RefAdamM2BiasIdeal [hRefAdamM2BiasIdeal : Cert.RefAdamM2BiasIdeal.Facts] : Prop :=
  ∀ (m : (ℓ : Loc Cert.RefAdamM2BiasIdeal.nD Cert.RefAdamM2BiasIdeal.τ Cert.RefAdamM2BiasIdeal.sig) → Buf (Elt Ideal) ℓ) (g : Dev Cert.RefAdamM2BiasIdeal.nD → PrngReg), Pre_RefAdamM2BiasIdeal m →
    θ_run (Cert.RefAdamM2BiasIdeal.defs (F := Ideal)) (onTc (τ := Cert.RefAdamM2BiasIdeal.τ) (Cert.RefAdamM2BiasIdeal.main (F := Ideal))) ⟨m, fun _ => 0, g⟩ (fun r => (∀ c : Dev Cert.RefAdamM2BiasIdeal.nD,
      r.2.mem ((c.tc : Thread Cert.RefAdamM2BiasIdeal.nD Cert.RefAdamM2BiasIdeal.τ).loc Cert.RefAdamM2BiasIdeal.main_arg0) = m ((c.tc : Thread Cert.RefAdamM2BiasIdeal.nD Cert.RefAdamM2BiasIdeal.τ).loc Cert.RefAdamM2BiasIdeal.main_arg0)
      ∧ r.2.mem ((c.tc : Thread Cert.RefAdamM2BiasIdeal.nD Cert.RefAdamM2BiasIdeal.τ).loc Cert.RefAdamM2BiasIdeal.main_arg1) = m ((c.tc : Thread Cert.RefAdamM2BiasIdeal.nD Cert.RefAdamM2BiasIdeal.τ).loc Cert.RefAdamM2BiasIdeal.main_arg1)
      ∧ r.2.mem ((c.tc : Thread Cert.RefAdamM2BiasIdeal.nD Cert.RefAdamM2BiasIdeal.τ).loc Cert.RefAdamM2BiasIdeal.main_arg2) = m ((c.tc : Thread Cert.RefAdamM2BiasIdeal.nD Cert.RefAdamM2BiasIdeal.τ).loc Cert.RefAdamM2BiasIdeal.main_arg2)
      ∧ r.2.mem ((c.tc : Thread Cert.RefAdamM2BiasIdeal.nD Cert.RefAdamM2BiasIdeal.τ).loc Cert.RefAdamM2BiasIdeal.main_arg3) = m ((c.tc : Thread Cert.RefAdamM2BiasIdeal.nD Cert.RefAdamM2BiasIdeal.τ).loc Cert.RefAdamM2BiasIdeal.main_arg3))
      ∧ r.2.sem = fun _ => 0)

def quiescent_AdamM2Norm [hAdamM2Norm : Cert.AdamM2Norm.Facts] : Prop :=
  ∀ (m : (ℓ : Loc Cert.AdamM2Norm.nD Cert.AdamM2Norm.τ Cert.AdamM2Norm.sig) → Buf (Elt Bits) ℓ) (g : Dev Cert.AdamM2Norm.nD → PrngReg), Pre_AdamM2Norm m →
    θ_run (Cert.AdamM2Norm.defs (F := Bits)) (onTc (τ := Cert.AdamM2Norm.τ) (Cert.AdamM2Norm.main (F := Bits))) ⟨m, fun _ => 0, g⟩ (fun r => (∀ c : Dev Cert.AdamM2Norm.nD,
      r.2.mem ((c.tc : Thread Cert.AdamM2Norm.nD Cert.AdamM2Norm.τ).loc Cert.AdamM2Norm.main_arg0) = m ((c.tc : Thread Cert.AdamM2Norm.nD Cert.AdamM2Norm.τ).loc Cert.AdamM2Norm.main_arg0)
      ∧ r.2.mem ((c.tc : Thread Cert.AdamM2Norm.nD Cert.AdamM2Norm.τ).loc Cert.AdamM2Norm.main_arg1) = m ((c.tc : Thread Cert.AdamM2Norm.nD Cert.AdamM2Norm.τ).loc Cert.AdamM2Norm.main_arg1)
      ∧ r.2.mem ((c.tc : Thread Cert.AdamM2Norm.nD Cert.AdamM2Norm.τ).loc Cert.AdamM2Norm.main_arg2) = m ((c.tc : Thread Cert.AdamM2Norm.nD Cert.AdamM2Norm.τ).loc Cert.AdamM2Norm.main_arg2)
      ∧ r.2.mem ((c.tc : Thread Cert.AdamM2Norm.nD Cert.AdamM2Norm.τ).loc Cert.AdamM2Norm.main_arg3) = m ((c.tc : Thread Cert.AdamM2Norm.nD Cert.AdamM2Norm.τ).loc Cert.AdamM2Norm.main_arg3))
      ∧ r.2.sem = fun _ => 0)

def quiescent_AdamM2NormIdeal [hAdamM2NormIdeal : Cert.AdamM2NormIdeal.Facts] : Prop :=
  ∀ (m : (ℓ : Loc Cert.AdamM2NormIdeal.nD Cert.AdamM2NormIdeal.τ Cert.AdamM2NormIdeal.sig) → Buf (Elt Ideal) ℓ) (g : Dev Cert.AdamM2NormIdeal.nD → PrngReg), Pre_AdamM2NormIdeal m →
    θ_run (Cert.AdamM2NormIdeal.defs (F := Ideal)) (onTc (τ := Cert.AdamM2NormIdeal.τ) (Cert.AdamM2NormIdeal.main (F := Ideal))) ⟨m, fun _ => 0, g⟩ (fun r => (∀ c : Dev Cert.AdamM2NormIdeal.nD,
      r.2.mem ((c.tc : Thread Cert.AdamM2NormIdeal.nD Cert.AdamM2NormIdeal.τ).loc Cert.AdamM2NormIdeal.main_arg0) = m ((c.tc : Thread Cert.AdamM2NormIdeal.nD Cert.AdamM2NormIdeal.τ).loc Cert.AdamM2NormIdeal.main_arg0)
      ∧ r.2.mem ((c.tc : Thread Cert.AdamM2NormIdeal.nD Cert.AdamM2NormIdeal.τ).loc Cert.AdamM2NormIdeal.main_arg1) = m ((c.tc : Thread Cert.AdamM2NormIdeal.nD Cert.AdamM2NormIdeal.τ).loc Cert.AdamM2NormIdeal.main_arg1)
      ∧ r.2.mem ((c.tc : Thread Cert.AdamM2NormIdeal.nD Cert.AdamM2NormIdeal.τ).loc Cert.AdamM2NormIdeal.main_arg2) = m ((c.tc : Thread Cert.AdamM2NormIdeal.nD Cert.AdamM2NormIdeal.τ).loc Cert.AdamM2NormIdeal.main_arg2)
      ∧ r.2.mem ((c.tc : Thread Cert.AdamM2NormIdeal.nD Cert.AdamM2NormIdeal.τ).loc Cert.AdamM2NormIdeal.main_arg3) = m ((c.tc : Thread Cert.AdamM2NormIdeal.nD Cert.AdamM2NormIdeal.τ).loc Cert.AdamM2NormIdeal.main_arg3))
      ∧ r.2.sem = fun _ => 0)

def quiescent_RefAdamM2NormIdeal [hRefAdamM2NormIdeal : Cert.RefAdamM2NormIdeal.Facts] : Prop :=
  ∀ (m : (ℓ : Loc Cert.RefAdamM2NormIdeal.nD Cert.RefAdamM2NormIdeal.τ Cert.RefAdamM2NormIdeal.sig) → Buf (Elt Ideal) ℓ) (g : Dev Cert.RefAdamM2NormIdeal.nD → PrngReg), Pre_RefAdamM2NormIdeal m →
    θ_run (Cert.RefAdamM2NormIdeal.defs (F := Ideal)) (onTc (τ := Cert.RefAdamM2NormIdeal.τ) (Cert.RefAdamM2NormIdeal.main (F := Ideal))) ⟨m, fun _ => 0, g⟩ (fun r => (∀ c : Dev Cert.RefAdamM2NormIdeal.nD,
      r.2.mem ((c.tc : Thread Cert.RefAdamM2NormIdeal.nD Cert.RefAdamM2NormIdeal.τ).loc Cert.RefAdamM2NormIdeal.main_arg0) = m ((c.tc : Thread Cert.RefAdamM2NormIdeal.nD Cert.RefAdamM2NormIdeal.τ).loc Cert.RefAdamM2NormIdeal.main_arg0)
      ∧ r.2.mem ((c.tc : Thread Cert.RefAdamM2NormIdeal.nD Cert.RefAdamM2NormIdeal.τ).loc Cert.RefAdamM2NormIdeal.main_arg1) = m ((c.tc : Thread Cert.RefAdamM2NormIdeal.nD Cert.RefAdamM2NormIdeal.τ).loc Cert.RefAdamM2NormIdeal.main_arg1)
      ∧ r.2.mem ((c.tc : Thread Cert.RefAdamM2NormIdeal.nD Cert.RefAdamM2NormIdeal.τ).loc Cert.RefAdamM2NormIdeal.main_arg2) = m ((c.tc : Thread Cert.RefAdamM2NormIdeal.nD Cert.RefAdamM2NormIdeal.τ).loc Cert.RefAdamM2NormIdeal.main_arg2)
      ∧ r.2.mem ((c.tc : Thread Cert.RefAdamM2NormIdeal.nD Cert.RefAdamM2NormIdeal.τ).loc Cert.RefAdamM2NormIdeal.main_arg3) = m ((c.tc : Thread Cert.RefAdamM2NormIdeal.nD Cert.RefAdamM2NormIdeal.τ).loc Cert.RefAdamM2NormIdeal.main_arg3))
      ∧ r.2.sem = fun _ => 0)

def quiescent_AdamRepl [hAdamRepl : Cert.AdamRepl.Facts] : Prop :=
  ∀ (m : (ℓ : Loc Cert.AdamRepl.nD Cert.AdamRepl.τ Cert.AdamRepl.sig) → Buf (Elt Bits) ℓ) (g : Dev Cert.AdamRepl.nD → PrngReg), Pre_AdamRepl m →
    θ_run (Cert.AdamRepl.defs (F := Bits)) (onTc (τ := Cert.AdamRepl.τ) (Cert.AdamRepl.main (F := Bits))) ⟨m, fun _ => 0, g⟩ (fun r => (∀ c : Dev Cert.AdamRepl.nD,
      r.2.mem ((c.tc : Thread Cert.AdamRepl.nD Cert.AdamRepl.τ).loc Cert.AdamRepl.main_arg0) = m ((c.tc : Thread Cert.AdamRepl.nD Cert.AdamRepl.τ).loc Cert.AdamRepl.main_arg0)
      ∧ r.2.mem ((c.tc : Thread Cert.AdamRepl.nD Cert.AdamRepl.τ).loc Cert.AdamRepl.main_arg1) = m ((c.tc : Thread Cert.AdamRepl.nD Cert.AdamRepl.τ).loc Cert.AdamRepl.main_arg1)
      ∧ r.2.mem ((c.tc : Thread Cert.AdamRepl.nD Cert.AdamRepl.τ).loc Cert.AdamRepl.main_arg2) = m ((c.tc : Thread Cert.AdamRepl.nD Cert.AdamRepl.τ).loc Cert.AdamRepl.main_arg2)
      ∧ r.2.mem ((c.tc : Thread Cert.AdamRepl.nD Cert.AdamRepl.τ).loc Cert.AdamRepl.main_arg3) = m ((c.tc : Thread Cert.AdamRepl.nD Cert.AdamRepl.τ).loc Cert.AdamRepl.main_arg3)
      ∧ r.2.mem ((c.tc : Thread Cert.AdamRepl.nD Cert.AdamRepl.τ).loc Cert.AdamRepl.main_arg4) = m ((c.tc : Thread Cert.AdamRepl.nD Cert.AdamRepl.τ).loc Cert.AdamRepl.main_arg4))
      ∧ r.2.sem = fun _ => 0)

def quiescent_AdamReplIdeal [hAdamReplIdeal : Cert.AdamReplIdeal.Facts] : Prop :=
  ∀ (m : (ℓ : Loc Cert.AdamReplIdeal.nD Cert.AdamReplIdeal.τ Cert.AdamReplIdeal.sig) → Buf (Elt Ideal) ℓ) (g : Dev Cert.AdamReplIdeal.nD → PrngReg), Pre_AdamReplIdeal m →
    θ_run (Cert.AdamReplIdeal.defs (F := Ideal)) (onTc (τ := Cert.AdamReplIdeal.τ) (Cert.AdamReplIdeal.main (F := Ideal))) ⟨m, fun _ => 0, g⟩ (fun r => (∀ c : Dev Cert.AdamReplIdeal.nD,
      r.2.mem ((c.tc : Thread Cert.AdamReplIdeal.nD Cert.AdamReplIdeal.τ).loc Cert.AdamReplIdeal.main_arg0) = m ((c.tc : Thread Cert.AdamReplIdeal.nD Cert.AdamReplIdeal.τ).loc Cert.AdamReplIdeal.main_arg0)
      ∧ r.2.mem ((c.tc : Thread Cert.AdamReplIdeal.nD Cert.AdamReplIdeal.τ).loc Cert.AdamReplIdeal.main_arg1) = m ((c.tc : Thread Cert.AdamReplIdeal.nD Cert.AdamReplIdeal.τ).loc Cert.AdamReplIdeal.main_arg1)
      ∧ r.2.mem ((c.tc : Thread Cert.AdamReplIdeal.nD Cert.AdamReplIdeal.τ).loc Cert.AdamReplIdeal.main_arg2) = m ((c.tc : Thread Cert.AdamReplIdeal.nD Cert.AdamReplIdeal.τ).loc Cert.AdamReplIdeal.main_arg2)
      ∧ r.2.mem ((c.tc : Thread Cert.AdamReplIdeal.nD Cert.AdamReplIdeal.τ).loc Cert.AdamReplIdeal.main_arg3) = m ((c.tc : Thread Cert.AdamReplIdeal.nD Cert.AdamReplIdeal.τ).loc Cert.AdamReplIdeal.main_arg3)
      ∧ r.2.mem ((c.tc : Thread Cert.AdamReplIdeal.nD Cert.AdamReplIdeal.τ).loc Cert.AdamReplIdeal.main_arg4) = m ((c.tc : Thread Cert.AdamReplIdeal.nD Cert.AdamReplIdeal.τ).loc Cert.AdamReplIdeal.main_arg4))
      ∧ r.2.sem = fun _ => 0)

def quiescent_RefAdamReplIdeal [hRefAdamReplIdeal : Cert.RefAdamReplIdeal.Facts] : Prop :=
  ∀ (m : (ℓ : Loc Cert.RefAdamReplIdeal.nD Cert.RefAdamReplIdeal.τ Cert.RefAdamReplIdeal.sig) → Buf (Elt Ideal) ℓ) (g : Dev Cert.RefAdamReplIdeal.nD → PrngReg), Pre_RefAdamReplIdeal m →
    θ_run (Cert.RefAdamReplIdeal.defs (F := Ideal)) (onTc (τ := Cert.RefAdamReplIdeal.τ) (Cert.RefAdamReplIdeal.main (F := Ideal))) ⟨m, fun _ => 0, g⟩ (fun r => (∀ c : Dev Cert.RefAdamReplIdeal.nD,
      r.2.mem ((c.tc : Thread Cert.RefAdamReplIdeal.nD Cert.RefAdamReplIdeal.τ).loc Cert.RefAdamReplIdeal.main_arg0) = m ((c.tc : Thread Cert.RefAdamReplIdeal.nD Cert.RefAdamReplIdeal.τ).loc Cert.RefAdamReplIdeal.main_arg0)
      ∧ r.2.mem ((c.tc : Thread Cert.RefAdamReplIdeal.nD Cert.RefAdamReplIdeal.τ).loc Cert.RefAdamReplIdeal.main_arg1) = m ((c.tc : Thread Cert.RefAdamReplIdeal.nD Cert.RefAdamReplIdeal.τ).loc Cert.RefAdamReplIdeal.main_arg1)
      ∧ r.2.mem ((c.tc : Thread Cert.RefAdamReplIdeal.nD Cert.RefAdamReplIdeal.τ).loc Cert.RefAdamReplIdeal.main_arg2) = m ((c.tc : Thread Cert.RefAdamReplIdeal.nD Cert.RefAdamReplIdeal.τ).loc Cert.RefAdamReplIdeal.main_arg2)
      ∧ r.2.mem ((c.tc : Thread Cert.RefAdamReplIdeal.nD Cert.RefAdamReplIdeal.τ).loc Cert.RefAdamReplIdeal.main_arg3) = m ((c.tc : Thread Cert.RefAdamReplIdeal.nD Cert.RefAdamReplIdeal.τ).loc Cert.RefAdamReplIdeal.main_arg3)
      ∧ r.2.mem ((c.tc : Thread Cert.RefAdamReplIdeal.nD Cert.RefAdamReplIdeal.τ).loc Cert.RefAdamReplIdeal.main_arg4) = m ((c.tc : Thread Cert.RefAdamReplIdeal.nD Cert.RefAdamReplIdeal.τ).loc Cert.RefAdamReplIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RefRmsBwdIdeal [hRefRmsBwdIdeal : Cert.RefRmsBwdIdeal.Facts] : Prop :=
  ∀ (m : (ℓ : Loc Cert.RefRmsBwdIdeal.nD Cert.RefRmsBwdIdeal.τ Cert.RefRmsBwdIdeal.sig) → Buf (Elt Ideal) ℓ) (g : Dev Cert.RefRmsBwdIdeal.nD → PrngReg), Pre_RefRmsBwdIdeal m →
    θ_run (Cert.RefRmsBwdIdeal.defs (F := Ideal)) (onTc (τ := Cert.RefRmsBwdIdeal.τ) (Cert.RefRmsBwdIdeal.main (F := Ideal))) ⟨m, fun _ => 0, g⟩ (fun r => (∀ c : Dev Cert.RefRmsBwdIdeal.nD,
      r.2.mem ((c.tc : Thread Cert.RefRmsBwdIdeal.nD Cert.RefRmsBwdIdeal.τ).loc Cert.RefRmsBwdIdeal.main_arg0) = m ((c.tc : Thread Cert.RefRmsBwdIdeal.nD Cert.RefRmsBwdIdeal.τ).loc Cert.RefRmsBwdIdeal.main_arg0)
      ∧ r.2.mem ((c.tc : Thread Cert.RefRmsBwdIdeal.nD Cert.RefRmsBwdIdeal.τ).loc Cert.RefRmsBwdIdeal.main_arg1) = m ((c.tc : Thread Cert.RefRmsBwdIdeal.nD Cert.RefRmsBwdIdeal.τ).loc Cert.RefRmsBwdIdeal.main_arg1)
      ∧ r.2.mem ((c.tc : Thread Cert.RefRmsBwdIdeal.nD Cert.RefRmsBwdIdeal.τ).loc Cert.RefRmsBwdIdeal.main_arg2) = m ((c.tc : Thread Cert.RefRmsBwdIdeal.nD Cert.RefRmsBwdIdeal.τ).loc Cert.RefRmsBwdIdeal.main_arg2)
      ∧ r.2.mem ((c.tc : Thread Cert.RefRmsBwdIdeal.nD Cert.RefRmsBwdIdeal.τ).loc Cert.RefRmsBwdIdeal.main_arg3) = m ((c.tc : Thread Cert.RefRmsBwdIdeal.nD Cert.RefRmsBwdIdeal.τ).loc Cert.RefRmsBwdIdeal.main_arg3))
      ∧ r.2.sem = fun _ => 0)

def quiescent_BiasIn [hBiasIn : Cert.BiasIn.Facts] : Prop :=
  ∀ (m : (ℓ : Loc Cert.BiasIn.nD Cert.BiasIn.τ Cert.BiasIn.sig) → Buf (Elt Bits) ℓ) (g : Dev Cert.BiasIn.nD → PrngReg), Pre_BiasIn m →
    θ_run (Cert.BiasIn.defs (F := Bits)) (onTc (τ := Cert.BiasIn.τ) (Cert.BiasIn.main (F := Bits))) ⟨m, fun _ => 0, g⟩ (fun r => (∀ c : Dev Cert.BiasIn.nD,
      r.2.mem ((c.tc : Thread Cert.BiasIn.nD Cert.BiasIn.τ).loc Cert.BiasIn.main_arg0) = m ((c.tc : Thread Cert.BiasIn.nD Cert.BiasIn.τ).loc Cert.BiasIn.main_arg0))
      ∧ r.2.sem = fun _ => 0)

def quiescent_BiasInIdeal [hBiasInIdeal : Cert.BiasInIdeal.Facts] : Prop :=
  ∀ (m : (ℓ : Loc Cert.BiasInIdeal.nD Cert.BiasInIdeal.τ Cert.BiasInIdeal.sig) → Buf (Elt Ideal) ℓ) (g : Dev Cert.BiasInIdeal.nD → PrngReg), Pre_BiasInIdeal m →
    θ_run (Cert.BiasInIdeal.defs (F := Ideal)) (onTc (τ := Cert.BiasInIdeal.τ) (Cert.BiasInIdeal.main (F := Ideal))) ⟨m, fun _ => 0, g⟩ (fun r => (∀ c : Dev Cert.BiasInIdeal.nD,
      r.2.mem ((c.tc : Thread Cert.BiasInIdeal.nD Cert.BiasInIdeal.τ).loc Cert.BiasInIdeal.main_arg0) = m ((c.tc : Thread Cert.BiasInIdeal.nD Cert.BiasInIdeal.τ).loc Cert.BiasInIdeal.main_arg0))
      ∧ r.2.sem = fun _ => 0)

def quiescent_RefBiasInIdeal [hRefBiasInIdeal : Cert.RefBiasInIdeal.Facts] : Prop :=
  ∀ (m : (ℓ : Loc Cert.RefBiasInIdeal.nD Cert.RefBiasInIdeal.τ Cert.RefBiasInIdeal.sig) → Buf (Elt Ideal) ℓ) (g : Dev Cert.RefBiasInIdeal.nD → PrngReg), Pre_RefBiasInIdeal m →
    θ_run (Cert.RefBiasInIdeal.defs (F := Ideal)) (onTc (τ := Cert.RefBiasInIdeal.τ) (Cert.RefBiasInIdeal.main (F := Ideal))) ⟨m, fun _ => 0, g⟩ (fun r => (∀ c : Dev Cert.RefBiasInIdeal.nD,
      r.2.mem ((c.tc : Thread Cert.RefBiasInIdeal.nD Cert.RefBiasInIdeal.τ).loc Cert.RefBiasInIdeal.main_arg0) = m ((c.tc : Thread Cert.RefBiasInIdeal.nD Cert.RefBiasInIdeal.τ).loc Cert.RefBiasInIdeal.main_arg0))
      ∧ r.2.sem = fun _ => 0)

def quiescent_BiasOut [hBiasOut : Cert.BiasOut.Facts] : Prop :=
  ∀ (m : (ℓ : Loc Cert.BiasOut.nD Cert.BiasOut.τ Cert.BiasOut.sig) → Buf (Elt Bits) ℓ) (g : Dev Cert.BiasOut.nD → PrngReg), Pre_BiasOut m →
    θ_run (Cert.BiasOut.defs (F := Bits)) (onTc (τ := Cert.BiasOut.τ) (Cert.BiasOut.main (F := Bits))) ⟨m, fun _ => 0, g⟩ (fun r => (∀ c : Dev Cert.BiasOut.nD,
      r.2.mem ((c.tc : Thread Cert.BiasOut.nD Cert.BiasOut.τ).loc Cert.BiasOut.main_arg0) = m ((c.tc : Thread Cert.BiasOut.nD Cert.BiasOut.τ).loc Cert.BiasOut.main_arg0))
      ∧ r.2.sem = fun _ => 0)

def quiescent_BiasOutIdeal [hBiasOutIdeal : Cert.BiasOutIdeal.Facts] : Prop :=
  ∀ (m : (ℓ : Loc Cert.BiasOutIdeal.nD Cert.BiasOutIdeal.τ Cert.BiasOutIdeal.sig) → Buf (Elt Ideal) ℓ) (g : Dev Cert.BiasOutIdeal.nD → PrngReg), Pre_BiasOutIdeal m →
    θ_run (Cert.BiasOutIdeal.defs (F := Ideal)) (onTc (τ := Cert.BiasOutIdeal.τ) (Cert.BiasOutIdeal.main (F := Ideal))) ⟨m, fun _ => 0, g⟩ (fun r => (∀ c : Dev Cert.BiasOutIdeal.nD,
      r.2.mem ((c.tc : Thread Cert.BiasOutIdeal.nD Cert.BiasOutIdeal.τ).loc Cert.BiasOutIdeal.main_arg0) = m ((c.tc : Thread Cert.BiasOutIdeal.nD Cert.BiasOutIdeal.τ).loc Cert.BiasOutIdeal.main_arg0))
      ∧ r.2.sem = fun _ => 0)

def quiescent_RefBiasOutIdeal [hRefBiasOutIdeal : Cert.RefBiasOutIdeal.Facts] : Prop :=
  ∀ (m : (ℓ : Loc Cert.RefBiasOutIdeal.nD Cert.RefBiasOutIdeal.τ Cert.RefBiasOutIdeal.sig) → Buf (Elt Ideal) ℓ) (g : Dev Cert.RefBiasOutIdeal.nD → PrngReg), Pre_RefBiasOutIdeal m →
    θ_run (Cert.RefBiasOutIdeal.defs (F := Ideal)) (onTc (τ := Cert.RefBiasOutIdeal.τ) (Cert.RefBiasOutIdeal.main (F := Ideal))) ⟨m, fun _ => 0, g⟩ (fun r => (∀ c : Dev Cert.RefBiasOutIdeal.nD,
      r.2.mem ((c.tc : Thread Cert.RefBiasOutIdeal.nD Cert.RefBiasOutIdeal.τ).loc Cert.RefBiasOutIdeal.main_arg0) = m ((c.tc : Thread Cert.RefBiasOutIdeal.nD Cert.RefBiasOutIdeal.τ).loc Cert.RefBiasOutIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)
      ∧ m' ((c.tc : Thread Cert.RefDwDownIdeal.nD Cert.RefDwDownIdeal.τ).loc Cert.RefDwDownIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v5) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1)
          ∧ r.2.mem ((c.tc : Thread Cert.RefDwDownIdeal.nD Cert.RefDwDownIdeal.τ).loc Cert.RefDwDownIdeal.main_arg2) = m' ((c.tc : Thread Cert.RefDwDownIdeal.nD Cert.RefDwDownIdeal.τ).loc Cert.RefDwDownIdeal.main_arg2))

def preserves_DwUp_DwUpIdeal : Prop :=
  True

def algebraic_DwUpIdeal_RefDwUpIdeal [hDwUpIdeal : Cert.DwUpIdeal.Facts] [hRefDwUpIdeal : Cert.RefDwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.RefDwUpIdeal.nD Cert.RefDwUpIdeal.τ Cert.RefDwUpIdeal.sig) → Buf (Elt Ideal) ℓ) (g' : Dev Cert.RefDwUpIdeal.nD → PrngReg), Pre_DwUpIdeal m →
    (∀ c : Dev Cert.DwUpIdeal.nD,
      m' ((c.tc : Thread Cert.RefDwUpIdeal.nD Cert.RefDwUpIdeal.τ).loc Cert.RefDwUpIdeal.main_arg0) = m ((c.tc : Thread Cert.DwUpIdeal.nD Cert.DwUpIdeal.τ).loc Cert.DwUpIdeal.main_arg0)
      ∧ m' ((c.tc : Thread Cert.RefDwUpIdeal.nD Cert.RefDwUpIdeal.τ).loc Cert.RefDwUpIdeal.main_arg1) = m ((c.tc : Thread Cert.DwUpIdeal.nD Cert.DwUpIdeal.τ).loc Cert.DwUpIdeal.main_arg1)
      ∧ m' ((c.tc : Thread Cert.RefDwUpIdeal.nD Cert.RefDwUpIdeal.τ).loc Cert.RefDwUpIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.RefDwUpIdeal.defs (F := Ideal)) (onTc (τ := Cert.RefDwUpIdeal.τ) (Cert.RefDwUpIdeal.main (F := Ideal))) ⟨m', fun _ => 0, g'⟩ (fun r => ∀ c : Dev Cert.RefDwUpIdeal.nD,
          r.2.mem ((c.tc : Thread Cert.RefDwUpIdeal.nD Cert.RefDwUpIdeal.τ).loc Cert.RefDwUpIdeal.main_v7) = v0 c
          ∧ r.2.mem ((c.tc : Thread Cert.RefDwUpIdeal.nD Cert.RefDwUpIdeal.τ).loc Cert.RefDwUpIdeal.main_arg0) = m' ((c.tc : Thread Cert.RefDwUpIdeal.nD Cert.RefDwUpIdeal.τ).loc Cert.RefDwUpIdeal.main_arg0)
          ∧ r.2.mem ((c.tc : Thread Cert.RefDwUpIdeal.nD Cert.RefDwUpIdeal.τ).loc Cert.RefDwUpIdeal.main_arg1) = m' ((c.tc : Thread Cert.RefDwUpIdeal.nD Cert.RefDwUpIdeal.τ).loc Cert.RefDwUpIdeal.main_arg1)
          ∧ r.2.mem ((c.tc : Thread Cert.RefDwUpIdeal.nD Cert.RefDwUpIdeal.τ).loc Cert.RefDwUpIdeal.main_arg2) = m' ((c.tc : Thread Cert.RefDwUpIdeal.nD Cert.RefDwUpIdeal.τ).loc Cert.RefDwUpIdeal.main_arg2))

def preserves_DwQkv_DwQkvIdeal : Prop :=
  True

def algebraic_DwQkvIdeal_RefDwQkvIdeal [hDwQkvIdeal : Cert.DwQkvIdeal.Facts] [hRefDwQkvIdeal : Cert.RefDwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.RefDwQkvIdeal.nD Cert.RefDwQkvIdeal.τ Cert.RefDwQkvIdeal.sig) → Buf (Elt Ideal) ℓ) (g' : Dev Cert.RefDwQkvIdeal.nD → PrngReg), Pre_DwQkvIdeal m →
    (∀ c : Dev Cert.DwQkvIdeal.nD,
      m' ((c.tc : Thread Cert.RefDwQkvIdeal.nD Cert.RefDwQkvIdeal.τ).loc Cert.RefDwQkvIdeal.main_arg0) = m ((c.tc : Thread Cert.DwQkvIdeal.nD Cert.DwQkvIdeal.τ).loc Cert.DwQkvIdeal.main_arg0)
      ∧ m' ((c.tc : Thread Cert.RefDwQkvIdeal.nD Cert.RefDwQkvIdeal.τ).loc Cert.RefDwQkvIdeal.main_arg1) = m ((c.tc : Thread Cert.DwQkvIdeal.nD Cert.DwQkvIdeal.τ).loc Cert.DwQkvIdeal.main_arg1)
      ∧ m' ((c.tc : Thread Cert.RefDwQkvIdeal.nD Cert.RefDwQkvIdeal.τ).loc Cert.RefDwQkvIdeal.main_arg2) = m ((c.tc : Thread Cert.DwQkvIdeal.nD Cert.DwQkvIdeal.τ).loc Cert.DwQkvIdeal.main_arg2)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2))
      ∧ θ_run (Cert.RefDwQkvIdeal.defs (F := Ideal)) (onTc (τ := Cert.RefDwQkvIdeal.τ) (Cert.RefDwQkvIdeal.main (F := Ideal))) ⟨m', fun _ => 0, g'⟩ (fun r => ∀ c : Dev Cert.RefDwQkvIdeal.nD,
          r.2.mem ((c.tc : Thread Cert.RefDwQkvIdeal.nD Cert.RefDwQkvIdeal.τ).loc Cert.RefDwQkvIdeal.main_v7) = v0 c
          ∧ r.2.mem ((c.tc : Thread Cert.RefDwQkvIdeal.nD Cert.RefDwQkvIdeal.τ).loc Cert.RefDwQkvIdeal.main_arg0) = m' ((c.tc : Thread Cert.RefDwQkvIdeal.nD Cert.RefDwQkvIdeal.τ).loc Cert.RefDwQkvIdeal.main_arg0)
          ∧ r.2.mem ((c.tc : Thread Cert.RefDwQkvIdeal.nD Cert.RefDwQkvIdeal.τ).loc Cert.RefDwQkvIdeal.main_arg1) = m' ((c.tc : Thread Cert.RefDwQkvIdeal.nD Cert.RefDwQkvIdeal.τ).loc Cert.RefDwQkvIdeal.main_arg1)
          ∧ r.2.mem ((c.tc : Thread Cert.RefDwQkvIdeal.nD Cert.RefDwQkvIdeal.τ).loc Cert.RefDwQkvIdeal.main_arg2) = m' ((c.tc : Thread Cert.RefDwQkvIdeal.nD Cert.RefDwQkvIdeal.τ).loc Cert.RefDwQkvIdeal.main_arg2))

def preserves_DwO_DwOIdeal : Prop :=
  True

def algebraic_DwOIdeal_RefDwOIdeal [hDwOIdeal : Cert.DwOIdeal.Facts] [hRefDwOIdeal : Cert.RefDwOIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.RefDwOIdeal.nD Cert.RefDwOIdeal.τ Cert.RefDwOIdeal.sig) → Buf (Elt Ideal) ℓ) (g' : Dev Cert.RefDwOIdeal.nD → PrngReg), Pre_DwOIdeal m →
    (∀ c : Dev Cert.DwOIdeal.nD,
      m' ((c.tc : Thread Cert.RefDwOIdeal.nD Cert.RefDwOIdeal.τ).loc Cert.RefDwOIdeal.main_arg0) = m ((c.tc : Thread Cert.DwOIdeal.nD Cert.DwOIdeal.τ).loc Cert.DwOIdeal.main_arg0)
      ∧ m' ((c.tc : Thread Cert.RefDwOIdeal.nD Cert.RefDwOIdeal.τ).loc Cert.RefDwOIdeal.main_arg1) = m ((c.tc : Thread Cert.DwOIdeal.nD Cert.DwOIdeal.τ).loc Cert.DwOIdeal.main_arg1)
      ∧ m' ((c.tc : Thread Cert.RefDwOIdeal.nD Cert.RefDwOIdeal.τ).loc Cert.RefDwOIdeal.main_arg2) = m ((c.tc : Thread Cert.DwOIdeal.nD Cert.DwOIdeal.τ).loc Cert.DwOIdeal.main_arg2)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1)
          ∧ r.2.mem ((c.tc : Thread Cert.DwOIdeal.nD Cert.DwOIdeal.τ).loc Cert.DwOIdeal.main_arg2) = m ((c.tc : Thread Cert.DwOIdeal.nD Cert.DwOIdeal.τ).loc Cert.DwOIdeal.main_arg2))
      ∧ θ_run (Cert.RefDwOIdeal.defs (F := Ideal)) (onTc (τ := Cert.RefDwOIdeal.τ) (Cert.RefDwOIdeal.main (F := Ideal))) ⟨m', fun _ => 0, g'⟩ (fun r => ∀ c : Dev Cert.RefDwOIdeal.nD,
          r.2.mem ((c.tc : Thread Cert.RefDwOIdeal.nD Cert.RefDwOIdeal.τ).loc Cert.RefDwOIdeal.main_v5) = v0 c
          ∧ r.2.mem ((c.tc : Thread Cert.RefDwOIdeal.nD Cert.RefDwOIdeal.τ).loc Cert.RefDwOIdeal.main_arg0) = m' ((c.tc : Thread Cert.RefDwOIdeal.nD Cert.RefDwOIdeal.τ).loc Cert.RefDwOIdeal.main_arg0)
          ∧ r.2.mem ((c.tc : Thread Cert.RefDwOIdeal.nD Cert.RefDwOIdeal.τ).loc Cert.RefDwOIdeal.main_arg1) = m' ((c.tc : Thread Cert.RefDwOIdeal.nD Cert.RefDwOIdeal.τ).loc Cert.RefDwOIdeal.main_arg1)
          ∧ r.2.mem ((c.tc : Thread Cert.RefDwOIdeal.nD Cert.RefDwOIdeal.τ).loc Cert.RefDwOIdeal.main_arg2) = m' ((c.tc : Thread Cert.RefDwOIdeal.nD Cert.RefDwOIdeal.τ).loc Cert.RefDwOIdeal.main_arg2))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)
      ∧ m' ((c.tc : Thread Cert.RefDwInIdeal.nD Cert.RefDwInIdeal.τ).loc Cert.RefDwInIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v6) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1)
          ∧ r.2.mem ((c.tc : Thread Cert.RefDwInIdeal.nD Cert.RefDwInIdeal.τ).loc Cert.RefDwInIdeal.main_arg2) = m' ((c.tc : Thread Cert.RefDwInIdeal.nD Cert.RefDwInIdeal.τ).loc Cert.RefDwInIdeal.main_arg2))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)
      ∧ m' ((c.tc : Thread Cert.RefDwOutIdeal.nD Cert.RefDwOutIdeal.τ).loc Cert.RefDwOutIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v5) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1)
          ∧ r.2.mem ((c.tc : Thread Cert.RefDwOutIdeal.nD Cert.RefDwOutIdeal.τ).loc Cert.RefDwOutIdeal.main_arg2) = m' ((c.tc : Thread Cert.RefDwOutIdeal.nD Cert.RefDwOutIdeal.τ).loc Cert.RefDwOutIdeal.main_arg2))

def preserves_DwZ_DwZIdeal : Prop :=
  True

def algebraic_DwZIdeal_RefDwZIdeal [hDwZIdeal : Cert.DwZIdeal.Facts] [hRefDwZIdeal : Cert.RefDwZIdeal.Facts] : Prop :=
  ∀ (m : (ℓ : Loc Cert.DwZIdeal.nD Cert.DwZIdeal.τ Cert.DwZIdeal.sig) → Buf (Elt Ideal) ℓ) (g : Dev Cert.DwZIdeal.nD → PrngReg)
    (m' : (ℓ : Loc Cert.RefDwZIdeal.nD Cert.RefDwZIdeal.τ Cert.RefDwZIdeal.sig) → Buf (Elt Ideal) ℓ) (g' : Dev Cert.RefDwZIdeal.nD → PrngReg), Pre_DwZIdeal m →
    (∀ c : Dev Cert.DwZIdeal.nD,
      m' ((c.tc : Thread Cert.RefDwZIdeal.nD Cert.RefDwZIdeal.τ).loc Cert.RefDwZIdeal.main_arg0) = m ((c.tc : Thread Cert.DwZIdeal.nD Cert.DwZIdeal.τ).loc Cert.DwZIdeal.main_arg0)
      ∧ m' ((c.tc : Thread Cert.RefDwZIdeal.nD Cert.RefDwZIdeal.τ).loc Cert.RefDwZIdeal.main_arg1) = m ((c.tc : Thread Cert.DwZIdeal.nD Cert.DwZIdeal.τ).loc Cert.DwZIdeal.main_arg1)
      ∧ m' ((c.tc : Thread Cert.RefDwZIdeal.nD Cert.RefDwZIdeal.τ).loc Cert.RefDwZIdeal.main_arg2) = m ((c.tc : Thread Cert.DwZIdeal.nD Cert.DwZIdeal.τ).loc Cert.DwZIdeal.main_arg2)) →
    ∃ (v0 : (c : Dev Cert.DwZIdeal.nD) → Buf (Elt Ideal) ((c.tc : Thread Cert.DwZIdeal.nD Cert.DwZIdeal.τ).loc Cert.DwZIdeal.main_v0)),
      θ_run (Cert.DwZIdeal.defs (F := Ideal)) (onTc (τ := Cert.DwZIdeal.τ) (Cert.DwZIdeal.main (F := Ideal))) ⟨m, fun _ => 0, g⟩ (fun r => ∀ c : Dev Cert.DwZIdeal.nD,
          r.2.mem ((c.tc : Thread Cert.DwZIdeal.nD Cert.DwZIdeal.τ).loc Cert.DwZIdeal.main_v0) = v0 c
          ∧ r.2.mem ((c.tc : Thread Cert.DwZIdeal.nD Cert.DwZIdeal.τ).loc Cert.DwZIdeal.main_arg0) = m ((c.tc : Thread Cert.DwZIdeal.nD Cert.DwZIdeal.τ).loc Cert.DwZIdeal.main_arg0)
          ∧ r.2.mem ((c.tc : Thread Cert.DwZIdeal.nD Cert.DwZIdeal.τ).loc Cert.DwZIdeal.main_arg1) = m ((c.tc : Thread Cert.DwZIdeal.nD Cert.DwZIdeal.τ).loc Cert.DwZIdeal.main_arg1)
          ∧ r.2.mem ((c.tc : Thread Cert.DwZIdeal.nD Cert.DwZIdeal.τ).loc Cert.DwZIdeal.main_arg2) = m ((c.tc : Thread Cert.DwZIdeal.nD Cert.DwZIdeal.τ).loc Cert.DwZIdeal.main_arg2))
      ∧ θ_run (Cert.RefDwZIdeal.defs (F := Ideal)) (onTc (τ := Cert.RefDwZIdeal.τ) (Cert.RefDwZIdeal.main (F := Ideal))) ⟨m', fun _ => 0, g'⟩ (fun r => ∀ c : Dev Cert.RefDwZIdeal.nD,
          r.2.mem ((c.tc : Thread Cert.RefDwZIdeal.nD Cert.RefDwZIdeal.τ).loc Cert.RefDwZIdeal.main_v4) = v0 c
          ∧ r.2.mem ((c.tc : Thread Cert.RefDwZIdeal.nD Cert.RefDwZIdeal.τ).loc Cert.RefDwZIdeal.main_arg0) = m' ((c.tc : Thread Cert.RefDwZIdeal.nD Cert.RefDwZIdeal.τ).loc Cert.RefDwZIdeal.main_arg0)
          ∧ r.2.mem ((c.tc : Thread Cert.RefDwZIdeal.nD Cert.RefDwZIdeal.τ).loc Cert.RefDwZIdeal.main_arg1) = m' ((c.tc : Thread Cert.RefDwZIdeal.nD Cert.RefDwZIdeal.τ).loc Cert.RefDwZIdeal.main_arg1)
          ∧ r.2.mem ((c.tc : Thread Cert.RefDwZIdeal.nD Cert.RefDwZIdeal.τ).loc Cert.RefDwZIdeal.main_arg2) = m' ((c.tc : Thread Cert.RefDwZIdeal.nD Cert.RefDwZIdeal.τ).loc Cert.RefDwZIdeal.main_arg2))

def preserves_DwXbc_DwXbcIdeal : Prop :=
  True

def algebraic_DwXbcIdeal_RefDwXbcIdeal [hDwXbcIdeal : Cert.DwXbcIdeal.Facts] [hRefDwXbcIdeal : Cert.RefDwXbcIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg)
    (m' : (ℓ : Loc Cert.RefDwXbcIdeal.nD Cert.RefDwXbcIdeal.τ Cert.RefDwXbcIdeal.sig) → Buf (Elt Ideal) ℓ) (g' : Dev Cert.RefDwXbcIdeal.nD → PrngReg), Pre_DwXbcIdeal m →
    (∀ c : Dev Cert.DwXbcIdeal.nD,
      m' ((c.tc : Thread Cert.RefDwXbcIdeal.nD Cert.RefDwXbcIdeal.τ).loc Cert.RefDwXbcIdeal.main_arg0) = m ((c.tc : Thread Cert.DwXbcIdeal.nD Cert.DwXbcIdeal.τ).loc Cert.DwXbcIdeal.main_arg0)
      ∧ m' ((c.tc : Thread Cert.RefDwXbcIdeal.nD Cert.RefDwXbcIdeal.τ).loc Cert.RefDwXbcIdeal.main_arg1) = m ((c.tc : Thread Cert.DwXbcIdeal.nD Cert.DwXbcIdeal.τ).loc Cert.DwXbcIdeal.main_arg1)
      ∧ m' ((c.tc : Thread Cert.RefDwXbcIdeal.nD Cert.RefDwXbcIdeal.τ).loc Cert.RefDwXbcIdeal.main_arg2) = m ((c.tc : Thread Cert.DwXbcIdeal.nD Cert.DwXbcIdeal.τ).loc Cert.DwXbcIdeal.main_arg2)) →
    ∃ (v0 : (c : Dev Cert.DwXbcIdeal.nD) → Buf (Elt Ideal) ((c.tc : Thread Cert.DwXbcIdeal.nD Cert.DwXbcIdeal.τ).loc Cert.DwXbcIdeal.main_v0)),
      θ_run (Cert.DwXbcIdeal.defs (F := Ideal)) (onTc (τ := Cert.DwXbcIdeal.τ) (Cert.DwXbcIdeal.main (F := Ideal))) ⟨m, fun _ => 0, g⟩ (fun r => ∀ c : Dev Cert.DwXbcIdeal.nD,
          r.2.mem ((c.tc : Thread Cert.DwXbcIdeal.nD Cert.DwXbcIdeal.τ).loc Cert.DwXbcIdeal.main_v0) = v0 c
          ∧ r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
          ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1)
          ∧ r.2.mem ((c.tc : Thread Cert.DwXbcIdeal.nD Cert.DwXbcIdeal.τ).loc Cert.DwXbcIdeal.main_arg2) = m ((c.tc : Thread Cert.DwXbcIdeal.nD Cert.DwXbcIdeal.τ).loc Cert.DwXbcIdeal.main_arg2))
      ∧ θ_run (Cert.RefDwXbcIdeal.defs (F := Ideal)) (onTc (τ := Cert.RefDwXbcIdeal.τ) (Cert.RefDwXbcIdeal.main (F := Ideal))) ⟨m', fun _ => 0, g'⟩ (fun r => ∀ c : Dev Cert.RefDwXbcIdeal.nD,
          r.2.mem ((c.tc : Thread Cert.RefDwXbcIdeal.nD Cert.RefDwXbcIdeal.τ).loc Cert.RefDwXbcIdeal.main_v4) = v0 c
          ∧ r.2.mem ((c.tc : Thread Cert.RefDwXbcIdeal.nD Cert.RefDwXbcIdeal.τ).loc Cert.RefDwXbcIdeal.main_arg0) = m' ((c.tc : Thread Cert.RefDwXbcIdeal.nD Cert.RefDwXbcIdeal.τ).loc Cert.RefDwXbcIdeal.main_arg0)
          ∧ r.2.mem ((c.tc : Thread Cert.RefDwXbcIdeal.nD Cert.RefDwXbcIdeal.τ).loc Cert.RefDwXbcIdeal.main_arg1) = m' ((c.tc : Thread Cert.RefDwXbcIdeal.nD Cert.RefDwXbcIdeal.τ).loc Cert.RefDwXbcIdeal.main_arg1)
          ∧ r.2.mem ((c.tc : Thread Cert.RefDwXbcIdeal.nD Cert.RefDwXbcIdeal.τ).loc Cert.RefDwXbcIdeal.main_arg2) = m' ((c.tc : Thread Cert.RefDwXbcIdeal.nD Cert.RefDwXbcIdeal.τ).loc Cert.RefDwXbcIdeal.main_arg2))

def preserves_DwDt_DwDtIdeal : Prop :=
  True

def algebraic_DwDtIdeal_RefDwDtIdeal [hDwDtIdeal : Cert.DwDtIdeal.Facts] [hRefDwDtIdeal : Cert.RefDwDtIdeal.Facts] : Prop :=
  ∀ (m : (ℓ : Loc Cert.DwDtIdeal.nD Cert.DwDtIdeal.τ Cert.DwDtIdeal.sig) → Buf (Elt Ideal) ℓ) (g : Dev Cert.DwDtIdeal.nD → PrngReg)
    (m' : (ℓ : Loc Cert.RefDwDtIdeal.nD Cert.RefDwDtIdeal.τ Cert.RefDwDtIdeal.sig) → Buf (Elt Ideal) ℓ) (g' : Dev Cert.RefDwDtIdeal.nD → PrngReg), Pre_DwDtIdeal m →
    (∀ c : Dev Cert.DwDtIdeal.nD,
      m' ((c.tc : Thread Cert.RefDwDtIdeal.nD Cert.RefDwDtIdeal.τ).loc Cert.RefDwDtIdeal.main_arg0) = m ((c.tc : Thread Cert.DwDtIdeal.nD Cert.DwDtIdeal.τ).loc Cert.DwDtIdeal.main_arg0)
      ∧ m' ((c.tc : Thread Cert.RefDwDtIdeal.nD Cert.RefDwDtIdeal.τ).loc Cert.RefDwDtIdeal.main_arg1) = m ((c.tc : Thread Cert.DwDtIdeal.nD Cert.DwDtIdeal.τ).loc Cert.DwDtIdeal.main_arg1)
      ∧ m' ((c.tc : Thread Cert.RefDwDtIdeal.nD Cert.RefDwDtIdeal.τ).loc Cert.RefDwDtIdeal.main_arg2) = m ((c.tc : Thread Cert.DwDtIdeal.nD Cert.DwDtIdeal.τ).loc Cert.DwDtIdeal.main_arg2)) →
    ∃ (v0 : (c : Dev Cert.DwDtIdeal.nD) → Buf (Elt Ideal) ((c.tc : Thread Cert.DwDtIdeal.nD Cert.DwDtIdeal.τ).loc Cert.DwDtIdeal.main_v0)),
      θ_run (Cert.DwDtIdeal.defs (F := Ideal)) (onTc (τ := Cert.DwDtIdeal.τ) (Cert.DwDtIdeal.main (F := Ideal))) ⟨m, fun _ => 0, g⟩ (fun r => ∀ c : Dev Cert.DwDtIdeal.nD,
          r.2.mem ((c.tc : Thread Cert.DwDtIdeal.nD Cert.DwDtIdeal.τ).loc Cert.DwDtIdeal.main_v0) = v0 c
          ∧ r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
          ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1)
          ∧ r.2.mem ((c.tc : Thread Cert.DwDtIdeal.nD Cert.DwDtIdeal.τ).loc Cert.DwDtIdeal.main_arg2) = m ((c.tc : Thread Cert.DwDtIdeal.nD Cert.DwDtIdeal.τ).loc Cert.DwDtIdeal.main_arg2))
      ∧ θ_run (Cert.RefDwDtIdeal.defs (F := Ideal)) (onTc (τ := Cert.RefDwDtIdeal.τ) (Cert.RefDwDtIdeal.main (F := Ideal))) ⟨m', fun _ => 0, g'⟩ (fun r => ∀ c : Dev Cert.RefDwDtIdeal.nD,
          r.2.mem ((c.tc : Thread Cert.RefDwDtIdeal.nD Cert.RefDwDtIdeal.τ).loc Cert.RefDwDtIdeal.main_v3) = v0 c
          ∧ r.2.mem ((c.tc : Thread Cert.RefDwDtIdeal.nD Cert.RefDwDtIdeal.τ).loc Cert.RefDwDtIdeal.main_arg0) = m' ((c.tc : Thread Cert.RefDwDtIdeal.nD Cert.RefDwDtIdeal.τ).loc Cert.RefDwDtIdeal.main_arg0)
          ∧ r.2.mem ((c.tc : Thread Cert.RefDwDtIdeal.nD Cert.RefDwDtIdeal.τ).loc Cert.RefDwDtIdeal.main_arg1) = m' ((c.tc : Thread Cert.RefDwDtIdeal.nD Cert.RefDwDtIdeal.τ).loc Cert.RefDwDtIdeal.main_arg1)
          ∧ r.2.mem ((c.tc : Thread Cert.RefDwDtIdeal.nD Cert.RefDwDtIdeal.τ).loc Cert.RefDwDtIdeal.main_arg2) = m' ((c.tc : Thread Cert.RefDwDtIdeal.nD Cert.RefDwDtIdeal.τ).loc Cert.RefDwDtIdeal.main_arg2))

def preserves_Du0_Du0Ideal : Prop :=
  True

def algebraic_Du0Ideal_RefDu0Ideal [hDu0Ideal : Cert.Du0Ideal.Facts] [hRefDu0Ideal : Cert.RefDu0Ideal.Facts] : Prop :=
  ∀ (m : (ℓ : Loc Cert.Du0Ideal.nD Cert.Du0Ideal.τ Cert.Du0Ideal.sig) → Buf (Elt Ideal) ℓ) (g : Dev Cert.Du0Ideal.nD → PrngReg)
    (m' : (ℓ : Loc Cert.RefDu0Ideal.nD Cert.RefDu0Ideal.τ Cert.RefDu0Ideal.sig) → Buf (Elt Ideal) ℓ) (g' : Dev Cert.RefDu0Ideal.nD → PrngReg), Pre_Du0Ideal m →
    (∀ c : Dev Cert.Du0Ideal.nD,
      m' ((c.tc : Thread Cert.RefDu0Ideal.nD Cert.RefDu0Ideal.τ).loc Cert.RefDu0Ideal.main_arg0) = m ((c.tc : Thread Cert.Du0Ideal.nD Cert.Du0Ideal.τ).loc Cert.Du0Ideal.main_arg0)
      ∧ m' ((c.tc : Thread Cert.RefDu0Ideal.nD Cert.RefDu0Ideal.τ).loc Cert.RefDu0Ideal.main_arg1) = m ((c.tc : Thread Cert.Du0Ideal.nD Cert.Du0Ideal.τ).loc Cert.Du0Ideal.main_arg1)
      ∧ m' ((c.tc : Thread Cert.RefDu0Ideal.nD Cert.RefDu0Ideal.τ).loc Cert.RefDu0Ideal.main_arg2) = m ((c.tc : Thread Cert.Du0Ideal.nD Cert.Du0Ideal.τ).loc Cert.Du0Ideal.main_arg2)) →
    ∃ (v0 : (c : Dev Cert.Du0Ideal.nD) → Buf (Elt Ideal) ((c.tc : Thread Cert.Du0Ideal.nD Cert.Du0Ideal.τ).loc Cert.Du0Ideal.main_v0)),
      θ_run (Cert.Du0Ideal.defs (F := Ideal)) (onTc (τ := Cert.Du0Ideal.τ) (Cert.Du0Ideal.main (F := Ideal))) ⟨m, fun _ => 0, g⟩ (fun r => ∀ c : Dev Cert.Du0Ideal.nD,
          r.2.mem ((c.tc : Thread Cert.Du0Ideal.nD Cert.Du0Ideal.τ).loc Cert.Du0Ideal.main_v0) = v0 c
          ∧ r.2.mem ((c.tc : Thread Cert.Du0Ideal.nD Cert.Du0Ideal.τ).loc Cert.Du0Ideal.main_arg0) = m ((c.tc : Thread Cert.Du0Ideal.nD Cert.Du0Ideal.τ).loc Cert.Du0Ideal.main_arg0)
          ∧ r.2.mem ((c.tc : Thread Cert.Du0Ideal.nD Cert.Du0Ideal.τ).loc Cert.Du0Ideal.main_arg1) = m ((c.tc : Thread Cert.Du0Ideal.nD Cert.Du0Ideal.τ).loc Cert.Du0Ideal.main_arg1)
          ∧ r.2.mem ((c.tc : Thread Cert.Du0Ideal.nD Cert.Du0Ideal.τ).loc Cert.Du0Ideal.main_arg2) = m ((c.tc : Thread Cert.Du0Ideal.nD Cert.Du0Ideal.τ).loc Cert.Du0Ideal.main_arg2))
      ∧ θ_run (Cert.RefDu0Ideal.defs (F := Ideal)) (onTc (τ := Cert.RefDu0Ideal.τ) (Cert.RefDu0Ideal.main (F := Ideal))) ⟨m', fun _ => 0, g'⟩ (fun r => ∀ c : Dev Cert.RefDu0Ideal.nD,
          r.2.mem ((c.tc : Thread Cert.RefDu0Ideal.nD Cert.RefDu0Ideal.τ).loc Cert.RefDu0Ideal.main_v17) = v0 c
          ∧ r.2.mem ((c.tc : Thread Cert.RefDu0Ideal.nD Cert.RefDu0Ideal.τ).loc Cert.RefDu0Ideal.main_arg0) = m' ((c.tc : Thread Cert.RefDu0Ideal.nD Cert.RefDu0Ideal.τ).loc Cert.RefDu0Ideal.main_arg0)
          ∧ r.2.mem ((c.tc : Thread Cert.RefDu0Ideal.nD Cert.RefDu0Ideal.τ).loc Cert.RefDu0Ideal.main_arg1) = m' ((c.tc : Thread Cert.RefDu0Ideal.nD Cert.RefDu0Ideal.τ).loc Cert.RefDu0Ideal.main_arg1)
          ∧ r.2.mem ((c.tc : Thread Cert.RefDu0Ideal.nD Cert.RefDu0Ideal.τ).loc Cert.RefDu0Ideal.main_arg2) = m' ((c.tc : Thread Cert.RefDu0Ideal.nD Cert.RefDu0Ideal.τ).loc Cert.RefDu0Ideal.main_arg2))

def preserves_Du1_Du1Ideal : Prop :=
  True

def algebraic_Du1Ideal_RefDu1Ideal [hDu1Ideal : Cert.Du1Ideal.Facts] [hRefDu1Ideal : Cert.RefDu1Ideal.Facts] : Prop :=
  ∀ (m : (ℓ : Loc Cert.Du1Ideal.nD Cert.Du1Ideal.τ Cert.Du1Ideal.sig) → Buf (Elt Ideal) ℓ) (g : Dev Cert.Du1Ideal.nD → PrngReg)
    (m' : (ℓ : Loc Cert.RefDu1Ideal.nD Cert.RefDu1Ideal.τ Cert.RefDu1Ideal.sig) → Buf (Elt Ideal) ℓ) (g' : Dev Cert.RefDu1Ideal.nD → PrngReg), Pre_Du1Ideal m →
    (∀ c : Dev Cert.Du1Ideal.nD,
      m' ((c.tc : Thread Cert.RefDu1Ideal.nD Cert.RefDu1Ideal.τ).loc Cert.RefDu1Ideal.main_arg0) = m ((c.tc : Thread Cert.Du1Ideal.nD Cert.Du1Ideal.τ).loc Cert.Du1Ideal.main_arg0)
      ∧ m' ((c.tc : Thread Cert.RefDu1Ideal.nD Cert.RefDu1Ideal.τ).loc Cert.RefDu1Ideal.main_arg1) = m ((c.tc : Thread Cert.Du1Ideal.nD Cert.Du1Ideal.τ).loc Cert.Du1Ideal.main_arg1)
      ∧ m' ((c.tc : Thread Cert.RefDu1Ideal.nD Cert.RefDu1Ideal.τ).loc Cert.RefDu1Ideal.main_arg2) = m ((c.tc : Thread Cert.Du1Ideal.nD Cert.Du1Ideal.τ).loc Cert.Du1Ideal.main_arg2)) →
    ∃ (v0 : (c : Dev Cert.Du1Ideal.nD) → Buf (Elt Ideal) ((c.tc : Thread Cert.Du1Ideal.nD Cert.Du1Ideal.τ).loc Cert.Du1Ideal.main_v0)),
      θ_run (Cert.Du1Ideal.defs (F := Ideal)) (onTc (τ := Cert.Du1Ideal.τ) (Cert.Du1Ideal.main (F := Ideal))) ⟨m, fun _ => 0, g⟩ (fun r => ∀ c : Dev Cert.Du1Ideal.nD,
          r.2.mem ((c.tc : Thread Cert.Du1Ideal.nD Cert.Du1Ideal.τ).loc Cert.Du1Ideal.main_v0) = v0 c
          ∧ r.2.mem ((c.tc : Thread Cert.Du1Ideal.nD Cert.Du1Ideal.τ).loc Cert.Du1Ideal.main_arg0) = m ((c.tc : Thread Cert.Du1Ideal.nD Cert.Du1Ideal.τ).loc Cert.Du1Ideal.main_arg0)
          ∧ r.2.mem ((c.tc : Thread Cert.Du1Ideal.nD Cert.Du1Ideal.τ).loc Cert.Du1Ideal.main_arg1) = m ((c.tc : Thread Cert.Du1Ideal.nD Cert.Du1Ideal.τ).loc Cert.Du1Ideal.main_arg1)
          ∧ r.2.mem ((c.tc : Thread Cert.Du1Ideal.nD Cert.Du1Ideal.τ).loc Cert.Du1Ideal.main_arg2) = m ((c.tc : Thread Cert.Du1Ideal.nD Cert.Du1Ideal.τ).loc Cert.Du1Ideal.main_arg2))
      ∧ θ_run (Cert.RefDu1Ideal.defs (F := Ideal)) (onTc (τ := Cert.RefDu1Ideal.τ) (Cert.RefDu1Ideal.main (F := Ideal))) ⟨m', fun _ => 0, g'⟩ (fun r => ∀ c : Dev Cert.RefDu1Ideal.nD,
          r.2.mem ((c.tc : Thread Cert.RefDu1Ideal.nD Cert.RefDu1Ideal.τ).loc Cert.RefDu1Ideal.main_v17) = v0 c
          ∧ r.2.mem ((c.tc : Thread Cert.RefDu1Ideal.nD Cert.RefDu1Ideal.τ).loc Cert.RefDu1Ideal.main_arg0) = m' ((c.tc : Thread Cert.RefDu1Ideal.nD Cert.RefDu1Ideal.τ).loc Cert.RefDu1Ideal.main_arg0)
          ∧ r.2.mem ((c.tc : Thread Cert.RefDu1Ideal.nD Cert.RefDu1Ideal.τ).loc Cert.RefDu1Ideal.main_arg1) = m' ((c.tc : Thread Cert.RefDu1Ideal.nD Cert.RefDu1Ideal.τ).loc Cert.RefDu1Ideal.main_arg1)
          ∧ r.2.mem ((c.tc : Thread Cert.RefDu1Ideal.nD Cert.RefDu1Ideal.τ).loc Cert.RefDu1Ideal.main_arg2) = m' ((c.tc : Thread Cert.RefDu1Ideal.nD Cert.RefDu1Ideal.τ).loc Cert.RefDu1Ideal.main_arg2))

def preserves_Du2_Du2Ideal : Prop :=
  True

def algebraic_Du2Ideal_RefDu2Ideal [hDu2Ideal : Cert.Du2Ideal.Facts] [hRefDu2Ideal : Cert.RefDu2Ideal.Facts] : Prop :=
  ∀ (m : (ℓ : Loc Cert.Du2Ideal.nD Cert.Du2Ideal.τ Cert.Du2Ideal.sig) → Buf (Elt Ideal) ℓ) (g : Dev Cert.Du2Ideal.nD → PrngReg)
    (m' : (ℓ : Loc Cert.RefDu2Ideal.nD Cert.RefDu2Ideal.τ Cert.RefDu2Ideal.sig) → Buf (Elt Ideal) ℓ) (g' : Dev Cert.RefDu2Ideal.nD → PrngReg), Pre_Du2Ideal m →
    (∀ c : Dev Cert.Du2Ideal.nD,
      m' ((c.tc : Thread Cert.RefDu2Ideal.nD Cert.RefDu2Ideal.τ).loc Cert.RefDu2Ideal.main_arg0) = m ((c.tc : Thread Cert.Du2Ideal.nD Cert.Du2Ideal.τ).loc Cert.Du2Ideal.main_arg0)
      ∧ m' ((c.tc : Thread Cert.RefDu2Ideal.nD Cert.RefDu2Ideal.τ).loc Cert.RefDu2Ideal.main_arg1) = m ((c.tc : Thread Cert.Du2Ideal.nD Cert.Du2Ideal.τ).loc Cert.Du2Ideal.main_arg1)
      ∧ m' ((c.tc : Thread Cert.RefDu2Ideal.nD Cert.RefDu2Ideal.τ).loc Cert.RefDu2Ideal.main_arg2) = m ((c.tc : Thread Cert.Du2Ideal.nD Cert.Du2Ideal.τ).loc Cert.Du2Ideal.main_arg2)) →
    ∃ (v0 : (c : Dev Cert.Du2Ideal.nD) → Buf (Elt Ideal) ((c.tc : Thread Cert.Du2Ideal.nD Cert.Du2Ideal.τ).loc Cert.Du2Ideal.main_v0)),
      θ_run (Cert.Du2Ideal.defs (F := Ideal)) (onTc (τ := Cert.Du2Ideal.τ) (Cert.Du2Ideal.main (F := Ideal))) ⟨m, fun _ => 0, g⟩ (fun r => ∀ c : Dev Cert.Du2Ideal.nD,
          r.2.mem ((c.tc : Thread Cert.Du2Ideal.nD Cert.Du2Ideal.τ).loc Cert.Du2Ideal.main_v0) = v0 c
          ∧ r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
          ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
          ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2))
      ∧ θ_run (Cert.RefDu2Ideal.defs (F := Ideal)) (onTc (τ := Cert.RefDu2Ideal.τ) (Cert.RefDu2Ideal.main (F := Ideal))) ⟨m', fun _ => 0, g'⟩ (fun r => ∀ c : Dev Cert.RefDu2Ideal.nD,
          r.2.mem ((c.tc : Thread Cert.RefDu2Ideal.nD Cert.RefDu2Ideal.τ).loc Cert.RefDu2Ideal.main_v17) = v0 c
          ∧ r.2.mem ((c.tc : Thread Cert.RefDu2Ideal.nD Cert.RefDu2Ideal.τ).loc Cert.RefDu2Ideal.main_arg0) = m' ((c.tc : Thread Cert.RefDu2Ideal.nD Cert.RefDu2Ideal.τ).loc Cert.RefDu2Ideal.main_arg0)
          ∧ r.2.mem ((c.tc : Thread Cert.RefDu2Ideal.nD Cert.RefDu2Ideal.τ).loc Cert.RefDu2Ideal.main_arg1) = m' ((c.tc : Thread Cert.RefDu2Ideal.nD Cert.RefDu2Ideal.τ).loc Cert.RefDu2Ideal.main_arg1)
          ∧ r.2.mem ((c.tc : Thread Cert.RefDu2Ideal.nD Cert.RefDu2Ideal.τ).loc Cert.RefDu2Ideal.main_arg2) = m' ((c.tc : Thread Cert.RefDu2Ideal.nD Cert.RefDu2Ideal.τ).loc Cert.RefDu2Ideal.main_arg2))

def preserves_Du3_Du3Ideal : Prop :=
  True

def algebraic_Du3Ideal_RefDu3Ideal [hDu3Ideal : Cert.Du3Ideal.Facts] [hRefDu3Ideal : Cert.RefDu3Ideal.Facts] : Prop :=
  ∀ (m : (ℓ : Loc Cert.Du3Ideal.nD Cert.Du3Ideal.τ Cert.Du3Ideal.sig) → Buf (Elt Ideal) ℓ) (g : Dev Cert.Du3Ideal.nD → PrngReg)
    (m' : (ℓ : Loc Cert.RefDu3Ideal.nD Cert.RefDu3Ideal.τ Cert.RefDu3Ideal.sig) → Buf (Elt Ideal) ℓ) (g' : Dev Cert.RefDu3Ideal.nD → PrngReg), Pre_Du3Ideal m →
    (∀ c : Dev Cert.Du3Ideal.nD,
      m' ((c.tc : Thread Cert.RefDu3Ideal.nD Cert.RefDu3Ideal.τ).loc Cert.RefDu3Ideal.main_arg0) = m ((c.tc : Thread Cert.Du3Ideal.nD Cert.Du3Ideal.τ).loc Cert.Du3Ideal.main_arg0)
      ∧ m' ((c.tc : Thread Cert.RefDu3Ideal.nD Cert.RefDu3Ideal.τ).loc Cert.RefDu3Ideal.main_arg1) = m ((c.tc : Thread Cert.Du3Ideal.nD Cert.Du3Ideal.τ).loc Cert.Du3Ideal.main_arg1)
      ∧ m' ((c.tc : Thread Cert.RefDu3Ideal.nD Cert.RefDu3Ideal.τ).loc Cert.RefDu3Ideal.main_arg2) = m ((c.tc : Thread Cert.Du3Ideal.nD Cert.Du3Ideal.τ).loc Cert.Du3Ideal.main_arg2)) →
    ∃ (v0 : (c : Dev Cert.Du3Ideal.nD) → Buf (Elt Ideal) ((c.tc : Thread Cert.Du3Ideal.nD Cert.Du3Ideal.τ).loc Cert.Du3Ideal.main_v0)),
      θ_run (Cert.Du3Ideal.defs (F := Ideal)) (onTc (τ := Cert.Du3Ideal.τ) (Cert.Du3Ideal.main (F := Ideal))) ⟨m, fun _ => 0, g⟩ (fun r => ∀ c : Dev Cert.Du3Ideal.nD,
          r.2.mem ((c.tc : Thread Cert.Du3Ideal.nD Cert.Du3Ideal.τ).loc Cert.Du3Ideal.main_v0) = v0 c
          ∧ r.2.mem ((c.tc : Thread Cert.Du3Ideal.nD Cert.Du3Ideal.τ).loc Cert.Du3Ideal.main_arg0) = m ((c.tc : Thread Cert.Du3Ideal.nD Cert.Du3Ideal.τ).loc Cert.Du3Ideal.main_arg0)
          ∧ r.2.mem ((c.tc : Thread Cert.Du3Ideal.nD Cert.Du3Ideal.τ).loc Cert.Du3Ideal.main_arg1) = m ((c.tc : Thread Cert.Du3Ideal.nD Cert.Du3Ideal.τ).loc Cert.Du3Ideal.main_arg1)
          ∧ r.2.mem ((c.tc : Thread Cert.Du3Ideal.nD Cert.Du3Ideal.τ).loc Cert.Du3Ideal.main_arg2) = m ((c.tc : Thread Cert.Du3Ideal.nD Cert.Du3Ideal.τ).loc Cert.Du3Ideal.main_arg2))
      ∧ θ_run (Cert.RefDu3Ideal.defs (F := Ideal)) (onTc (τ := Cert.RefDu3Ideal.τ) (Cert.RefDu3Ideal.main (F := Ideal))) ⟨m', fun _ => 0, g'⟩ (fun r => ∀ c : Dev Cert.RefDu3Ideal.nD,
          r.2.mem ((c.tc : Thread Cert.RefDu3Ideal.nD Cert.RefDu3Ideal.τ).loc Cert.RefDu3Ideal.main_v17) = v0 c
          ∧ r.2.mem ((c.tc : Thread Cert.RefDu3Ideal.nD Cert.RefDu3Ideal.τ).loc Cert.RefDu3Ideal.main_arg0) = m' ((c.tc : Thread Cert.RefDu3Ideal.nD Cert.RefDu3Ideal.τ).loc Cert.RefDu3Ideal.main_arg0)
          ∧ r.2.mem ((c.tc : Thread Cert.RefDu3Ideal.nD Cert.RefDu3Ideal.τ).loc Cert.RefDu3Ideal.main_arg1) = m' ((c.tc : Thread Cert.RefDu3Ideal.nD Cert.RefDu3Ideal.τ).loc Cert.RefDu3Ideal.main_arg1)
          ∧ r.2.mem ((c.tc : Thread Cert.RefDu3Ideal.nD Cert.RefDu3Ideal.τ).loc Cert.RefDu3Ideal.main_arg2) = m' ((c.tc : Thread Cert.RefDu3Ideal.nD Cert.RefDu3Ideal.τ).loc Cert.RefDu3Ideal.main_arg2))

def preserves_Dh0_Dh0Ideal : Prop :=
  True

def algebraic_Dh0Ideal_RefDh0Ideal [hDh0Ideal : Cert.Dh0Ideal.Facts] [hRefDh0Ideal : Cert.RefDh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.RefDh0Ideal.nD Cert.RefDh0Ideal.τ Cert.RefDh0Ideal.sig) → Buf (Elt Ideal) ℓ) (g' : Dev Cert.RefDh0Ideal.nD → PrngReg), Pre_Dh0Ideal m →
    (∀ c : Dev Cert.Dh0Ideal.nD,
      m' ((c.tc : Thread Cert.RefDh0Ideal.nD Cert.RefDh0Ideal.τ).loc Cert.RefDh0Ideal.main_arg0) = m ((c.tc : Thread Cert.Dh0Ideal.nD Cert.Dh0Ideal.τ).loc Cert.Dh0Ideal.main_arg0)
      ∧ m' ((c.tc : Thread Cert.RefDh0Ideal.nD Cert.RefDh0Ideal.τ).loc Cert.RefDh0Ideal.main_arg1) = m ((c.tc : Thread Cert.Dh0Ideal.nD Cert.Dh0Ideal.τ).loc Cert.Dh0Ideal.main_arg1)
      ∧ m' ((c.tc : Thread Cert.RefDh0Ideal.nD Cert.RefDh0Ideal.τ).loc Cert.RefDh0Ideal.main_arg2) = m ((c.tc : Thread Cert.Dh0Ideal.nD Cert.Dh0Ideal.τ).loc Cert.Dh0Ideal.main_arg2)) →
    ∃ (v0 : (c : Dev Cert.Dh0Ideal.nD) → Buf (Elt Ideal) ((c.tc : Thread Cert.Dh0Ideal.nD Cert.Dh0Ideal.τ).loc Cert.Dh0Ideal.main_v0)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v0) = v0 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
          ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2))
      ∧ θ_run (Cert.RefDh0Ideal.defs (F := Ideal)) (onTc (τ := Cert.RefDh0Ideal.τ) (Cert.RefDh0Ideal.main (F := Ideal))) ⟨m', fun _ => 0, g'⟩ (fun r => ∀ c : Dev Cert.RefDh0Ideal.nD,
          r.2.mem ((c.tc : Thread Cert.RefDh0Ideal.nD Cert.RefDh0Ideal.τ).loc Cert.RefDh0Ideal.main_v7) = v0 c
          ∧ r.2.mem ((c.tc : Thread Cert.RefDh0Ideal.nD Cert.RefDh0Ideal.τ).loc Cert.RefDh0Ideal.main_arg0) = m' ((c.tc : Thread Cert.RefDh0Ideal.nD Cert.RefDh0Ideal.τ).loc Cert.RefDh0Ideal.main_arg0)
          ∧ r.2.mem ((c.tc : Thread Cert.RefDh0Ideal.nD Cert.RefDh0Ideal.τ).loc Cert.RefDh0Ideal.main_arg1) = m' ((c.tc : Thread Cert.RefDh0Ideal.nD Cert.RefDh0Ideal.τ).loc Cert.RefDh0Ideal.main_arg1)
          ∧ r.2.mem ((c.tc : Thread Cert.RefDh0Ideal.nD Cert.RefDh0Ideal.τ).loc Cert.RefDh0Ideal.main_arg2) = m' ((c.tc : Thread Cert.RefDh0Ideal.nD Cert.RefDh0Ideal.τ).loc Cert.RefDh0Ideal.main_arg2))

def preserves_Dh1_Dh1Ideal : Prop :=
  True

def algebraic_Dh1Ideal_RefDh1Ideal [hDh1Ideal : Cert.Dh1Ideal.Facts] [hRefDh1Ideal : Cert.RefDh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.RefDh1Ideal.nD Cert.RefDh1Ideal.τ Cert.RefDh1Ideal.sig) → Buf (Elt Ideal) ℓ) (g' : Dev Cert.RefDh1Ideal.nD → PrngReg), Pre_Dh1Ideal m →
    (∀ c : Dev Cert.Dh1Ideal.nD,
      m' ((c.tc : Thread Cert.RefDh1Ideal.nD Cert.RefDh1Ideal.τ).loc Cert.RefDh1Ideal.main_arg0) = m ((c.tc : Thread Cert.Dh1Ideal.nD Cert.Dh1Ideal.τ).loc Cert.Dh1Ideal.main_arg0)
      ∧ m' ((c.tc : Thread Cert.RefDh1Ideal.nD Cert.RefDh1Ideal.τ).loc Cert.RefDh1Ideal.main_arg1) = m ((c.tc : Thread Cert.Dh1Ideal.nD Cert.Dh1Ideal.τ).loc Cert.Dh1Ideal.main_arg1)
      ∧ m' ((c.tc : Thread Cert.RefDh1Ideal.nD Cert.RefDh1Ideal.τ).loc Cert.RefDh1Ideal.main_arg2) = m ((c.tc : Thread Cert.Dh1Ideal.nD Cert.Dh1Ideal.τ).loc Cert.Dh1Ideal.main_arg2)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2))
      ∧ θ_run (Cert.RefDh1Ideal.defs (F := Ideal)) (onTc (τ := Cert.RefDh1Ideal.τ) (Cert.RefDh1Ideal.main (F := Ideal))) ⟨m', fun _ => 0, g'⟩ (fun r => ∀ c : Dev Cert.RefDh1Ideal.nD,
          r.2.mem ((c.tc : Thread Cert.RefDh1Ideal.nD Cert.RefDh1Ideal.τ).loc Cert.RefDh1Ideal.main_v7) = v0 c
          ∧ r.2.mem ((c.tc : Thread Cert.RefDh1Ideal.nD Cert.RefDh1Ideal.τ).loc Cert.RefDh1Ideal.main_arg0) = m' ((c.tc : Thread Cert.RefDh1Ideal.nD Cert.RefDh1Ideal.τ).loc Cert.RefDh1Ideal.main_arg0)
          ∧ r.2.mem ((c.tc : Thread Cert.RefDh1Ideal.nD Cert.RefDh1Ideal.τ).loc Cert.RefDh1Ideal.main_arg1) = m' ((c.tc : Thread Cert.RefDh1Ideal.nD Cert.RefDh1Ideal.τ).loc Cert.RefDh1Ideal.main_arg1)
          ∧ r.2.mem ((c.tc : Thread Cert.RefDh1Ideal.nD Cert.RefDh1Ideal.τ).loc Cert.RefDh1Ideal.main_arg2) = m' ((c.tc : Thread Cert.RefDh1Ideal.nD Cert.RefDh1Ideal.τ).loc Cert.RefDh1Ideal.main_arg2))

def preserves_Dh2_Dh2Ideal : Prop :=
  True

def algebraic_Dh2Ideal_RefDh2Ideal [hDh2Ideal : Cert.Dh2Ideal.Facts] [hRefDh2Ideal : Cert.RefDh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.RefDh2Ideal.nD Cert.RefDh2Ideal.τ Cert.RefDh2Ideal.sig) → Buf (Elt Ideal) ℓ) (g' : Dev Cert.RefDh2Ideal.nD → PrngReg), Pre_Dh2Ideal m →
    (∀ c : Dev Cert.Dh2Ideal.nD,
      m' ((c.tc : Thread Cert.RefDh2Ideal.nD Cert.RefDh2Ideal.τ).loc Cert.RefDh2Ideal.main_arg0) = m ((c.tc : Thread Cert.Dh2Ideal.nD Cert.Dh2Ideal.τ).loc Cert.Dh2Ideal.main_arg0)
      ∧ m' ((c.tc : Thread Cert.RefDh2Ideal.nD Cert.RefDh2Ideal.τ).loc Cert.RefDh2Ideal.main_arg1) = m ((c.tc : Thread Cert.Dh2Ideal.nD Cert.Dh2Ideal.τ).loc Cert.Dh2Ideal.main_arg1)
      ∧ m' ((c.tc : Thread Cert.RefDh2Ideal.nD Cert.RefDh2Ideal.τ).loc Cert.RefDh2Ideal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.RefDh2Ideal.defs (F := Ideal)) (onTc (τ := Cert.RefDh2Ideal.τ) (Cert.RefDh2Ideal.main (F := Ideal))) ⟨m', fun _ => 0, g'⟩ (fun r => ∀ c : Dev Cert.RefDh2Ideal.nD,
          r.2.mem ((c.tc : Thread Cert.RefDh2Ideal.nD Cert.RefDh2Ideal.τ).loc Cert.RefDh2Ideal.main_v7) = v0 c
          ∧ r.2.mem ((c.tc : Thread Cert.RefDh2Ideal.nD Cert.RefDh2Ideal.τ).loc Cert.RefDh2Ideal.main_arg0) = m' ((c.tc : Thread Cert.RefDh2Ideal.nD Cert.RefDh2Ideal.τ).loc Cert.RefDh2Ideal.main_arg0)
          ∧ r.2.mem ((c.tc : Thread Cert.RefDh2Ideal.nD Cert.RefDh2Ideal.τ).loc Cert.RefDh2Ideal.main_arg1) = m' ((c.tc : Thread Cert.RefDh2Ideal.nD Cert.RefDh2Ideal.τ).loc Cert.RefDh2Ideal.main_arg1)
          ∧ r.2.mem ((c.tc : Thread Cert.RefDh2Ideal.nD Cert.RefDh2Ideal.τ).loc Cert.RefDh2Ideal.main_arg2) = m' ((c.tc : Thread Cert.RefDh2Ideal.nD Cert.RefDh2Ideal.τ).loc Cert.RefDh2Ideal.main_arg2))

def preserves_Dh3_Dh3Ideal : Prop :=
  True

def algebraic_Dh3Ideal_RefDh3Ideal [hDh3Ideal : Cert.Dh3Ideal.Facts] [hRefDh3Ideal : Cert.RefDh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg)
    (m' : (ℓ : Loc Cert.RefDh3Ideal.nD Cert.RefDh3Ideal.τ Cert.RefDh3Ideal.sig) → Buf (Elt Ideal) ℓ) (g' : Dev Cert.RefDh3Ideal.nD → PrngReg), Pre_Dh3Ideal m →
    (∀ c : Dev Cert.Dh3Ideal.nD,
      m' ((c.tc : Thread Cert.RefDh3Ideal.nD Cert.RefDh3Ideal.τ).loc Cert.RefDh3Ideal.main_arg0) = m ((c.tc : Thread Cert.Dh3Ideal.nD Cert.Dh3Ideal.τ).loc Cert.Dh3Ideal.main_arg0)
      ∧ m' ((c.tc : Thread Cert.RefDh3Ideal.nD Cert.RefDh3Ideal.τ).loc Cert.RefDh3Ideal.main_arg1) = m ((c.tc : Thread Cert.Dh3Ideal.nD Cert.Dh3Ideal.τ).loc Cert.Dh3Ideal.main_arg1)
      ∧ m' ((c.tc : Thread Cert.RefDh3Ideal.nD Cert.RefDh3Ideal.τ).loc Cert.RefDh3Ideal.main_arg2) = m ((c.tc : Thread Cert.Dh3Ideal.nD Cert.Dh3Ideal.τ).loc Cert.Dh3Ideal.main_arg2)) →
    ∃ (v0 : (c : Dev Cert.Dh3Ideal.nD) → Buf (Elt Ideal) ((c.tc : Thread Cert.Dh3Ideal.nD Cert.Dh3Ideal.τ).loc Cert.Dh3Ideal.main_v0)),
      θ_run (Cert.Dh3Ideal.defs (F := Ideal)) (onTc (τ := Cert.Dh3Ideal.τ) (Cert.Dh3Ideal.main (F := Ideal))) ⟨m, fun _ => 0, g⟩ (fun r => ∀ c : Dev Cert.Dh3Ideal.nD,
          r.2.mem ((c.tc : Thread Cert.Dh3Ideal.nD Cert.Dh3Ideal.τ).loc Cert.Dh3Ideal.main_v0) = v0 c
          ∧ r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
          ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
          ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2))
      ∧ θ_run (Cert.RefDh3Ideal.defs (F := Ideal)) (onTc (τ := Cert.RefDh3Ideal.τ) (Cert.RefDh3Ideal.main (F := Ideal))) ⟨m', fun _ => 0, g'⟩ (fun r => ∀ c : Dev Cert.RefDh3Ideal.nD,
          r.2.mem ((c.tc : Thread Cert.RefDh3Ideal.nD Cert.RefDh3Ideal.τ).loc Cert.RefDh3Ideal.main_v7) = v0 c
          ∧ r.2.mem ((c.tc : Thread Cert.RefDh3Ideal.nD Cert.RefDh3Ideal.τ).loc Cert.RefDh3Ideal.main_arg0) = m' ((c.tc : Thread Cert.RefDh3Ideal.nD Cert.RefDh3Ideal.τ).loc Cert.RefDh3Ideal.main_arg0)
          ∧ r.2.mem ((c.tc : Thread Cert.RefDh3Ideal.nD Cert.RefDh3Ideal.τ).loc Cert.RefDh3Ideal.main_arg1) = m' ((c.tc : Thread Cert.RefDh3Ideal.nD Cert.RefDh3Ideal.τ).loc Cert.RefDh3Ideal.main_arg1)
          ∧ r.2.mem ((c.tc : Thread Cert.RefDh3Ideal.nD Cert.RefDh3Ideal.τ).loc Cert.RefDh3Ideal.main_arg2) = m' ((c.tc : Thread Cert.RefDh3Ideal.nD Cert.RefDh3Ideal.τ).loc Cert.RefDh3Ideal.main_arg2))

def preserves_DhQkv0_DhQkv0Ideal : Prop :=
  True

def algebraic_DhQkv0Ideal_RefDhQkv0Ideal [hDhQkv0Ideal : Cert.DhQkv0Ideal.Facts] [hRefDhQkv0Ideal : Cert.RefDhQkv0Ideal.Facts] : Prop :=
  ∀ (m : (ℓ : Loc Cert.DhQkv0Ideal.nD Cert.DhQkv0Ideal.τ Cert.DhQkv0Ideal.sig) → Buf (Elt Ideal) ℓ) (g : Dev Cert.DhQkv0Ideal.nD → PrngReg)
    (m' : (ℓ : Loc Cert.RefDhQkv0Ideal.nD Cert.RefDhQkv0Ideal.τ Cert.RefDhQkv0Ideal.sig) → Buf (Elt Ideal) ℓ) (g' : Dev Cert.RefDhQkv0Ideal.nD → PrngReg), Pre_DhQkv0Ideal m →
    (∀ c : Dev Cert.DhQkv0Ideal.nD,
      m' ((c.tc : Thread Cert.RefDhQkv0Ideal.nD Cert.RefDhQkv0Ideal.τ).loc Cert.RefDhQkv0Ideal.main_arg0) = m ((c.tc : Thread Cert.DhQkv0Ideal.nD Cert.DhQkv0Ideal.τ).loc Cert.DhQkv0Ideal.main_arg0)
      ∧ m' ((c.tc : Thread Cert.RefDhQkv0Ideal.nD Cert.RefDhQkv0Ideal.τ).loc Cert.RefDhQkv0Ideal.main_arg1) = m ((c.tc : Thread Cert.DhQkv0Ideal.nD Cert.DhQkv0Ideal.τ).loc Cert.DhQkv0Ideal.main_arg1)
      ∧ m' ((c.tc : Thread Cert.RefDhQkv0Ideal.nD Cert.RefDhQkv0Ideal.τ).loc Cert.RefDhQkv0Ideal.main_arg2) = m ((c.tc : Thread Cert.DhQkv0Ideal.nD Cert.DhQkv0Ideal.τ).loc Cert.DhQkv0Ideal.main_arg2)) →
    ∃ (v0 : (c : Dev Cert.DhQkv0Ideal.nD) → Buf (Elt Ideal) ((c.tc : Thread Cert.DhQkv0Ideal.nD Cert.DhQkv0Ideal.τ).loc Cert.DhQkv0Ideal.main_v0)),
      θ_run (Cert.DhQkv0Ideal.defs (F := Ideal)) (onTc (τ := Cert.DhQkv0Ideal.τ) (Cert.DhQkv0Ideal.main (F := Ideal))) ⟨m, fun _ => 0, g⟩ (fun r => ∀ c : Dev Cert.DhQkv0Ideal.nD,
          r.2.mem ((c.tc : Thread Cert.DhQkv0Ideal.nD Cert.DhQkv0Ideal.τ).loc Cert.DhQkv0Ideal.main_v0) = v0 c
          ∧ r.2.mem ((c.tc : Thread Cert.DhQkv0Ideal.nD Cert.DhQkv0Ideal.τ).loc Cert.DhQkv0Ideal.main_arg0) = m ((c.tc : Thread Cert.DhQkv0Ideal.nD Cert.DhQkv0Ideal.τ).loc Cert.DhQkv0Ideal.main_arg0)
          ∧ r.2.mem ((c.tc : Thread Cert.DhQkv0Ideal.nD Cert.DhQkv0Ideal.τ).loc Cert.DhQkv0Ideal.main_arg1) = m ((c.tc : Thread Cert.DhQkv0Ideal.nD Cert.DhQkv0Ideal.τ).loc Cert.DhQkv0Ideal.main_arg1)
          ∧ r.2.mem ((c.tc : Thread Cert.DhQkv0Ideal.nD Cert.DhQkv0Ideal.τ).loc Cert.DhQkv0Ideal.main_arg2) = m ((c.tc : Thread Cert.DhQkv0Ideal.nD Cert.DhQkv0Ideal.τ).loc Cert.DhQkv0Ideal.main_arg2))
      ∧ θ_run (Cert.RefDhQkv0Ideal.defs (F := Ideal)) (onTc (τ := Cert.RefDhQkv0Ideal.τ) (Cert.RefDhQkv0Ideal.main (F := Ideal))) ⟨m', fun _ => 0, g'⟩ (fun r => ∀ c : Dev Cert.RefDhQkv0Ideal.nD,
          r.2.mem ((c.tc : Thread Cert.RefDhQkv0Ideal.nD Cert.RefDhQkv0Ideal.τ).loc Cert.RefDhQkv0Ideal.main_v7) = v0 c
          ∧ r.2.mem ((c.tc : Thread Cert.RefDhQkv0Ideal.nD Cert.RefDhQkv0Ideal.τ).loc Cert.RefDhQkv0Ideal.main_arg0) = m' ((c.tc : Thread Cert.RefDhQkv0Ideal.nD Cert.RefDhQkv0Ideal.τ).loc Cert.RefDhQkv0Ideal.main_arg0)
          ∧ r.2.mem ((c.tc : Thread Cert.RefDhQkv0Ideal.nD Cert.RefDhQkv0Ideal.τ).loc Cert.RefDhQkv0Ideal.main_arg1) = m' ((c.tc : Thread Cert.RefDhQkv0Ideal.nD Cert.RefDhQkv0Ideal.τ).loc Cert.RefDhQkv0Ideal.main_arg1)
          ∧ r.2.mem ((c.tc : Thread Cert.RefDhQkv0Ideal.nD Cert.RefDhQkv0Ideal.τ).loc Cert.RefDhQkv0Ideal.main_arg2) = m' ((c.tc : Thread Cert.RefDhQkv0Ideal.nD Cert.RefDhQkv0Ideal.τ).loc Cert.RefDhQkv0Ideal.main_arg2))

def preserves_DhQkv1_DhQkv1Ideal : Prop :=
  True

def algebraic_DhQkv1Ideal_RefDhQkv1Ideal [hDhQkv1Ideal : Cert.DhQkv1Ideal.Facts] [hRefDhQkv1Ideal : Cert.RefDhQkv1Ideal.Facts] : Prop :=
  ∀ (m : (ℓ : Loc Cert.DhQkv1Ideal.nD Cert.DhQkv1Ideal.τ Cert.DhQkv1Ideal.sig) → Buf (Elt Ideal) ℓ) (g : Dev Cert.DhQkv1Ideal.nD → PrngReg)
    (m' : (ℓ : Loc Cert.RefDhQkv1Ideal.nD Cert.RefDhQkv1Ideal.τ Cert.RefDhQkv1Ideal.sig) → Buf (Elt Ideal) ℓ) (g' : Dev Cert.RefDhQkv1Ideal.nD → PrngReg), Pre_DhQkv1Ideal m →
    (∀ c : Dev Cert.DhQkv1Ideal.nD,
      m' ((c.tc : Thread Cert.RefDhQkv1Ideal.nD Cert.RefDhQkv1Ideal.τ).loc Cert.RefDhQkv1Ideal.main_arg0) = m ((c.tc : Thread Cert.DhQkv1Ideal.nD Cert.DhQkv1Ideal.τ).loc Cert.DhQkv1Ideal.main_arg0)
      ∧ m' ((c.tc : Thread Cert.RefDhQkv1Ideal.nD Cert.RefDhQkv1Ideal.τ).loc Cert.RefDhQkv1Ideal.main_arg1) = m ((c.tc : Thread Cert.DhQkv1Ideal.nD Cert.DhQkv1Ideal.τ).loc Cert.DhQkv1Ideal.main_arg1)
      ∧ m' ((c.tc : Thread Cert.RefDhQkv1Ideal.nD Cert.RefDhQkv1Ideal.τ).loc Cert.RefDhQkv1Ideal.main_arg2) = m ((c.tc : Thread Cert.DhQkv1Ideal.nD Cert.DhQkv1Ideal.τ).loc Cert.DhQkv1Ideal.main_arg2)) →
    ∃ (v0 : (c : Dev Cert.DhQkv1Ideal.nD) → Buf (Elt Ideal) ((c.tc : Thread Cert.DhQkv1Ideal.nD Cert.DhQkv1Ideal.τ).loc Cert.DhQkv1Ideal.main_v0)),
      θ_run (Cert.DhQkv1Ideal.defs (F := Ideal)) (onTc (τ := Cert.DhQkv1Ideal.τ) (Cert.DhQkv1Ideal.main (F := Ideal))) ⟨m, fun _ => 0, g⟩ (fun r => ∀ c : Dev Cert.DhQkv1Ideal.nD,
          r.2.mem ((c.tc : Thread Cert.DhQkv1Ideal.nD Cert.DhQkv1Ideal.τ).loc Cert.DhQkv1Ideal.main_v0) = v0 c
          ∧ r.2.mem ((c.tc : Thread Cert.DhQkv1Ideal.nD Cert.DhQkv1Ideal.τ).loc Cert.DhQkv1Ideal.main_arg0) = m ((c.tc : Thread Cert.DhQkv1Ideal.nD Cert.DhQkv1Ideal.τ).loc Cert.DhQkv1Ideal.main_arg0)
          ∧ r.2.mem ((c.tc : Thread Cert.DhQkv1Ideal.nD Cert.DhQkv1Ideal.τ).loc Cert.DhQkv1Ideal.main_arg1) = m ((c.tc : Thread Cert.DhQkv1Ideal.nD Cert.DhQkv1Ideal.τ).loc Cert.DhQkv1Ideal.main_arg1)
          ∧ r.2.mem ((c.tc : Thread Cert.DhQkv1Ideal.nD Cert.DhQkv1Ideal.τ).loc Cert.DhQkv1Ideal.main_arg2) = m ((c.tc : Thread Cert.DhQkv1Ideal.nD Cert.DhQkv1Ideal.τ).loc Cert.DhQkv1Ideal.main_arg2))
      ∧ θ_run (Cert.RefDhQkv1Ideal.defs (F := Ideal)) (onTc (τ := Cert.RefDhQkv1Ideal.τ) (Cert.RefDhQkv1Ideal.main (F := Ideal))) ⟨m', fun _ => 0, g'⟩ (fun r => ∀ c : Dev Cert.RefDhQkv1Ideal.nD,
          r.2.mem ((c.tc : Thread Cert.RefDhQkv1Ideal.nD Cert.RefDhQkv1Ideal.τ).loc Cert.RefDhQkv1Ideal.main_v7) = v0 c
          ∧ r.2.mem ((c.tc : Thread Cert.RefDhQkv1Ideal.nD Cert.RefDhQkv1Ideal.τ).loc Cert.RefDhQkv1Ideal.main_arg0) = m' ((c.tc : Thread Cert.RefDhQkv1Ideal.nD Cert.RefDhQkv1Ideal.τ).loc Cert.RefDhQkv1Ideal.main_arg0)
          ∧ r.2.mem ((c.tc : Thread Cert.RefDhQkv1Ideal.nD Cert.RefDhQkv1Ideal.τ).loc Cert.RefDhQkv1Ideal.main_arg1) = m' ((c.tc : Thread Cert.RefDhQkv1Ideal.nD Cert.RefDhQkv1Ideal.τ).loc Cert.RefDhQkv1Ideal.main_arg1)
          ∧ r.2.mem ((c.tc : Thread Cert.RefDhQkv1Ideal.nD Cert.RefDhQkv1Ideal.τ).loc Cert.RefDhQkv1Ideal.main_arg2) = m' ((c.tc : Thread Cert.RefDhQkv1Ideal.nD Cert.RefDhQkv1Ideal.τ).loc Cert.RefDhQkv1Ideal.main_arg2))

def preserves_Do0_Do0Ideal : Prop :=
  True

def algebraic_Do0Ideal_RefDo0Ideal [hDo0Ideal : Cert.Do0Ideal.Facts] [hRefDo0Ideal : Cert.RefDo0Ideal.Facts] : Prop :=
  ∀ (m : (ℓ : Loc Cert.Do0Ideal.nD Cert.Do0Ideal.τ Cert.Do0Ideal.sig) → Buf (Elt Ideal) ℓ) (g : Dev Cert.Do0Ideal.nD → PrngReg)
    (m' : (ℓ : Loc Cert.RefDo0Ideal.nD Cert.RefDo0Ideal.τ Cert.RefDo0Ideal.sig) → Buf (Elt Ideal) ℓ) (g' : Dev Cert.RefDo0Ideal.nD → PrngReg), Pre_Do0Ideal m →
    (∀ c : Dev Cert.Do0Ideal.nD,
      m' ((c.tc : Thread Cert.RefDo0Ideal.nD Cert.RefDo0Ideal.τ).loc Cert.RefDo0Ideal.main_arg0) = m ((c.tc : Thread Cert.Do0Ideal.nD Cert.Do0Ideal.τ).loc Cert.Do0Ideal.main_arg0)
      ∧ m' ((c.tc : Thread Cert.RefDo0Ideal.nD Cert.RefDo0Ideal.τ).loc Cert.RefDo0Ideal.main_arg1) = m ((c.tc : Thread Cert.Do0Ideal.nD Cert.Do0Ideal.τ).loc Cert.Do0Ideal.main_arg1)
      ∧ m' ((c.tc : Thread Cert.RefDo0Ideal.nD Cert.RefDo0Ideal.τ).loc Cert.RefDo0Ideal.main_arg2) = m ((c.tc : Thread Cert.Do0Ideal.nD Cert.Do0Ideal.τ).loc Cert.Do0Ideal.main_arg2)) →
    ∃ (v0 : (c : Dev Cert.Do0Ideal.nD) → Buf (Elt Ideal) ((c.tc : Thread Cert.Do0Ideal.nD Cert.Do0Ideal.τ).loc Cert.Do0Ideal.main_v0)),
      θ_run (Cert.Do0Ideal.defs (F := Ideal)) (onTc (τ := Cert.Do0Ideal.τ) (Cert.Do0Ideal.main (F := Ideal))) ⟨m, fun _ => 0, g⟩ (fun r => ∀ c : Dev Cert.Do0Ideal.nD,
          r.2.mem ((c.tc : Thread Cert.Do0Ideal.nD Cert.Do0Ideal.τ).loc Cert.Do0Ideal.main_v0) = v0 c
          ∧ r.2.mem ((c.tc : Thread Cert.Do0Ideal.nD Cert.Do0Ideal.τ).loc Cert.Do0Ideal.main_arg0) = m ((c.tc : Thread Cert.Do0Ideal.nD Cert.Do0Ideal.τ).loc Cert.Do0Ideal.main_arg0)
          ∧ r.2.mem ((c.tc : Thread Cert.Do0Ideal.nD Cert.Do0Ideal.τ).loc Cert.Do0Ideal.main_arg1) = m ((c.tc : Thread Cert.Do0Ideal.nD Cert.Do0Ideal.τ).loc Cert.Do0Ideal.main_arg1)
          ∧ r.2.mem ((c.tc : Thread Cert.Do0Ideal.nD Cert.Do0Ideal.τ).loc Cert.Do0Ideal.main_arg2) = m ((c.tc : Thread Cert.Do0Ideal.nD Cert.Do0Ideal.τ).loc Cert.Do0Ideal.main_arg2))
      ∧ θ_run (Cert.RefDo0Ideal.defs (F := Ideal)) (onTc (τ := Cert.RefDo0Ideal.τ) (Cert.RefDo0Ideal.main (F := Ideal))) ⟨m', fun _ => 0, g'⟩ (fun r => ∀ c : Dev Cert.RefDo0Ideal.nD,
          r.2.mem ((c.tc : Thread Cert.RefDo0Ideal.nD Cert.RefDo0Ideal.τ).loc Cert.RefDo0Ideal.main_v6) = v0 c
          ∧ r.2.mem ((c.tc : Thread Cert.RefDo0Ideal.nD Cert.RefDo0Ideal.τ).loc Cert.RefDo0Ideal.main_arg0) = m' ((c.tc : Thread Cert.RefDo0Ideal.nD Cert.RefDo0Ideal.τ).loc Cert.RefDo0Ideal.main_arg0)
          ∧ r.2.mem ((c.tc : Thread Cert.RefDo0Ideal.nD Cert.RefDo0Ideal.τ).loc Cert.RefDo0Ideal.main_arg1) = m' ((c.tc : Thread Cert.RefDo0Ideal.nD Cert.RefDo0Ideal.τ).loc Cert.RefDo0Ideal.main_arg1)
          ∧ r.2.mem ((c.tc : Thread Cert.RefDo0Ideal.nD Cert.RefDo0Ideal.τ).loc Cert.RefDo0Ideal.main_arg2) = m' ((c.tc : Thread Cert.RefDo0Ideal.nD Cert.RefDo0Ideal.τ).loc Cert.RefDo0Ideal.main_arg2))

def preserves_Do1_Do1Ideal : Prop :=
  True

def algebraic_Do1Ideal_RefDo1Ideal [hDo1Ideal : Cert.Do1Ideal.Facts] [hRefDo1Ideal : Cert.RefDo1Ideal.Facts] : Prop :=
  ∀ (m : (ℓ : Loc Cert.Do1Ideal.nD Cert.Do1Ideal.τ Cert.Do1Ideal.sig) → Buf (Elt Ideal) ℓ) (g : Dev Cert.Do1Ideal.nD → PrngReg)
    (m' : (ℓ : Loc Cert.RefDo1Ideal.nD Cert.RefDo1Ideal.τ Cert.RefDo1Ideal.sig) → Buf (Elt Ideal) ℓ) (g' : Dev Cert.RefDo1Ideal.nD → PrngReg), Pre_Do1Ideal m →
    (∀ c : Dev Cert.Do1Ideal.nD,
      m' ((c.tc : Thread Cert.RefDo1Ideal.nD Cert.RefDo1Ideal.τ).loc Cert.RefDo1Ideal.main_arg0) = m ((c.tc : Thread Cert.Do1Ideal.nD Cert.Do1Ideal.τ).loc Cert.Do1Ideal.main_arg0)
      ∧ m' ((c.tc : Thread Cert.RefDo1Ideal.nD Cert.RefDo1Ideal.τ).loc Cert.RefDo1Ideal.main_arg1) = m ((c.tc : Thread Cert.Do1Ideal.nD Cert.Do1Ideal.τ).loc Cert.Do1Ideal.main_arg1)
      ∧ m' ((c.tc : Thread Cert.RefDo1Ideal.nD Cert.RefDo1Ideal.τ).loc Cert.RefDo1Ideal.main_arg2) = m ((c.tc : Thread Cert.Do1Ideal.nD Cert.Do1Ideal.τ).loc Cert.Do1Ideal.main_arg2)) →
    ∃ (v0 : (c : Dev Cert.Do1Ideal.nD) → Buf (Elt Ideal) ((c.tc : Thread Cert.Do1Ideal.nD Cert.Do1Ideal.τ).loc Cert.Do1Ideal.main_v0)),
      θ_run (Cert.Do1Ideal.defs (F := Ideal)) (onTc (τ := Cert.Do1Ideal.τ) (Cert.Do1Ideal.main (F := Ideal))) ⟨m, fun _ => 0, g⟩ (fun r => ∀ c : Dev Cert.Do1Ideal.nD,
          r.2.mem ((c.tc : Thread Cert.Do1Ideal.nD Cert.Do1Ideal.τ).loc Cert.Do1Ideal.main_v0) = v0 c
          ∧ r.2.mem ((c.tc : Thread Cert.Do1Ideal.nD Cert.Do1Ideal.τ).loc Cert.Do1Ideal.main_arg0) = m ((c.tc : Thread Cert.Do1Ideal.nD Cert.Do1Ideal.τ).loc Cert.Do1Ideal.main_arg0)
          ∧ r.2.mem ((c.tc : Thread Cert.Do1Ideal.nD Cert.Do1Ideal.τ).loc Cert.Do1Ideal.main_arg1) = m ((c.tc : Thread Cert.Do1Ideal.nD Cert.Do1Ideal.τ).loc Cert.Do1Ideal.main_arg1)
          ∧ r.2.mem ((c.tc : Thread Cert.Do1Ideal.nD Cert.Do1Ideal.τ).loc Cert.Do1Ideal.main_arg2) = m ((c.tc : Thread Cert.Do1Ideal.nD Cert.Do1Ideal.τ).loc Cert.Do1Ideal.main_arg2))
      ∧ θ_run (Cert.RefDo1Ideal.defs (F := Ideal)) (onTc (τ := Cert.RefDo1Ideal.τ) (Cert.RefDo1Ideal.main (F := Ideal))) ⟨m', fun _ => 0, g'⟩ (fun r => ∀ c : Dev Cert.RefDo1Ideal.nD,
          r.2.mem ((c.tc : Thread Cert.RefDo1Ideal.nD Cert.RefDo1Ideal.τ).loc Cert.RefDo1Ideal.main_v6) = v0 c
          ∧ r.2.mem ((c.tc : Thread Cert.RefDo1Ideal.nD Cert.RefDo1Ideal.τ).loc Cert.RefDo1Ideal.main_arg0) = m' ((c.tc : Thread Cert.RefDo1Ideal.nD Cert.RefDo1Ideal.τ).loc Cert.RefDo1Ideal.main_arg0)
          ∧ r.2.mem ((c.tc : Thread Cert.RefDo1Ideal.nD Cert.RefDo1Ideal.τ).loc Cert.RefDo1Ideal.main_arg1) = m' ((c.tc : Thread Cert.RefDo1Ideal.nD Cert.RefDo1Ideal.τ).loc Cert.RefDo1Ideal.main_arg1)
          ∧ r.2.mem ((c.tc : Thread Cert.RefDo1Ideal.nD Cert.RefDo1Ideal.τ).loc Cert.RefDo1Ideal.main_arg2) = m' ((c.tc : Thread Cert.RefDo1Ideal.nD Cert.RefDo1Ideal.τ).loc Cert.RefDo1Ideal.main_arg2))

def preserves_Ds0_Ds0Ideal : Prop :=
  True

def algebraic_Ds0Ideal_RefDs0Ideal [hDs0Ideal : Cert.Ds0Ideal.Facts] [hRefDs0Ideal : Cert.RefDs0Ideal.Facts] : Prop :=
  ∀ (m : (ℓ : Loc Cert.Ds0Ideal.nD Cert.Ds0Ideal.τ Cert.Ds0Ideal.sig) → Buf (Elt Ideal) ℓ) (g : Dev Cert.Ds0Ideal.nD → PrngReg)
    (m' : (ℓ : Loc Cert.RefDs0Ideal.nD Cert.RefDs0Ideal.τ Cert.RefDs0Ideal.sig) → Buf (Elt Ideal) ℓ) (g' : Dev Cert.RefDs0Ideal.nD → PrngReg), Pre_Ds0Ideal m →
    (∀ c : Dev Cert.Ds0Ideal.nD,
      m' ((c.tc : Thread Cert.RefDs0Ideal.nD Cert.RefDs0Ideal.τ).loc Cert.RefDs0Ideal.main_arg0) = m ((c.tc : Thread Cert.Ds0Ideal.nD Cert.Ds0Ideal.τ).loc Cert.Ds0Ideal.main_arg0)
      ∧ m' ((c.tc : Thread Cert.RefDs0Ideal.nD Cert.RefDs0Ideal.τ).loc Cert.RefDs0Ideal.main_arg1) = m ((c.tc : Thread Cert.Ds0Ideal.nD Cert.Ds0Ideal.τ).loc Cert.Ds0Ideal.main_arg1)
      ∧ m' ((c.tc : Thread Cert.RefDs0Ideal.nD Cert.RefDs0Ideal.τ).loc Cert.RefDs0Ideal.main_arg2) = m ((c.tc : Thread Cert.Ds0Ideal.nD Cert.Ds0Ideal.τ).loc Cert.Ds0Ideal.main_arg2)) →
    ∃ (v0 : (c : Dev Cert.Ds0Ideal.nD) → Buf (Elt Ideal) ((c.tc : Thread Cert.Ds0Ideal.nD Cert.Ds0Ideal.τ).loc Cert.Ds0Ideal.main_v0)),
      θ_run (Cert.Ds0Ideal.defs (F := Ideal)) (onTc (τ := Cert.Ds0Ideal.τ) (Cert.Ds0Ideal.main (F := Ideal))) ⟨m, fun _ => 0, g⟩ (fun r => ∀ c : Dev Cert.Ds0Ideal.nD,
          r.2.mem ((c.tc : Thread Cert.Ds0Ideal.nD Cert.Ds0Ideal.τ).loc Cert.Ds0Ideal.main_v0) = v0 c
          ∧ r.2.mem ((c.tc : Thread Cert.Ds0Ideal.nD Cert.Ds0Ideal.τ).loc Cert.Ds0Ideal.main_arg0) = m ((c.tc : Thread Cert.Ds0Ideal.nD Cert.Ds0Ideal.τ).loc Cert.Ds0Ideal.main_arg0)
          ∧ r.2.mem ((c.tc : Thread Cert.Ds0Ideal.nD Cert.Ds0Ideal.τ).loc Cert.Ds0Ideal.main_arg1) = m ((c.tc : Thread Cert.Ds0Ideal.nD Cert.Ds0Ideal.τ).loc Cert.Ds0Ideal.main_arg1)
          ∧ r.2.mem ((c.tc : Thread Cert.Ds0Ideal.nD Cert.Ds0Ideal.τ).loc Cert.Ds0Ideal.main_arg2) = m ((c.tc : Thread Cert.Ds0Ideal.nD Cert.Ds0Ideal.τ).loc Cert.Ds0Ideal.main_arg2))
      ∧ θ_run (Cert.RefDs0Ideal.defs (F := Ideal)) (onTc (τ := Cert.RefDs0Ideal.τ) (Cert.RefDs0Ideal.main (F := Ideal))) ⟨m', fun _ => 0, g'⟩ (fun r => ∀ c : Dev Cert.RefDs0Ideal.nD,
          r.2.mem ((c.tc : Thread Cert.RefDs0Ideal.nD Cert.RefDs0Ideal.τ).loc Cert.RefDs0Ideal.main_v5) = v0 c
          ∧ r.2.mem ((c.tc : Thread Cert.RefDs0Ideal.nD Cert.RefDs0Ideal.τ).loc Cert.RefDs0Ideal.main_arg0) = m' ((c.tc : Thread Cert.RefDs0Ideal.nD Cert.RefDs0Ideal.τ).loc Cert.RefDs0Ideal.main_arg0)
          ∧ r.2.mem ((c.tc : Thread Cert.RefDs0Ideal.nD Cert.RefDs0Ideal.τ).loc Cert.RefDs0Ideal.main_arg1) = m' ((c.tc : Thread Cert.RefDs0Ideal.nD Cert.RefDs0Ideal.τ).loc Cert.RefDs0Ideal.main_arg1)
          ∧ r.2.mem ((c.tc : Thread Cert.RefDs0Ideal.nD Cert.RefDs0Ideal.τ).loc Cert.RefDs0Ideal.main_arg2) = m' ((c.tc : Thread Cert.RefDs0Ideal.nD Cert.RefDs0Ideal.τ).loc Cert.RefDs0Ideal.main_arg2))

def preserves_DhIn0_DhIn0Ideal : Prop :=
  True

def algebraic_DhIn0Ideal_RefDhIn0Ideal [hDhIn0Ideal : Cert.DhIn0Ideal.Facts] [hRefDhIn0Ideal : Cert.RefDhIn0Ideal.Facts] : Prop :=
  ∀ (m : (ℓ : Loc Cert.DhIn0Ideal.nD Cert.DhIn0Ideal.τ Cert.DhIn0Ideal.sig) → Buf (Elt Ideal) ℓ) (g : Dev Cert.DhIn0Ideal.nD → PrngReg)
    (m' : (ℓ : Loc Cert.RefDhIn0Ideal.nD Cert.RefDhIn0Ideal.τ Cert.RefDhIn0Ideal.sig) → Buf (Elt Ideal) ℓ) (g' : Dev Cert.RefDhIn0Ideal.nD → PrngReg), Pre_DhIn0Ideal m →
    (∀ c : Dev Cert.DhIn0Ideal.nD,
      m' ((c.tc : Thread Cert.RefDhIn0Ideal.nD Cert.RefDhIn0Ideal.τ).loc Cert.RefDhIn0Ideal.main_arg0) = m ((c.tc : Thread Cert.DhIn0Ideal.nD Cert.DhIn0Ideal.τ).loc Cert.DhIn0Ideal.main_arg0)
      ∧ m' ((c.tc : Thread Cert.RefDhIn0Ideal.nD Cert.RefDhIn0Ideal.τ).loc Cert.RefDhIn0Ideal.main_arg1) = m ((c.tc : Thread Cert.DhIn0Ideal.nD Cert.DhIn0Ideal.τ).loc Cert.DhIn0Ideal.main_arg1)
      ∧ m' ((c.tc : Thread Cert.RefDhIn0Ideal.nD Cert.RefDhIn0Ideal.τ).loc Cert.RefDhIn0Ideal.main_arg2) = m ((c.tc : Thread Cert.DhIn0Ideal.nD Cert.DhIn0Ideal.τ).loc Cert.DhIn0Ideal.main_arg2)) →
    ∃ (v0 : (c : Dev Cert.DhIn0Ideal.nD) → Buf (Elt Ideal) ((c.tc : Thread Cert.DhIn0Ideal.nD Cert.DhIn0Ideal.τ).loc Cert.DhIn0Ideal.main_v0)),
      θ_run (Cert.DhIn0Ideal.defs (F := Ideal)) (onTc (τ := Cert.DhIn0Ideal.τ) (Cert.DhIn0Ideal.main (F := Ideal))) ⟨m, fun _ => 0, g⟩ (fun r => ∀ c : Dev Cert.DhIn0Ideal.nD,
          r.2.mem ((c.tc : Thread Cert.DhIn0Ideal.nD Cert.DhIn0Ideal.τ).loc Cert.DhIn0Ideal.main_v0) = v0 c
          ∧ r.2.mem ((c.tc : Thread Cert.DhIn0Ideal.nD Cert.DhIn0Ideal.τ).loc Cert.DhIn0Ideal.main_arg0) = m ((c.tc : Thread Cert.DhIn0Ideal.nD Cert.DhIn0Ideal.τ).loc Cert.DhIn0Ideal.main_arg0)
          ∧ r.2.mem ((c.tc : Thread Cert.DhIn0Ideal.nD Cert.DhIn0Ideal.τ).loc Cert.DhIn0Ideal.main_arg1) = m ((c.tc : Thread Cert.DhIn0Ideal.nD Cert.DhIn0Ideal.τ).loc Cert.DhIn0Ideal.main_arg1)
          ∧ r.2.mem ((c.tc : Thread Cert.DhIn0Ideal.nD Cert.DhIn0Ideal.τ).loc Cert.DhIn0Ideal.main_arg2) = m ((c.tc : Thread Cert.DhIn0Ideal.nD Cert.DhIn0Ideal.τ).loc Cert.DhIn0Ideal.main_arg2))
      ∧ θ_run (Cert.RefDhIn0Ideal.defs (F := Ideal)) (onTc (τ := Cert.RefDhIn0Ideal.τ) (Cert.RefDhIn0Ideal.main (F := Ideal))) ⟨m', fun _ => 0, g'⟩ (fun r => ∀ c : Dev Cert.RefDhIn0Ideal.nD,
          r.2.mem ((c.tc : Thread Cert.RefDhIn0Ideal.nD Cert.RefDhIn0Ideal.τ).loc Cert.RefDhIn0Ideal.main_v5) = v0 c
          ∧ r.2.mem ((c.tc : Thread Cert.RefDhIn0Ideal.nD Cert.RefDhIn0Ideal.τ).loc Cert.RefDhIn0Ideal.main_arg0) = m' ((c.tc : Thread Cert.RefDhIn0Ideal.nD Cert.RefDhIn0Ideal.τ).loc Cert.RefDhIn0Ideal.main_arg0)
          ∧ r.2.mem ((c.tc : Thread Cert.RefDhIn0Ideal.nD Cert.RefDhIn0Ideal.τ).loc Cert.RefDhIn0Ideal.main_arg1) = m' ((c.tc : Thread Cert.RefDhIn0Ideal.nD Cert.RefDhIn0Ideal.τ).loc Cert.RefDhIn0Ideal.main_arg1)
          ∧ r.2.mem ((c.tc : Thread Cert.RefDhIn0Ideal.nD Cert.RefDhIn0Ideal.τ).loc Cert.RefDhIn0Ideal.main_arg2) = m' ((c.tc : Thread Cert.RefDhIn0Ideal.nD Cert.RefDhIn0Ideal.τ).loc Cert.RefDhIn0Ideal.main_arg2))

def preserves_Dyn0_Dyn0Ideal : Prop :=
  True

def algebraic_Dyn0Ideal_RefDyn0Ideal [hDyn0Ideal : Cert.Dyn0Ideal.Facts] [hRefDyn0Ideal : Cert.RefDyn0Ideal.Facts] : Prop :=
  ∀ (m : (ℓ : Loc Cert.Dyn0Ideal.nD Cert.Dyn0Ideal.τ Cert.Dyn0Ideal.sig) → Buf (Elt Ideal) ℓ) (g : Dev Cert.Dyn0Ideal.nD → PrngReg)
    (m' : (ℓ : Loc Cert.RefDyn0Ideal.nD Cert.RefDyn0Ideal.τ Cert.RefDyn0Ideal.sig) → Buf (Elt Ideal) ℓ) (g' : Dev Cert.RefDyn0Ideal.nD → PrngReg), Pre_Dyn0Ideal m →
    (∀ c : Dev Cert.Dyn0Ideal.nD,
      m' ((c.tc : Thread Cert.RefDyn0Ideal.nD Cert.RefDyn0Ideal.τ).loc Cert.RefDyn0Ideal.main_arg0) = m ((c.tc : Thread Cert.Dyn0Ideal.nD Cert.Dyn0Ideal.τ).loc Cert.Dyn0Ideal.main_arg0)
      ∧ m' ((c.tc : Thread Cert.RefDyn0Ideal.nD Cert.RefDyn0Ideal.τ).loc Cert.RefDyn0Ideal.main_arg1) = m ((c.tc : Thread Cert.Dyn0Ideal.nD Cert.Dyn0Ideal.τ).loc Cert.Dyn0Ideal.main_arg1)
      ∧ m' ((c.tc : Thread Cert.RefDyn0Ideal.nD Cert.RefDyn0Ideal.τ).loc Cert.RefDyn0Ideal.main_arg2) = m ((c.tc : Thread Cert.Dyn0Ideal.nD Cert.Dyn0Ideal.τ).loc Cert.Dyn0Ideal.main_arg2)) →
    ∃ (v0 : (c : Dev Cert.Dyn0Ideal.nD) → Buf (Elt Ideal) ((c.tc : Thread Cert.Dyn0Ideal.nD Cert.Dyn0Ideal.τ).loc Cert.Dyn0Ideal.main_v0)),
      θ_run (Cert.Dyn0Ideal.defs (F := Ideal)) (onTc (τ := Cert.Dyn0Ideal.τ) (Cert.Dyn0Ideal.main (F := Ideal))) ⟨m, fun _ => 0, g⟩ (fun r => ∀ c : Dev Cert.Dyn0Ideal.nD,
          r.2.mem ((c.tc : Thread Cert.Dyn0Ideal.nD Cert.Dyn0Ideal.τ).loc Cert.Dyn0Ideal.main_v0) = v0 c
          ∧ r.2.mem ((c.tc : Thread Cert.Dyn0Ideal.nD Cert.Dyn0Ideal.τ).loc Cert.Dyn0Ideal.main_arg0) = m ((c.tc : Thread Cert.Dyn0Ideal.nD Cert.Dyn0Ideal.τ).loc Cert.Dyn0Ideal.main_arg0)
          ∧ r.2.mem ((c.tc : Thread Cert.Dyn0Ideal.nD Cert.Dyn0Ideal.τ).loc Cert.Dyn0Ideal.main_arg1) = m ((c.tc : Thread Cert.Dyn0Ideal.nD Cert.Dyn0Ideal.τ).loc Cert.Dyn0Ideal.main_arg1)
          ∧ r.2.mem ((c.tc : Thread Cert.Dyn0Ideal.nD Cert.Dyn0Ideal.τ).loc Cert.Dyn0Ideal.main_arg2) = m ((c.tc : Thread Cert.Dyn0Ideal.nD Cert.Dyn0Ideal.τ).loc Cert.Dyn0Ideal.main_arg2))
      ∧ θ_run (Cert.RefDyn0Ideal.defs (F := Ideal)) (onTc (τ := Cert.RefDyn0Ideal.τ) (Cert.RefDyn0Ideal.main (F := Ideal))) ⟨m', fun _ => 0, g'⟩ (fun r => ∀ c : Dev Cert.RefDyn0Ideal.nD,
          r.2.mem ((c.tc : Thread Cert.RefDyn0Ideal.nD Cert.RefDyn0Ideal.τ).loc Cert.RefDyn0Ideal.main_v5) = v0 c
          ∧ r.2.mem ((c.tc : Thread Cert.RefDyn0Ideal.nD Cert.RefDyn0Ideal.τ).loc Cert.RefDyn0Ideal.main_arg0) = m' ((c.tc : Thread Cert.RefDyn0Ideal.nD Cert.RefDyn0Ideal.τ).loc Cert.RefDyn0Ideal.main_arg0)
          ∧ r.2.mem ((c.tc : Thread Cert.RefDyn0Ideal.nD Cert.RefDyn0Ideal.τ).loc Cert.RefDyn0Ideal.main_arg1) = m' ((c.tc : Thread Cert.RefDyn0Ideal.nD Cert.RefDyn0Ideal.τ).loc Cert.RefDyn0Ideal.main_arg1)
          ∧ r.2.mem ((c.tc : Thread Cert.RefDyn0Ideal.nD Cert.RefDyn0Ideal.τ).loc Cert.RefDyn0Ideal.main_arg2) = m' ((c.tc : Thread Cert.RefDyn0Ideal.nD Cert.RefDyn0Ideal.τ).loc Cert.RefDyn0Ideal.main_arg2))

def preserves_DhZ_DhZIdeal : Prop :=
  True

def algebraic_DhZIdeal_RefDhZIdeal [hDhZIdeal : Cert.DhZIdeal.Facts] [hRefDhZIdeal : Cert.RefDhZIdeal.Facts] : Prop :=
  ∀ (m : (ℓ : Loc Cert.DhZIdeal.nD Cert.DhZIdeal.τ Cert.DhZIdeal.sig) → Buf (Elt Ideal) ℓ) (g : Dev Cert.DhZIdeal.nD → PrngReg)
    (m' : (ℓ : Loc Cert.RefDhZIdeal.nD Cert.RefDhZIdeal.τ Cert.RefDhZIdeal.sig) → Buf (Elt Ideal) ℓ) (g' : Dev Cert.RefDhZIdeal.nD → PrngReg), Pre_DhZIdeal m →
    (∀ c : Dev Cert.DhZIdeal.nD,
      m' ((c.tc : Thread Cert.RefDhZIdeal.nD Cert.RefDhZIdeal.τ).loc Cert.RefDhZIdeal.main_arg0) = m ((c.tc : Thread Cert.DhZIdeal.nD Cert.DhZIdeal.τ).loc Cert.DhZIdeal.main_arg0)
      ∧ m' ((c.tc : Thread Cert.RefDhZIdeal.nD Cert.RefDhZIdeal.τ).loc Cert.RefDhZIdeal.main_arg1) = m ((c.tc : Thread Cert.DhZIdeal.nD Cert.DhZIdeal.τ).loc Cert.DhZIdeal.main_arg1)
      ∧ m' ((c.tc : Thread Cert.RefDhZIdeal.nD Cert.RefDhZIdeal.τ).loc Cert.RefDhZIdeal.main_arg2) = m ((c.tc : Thread Cert.DhZIdeal.nD Cert.DhZIdeal.τ).loc Cert.DhZIdeal.main_arg2)) →
    ∃ (v0 : (c : Dev Cert.DhZIdeal.nD) → Buf (Elt Ideal) ((c.tc : Thread Cert.DhZIdeal.nD Cert.DhZIdeal.τ).loc Cert.DhZIdeal.main_v0)),
      θ_run (Cert.DhZIdeal.defs (F := Ideal)) (onTc (τ := Cert.DhZIdeal.τ) (Cert.DhZIdeal.main (F := Ideal))) ⟨m, fun _ => 0, g⟩ (fun r => ∀ c : Dev Cert.DhZIdeal.nD,
          r.2.mem ((c.tc : Thread Cert.DhZIdeal.nD Cert.DhZIdeal.τ).loc Cert.DhZIdeal.main_v0) = v0 c
          ∧ r.2.mem ((c.tc : Thread Cert.DhZIdeal.nD Cert.DhZIdeal.τ).loc Cert.DhZIdeal.main_arg0) = m ((c.tc : Thread Cert.DhZIdeal.nD Cert.DhZIdeal.τ).loc Cert.DhZIdeal.main_arg0)
          ∧ r.2.mem ((c.tc : Thread Cert.DhZIdeal.nD Cert.DhZIdeal.τ).loc Cert.DhZIdeal.main_arg1) = m ((c.tc : Thread Cert.DhZIdeal.nD Cert.DhZIdeal.τ).loc Cert.DhZIdeal.main_arg1)
          ∧ r.2.mem ((c.tc : Thread Cert.DhZIdeal.nD Cert.DhZIdeal.τ).loc Cert.DhZIdeal.main_arg2) = m ((c.tc : Thread Cert.DhZIdeal.nD Cert.DhZIdeal.τ).loc Cert.DhZIdeal.main_arg2))
      ∧ θ_run (Cert.RefDhZIdeal.defs (F := Ideal)) (onTc (τ := Cert.RefDhZIdeal.τ) (Cert.RefDhZIdeal.main (F := Ideal))) ⟨m', fun _ => 0, g'⟩ (fun r => ∀ c : Dev Cert.RefDhZIdeal.nD,
          r.2.mem ((c.tc : Thread Cert.RefDhZIdeal.nD Cert.RefDhZIdeal.τ).loc Cert.RefDhZIdeal.main_v3) = v0 c
          ∧ r.2.mem ((c.tc : Thread Cert.RefDhZIdeal.nD Cert.RefDhZIdeal.τ).loc Cert.RefDhZIdeal.main_arg0) = m' ((c.tc : Thread Cert.RefDhZIdeal.nD Cert.RefDhZIdeal.τ).loc Cert.RefDhZIdeal.main_arg0)
          ∧ r.2.mem ((c.tc : Thread Cert.RefDhZIdeal.nD Cert.RefDhZIdeal.τ).loc Cert.RefDhZIdeal.main_arg1) = m' ((c.tc : Thread Cert.RefDhZIdeal.nD Cert.RefDhZIdeal.τ).loc Cert.RefDhZIdeal.main_arg1)
          ∧ r.2.mem ((c.tc : Thread Cert.RefDhZIdeal.nD Cert.RefDhZIdeal.τ).loc Cert.RefDhZIdeal.main_arg2) = m' ((c.tc : Thread Cert.RefDhZIdeal.nD Cert.RefDhZIdeal.τ).loc Cert.RefDhZIdeal.main_arg2))

def preserves_DhXbc_DhXbcIdeal : Prop :=
  True

def algebraic_DhXbcIdeal_RefDhXbcIdeal [hDhXbcIdeal : Cert.DhXbcIdeal.Facts] [hRefDhXbcIdeal : Cert.RefDhXbcIdeal.Facts] : Prop :=
  ∀ (m : (ℓ : Loc Cert.DhXbcIdeal.nD Cert.DhXbcIdeal.τ Cert.DhXbcIdeal.sig) → Buf (Elt Ideal) ℓ) (g : Dev Cert.DhXbcIdeal.nD → PrngReg)
    (m' : (ℓ : Loc Cert.RefDhXbcIdeal.nD Cert.RefDhXbcIdeal.τ Cert.RefDhXbcIdeal.sig) → Buf (Elt Ideal) ℓ) (g' : Dev Cert.RefDhXbcIdeal.nD → PrngReg), Pre_DhXbcIdeal m →
    (∀ c : Dev Cert.DhXbcIdeal.nD,
      m' ((c.tc : Thread Cert.RefDhXbcIdeal.nD Cert.RefDhXbcIdeal.τ).loc Cert.RefDhXbcIdeal.main_arg0) = m ((c.tc : Thread Cert.DhXbcIdeal.nD Cert.DhXbcIdeal.τ).loc Cert.DhXbcIdeal.main_arg0)
      ∧ m' ((c.tc : Thread Cert.RefDhXbcIdeal.nD Cert.RefDhXbcIdeal.τ).loc Cert.RefDhXbcIdeal.main_arg1) = m ((c.tc : Thread Cert.DhXbcIdeal.nD Cert.DhXbcIdeal.τ).loc Cert.DhXbcIdeal.main_arg1)
      ∧ m' ((c.tc : Thread Cert.RefDhXbcIdeal.nD Cert.RefDhXbcIdeal.τ).loc Cert.RefDhXbcIdeal.main_arg2) = m ((c.tc : Thread Cert.DhXbcIdeal.nD Cert.DhXbcIdeal.τ).loc Cert.DhXbcIdeal.main_arg2)
      ∧ m' ((c.tc : Thread Cert.RefDhXbcIdeal.nD Cert.RefDhXbcIdeal.τ).loc Cert.RefDhXbcIdeal.main_arg3) = m ((c.tc : Thread Cert.DhXbcIdeal.nD Cert.DhXbcIdeal.τ).loc Cert.DhXbcIdeal.main_arg3)) →
    ∃ (v0 : (c : Dev Cert.DhXbcIdeal.nD) → Buf (Elt Ideal) ((c.tc : Thread Cert.DhXbcIdeal.nD Cert.DhXbcIdeal.τ).loc Cert.DhXbcIdeal.main_v0)),
      θ_run (Cert.DhXbcIdeal.defs (F := Ideal)) (onTc (τ := Cert.DhXbcIdeal.τ) (Cert.DhXbcIdeal.main (F := Ideal))) ⟨m, fun _ => 0, g⟩ (fun r => ∀ c : Dev Cert.DhXbcIdeal.nD,
          r.2.mem ((c.tc : Thread Cert.DhXbcIdeal.nD Cert.DhXbcIdeal.τ).loc Cert.DhXbcIdeal.main_v0) = v0 c
          ∧ r.2.mem ((c.tc : Thread Cert.DhXbcIdeal.nD Cert.DhXbcIdeal.τ).loc Cert.DhXbcIdeal.main_arg0) = m ((c.tc : Thread Cert.DhXbcIdeal.nD Cert.DhXbcIdeal.τ).loc Cert.DhXbcIdeal.main_arg0)
          ∧ r.2.mem ((c.tc : Thread Cert.DhXbcIdeal.nD Cert.DhXbcIdeal.τ).loc Cert.DhXbcIdeal.main_arg1) = m ((c.tc : Thread Cert.DhXbcIdeal.nD Cert.DhXbcIdeal.τ).loc Cert.DhXbcIdeal.main_arg1)
          ∧ r.2.mem ((c.tc : Thread Cert.DhXbcIdeal.nD Cert.DhXbcIdeal.τ).loc Cert.DhXbcIdeal.main_arg2) = m ((c.tc : Thread Cert.DhXbcIdeal.nD Cert.DhXbcIdeal.τ).loc Cert.DhXbcIdeal.main_arg2)
          ∧ r.2.mem ((c.tc : Thread Cert.DhXbcIdeal.nD Cert.DhXbcIdeal.τ).loc Cert.DhXbcIdeal.main_arg3) = m ((c.tc : Thread Cert.DhXbcIdeal.nD Cert.DhXbcIdeal.τ).loc Cert.DhXbcIdeal.main_arg3))
      ∧ θ_run (Cert.RefDhXbcIdeal.defs (F := Ideal)) (onTc (τ := Cert.RefDhXbcIdeal.τ) (Cert.RefDhXbcIdeal.main (F := Ideal))) ⟨m', fun _ => 0, g'⟩ (fun r => ∀ c : Dev Cert.RefDhXbcIdeal.nD,
          r.2.mem ((c.tc : Thread Cert.RefDhXbcIdeal.nD Cert.RefDhXbcIdeal.τ).loc Cert.RefDhXbcIdeal.main_v4) = v0 c
          ∧ r.2.mem ((c.tc : Thread Cert.RefDhXbcIdeal.nD Cert.RefDhXbcIdeal.τ).loc Cert.RefDhXbcIdeal.main_arg0) = m' ((c.tc : Thread Cert.RefDhXbcIdeal.nD Cert.RefDhXbcIdeal.τ).loc Cert.RefDhXbcIdeal.main_arg0)
          ∧ r.2.mem ((c.tc : Thread Cert.RefDhXbcIdeal.nD Cert.RefDhXbcIdeal.τ).loc Cert.RefDhXbcIdeal.main_arg1) = m' ((c.tc : Thread Cert.RefDhXbcIdeal.nD Cert.RefDhXbcIdeal.τ).loc Cert.RefDhXbcIdeal.main_arg1)
          ∧ r.2.mem ((c.tc : Thread Cert.RefDhXbcIdeal.nD Cert.RefDhXbcIdeal.τ).loc Cert.RefDhXbcIdeal.main_arg2) = m' ((c.tc : Thread Cert.RefDhXbcIdeal.nD Cert.RefDhXbcIdeal.τ).loc Cert.RefDhXbcIdeal.main_arg2)
          ∧ r.2.mem ((c.tc : Thread Cert.RefDhXbcIdeal.nD Cert.RefDhXbcIdeal.τ).loc Cert.RefDhXbcIdeal.main_arg3) = m' ((c.tc : Thread Cert.RefDhXbcIdeal.nD Cert.RefDhXbcIdeal.τ).loc Cert.RefDhXbcIdeal.main_arg3))

def preserves_DhDt_DhDtIdeal : Prop :=
  True

def algebraic_DhDtIdeal_RefDhDtIdeal [hDhDtIdeal : Cert.DhDtIdeal.Facts] [hRefDhDtIdeal : Cert.RefDhDtIdeal.Facts] : Prop :=
  ∀ (m : (ℓ : Loc Cert.DhDtIdeal.nD Cert.DhDtIdeal.τ Cert.DhDtIdeal.sig) → Buf (Elt Ideal) ℓ) (g : Dev Cert.DhDtIdeal.nD → PrngReg)
    (m' : (ℓ : Loc Cert.RefDhDtIdeal.nD Cert.RefDhDtIdeal.τ Cert.RefDhDtIdeal.sig) → Buf (Elt Ideal) ℓ) (g' : Dev Cert.RefDhDtIdeal.nD → PrngReg), Pre_DhDtIdeal m →
    (∀ c : Dev Cert.DhDtIdeal.nD,
      m' ((c.tc : Thread Cert.RefDhDtIdeal.nD Cert.RefDhDtIdeal.τ).loc Cert.RefDhDtIdeal.main_arg0) = m ((c.tc : Thread Cert.DhDtIdeal.nD Cert.DhDtIdeal.τ).loc Cert.DhDtIdeal.main_arg0)
      ∧ m' ((c.tc : Thread Cert.RefDhDtIdeal.nD Cert.RefDhDtIdeal.τ).loc Cert.RefDhDtIdeal.main_arg1) = m ((c.tc : Thread Cert.DhDtIdeal.nD Cert.DhDtIdeal.τ).loc Cert.DhDtIdeal.main_arg1)
      ∧ m' ((c.tc : Thread Cert.RefDhDtIdeal.nD Cert.RefDhDtIdeal.τ).loc Cert.RefDhDtIdeal.main_arg2) = m ((c.tc : Thread Cert.DhDtIdeal.nD Cert.DhDtIdeal.τ).loc Cert.DhDtIdeal.main_arg2)
      ∧ m' ((c.tc : Thread Cert.RefDhDtIdeal.nD Cert.RefDhDtIdeal.τ).loc Cert.RefDhDtIdeal.main_arg3) = m ((c.tc : Thread Cert.DhDtIdeal.nD Cert.DhDtIdeal.τ).loc Cert.DhDtIdeal.main_arg3)) →
    ∃ (v0 : (c : Dev Cert.DhDtIdeal.nD) → Buf (Elt Ideal) ((c.tc : Thread Cert.DhDtIdeal.nD Cert.DhDtIdeal.τ).loc Cert.DhDtIdeal.main_v0)),
      θ_run (Cert.DhDtIdeal.defs (F := Ideal)) (onTc (τ := Cert.DhDtIdeal.τ) (Cert.DhDtIdeal.main (F := Ideal))) ⟨m, fun _ => 0, g⟩ (fun r => ∀ c : Dev Cert.DhDtIdeal.nD,
          r.2.mem ((c.tc : Thread Cert.DhDtIdeal.nD Cert.DhDtIdeal.τ).loc Cert.DhDtIdeal.main_v0) = v0 c
          ∧ r.2.mem ((c.tc : Thread Cert.DhDtIdeal.nD Cert.DhDtIdeal.τ).loc Cert.DhDtIdeal.main_arg0) = m ((c.tc : Thread Cert.DhDtIdeal.nD Cert.DhDtIdeal.τ).loc Cert.DhDtIdeal.main_arg0)
          ∧ r.2.mem ((c.tc : Thread Cert.DhDtIdeal.nD Cert.DhDtIdeal.τ).loc Cert.DhDtIdeal.main_arg1) = m ((c.tc : Thread Cert.DhDtIdeal.nD Cert.DhDtIdeal.τ).loc Cert.DhDtIdeal.main_arg1)
          ∧ r.2.mem ((c.tc : Thread Cert.DhDtIdeal.nD Cert.DhDtIdeal.τ).loc Cert.DhDtIdeal.main_arg2) = m ((c.tc : Thread Cert.DhDtIdeal.nD Cert.DhDtIdeal.τ).loc Cert.DhDtIdeal.main_arg2)
          ∧ r.2.mem ((c.tc : Thread Cert.DhDtIdeal.nD Cert.DhDtIdeal.τ).loc Cert.DhDtIdeal.main_arg3) = m ((c.tc : Thread Cert.DhDtIdeal.nD Cert.DhDtIdeal.τ).loc Cert.DhDtIdeal.main_arg3))
      ∧ θ_run (Cert.RefDhDtIdeal.defs (F := Ideal)) (onTc (τ := Cert.RefDhDtIdeal.τ) (Cert.RefDhDtIdeal.main (F := Ideal))) ⟨m', fun _ => 0, g'⟩ (fun r => ∀ c : Dev Cert.RefDhDtIdeal.nD,
          r.2.mem ((c.tc : Thread Cert.RefDhDtIdeal.nD Cert.RefDhDtIdeal.τ).loc Cert.RefDhDtIdeal.main_v3) = v0 c
          ∧ r.2.mem ((c.tc : Thread Cert.RefDhDtIdeal.nD Cert.RefDhDtIdeal.τ).loc Cert.RefDhDtIdeal.main_arg0) = m' ((c.tc : Thread Cert.RefDhDtIdeal.nD Cert.RefDhDtIdeal.τ).loc Cert.RefDhDtIdeal.main_arg0)
          ∧ r.2.mem ((c.tc : Thread Cert.RefDhDtIdeal.nD Cert.RefDhDtIdeal.τ).loc Cert.RefDhDtIdeal.main_arg1) = m' ((c.tc : Thread Cert.RefDhDtIdeal.nD Cert.RefDhDtIdeal.τ).loc Cert.RefDhDtIdeal.main_arg1)
          ∧ r.2.mem ((c.tc : Thread Cert.RefDhDtIdeal.nD Cert.RefDhDtIdeal.τ).loc Cert.RefDhDtIdeal.main_arg2) = m' ((c.tc : Thread Cert.RefDhDtIdeal.nD Cert.RefDhDtIdeal.τ).loc Cert.RefDhDtIdeal.main_arg2)
          ∧ r.2.mem ((c.tc : Thread Cert.RefDhDtIdeal.nD Cert.RefDhDtIdeal.τ).loc Cert.RefDhDtIdeal.main_arg3) = m' ((c.tc : Thread Cert.RefDhDtIdeal.nD Cert.RefDhDtIdeal.τ).loc Cert.RefDhDtIdeal.main_arg3))

def preserves_Up0_Up0Ideal : Prop :=
  True

def algebraic_Up0Ideal_RefUp0Ideal [hUp0Ideal : Cert.Up0Ideal.Facts] [hRefUp0Ideal : Cert.RefUp0Ideal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.RefUp0Ideal.nD Cert.RefUp0Ideal.τ Cert.RefUp0Ideal.sig) → Buf (Elt Ideal) ℓ) (g' : Dev Cert.RefUp0Ideal.nD → PrngReg), Pre_Up0Ideal m →
    (∀ c : Dev Cert.Up0Ideal.nD,
      m' ((c.tc : Thread Cert.RefUp0Ideal.nD Cert.RefUp0Ideal.τ).loc Cert.RefUp0Ideal.main_arg0) = m ((c.tc : Thread Cert.Up0Ideal.nD Cert.Up0Ideal.τ).loc Cert.Up0Ideal.main_arg0)
      ∧ m' ((c.tc : Thread Cert.RefUp0Ideal.nD Cert.RefUp0Ideal.τ).loc Cert.RefUp0Ideal.main_arg1) = m ((c.tc : Thread Cert.Up0Ideal.nD Cert.Up0Ideal.τ).loc Cert.Up0Ideal.main_arg1)) →
    ∃ (v0 : (c : Dev Cert.Up0Ideal.nD) → Buf (Elt Ideal) ((c.tc : Thread Cert.Up0Ideal.nD Cert.Up0Ideal.τ).loc Cert.Up0Ideal.main_v0_0)) (v1 : (c : Dev Cert.Up0Ideal.nD) → Buf (Elt Ideal) ((c.tc : Thread Cert.Up0Ideal.nD Cert.Up0Ideal.τ).loc Cert.Up0Ideal.main_v0_1)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v0_0) = v0 c
          ∧ r.2.mem ((c.tc : Thread Cert.Up0Ideal.nD Cert.Up0Ideal.τ).loc Cert.Up0Ideal.main_v0_1) = v1 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ θ_run (Cert.RefUp0Ideal.defs (F := Ideal)) (onTc (τ := Cert.RefUp0Ideal.τ) (Cert.RefUp0Ideal.main (F := Ideal))) ⟨m', fun _ => 0, g'⟩ (fun r => ∀ c : Dev Cert.RefUp0Ideal.nD,
          r.2.mem ((c.tc : Thread Cert.RefUp0Ideal.nD Cert.RefUp0Ideal.τ).loc Cert.RefUp0Ideal.main_v6) = v0 c
          ∧ r.2.mem ((c.tc : Thread Cert.RefUp0Ideal.nD Cert.RefUp0Ideal.τ).loc Cert.RefUp0Ideal.main_v9) = v1 c
          ∧ r.2.mem ((c.tc : Thread Cert.RefUp0Ideal.nD Cert.RefUp0Ideal.τ).loc Cert.RefUp0Ideal.main_arg0) = m' ((c.tc : Thread Cert.RefUp0Ideal.nD Cert.RefUp0Ideal.τ).loc Cert.RefUp0Ideal.main_arg0)
          ∧ r.2.mem ((c.tc : Thread Cert.RefUp0Ideal.nD Cert.RefUp0Ideal.τ).loc Cert.RefUp0Ideal.main_arg1) = m' ((c.tc : Thread Cert.RefUp0Ideal.nD Cert.RefUp0Ideal.τ).loc Cert.RefUp0Ideal.main_arg1))

def preserves_Up1_Up1Ideal : Prop :=
  True

def algebraic_Up1Ideal_RefUp1Ideal [hUp1Ideal : Cert.Up1Ideal.Facts] [hRefUp1Ideal : Cert.RefUp1Ideal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.RefUp1Ideal.nD Cert.RefUp1Ideal.τ Cert.RefUp1Ideal.sig) → Buf (Elt Ideal) ℓ) (g' : Dev Cert.RefUp1Ideal.nD → PrngReg), Pre_Up1Ideal m →
    (∀ c : Dev Cert.Up1Ideal.nD,
      m' ((c.tc : Thread Cert.RefUp1Ideal.nD Cert.RefUp1Ideal.τ).loc Cert.RefUp1Ideal.main_arg0) = m ((c.tc : Thread Cert.Up1Ideal.nD Cert.Up1Ideal.τ).loc Cert.Up1Ideal.main_arg0)
      ∧ m' ((c.tc : Thread Cert.RefUp1Ideal.nD Cert.RefUp1Ideal.τ).loc Cert.RefUp1Ideal.main_arg1) = m ((c.tc : Thread Cert.Up1Ideal.nD Cert.Up1Ideal.τ).loc Cert.Up1Ideal.main_arg1)) →
    ∃ (v0 : (c : Dev Cert.Up1Ideal.nD) → Buf (Elt Ideal) ((c.tc : Thread Cert.Up1Ideal.nD Cert.Up1Ideal.τ).loc Cert.Up1Ideal.main_v0_0)) (v1 : (c : Dev Cert.Up1Ideal.nD) → Buf (Elt Ideal) ((c.tc : Thread Cert.Up1Ideal.nD Cert.Up1Ideal.τ).loc Cert.Up1Ideal.main_v0_1)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v0_0) = v0 c
          ∧ r.2.mem ((c.tc : Thread Cert.Up1Ideal.nD Cert.Up1Ideal.τ).loc Cert.Up1Ideal.main_v0_1) = v1 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ θ_run (Cert.RefUp1Ideal.defs (F := Ideal)) (onTc (τ := Cert.RefUp1Ideal.τ) (Cert.RefUp1Ideal.main (F := Ideal))) ⟨m', fun _ => 0, g'⟩ (fun r => ∀ c : Dev Cert.RefUp1Ideal.nD,
          r.2.mem ((c.tc : Thread Cert.RefUp1Ideal.nD Cert.RefUp1Ideal.τ).loc Cert.RefUp1Ideal.main_v6) = v0 c
          ∧ r.2.mem ((c.tc : Thread Cert.RefUp1Ideal.nD Cert.RefUp1Ideal.τ).loc Cert.RefUp1Ideal.main_v9) = v1 c
          ∧ r.2.mem ((c.tc : Thread Cert.RefUp1Ideal.nD Cert.RefUp1Ideal.τ).loc Cert.RefUp1Ideal.main_arg0) = m' ((c.tc : Thread Cert.RefUp1Ideal.nD Cert.RefUp1Ideal.τ).loc Cert.RefUp1Ideal.main_arg0)
          ∧ r.2.mem ((c.tc : Thread Cert.RefUp1Ideal.nD Cert.RefUp1Ideal.τ).loc Cert.RefUp1Ideal.main_arg1) = m' ((c.tc : Thread Cert.RefUp1Ideal.nD Cert.RefUp1Ideal.τ).loc Cert.RefUp1Ideal.main_arg1))

def preserves_Up2_Up2Ideal : Prop :=
  True

def algebraic_Up2Ideal_RefUp2Ideal [hUp2Ideal : Cert.Up2Ideal.Facts] [hRefUp2Ideal : Cert.RefUp2Ideal.Facts] : Prop :=
  ∀ (m : (ℓ : Loc Cert.Up2Ideal.nD Cert.Up2Ideal.τ Cert.Up2Ideal.sig) → Buf (Elt Ideal) ℓ) (g : Dev Cert.Up2Ideal.nD → PrngReg)
    (m' : (ℓ : Loc Cert.RefUp2Ideal.nD Cert.RefUp2Ideal.τ Cert.RefUp2Ideal.sig) → Buf (Elt Ideal) ℓ) (g' : Dev Cert.RefUp2Ideal.nD → PrngReg), Pre_Up2Ideal m →
    (∀ c : Dev Cert.Up2Ideal.nD,
      m' ((c.tc : Thread Cert.RefUp2Ideal.nD Cert.RefUp2Ideal.τ).loc Cert.RefUp2Ideal.main_arg0) = m ((c.tc : Thread Cert.Up2Ideal.nD Cert.Up2Ideal.τ).loc Cert.Up2Ideal.main_arg0)
      ∧ m' ((c.tc : Thread Cert.RefUp2Ideal.nD Cert.RefUp2Ideal.τ).loc Cert.RefUp2Ideal.main_arg1) = m ((c.tc : Thread Cert.Up2Ideal.nD Cert.Up2Ideal.τ).loc Cert.Up2Ideal.main_arg1)) →
    ∃ (v0 : (c : Dev Cert.Up2Ideal.nD) → Buf (Elt Ideal) ((c.tc : Thread Cert.Up2Ideal.nD Cert.Up2Ideal.τ).loc Cert.Up2Ideal.main_v0_0)) (v1 : (c : Dev Cert.Up2Ideal.nD) → Buf (Elt Ideal) ((c.tc : Thread Cert.Up2Ideal.nD Cert.Up2Ideal.τ).loc Cert.Up2Ideal.main_v0_1)),
      θ_run (Cert.Up2Ideal.defs (F := Ideal)) (onTc (τ := Cert.Up2Ideal.τ) (Cert.Up2Ideal.main (F := Ideal))) ⟨m, fun _ => 0, g⟩ (fun r => ∀ c : Dev Cert.Up2Ideal.nD,
          r.2.mem ((c.tc : Thread Cert.Up2Ideal.nD Cert.Up2Ideal.τ).loc Cert.Up2Ideal.main_v0_0) = v0 c
          ∧ r.2.mem ((c.tc : Thread Cert.Up2Ideal.nD Cert.Up2Ideal.τ).loc Cert.Up2Ideal.main_v0_1) = v1 c
          ∧ r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
          ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1))
      ∧ θ_run (Cert.RefUp2Ideal.defs (F := Ideal)) (onTc (τ := Cert.RefUp2Ideal.τ) (Cert.RefUp2Ideal.main (F := Ideal))) ⟨m', fun _ => 0, g'⟩ (fun r => ∀ c : Dev Cert.RefUp2Ideal.nD,
          r.2.mem ((c.tc : Thread Cert.RefUp2Ideal.nD Cert.RefUp2Ideal.τ).loc Cert.RefUp2Ideal.main_v6) = v0 c
          ∧ r.2.mem ((c.tc : Thread Cert.RefUp2Ideal.nD Cert.RefUp2Ideal.τ).loc Cert.RefUp2Ideal.main_v9) = v1 c
          ∧ r.2.mem ((c.tc : Thread Cert.RefUp2Ideal.nD Cert.RefUp2Ideal.τ).loc Cert.RefUp2Ideal.main_arg0) = m' ((c.tc : Thread Cert.RefUp2Ideal.nD Cert.RefUp2Ideal.τ).loc Cert.RefUp2Ideal.main_arg0)
          ∧ r.2.mem ((c.tc : Thread Cert.RefUp2Ideal.nD Cert.RefUp2Ideal.τ).loc Cert.RefUp2Ideal.main_arg1) = m' ((c.tc : Thread Cert.RefUp2Ideal.nD Cert.RefUp2Ideal.τ).loc Cert.RefUp2Ideal.main_arg1))

def preserves_Up3_Up3Ideal : Prop :=
  True

def algebraic_Up3Ideal_RefUp3Ideal [hUp3Ideal : Cert.Up3Ideal.Facts] [hRefUp3Ideal : Cert.RefUp3Ideal.Facts] : Prop :=
  ∀ (m : (ℓ : Loc Cert.Up3Ideal.nD Cert.Up3Ideal.τ Cert.Up3Ideal.sig) → Buf (Elt Ideal) ℓ) (g : Dev Cert.Up3Ideal.nD → PrngReg)
    (m' : (ℓ : Loc Cert.RefUp3Ideal.nD Cert.RefUp3Ideal.τ Cert.RefUp3Ideal.sig) → Buf (Elt Ideal) ℓ) (g' : Dev Cert.RefUp3Ideal.nD → PrngReg), Pre_Up3Ideal m →
    (∀ c : Dev Cert.Up3Ideal.nD,
      m' ((c.tc : Thread Cert.RefUp3Ideal.nD Cert.RefUp3Ideal.τ).loc Cert.RefUp3Ideal.main_arg0) = m ((c.tc : Thread Cert.Up3Ideal.nD Cert.Up3Ideal.τ).loc Cert.Up3Ideal.main_arg0)
      ∧ m' ((c.tc : Thread Cert.RefUp3Ideal.nD Cert.RefUp3Ideal.τ).loc Cert.RefUp3Ideal.main_arg1) = m ((c.tc : Thread Cert.Up3Ideal.nD Cert.Up3Ideal.τ).loc Cert.Up3Ideal.main_arg1)) →
    ∃ (v0 : (c : Dev Cert.Up3Ideal.nD) → Buf (Elt Ideal) ((c.tc : Thread Cert.Up3Ideal.nD Cert.Up3Ideal.τ).loc Cert.Up3Ideal.main_v0_0)) (v1 : (c : Dev Cert.Up3Ideal.nD) → Buf (Elt Ideal) ((c.tc : Thread Cert.Up3Ideal.nD Cert.Up3Ideal.τ).loc Cert.Up3Ideal.main_v0_1)),
      θ_run (Cert.Up3Ideal.defs (F := Ideal)) (onTc (τ := Cert.Up3Ideal.τ) (Cert.Up3Ideal.main (F := Ideal))) ⟨m, fun _ => 0, g⟩ (fun r => ∀ c : Dev Cert.Up3Ideal.nD,
          r.2.mem ((c.tc : Thread Cert.Up3Ideal.nD Cert.Up3Ideal.τ).loc Cert.Up3Ideal.main_v0_0) = v0 c
          ∧ r.2.mem ((c.tc : Thread Cert.Up3Ideal.nD Cert.Up3Ideal.τ).loc Cert.Up3Ideal.main_v0_1) = v1 c
          ∧ r.2.mem ((c.tc : Thread Cert.Up3Ideal.nD Cert.Up3Ideal.τ).loc Cert.Up3Ideal.main_arg0) = m ((c.tc : Thread Cert.Up3Ideal.nD Cert.Up3Ideal.τ).loc Cert.Up3Ideal.main_arg0)
          ∧ r.2.mem ((c.tc : Thread Cert.Up3Ideal.nD Cert.Up3Ideal.τ).loc Cert.Up3Ideal.main_arg1) = m ((c.tc : Thread Cert.Up3Ideal.nD Cert.Up3Ideal.τ).loc Cert.Up3Ideal.main_arg1))
      ∧ θ_run (Cert.RefUp3Ideal.defs (F := Ideal)) (onTc (τ := Cert.RefUp3Ideal.τ) (Cert.RefUp3Ideal.main (F := Ideal))) ⟨m', fun _ => 0, g'⟩ (fun r => ∀ c : Dev Cert.RefUp3Ideal.nD,
          r.2.mem ((c.tc : Thread Cert.RefUp3Ideal.nD Cert.RefUp3Ideal.τ).loc Cert.RefUp3Ideal.main_v6) = v0 c
          ∧ r.2.mem ((c.tc : Thread Cert.RefUp3Ideal.nD Cert.RefUp3Ideal.τ).loc Cert.RefUp3Ideal.main_v9) = v1 c
          ∧ r.2.mem ((c.tc : Thread Cert.RefUp3Ideal.nD Cert.RefUp3Ideal.τ).loc Cert.RefUp3Ideal.main_arg0) = m' ((c.tc : Thread Cert.RefUp3Ideal.nD Cert.RefUp3Ideal.τ).loc Cert.RefUp3Ideal.main_arg0)
          ∧ r.2.mem ((c.tc : Thread Cert.RefUp3Ideal.nD Cert.RefUp3Ideal.τ).loc Cert.RefUp3Ideal.main_arg1) = m' ((c.tc : Thread Cert.RefUp3Ideal.nD Cert.RefUp3Ideal.τ).loc Cert.RefUp3Ideal.main_arg1))

def preserves_Down0_Down0Ideal : Prop :=
  True

def algebraic_Down0Ideal_RefDown0Ideal [hDown0Ideal : Cert.Down0Ideal.Facts] [hRefDown0Ideal : Cert.RefDown0Ideal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.RefDown0Ideal.nD Cert.RefDown0Ideal.τ Cert.RefDown0Ideal.sig) → Buf (Elt Ideal) ℓ) (g' : Dev Cert.RefDown0Ideal.nD → PrngReg), Pre_Down0Ideal m →
    (∀ c : Dev Cert.Down0Ideal.nD,
      m' ((c.tc : Thread Cert.RefDown0Ideal.nD Cert.RefDown0Ideal.τ).loc Cert.RefDown0Ideal.main_arg0) = m ((c.tc : Thread Cert.Down0Ideal.nD Cert.Down0Ideal.τ).loc Cert.Down0Ideal.main_arg0)
      ∧ m' ((c.tc : Thread Cert.RefDown0Ideal.nD Cert.RefDown0Ideal.τ).loc Cert.RefDown0Ideal.main_arg1) = m ((c.tc : Thread Cert.Down0Ideal.nD Cert.Down0Ideal.τ).loc Cert.Down0Ideal.main_arg1)
      ∧ m' ((c.tc : Thread Cert.RefDown0Ideal.nD Cert.RefDown0Ideal.τ).loc Cert.RefDown0Ideal.main_arg2) = m ((c.tc : Thread Cert.Down0Ideal.nD Cert.Down0Ideal.τ).loc Cert.Down0Ideal.main_arg2)) →
    ∃ (v0 : (c : Dev Cert.Down0Ideal.nD) → Buf (Elt Ideal) ((c.tc : Thread Cert.Down0Ideal.nD Cert.Down0Ideal.τ).loc Cert.Down0Ideal.main_v0)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ θ_run (Cert.RefDown0Ideal.defs (F := Ideal)) (onTc (τ := Cert.RefDown0Ideal.τ) (Cert.RefDown0Ideal.main (F := Ideal))) ⟨m', fun _ => 0, g'⟩ (fun r => ∀ c : Dev Cert.RefDown0Ideal.nD,
          r.2.mem ((c.tc : Thread Cert.RefDown0Ideal.nD Cert.RefDown0Ideal.τ).loc Cert.RefDown0Ideal.main_v6) = v0 c
          ∧ r.2.mem ((c.tc : Thread Cert.RefDown0Ideal.nD Cert.RefDown0Ideal.τ).loc Cert.RefDown0Ideal.main_arg0) = m' ((c.tc : Thread Cert.RefDown0Ideal.nD Cert.RefDown0Ideal.τ).loc Cert.RefDown0Ideal.main_arg0)
          ∧ r.2.mem ((c.tc : Thread Cert.RefDown0Ideal.nD Cert.RefDown0Ideal.τ).loc Cert.RefDown0Ideal.main_arg1) = m' ((c.tc : Thread Cert.RefDown0Ideal.nD Cert.RefDown0Ideal.τ).loc Cert.RefDown0Ideal.main_arg1)
          ∧ r.2.mem ((c.tc : Thread Cert.RefDown0Ideal.nD Cert.RefDown0Ideal.τ).loc Cert.RefDown0Ideal.main_arg2) = m' ((c.tc : Thread Cert.RefDown0Ideal.nD Cert.RefDown0Ideal.τ).loc Cert.RefDown0Ideal.main_arg2))

def preserves_Down1_Down1Ideal : Prop :=
  True

def algebraic_Down1Ideal_RefDown1Ideal [hDown1Ideal : Cert.Down1Ideal.Facts] [hRefDown1Ideal : Cert.RefDown1Ideal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.RefDown1Ideal.nD Cert.RefDown1Ideal.τ Cert.RefDown1Ideal.sig) → Buf (Elt Ideal) ℓ) (g' : Dev Cert.RefDown1Ideal.nD → PrngReg), Pre_Down1Ideal m →
    (∀ c : Dev Cert.Down1Ideal.nD,
      m' ((c.tc : Thread Cert.RefDown1Ideal.nD Cert.RefDown1Ideal.τ).loc Cert.RefDown1Ideal.main_arg0) = m ((c.tc : Thread Cert.Down1Ideal.nD Cert.Down1Ideal.τ).loc Cert.Down1Ideal.main_arg0)
      ∧ m' ((c.tc : Thread Cert.RefDown1Ideal.nD Cert.RefDown1Ideal.τ).loc Cert.RefDown1Ideal.main_arg1) = m ((c.tc : Thread Cert.Down1Ideal.nD Cert.Down1Ideal.τ).loc Cert.Down1Ideal.main_arg1)
      ∧ m' ((c.tc : Thread Cert.RefDown1Ideal.nD Cert.RefDown1Ideal.τ).loc Cert.RefDown1Ideal.main_arg2) = m ((c.tc : Thread Cert.Down1Ideal.nD Cert.Down1Ideal.τ).loc Cert.Down1Ideal.main_arg2)) →
    ∃ (v0 : (c : Dev Cert.Down1Ideal.nD) → Buf (Elt Ideal) ((c.tc : Thread Cert.Down1Ideal.nD Cert.Down1Ideal.τ).loc Cert.Down1Ideal.main_v0)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v0) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2))
      ∧ θ_run (Cert.RefDown1Ideal.defs (F := Ideal)) (onTc (τ := Cert.RefDown1Ideal.τ) (Cert.RefDown1Ideal.main (F := Ideal))) ⟨m', fun _ => 0, g'⟩ (fun r => ∀ c : Dev Cert.RefDown1Ideal.nD,
          r.2.mem ((c.tc : Thread Cert.RefDown1Ideal.nD Cert.RefDown1Ideal.τ).loc Cert.RefDown1Ideal.main_v6) = v0 c
          ∧ r.2.mem ((c.tc : Thread Cert.RefDown1Ideal.nD Cert.RefDown1Ideal.τ).loc Cert.RefDown1Ideal.main_arg0) = m' ((c.tc : Thread Cert.RefDown1Ideal.nD Cert.RefDown1Ideal.τ).loc Cert.RefDown1Ideal.main_arg0)
          ∧ r.2.mem ((c.tc : Thread Cert.RefDown1Ideal.nD Cert.RefDown1Ideal.τ).loc Cert.RefDown1Ideal.main_arg1) = m' ((c.tc : Thread Cert.RefDown1Ideal.nD Cert.RefDown1Ideal.τ).loc Cert.RefDown1Ideal.main_arg1)
          ∧ r.2.mem ((c.tc : Thread Cert.RefDown1Ideal.nD Cert.RefDown1Ideal.τ).loc Cert.RefDown1Ideal.main_arg2) = m' ((c.tc : Thread Cert.RefDown1Ideal.nD Cert.RefDown1Ideal.τ).loc Cert.RefDown1Ideal.main_arg2))

def preserves_Down2_Down2Ideal : Prop :=
  True

def algebraic_Down2Ideal_RefDown2Ideal [hDown2Ideal : Cert.Down2Ideal.Facts] [hRefDown2Ideal : Cert.RefDown2Ideal.Facts] : Prop :=
  ∀ (m : (ℓ : Loc Cert.Down2Ideal.nD Cert.Down2Ideal.τ Cert.Down2Ideal.sig) → Buf (Elt Ideal) ℓ) (g : Dev Cert.Down2Ideal.nD → PrngReg)
    (m' : (ℓ : Loc Cert.RefDown2Ideal.nD Cert.RefDown2Ideal.τ Cert.RefDown2Ideal.sig) → Buf (Elt Ideal) ℓ) (g' : Dev Cert.RefDown2Ideal.nD → PrngReg), Pre_Down2Ideal m →
    (∀ c : Dev Cert.Down2Ideal.nD,
      m' ((c.tc : Thread Cert.RefDown2Ideal.nD Cert.RefDown2Ideal.τ).loc Cert.RefDown2Ideal.main_arg0) = m ((c.tc : Thread Cert.Down2Ideal.nD Cert.Down2Ideal.τ).loc Cert.Down2Ideal.main_arg0)
      ∧ m' ((c.tc : Thread Cert.RefDown2Ideal.nD Cert.RefDown2Ideal.τ).loc Cert.RefDown2Ideal.main_arg1) = m ((c.tc : Thread Cert.Down2Ideal.nD Cert.Down2Ideal.τ).loc Cert.Down2Ideal.main_arg1)
      ∧ m' ((c.tc : Thread Cert.RefDown2Ideal.nD Cert.RefDown2Ideal.τ).loc Cert.RefDown2Ideal.main_arg2) = m ((c.tc : Thread Cert.Down2Ideal.nD Cert.Down2Ideal.τ).loc Cert.Down2Ideal.main_arg2)) →
    ∃ (v0 : (c : Dev Cert.Down2Ideal.nD) → Buf (Elt Ideal) ((c.tc : Thread Cert.Down2Ideal.nD Cert.Down2Ideal.τ).loc Cert.Down2Ideal.main_v0)),
      θ_run (Cert.Down2Ideal.defs (F := Ideal)) (onTc (τ := Cert.Down2Ideal.τ) (Cert.Down2Ideal.main (F := Ideal))) ⟨m, fun _ => 0, g⟩ (fun r => ∀ c : Dev Cert.Down2Ideal.nD,
          r.2.mem ((c.tc : Thread Cert.Down2Ideal.nD Cert.Down2Ideal.τ).loc Cert.Down2Ideal.main_v0) = v0 c
          ∧ r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
          ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
          ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2))
      ∧ θ_run (Cert.RefDown2Ideal.defs (F := Ideal)) (onTc (τ := Cert.RefDown2Ideal.τ) (Cert.RefDown2Ideal.main (F := Ideal))) ⟨m', fun _ => 0, g'⟩ (fun r => ∀ c : Dev Cert.RefDown2Ideal.nD,
          r.2.mem ((c.tc : Thread Cert.RefDown2Ideal.nD Cert.RefDown2Ideal.τ).loc Cert.RefDown2Ideal.main_v6) = v0 c
          ∧ r.2.mem ((c.tc : Thread Cert.RefDown2Ideal.nD Cert.RefDown2Ideal.τ).loc Cert.RefDown2Ideal.main_arg0) = m' ((c.tc : Thread Cert.RefDown2Ideal.nD Cert.RefDown2Ideal.τ).loc Cert.RefDown2Ideal.main_arg0)
          ∧ r.2.mem ((c.tc : Thread Cert.RefDown2Ideal.nD Cert.RefDown2Ideal.τ).loc Cert.RefDown2Ideal.main_arg1) = m' ((c.tc : Thread Cert.RefDown2Ideal.nD Cert.RefDown2Ideal.τ).loc Cert.RefDown2Ideal.main_arg1)
          ∧ r.2.mem ((c.tc : Thread Cert.RefDown2Ideal.nD Cert.RefDown2Ideal.τ).loc Cert.RefDown2Ideal.main_arg2) = m' ((c.tc : Thread Cert.RefDown2Ideal.nD Cert.RefDown2Ideal.τ).loc Cert.RefDown2Ideal.main_arg2))

def preserves_Down3_Down3Ideal : Prop :=
  True

def algebraic_Down3Ideal_RefDown3Ideal [hDown3Ideal : Cert.Down3Ideal.Facts] [hRefDown3Ideal : Cert.RefDown3Ideal.Facts] : Prop :=
  ∀ (m : (ℓ : Loc Cert.Down3Ideal.nD Cert.Down3Ideal.τ Cert.Down3Ideal.sig) → Buf (Elt Ideal) ℓ) (g : Dev Cert.Down3Ideal.nD → PrngReg)
    (m' : (ℓ : Loc Cert.RefDown3Ideal.nD Cert.RefDown3Ideal.τ Cert.RefDown3Ideal.sig) → Buf (Elt Ideal) ℓ) (g' : Dev Cert.RefDown3Ideal.nD → PrngReg), Pre_Down3Ideal m →
    (∀ c : Dev Cert.Down3Ideal.nD,
      m' ((c.tc : Thread Cert.RefDown3Ideal.nD Cert.RefDown3Ideal.τ).loc Cert.RefDown3Ideal.main_arg0) = m ((c.tc : Thread Cert.Down3Ideal.nD Cert.Down3Ideal.τ).loc Cert.Down3Ideal.main_arg0)
      ∧ m' ((c.tc : Thread Cert.RefDown3Ideal.nD Cert.RefDown3Ideal.τ).loc Cert.RefDown3Ideal.main_arg1) = m ((c.tc : Thread Cert.Down3Ideal.nD Cert.Down3Ideal.τ).loc Cert.Down3Ideal.main_arg1)
      ∧ m' ((c.tc : Thread Cert.RefDown3Ideal.nD Cert.RefDown3Ideal.τ).loc Cert.RefDown3Ideal.main_arg2) = m ((c.tc : Thread Cert.Down3Ideal.nD Cert.Down3Ideal.τ).loc Cert.Down3Ideal.main_arg2)) →
    ∃ (v0 : (c : Dev Cert.Down3Ideal.nD) → Buf (Elt Ideal) ((c.tc : Thread Cert.Down3Ideal.nD Cert.Down3Ideal.τ).loc Cert.Down3Ideal.main_v0)),
      θ_run (Cert.Down3Ideal.defs (F := Ideal)) (onTc (τ := Cert.Down3Ideal.τ) (Cert.Down3Ideal.main (F := Ideal))) ⟨m, fun _ => 0, g⟩ (fun r => ∀ c : Dev Cert.Down3Ideal.nD,
          r.2.mem ((c.tc : Thread Cert.Down3Ideal.nD Cert.Down3Ideal.τ).loc Cert.Down3Ideal.main_v0) = v0 c
          ∧ r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
          ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1)
          ∧ r.2.mem ((c.tc : Thread Cert.Down3Ideal.nD Cert.Down3Ideal.τ).loc Cert.Down3Ideal.main_arg2) = m ((c.tc : Thread Cert.Down3Ideal.nD Cert.Down3Ideal.τ).loc Cert.Down3Ideal.main_arg2))
      ∧ θ_run (Cert.RefDown3Ideal.defs (F := Ideal)) (onTc (τ := Cert.RefDown3Ideal.τ) (Cert.RefDown3Ideal.main (F := Ideal))) ⟨m', fun _ => 0, g'⟩ (fun r => ∀ c : Dev Cert.RefDown3Ideal.nD,
          r.2.mem ((c.tc : Thread Cert.RefDown3Ideal.nD Cert.RefDown3Ideal.τ).loc Cert.RefDown3Ideal.main_v6) = v0 c
          ∧ r.2.mem ((c.tc : Thread Cert.RefDown3Ideal.nD Cert.RefDown3Ideal.τ).loc Cert.RefDown3Ideal.main_arg0) = m' ((c.tc : Thread Cert.RefDown3Ideal.nD Cert.RefDown3Ideal.τ).loc Cert.RefDown3Ideal.main_arg0)
          ∧ r.2.mem ((c.tc : Thread Cert.RefDown3Ideal.nD Cert.RefDown3Ideal.τ).loc Cert.RefDown3Ideal.main_arg1) = m' ((c.tc : Thread Cert.RefDown3Ideal.nD Cert.RefDown3Ideal.τ).loc Cert.RefDown3Ideal.main_arg1)
          ∧ r.2.mem ((c.tc : Thread Cert.RefDown3Ideal.nD Cert.RefDown3Ideal.τ).loc Cert.RefDown3Ideal.main_arg2) = m' ((c.tc : Thread Cert.RefDown3Ideal.nD Cert.RefDown3Ideal.τ).loc Cert.RefDown3Ideal.main_arg2))

def preserves_Qkv0_Qkv0Ideal : Prop :=
  True

def algebraic_Qkv0Ideal_RefQkv0Ideal [hQkv0Ideal : Cert.Qkv0Ideal.Facts] [hRefQkv0Ideal : Cert.RefQkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.RefQkv0Ideal.nD Cert.RefQkv0Ideal.τ Cert.RefQkv0Ideal.sig) → Buf (Elt Ideal) ℓ) (g' : Dev Cert.RefQkv0Ideal.nD → PrngReg), Pre_Qkv0Ideal m →
    (∀ c : Dev Cert.Qkv0Ideal.nD,
      m' ((c.tc : Thread Cert.RefQkv0Ideal.nD Cert.RefQkv0Ideal.τ).loc Cert.RefQkv0Ideal.main_arg0) = m ((c.tc : Thread Cert.Qkv0Ideal.nD Cert.Qkv0Ideal.τ).loc Cert.Qkv0Ideal.main_arg0)
      ∧ m' ((c.tc : Thread Cert.RefQkv0Ideal.nD Cert.RefQkv0Ideal.τ).loc Cert.RefQkv0Ideal.main_arg1) = m ((c.tc : Thread Cert.Qkv0Ideal.nD Cert.Qkv0Ideal.τ).loc Cert.Qkv0Ideal.main_arg1)) →
    ∃ (v0 : (c : Dev Cert.Qkv0Ideal.nD) → Buf (Elt Ideal) ((c.tc : Thread Cert.Qkv0Ideal.nD Cert.Qkv0Ideal.τ).loc Cert.Qkv0Ideal.main_v0)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v0) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ θ_run (Cert.RefQkv0Ideal.defs (F := Ideal)) (onTc (τ := Cert.RefQkv0Ideal.τ) (Cert.RefQkv0Ideal.main (F := Ideal))) ⟨m', fun _ => 0, g'⟩ (fun r => ∀ c : Dev Cert.RefQkv0Ideal.nD,
          r.2.mem ((c.tc : Thread Cert.RefQkv0Ideal.nD Cert.RefQkv0Ideal.τ).loc Cert.RefQkv0Ideal.main_v6) = v0 c
          ∧ r.2.mem ((c.tc : Thread Cert.RefQkv0Ideal.nD Cert.RefQkv0Ideal.τ).loc Cert.RefQkv0Ideal.main_arg0) = m' ((c.tc : Thread Cert.RefQkv0Ideal.nD Cert.RefQkv0Ideal.τ).loc Cert.RefQkv0Ideal.main_arg0)
          ∧ r.2.mem ((c.tc : Thread Cert.RefQkv0Ideal.nD Cert.RefQkv0Ideal.τ).loc Cert.RefQkv0Ideal.main_arg1) = m' ((c.tc : Thread Cert.RefQkv0Ideal.nD Cert.RefQkv0Ideal.τ).loc Cert.RefQkv0Ideal.main_arg1))

def preserves_Qkv1_Qkv1Ideal : Prop :=
  True

def algebraic_Qkv1Ideal_RefQkv1Ideal [hQkv1Ideal : Cert.Qkv1Ideal.Facts] [hRefQkv1Ideal : Cert.RefQkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.RefQkv1Ideal.nD Cert.RefQkv1Ideal.τ Cert.RefQkv1Ideal.sig) → Buf (Elt Ideal) ℓ) (g' : Dev Cert.RefQkv1Ideal.nD → PrngReg), Pre_Qkv1Ideal m →
    (∀ c : Dev Cert.Qkv1Ideal.nD,
      m' ((c.tc : Thread Cert.RefQkv1Ideal.nD Cert.RefQkv1Ideal.τ).loc Cert.RefQkv1Ideal.main_arg0) = m ((c.tc : Thread Cert.Qkv1Ideal.nD Cert.Qkv1Ideal.τ).loc Cert.Qkv1Ideal.main_arg0)
      ∧ m' ((c.tc : Thread Cert.RefQkv1Ideal.nD Cert.RefQkv1Ideal.τ).loc Cert.RefQkv1Ideal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v0)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.RefQkv1Ideal.defs (F := Ideal)) (onTc (τ := Cert.RefQkv1Ideal.τ) (Cert.RefQkv1Ideal.main (F := Ideal))) ⟨m', fun _ => 0, g'⟩ (fun r => ∀ c : Dev Cert.RefQkv1Ideal.nD,
          r.2.mem ((c.tc : Thread Cert.RefQkv1Ideal.nD Cert.RefQkv1Ideal.τ).loc Cert.RefQkv1Ideal.main_v6) = v0 c
          ∧ r.2.mem ((c.tc : Thread Cert.RefQkv1Ideal.nD Cert.RefQkv1Ideal.τ).loc Cert.RefQkv1Ideal.main_arg0) = m' ((c.tc : Thread Cert.RefQkv1Ideal.nD Cert.RefQkv1Ideal.τ).loc Cert.RefQkv1Ideal.main_arg0)
          ∧ r.2.mem ((c.tc : Thread Cert.RefQkv1Ideal.nD Cert.RefQkv1Ideal.τ).loc Cert.RefQkv1Ideal.main_arg1) = m' ((c.tc : Thread Cert.RefQkv1Ideal.nD Cert.RefQkv1Ideal.τ).loc Cert.RefQkv1Ideal.main_arg1))

def preserves_Out0_Out0Ideal : Prop :=
  True

def algebraic_Out0Ideal_RefOut0Ideal [hOut0Ideal : Cert.Out0Ideal.Facts] [hRefOut0Ideal : Cert.RefOut0Ideal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.RefOut0Ideal.nD Cert.RefOut0Ideal.τ Cert.RefOut0Ideal.sig) → Buf (Elt Ideal) ℓ) (g' : Dev Cert.RefOut0Ideal.nD → PrngReg), Pre_Out0Ideal m →
    (∀ c : Dev Cert.Out0Ideal.nD,
      m' ((c.tc : Thread Cert.RefOut0Ideal.nD Cert.RefOut0Ideal.τ).loc Cert.RefOut0Ideal.main_arg0) = m ((c.tc : Thread Cert.Out0Ideal.nD Cert.Out0Ideal.τ).loc Cert.Out0Ideal.main_arg0)
      ∧ m' ((c.tc : Thread Cert.RefOut0Ideal.nD Cert.RefOut0Ideal.τ).loc Cert.RefOut0Ideal.main_arg1) = m ((c.tc : Thread Cert.Out0Ideal.nD Cert.Out0Ideal.τ).loc Cert.Out0Ideal.main_arg1)
      ∧ m' ((c.tc : Thread Cert.RefOut0Ideal.nD Cert.RefOut0Ideal.τ).loc Cert.RefOut0Ideal.main_arg2) = m ((c.tc : Thread Cert.Out0Ideal.nD Cert.Out0Ideal.τ).loc Cert.Out0Ideal.main_arg2)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2))
      ∧ θ_run (Cert.RefOut0Ideal.defs (F := Ideal)) (onTc (τ := Cert.RefOut0Ideal.τ) (Cert.RefOut0Ideal.main (F := Ideal))) ⟨m', fun _ => 0, g'⟩ (fun r => ∀ c : Dev Cert.RefOut0Ideal.nD,
          r.2.mem ((c.tc : Thread Cert.RefOut0Ideal.nD Cert.RefOut0Ideal.τ).loc Cert.RefOut0Ideal.main_v6) = v0 c
          ∧ r.2.mem ((c.tc : Thread Cert.RefOut0Ideal.nD Cert.RefOut0Ideal.τ).loc Cert.RefOut0Ideal.main_arg0) = m' ((c.tc : Thread Cert.RefOut0Ideal.nD Cert.RefOut0Ideal.τ).loc Cert.RefOut0Ideal.main_arg0)
          ∧ r.2.mem ((c.tc : Thread Cert.RefOut0Ideal.nD Cert.RefOut0Ideal.τ).loc Cert.RefOut0Ideal.main_arg1) = m' ((c.tc : Thread Cert.RefOut0Ideal.nD Cert.RefOut0Ideal.τ).loc Cert.RefOut0Ideal.main_arg1)
          ∧ r.2.mem ((c.tc : Thread Cert.RefOut0Ideal.nD Cert.RefOut0Ideal.τ).loc Cert.RefOut0Ideal.main_arg2) = m' ((c.tc : Thread Cert.RefOut0Ideal.nD Cert.RefOut0Ideal.τ).loc Cert.RefOut0Ideal.main_arg2))

def preserves_Out1_Out1Ideal : Prop :=
  True

def algebraic_Out1Ideal_RefOut1Ideal [hOut1Ideal : Cert.Out1Ideal.Facts] [hRefOut1Ideal : Cert.RefOut1Ideal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.RefOut1Ideal.nD Cert.RefOut1Ideal.τ Cert.RefOut1Ideal.sig) → Buf (Elt Ideal) ℓ) (g' : Dev Cert.RefOut1Ideal.nD → PrngReg), Pre_Out1Ideal m →
    (∀ c : Dev Cert.Out1Ideal.nD,
      m' ((c.tc : Thread Cert.RefOut1Ideal.nD Cert.RefOut1Ideal.τ).loc Cert.RefOut1Ideal.main_arg0) = m ((c.tc : Thread Cert.Out1Ideal.nD Cert.Out1Ideal.τ).loc Cert.Out1Ideal.main_arg0)
      ∧ m' ((c.tc : Thread Cert.RefOut1Ideal.nD Cert.RefOut1Ideal.τ).loc Cert.RefOut1Ideal.main_arg1) = m ((c.tc : Thread Cert.Out1Ideal.nD Cert.Out1Ideal.τ).loc Cert.Out1Ideal.main_arg1)
      ∧ m' ((c.tc : Thread Cert.RefOut1Ideal.nD Cert.RefOut1Ideal.τ).loc Cert.RefOut1Ideal.main_arg2) = m ((c.tc : Thread Cert.Out1Ideal.nD Cert.Out1Ideal.τ).loc Cert.Out1Ideal.main_arg2)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2))
      ∧ θ_run (Cert.RefOut1Ideal.defs (F := Ideal)) (onTc (τ := Cert.RefOut1Ideal.τ) (Cert.RefOut1Ideal.main (F := Ideal))) ⟨m', fun _ => 0, g'⟩ (fun r => ∀ c : Dev Cert.RefOut1Ideal.nD,
          r.2.mem ((c.tc : Thread Cert.RefOut1Ideal.nD Cert.RefOut1Ideal.τ).loc Cert.RefOut1Ideal.main_v6) = v0 c
          ∧ r.2.mem ((c.tc : Thread Cert.RefOut1Ideal.nD Cert.RefOut1Ideal.τ).loc Cert.RefOut1Ideal.main_arg0) = m' ((c.tc : Thread Cert.RefOut1Ideal.nD Cert.RefOut1Ideal.τ).loc Cert.RefOut1Ideal.main_arg0)
          ∧ r.2.mem ((c.tc : Thread Cert.RefOut1Ideal.nD Cert.RefOut1Ideal.τ).loc Cert.RefOut1Ideal.main_arg1) = m' ((c.tc : Thread Cert.RefOut1Ideal.nD Cert.RefOut1Ideal.τ).loc Cert.RefOut1Ideal.main_arg1)
          ∧ r.2.mem ((c.tc : Thread Cert.RefOut1Ideal.nD Cert.RefOut1Ideal.τ).loc Cert.RefOut1Ideal.main_arg2) = m' ((c.tc : Thread Cert.RefOut1Ideal.nD Cert.RefOut1Ideal.τ).loc Cert.RefOut1Ideal.main_arg2))

def preserves_CfIn_CfInIdeal : Prop :=
  True

def algebraic_CfInIdeal_RefCfInIdeal [hCfInIdeal : Cert.CfInIdeal.Facts] [hRefCfInIdeal : Cert.RefCfInIdeal.Facts] : Prop :=
  ∀ (m : (ℓ : Loc Cert.CfInIdeal.nD Cert.CfInIdeal.τ Cert.CfInIdeal.sig) → Buf (Elt Ideal) ℓ) (g : Dev Cert.CfInIdeal.nD → PrngReg)
    (m' : (ℓ : Loc Cert.RefCfInIdeal.nD Cert.RefCfInIdeal.τ Cert.RefCfInIdeal.sig) → Buf (Elt Ideal) ℓ) (g' : Dev Cert.RefCfInIdeal.nD → PrngReg), Pre_CfInIdeal m →
    (∀ c : Dev Cert.CfInIdeal.nD,
      m' ((c.tc : Thread Cert.RefCfInIdeal.nD Cert.RefCfInIdeal.τ).loc Cert.RefCfInIdeal.main_arg0) = m ((c.tc : Thread Cert.CfInIdeal.nD Cert.CfInIdeal.τ).loc Cert.CfInIdeal.main_arg0)
      ∧ m' ((c.tc : Thread Cert.RefCfInIdeal.nD Cert.RefCfInIdeal.τ).loc Cert.RefCfInIdeal.main_arg1) = m ((c.tc : Thread Cert.CfInIdeal.nD Cert.CfInIdeal.τ).loc Cert.CfInIdeal.main_arg1)
      ∧ m' ((c.tc : Thread Cert.RefCfInIdeal.nD Cert.RefCfInIdeal.τ).loc Cert.RefCfInIdeal.main_arg2) = m ((c.tc : Thread Cert.CfInIdeal.nD Cert.CfInIdeal.τ).loc Cert.CfInIdeal.main_arg2)) →
    ∃ (v0 : (c : Dev Cert.CfInIdeal.nD) → Buf (Elt Ideal) ((c.tc : Thread Cert.CfInIdeal.nD Cert.CfInIdeal.τ).loc Cert.CfInIdeal.main_v0)),
      θ_run (Cert.CfInIdeal.defs (F := Ideal)) (onTc (τ := Cert.CfInIdeal.τ) (Cert.CfInIdeal.main (F := Ideal))) ⟨m, fun _ => 0, g⟩ (fun r => ∀ c : Dev Cert.CfInIdeal.nD,
          r.2.mem ((c.tc : Thread Cert.CfInIdeal.nD Cert.CfInIdeal.τ).loc Cert.CfInIdeal.main_v0) = v0 c
          ∧ r.2.mem ((c.tc : Thread Cert.CfInIdeal.nD Cert.CfInIdeal.τ).loc Cert.CfInIdeal.main_arg0) = m ((c.tc : Thread Cert.CfInIdeal.nD Cert.CfInIdeal.τ).loc Cert.CfInIdeal.main_arg0)
          ∧ r.2.mem ((c.tc : Thread Cert.CfInIdeal.nD Cert.CfInIdeal.τ).loc Cert.CfInIdeal.main_arg1) = m ((c.tc : Thread Cert.CfInIdeal.nD Cert.CfInIdeal.τ).loc Cert.CfInIdeal.main_arg1)
          ∧ r.2.mem ((c.tc : Thread Cert.CfInIdeal.nD Cert.CfInIdeal.τ).loc Cert.CfInIdeal.main_arg2) = m ((c.tc : Thread Cert.CfInIdeal.nD Cert.CfInIdeal.τ).loc Cert.CfInIdeal.main_arg2))
      ∧ θ_run (Cert.RefCfInIdeal.defs (F := Ideal)) (onTc (τ := Cert.RefCfInIdeal.τ) (Cert.RefCfInIdeal.main (F := Ideal))) ⟨m', fun _ => 0, g'⟩ (fun r => ∀ c : Dev Cert.RefCfInIdeal.nD,
          r.2.mem ((c.tc : Thread Cert.RefCfInIdeal.nD Cert.RefCfInIdeal.τ).loc Cert.RefCfInIdeal.main_v7) = v0 c
          ∧ r.2.mem ((c.tc : Thread Cert.RefCfInIdeal.nD Cert.RefCfInIdeal.τ).loc Cert.RefCfInIdeal.main_arg0) = m' ((c.tc : Thread Cert.RefCfInIdeal.nD Cert.RefCfInIdeal.τ).loc Cert.RefCfInIdeal.main_arg0)
          ∧ r.2.mem ((c.tc : Thread Cert.RefCfInIdeal.nD Cert.RefCfInIdeal.τ).loc Cert.RefCfInIdeal.main_arg1) = m' ((c.tc : Thread Cert.RefCfInIdeal.nD Cert.RefCfInIdeal.τ).loc Cert.RefCfInIdeal.main_arg1)
          ∧ r.2.mem ((c.tc : Thread Cert.RefCfInIdeal.nD Cert.RefCfInIdeal.τ).loc Cert.RefCfInIdeal.main_arg2) = m' ((c.tc : Thread Cert.RefCfInIdeal.nD Cert.RefCfInIdeal.τ).loc Cert.RefCfInIdeal.main_arg2))

def preserves_CfOut_CfOutIdeal : Prop :=
  True

def algebraic_CfOutIdeal_RefCfOutIdeal [hCfOutIdeal : Cert.CfOutIdeal.Facts] [hRefCfOutIdeal : Cert.RefCfOutIdeal.Facts] : Prop :=
  ∀ (m : (ℓ : Loc Cert.CfOutIdeal.nD Cert.CfOutIdeal.τ Cert.CfOutIdeal.sig) → Buf (Elt Ideal) ℓ) (g : Dev Cert.CfOutIdeal.nD → PrngReg)
    (m' : (ℓ : Loc Cert.RefCfOutIdeal.nD Cert.RefCfOutIdeal.τ Cert.RefCfOutIdeal.sig) → Buf (Elt Ideal) ℓ) (g' : Dev Cert.RefCfOutIdeal.nD → PrngReg), Pre_CfOutIdeal m →
    (∀ c : Dev Cert.CfOutIdeal.nD,
      m' ((c.tc : Thread Cert.RefCfOutIdeal.nD Cert.RefCfOutIdeal.τ).loc Cert.RefCfOutIdeal.main_arg0) = m ((c.tc : Thread Cert.CfOutIdeal.nD Cert.CfOutIdeal.τ).loc Cert.CfOutIdeal.main_arg0)
      ∧ m' ((c.tc : Thread Cert.RefCfOutIdeal.nD Cert.RefCfOutIdeal.τ).loc Cert.RefCfOutIdeal.main_arg1) = m ((c.tc : Thread Cert.CfOutIdeal.nD Cert.CfOutIdeal.τ).loc Cert.CfOutIdeal.main_arg1)
      ∧ m' ((c.tc : Thread Cert.RefCfOutIdeal.nD Cert.RefCfOutIdeal.τ).loc Cert.RefCfOutIdeal.main_arg2) = m ((c.tc : Thread Cert.CfOutIdeal.nD Cert.CfOutIdeal.τ).loc Cert.CfOutIdeal.main_arg2)
      ∧ m' ((c.tc : Thread Cert.RefCfOutIdeal.nD Cert.RefCfOutIdeal.τ).loc Cert.RefCfOutIdeal.main_arg3) = m ((c.tc : Thread Cert.CfOutIdeal.nD Cert.CfOutIdeal.τ).loc Cert.CfOutIdeal.main_arg3)) →
    ∃ (v0 : (c : Dev Cert.CfOutIdeal.nD) → Buf (Elt Ideal) ((c.tc : Thread Cert.CfOutIdeal.nD Cert.CfOutIdeal.τ).loc Cert.CfOutIdeal.main_v0)),
      θ_run (Cert.CfOutIdeal.defs (F := Ideal)) (onTc (τ := Cert.CfOutIdeal.τ) (Cert.CfOutIdeal.main (F := Ideal))) ⟨m, fun _ => 0, g⟩ (fun r => ∀ c : Dev Cert.CfOutIdeal.nD,
          r.2.mem ((c.tc : Thread Cert.CfOutIdeal.nD Cert.CfOutIdeal.τ).loc Cert.CfOutIdeal.main_v0) = v0 c
          ∧ r.2.mem ((c.tc : Thread Cert.CfOutIdeal.nD Cert.CfOutIdeal.τ).loc Cert.CfOutIdeal.main_arg0) = m ((c.tc : Thread Cert.CfOutIdeal.nD Cert.CfOutIdeal.τ).loc Cert.CfOutIdeal.main_arg0)
          ∧ r.2.mem ((c.tc : Thread Cert.CfOutIdeal.nD Cert.CfOutIdeal.τ).loc Cert.CfOutIdeal.main_arg1) = m ((c.tc : Thread Cert.CfOutIdeal.nD Cert.CfOutIdeal.τ).loc Cert.CfOutIdeal.main_arg1)
          ∧ r.2.mem ((c.tc : Thread Cert.CfOutIdeal.nD Cert.CfOutIdeal.τ).loc Cert.CfOutIdeal.main_arg2) = m ((c.tc : Thread Cert.CfOutIdeal.nD Cert.CfOutIdeal.τ).loc Cert.CfOutIdeal.main_arg2)
          ∧ r.2.mem ((c.tc : Thread Cert.CfOutIdeal.nD Cert.CfOutIdeal.τ).loc Cert.CfOutIdeal.main_arg3) = m ((c.tc : Thread Cert.CfOutIdeal.nD Cert.CfOutIdeal.τ).loc Cert.CfOutIdeal.main_arg3))
      ∧ θ_run (Cert.RefCfOutIdeal.defs (F := Ideal)) (onTc (τ := Cert.RefCfOutIdeal.τ) (Cert.RefCfOutIdeal.main (F := Ideal))) ⟨m', fun _ => 0, g'⟩ (fun r => ∀ c : Dev Cert.RefCfOutIdeal.nD,
          r.2.mem ((c.tc : Thread Cert.RefCfOutIdeal.nD Cert.RefCfOutIdeal.τ).loc Cert.RefCfOutIdeal.main_v7) = v0 c
          ∧ r.2.mem ((c.tc : Thread Cert.RefCfOutIdeal.nD Cert.RefCfOutIdeal.τ).loc Cert.RefCfOutIdeal.main_arg0) = m' ((c.tc : Thread Cert.RefCfOutIdeal.nD Cert.RefCfOutIdeal.τ).loc Cert.RefCfOutIdeal.main_arg0)
          ∧ r.2.mem ((c.tc : Thread Cert.RefCfOutIdeal.nD Cert.RefCfOutIdeal.τ).loc Cert.RefCfOutIdeal.main_arg1) = m' ((c.tc : Thread Cert.RefCfOutIdeal.nD Cert.RefCfOutIdeal.τ).loc Cert.RefCfOutIdeal.main_arg1)
          ∧ r.2.mem ((c.tc : Thread Cert.RefCfOutIdeal.nD Cert.RefCfOutIdeal.τ).loc Cert.RefCfOutIdeal.main_arg2) = m' ((c.tc : Thread Cert.RefCfOutIdeal.nD Cert.RefCfOutIdeal.τ).loc Cert.RefCfOutIdeal.main_arg2)
          ∧ r.2.mem ((c.tc : Thread Cert.RefCfOutIdeal.nD Cert.RefCfOutIdeal.τ).loc Cert.RefCfOutIdeal.main_arg3) = m' ((c.tc : Thread Cert.RefCfOutIdeal.nD Cert.RefCfOutIdeal.τ).loc Cert.RefCfOutIdeal.main_arg3))

def preserves_Z_ZIdeal : Prop :=
  True

def algebraic_ZIdeal_RefZIdeal [hZIdeal : Cert.ZIdeal.Facts] [hRefZIdeal : Cert.RefZIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.RefZIdeal.nD Cert.RefZIdeal.τ Cert.RefZIdeal.sig) → Buf (Elt Ideal) ℓ) (g' : Dev Cert.RefZIdeal.nD → PrngReg), Pre_ZIdeal m →
    (∀ c : Dev Cert.ZIdeal.nD,
      m' ((c.tc : Thread Cert.RefZIdeal.nD Cert.RefZIdeal.τ).loc Cert.RefZIdeal.main_arg0) = m ((c.tc : Thread Cert.ZIdeal.nD Cert.ZIdeal.τ).loc Cert.ZIdeal.main_arg0)
      ∧ m' ((c.tc : Thread Cert.RefZIdeal.nD Cert.RefZIdeal.τ).loc Cert.RefZIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v0)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v0) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.RefZIdeal.defs (F := Ideal)) (onTc (τ := Cert.RefZIdeal.τ) (Cert.RefZIdeal.main (F := Ideal))) ⟨m', fun _ => 0, g'⟩ (fun r => ∀ c : Dev Cert.RefZIdeal.nD,
          r.2.mem ((c.tc : Thread Cert.RefZIdeal.nD Cert.RefZIdeal.τ).loc Cert.RefZIdeal.main_v2) = v0 c
          ∧ r.2.mem ((c.tc : Thread Cert.RefZIdeal.nD Cert.RefZIdeal.τ).loc Cert.RefZIdeal.main_arg0) = m' ((c.tc : Thread Cert.RefZIdeal.nD Cert.RefZIdeal.τ).loc Cert.RefZIdeal.main_arg0)
          ∧ r.2.mem ((c.tc : Thread Cert.RefZIdeal.nD Cert.RefZIdeal.τ).loc Cert.RefZIdeal.main_arg1) = m' ((c.tc : Thread Cert.RefZIdeal.nD Cert.RefZIdeal.τ).loc Cert.RefZIdeal.main_arg1))

def preserves_Xbc_XbcIdeal : Prop :=
  True

def algebraic_XbcIdeal_RefXbcIdeal [hXbcIdeal : Cert.XbcIdeal.Facts] [hRefXbcIdeal : Cert.RefXbcIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.RefXbcIdeal.nD Cert.RefXbcIdeal.τ Cert.RefXbcIdeal.sig) → Buf (Elt Ideal) ℓ) (g' : Dev Cert.RefXbcIdeal.nD → PrngReg), Pre_XbcIdeal m →
    (∀ c : Dev Cert.XbcIdeal.nD,
      m' ((c.tc : Thread Cert.RefXbcIdeal.nD Cert.RefXbcIdeal.τ).loc Cert.RefXbcIdeal.main_arg0) = m ((c.tc : Thread Cert.XbcIdeal.nD Cert.XbcIdeal.τ).loc Cert.XbcIdeal.main_arg0)
      ∧ m' ((c.tc : Thread Cert.RefXbcIdeal.nD Cert.RefXbcIdeal.τ).loc Cert.RefXbcIdeal.main_arg1) = m ((c.tc : Thread Cert.XbcIdeal.nD Cert.XbcIdeal.τ).loc Cert.XbcIdeal.main_arg1)) →
    ∃ (v0 : (c : Dev Cert.XbcIdeal.nD) → Buf (Elt Ideal) ((c.tc : Thread Cert.XbcIdeal.nD Cert.XbcIdeal.τ).loc Cert.XbcIdeal.main_v0)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v0) = v0 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ θ_run (Cert.RefXbcIdeal.defs (F := Ideal)) (onTc (τ := Cert.RefXbcIdeal.τ) (Cert.RefXbcIdeal.main (F := Ideal))) ⟨m', fun _ => 0, g'⟩ (fun r => ∀ c : Dev Cert.RefXbcIdeal.nD,
          r.2.mem ((c.tc : Thread Cert.RefXbcIdeal.nD Cert.RefXbcIdeal.τ).loc Cert.RefXbcIdeal.main_v2) = v0 c
          ∧ r.2.mem ((c.tc : Thread Cert.RefXbcIdeal.nD Cert.RefXbcIdeal.τ).loc Cert.RefXbcIdeal.main_arg0) = m' ((c.tc : Thread Cert.RefXbcIdeal.nD Cert.RefXbcIdeal.τ).loc Cert.RefXbcIdeal.main_arg0)
          ∧ r.2.mem ((c.tc : Thread Cert.RefXbcIdeal.nD Cert.RefXbcIdeal.τ).loc Cert.RefXbcIdeal.main_arg1) = m' ((c.tc : Thread Cert.RefXbcIdeal.nD Cert.RefXbcIdeal.τ).loc Cert.RefXbcIdeal.main_arg1))

def preserves_Dt_DtIdeal : Prop :=
  True

def algebraic_DtIdeal_RefDtIdeal [hDtIdeal : Cert.DtIdeal.Facts] [hRefDtIdeal : Cert.RefDtIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.RefDtIdeal.nD Cert.RefDtIdeal.τ Cert.RefDtIdeal.sig) → Buf (Elt Ideal) ℓ) (g' : Dev Cert.RefDtIdeal.nD → PrngReg), Pre_DtIdeal m →
    (∀ c : Dev Cert.DtIdeal.nD,
      m' ((c.tc : Thread Cert.RefDtIdeal.nD Cert.RefDtIdeal.τ).loc Cert.RefDtIdeal.main_arg0) = m ((c.tc : Thread Cert.DtIdeal.nD Cert.DtIdeal.τ).loc Cert.DtIdeal.main_arg0)
      ∧ m' ((c.tc : Thread Cert.RefDtIdeal.nD Cert.RefDtIdeal.τ).loc Cert.RefDtIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v0)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.RefDtIdeal.defs (F := Ideal)) (onTc (τ := Cert.RefDtIdeal.τ) (Cert.RefDtIdeal.main (F := Ideal))) ⟨m', fun _ => 0, g'⟩ (fun r => ∀ c : Dev Cert.RefDtIdeal.nD,
          r.2.mem ((c.tc : Thread Cert.RefDtIdeal.nD Cert.RefDtIdeal.τ).loc Cert.RefDtIdeal.main_v2) = v0 c
          ∧ r.2.mem ((c.tc : Thread Cert.RefDtIdeal.nD Cert.RefDtIdeal.τ).loc Cert.RefDtIdeal.main_arg0) = m' ((c.tc : Thread Cert.RefDtIdeal.nD Cert.RefDtIdeal.τ).loc Cert.RefDtIdeal.main_arg0)
          ∧ r.2.mem ((c.tc : Thread Cert.RefDtIdeal.nD Cert.RefDtIdeal.τ).loc Cert.RefDtIdeal.main_arg1) = m' ((c.tc : Thread Cert.RefDtIdeal.nD Cert.RefDtIdeal.τ).loc Cert.RefDtIdeal.main_arg1))

def preserves_M2Out0_M2Out0Ideal : Prop :=
  True

def algebraic_M2Out0Ideal_RefM2Out0Ideal [hM2Out0Ideal : Cert.M2Out0Ideal.Facts] [hRefM2Out0Ideal : Cert.RefM2Out0Ideal.Facts] : Prop :=
  ∀ (m : (ℓ : Loc Cert.M2Out0Ideal.nD Cert.M2Out0Ideal.τ Cert.M2Out0Ideal.sig) → Buf (Elt Ideal) ℓ) (g : Dev Cert.M2Out0Ideal.nD → PrngReg)
    (m' : (ℓ : Loc Cert.RefM2Out0Ideal.nD Cert.RefM2Out0Ideal.τ Cert.RefM2Out0Ideal.sig) → Buf (Elt Ideal) ℓ) (g' : Dev Cert.RefM2Out0Ideal.nD → PrngReg), Pre_M2Out0Ideal m →
    (∀ c : Dev Cert.M2Out0Ideal.nD,
      m' ((c.tc : Thread Cert.RefM2Out0Ideal.nD Cert.RefM2Out0Ideal.τ).loc Cert.RefM2Out0Ideal.main_arg0) = m ((c.tc : Thread Cert.M2Out0Ideal.nD Cert.M2Out0Ideal.τ).loc Cert.M2Out0Ideal.main_arg0)
      ∧ m' ((c.tc : Thread Cert.RefM2Out0Ideal.nD Cert.RefM2Out0Ideal.τ).loc Cert.RefM2Out0Ideal.main_arg1) = m ((c.tc : Thread Cert.M2Out0Ideal.nD Cert.M2Out0Ideal.τ).loc Cert.M2Out0Ideal.main_arg1)
      ∧ m' ((c.tc : Thread Cert.RefM2Out0Ideal.nD Cert.RefM2Out0Ideal.τ).loc Cert.RefM2Out0Ideal.main_arg2) = m ((c.tc : Thread Cert.M2Out0Ideal.nD Cert.M2Out0Ideal.τ).loc Cert.M2Out0Ideal.main_arg2)) →
    ∃ (v0 : (c : Dev Cert.M2Out0Ideal.nD) → Buf (Elt Ideal) ((c.tc : Thread Cert.M2Out0Ideal.nD Cert.M2Out0Ideal.τ).loc Cert.M2Out0Ideal.main_v0)),
      θ_run (Cert.M2Out0Ideal.defs (F := Ideal)) (onTc (τ := Cert.M2Out0Ideal.τ) (Cert.M2Out0Ideal.main (F := Ideal))) ⟨m, fun _ => 0, g⟩ (fun r => ∀ c : Dev Cert.M2Out0Ideal.nD,
          r.2.mem ((c.tc : Thread Cert.M2Out0Ideal.nD Cert.M2Out0Ideal.τ).loc Cert.M2Out0Ideal.main_v0) = v0 c
          ∧ r.2.mem ((c.tc : Thread Cert.M2Out0Ideal.nD Cert.M2Out0Ideal.τ).loc Cert.M2Out0Ideal.main_arg0) = m ((c.tc : Thread Cert.M2Out0Ideal.nD Cert.M2Out0Ideal.τ).loc Cert.M2Out0Ideal.main_arg0)
          ∧ r.2.mem ((c.tc : Thread Cert.M2Out0Ideal.nD Cert.M2Out0Ideal.τ).loc Cert.M2Out0Ideal.main_arg1) = m ((c.tc : Thread Cert.M2Out0Ideal.nD Cert.M2Out0Ideal.τ).loc Cert.M2Out0Ideal.main_arg1)
          ∧ r.2.mem ((c.tc : Thread Cert.M2Out0Ideal.nD Cert.M2Out0Ideal.τ).loc Cert.M2Out0Ideal.main_arg2) = m ((c.tc : Thread Cert.M2Out0Ideal.nD Cert.M2Out0Ideal.τ).loc Cert.M2Out0Ideal.main_arg2))
      ∧ θ_run (Cert.RefM2Out0Ideal.defs (F := Ideal)) (onTc (τ := Cert.RefM2Out0Ideal.τ) (Cert.RefM2Out0Ideal.main (F := Ideal))) ⟨m', fun _ => 0, g'⟩ (fun r => ∀ c : Dev Cert.RefM2Out0Ideal.nD,
          r.2.mem ((c.tc : Thread Cert.RefM2Out0Ideal.nD Cert.RefM2Out0Ideal.τ).loc Cert.RefM2Out0Ideal.main_v5) = v0 c
          ∧ r.2.mem ((c.tc : Thread Cert.RefM2Out0Ideal.nD Cert.RefM2Out0Ideal.τ).loc Cert.RefM2Out0Ideal.main_arg0) = m' ((c.tc : Thread Cert.RefM2Out0Ideal.nD Cert.RefM2Out0Ideal.τ).loc Cert.RefM2Out0Ideal.main_arg0)
          ∧ r.2.mem ((c.tc : Thread Cert.RefM2Out0Ideal.nD Cert.RefM2Out0Ideal.τ).loc Cert.RefM2Out0Ideal.main_arg1) = m' ((c.tc : Thread Cert.RefM2Out0Ideal.nD Cert.RefM2Out0Ideal.τ).loc Cert.RefM2Out0Ideal.main_arg1)
          ∧ r.2.mem ((c.tc : Thread Cert.RefM2Out0Ideal.nD Cert.RefM2Out0Ideal.τ).loc Cert.RefM2Out0Ideal.main_arg2) = m' ((c.tc : Thread Cert.RefM2Out0Ideal.nD Cert.RefM2Out0Ideal.τ).loc Cert.RefM2Out0Ideal.main_arg2))

def preserves_AdamQkv_AdamQkvIdeal : Prop :=
  True

def algebraic_AdamQkvIdeal_RefAdamQkvIdeal [hAdamQkvIdeal : Cert.AdamQkvIdeal.Facts] [hRefAdamQkvIdeal : Cert.RefAdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.RefAdamQkvIdeal.nD Cert.RefAdamQkvIdeal.τ Cert.RefAdamQkvIdeal.sig) → Buf (Elt Ideal) ℓ) (g' : Dev Cert.RefAdamQkvIdeal.nD → PrngReg), Pre_AdamQkvIdeal m →
    (∀ c : Dev Cert.AdamQkvIdeal.nD,
      m' ((c.tc : Thread Cert.RefAdamQkvIdeal.nD Cert.RefAdamQkvIdeal.τ).loc Cert.RefAdamQkvIdeal.main_arg0) = m ((c.tc : Thread Cert.AdamQkvIdeal.nD Cert.AdamQkvIdeal.τ).loc Cert.AdamQkvIdeal.main_arg0)
      ∧ m' ((c.tc : Thread Cert.RefAdamQkvIdeal.nD Cert.RefAdamQkvIdeal.τ).loc Cert.RefAdamQkvIdeal.main_arg1) = m ((c.tc : Thread Cert.AdamQkvIdeal.nD Cert.AdamQkvIdeal.τ).loc Cert.AdamQkvIdeal.main_arg1)
      ∧ m' ((c.tc : Thread Cert.RefAdamQkvIdeal.nD Cert.RefAdamQkvIdeal.τ).loc Cert.RefAdamQkvIdeal.main_arg2) = m ((c.tc : Thread Cert.AdamQkvIdeal.nD Cert.AdamQkvIdeal.τ).loc Cert.AdamQkvIdeal.main_arg2)
      ∧ m' ((c.tc : Thread Cert.RefAdamQkvIdeal.nD Cert.RefAdamQkvIdeal.τ).loc Cert.RefAdamQkvIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.RefAdamQkvIdeal.defs (F := Ideal)) (onTc (τ := Cert.RefAdamQkvIdeal.τ) (Cert.RefAdamQkvIdeal.main (F := Ideal))) ⟨m', fun _ => 0, g'⟩ (fun r => ∀ c : Dev Cert.RefAdamQkvIdeal.nD,
          r.2.mem ((c.tc : Thread Cert.RefAdamQkvIdeal.nD Cert.RefAdamQkvIdeal.τ).loc Cert.RefAdamQkvIdeal.main_v23) = v0 c
          ∧ r.2.mem ((c.tc : Thread Cert.RefAdamQkvIdeal.nD Cert.RefAdamQkvIdeal.τ).loc Cert.RefAdamQkvIdeal.main_v4) = v1 c
          ∧ r.2.mem ((c.tc : Thread Cert.RefAdamQkvIdeal.nD Cert.RefAdamQkvIdeal.τ).loc Cert.RefAdamQkvIdeal.main_v10) = v2 c
          ∧ r.2.mem ((c.tc : Thread Cert.RefAdamQkvIdeal.nD Cert.RefAdamQkvIdeal.τ).loc Cert.RefAdamQkvIdeal.main_arg0) = m' ((c.tc : Thread Cert.RefAdamQkvIdeal.nD Cert.RefAdamQkvIdeal.τ).loc Cert.RefAdamQkvIdeal.main_arg0)
          ∧ r.2.mem ((c.tc : Thread Cert.RefAdamQkvIdeal.nD Cert.RefAdamQkvIdeal.τ).loc Cert.RefAdamQkvIdeal.main_arg1) = m' ((c.tc : Thread Cert.RefAdamQkvIdeal.nD Cert.RefAdamQkvIdeal.τ).loc Cert.RefAdamQkvIdeal.main_arg1)
          ∧ r.2.mem ((c.tc : Thread Cert.RefAdamQkvIdeal.nD Cert.RefAdamQkvIdeal.τ).loc Cert.RefAdamQkvIdeal.main_arg2) = m' ((c.tc : Thread Cert.RefAdamQkvIdeal.nD Cert.RefAdamQkvIdeal.τ).loc Cert.RefAdamQkvIdeal.main_arg2)
          ∧ r.2.mem ((c.tc : Thread Cert.RefAdamQkvIdeal.nD Cert.RefAdamQkvIdeal.τ).loc Cert.RefAdamQkvIdeal.main_arg3) = m' ((c.tc : Thread Cert.RefAdamQkvIdeal.nD Cert.RefAdamQkvIdeal.τ).loc Cert.RefAdamQkvIdeal.main_arg3))

def preserves_AdamO_AdamOIdeal : Prop :=
  True

def algebraic_AdamOIdeal_RefAdamOIdeal [hAdamOIdeal : Cert.AdamOIdeal.Facts] [hRefAdamOIdeal : Cert.RefAdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.RefAdamOIdeal.nD Cert.RefAdamOIdeal.τ Cert.RefAdamOIdeal.sig) → Buf (Elt Ideal) ℓ) (g' : Dev Cert.RefAdamOIdeal.nD → PrngReg), Pre_AdamOIdeal m →
    (∀ c : Dev Cert.AdamOIdeal.nD,
      m' ((c.tc : Thread Cert.RefAdamOIdeal.nD Cert.RefAdamOIdeal.τ).loc Cert.RefAdamOIdeal.main_arg0) = m ((c.tc : Thread Cert.AdamOIdeal.nD Cert.AdamOIdeal.τ).loc Cert.AdamOIdeal.main_arg0)
      ∧ m' ((c.tc : Thread Cert.RefAdamOIdeal.nD Cert.RefAdamOIdeal.τ).loc Cert.RefAdamOIdeal.main_arg1) = m ((c.tc : Thread Cert.AdamOIdeal.nD Cert.AdamOIdeal.τ).loc Cert.AdamOIdeal.main_arg1)
      ∧ m' ((c.tc : Thread Cert.RefAdamOIdeal.nD Cert.RefAdamOIdeal.τ).loc Cert.RefAdamOIdeal.main_arg2) = m ((c.tc : Thread Cert.AdamOIdeal.nD Cert.AdamOIdeal.τ).loc Cert.AdamOIdeal.main_arg2)
      ∧ m' ((c.tc : Thread Cert.RefAdamOIdeal.nD Cert.RefAdamOIdeal.τ).loc Cert.RefAdamOIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.RefAdamOIdeal.defs (F := Ideal)) (onTc (τ := Cert.RefAdamOIdeal.τ) (Cert.RefAdamOIdeal.main (F := Ideal))) ⟨m', fun _ => 0, g'⟩ (fun r => ∀ c : Dev Cert.RefAdamOIdeal.nD,
          r.2.mem ((c.tc : Thread Cert.RefAdamOIdeal.nD Cert.RefAdamOIdeal.τ).loc Cert.RefAdamOIdeal.main_v23) = v0 c
          ∧ r.2.mem ((c.tc : Thread Cert.RefAdamOIdeal.nD Cert.RefAdamOIdeal.τ).loc Cert.RefAdamOIdeal.main_v4) = v1 c
          ∧ r.2.mem ((c.tc : Thread Cert.RefAdamOIdeal.nD Cert.RefAdamOIdeal.τ).loc Cert.RefAdamOIdeal.main_v10) = v2 c
          ∧ r.2.mem ((c.tc : Thread Cert.RefAdamOIdeal.nD Cert.RefAdamOIdeal.τ).loc Cert.RefAdamOIdeal.main_arg0) = m' ((c.tc : Thread Cert.RefAdamOIdeal.nD Cert.RefAdamOIdeal.τ).loc Cert.RefAdamOIdeal.main_arg0)
          ∧ r.2.mem ((c.tc : Thread Cert.RefAdamOIdeal.nD Cert.RefAdamOIdeal.τ).loc Cert.RefAdamOIdeal.main_arg1) = m' ((c.tc : Thread Cert.RefAdamOIdeal.nD Cert.RefAdamOIdeal.τ).loc Cert.RefAdamOIdeal.main_arg1)
          ∧ r.2.mem ((c.tc : Thread Cert.RefAdamOIdeal.nD Cert.RefAdamOIdeal.τ).loc Cert.RefAdamOIdeal.main_arg2) = m' ((c.tc : Thread Cert.RefAdamOIdeal.nD Cert.RefAdamOIdeal.τ).loc Cert.RefAdamOIdeal.main_arg2)
          ∧ r.2.mem ((c.tc : Thread Cert.RefAdamOIdeal.nD Cert.RefAdamOIdeal.τ).loc Cert.RefAdamOIdeal.main_arg3) = m' ((c.tc : Thread Cert.RefAdamOIdeal.nD Cert.RefAdamOIdeal.τ).loc Cert.RefAdamOIdeal.main_arg3))

def preserves_AdamCfIn_AdamCfInIdeal : Prop :=
  True

def algebraic_AdamCfInIdeal_RefAdamCfInIdeal [hAdamCfInIdeal : Cert.AdamCfInIdeal.Facts] [hRefAdamCfInIdeal : Cert.RefAdamCfInIdeal.Facts] : Prop :=
  ∀ (m : (ℓ : Loc Cert.AdamCfInIdeal.nD Cert.AdamCfInIdeal.τ Cert.AdamCfInIdeal.sig) → Buf (Elt Ideal) ℓ) (g : Dev Cert.AdamCfInIdeal.nD → PrngReg)
    (m' : (ℓ : Loc Cert.RefAdamCfInIdeal.nD Cert.RefAdamCfInIdeal.τ Cert.RefAdamCfInIdeal.sig) → Buf (Elt Ideal) ℓ) (g' : Dev Cert.RefAdamCfInIdeal.nD → PrngReg), Pre_AdamCfInIdeal m →
    (∀ c : Dev Cert.AdamCfInIdeal.nD,
      m' ((c.tc : Thread Cert.RefAdamCfInIdeal.nD Cert.RefAdamCfInIdeal.τ).loc Cert.RefAdamCfInIdeal.main_arg0) = m ((c.tc : Thread Cert.AdamCfInIdeal.nD Cert.AdamCfInIdeal.τ).loc Cert.AdamCfInIdeal.main_arg0)
      ∧ m' ((c.tc : Thread Cert.RefAdamCfInIdeal.nD Cert.RefAdamCfInIdeal.τ).loc Cert.RefAdamCfInIdeal.main_arg1) = m ((c.tc : Thread Cert.AdamCfInIdeal.nD Cert.AdamCfInIdeal.τ).loc Cert.AdamCfInIdeal.main_arg1)
      ∧ m' ((c.tc : Thread Cert.RefAdamCfInIdeal.nD Cert.RefAdamCfInIdeal.τ).loc Cert.RefAdamCfInIdeal.main_arg2) = m ((c.tc : Thread Cert.AdamCfInIdeal.nD Cert.AdamCfInIdeal.τ).loc Cert.AdamCfInIdeal.main_arg2)
      ∧ m' ((c.tc : Thread Cert.RefAdamCfInIdeal.nD Cert.RefAdamCfInIdeal.τ).loc Cert.RefAdamCfInIdeal.main_arg3) = m ((c.tc : Thread Cert.AdamCfInIdeal.nD Cert.AdamCfInIdeal.τ).loc Cert.AdamCfInIdeal.main_arg3)) →
    ∃ (v0 : (c : Dev Cert.AdamCfInIdeal.nD) → Buf (Elt Ideal) ((c.tc : Thread Cert.AdamCfInIdeal.nD Cert.AdamCfInIdeal.τ).loc Cert.AdamCfInIdeal.main_v0_0)) (v1 : (c : Dev Cert.AdamCfInIdeal.nD) → Buf (Elt Ideal) ((c.tc : Thread Cert.AdamCfInIdeal.nD Cert.AdamCfInIdeal.τ).loc Cert.AdamCfInIdeal.main_v0_1)) (v2 : (c : Dev Cert.AdamCfInIdeal.nD) → Buf (Elt Ideal) ((c.tc : Thread Cert.AdamCfInIdeal.nD Cert.AdamCfInIdeal.τ).loc Cert.AdamCfInIdeal.main_v0_2)),
      θ_run (Cert.AdamCfInIdeal.defs (F := Ideal)) (onTc (τ := Cert.AdamCfInIdeal.τ) (Cert.AdamCfInIdeal.main (F := Ideal))) ⟨m, fun _ => 0, g⟩ (fun r => ∀ c : Dev Cert.AdamCfInIdeal.nD,
          r.2.mem ((c.tc : Thread Cert.AdamCfInIdeal.nD Cert.AdamCfInIdeal.τ).loc Cert.AdamCfInIdeal.main_v0_0) = v0 c
          ∧ r.2.mem ((c.tc : Thread Cert.AdamCfInIdeal.nD Cert.AdamCfInIdeal.τ).loc Cert.AdamCfInIdeal.main_v0_1) = v1 c
          ∧ r.2.mem ((c.tc : Thread Cert.AdamCfInIdeal.nD Cert.AdamCfInIdeal.τ).loc Cert.AdamCfInIdeal.main_v0_2) = v2 c
          ∧ r.2.mem ((c.tc : Thread Cert.AdamCfInIdeal.nD Cert.AdamCfInIdeal.τ).loc Cert.AdamCfInIdeal.main_arg0) = m ((c.tc : Thread Cert.AdamCfInIdeal.nD Cert.AdamCfInIdeal.τ).loc Cert.AdamCfInIdeal.main_arg0)
          ∧ r.2.mem ((c.tc : Thread Cert.AdamCfInIdeal.nD Cert.AdamCfInIdeal.τ).loc Cert.AdamCfInIdeal.main_arg1) = m ((c.tc : Thread Cert.AdamCfInIdeal.nD Cert.AdamCfInIdeal.τ).loc Cert.AdamCfInIdeal.main_arg1)
          ∧ r.2.mem ((c.tc : Thread Cert.AdamCfInIdeal.nD Cert.AdamCfInIdeal.τ).loc Cert.AdamCfInIdeal.main_arg2) = m ((c.tc : Thread Cert.AdamCfInIdeal.nD Cert.AdamCfInIdeal.τ).loc Cert.AdamCfInIdeal.main_arg2)
          ∧ r.2.mem ((c.tc : Thread Cert.AdamCfInIdeal.nD Cert.AdamCfInIdeal.τ).loc Cert.AdamCfInIdeal.main_arg3) = m ((c.tc : Thread Cert.AdamCfInIdeal.nD Cert.AdamCfInIdeal.τ).loc Cert.AdamCfInIdeal.main_arg3))
      ∧ θ_run (Cert.RefAdamCfInIdeal.defs (F := Ideal)) (onTc (τ := Cert.RefAdamCfInIdeal.τ) (Cert.RefAdamCfInIdeal.main (F := Ideal))) ⟨m', fun _ => 0, g'⟩ (fun r => ∀ c : Dev Cert.RefAdamCfInIdeal.nD,
          r.2.mem ((c.tc : Thread Cert.RefAdamCfInIdeal.nD Cert.RefAdamCfInIdeal.τ).loc Cert.RefAdamCfInIdeal.main_v23) = v0 c
          ∧ r.2.mem ((c.tc : Thread Cert.RefAdamCfInIdeal.nD Cert.RefAdamCfInIdeal.τ).loc Cert.RefAdamCfInIdeal.main_v4) = v1 c
          ∧ r.2.mem ((c.tc : Thread Cert.RefAdamCfInIdeal.nD Cert.RefAdamCfInIdeal.τ).loc Cert.RefAdamCfInIdeal.main_v10) = v2 c
          ∧ r.2.mem ((c.tc : Thread Cert.RefAdamCfInIdeal.nD Cert.RefAdamCfInIdeal.τ).loc Cert.RefAdamCfInIdeal.main_arg0) = m' ((c.tc : Thread Cert.RefAdamCfInIdeal.nD Cert.RefAdamCfInIdeal.τ).loc Cert.RefAdamCfInIdeal.main_arg0)
          ∧ r.2.mem ((c.tc : Thread Cert.RefAdamCfInIdeal.nD Cert.RefAdamCfInIdeal.τ).loc Cert.RefAdamCfInIdeal.main_arg1) = m' ((c.tc : Thread Cert.RefAdamCfInIdeal.nD Cert.RefAdamCfInIdeal.τ).loc Cert.RefAdamCfInIdeal.main_arg1)
          ∧ r.2.mem ((c.tc : Thread Cert.RefAdamCfInIdeal.nD Cert.RefAdamCfInIdeal.τ).loc Cert.RefAdamCfInIdeal.main_arg2) = m' ((c.tc : Thread Cert.RefAdamCfInIdeal.nD Cert.RefAdamCfInIdeal.τ).loc Cert.RefAdamCfInIdeal.main_arg2)
          ∧ r.2.mem ((c.tc : Thread Cert.RefAdamCfInIdeal.nD Cert.RefAdamCfInIdeal.τ).loc Cert.RefAdamCfInIdeal.main_arg3) = m' ((c.tc : Thread Cert.RefAdamCfInIdeal.nD Cert.RefAdamCfInIdeal.τ).loc Cert.RefAdamCfInIdeal.main_arg3))

def preserves_AdamCfOut_AdamCfOutIdeal : Prop :=
  True

def algebraic_AdamCfOutIdeal_RefAdamCfOutIdeal [hAdamCfOutIdeal : Cert.AdamCfOutIdeal.Facts] [hRefAdamCfOutIdeal : Cert.RefAdamCfOutIdeal.Facts] : Prop :=
  ∀ (m : (ℓ : Loc Cert.AdamCfOutIdeal.nD Cert.AdamCfOutIdeal.τ Cert.AdamCfOutIdeal.sig) → Buf (Elt Ideal) ℓ) (g : Dev Cert.AdamCfOutIdeal.nD → PrngReg)
    (m' : (ℓ : Loc Cert.RefAdamCfOutIdeal.nD Cert.RefAdamCfOutIdeal.τ Cert.RefAdamCfOutIdeal.sig) → Buf (Elt Ideal) ℓ) (g' : Dev Cert.RefAdamCfOutIdeal.nD → PrngReg), Pre_AdamCfOutIdeal m →
    (∀ c : Dev Cert.AdamCfOutIdeal.nD,
      m' ((c.tc : Thread Cert.RefAdamCfOutIdeal.nD Cert.RefAdamCfOutIdeal.τ).loc Cert.RefAdamCfOutIdeal.main_arg0) = m ((c.tc : Thread Cert.AdamCfOutIdeal.nD Cert.AdamCfOutIdeal.τ).loc Cert.AdamCfOutIdeal.main_arg0)
      ∧ m' ((c.tc : Thread Cert.RefAdamCfOutIdeal.nD Cert.RefAdamCfOutIdeal.τ).loc Cert.RefAdamCfOutIdeal.main_arg1) = m ((c.tc : Thread Cert.AdamCfOutIdeal.nD Cert.AdamCfOutIdeal.τ).loc Cert.AdamCfOutIdeal.main_arg1)
      ∧ m' ((c.tc : Thread Cert.RefAdamCfOutIdeal.nD Cert.RefAdamCfOutIdeal.τ).loc Cert.RefAdamCfOutIdeal.main_arg2) = m ((c.tc : Thread Cert.AdamCfOutIdeal.nD Cert.AdamCfOutIdeal.τ).loc Cert.AdamCfOutIdeal.main_arg2)
      ∧ m' ((c.tc : Thread Cert.RefAdamCfOutIdeal.nD Cert.RefAdamCfOutIdeal.τ).loc Cert.RefAdamCfOutIdeal.main_arg3) = m ((c.tc : Thread Cert.AdamCfOutIdeal.nD Cert.AdamCfOutIdeal.τ).loc Cert.AdamCfOutIdeal.main_arg3)) →
    ∃ (v0 : (c : Dev Cert.AdamCfOutIdeal.nD) → Buf (Elt Ideal) ((c.tc : Thread Cert.AdamCfOutIdeal.nD Cert.AdamCfOutIdeal.τ).loc Cert.AdamCfOutIdeal.main_v0_0)) (v1 : (c : Dev Cert.AdamCfOutIdeal.nD) → Buf (Elt Ideal) ((c.tc : Thread Cert.AdamCfOutIdeal.nD Cert.AdamCfOutIdeal.τ).loc Cert.AdamCfOutIdeal.main_v0_1)) (v2 : (c : Dev Cert.AdamCfOutIdeal.nD) → Buf (Elt Ideal) ((c.tc : Thread Cert.AdamCfOutIdeal.nD Cert.AdamCfOutIdeal.τ).loc Cert.AdamCfOutIdeal.main_v0_2)),
      θ_run (Cert.AdamCfOutIdeal.defs (F := Ideal)) (onTc (τ := Cert.AdamCfOutIdeal.τ) (Cert.AdamCfOutIdeal.main (F := Ideal))) ⟨m, fun _ => 0, g⟩ (fun r => ∀ c : Dev Cert.AdamCfOutIdeal.nD,
          r.2.mem ((c.tc : Thread Cert.AdamCfOutIdeal.nD Cert.AdamCfOutIdeal.τ).loc Cert.AdamCfOutIdeal.main_v0_0) = v0 c
          ∧ r.2.mem ((c.tc : Thread Cert.AdamCfOutIdeal.nD Cert.AdamCfOutIdeal.τ).loc Cert.AdamCfOutIdeal.main_v0_1) = v1 c
          ∧ r.2.mem ((c.tc : Thread Cert.AdamCfOutIdeal.nD Cert.AdamCfOutIdeal.τ).loc Cert.AdamCfOutIdeal.main_v0_2) = v2 c
          ∧ r.2.mem ((c.tc : Thread Cert.AdamCfOutIdeal.nD Cert.AdamCfOutIdeal.τ).loc Cert.AdamCfOutIdeal.main_arg0) = m ((c.tc : Thread Cert.AdamCfOutIdeal.nD Cert.AdamCfOutIdeal.τ).loc Cert.AdamCfOutIdeal.main_arg0)
          ∧ r.2.mem ((c.tc : Thread Cert.AdamCfOutIdeal.nD Cert.AdamCfOutIdeal.τ).loc Cert.AdamCfOutIdeal.main_arg1) = m ((c.tc : Thread Cert.AdamCfOutIdeal.nD Cert.AdamCfOutIdeal.τ).loc Cert.AdamCfOutIdeal.main_arg1)
          ∧ r.2.mem ((c.tc : Thread Cert.AdamCfOutIdeal.nD Cert.AdamCfOutIdeal.τ).loc Cert.AdamCfOutIdeal.main_arg2) = m ((c.tc : Thread Cert.AdamCfOutIdeal.nD Cert.AdamCfOutIdeal.τ).loc Cert.AdamCfOutIdeal.main_arg2)
          ∧ r.2.mem ((c.tc : Thread Cert.AdamCfOutIdeal.nD Cert.AdamCfOutIdeal.τ).loc Cert.AdamCfOutIdeal.main_arg3) = m ((c.tc : Thread Cert.AdamCfOutIdeal.nD Cert.AdamCfOutIdeal.τ).loc Cert.AdamCfOutIdeal.main_arg3))
      ∧ θ_run (Cert.RefAdamCfOutIdeal.defs (F := Ideal)) (onTc (τ := Cert.RefAdamCfOutIdeal.τ) (Cert.RefAdamCfOutIdeal.main (F := Ideal))) ⟨m', fun _ => 0, g'⟩ (fun r => ∀ c : Dev Cert.RefAdamCfOutIdeal.nD,
          r.2.mem ((c.tc : Thread Cert.RefAdamCfOutIdeal.nD Cert.RefAdamCfOutIdeal.τ).loc Cert.RefAdamCfOutIdeal.main_v23) = v0 c
          ∧ r.2.mem ((c.tc : Thread Cert.RefAdamCfOutIdeal.nD Cert.RefAdamCfOutIdeal.τ).loc Cert.RefAdamCfOutIdeal.main_v4) = v1 c
          ∧ r.2.mem ((c.tc : Thread Cert.RefAdamCfOutIdeal.nD Cert.RefAdamCfOutIdeal.τ).loc Cert.RefAdamCfOutIdeal.main_v10) = v2 c
          ∧ r.2.mem ((c.tc : Thread Cert.RefAdamCfOutIdeal.nD Cert.RefAdamCfOutIdeal.τ).loc Cert.RefAdamCfOutIdeal.main_arg0) = m' ((c.tc : Thread Cert.RefAdamCfOutIdeal.nD Cert.RefAdamCfOutIdeal.τ).loc Cert.RefAdamCfOutIdeal.main_arg0)
          ∧ r.2.mem ((c.tc : Thread Cert.RefAdamCfOutIdeal.nD Cert.RefAdamCfOutIdeal.τ).loc Cert.RefAdamCfOutIdeal.main_arg1) = m' ((c.tc : Thread Cert.RefAdamCfOutIdeal.nD Cert.RefAdamCfOutIdeal.τ).loc Cert.RefAdamCfOutIdeal.main_arg1)
          ∧ r.2.mem ((c.tc : Thread Cert.RefAdamCfOutIdeal.nD Cert.RefAdamCfOutIdeal.τ).loc Cert.RefAdamCfOutIdeal.main_arg2) = m' ((c.tc : Thread Cert.RefAdamCfOutIdeal.nD Cert.RefAdamCfOutIdeal.τ).loc Cert.RefAdamCfOutIdeal.main_arg2)
          ∧ r.2.mem ((c.tc : Thread Cert.RefAdamCfOutIdeal.nD Cert.RefAdamCfOutIdeal.τ).loc Cert.RefAdamCfOutIdeal.main_arg3) = m' ((c.tc : Thread Cert.RefAdamCfOutIdeal.nD Cert.RefAdamCfOutIdeal.τ).loc Cert.RefAdamCfOutIdeal.main_arg3))

def preserves_AdamM2In_AdamM2InIdeal : Prop :=
  True

def algebraic_AdamM2InIdeal_RefAdamM2InIdeal [hAdamM2InIdeal : Cert.AdamM2InIdeal.Facts] [hRefAdamM2InIdeal : Cert.RefAdamM2InIdeal.Facts] : Prop :=
  ∀ (m : (ℓ : Loc Cert.AdamM2InIdeal.nD Cert.AdamM2InIdeal.τ Cert.AdamM2InIdeal.sig) → Buf (Elt Ideal) ℓ) (g : Dev Cert.AdamM2InIdeal.nD → PrngReg)
    (m' : (ℓ : Loc Cert.RefAdamM2InIdeal.nD Cert.RefAdamM2InIdeal.τ Cert.RefAdamM2InIdeal.sig) → Buf (Elt Ideal) ℓ) (g' : Dev Cert.RefAdamM2InIdeal.nD → PrngReg), Pre_AdamM2InIdeal m →
    (∀ c : Dev Cert.AdamM2InIdeal.nD,
      m' ((c.tc : Thread Cert.RefAdamM2InIdeal.nD Cert.RefAdamM2InIdeal.τ).loc Cert.RefAdamM2InIdeal.main_arg0) = m ((c.tc : Thread Cert.AdamM2InIdeal.nD Cert.AdamM2InIdeal.τ).loc Cert.AdamM2InIdeal.main_arg0)
      ∧ m' ((c.tc : Thread Cert.RefAdamM2InIdeal.nD Cert.RefAdamM2InIdeal.τ).loc Cert.RefAdamM2InIdeal.main_arg1) = m ((c.tc : Thread Cert.AdamM2InIdeal.nD Cert.AdamM2InIdeal.τ).loc Cert.AdamM2InIdeal.main_arg1)
      ∧ m' ((c.tc : Thread Cert.RefAdamM2InIdeal.nD Cert.RefAdamM2InIdeal.τ).loc Cert.RefAdamM2InIdeal.main_arg2) = m ((c.tc : Thread Cert.AdamM2InIdeal.nD Cert.AdamM2InIdeal.τ).loc Cert.AdamM2InIdeal.main_arg2)
      ∧ m' ((c.tc : Thread Cert.RefAdamM2InIdeal.nD Cert.RefAdamM2InIdeal.τ).loc Cert.RefAdamM2InIdeal.main_arg3) = m ((c.tc : Thread Cert.AdamM2InIdeal.nD Cert.AdamM2InIdeal.τ).loc Cert.AdamM2InIdeal.main_arg3)) →
    ∃ (v0 : (c : Dev Cert.AdamM2InIdeal.nD) → Buf (Elt Ideal) ((c.tc : Thread Cert.AdamM2InIdeal.nD Cert.AdamM2InIdeal.τ).loc Cert.AdamM2InIdeal.main_v0_0)) (v1 : (c : Dev Cert.AdamM2InIdeal.nD) → Buf (Elt Ideal) ((c.tc : Thread Cert.AdamM2InIdeal.nD Cert.AdamM2InIdeal.τ).loc Cert.AdamM2InIdeal.main_v0_1)) (v2 : (c : Dev Cert.AdamM2InIdeal.nD) → Buf (Elt Ideal) ((c.tc : Thread Cert.AdamM2InIdeal.nD Cert.AdamM2InIdeal.τ).loc Cert.AdamM2InIdeal.main_v0_2)),
      θ_run (Cert.AdamM2InIdeal.defs (F := Ideal)) (onTc (τ := Cert.AdamM2InIdeal.τ) (Cert.AdamM2InIdeal.main (F := Ideal))) ⟨m, fun _ => 0, g⟩ (fun r => ∀ c : Dev Cert.AdamM2InIdeal.nD,
          r.2.mem ((c.tc : Thread Cert.AdamM2InIdeal.nD Cert.AdamM2InIdeal.τ).loc Cert.AdamM2InIdeal.main_v0_0) = v0 c
          ∧ r.2.mem ((c.tc : Thread Cert.AdamM2InIdeal.nD Cert.AdamM2InIdeal.τ).loc Cert.AdamM2InIdeal.main_v0_1) = v1 c
          ∧ r.2.mem ((c.tc : Thread Cert.AdamM2InIdeal.nD Cert.AdamM2InIdeal.τ).loc Cert.AdamM2InIdeal.main_v0_2) = v2 c
          ∧ r.2.mem ((c.tc : Thread Cert.AdamM2InIdeal.nD Cert.AdamM2InIdeal.τ).loc Cert.AdamM2InIdeal.main_arg0) = m ((c.tc : Thread Cert.AdamM2InIdeal.nD Cert.AdamM2InIdeal.τ).loc Cert.AdamM2InIdeal.main_arg0)
          ∧ r.2.mem ((c.tc : Thread Cert.AdamM2InIdeal.nD Cert.AdamM2InIdeal.τ).loc Cert.AdamM2InIdeal.main_arg1) = m ((c.tc : Thread Cert.AdamM2InIdeal.nD Cert.AdamM2InIdeal.τ).loc Cert.AdamM2InIdeal.main_arg1)
          ∧ r.2.mem ((c.tc : Thread Cert.AdamM2InIdeal.nD Cert.AdamM2InIdeal.τ).loc Cert.AdamM2InIdeal.main_arg2) = m ((c.tc : Thread Cert.AdamM2InIdeal.nD Cert.AdamM2InIdeal.τ).loc Cert.AdamM2InIdeal.main_arg2)
          ∧ r.2.mem ((c.tc : Thread Cert.AdamM2InIdeal.nD Cert.AdamM2InIdeal.τ).loc Cert.AdamM2InIdeal.main_arg3) = m ((c.tc : Thread Cert.AdamM2InIdeal.nD Cert.AdamM2InIdeal.τ).loc Cert.AdamM2InIdeal.main_arg3))
      ∧ θ_run (Cert.RefAdamM2InIdeal.defs (F := Ideal)) (onTc (τ := Cert.RefAdamM2InIdeal.τ) (Cert.RefAdamM2InIdeal.main (F := Ideal))) ⟨m', fun _ => 0, g'⟩ (fun r => ∀ c : Dev Cert.RefAdamM2InIdeal.nD,
          r.2.mem ((c.tc : Thread Cert.RefAdamM2InIdeal.nD Cert.RefAdamM2InIdeal.τ).loc Cert.RefAdamM2InIdeal.main_v23) = v0 c
          ∧ r.2.mem ((c.tc : Thread Cert.RefAdamM2InIdeal.nD Cert.RefAdamM2InIdeal.τ).loc Cert.RefAdamM2InIdeal.main_v4) = v1 c
          ∧ r.2.mem ((c.tc : Thread Cert.RefAdamM2InIdeal.nD Cert.RefAdamM2InIdeal.τ).loc Cert.RefAdamM2InIdeal.main_v10) = v2 c
          ∧ r.2.mem ((c.tc : Thread Cert.RefAdamM2InIdeal.nD Cert.RefAdamM2InIdeal.τ).loc Cert.RefAdamM2InIdeal.main_arg0) = m' ((c.tc : Thread Cert.RefAdamM2InIdeal.nD Cert.RefAdamM2InIdeal.τ).loc Cert.RefAdamM2InIdeal.main_arg0)
          ∧ r.2.mem ((c.tc : Thread Cert.RefAdamM2InIdeal.nD Cert.RefAdamM2InIdeal.τ).loc Cert.RefAdamM2InIdeal.main_arg1) = m' ((c.tc : Thread Cert.RefAdamM2InIdeal.nD Cert.RefAdamM2InIdeal.τ).loc Cert.RefAdamM2InIdeal.main_arg1)
          ∧ r.2.mem ((c.tc : Thread Cert.RefAdamM2InIdeal.nD Cert.RefAdamM2InIdeal.τ).loc Cert.RefAdamM2InIdeal.main_arg2) = m' ((c.tc : Thread Cert.RefAdamM2InIdeal.nD Cert.RefAdamM2InIdeal.τ).loc Cert.RefAdamM2InIdeal.main_arg2)
          ∧ r.2.mem ((c.tc : Thread Cert.RefAdamM2InIdeal.nD Cert.RefAdamM2InIdeal.τ).loc Cert.RefAdamM2InIdeal.main_arg3) = m' ((c.tc : Thread Cert.RefAdamM2InIdeal.nD Cert.RefAdamM2InIdeal.τ).loc Cert.RefAdamM2InIdeal.main_arg3))

def preserves_AdamMlp_AdamMlpIdeal : Prop :=
  True

def algebraic_AdamMlpIdeal_RefAdamMlpIdeal [hAdamMlpIdeal : Cert.AdamMlpIdeal.Facts] [hRefAdamMlpIdeal : Cert.RefAdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.RefAdamMlpIdeal.nD Cert.RefAdamMlpIdeal.τ Cert.RefAdamMlpIdeal.sig) → Buf (Elt Ideal) ℓ) (g' : Dev Cert.RefAdamMlpIdeal.nD → PrngReg), Pre_AdamMlpIdeal m →
    (∀ c : Dev Cert.AdamMlpIdeal.nD,
      m' ((c.tc : Thread Cert.RefAdamMlpIdeal.nD Cert.RefAdamMlpIdeal.τ).loc Cert.RefAdamMlpIdeal.main_arg0) = m ((c.tc : Thread Cert.AdamMlpIdeal.nD Cert.AdamMlpIdeal.τ).loc Cert.AdamMlpIdeal.main_arg0)
      ∧ m' ((c.tc : Thread Cert.RefAdamMlpIdeal.nD Cert.RefAdamMlpIdeal.τ).loc Cert.RefAdamMlpIdeal.main_arg1) = m ((c.tc : Thread Cert.AdamMlpIdeal.nD Cert.AdamMlpIdeal.τ).loc Cert.AdamMlpIdeal.main_arg1)
      ∧ m' ((c.tc : Thread Cert.RefAdamMlpIdeal.nD Cert.RefAdamMlpIdeal.τ).loc Cert.RefAdamMlpIdeal.main_arg2) = m ((c.tc : Thread Cert.AdamMlpIdeal.nD Cert.AdamMlpIdeal.τ).loc Cert.AdamMlpIdeal.main_arg2)
      ∧ m' ((c.tc : Thread Cert.RefAdamMlpIdeal.nD Cert.RefAdamMlpIdeal.τ).loc Cert.RefAdamMlpIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.RefAdamMlpIdeal.defs (F := Ideal)) (onTc (τ := Cert.RefAdamMlpIdeal.τ) (Cert.RefAdamMlpIdeal.main (F := Ideal))) ⟨m', fun _ => 0, g'⟩ (fun r => ∀ c : Dev Cert.RefAdamMlpIdeal.nD,
          r.2.mem ((c.tc : Thread Cert.RefAdamMlpIdeal.nD Cert.RefAdamMlpIdeal.τ).loc Cert.RefAdamMlpIdeal.main_v23) = v0 c
          ∧ r.2.mem ((c.tc : Thread Cert.RefAdamMlpIdeal.nD Cert.RefAdamMlpIdeal.τ).loc Cert.RefAdamMlpIdeal.main_v4) = v1 c
          ∧ r.2.mem ((c.tc : Thread Cert.RefAdamMlpIdeal.nD Cert.RefAdamMlpIdeal.τ).loc Cert.RefAdamMlpIdeal.main_v10) = v2 c
          ∧ r.2.mem ((c.tc : Thread Cert.RefAdamMlpIdeal.nD Cert.RefAdamMlpIdeal.τ).loc Cert.RefAdamMlpIdeal.main_arg0) = m' ((c.tc : Thread Cert.RefAdamMlpIdeal.nD Cert.RefAdamMlpIdeal.τ).loc Cert.RefAdamMlpIdeal.main_arg0)
          ∧ r.2.mem ((c.tc : Thread Cert.RefAdamMlpIdeal.nD Cert.RefAdamMlpIdeal.τ).loc Cert.RefAdamMlpIdeal.main_arg1) = m' ((c.tc : Thread Cert.RefAdamMlpIdeal.nD Cert.RefAdamMlpIdeal.τ).loc Cert.RefAdamMlpIdeal.main_arg1)
          ∧ r.2.mem ((c.tc : Thread Cert.RefAdamMlpIdeal.nD Cert.RefAdamMlpIdeal.τ).loc Cert.RefAdamMlpIdeal.main_arg2) = m' ((c.tc : Thread Cert.RefAdamMlpIdeal.nD Cert.RefAdamMlpIdeal.τ).loc Cert.RefAdamMlpIdeal.main_arg2)
          ∧ r.2.mem ((c.tc : Thread Cert.RefAdamMlpIdeal.nD Cert.RefAdamMlpIdeal.τ).loc Cert.RefAdamMlpIdeal.main_arg3) = m' ((c.tc : Thread Cert.RefAdamMlpIdeal.nD Cert.RefAdamMlpIdeal.τ).loc Cert.RefAdamMlpIdeal.main_arg3))

def preserves_AdamCfConv_AdamCfConvIdeal : Prop :=
  True

def algebraic_AdamCfConvIdeal_RefAdamCfConvIdeal [hAdamCfConvIdeal : Cert.AdamCfConvIdeal.Facts] [hRefAdamCfConvIdeal : Cert.RefAdamCfConvIdeal.Facts] : Prop :=
  ∀ (m : (ℓ : Loc Cert.AdamCfConvIdeal.nD Cert.AdamCfConvIdeal.τ Cert.AdamCfConvIdeal.sig) → Buf (Elt Ideal) ℓ) (g : Dev Cert.AdamCfConvIdeal.nD → PrngReg)
    (m' : (ℓ : Loc Cert.RefAdamCfConvIdeal.nD Cert.RefAdamCfConvIdeal.τ Cert.RefAdamCfConvIdeal.sig) → Buf (Elt Ideal) ℓ) (g' : Dev Cert.RefAdamCfConvIdeal.nD → PrngReg), Pre_AdamCfConvIdeal m →
    (∀ c : Dev Cert.AdamCfConvIdeal.nD,
      m' ((c.tc : Thread Cert.RefAdamCfConvIdeal.nD Cert.RefAdamCfConvIdeal.τ).loc Cert.RefAdamCfConvIdeal.main_arg0) = m ((c.tc : Thread Cert.AdamCfConvIdeal.nD Cert.AdamCfConvIdeal.τ).loc Cert.AdamCfConvIdeal.main_arg0)
      ∧ m' ((c.tc : Thread Cert.RefAdamCfConvIdeal.nD Cert.RefAdamCfConvIdeal.τ).loc Cert.RefAdamCfConvIdeal.main_arg1) = m ((c.tc : Thread Cert.AdamCfConvIdeal.nD Cert.AdamCfConvIdeal.τ).loc Cert.AdamCfConvIdeal.main_arg1)
      ∧ m' ((c.tc : Thread Cert.RefAdamCfConvIdeal.nD Cert.RefAdamCfConvIdeal.τ).loc Cert.RefAdamCfConvIdeal.main_arg2) = m ((c.tc : Thread Cert.AdamCfConvIdeal.nD Cert.AdamCfConvIdeal.τ).loc Cert.AdamCfConvIdeal.main_arg2)
      ∧ m' ((c.tc : Thread Cert.RefAdamCfConvIdeal.nD Cert.RefAdamCfConvIdeal.τ).loc Cert.RefAdamCfConvIdeal.main_arg3) = m ((c.tc : Thread Cert.AdamCfConvIdeal.nD Cert.AdamCfConvIdeal.τ).loc Cert.AdamCfConvIdeal.main_arg3)) →
    ∃ (v0 : (c : Dev Cert.AdamCfConvIdeal.nD) → Buf (Elt Ideal) ((c.tc : Thread Cert.AdamCfConvIdeal.nD Cert.AdamCfConvIdeal.τ).loc Cert.AdamCfConvIdeal.main_v0_0)) (v1 : (c : Dev Cert.AdamCfConvIdeal.nD) → Buf (Elt Ideal) ((c.tc : Thread Cert.AdamCfConvIdeal.nD Cert.AdamCfConvIdeal.τ).loc Cert.AdamCfConvIdeal.main_v0_1)) (v2 : (c : Dev Cert.AdamCfConvIdeal.nD) → Buf (Elt Ideal) ((c.tc : Thread Cert.AdamCfConvIdeal.nD Cert.AdamCfConvIdeal.τ).loc Cert.AdamCfConvIdeal.main_v0_2)),
      θ_run (Cert.AdamCfConvIdeal.defs (F := Ideal)) (onTc (τ := Cert.AdamCfConvIdeal.τ) (Cert.AdamCfConvIdeal.main (F := Ideal))) ⟨m, fun _ => 0, g⟩ (fun r => ∀ c : Dev Cert.AdamCfConvIdeal.nD,
          r.2.mem ((c.tc : Thread Cert.AdamCfConvIdeal.nD Cert.AdamCfConvIdeal.τ).loc Cert.AdamCfConvIdeal.main_v0_0) = v0 c
          ∧ r.2.mem ((c.tc : Thread Cert.AdamCfConvIdeal.nD Cert.AdamCfConvIdeal.τ).loc Cert.AdamCfConvIdeal.main_v0_1) = v1 c
          ∧ r.2.mem ((c.tc : Thread Cert.AdamCfConvIdeal.nD Cert.AdamCfConvIdeal.τ).loc Cert.AdamCfConvIdeal.main_v0_2) = v2 c
          ∧ r.2.mem ((c.tc : Thread Cert.AdamCfConvIdeal.nD Cert.AdamCfConvIdeal.τ).loc Cert.AdamCfConvIdeal.main_arg0) = m ((c.tc : Thread Cert.AdamCfConvIdeal.nD Cert.AdamCfConvIdeal.τ).loc Cert.AdamCfConvIdeal.main_arg0)
          ∧ r.2.mem ((c.tc : Thread Cert.AdamCfConvIdeal.nD Cert.AdamCfConvIdeal.τ).loc Cert.AdamCfConvIdeal.main_arg1) = m ((c.tc : Thread Cert.AdamCfConvIdeal.nD Cert.AdamCfConvIdeal.τ).loc Cert.AdamCfConvIdeal.main_arg1)
          ∧ r.2.mem ((c.tc : Thread Cert.AdamCfConvIdeal.nD Cert.AdamCfConvIdeal.τ).loc Cert.AdamCfConvIdeal.main_arg2) = m ((c.tc : Thread Cert.AdamCfConvIdeal.nD Cert.AdamCfConvIdeal.τ).loc Cert.AdamCfConvIdeal.main_arg2)
          ∧ r.2.mem ((c.tc : Thread Cert.AdamCfConvIdeal.nD Cert.AdamCfConvIdeal.τ).loc Cert.AdamCfConvIdeal.main_arg3) = m ((c.tc : Thread Cert.AdamCfConvIdeal.nD Cert.AdamCfConvIdeal.τ).loc Cert.AdamCfConvIdeal.main_arg3))
      ∧ θ_run (Cert.RefAdamCfConvIdeal.defs (F := Ideal)) (onTc (τ := Cert.RefAdamCfConvIdeal.τ) (Cert.RefAdamCfConvIdeal.main (F := Ideal))) ⟨m', fun _ => 0, g'⟩ (fun r => ∀ c : Dev Cert.RefAdamCfConvIdeal.nD,
          r.2.mem ((c.tc : Thread Cert.RefAdamCfConvIdeal.nD Cert.RefAdamCfConvIdeal.τ).loc Cert.RefAdamCfConvIdeal.main_v23) = v0 c
          ∧ r.2.mem ((c.tc : Thread Cert.RefAdamCfConvIdeal.nD Cert.RefAdamCfConvIdeal.τ).loc Cert.RefAdamCfConvIdeal.main_v4) = v1 c
          ∧ r.2.mem ((c.tc : Thread Cert.RefAdamCfConvIdeal.nD Cert.RefAdamCfConvIdeal.τ).loc Cert.RefAdamCfConvIdeal.main_v10) = v2 c
          ∧ r.2.mem ((c.tc : Thread Cert.RefAdamCfConvIdeal.nD Cert.RefAdamCfConvIdeal.τ).loc Cert.RefAdamCfConvIdeal.main_arg0) = m' ((c.tc : Thread Cert.RefAdamCfConvIdeal.nD Cert.RefAdamCfConvIdeal.τ).loc Cert.RefAdamCfConvIdeal.main_arg0)
          ∧ r.2.mem ((c.tc : Thread Cert.RefAdamCfConvIdeal.nD Cert.RefAdamCfConvIdeal.τ).loc Cert.RefAdamCfConvIdeal.main_arg1) = m' ((c.tc : Thread Cert.RefAdamCfConvIdeal.nD Cert.RefAdamCfConvIdeal.τ).loc Cert.RefAdamCfConvIdeal.main_arg1)
          ∧ r.2.mem ((c.tc : Thread Cert.RefAdamCfConvIdeal.nD Cert.RefAdamCfConvIdeal.τ).loc Cert.RefAdamCfConvIdeal.main_arg2) = m' ((c.tc : Thread Cert.RefAdamCfConvIdeal.nD Cert.RefAdamCfConvIdeal.τ).loc Cert.RefAdamCfConvIdeal.main_arg2)
          ∧ r.2.mem ((c.tc : Thread Cert.RefAdamCfConvIdeal.nD Cert.RefAdamCfConvIdeal.τ).loc Cert.RefAdamCfConvIdeal.main_arg3) = m' ((c.tc : Thread Cert.RefAdamCfConvIdeal.nD Cert.RefAdamCfConvIdeal.τ).loc Cert.RefAdamCfConvIdeal.main_arg3))

def preserves_AdamM2Conv_AdamM2ConvIdeal : Prop :=
  True

def algebraic_AdamM2ConvIdeal_RefAdamM2ConvIdeal [hAdamM2ConvIdeal : Cert.AdamM2ConvIdeal.Facts] [hRefAdamM2ConvIdeal : Cert.RefAdamM2ConvIdeal.Facts] : Prop :=
  ∀ (m : (ℓ : Loc Cert.AdamM2ConvIdeal.nD Cert.AdamM2ConvIdeal.τ Cert.AdamM2ConvIdeal.sig) → Buf (Elt Ideal) ℓ) (g : Dev Cert.AdamM2ConvIdeal.nD → PrngReg)
    (m' : (ℓ : Loc Cert.RefAdamM2ConvIdeal.nD Cert.RefAdamM2ConvIdeal.τ Cert.RefAdamM2ConvIdeal.sig) → Buf (Elt Ideal) ℓ) (g' : Dev Cert.RefAdamM2ConvIdeal.nD → PrngReg), Pre_AdamM2ConvIdeal m →
    (∀ c : Dev Cert.AdamM2ConvIdeal.nD,
      m' ((c.tc : Thread Cert.RefAdamM2ConvIdeal.nD Cert.RefAdamM2ConvIdeal.τ).loc Cert.RefAdamM2ConvIdeal.main_arg0) = m ((c.tc : Thread Cert.AdamM2ConvIdeal.nD Cert.AdamM2ConvIdeal.τ).loc Cert.AdamM2ConvIdeal.main_arg0)
      ∧ m' ((c.tc : Thread Cert.RefAdamM2ConvIdeal.nD Cert.RefAdamM2ConvIdeal.τ).loc Cert.RefAdamM2ConvIdeal.main_arg1) = m ((c.tc : Thread Cert.AdamM2ConvIdeal.nD Cert.AdamM2ConvIdeal.τ).loc Cert.AdamM2ConvIdeal.main_arg1)
      ∧ m' ((c.tc : Thread Cert.RefAdamM2ConvIdeal.nD Cert.RefAdamM2ConvIdeal.τ).loc Cert.RefAdamM2ConvIdeal.main_arg2) = m ((c.tc : Thread Cert.AdamM2ConvIdeal.nD Cert.AdamM2ConvIdeal.τ).loc Cert.AdamM2ConvIdeal.main_arg2)
      ∧ m' ((c.tc : Thread Cert.RefAdamM2ConvIdeal.nD Cert.RefAdamM2ConvIdeal.τ).loc Cert.RefAdamM2ConvIdeal.main_arg3) = m ((c.tc : Thread Cert.AdamM2ConvIdeal.nD Cert.AdamM2ConvIdeal.τ).loc Cert.AdamM2ConvIdeal.main_arg3)) →
    ∃ (v0 : (c : Dev Cert.AdamM2ConvIdeal.nD) → Buf (Elt Ideal) ((c.tc : Thread Cert.AdamM2ConvIdeal.nD Cert.AdamM2ConvIdeal.τ).loc Cert.AdamM2ConvIdeal.main_v0_0)) (v1 : (c : Dev Cert.AdamM2ConvIdeal.nD) → Buf (Elt Ideal) ((c.tc : Thread Cert.AdamM2ConvIdeal.nD Cert.AdamM2ConvIdeal.τ).loc Cert.AdamM2ConvIdeal.main_v0_1)) (v2 : (c : Dev Cert.AdamM2ConvIdeal.nD) → Buf (Elt Ideal) ((c.tc : Thread Cert.AdamM2ConvIdeal.nD Cert.AdamM2ConvIdeal.τ).loc Cert.AdamM2ConvIdeal.main_v0_2)),
      θ_run (Cert.AdamM2ConvIdeal.defs (F := Ideal)) (onTc (τ := Cert.AdamM2ConvIdeal.τ) (Cert.AdamM2ConvIdeal.main (F := Ideal))) ⟨m, fun _ => 0, g⟩ (fun r => ∀ c : Dev Cert.AdamM2ConvIdeal.nD,
          r.2.mem ((c.tc : Thread Cert.AdamM2ConvIdeal.nD Cert.AdamM2ConvIdeal.τ).loc Cert.AdamM2ConvIdeal.main_v0_0) = v0 c
          ∧ r.2.mem ((c.tc : Thread Cert.AdamM2ConvIdeal.nD Cert.AdamM2ConvIdeal.τ).loc Cert.AdamM2ConvIdeal.main_v0_1) = v1 c
          ∧ r.2.mem ((c.tc : Thread Cert.AdamM2ConvIdeal.nD Cert.AdamM2ConvIdeal.τ).loc Cert.AdamM2ConvIdeal.main_v0_2) = v2 c
          ∧ r.2.mem ((c.tc : Thread Cert.AdamM2ConvIdeal.nD Cert.AdamM2ConvIdeal.τ).loc Cert.AdamM2ConvIdeal.main_arg0) = m ((c.tc : Thread Cert.AdamM2ConvIdeal.nD Cert.AdamM2ConvIdeal.τ).loc Cert.AdamM2ConvIdeal.main_arg0)
          ∧ r.2.mem ((c.tc : Thread Cert.AdamM2ConvIdeal.nD Cert.AdamM2ConvIdeal.τ).loc Cert.AdamM2ConvIdeal.main_arg1) = m ((c.tc : Thread Cert.AdamM2ConvIdeal.nD Cert.AdamM2ConvIdeal.τ).loc Cert.AdamM2ConvIdeal.main_arg1)
          ∧ r.2.mem ((c.tc : Thread Cert.AdamM2ConvIdeal.nD Cert.AdamM2ConvIdeal.τ).loc Cert.AdamM2ConvIdeal.main_arg2) = m ((c.tc : Thread Cert.AdamM2ConvIdeal.nD Cert.AdamM2ConvIdeal.τ).loc Cert.AdamM2ConvIdeal.main_arg2)
          ∧ r.2.mem ((c.tc : Thread Cert.AdamM2ConvIdeal.nD Cert.AdamM2ConvIdeal.τ).loc Cert.AdamM2ConvIdeal.main_arg3) = m ((c.tc : Thread Cert.AdamM2ConvIdeal.nD Cert.AdamM2ConvIdeal.τ).loc Cert.AdamM2ConvIdeal.main_arg3))
      ∧ θ_run (Cert.RefAdamM2ConvIdeal.defs (F := Ideal)) (onTc (τ := Cert.RefAdamM2ConvIdeal.τ) (Cert.RefAdamM2ConvIdeal.main (F := Ideal))) ⟨m', fun _ => 0, g'⟩ (fun r => ∀ c : Dev Cert.RefAdamM2ConvIdeal.nD,
          r.2.mem ((c.tc : Thread Cert.RefAdamM2ConvIdeal.nD Cert.RefAdamM2ConvIdeal.τ).loc Cert.RefAdamM2ConvIdeal.main_v23) = v0 c
          ∧ r.2.mem ((c.tc : Thread Cert.RefAdamM2ConvIdeal.nD Cert.RefAdamM2ConvIdeal.τ).loc Cert.RefAdamM2ConvIdeal.main_v4) = v1 c
          ∧ r.2.mem ((c.tc : Thread Cert.RefAdamM2ConvIdeal.nD Cert.RefAdamM2ConvIdeal.τ).loc Cert.RefAdamM2ConvIdeal.main_v10) = v2 c
          ∧ r.2.mem ((c.tc : Thread Cert.RefAdamM2ConvIdeal.nD Cert.RefAdamM2ConvIdeal.τ).loc Cert.RefAdamM2ConvIdeal.main_arg0) = m' ((c.tc : Thread Cert.RefAdamM2ConvIdeal.nD Cert.RefAdamM2ConvIdeal.τ).loc Cert.RefAdamM2ConvIdeal.main_arg0)
          ∧ r.2.mem ((c.tc : Thread Cert.RefAdamM2ConvIdeal.nD Cert.RefAdamM2ConvIdeal.τ).loc Cert.RefAdamM2ConvIdeal.main_arg1) = m' ((c.tc : Thread Cert.RefAdamM2ConvIdeal.nD Cert.RefAdamM2ConvIdeal.τ).loc Cert.RefAdamM2ConvIdeal.main_arg1)
          ∧ r.2.mem ((c.tc : Thread Cert.RefAdamM2ConvIdeal.nD Cert.RefAdamM2ConvIdeal.τ).loc Cert.RefAdamM2ConvIdeal.main_arg2) = m' ((c.tc : Thread Cert.RefAdamM2ConvIdeal.nD Cert.RefAdamM2ConvIdeal.τ).loc Cert.RefAdamM2ConvIdeal.main_arg2)
          ∧ r.2.mem ((c.tc : Thread Cert.RefAdamM2ConvIdeal.nD Cert.RefAdamM2ConvIdeal.τ).loc Cert.RefAdamM2ConvIdeal.main_arg3) = m' ((c.tc : Thread Cert.RefAdamM2ConvIdeal.nD Cert.RefAdamM2ConvIdeal.τ).loc Cert.RefAdamM2ConvIdeal.main_arg3))

def preserves_AdamM2Bias_AdamM2BiasIdeal : Prop :=
  True

def algebraic_AdamM2BiasIdeal_RefAdamM2BiasIdeal [hAdamM2BiasIdeal : Cert.AdamM2BiasIdeal.Facts] [hRefAdamM2BiasIdeal : Cert.RefAdamM2BiasIdeal.Facts] : Prop :=
  ∀ (m : (ℓ : Loc Cert.AdamM2BiasIdeal.nD Cert.AdamM2BiasIdeal.τ Cert.AdamM2BiasIdeal.sig) → Buf (Elt Ideal) ℓ) (g : Dev Cert.AdamM2BiasIdeal.nD → PrngReg)
    (m' : (ℓ : Loc Cert.RefAdamM2BiasIdeal.nD Cert.RefAdamM2BiasIdeal.τ Cert.RefAdamM2BiasIdeal.sig) → Buf (Elt Ideal) ℓ) (g' : Dev Cert.RefAdamM2BiasIdeal.nD → PrngReg), Pre_AdamM2BiasIdeal m →
    (∀ c : Dev Cert.AdamM2BiasIdeal.nD,
      m' ((c.tc : Thread Cert.RefAdamM2BiasIdeal.nD Cert.RefAdamM2BiasIdeal.τ).loc Cert.RefAdamM2BiasIdeal.main_arg0) = m ((c.tc : Thread Cert.AdamM2BiasIdeal.nD Cert.AdamM2BiasIdeal.τ).loc Cert.AdamM2BiasIdeal.main_arg0)
      ∧ m' ((c.tc : Thread Cert.RefAdamM2BiasIdeal.nD Cert.RefAdamM2BiasIdeal.τ).loc Cert.RefAdamM2BiasIdeal.main_arg1) = m ((c.tc : Thread Cert.AdamM2BiasIdeal.nD Cert.AdamM2BiasIdeal.τ).loc Cert.AdamM2BiasIdeal.main_arg1)
      ∧ m' ((c.tc : Thread Cert.RefAdamM2BiasIdeal.nD Cert.RefAdamM2BiasIdeal.τ).loc Cert.RefAdamM2BiasIdeal.main_arg2) = m ((c.tc : Thread Cert.AdamM2BiasIdeal.nD Cert.AdamM2BiasIdeal.τ).loc Cert.AdamM2BiasIdeal.main_arg2)
      ∧ m' ((c.tc : Thread Cert.RefAdamM2BiasIdeal.nD Cert.RefAdamM2BiasIdeal.τ).loc Cert.RefAdamM2BiasIdeal.main_arg3) = m ((c.tc : Thread Cert.AdamM2BiasIdeal.nD Cert.AdamM2BiasIdeal.τ).loc Cert.AdamM2BiasIdeal.main_arg3)) →
    ∃ (v0 : (c : Dev Cert.AdamM2BiasIdeal.nD) → Buf (Elt Ideal) ((c.tc : Thread Cert.AdamM2BiasIdeal.nD Cert.AdamM2BiasIdeal.τ).loc Cert.AdamM2BiasIdeal.main_v0_0)) (v1 : (c : Dev Cert.AdamM2BiasIdeal.nD) → Buf (Elt Ideal) ((c.tc : Thread Cert.AdamM2BiasIdeal.nD Cert.AdamM2BiasIdeal.τ).loc Cert.AdamM2BiasIdeal.main_v0_1)) (v2 : (c : Dev Cert.AdamM2BiasIdeal.nD) → Buf (Elt Ideal) ((c.tc : Thread Cert.AdamM2BiasIdeal.nD Cert.AdamM2BiasIdeal.τ).loc Cert.AdamM2BiasIdeal.main_v0_2)),
      θ_run (Cert.AdamM2BiasIdeal.defs (F := Ideal)) (onTc (τ := Cert.AdamM2BiasIdeal.τ) (Cert.AdamM2BiasIdeal.main (F := Ideal))) ⟨m, fun _ => 0, g⟩ (fun r => ∀ c : Dev Cert.AdamM2BiasIdeal.nD,
          r.2.mem ((c.tc : Thread Cert.AdamM2BiasIdeal.nD Cert.AdamM2BiasIdeal.τ).loc Cert.AdamM2BiasIdeal.main_v0_0) = v0 c
          ∧ r.2.mem ((c.tc : Thread Cert.AdamM2BiasIdeal.nD Cert.AdamM2BiasIdeal.τ).loc Cert.AdamM2BiasIdeal.main_v0_1) = v1 c
          ∧ r.2.mem ((c.tc : Thread Cert.AdamM2BiasIdeal.nD Cert.AdamM2BiasIdeal.τ).loc Cert.AdamM2BiasIdeal.main_v0_2) = v2 c
          ∧ r.2.mem ((c.tc : Thread Cert.AdamM2BiasIdeal.nD Cert.AdamM2BiasIdeal.τ).loc Cert.AdamM2BiasIdeal.main_arg0) = m ((c.tc : Thread Cert.AdamM2BiasIdeal.nD Cert.AdamM2BiasIdeal.τ).loc Cert.AdamM2BiasIdeal.main_arg0)
          ∧ r.2.mem ((c.tc : Thread Cert.AdamM2BiasIdeal.nD Cert.AdamM2BiasIdeal.τ).loc Cert.AdamM2BiasIdeal.main_arg1) = m ((c.tc : Thread Cert.AdamM2BiasIdeal.nD Cert.AdamM2BiasIdeal.τ).loc Cert.AdamM2BiasIdeal.main_arg1)
          ∧ r.2.mem ((c.tc : Thread Cert.AdamM2BiasIdeal.nD Cert.AdamM2BiasIdeal.τ).loc Cert.AdamM2BiasIdeal.main_arg2) = m ((c.tc : Thread Cert.AdamM2BiasIdeal.nD Cert.AdamM2BiasIdeal.τ).loc Cert.AdamM2BiasIdeal.main_arg2)
          ∧ r.2.mem ((c.tc : Thread Cert.AdamM2BiasIdeal.nD Cert.AdamM2BiasIdeal.τ).loc Cert.AdamM2BiasIdeal.main_arg3) = m ((c.tc : Thread Cert.AdamM2BiasIdeal.nD Cert.AdamM2BiasIdeal.τ).loc Cert.AdamM2BiasIdeal.main_arg3))
      ∧ θ_run (Cert.RefAdamM2BiasIdeal.defs (F := Ideal)) (onTc (τ := Cert.RefAdamM2BiasIdeal.τ) (Cert.RefAdamM2BiasIdeal.main (F := Ideal))) ⟨m', fun _ => 0, g'⟩ (fun r => ∀ c : Dev Cert.RefAdamM2BiasIdeal.nD,
          r.2.mem ((c.tc : Thread Cert.RefAdamM2BiasIdeal.nD Cert.RefAdamM2BiasIdeal.τ).loc Cert.RefAdamM2BiasIdeal.main_v23) = v0 c
          ∧ r.2.mem ((c.tc : Thread Cert.RefAdamM2BiasIdeal.nD Cert.RefAdamM2BiasIdeal.τ).loc Cert.RefAdamM2BiasIdeal.main_v4) = v1 c
          ∧ r.2.mem ((c.tc : Thread Cert.RefAdamM2BiasIdeal.nD Cert.RefAdamM2BiasIdeal.τ).loc Cert.RefAdamM2BiasIdeal.main_v10) = v2 c
          ∧ r.2.mem ((c.tc : Thread Cert.RefAdamM2BiasIdeal.nD Cert.RefAdamM2BiasIdeal.τ).loc Cert.RefAdamM2BiasIdeal.main_arg0) = m' ((c.tc : Thread Cert.RefAdamM2BiasIdeal.nD Cert.RefAdamM2BiasIdeal.τ).loc Cert.RefAdamM2BiasIdeal.main_arg0)
          ∧ r.2.mem ((c.tc : Thread Cert.RefAdamM2BiasIdeal.nD Cert.RefAdamM2BiasIdeal.τ).loc Cert.RefAdamM2BiasIdeal.main_arg1) = m' ((c.tc : Thread Cert.RefAdamM2BiasIdeal.nD Cert.RefAdamM2BiasIdeal.τ).loc Cert.RefAdamM2BiasIdeal.main_arg1)
          ∧ r.2.mem ((c.tc : Thread Cert.RefAdamM2BiasIdeal.nD Cert.RefAdamM2BiasIdeal.τ).loc Cert.RefAdamM2BiasIdeal.main_arg2) = m' ((c.tc : Thread Cert.RefAdamM2BiasIdeal.nD Cert.RefAdamM2BiasIdeal.τ).loc Cert.RefAdamM2BiasIdeal.main_arg2)
          ∧ r.2.mem ((c.tc : Thread Cert.RefAdamM2BiasIdeal.nD Cert.RefAdamM2BiasIdeal.τ).loc Cert.RefAdamM2BiasIdeal.main_arg3) = m' ((c.tc : Thread Cert.RefAdamM2BiasIdeal.nD Cert.RefAdamM2BiasIdeal.τ).loc Cert.RefAdamM2BiasIdeal.main_arg3))

def preserves_AdamM2Norm_AdamM2NormIdeal : Prop :=
  True

def algebraic_AdamM2NormIdeal_RefAdamM2NormIdeal [hAdamM2NormIdeal : Cert.AdamM2NormIdeal.Facts] [hRefAdamM2NormIdeal : Cert.RefAdamM2NormIdeal.Facts] : Prop :=
  ∀ (m : (ℓ : Loc Cert.AdamM2NormIdeal.nD Cert.AdamM2NormIdeal.τ Cert.AdamM2NormIdeal.sig) → Buf (Elt Ideal) ℓ) (g : Dev Cert.AdamM2NormIdeal.nD → PrngReg)
    (m' : (ℓ : Loc Cert.RefAdamM2NormIdeal.nD Cert.RefAdamM2NormIdeal.τ Cert.RefAdamM2NormIdeal.sig) → Buf (Elt Ideal) ℓ) (g' : Dev Cert.RefAdamM2NormIdeal.nD → PrngReg), Pre_AdamM2NormIdeal m →
    (∀ c : Dev Cert.AdamM2NormIdeal.nD,
      m' ((c.tc : Thread Cert.RefAdamM2NormIdeal.nD Cert.RefAdamM2NormIdeal.τ).loc Cert.RefAdamM2NormIdeal.main_arg0) = m ((c.tc : Thread Cert.AdamM2NormIdeal.nD Cert.AdamM2NormIdeal.τ).loc Cert.AdamM2NormIdeal.main_arg0)
      ∧ m' ((c.tc : Thread Cert.RefAdamM2NormIdeal.nD Cert.RefAdamM2NormIdeal.τ).loc Cert.RefAdamM2NormIdeal.main_arg1) = m ((c.tc : Thread Cert.AdamM2NormIdeal.nD Cert.AdamM2NormIdeal.τ).loc Cert.AdamM2NormIdeal.main_arg1)
      ∧ m' ((c.tc : Thread Cert.RefAdamM2NormIdeal.nD Cert.RefAdamM2NormIdeal.τ).loc Cert.RefAdamM2NormIdeal.main_arg2) = m ((c.tc : Thread Cert.AdamM2NormIdeal.nD Cert.AdamM2NormIdeal.τ).loc Cert.AdamM2NormIdeal.main_arg2)
      ∧ m' ((c.tc : Thread Cert.RefAdamM2NormIdeal.nD Cert.RefAdamM2NormIdeal.τ).loc Cert.RefAdamM2NormIdeal.main_arg3) = m ((c.tc : Thread Cert.AdamM2NormIdeal.nD Cert.AdamM2NormIdeal.τ).loc Cert.AdamM2NormIdeal.main_arg3)) →
    ∃ (v0 : (c : Dev Cert.AdamM2NormIdeal.nD) → Buf (Elt Ideal) ((c.tc : Thread Cert.AdamM2NormIdeal.nD Cert.AdamM2NormIdeal.τ).loc Cert.AdamM2NormIdeal.main_v0_0)) (v1 : (c : Dev Cert.AdamM2NormIdeal.nD) → Buf (Elt Ideal) ((c.tc : Thread Cert.AdamM2NormIdeal.nD Cert.AdamM2NormIdeal.τ).loc Cert.AdamM2NormIdeal.main_v0_1)) (v2 : (c : Dev Cert.AdamM2NormIdeal.nD) → Buf (Elt Ideal) ((c.tc : Thread Cert.AdamM2NormIdeal.nD Cert.AdamM2NormIdeal.τ).loc Cert.AdamM2NormIdeal.main_v0_2)),
      θ_run (Cert.AdamM2NormIdeal.defs (F := Ideal)) (onTc (τ := Cert.AdamM2NormIdeal.τ) (Cert.AdamM2NormIdeal.main (F := Ideal))) ⟨m, fun _ => 0, g⟩ (fun r => ∀ c : Dev Cert.AdamM2NormIdeal.nD,
          r.2.mem ((c.tc : Thread Cert.AdamM2NormIdeal.nD Cert.AdamM2NormIdeal.τ).loc Cert.AdamM2NormIdeal.main_v0_0) = v0 c
          ∧ r.2.mem ((c.tc : Thread Cert.AdamM2NormIdeal.nD Cert.AdamM2NormIdeal.τ).loc Cert.AdamM2NormIdeal.main_v0_1) = v1 c
          ∧ r.2.mem ((c.tc : Thread Cert.AdamM2NormIdeal.nD Cert.AdamM2NormIdeal.τ).loc Cert.AdamM2NormIdeal.main_v0_2) = v2 c
          ∧ r.2.mem ((c.tc : Thread Cert.AdamM2NormIdeal.nD Cert.AdamM2NormIdeal.τ).loc Cert.AdamM2NormIdeal.main_arg0) = m ((c.tc : Thread Cert.AdamM2NormIdeal.nD Cert.AdamM2NormIdeal.τ).loc Cert.AdamM2NormIdeal.main_arg0)
          ∧ r.2.mem ((c.tc : Thread Cert.AdamM2NormIdeal.nD Cert.AdamM2NormIdeal.τ).loc Cert.AdamM2NormIdeal.main_arg1) = m ((c.tc : Thread Cert.AdamM2NormIdeal.nD Cert.AdamM2NormIdeal.τ).loc Cert.AdamM2NormIdeal.main_arg1)
          ∧ r.2.mem ((c.tc : Thread Cert.AdamM2NormIdeal.nD Cert.AdamM2NormIdeal.τ).loc Cert.AdamM2NormIdeal.main_arg2) = m ((c.tc : Thread Cert.AdamM2NormIdeal.nD Cert.AdamM2NormIdeal.τ).loc Cert.AdamM2NormIdeal.main_arg2)
          ∧ r.2.mem ((c.tc : Thread Cert.AdamM2NormIdeal.nD Cert.AdamM2NormIdeal.τ).loc Cert.AdamM2NormIdeal.main_arg3) = m ((c.tc : Thread Cert.AdamM2NormIdeal.nD Cert.AdamM2NormIdeal.τ).loc Cert.AdamM2NormIdeal.main_arg3))
      ∧ θ_run (Cert.RefAdamM2NormIdeal.defs (F := Ideal)) (onTc (τ := Cert.RefAdamM2NormIdeal.τ) (Cert.RefAdamM2NormIdeal.main (F := Ideal))) ⟨m', fun _ => 0, g'⟩ (fun r => ∀ c : Dev Cert.RefAdamM2NormIdeal.nD,
          r.2.mem ((c.tc : Thread Cert.RefAdamM2NormIdeal.nD Cert.RefAdamM2NormIdeal.τ).loc Cert.RefAdamM2NormIdeal.main_v23) = v0 c
          ∧ r.2.mem ((c.tc : Thread Cert.RefAdamM2NormIdeal.nD Cert.RefAdamM2NormIdeal.τ).loc Cert.RefAdamM2NormIdeal.main_v4) = v1 c
          ∧ r.2.mem ((c.tc : Thread Cert.RefAdamM2NormIdeal.nD Cert.RefAdamM2NormIdeal.τ).loc Cert.RefAdamM2NormIdeal.main_v10) = v2 c
          ∧ r.2.mem ((c.tc : Thread Cert.RefAdamM2NormIdeal.nD Cert.RefAdamM2NormIdeal.τ).loc Cert.RefAdamM2NormIdeal.main_arg0) = m' ((c.tc : Thread Cert.RefAdamM2NormIdeal.nD Cert.RefAdamM2NormIdeal.τ).loc Cert.RefAdamM2NormIdeal.main_arg0)
          ∧ r.2.mem ((c.tc : Thread Cert.RefAdamM2NormIdeal.nD Cert.RefAdamM2NormIdeal.τ).loc Cert.RefAdamM2NormIdeal.main_arg1) = m' ((c.tc : Thread Cert.RefAdamM2NormIdeal.nD Cert.RefAdamM2NormIdeal.τ).loc Cert.RefAdamM2NormIdeal.main_arg1)
          ∧ r.2.mem ((c.tc : Thread Cert.RefAdamM2NormIdeal.nD Cert.RefAdamM2NormIdeal.τ).loc Cert.RefAdamM2NormIdeal.main_arg2) = m' ((c.tc : Thread Cert.RefAdamM2NormIdeal.nD Cert.RefAdamM2NormIdeal.τ).loc Cert.RefAdamM2NormIdeal.main_arg2)
          ∧ r.2.mem ((c.tc : Thread Cert.RefAdamM2NormIdeal.nD Cert.RefAdamM2NormIdeal.τ).loc Cert.RefAdamM2NormIdeal.main_arg3) = m' ((c.tc : Thread Cert.RefAdamM2NormIdeal.nD Cert.RefAdamM2NormIdeal.τ).loc Cert.RefAdamM2NormIdeal.main_arg3))

def preserves_AdamRepl_AdamReplIdeal : Prop :=
  True

def algebraic_AdamReplIdeal_RefAdamReplIdeal [hAdamReplIdeal : Cert.AdamReplIdeal.Facts] [hRefAdamReplIdeal : Cert.RefAdamReplIdeal.Facts] : Prop :=
  ∀ (m : (ℓ : Loc Cert.AdamReplIdeal.nD Cert.AdamReplIdeal.τ Cert.AdamReplIdeal.sig) → Buf (Elt Ideal) ℓ) (g : Dev Cert.AdamReplIdeal.nD → PrngReg)
    (m' : (ℓ : Loc Cert.RefAdamReplIdeal.nD Cert.RefAdamReplIdeal.τ Cert.RefAdamReplIdeal.sig) → Buf (Elt Ideal) ℓ) (g' : Dev Cert.RefAdamReplIdeal.nD → PrngReg), Pre_AdamReplIdeal m →
    (∀ c : Dev Cert.AdamReplIdeal.nD,
      m' ((c.tc : Thread Cert.RefAdamReplIdeal.nD Cert.RefAdamReplIdeal.τ).loc Cert.RefAdamReplIdeal.main_arg0) = m ((c.tc : Thread Cert.AdamReplIdeal.nD Cert.AdamReplIdeal.τ).loc Cert.AdamReplIdeal.main_arg0)
      ∧ m' ((c.tc : Thread Cert.RefAdamReplIdeal.nD Cert.RefAdamReplIdeal.τ).loc Cert.RefAdamReplIdeal.main_arg1) = m ((c.tc : Thread Cert.AdamReplIdeal.nD Cert.AdamReplIdeal.τ).loc Cert.AdamReplIdeal.main_arg1)
      ∧ m' ((c.tc : Thread Cert.RefAdamReplIdeal.nD Cert.RefAdamReplIdeal.τ).loc Cert.RefAdamReplIdeal.main_arg2) = m ((c.tc : Thread Cert.AdamReplIdeal.nD Cert.AdamReplIdeal.τ).loc Cert.AdamReplIdeal.main_arg2)
      ∧ m' ((c.tc : Thread Cert.RefAdamReplIdeal.nD Cert.RefAdamReplIdeal.τ).loc Cert.RefAdamReplIdeal.main_arg3) = m ((c.tc : Thread Cert.AdamReplIdeal.nD Cert.AdamReplIdeal.τ).loc Cert.AdamReplIdeal.main_arg3)
      ∧ m' ((c.tc : Thread Cert.RefAdamReplIdeal.nD Cert.RefAdamReplIdeal.τ).loc Cert.RefAdamReplIdeal.main_arg4) = m ((c.tc : Thread Cert.AdamReplIdeal.nD Cert.AdamReplIdeal.τ).loc Cert.AdamReplIdeal.main_arg4)) →
    ∃ (v0 : (c : Dev Cert.AdamReplIdeal.nD) → Buf (Elt Ideal) ((c.tc : Thread Cert.AdamReplIdeal.nD Cert.AdamReplIdeal.τ).loc Cert.AdamReplIdeal.main_v0_0)) (v1 : (c : Dev Cert.AdamReplIdeal.nD) → Buf (Elt Ideal) ((c.tc : Thread Cert.AdamReplIdeal.nD Cert.AdamReplIdeal.τ).loc Cert.AdamReplIdeal.main_v0_1)) (v2 : (c : Dev Cert.AdamReplIdeal.nD) → Buf (Elt Ideal) ((c.tc : Thread Cert.AdamReplIdeal.nD Cert.AdamReplIdeal.τ).loc Cert.AdamReplIdeal.main_v0_2)) (v3 : (c : Dev Cert.AdamReplIdeal.nD) → Buf (Elt Ideal) ((c.tc : Thread Cert.AdamReplIdeal.nD Cert.AdamReplIdeal.τ).loc Cert.AdamReplIdeal.main_v0_3)),
      θ_run (Cert.AdamReplIdeal.defs (F := Ideal)) (onTc (τ := Cert.AdamReplIdeal.τ) (Cert.AdamReplIdeal.main (F := Ideal))) ⟨m, fun _ => 0, g⟩ (fun r => ∀ c : Dev Cert.AdamReplIdeal.nD,
          r.2.mem ((c.tc : Thread Cert.AdamReplIdeal.nD Cert.AdamReplIdeal.τ).loc Cert.AdamReplIdeal.main_v0_0) = v0 c
          ∧ r.2.mem ((c.tc : Thread Cert.AdamReplIdeal.nD Cert.AdamReplIdeal.τ).loc Cert.AdamReplIdeal.main_v0_1) = v1 c
          ∧ r.2.mem ((c.tc : Thread Cert.AdamReplIdeal.nD Cert.AdamReplIdeal.τ).loc Cert.AdamReplIdeal.main_v0_2) = v2 c
          ∧ r.2.mem ((c.tc : Thread Cert.AdamReplIdeal.nD Cert.AdamReplIdeal.τ).loc Cert.AdamReplIdeal.main_v0_3) = v3 c
          ∧ r.2.mem ((c.tc : Thread Cert.AdamReplIdeal.nD Cert.AdamReplIdeal.τ).loc Cert.AdamReplIdeal.main_arg0) = m ((c.tc : Thread Cert.AdamReplIdeal.nD Cert.AdamReplIdeal.τ).loc Cert.AdamReplIdeal.main_arg0)
          ∧ r.2.mem ((c.tc : Thread Cert.AdamReplIdeal.nD Cert.AdamReplIdeal.τ).loc Cert.AdamReplIdeal.main_arg1) = m ((c.tc : Thread Cert.AdamReplIdeal.nD Cert.AdamReplIdeal.τ).loc Cert.AdamReplIdeal.main_arg1)
          ∧ r.2.mem ((c.tc : Thread Cert.AdamReplIdeal.nD Cert.AdamReplIdeal.τ).loc Cert.AdamReplIdeal.main_arg2) = m ((c.tc : Thread Cert.AdamReplIdeal.nD Cert.AdamReplIdeal.τ).loc Cert.AdamReplIdeal.main_arg2)
          ∧ r.2.mem ((c.tc : Thread Cert.AdamReplIdeal.nD Cert.AdamReplIdeal.τ).loc Cert.AdamReplIdeal.main_arg3) = m ((c.tc : Thread Cert.AdamReplIdeal.nD Cert.AdamReplIdeal.τ).loc Cert.AdamReplIdeal.main_arg3)
          ∧ r.2.mem ((c.tc : Thread Cert.AdamReplIdeal.nD Cert.AdamReplIdeal.τ).loc Cert.AdamReplIdeal.main_arg4) = m ((c.tc : Thread Cert.AdamReplIdeal.nD Cert.AdamReplIdeal.τ).loc Cert.AdamReplIdeal.main_arg4))
      ∧ θ_run (Cert.RefAdamReplIdeal.defs (F := Ideal)) (onTc (τ := Cert.RefAdamReplIdeal.τ) (Cert.RefAdamReplIdeal.main (F := Ideal))) ⟨m', fun _ => 0, g'⟩ (fun r => ∀ c : Dev Cert.RefAdamReplIdeal.nD,
          r.2.mem ((c.tc : Thread Cert.RefAdamReplIdeal.nD Cert.RefAdamReplIdeal.τ).loc Cert.RefAdamReplIdeal.main_v0) = v0 c
          ∧ r.2.mem ((c.tc : Thread Cert.RefAdamReplIdeal.nD Cert.RefAdamReplIdeal.τ).loc Cert.RefAdamReplIdeal.main_v24) = v1 c
          ∧ r.2.mem ((c.tc : Thread Cert.RefAdamReplIdeal.nD Cert.RefAdamReplIdeal.τ).loc Cert.RefAdamReplIdeal.main_v5) = v2 c
          ∧ r.2.mem ((c.tc : Thread Cert.RefAdamReplIdeal.nD Cert.RefAdamReplIdeal.τ).loc Cert.RefAdamReplIdeal.main_v11) = v3 c
          ∧ r.2.mem ((c.tc : Thread Cert.RefAdamReplIdeal.nD Cert.RefAdamReplIdeal.τ).loc Cert.RefAdamReplIdeal.main_arg0) = m' ((c.tc : Thread Cert.RefAdamReplIdeal.nD Cert.RefAdamReplIdeal.τ).loc Cert.RefAdamReplIdeal.main_arg0)
          ∧ r.2.mem ((c.tc : Thread Cert.RefAdamReplIdeal.nD Cert.RefAdamReplIdeal.τ).loc Cert.RefAdamReplIdeal.main_arg1) = m' ((c.tc : Thread Cert.RefAdamReplIdeal.nD Cert.RefAdamReplIdeal.τ).loc Cert.RefAdamReplIdeal.main_arg1)
          ∧ r.2.mem ((c.tc : Thread Cert.RefAdamReplIdeal.nD Cert.RefAdamReplIdeal.τ).loc Cert.RefAdamReplIdeal.main_arg2) = m' ((c.tc : Thread Cert.RefAdamReplIdeal.nD Cert.RefAdamReplIdeal.τ).loc Cert.RefAdamReplIdeal.main_arg2)
          ∧ r.2.mem ((c.tc : Thread Cert.RefAdamReplIdeal.nD Cert.RefAdamReplIdeal.τ).loc Cert.RefAdamReplIdeal.main_arg3) = m' ((c.tc : Thread Cert.RefAdamReplIdeal.nD Cert.RefAdamReplIdeal.τ).loc Cert.RefAdamReplIdeal.main_arg3)
          ∧ r.2.mem ((c.tc : Thread Cert.RefAdamReplIdeal.nD Cert.RefAdamReplIdeal.τ).loc Cert.RefAdamReplIdeal.main_arg4) = m' ((c.tc : Thread Cert.RefAdamReplIdeal.nD Cert.RefAdamReplIdeal.τ).loc Cert.RefAdamReplIdeal.main_arg4))

def preserves_RmsBwd_RmsBwdIdeal : Prop :=
  True

def algebraic_RmsBwdIdeal_RefRmsBwdIdeal [hRmsBwdIdeal : Cert.RmsBwdIdeal.Facts] [hRefRmsBwdIdeal : Cert.RefRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RefRmsBwdIdeal.nD Cert.RefRmsBwdIdeal.τ Cert.RefRmsBwdIdeal.sig) → Buf (Elt Ideal) ℓ) (g' : Dev Cert.RefRmsBwdIdeal.nD → PrngReg), Pre_RmsBwdIdeal m →
    (∀ c : Dev Cert.RmsBwdIdeal.nD,
      m' ((c.tc : Thread Cert.RefRmsBwdIdeal.nD Cert.RefRmsBwdIdeal.τ).loc Cert.RefRmsBwdIdeal.main_arg0) = m ((c.tc : Thread Cert.RmsBwdIdeal.nD Cert.RmsBwdIdeal.τ).loc Cert.RmsBwdIdeal.main_arg0)
      ∧ m' ((c.tc : Thread Cert.RefRmsBwdIdeal.nD Cert.RefRmsBwdIdeal.τ).loc Cert.RefRmsBwdIdeal.main_arg1) = m ((c.tc : Thread Cert.RmsBwdIdeal.nD Cert.RmsBwdIdeal.τ).loc Cert.RmsBwdIdeal.main_arg1)
      ∧ m' ((c.tc : Thread Cert.RefRmsBwdIdeal.nD Cert.RefRmsBwdIdeal.τ).loc Cert.RefRmsBwdIdeal.main_arg2) = m ((c.tc : Thread Cert.RmsBwdIdeal.nD Cert.RmsBwdIdeal.τ).loc Cert.RmsBwdIdeal.main_arg2)
      ∧ m' ((c.tc : Thread Cert.RefRmsBwdIdeal.nD Cert.RefRmsBwdIdeal.τ).loc Cert.RefRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RefRmsBwdIdeal.defs (F := Ideal)) (onTc (τ := Cert.RefRmsBwdIdeal.τ) (Cert.RefRmsBwdIdeal.main (F := Ideal))) ⟨m', fun _ => 0, g'⟩ (fun r => ∀ c : Dev Cert.RefRmsBwdIdeal.nD,
          r.2.mem ((c.tc : Thread Cert.RefRmsBwdIdeal.nD Cert.RefRmsBwdIdeal.τ).loc Cert.RefRmsBwdIdeal.main_v34) = v0 c
          ∧ r.2.mem ((c.tc : Thread Cert.RefRmsBwdIdeal.nD Cert.RefRmsBwdIdeal.τ).loc Cert.RefRmsBwdIdeal.main_v36) = v1 c
          ∧ r.2.mem ((c.tc : Thread Cert.RefRmsBwdIdeal.nD Cert.RefRmsBwdIdeal.τ).loc Cert.RefRmsBwdIdeal.main_v17) = v2 c
          ∧ r.2.mem ((c.tc : Thread Cert.RefRmsBwdIdeal.nD Cert.RefRmsBwdIdeal.τ).loc Cert.RefRmsBwdIdeal.main_arg0) = m' ((c.tc : Thread Cert.RefRmsBwdIdeal.nD Cert.RefRmsBwdIdeal.τ).loc Cert.RefRmsBwdIdeal.main_arg0)
          ∧ r.2.mem ((c.tc : Thread Cert.RefRmsBwdIdeal.nD Cert.RefRmsBwdIdeal.τ).loc Cert.RefRmsBwdIdeal.main_arg1) = m' ((c.tc : Thread Cert.RefRmsBwdIdeal.nD Cert.RefRmsBwdIdeal.τ).loc Cert.RefRmsBwdIdeal.main_arg1)
          ∧ r.2.mem ((c.tc : Thread Cert.RefRmsBwdIdeal.nD Cert.RefRmsBwdIdeal.τ).loc Cert.RefRmsBwdIdeal.main_arg2) = m' ((c.tc : Thread Cert.RefRmsBwdIdeal.nD Cert.RefRmsBwdIdeal.τ).loc Cert.RefRmsBwdIdeal.main_arg2)
          ∧ r.2.mem ((c.tc : Thread Cert.RefRmsBwdIdeal.nD Cert.RefRmsBwdIdeal.τ).loc Cert.RefRmsBwdIdeal.main_arg3) = m' ((c.tc : Thread Cert.RefRmsBwdIdeal.nD Cert.RefRmsBwdIdeal.τ).loc Cert.RefRmsBwdIdeal.main_arg3))

def preserves_BiasIn_BiasInIdeal : Prop :=
  True

def algebraic_BiasInIdeal_RefBiasInIdeal [hBiasInIdeal : Cert.BiasInIdeal.Facts] [hRefBiasInIdeal : Cert.RefBiasInIdeal.Facts] : Prop :=
  ∀ (m : (ℓ : Loc Cert.BiasInIdeal.nD Cert.BiasInIdeal.τ Cert.BiasInIdeal.sig) → Buf (Elt Ideal) ℓ) (g : Dev Cert.BiasInIdeal.nD → PrngReg)
    (m' : (ℓ : Loc Cert.RefBiasInIdeal.nD Cert.RefBiasInIdeal.τ Cert.RefBiasInIdeal.sig) → Buf (Elt Ideal) ℓ) (g' : Dev Cert.RefBiasInIdeal.nD → PrngReg), Pre_BiasInIdeal m →
    (∀ c : Dev Cert.BiasInIdeal.nD,
      m' ((c.tc : Thread Cert.RefBiasInIdeal.nD Cert.RefBiasInIdeal.τ).loc Cert.RefBiasInIdeal.main_arg0) = m ((c.tc : Thread Cert.BiasInIdeal.nD Cert.BiasInIdeal.τ).loc Cert.BiasInIdeal.main_arg0)) →
    ∃ (v0 : (c : Dev Cert.BiasInIdeal.nD) → Buf (Elt Ideal) ((c.tc : Thread Cert.BiasInIdeal.nD Cert.BiasInIdeal.τ).loc Cert.BiasInIdeal.main_v0)),
      θ_run (Cert.BiasInIdeal.defs (F := Ideal)) (onTc (τ := Cert.BiasInIdeal.τ) (Cert.BiasInIdeal.main (F := Ideal))) ⟨m, fun _ => 0, g⟩ (fun r => ∀ c : Dev Cert.BiasInIdeal.nD,
          r.2.mem ((c.tc : Thread Cert.BiasInIdeal.nD Cert.BiasInIdeal.τ).loc Cert.BiasInIdeal.main_v0) = v0 c
          ∧ r.2.mem ((c.tc : Thread Cert.BiasInIdeal.nD Cert.BiasInIdeal.τ).loc Cert.BiasInIdeal.main_arg0) = m ((c.tc : Thread Cert.BiasInIdeal.nD Cert.BiasInIdeal.τ).loc Cert.BiasInIdeal.main_arg0))
      ∧ θ_run (Cert.RefBiasInIdeal.defs (F := Ideal)) (onTc (τ := Cert.RefBiasInIdeal.τ) (Cert.RefBiasInIdeal.main (F := Ideal))) ⟨m', fun _ => 0, g'⟩ (fun r => ∀ c : Dev Cert.RefBiasInIdeal.nD,
          r.2.mem ((c.tc : Thread Cert.RefBiasInIdeal.nD Cert.RefBiasInIdeal.τ).loc Cert.RefBiasInIdeal.main_v3) = v0 c
          ∧ r.2.mem ((c.tc : Thread Cert.RefBiasInIdeal.nD Cert.RefBiasInIdeal.τ).loc Cert.RefBiasInIdeal.main_arg0) = m' ((c.tc : Thread Cert.RefBiasInIdeal.nD Cert.RefBiasInIdeal.τ).loc Cert.RefBiasInIdeal.main_arg0))

def preserves_BiasOut_BiasOutIdeal : Prop :=
  True

def algebraic_BiasOutIdeal_RefBiasOutIdeal [hBiasOutIdeal : Cert.BiasOutIdeal.Facts] [hRefBiasOutIdeal : Cert.RefBiasOutIdeal.Facts] : Prop :=
  ∀ (m : (ℓ : Loc Cert.BiasOutIdeal.nD Cert.BiasOutIdeal.τ Cert.BiasOutIdeal.sig) → Buf (Elt Ideal) ℓ) (g : Dev Cert.BiasOutIdeal.nD → PrngReg)
    (m' : (ℓ : Loc Cert.RefBiasOutIdeal.nD Cert.RefBiasOutIdeal.τ Cert.RefBiasOutIdeal.sig) → Buf (Elt Ideal) ℓ) (g' : Dev Cert.RefBiasOutIdeal.nD → PrngReg), Pre_BiasOutIdeal m →
    (∀ c : Dev Cert.BiasOutIdeal.nD,
      m' ((c.tc : Thread Cert.RefBiasOutIdeal.nD Cert.RefBiasOutIdeal.τ).loc Cert.RefBiasOutIdeal.main_arg0) = m ((c.tc : Thread Cert.BiasOutIdeal.nD Cert.BiasOutIdeal.τ).loc Cert.BiasOutIdeal.main_arg0)) →
    ∃ (v0 : (c : Dev Cert.BiasOutIdeal.nD) → Buf (Elt Ideal) ((c.tc : Thread Cert.BiasOutIdeal.nD Cert.BiasOutIdeal.τ).loc Cert.BiasOutIdeal.main_v0)),
      θ_run (Cert.BiasOutIdeal.defs (F := Ideal)) (onTc (τ := Cert.BiasOutIdeal.τ) (Cert.BiasOutIdeal.main (F := Ideal))) ⟨m, fun _ => 0, g⟩ (fun r => ∀ c : Dev Cert.BiasOutIdeal.nD,
          r.2.mem ((c.tc : Thread Cert.BiasOutIdeal.nD Cert.BiasOutIdeal.τ).loc Cert.BiasOutIdeal.main_v0) = v0 c
          ∧ r.2.mem ((c.tc : Thread Cert.BiasOutIdeal.nD Cert.BiasOutIdeal.τ).loc Cert.BiasOutIdeal.main_arg0) = m ((c.tc : Thread Cert.BiasOutIdeal.nD Cert.BiasOutIdeal.τ).loc Cert.BiasOutIdeal.main_arg0))
      ∧ θ_run (Cert.RefBiasOutIdeal.defs (F := Ideal)) (onTc (τ := Cert.RefBiasOutIdeal.τ) (Cert.RefBiasOutIdeal.main (F := Ideal))) ⟨m', fun _ => 0, g'⟩ (fun r => ∀ c : Dev Cert.RefBiasOutIdeal.nD,
          r.2.mem ((c.tc : Thread Cert.RefBiasOutIdeal.nD Cert.RefBiasOutIdeal.τ).loc Cert.RefBiasOutIdeal.main_v3) = v0 c
          ∧ r.2.mem ((c.tc : Thread Cert.RefBiasOutIdeal.nD Cert.RefBiasOutIdeal.τ).loc Cert.RefBiasOutIdeal.main_arg0) = m' ((c.tc : Thread Cert.RefBiasOutIdeal.nD Cert.RefBiasOutIdeal.τ).loc Cert.RefBiasOutIdeal.main_arg0))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hRefDwDownIdeal : Cert.RefDwDownIdeal.Facts) (hDwUp : Cert.DwUp.Facts) (hDwUpIdeal : Cert.DwUpIdeal.Facts) (hRefDwUpIdeal : Cert.RefDwUpIdeal.Facts) (hDwQkv : Cert.DwQkv.Facts) (hDwQkvIdeal : Cert.DwQkvIdeal.Facts) (hRefDwQkvIdeal : Cert.RefDwQkvIdeal.Facts) (hDwO : Cert.DwO.Facts) (hDwOIdeal : Cert.DwOIdeal.Facts) (hRefDwOIdeal : Cert.RefDwOIdeal.Facts) (hDwIn : Cert.DwIn.Facts) (hDwInIdeal : Cert.DwInIdeal.Facts) (hRefDwInIdeal : Cert.RefDwInIdeal.Facts) (hDwOut : Cert.DwOut.Facts) (hDwOutIdeal : Cert.DwOutIdeal.Facts) (hRefDwOutIdeal : Cert.RefDwOutIdeal.Facts) (hDwZ : Cert.DwZ.Facts) (hDwZIdeal : Cert.DwZIdeal.Facts) (hRefDwZIdeal : Cert.RefDwZIdeal.Facts) (hDwXbc : Cert.DwXbc.Facts) (hDwXbcIdeal : Cert.DwXbcIdeal.Facts) (hRefDwXbcIdeal : Cert.RefDwXbcIdeal.Facts) (hDwDt : Cert.DwDt.Facts) (hDwDtIdeal : Cert.DwDtIdeal.Facts) (hRefDwDtIdeal : Cert.RefDwDtIdeal.Facts) (hDu0 : Cert.Du0.Facts) (hDu0Ideal : Cert.Du0Ideal.Facts) (hRefDu0Ideal : Cert.RefDu0Ideal.Facts) (hDu1 : Cert.Du1.Facts) (hDu1Ideal : Cert.Du1Ideal.Facts) (hRefDu1Ideal : Cert.RefDu1Ideal.Facts) (hDu2 : Cert.Du2.Facts) (hDu2Ideal : Cert.Du2Ideal.Facts) (hRefDu2Ideal : Cert.RefDu2Ideal.Facts) (hDu3 : Cert.Du3.Facts) (hDu3Ideal : Cert.Du3Ideal.Facts) (hRefDu3Ideal : Cert.RefDu3Ideal.Facts) (hDh0 : Cert.Dh0.Facts) (hDh0Ideal : Cert.Dh0Ideal.Facts) (hRefDh0Ideal : Cert.RefDh0Ideal.Facts) (hDh1 : Cert.Dh1.Facts) (hDh1Ideal : Cert.Dh1Ideal.Facts) (hRefDh1Ideal : Cert.RefDh1Ideal.Facts) (hDh2 : Cert.Dh2.Facts) (hDh2Ideal : Cert.Dh2Ideal.Facts) (hRefDh2Ideal : Cert.RefDh2Ideal.Facts) (hDh3 : Cert.Dh3.Facts) (hDh3Ideal : Cert.Dh3Ideal.Facts) (hRefDh3Ideal : Cert.RefDh3Ideal.Facts) (hDhQkv0 : Cert.DhQkv0.Facts) (hDhQkv0Ideal : Cert.DhQkv0Ideal.Facts) (hRefDhQkv0Ideal : Cert.RefDhQkv0Ideal.Facts) (hDhQkv1 : Cert.DhQkv1.Facts) (hDhQkv1Ideal : Cert.DhQkv1Ideal.Facts) (hRefDhQkv1Ideal : Cert.RefDhQkv1Ideal.Facts) (hDo0 : Cert.Do0.Facts) (hDo0Ideal : Cert.Do0Ideal.Facts) (hRefDo0Ideal : Cert.RefDo0Ideal.Facts) (hDo1 : Cert.Do1.Facts) (hDo1Ideal : Cert.Do1Ideal.Facts) (hRefDo1Ideal : Cert.RefDo1Ideal.Facts) (hDs0 : Cert.Ds0.Facts) (hDs0Ideal : Cert.Ds0Ideal.Facts) (hRefDs0Ideal : Cert.RefDs0Ideal.Facts) (hDhIn0 : Cert.DhIn0.Facts) (hDhIn0Ideal : Cert.DhIn0Ideal.Facts) (hRefDhIn0Ideal : Cert.RefDhIn0Ideal.Facts) (hDyn0 : Cert.Dyn0.Facts) (hDyn0Ideal : Cert.Dyn0Ideal.Facts) (hRefDyn0Ideal : Cert.RefDyn0Ideal.Facts) (hDhZ : Cert.DhZ.Facts) (hDhZIdeal : Cert.DhZIdeal.Facts) (hRefDhZIdeal : Cert.RefDhZIdeal.Facts) (hDhXbc : Cert.DhXbc.Facts) (hDhXbcIdeal : Cert.DhXbcIdeal.Facts) (hRefDhXbcIdeal : Cert.RefDhXbcIdeal.Facts) (hDhDt : Cert.DhDt.Facts) (hDhDtIdeal : Cert.DhDtIdeal.Facts) (hRefDhDtIdeal : Cert.RefDhDtIdeal.Facts) (hUp0 : Cert.Up0.Facts) (hUp0Ideal : Cert.Up0Ideal.Facts) (hRefUp0Ideal : Cert.RefUp0Ideal.Facts) (hUp1 : Cert.Up1.Facts) (hUp1Ideal : Cert.Up1Ideal.Facts) (hRefUp1Ideal : Cert.RefUp1Ideal.Facts) (hUp2 : Cert.Up2.Facts) (hUp2Ideal : Cert.Up2Ideal.Facts) (hRefUp2Ideal : Cert.RefUp2Ideal.Facts) (hUp3 : Cert.Up3.Facts) (hUp3Ideal : Cert.Up3Ideal.Facts) (hRefUp3Ideal : Cert.RefUp3Ideal.Facts) (hDown0 : Cert.Down0.Facts) (hDown0Ideal : Cert.Down0Ideal.Facts) (hRefDown0Ideal : Cert.RefDown0Ideal.Facts) (hDown1 : Cert.Down1.Facts) (hDown1Ideal : Cert.Down1Ideal.Facts) (hRefDown1Ideal : Cert.RefDown1Ideal.Facts) (hDown2 : Cert.Down2.Facts) (hDown2Ideal : Cert.Down2Ideal.Facts) (hRefDown2Ideal : Cert.RefDown2Ideal.Facts) (hDown3 : Cert.Down3.Facts) (hDown3Ideal : Cert.Down3Ideal.Facts) (hRefDown3Ideal : Cert.RefDown3Ideal.Facts) (hQkv0 : Cert.Qkv0.Facts) (hQkv0Ideal : Cert.Qkv0Ideal.Facts) (hRefQkv0Ideal : Cert.RefQkv0Ideal.Facts) (hQkv1 : Cert.Qkv1.Facts) (hQkv1Ideal : Cert.Qkv1Ideal.Facts) (hRefQkv1Ideal : Cert.RefQkv1Ideal.Facts) (hOut0 : Cert.Out0.Facts) (hOut0Ideal : Cert.Out0Ideal.Facts) (hRefOut0Ideal : Cert.RefOut0Ideal.Facts) (hOut1 : Cert.Out1.Facts) (hOut1Ideal : Cert.Out1Ideal.Facts) (hRefOut1Ideal : Cert.RefOut1Ideal.Facts) (hCfIn : Cert.CfIn.Facts) (hCfInIdeal : Cert.CfInIdeal.Facts) (hRefCfInIdeal : Cert.RefCfInIdeal.Facts) (hCfOut : Cert.CfOut.Facts) (hCfOutIdeal : Cert.CfOutIdeal.Facts) (hRefCfOutIdeal : Cert.RefCfOutIdeal.Facts) (hZ : Cert.Z.Facts) (hZIdeal : Cert.ZIdeal.Facts) (hRefZIdeal : Cert.RefZIdeal.Facts) (hXbc : Cert.Xbc.Facts) (hXbcIdeal : Cert.XbcIdeal.Facts) (hRefXbcIdeal : Cert.RefXbcIdeal.Facts) (hDt : Cert.Dt.Facts) (hDtIdeal : Cert.DtIdeal.Facts) (hRefDtIdeal : Cert.RefDtIdeal.Facts) (hM2Out0 : Cert.M2Out0.Facts) (hM2Out0Ideal : Cert.M2Out0Ideal.Facts) (hRefM2Out0Ideal : Cert.RefM2Out0Ideal.Facts) (hAdamQkv : Cert.AdamQkv.Facts) (hAdamQkvIdeal : Cert.AdamQkvIdeal.Facts) (hRefAdamQkvIdeal : Cert.RefAdamQkvIdeal.Facts) (hAdamO : Cert.AdamO.Facts) (hAdamOIdeal : Cert.AdamOIdeal.Facts) (hRefAdamOIdeal : Cert.RefAdamOIdeal.Facts) (hAdamCfIn : Cert.AdamCfIn.Facts) (hAdamCfInIdeal : Cert.AdamCfInIdeal.Facts) (hRefAdamCfInIdeal : Cert.RefAdamCfInIdeal.Facts) (hAdamCfOut : Cert.AdamCfOut.Facts) (hAdamCfOutIdeal : Cert.AdamCfOutIdeal.Facts) (hRefAdamCfOutIdeal : Cert.RefAdamCfOutIdeal.Facts) (hAdamM2In : Cert.AdamM2In.Facts) (hAdamM2InIdeal : Cert.AdamM2InIdeal.Facts) (hRefAdamM2InIdeal : Cert.RefAdamM2InIdeal.Facts) (hAdamMlp : Cert.AdamMlp.Facts) (hAdamMlpIdeal : Cert.AdamMlpIdeal.Facts) (hRefAdamMlpIdeal : Cert.RefAdamMlpIdeal.Facts) (hAdamCfConv : Cert.AdamCfConv.Facts) (hAdamCfConvIdeal : Cert.AdamCfConvIdeal.Facts) (hRefAdamCfConvIdeal : Cert.RefAdamCfConvIdeal.Facts) (hAdamM2Conv : Cert.AdamM2Conv.Facts) (hAdamM2ConvIdeal : Cert.AdamM2ConvIdeal.Facts) (hRefAdamM2ConvIdeal : Cert.RefAdamM2ConvIdeal.Facts) (hAdamM2Bias : Cert.AdamM2Bias.Facts) (hAdamM2BiasIdeal : Cert.AdamM2BiasIdeal.Facts) (hRefAdamM2BiasIdeal : Cert.RefAdamM2BiasIdeal.Facts) (hAdamM2Norm : Cert.AdamM2Norm.Facts) (hAdamM2NormIdeal : Cert.AdamM2NormIdeal.Facts) (hRefAdamM2NormIdeal : Cert.RefAdamM2NormIdeal.Facts) (hAdamRepl : Cert.AdamRepl.Facts) (hAdamReplIdeal : Cert.AdamReplIdeal.Facts) (hRefAdamReplIdeal : Cert.RefAdamReplIdeal.Facts) (hRmsBwd : Cert.RmsBwd.Facts) (hRmsBwdIdeal : Cert.RmsBwdIdeal.Facts) (hRefRmsBwdIdeal : Cert.RefRmsBwdIdeal.Facts) (hBiasIn : Cert.BiasIn.Facts) (hBiasInIdeal : Cert.BiasInIdeal.Facts) (hRefBiasInIdeal : Cert.RefBiasInIdeal.Facts) (hBiasOut : Cert.BiasOut.Facts) (hBiasOutIdeal : Cert.BiasOutIdeal.Facts) (hRefBiasOutIdeal : Cert.RefBiasOutIdeal.Facts),
    quiescent_Kernel (hKernel := hKernel)
    ∧ quiescent_KernelIdeal (hKernelIdeal := hKernelIdeal)
    ∧ quiescent_ReferenceIdeal (hReferenceIdeal := hReferenceIdeal)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_DwUp (hDwUp := hDwUp)
    ∧ quiescent_DwUpIdeal (hDwUpIdeal := hDwUpIdeal)
    ∧ quiescent_RefDwUpIdeal (hRefDwUpIdeal := hRefDwUpIdeal)
    ∧ quiescent_DwQkv (hDwQkv := hDwQkv)
    ∧ quiescent_DwQkvIdeal (hDwQkvIdeal := hDwQkvIdeal)
    ∧ quiescent_RefDwQkvIdeal (hRefDwQkvIdeal := hRefDwQkvIdeal)
    ∧ quiescent_DwO (hDwO := hDwO)
    ∧ quiescent_DwOIdeal (hDwOIdeal := hDwOIdeal)
    ∧ quiescent_RefDwOIdeal (hRefDwOIdeal := hRefDwOIdeal)
    ∧ quiescent_DwIn (hDwIn := hDwIn)
    ∧ quiescent_DwInIdeal (hDwInIdeal := hDwInIdeal)
    ∧ quiescent_RefDwInIdeal (hRefDwInIdeal := hRefDwInIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ quiescent_DwZ (hDwZ := hDwZ)
    ∧ quiescent_DwZIdeal (hDwZIdeal := hDwZIdeal)
    ∧ quiescent_RefDwZIdeal (hRefDwZIdeal := hRefDwZIdeal)
    ∧ quiescent_DwXbc (hDwXbc := hDwXbc)
    ∧ quiescent_DwXbcIdeal (hDwXbcIdeal := hDwXbcIdeal)
    ∧ quiescent_RefDwXbcIdeal (hRefDwXbcIdeal := hRefDwXbcIdeal)
    ∧ quiescent_DwDt (hDwDt := hDwDt)
    ∧ quiescent_DwDtIdeal (hDwDtIdeal := hDwDtIdeal)
    ∧ quiescent_RefDwDtIdeal (hRefDwDtIdeal := hRefDwDtIdeal)
    ∧ quiescent_Du0 (hDu0 := hDu0)
    ∧ quiescent_Du0Ideal (hDu0Ideal := hDu0Ideal)
    ∧ quiescent_RefDu0Ideal (hRefDu0Ideal := hRefDu0Ideal)
    ∧ quiescent_Du1 (hDu1 := hDu1)
    ∧ quiescent_Du1Ideal (hDu1Ideal := hDu1Ideal)
    ∧ quiescent_RefDu1Ideal (hRefDu1Ideal := hRefDu1Ideal)
    ∧ quiescent_Du2 (hDu2 := hDu2)
    ∧ quiescent_Du2Ideal (hDu2Ideal := hDu2Ideal)
    ∧ quiescent_RefDu2Ideal (hRefDu2Ideal := hRefDu2Ideal)
    ∧ quiescent_Du3 (hDu3 := hDu3)
    ∧ quiescent_Du3Ideal (hDu3Ideal := hDu3Ideal)
    ∧ quiescent_RefDu3Ideal (hRefDu3Ideal := hRefDu3Ideal)
    ∧ quiescent_Dh0 (hDh0 := hDh0)
    ∧ quiescent_Dh0Ideal (hDh0Ideal := hDh0Ideal)
    ∧ quiescent_RefDh0Ideal (hRefDh0Ideal := hRefDh0Ideal)
    ∧ quiescent_Dh1 (hDh1 := hDh1)
    ∧ quiescent_Dh1Ideal (hDh1Ideal := hDh1Ideal)
    ∧ quiescent_RefDh1Ideal (hRefDh1Ideal := hRefDh1Ideal)
    ∧ quiescent_Dh2 (hDh2 := hDh2)
    ∧ quiescent_Dh2Ideal (hDh2Ideal := hDh2Ideal)
    ∧ quiescent_RefDh2Ideal (hRefDh2Ideal := hRefDh2Ideal)
    ∧ quiescent_Dh3 (hDh3 := hDh3)
    ∧ quiescent_Dh3Ideal (hDh3Ideal := hDh3Ideal)
    ∧ quiescent_RefDh3Ideal (hRefDh3Ideal := hRefDh3Ideal)
    ∧ quiescent_DhQkv0 (hDhQkv0 := hDhQkv0)
    ∧ quiescent_DhQkv0Ideal (hDhQkv0Ideal := hDhQkv0Ideal)
    ∧ quiescent_RefDhQkv0Ideal (hRefDhQkv0Ideal := hRefDhQkv0Ideal)
    ∧ quiescent_DhQkv1 (hDhQkv1 := hDhQkv1)
    ∧ quiescent_DhQkv1Ideal (hDhQkv1Ideal := hDhQkv1Ideal)
    ∧ quiescent_RefDhQkv1Ideal (hRefDhQkv1Ideal := hRefDhQkv1Ideal)
    ∧ quiescent_Do0 (hDo0 := hDo0)
    ∧ quiescent_Do0Ideal (hDo0Ideal := hDo0Ideal)
    ∧ quiescent_RefDo0Ideal (hRefDo0Ideal := hRefDo0Ideal)
    ∧ quiescent_Do1 (hDo1 := hDo1)
    ∧ quiescent_Do1Ideal (hDo1Ideal := hDo1Ideal)
    ∧ quiescent_RefDo1Ideal (hRefDo1Ideal := hRefDo1Ideal)
    ∧ quiescent_Ds0 (hDs0 := hDs0)
    ∧ quiescent_Ds0Ideal (hDs0Ideal := hDs0Ideal)
    ∧ quiescent_RefDs0Ideal (hRefDs0Ideal := hRefDs0Ideal)
    ∧ quiescent_DhIn0 (hDhIn0 := hDhIn0)
    ∧ quiescent_DhIn0Ideal (hDhIn0Ideal := hDhIn0Ideal)
    ∧ quiescent_RefDhIn0Ideal (hRefDhIn0Ideal := hRefDhIn0Ideal)
    ∧ quiescent_Dyn0 (hDyn0 := hDyn0)
    ∧ quiescent_Dyn0Ideal (hDyn0Ideal := hDyn0Ideal)
    ∧ quiescent_RefDyn0Ideal (hRefDyn0Ideal := hRefDyn0Ideal)
    ∧ quiescent_DhZ (hDhZ := hDhZ)
    ∧ quiescent_DhZIdeal (hDhZIdeal := hDhZIdeal)
    ∧ quiescent_RefDhZIdeal (hRefDhZIdeal := hRefDhZIdeal)
    ∧ quiescent_DhXbc (hDhXbc := hDhXbc)
    ∧ quiescent_DhXbcIdeal (hDhXbcIdeal := hDhXbcIdeal)
    ∧ quiescent_RefDhXbcIdeal (hRefDhXbcIdeal := hRefDhXbcIdeal)
    ∧ quiescent_DhDt (hDhDt := hDhDt)
    ∧ quiescent_DhDtIdeal (hDhDtIdeal := hDhDtIdeal)
    ∧ quiescent_RefDhDtIdeal (hRefDhDtIdeal := hRefDhDtIdeal)
    ∧ quiescent_Up0 (hUp0 := hUp0)
    ∧ quiescent_Up0Ideal (hUp0Ideal := hUp0Ideal)
    ∧ quiescent_RefUp0Ideal (hRefUp0Ideal := hRefUp0Ideal)
    ∧ quiescent_Up1 (hUp1 := hUp1)
    ∧ quiescent_Up1Ideal (hUp1Ideal := hUp1Ideal)
    ∧ quiescent_RefUp1Ideal (hRefUp1Ideal := hRefUp1Ideal)
    ∧ quiescent_Up2 (hUp2 := hUp2)
    ∧ quiescent_Up2Ideal (hUp2Ideal := hUp2Ideal)
    ∧ quiescent_RefUp2Ideal (hRefUp2Ideal := hRefUp2Ideal)
    ∧ quiescent_Up3 (hUp3 := hUp3)
    ∧ quiescent_Up3Ideal (hUp3Ideal := hUp3Ideal)
    ∧ quiescent_RefUp3Ideal (hRefUp3Ideal := hRefUp3Ideal)
    ∧ quiescent_Down0 (hDown0 := hDown0)
    ∧ quiescent_Down0Ideal (hDown0Ideal := hDown0Ideal)
    ∧ quiescent_RefDown0Ideal (hRefDown0Ideal := hRefDown0Ideal)
    ∧ quiescent_Down1 (hDown1 := hDown1)
    ∧ quiescent_Down1Ideal (hDown1Ideal := hDown1Ideal)
    ∧ quiescent_RefDown1Ideal (hRefDown1Ideal := hRefDown1Ideal)
    ∧ quiescent_Down2 (hDown2 := hDown2)
    ∧ quiescent_Down2Ideal (hDown2Ideal := hDown2Ideal)
    ∧ quiescent_RefDown2Ideal (hRefDown2Ideal := hRefDown2Ideal)
    ∧ quiescent_Down3 (hDown3 := hDown3)
    ∧ quiescent_Down3Ideal (hDown3Ideal := hDown3Ideal)
    ∧ quiescent_RefDown3Ideal (hRefDown3Ideal := hRefDown3Ideal)
    ∧ quiescent_Qkv0 (hQkv0 := hQkv0)
    ∧ quiescent_Qkv0Ideal (hQkv0Ideal := hQkv0Ideal)
    ∧ quiescent_RefQkv0Ideal (hRefQkv0Ideal := hRefQkv0Ideal)
    ∧ quiescent_Qkv1 (hQkv1 := hQkv1)
    ∧ quiescent_Qkv1Ideal (hQkv1Ideal := hQkv1Ideal)
    ∧ quiescent_RefQkv1Ideal (hRefQkv1Ideal := hRefQkv1Ideal)
    ∧ quiescent_Out0 (hOut0 := hOut0)
    ∧ quiescent_Out0Ideal (hOut0Ideal := hOut0Ideal)
    ∧ quiescent_RefOut0Ideal (hRefOut0Ideal := hRefOut0Ideal)
    ∧ quiescent_Out1 (hOut1 := hOut1)
    ∧ quiescent_Out1Ideal (hOut1Ideal := hOut1Ideal)
    ∧ quiescent_RefOut1Ideal (hRefOut1Ideal := hRefOut1Ideal)
    ∧ quiescent_CfIn (hCfIn := hCfIn)
    ∧ quiescent_CfInIdeal (hCfInIdeal := hCfInIdeal)
    ∧ quiescent_RefCfInIdeal (hRefCfInIdeal := hRefCfInIdeal)
    ∧ quiescent_CfOut (hCfOut := hCfOut)
    ∧ quiescent_CfOutIdeal (hCfOutIdeal := hCfOutIdeal)
    ∧ quiescent_RefCfOutIdeal (hRefCfOutIdeal := hRefCfOutIdeal)
    ∧ quiescent_Z (hZ := hZ)
    ∧ quiescent_ZIdeal (hZIdeal := hZIdeal)
    ∧ quiescent_RefZIdeal (hRefZIdeal := hRefZIdeal)
    ∧ quiescent_Xbc (hXbc := hXbc)
    ∧ quiescent_XbcIdeal (hXbcIdeal := hXbcIdeal)
    ∧ quiescent_RefXbcIdeal (hRefXbcIdeal := hRefXbcIdeal)
    ∧ quiescent_Dt (hDt := hDt)
    ∧ quiescent_DtIdeal (hDtIdeal := hDtIdeal)
    ∧ quiescent_RefDtIdeal (hRefDtIdeal := hRefDtIdeal)
    ∧ quiescent_M2Out0 (hM2Out0 := hM2Out0)
    ∧ quiescent_M2Out0Ideal (hM2Out0Ideal := hM2Out0Ideal)
    ∧ quiescent_RefM2Out0Ideal (hRefM2Out0Ideal := hRefM2Out0Ideal)
    ∧ quiescent_AdamQkv (hAdamQkv := hAdamQkv)
    ∧ quiescent_AdamQkvIdeal (hAdamQkvIdeal := hAdamQkvIdeal)
    ∧ quiescent_RefAdamQkvIdeal (hRefAdamQkvIdeal := hRefAdamQkvIdeal)
    ∧ quiescent_AdamO (hAdamO := hAdamO)
    ∧ quiescent_AdamOIdeal (hAdamOIdeal := hAdamOIdeal)
    ∧ quiescent_RefAdamOIdeal (hRefAdamOIdeal := hRefAdamOIdeal)
    ∧ quiescent_AdamCfIn (hAdamCfIn := hAdamCfIn)
    ∧ quiescent_AdamCfInIdeal (hAdamCfInIdeal := hAdamCfInIdeal)
    ∧ quiescent_RefAdamCfInIdeal (hRefAdamCfInIdeal := hRefAdamCfInIdeal)
    ∧ quiescent_AdamCfOut (hAdamCfOut := hAdamCfOut)
    ∧ quiescent_AdamCfOutIdeal (hAdamCfOutIdeal := hAdamCfOutIdeal)
    ∧ quiescent_RefAdamCfOutIdeal (hRefAdamCfOutIdeal := hRefAdamCfOutIdeal)
    ∧ quiescent_AdamM2In (hAdamM2In := hAdamM2In)
    ∧ quiescent_AdamM2InIdeal (hAdamM2InIdeal := hAdamM2InIdeal)
    ∧ quiescent_RefAdamM2InIdeal (hRefAdamM2InIdeal := hRefAdamM2InIdeal)
    ∧ quiescent_AdamMlp (hAdamMlp := hAdamMlp)
    ∧ quiescent_AdamMlpIdeal (hAdamMlpIdeal := hAdamMlpIdeal)
    ∧ quiescent_RefAdamMlpIdeal (hRefAdamMlpIdeal := hRefAdamMlpIdeal)
    ∧ quiescent_AdamCfConv (hAdamCfConv := hAdamCfConv)
    ∧ quiescent_AdamCfConvIdeal (hAdamCfConvIdeal := hAdamCfConvIdeal)
    ∧ quiescent_RefAdamCfConvIdeal (hRefAdamCfConvIdeal := hRefAdamCfConvIdeal)
    ∧ quiescent_AdamM2Conv (hAdamM2Conv := hAdamM2Conv)
    ∧ quiescent_AdamM2ConvIdeal (hAdamM2ConvIdeal := hAdamM2ConvIdeal)
    ∧ quiescent_RefAdamM2ConvIdeal (hRefAdamM2ConvIdeal := hRefAdamM2ConvIdeal)
    ∧ quiescent_AdamM2Bias (hAdamM2Bias := hAdamM2Bias)
    ∧ quiescent_AdamM2BiasIdeal (hAdamM2BiasIdeal := hAdamM2BiasIdeal)
    ∧ quiescent_RefAdamM2BiasIdeal (hRefAdamM2BiasIdeal := hRefAdamM2BiasIdeal)
    ∧ quiescent_AdamM2Norm (hAdamM2Norm := hAdamM2Norm)
    ∧ quiescent_AdamM2NormIdeal (hAdamM2NormIdeal := hAdamM2NormIdeal)
    ∧ quiescent_RefAdamM2NormIdeal (hRefAdamM2NormIdeal := hRefAdamM2NormIdeal)
    ∧ quiescent_AdamRepl (hAdamRepl := hAdamRepl)
    ∧ quiescent_AdamReplIdeal (hAdamReplIdeal := hAdamReplIdeal)
    ∧ quiescent_RefAdamReplIdeal (hRefAdamReplIdeal := hRefAdamReplIdeal)
    ∧ quiescent_RmsBwd (hRmsBwd := hRmsBwd)
    ∧ quiescent_RmsBwdIdeal (hRmsBwdIdeal := hRmsBwdIdeal)
    ∧ quiescent_RefRmsBwdIdeal (hRefRmsBwdIdeal := hRefRmsBwdIdeal)
    ∧ quiescent_BiasIn (hBiasIn := hBiasIn)
    ∧ quiescent_BiasInIdeal (hBiasInIdeal := hBiasInIdeal)
    ∧ quiescent_RefBiasInIdeal (hRefBiasInIdeal := hRefBiasInIdeal)
    ∧ quiescent_BiasOut (hBiasOut := hBiasOut)
    ∧ quiescent_BiasOutIdeal (hBiasOutIdeal := hBiasOutIdeal)
    ∧ quiescent_RefBiasOutIdeal (hRefBiasOutIdeal := hRefBiasOutIdeal)
    ∧ preserves_Kernel_KernelIdeal
    ∧ algebraic_KernelIdeal_ReferenceIdeal (hKernelIdeal := hKernelIdeal) (hReferenceIdeal := hReferenceIdeal)
    ∧ preserves_DwDown_DwDownIdeal
    ∧ algebraic_DwDownIdeal_RefDwDownIdeal (hDwDownIdeal := hDwDownIdeal) (hRefDwDownIdeal := hRefDwDownIdeal)
    ∧ preserves_DwUp_DwUpIdeal
    ∧ algebraic_DwUpIdeal_RefDwUpIdeal (hDwUpIdeal := hDwUpIdeal) (hRefDwUpIdeal := hRefDwUpIdeal)
    ∧ preserves_DwQkv_DwQkvIdeal
    ∧ algebraic_DwQkvIdeal_RefDwQkvIdeal (hDwQkvIdeal := hDwQkvIdeal) (hRefDwQkvIdeal := hRefDwQkvIdeal)
    ∧ preserves_DwO_DwOIdeal
    ∧ algebraic_DwOIdeal_RefDwOIdeal (hDwOIdeal := hDwOIdeal) (hRefDwOIdeal := hRefDwOIdeal)
    ∧ preserves_DwIn_DwInIdeal
    ∧ algebraic_DwInIdeal_RefDwInIdeal (hDwInIdeal := hDwInIdeal) (hRefDwInIdeal := hRefDwInIdeal)
    ∧ preserves_DwOut_DwOutIdeal
    ∧ algebraic_DwOutIdeal_RefDwOutIdeal (hDwOutIdeal := hDwOutIdeal) (hRefDwOutIdeal := hRefDwOutIdeal)
    ∧ preserves_DwZ_DwZIdeal
    ∧ algebraic_DwZIdeal_RefDwZIdeal (hDwZIdeal := hDwZIdeal) (hRefDwZIdeal := hRefDwZIdeal)
    ∧ preserves_DwXbc_DwXbcIdeal
    ∧ algebraic_DwXbcIdeal_RefDwXbcIdeal (hDwXbcIdeal := hDwXbcIdeal) (hRefDwXbcIdeal := hRefDwXbcIdeal)
    ∧ preserves_DwDt_DwDtIdeal
    ∧ algebraic_DwDtIdeal_RefDwDtIdeal (hDwDtIdeal := hDwDtIdeal) (hRefDwDtIdeal := hRefDwDtIdeal)
    ∧ preserves_Du0_Du0Ideal
    ∧ algebraic_Du0Ideal_RefDu0Ideal (hDu0Ideal := hDu0Ideal) (hRefDu0Ideal := hRefDu0Ideal)
    ∧ preserves_Du1_Du1Ideal
    ∧ algebraic_Du1Ideal_RefDu1Ideal (hDu1Ideal := hDu1Ideal) (hRefDu1Ideal := hRefDu1Ideal)
    ∧ preserves_Du2_Du2Ideal
    ∧ algebraic_Du2Ideal_RefDu2Ideal (hDu2Ideal := hDu2Ideal) (hRefDu2Ideal := hRefDu2Ideal)
    ∧ preserves_Du3_Du3Ideal
    ∧ algebraic_Du3Ideal_RefDu3Ideal (hDu3Ideal := hDu3Ideal) (hRefDu3Ideal := hRefDu3Ideal)
    ∧ preserves_Dh0_Dh0Ideal
    ∧ algebraic_Dh0Ideal_RefDh0Ideal (hDh0Ideal := hDh0Ideal) (hRefDh0Ideal := hRefDh0Ideal)
    ∧ preserves_Dh1_Dh1Ideal
    ∧ algebraic_Dh1Ideal_RefDh1Ideal (hDh1Ideal := hDh1Ideal) (hRefDh1Ideal := hRefDh1Ideal)
    ∧ preserves_Dh2_Dh2Ideal
    ∧ algebraic_Dh2Ideal_RefDh2Ideal (hDh2Ideal := hDh2Ideal) (hRefDh2Ideal := hRefDh2Ideal)
    ∧ preserves_Dh3_Dh3Ideal
    ∧ algebraic_Dh3Ideal_RefDh3Ideal (hDh3Ideal := hDh3Ideal) (hRefDh3Ideal := hRefDh3Ideal)
    ∧ preserves_DhQkv0_DhQkv0Ideal
    ∧ algebraic_DhQkv0Ideal_RefDhQkv0Ideal (hDhQkv0Ideal := hDhQkv0Ideal) (hRefDhQkv0Ideal := hRefDhQkv0Ideal)
    ∧ preserves_DhQkv1_DhQkv1Ideal
    ∧ algebraic_DhQkv1Ideal_RefDhQkv1Ideal (hDhQkv1Ideal := hDhQkv1Ideal) (hRefDhQkv1Ideal := hRefDhQkv1Ideal)
    ∧ preserves_Do0_Do0Ideal
    ∧ algebraic_Do0Ideal_RefDo0Ideal (hDo0Ideal := hDo0Ideal) (hRefDo0Ideal := hRefDo0Ideal)
    ∧ preserves_Do1_Do1Ideal
    ∧ algebraic_Do1Ideal_RefDo1Ideal (hDo1Ideal := hDo1Ideal) (hRefDo1Ideal := hRefDo1Ideal)
    ∧ preserves_Ds0_Ds0Ideal
    ∧ algebraic_Ds0Ideal_RefDs0Ideal (hDs0Ideal := hDs0Ideal) (hRefDs0Ideal := hRefDs0Ideal)
    ∧ preserves_DhIn0_DhIn0Ideal
    ∧ algebraic_DhIn0Ideal_RefDhIn0Ideal (hDhIn0Ideal := hDhIn0Ideal) (hRefDhIn0Ideal := hRefDhIn0Ideal)
    ∧ preserves_Dyn0_Dyn0Ideal
    ∧ algebraic_Dyn0Ideal_RefDyn0Ideal (hDyn0Ideal := hDyn0Ideal) (hRefDyn0Ideal := hRefDyn0Ideal)
    ∧ preserves_DhZ_DhZIdeal
    ∧ algebraic_DhZIdeal_RefDhZIdeal (hDhZIdeal := hDhZIdeal) (hRefDhZIdeal := hRefDhZIdeal)
    ∧ preserves_DhXbc_DhXbcIdeal
    ∧ algebraic_DhXbcIdeal_RefDhXbcIdeal (hDhXbcIdeal := hDhXbcIdeal) (hRefDhXbcIdeal := hRefDhXbcIdeal)
    ∧ preserves_DhDt_DhDtIdeal
    ∧ algebraic_DhDtIdeal_RefDhDtIdeal (hDhDtIdeal := hDhDtIdeal) (hRefDhDtIdeal := hRefDhDtIdeal)
    ∧ preserves_Up0_Up0Ideal
    ∧ algebraic_Up0Ideal_RefUp0Ideal (hUp0Ideal := hUp0Ideal) (hRefUp0Ideal := hRefUp0Ideal)
    ∧ preserves_Up1_Up1Ideal
    ∧ algebraic_Up1Ideal_RefUp1Ideal (hUp1Ideal := hUp1Ideal) (hRefUp1Ideal := hRefUp1Ideal)
    ∧ preserves_Up2_Up2Ideal
    ∧ algebraic_Up2Ideal_RefUp2Ideal (hUp2Ideal := hUp2Ideal) (hRefUp2Ideal := hRefUp2Ideal)
    ∧ preserves_Up3_Up3Ideal
    ∧ algebraic_Up3Ideal_RefUp3Ideal (hUp3Ideal := hUp3Ideal) (hRefUp3Ideal := hRefUp3Ideal)
    ∧ preserves_Down0_Down0Ideal
    ∧ algebraic_Down0Ideal_RefDown0Ideal (hDown0Ideal := hDown0Ideal) (hRefDown0Ideal := hRefDown0Ideal)
    ∧ preserves_Down1_Down1Ideal
    ∧ algebraic_Down1Ideal_RefDown1Ideal (hDown1Ideal := hDown1Ideal) (hRefDown1Ideal := hRefDown1Ideal)
    ∧ preserves_Down2_Down2Ideal
    ∧ algebraic_Down2Ideal_RefDown2Ideal (hDown2Ideal := hDown2Ideal) (hRefDown2Ideal := hRefDown2Ideal)
    ∧ preserves_Down3_Down3Ideal
    ∧ algebraic_Down3Ideal_RefDown3Ideal (hDown3Ideal := hDown3Ideal) (hRefDown3Ideal := hRefDown3Ideal)
    ∧ preserves_Qkv0_Qkv0Ideal
    ∧ algebraic_Qkv0Ideal_RefQkv0Ideal (hQkv0Ideal := hQkv0Ideal) (hRefQkv0Ideal := hRefQkv0Ideal)
    ∧ preserves_Qkv1_Qkv1Ideal
    ∧ algebraic_Qkv1Ideal_RefQkv1Ideal (hQkv1Ideal := hQkv1Ideal) (hRefQkv1Ideal := hRefQkv1Ideal)
    ∧ preserves_Out0_Out0Ideal
    ∧ algebraic_Out0Ideal_RefOut0Ideal (hOut0Ideal := hOut0Ideal) (hRefOut0Ideal := hRefOut0Ideal)
    ∧ preserves_Out1_Out1Ideal
    ∧ algebraic_Out1Ideal_RefOut1Ideal (hOut1Ideal := hOut1Ideal) (hRefOut1Ideal := hRefOut1Ideal)
    ∧ preserves_CfIn_CfInIdeal
    ∧ algebraic_CfInIdeal_RefCfInIdeal (hCfInIdeal := hCfInIdeal) (hRefCfInIdeal := hRefCfInIdeal)
    ∧ preserves_CfOut_CfOutIdeal
    ∧ algebraic_CfOutIdeal_RefCfOutIdeal (hCfOutIdeal := hCfOutIdeal) (hRefCfOutIdeal := hRefCfOutIdeal)
    ∧ preserves_Z_ZIdeal
    ∧ algebraic_ZIdeal_RefZIdeal (hZIdeal := hZIdeal) (hRefZIdeal := hRefZIdeal)
    ∧ preserves_Xbc_XbcIdeal
    ∧ algebraic_XbcIdeal_RefXbcIdeal (hXbcIdeal := hXbcIdeal) (hRefXbcIdeal := hRefXbcIdeal)
    ∧ preserves_Dt_DtIdeal
    ∧ algebraic_DtIdeal_RefDtIdeal (hDtIdeal := hDtIdeal) (hRefDtIdeal := hRefDtIdeal)
    ∧ preserves_M2Out0_M2Out0Ideal
    ∧ algebraic_M2Out0Ideal_RefM2Out0Ideal (hM2Out0Ideal := hM2Out0Ideal) (hRefM2Out0Ideal := hRefM2Out0Ideal)
    ∧ preserves_AdamQkv_AdamQkvIdeal
    ∧ algebraic_AdamQkvIdeal_RefAdamQkvIdeal (hAdamQkvIdeal := hAdamQkvIdeal) (hRefAdamQkvIdeal := hRefAdamQkvIdeal)
    ∧ preserves_AdamO_AdamOIdeal
    ∧ algebraic_AdamOIdeal_RefAdamOIdeal (hAdamOIdeal := hAdamOIdeal) (hRefAdamOIdeal := hRefAdamOIdeal)
    ∧ preserves_AdamCfIn_AdamCfInIdeal
    ∧ algebraic_AdamCfInIdeal_RefAdamCfInIdeal (hAdamCfInIdeal := hAdamCfInIdeal) (hRefAdamCfInIdeal := hRefAdamCfInIdeal)
    ∧ preserves_AdamCfOut_AdamCfOutIdeal
    ∧ algebraic_AdamCfOutIdeal_RefAdamCfOutIdeal (hAdamCfOutIdeal := hAdamCfOutIdeal) (hRefAdamCfOutIdeal := hRefAdamCfOutIdeal)
    ∧ preserves_AdamM2In_AdamM2InIdeal
    ∧ algebraic_AdamM2InIdeal_RefAdamM2InIdeal (hAdamM2InIdeal := hAdamM2InIdeal) (hRefAdamM2InIdeal := hRefAdamM2InIdeal)
    ∧ preserves_AdamMlp_AdamMlpIdeal
    ∧ algebraic_AdamMlpIdeal_RefAdamMlpIdeal (hAdamMlpIdeal := hAdamMlpIdeal) (hRefAdamMlpIdeal := hRefAdamMlpIdeal)
    ∧ preserves_AdamCfConv_AdamCfConvIdeal
    ∧ algebraic_AdamCfConvIdeal_RefAdamCfConvIdeal (hAdamCfConvIdeal := hAdamCfConvIdeal) (hRefAdamCfConvIdeal := hRefAdamCfConvIdeal)
    ∧ preserves_AdamM2Conv_AdamM2ConvIdeal
    ∧ algebraic_AdamM2ConvIdeal_RefAdamM2ConvIdeal (hAdamM2ConvIdeal := hAdamM2ConvIdeal) (hRefAdamM2ConvIdeal := hRefAdamM2ConvIdeal)
    ∧ preserves_AdamM2Bias_AdamM2BiasIdeal
    ∧ algebraic_AdamM2BiasIdeal_RefAdamM2BiasIdeal (hAdamM2BiasIdeal := hAdamM2BiasIdeal) (hRefAdamM2BiasIdeal := hRefAdamM2BiasIdeal)
    ∧ preserves_AdamM2Norm_AdamM2NormIdeal
    ∧ algebraic_AdamM2NormIdeal_RefAdamM2NormIdeal (hAdamM2NormIdeal := hAdamM2NormIdeal) (hRefAdamM2NormIdeal := hRefAdamM2NormIdeal)
    ∧ preserves_AdamRepl_AdamReplIdeal
    ∧ algebraic_AdamReplIdeal_RefAdamReplIdeal (hAdamReplIdeal := hAdamReplIdeal) (hRefAdamReplIdeal := hRefAdamReplIdeal)
    ∧ preserves_RmsBwd_RmsBwdIdeal
    ∧ algebraic_RmsBwdIdeal_RefRmsBwdIdeal (hRmsBwdIdeal := hRmsBwdIdeal) (hRefRmsBwdIdeal := hRefRmsBwdIdeal)
    ∧ preserves_BiasIn_BiasInIdeal
    ∧ algebraic_BiasInIdeal_RefBiasInIdeal (hBiasInIdeal := hBiasInIdeal) (hRefBiasInIdeal := hRefBiasInIdeal)
    ∧ preserves_BiasOut_BiasOutIdeal
    ∧ algebraic_BiasOutIdeal_RefBiasOutIdeal (hBiasOutIdeal := hBiasOutIdeal) (hRefBiasOutIdeal := hRefBiasOutIdeal)
-- ==== Kernel.lean ====
abbrev S8192x6144 : Shape := ⟨2, ![8192, 6144]⟩
abbrev S4x6144 : Shape := ⟨2, ![4, 6144]⟩
abbrev S1x6144 : Shape := ⟨2, ![1, 6144]⟩
abbrev S512x1024 : Shape := ⟨2, ![512, 1024]⟩
abbrev S8x1024 : Shape := ⟨2, ![8, 1024]⟩
abbrev S4x1024 : Shape := ⟨2, ![4, 1024]⟩
abbrev S1x1024 : Shape := ⟨2, ![1, 1024]⟩
abbrev S520x1024 : Shape := ⟨2, ![520, 1024]⟩
abbrev S32x1024 : Shape := ⟨2, ![32, 1024]⟩
abbrev S40x1024 : Shape := ⟨2, ![40, 1024]⟩
abbrev S1024 : Shape := ⟨1, ![1024]⟩

abbrev nBuf : Space → Nat
  | .hbm => 7
  | .vmem => 18
  | .smem => 0
  | _ => 0

abbrev bufTy : (tb : Table) → Fin (tcTables nBuf tb) → BufTy
  | .hbm, ⟨0, _⟩ => ⟨S8192x6144, .f32⟩
  | .hbm, ⟨1, _⟩ => ⟨S4x6144, .f32⟩
  | .hbm, ⟨2, _⟩ => ⟨S1x6144, .f32⟩
  | .hbm, ⟨3, _⟩ => ⟨S8192x6144, .f32⟩
  | .hbm, ⟨4, _⟩ => ⟨S8192x6144, .bf16⟩
  | .hbm, ⟨5, _⟩ => ⟨S4x6144, .f32⟩
  | .hbm, ⟨6, _⟩ => ⟨S1x6144, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S4x1024, .f32⟩
  | .local _ .vmem, ⟨9, _⟩ => ⟨S4x1024, .f32⟩
  | .local _ .vmem, ⟨10, _⟩ => ⟨S512x1024, .bf16⟩
  | .local _ .vmem, ⟨11, _⟩ => ⟨S512x1024, .bf16⟩
  | .local _ .vmem, ⟨12, _⟩ => ⟨S4x1024, .f32⟩
  | .local _ .vmem, ⟨13, _⟩ => ⟨S4x1024, .f32⟩
  | .local _ .vmem, ⟨14, _⟩ => ⟨S1x1024, .f32⟩
  | .local _ .vmem, ⟨15, _⟩ => ⟨S1x1024, .f32⟩
  | .local _ .vmem, ⟨16, _⟩ => ⟨S520x1024, .f32⟩
  | .local _ .vmem, ⟨17, _⟩ => ⟨S520x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x6144 : Shape := ⟨2, ![8192, 6144]⟩
abbrev S4x6144 : Shape := ⟨2, ![4, 6144]⟩
abbrev S1x6144 : Shape := ⟨2, ![1, 6144]⟩
abbrev S_ : Shape := ⟨0, ![]⟩
abbrev S3x6144 : Shape := ⟨2, ![3, 6144]⟩
abbrev S8195x6144 : Shape := ⟨2, ![8195, 6144]⟩
abbrev S6144 : Shape := ⟨1, ![6144]⟩

abbrev nBuf : Space → Nat
  | .hbm => 83
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x6144, .f32⟩
  | .hbm, ⟨2, _⟩ => ⟨S1x6144, .f32⟩
  | .hbm, ⟨3, _⟩ => ⟨S8192x6144, .f32⟩
  | .hbm, ⟨4, _⟩ => ⟨S_, .f32⟩
  | .hbm, ⟨5, _⟩ => ⟨S3x6144, .f32⟩
  | .hbm, ⟨6, _⟩ => ⟨S8195x6144, .f32⟩
  | .hbm, ⟨7, _⟩ => ⟨S_, .f32⟩
  | .hbm, ⟨8, _⟩ => ⟨S3x6144, .f32⟩
  | .hbm, ⟨9, _⟩ => ⟨S8192x6144, .f32⟩
  | .hbm, ⟨10, _⟩ => ⟨S1x6144, .f32⟩
  | .hbm, ⟨11, _⟩ => ⟨S8192x6144, .f32⟩
  | .hbm, ⟨12, _⟩ => ⟨S8192x6144, .f32⟩
  | .hbm, ⟨13, _⟩ => ⟨S8192x6144, .f32⟩
  | .hbm, ⟨14, _⟩ => ⟨S1x6144, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S8192x6144, .f32⟩
  | .hbm, ⟨19, _⟩ => ⟨S1x6144, .f32⟩
  | .hbm, ⟨20, _⟩ => ⟨S8192x6144, .f32⟩
  | .hbm, ⟨21, _⟩ => ⟨S8192x6144, .f32⟩
  | .hbm, ⟨22, _⟩ => ⟨S8192x6144, .f32⟩
  | .hbm, ⟨23, _⟩ => ⟨S8192x6144, .f32⟩
  | .hbm, ⟨24, _⟩ => ⟨S1x6144, .f32⟩
  | .hbm, ⟨25, _⟩ => ⟨S8192x6144, .f32⟩
  | .hbm, ⟨26, _⟩ => ⟨S8192x6144, .f32⟩
  | .hbm, ⟨27, _⟩ => ⟨S8192x6144, .f32⟩
  | .hbm, ⟨28, _⟩ => ⟨S8192x6144, .f32⟩
  | .hbm, ⟨29, _⟩ => ⟨S8192x6144, .f32⟩
  | .hbm, ⟨30, _⟩ => ⟨S8192x6144, .f32⟩
  | .hbm, ⟨31, _⟩ => ⟨S_, .f32⟩
  | .hbm, ⟨32, _⟩ => ⟨S6144, .f32⟩
  | .hbm, ⟨33, _⟩ => ⟨S1x6144, .f32⟩
  | .hbm, ⟨34, _⟩ => ⟨S8192x6144, .f32⟩
  | .hbm, ⟨35, _⟩ => ⟨S_, .f32⟩
  | .hbm, ⟨36, _⟩ => ⟨S6144, .f32⟩
  | .hbm, ⟨37, _⟩ => ⟨S1x6144, .f32⟩
  | .hbm, ⟨38, _⟩ => ⟨S8192x6144, .f32⟩
  | .hbm, ⟨39, _⟩ => ⟨S8192x6144, .f32⟩
  | .hbm, ⟨40, _⟩ => ⟨S_, .f32⟩
  | .hbm, ⟨41, _⟩ => ⟨S4x6144, .f32⟩
  | .hbm, ⟨42, _⟩ => ⟨S_, .f32⟩
  | .hbm, ⟨43, _⟩ => ⟨S8195x6144, .f32⟩
  | .hbm, ⟨44, _⟩ => ⟨S8192x6144, .f32⟩
  | .hbm, ⟨45, _⟩ => ⟨S_, .f32⟩
  | .hbm, ⟨46, _⟩ => ⟨S6144, .f32⟩
  | .hbm, ⟨47, _⟩ => ⟨S1x6144, .f32⟩
  | .hbm, ⟨48, _⟩ => ⟨S8192x6144, .f32⟩
  | .hbm, ⟨49, _⟩ => ⟨S8192x6144, .f32⟩
  | .hbm, ⟨50, _⟩ => ⟨S_, .f32⟩
  | .hbm, ⟨51, _⟩ => ⟨S4x6144, .f32⟩
  | .hbm, ⟨52, _⟩ => ⟨S4x6144, .f32⟩
  | .hbm, ⟨53, _⟩ => ⟨S_, .f32⟩
  | .hbm, ⟨54, _⟩ => ⟨S8195x6144, .f32⟩
  | .hbm, ⟨55, _⟩ => ⟨S8195x6144, .f32⟩
  | .hbm, ⟨56, _⟩ => ⟨S8192x6144, .f32⟩
  | .hbm, ⟨57, _⟩ => ⟨S_, .f32⟩
  | .hbm, ⟨58, _⟩ => ⟨S6144, .f32⟩
  | .hbm, ⟨59, _⟩ => ⟨S1x6144, .f32⟩
  | .hbm, ⟨60, _⟩ => ⟨S8192x6144, .f32⟩
  | .hbm, ⟨61, _⟩ => ⟨S8192x6144, .f32⟩
  | .hbm, ⟨62, _⟩ => ⟨S_, .f32⟩
  | .hbm, ⟨63, _⟩ => ⟨S4x6144, .f32⟩
  | .hbm, ⟨64, _⟩ => ⟨S4x6144, .f32⟩
  | .hbm, ⟨65, _⟩ => ⟨S_, .f32⟩
  | .hbm, ⟨66, _⟩ => ⟨S8195x6144, .f32⟩
  | .hbm, ⟨67, _⟩ => ⟨S8195x6144, .f32⟩
  | .hbm, ⟨68, _⟩ => ⟨S8192x6144, .f32⟩
  | .hbm, ⟨69, _⟩ => ⟨S_, .f32⟩
  | .hbm, ⟨70, _⟩ => ⟨S6144, .f32⟩
  | .hbm, ⟨71, _⟩ => ⟨S1x6144, .f32⟩
  | .hbm, ⟨72, _⟩ => ⟨S8192x6144, .f32⟩
  | .hbm, ⟨73, _⟩ => ⟨S8192x6144, .f32⟩
  | .hbm, ⟨74, _⟩ => ⟨S_, .f32⟩
  | .hbm, ⟨75, _⟩ => ⟨S4x6144, .f32⟩
  | .hbm, ⟨76, _⟩ => ⟨S4x6144, .f32⟩
  | .hbm, ⟨77, _⟩ => ⟨S_, .f32⟩
  | .hbm, ⟨78, _⟩ => ⟨S8195x6144, .f32⟩
  | .hbm, ⟨79, _⟩ => ⟨S8195x6144, .f32⟩
  | .hbm, ⟨80, _⟩ => ⟨S3x6144, .f32⟩
  | .hbm, ⟨81, _⟩ => ⟨S8192x6144, .f32⟩
  | .hbm, ⟨82, _⟩ => ⟨S8192x6144, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== DwDown.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwDownIdeal.lean ====
abbrev S8192x8192 : Shape := ⟨2, ![8192, 8192]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S8192x2048 : Shape := ⟨2, ![8192, 2048]⟩
abbrev S2048x8192 : Shape := ⟨2, ![2048, 8192]⟩
abbrev S8192x8192 : Shape := ⟨2, ![8192, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwUpIdeal.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S2048x8192, .f32⟩
  | .hbm, ⟨8, _⟩ => ⟨S2048x4x2048, .f32⟩
  | .hbm, ⟨9, _⟩ => ⟨S4x2048x2048, .f32⟩
  | .hbm, ⟨10, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwQkv.lean ====
abbrev S8192x2048 : Shape := ⟨2, ![8192, 2048]⟩
abbrev S2048x6144 : Shape := ⟨2, ![2048, 6144]⟩
abbrev S8192x6144 : Shape := ⟨2, ![8192, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x6144, .bf16⟩
  | .hbm, ⟨3, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwQkvIdeal.lean ====
abbrev S8192x2048 : Shape := ⟨2, ![8192, 2048]⟩
abbrev S2048x6144 : Shape := ⟨2, ![2048, 6144]⟩
abbrev S8192x6144 : Shape := ⟨2, ![8192, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x6144, .bf16⟩
  | .hbm, ⟨3, _⟩ => ⟨S8192x2048, .f32⟩
  | .hbm, ⟨4, _⟩ => ⟨S8192x6144, .f32⟩
  | .hbm, ⟨5, _⟩ => ⟨S8192x6144, .f32⟩
  | .hbm, ⟨6, _⟩ => ⟨S6144x2048, .f32⟩
  | .hbm, ⟨7, _⟩ => ⟨S2048x6144, .f32⟩
  | .hbm, ⟨8, _⟩ => ⟨S2048x4x1536, .f32⟩
  | .hbm, ⟨9, _⟩ => ⟨S4x2048x1536, .f32⟩
  | .hbm, ⟨10, _⟩ => ⟨S4x2048x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwO.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwOIdeal.lean ====
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S8192x2048 : Shape := ⟨2, ![8192, 2048]⟩
abbrev S2048x4096 : Shape := ⟨2, ![2048, 4096]⟩
abbrev S8192x4096 : Shape := ⟨2, ![8192, 4096]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x4096, .f32⟩
  | .hbm, ⟨3, _⟩ => ⟨S4x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwInIdeal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x4096, .f32⟩
  | .hbm, ⟨3, _⟩ => ⟨S8192x2048, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x4x1024, .f32⟩
  | .hbm, ⟨8, _⟩ => ⟨S4x2048x1024, .f32⟩
  | .hbm, ⟨9, _⟩ => ⟨S4x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S8192x4096 : Shape := ⟨2, ![8192, 4096]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .bf16⟩
  | .hbm, ⟨3, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwOutIdeal.lean ====
abbrev S8192x4096 : Shape := ⟨2, ![8192, 4096]⟩
abbrev S4096x2048 : Shape := ⟨2, ![4096, 2048]⟩
abbrev S8192x2048 : Shape := ⟨2, ![8192, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .bf16⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwZ.lean ====
abbrev S8192x2048 : Shape := ⟨2, ![8192, 2048]⟩
abbrev S2048x4096 : Shape := ⟨2, ![2048, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x4096, .bf16⟩
  | .hbm, ⟨3, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c3_i32 : BitVec 32 := 3#32
  let v7 : BitVec 1 := Scalar.cmpi .slt arg2 c3_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwZIdeal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x4096, .bf16⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S4096x2048, .f32⟩
  | .hbm, ⟨7, _⟩ => ⟨S2048x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwXbc.lean ====
abbrev S8192x2048 : Shape := ⟨2, ![8192, 2048]⟩
abbrev S2048x6144 : Shape := ⟨2, ![2048, 6144]⟩
abbrev S8192x6144 : Shape := ⟨2, ![8192, 6144]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x6144, .bf16⟩
  | .hbm, ⟨3, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c3_i32 : BitVec 32 := 3#32
  let v7 : BitVec 1 := Scalar.cmpi .slt arg2 c3_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwXbcIdeal.lean ====
abbrev S8192x2048 : Shape := ⟨2, ![8192, 2048]⟩
abbrev S2048x6144 : Shape := ⟨2, ![2048, 6144]⟩
abbrev S8192x6144 : Shape := ⟨2, ![8192, 6144]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x6144, .bf16⟩
  | .hbm, ⟨3, _⟩ => ⟨S8192x2048, .f32⟩
  | .hbm, ⟨4, _⟩ => ⟨S8192x6144, .f32⟩
  | .hbm, ⟨5, _⟩ => ⟨S8192x6144, .f32⟩
  | .hbm, ⟨6, _⟩ => ⟨S6144x2048, .f32⟩
  | .hbm, ⟨7, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDt.lean ====
abbrev S8192x2048 : Shape := ⟨2, ![8192, 2048]⟩
abbrev S2048x128 : Shape := ⟨2, ![2048, 128]⟩
abbrev S8192x128 : Shape := ⟨2, ![8192, 128]⟩
abbrev S2048x1024 : Shape := ⟨2, ![2048, 1024]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x128, .f32⟩
  | .hbm, ⟨2, _⟩ => ⟨S8192x128, .f32⟩
  | .hbm, ⟨3, _⟩ => ⟨S2048x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let c3_i32 : BitVec 32 := 3#32
  let v8 : BitVec 1 := Scalar.cmpi .slt arg2 c3_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwDtIdeal.lean ====
abbrev S8192x2048 : Shape := ⟨2, ![8192, 2048]⟩
abbrev S2048x128 : Shape := ⟨2, ![2048, 128]⟩
abbrev S8192x128 : Shape := ⟨2, ![8192, 128]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .f32⟩
  | .hbm, ⟨2, _⟩ => ⟨S8192x128, .f32⟩
  | .hbm, ⟨3, _⟩ => ⟨S8192x2048, .f32⟩
  | .hbm, ⟨4, _⟩ => ⟨S8192x128, .f32⟩
  | .hbm, ⟨5, _⟩ => ⟨S128x2048, .f32⟩
  | .hbm, ⟨6, _⟩ => ⟨S2048x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Du0.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Du0Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDu0Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S_ : Shape := ⟨0, ![]⟩
abbrev S4x1x2048x2048 : Shape := ⟨4, ![4, 1, 2048, 2048]⟩
abbrev S4x2048x2048 : Shape := ⟨3, ![4, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S4x1x2048x2048, .bf16⟩
  | .hbm, ⟨16, _⟩ => ⟨S4x2048x2048, .bf16⟩
  | .hbm, ⟨17, _⟩ => ⟨S8192x2048, .bf16⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Du1.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Du1Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDu1Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S_ : Shape := ⟨0, ![]⟩
abbrev S4x1x2048x2048 : Shape := ⟨4, ![4, 1, 2048, 2048]⟩
abbrev S4x2048x2048 : Shape := ⟨3, ![4, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S4x1x2048x2048, .bf16⟩
  | .hbm, ⟨16, _⟩ => ⟨S4x2048x2048, .bf16⟩
  | .hbm, ⟨17, _⟩ => ⟨S8192x2048, .bf16⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Du2.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Du2Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDu2Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S_ : Shape := ⟨0, ![]⟩
abbrev S4x1x2048x2048 : Shape := ⟨4, ![4, 1, 2048, 2048]⟩
abbrev S4x2048x2048 : Shape := ⟨3, ![4, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S4x1x2048x2048, .bf16⟩
  | .hbm, ⟨16, _⟩ => ⟨S4x2048x2048, .bf16⟩
  | .hbm, ⟨17, _⟩ => ⟨S8192x2048, .bf16⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Du3.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Du3Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDu3Ideal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S_ : Shape := ⟨0, ![]⟩
abbrev S4x1x2048x2048 : Shape := ⟨4, ![4, 1, 2048, 2048]⟩
abbrev S4x2048x2048 : Shape := ⟨3, ![4, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4x4x2048x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S4x1x2048x2048, .bf16⟩
  | .hbm, ⟨16, _⟩ => ⟨S4x2048x2048, .bf16⟩
  | .hbm, ⟨17, _⟩ => ⟨S8192x2048, .bf16⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Dh0.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh0Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh0Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S4x1x2048x2048, .bf16⟩
  | .hbm, ⟨4, _⟩ => ⟨S4x2048x2048, .bf16⟩
  | .hbm, ⟨5, _⟩ => ⟨S2048x4x2048, .bf16⟩
  | .hbm, ⟨6, _⟩ => ⟨S2048x8192, .bf16⟩
  | .hbm, ⟨7, _⟩ => ⟨S2048x8192, .f32⟩
  | .hbm, ⟨8, _⟩ => ⟨S8192x8192, .f32⟩
  | .hbm, ⟨9, _⟩ => ⟨S8192x8192, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh1.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh1Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S4x1x2048x2048, .bf16⟩
  | .hbm, ⟨4, _⟩ => ⟨S4x2048x2048, .bf16⟩
  | .hbm, ⟨5, _⟩ => ⟨S2048x4x2048, .bf16⟩
  | .hbm, ⟨6, _⟩ => ⟨S2048x8192, .bf16⟩
  | .hbm, ⟨7, _⟩ => ⟨S2048x8192, .f32⟩
  | .hbm, ⟨8, _⟩ => ⟨S8192x8192, .f32⟩
  | .hbm, ⟨9, _⟩ => ⟨S8192x8192, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh2.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  ![v16.toNat, c2_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  ![v16.toNat, c2_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh2Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S4x1x2048x2048, .bf16⟩
  | .hbm, ⟨4, _⟩ => ⟨S4x2048x2048, .bf16⟩
  | .hbm, ⟨5, _⟩ => ⟨S2048x4x2048, .bf16⟩
  | .hbm, ⟨6, _⟩ => ⟨S2048x8192, .bf16⟩
  | .hbm, ⟨7, _⟩ => ⟨S2048x8192, .f32⟩
  | .hbm, ⟨8, _⟩ => ⟨S8192x8192, .f32⟩
  | .hbm, ⟨9, _⟩ => ⟨S8192x8192, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh3.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh3Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh3Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x4x2048x2048, .bf16⟩
  | .hbm, ⟨2, _⟩ => ⟨S8192x8192, .bf16⟩
  | .hbm, ⟨3, _⟩ => ⟨S4x1x2048x2048, .bf16⟩
  | .hbm, ⟨4, _⟩ => ⟨S4x2048x2048, .bf16⟩
  | .hbm, ⟨5, _⟩ => ⟨S2048x4x2048, .bf16⟩
  | .hbm, ⟨6, _⟩ => ⟨S2048x8192, .bf16⟩
  | .hbm, ⟨7, _⟩ => ⟨S2048x8192, .f32⟩
  | .hbm, ⟨8, _⟩ => ⟨S8192x8192, .f32⟩
  | .hbm, ⟨9, _⟩ => ⟨S8192x8192, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhQkv0.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x2048x1536, .bf16⟩
  | .hbm, ⟨2, _⟩ => ⟨S8192x6144, .bf16⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhQkv0Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x2048x1536, .bf16⟩
  | .hbm, ⟨2, _⟩ => ⟨S8192x6144, .bf16⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhQkv0Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2x2048x1536, .bf16⟩
  | .hbm, ⟨2, _⟩ => ⟨S8192x6144, .bf16⟩
  | .hbm, ⟨3, _⟩ => ⟨S4x1x2048x1536, .bf16⟩
  | .hbm, ⟨4, _⟩ => ⟨S4x2048x1536, .bf16⟩
  | .hbm, ⟨5, _⟩ => ⟨S2048x4x1536, .bf16⟩
  | .hbm, ⟨6, _⟩ => ⟨S2048x6144, .bf16⟩
  | .hbm, ⟨7, _⟩ => ⟨S2048x6144, .f32⟩
  | .hbm, ⟨8, _⟩ => ⟨S8192x6144, .f32⟩
  | .hbm, ⟨9, _⟩ => ⟨S8192x6144, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhQkv1.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x2048x1536, .bf16⟩
  | .hbm, ⟨2, _⟩ => ⟨S8192x6144, .bf16⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhQkv1Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x2048x1536, .bf16⟩
  | .hbm, ⟨2, _⟩ => ⟨S8192x6144, .bf16⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhQkv1Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2x2048x1536, .bf16⟩
  | .hbm, ⟨2, _⟩ => ⟨S8192x6144, .bf16⟩
  | .hbm, ⟨3, _⟩ => ⟨S4x1x2048x1536, .bf16⟩
  | .hbm, ⟨4, _⟩ => ⟨S4x2048x1536, .bf16⟩
  | .hbm, ⟨5, _⟩ => ⟨S2048x4x1536, .bf16⟩
  | .hbm, ⟨6, _⟩ => ⟨S2048x6144, .bf16⟩
  | .hbm, ⟨7, _⟩ => ⟨S2048x6144, .f32⟩
  | .hbm, ⟨8, _⟩ => ⟨S8192x6144, .f32⟩
  | .hbm, ⟨9, _⟩ => ⟨S8192x6144, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Do0.lean ====
abbrev S8192x2048 : Shape := ⟨2, ![8192, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Do0Ideal.lean ====
abbrev S8192x2048 : Shape := ⟨2, ![8192, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDo0Ideal.lean ====
abbrev S8192x2048 : Shape := ⟨2, ![8192, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Do1.lean ====
abbrev S8192x2048 : Shape := ⟨2, ![8192, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Do1Ideal.lean ====
abbrev S8192x2048 : Shape := ⟨2, ![8192, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDo1Ideal.lean ====
abbrev S8192x2048 : Shape := ⟨2, ![8192, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ds0.lean ====
abbrev S8192x2048 : Shape := ⟨2, ![8192, 2048]⟩
abbrev S4x1x512x2048 : Shape := ⟨4, ![4, 1, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x1x512x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ds0Ideal.lean ====
abbrev S8192x2048 : Shape := ⟨2, ![8192, 2048]⟩
abbrev S4x1x512x2048 : Shape := ⟨4, ![4, 1, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x1x512x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDs0Ideal.lean ====
abbrev S8192x2048 : Shape := ⟨2, ![8192, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x512x2048, .bf16⟩
  | .hbm, ⟨2, _⟩ => ⟨S8192x2048, .bf16⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhIn0.lean ====
abbrev S8192x2048 : Shape := ⟨2, ![8192, 2048]⟩
abbrev S4x1x2048x1024 : Shape := ⟨4, ![4, 1, 2048, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x1x2048x1024, .bf16⟩
  | .hbm, ⟨2, _⟩ => ⟨S8192x4096, .f32⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let c3_i32 : BitVec 32 := 3#32
  let v9 : BitVec 1 := Scalar.cmpi .slt arg2 c3_i32
  let v10 : BitVec 1 := Scalar.andi v8 v9
  let v11 : BitVec 32 := Scalar.extui v10
  let c0_i32_7 : BitVec 32 := 0#32
  let v12 : BitVec 1 := Scalar.cmpi .ne v11 c0_i32_7
  v12

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhIn0Ideal.lean ====
abbrev S8192x2048 : Shape := ⟨2, ![8192, 2048]⟩
abbrev S4x1x2048x1024 : Shape := ⟨4, ![4, 1, 2048, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x1x2048x1024, .bf16⟩
  | .hbm, ⟨2, _⟩ => ⟨S8192x4096, .f32⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let c3_i32 : BitVec 32 := 3#32
  let v9 : BitVec 1 := Scalar.cmpi .slt arg2 c3_i32
  let v10 : BitVec 1 := Scalar.andi v8 v9
  let v11 : BitVec 32 := Scalar.extui v10
  let c0_i32_7 : BitVec 32 := 0#32
  let v12 : BitVec 1 := Scalar.cmpi .ne v11 c0_i32_7
  v12

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhIn0Ideal.lean ====
abbrev S8192x2048 : Shape := ⟨2, ![8192, 2048]⟩
abbrev S4x1x2048x1024 : Shape := ⟨4, ![4, 1, 2048, 1024]⟩
abbrev S8192x4096 : Shape := ⟨2, ![8192, 4096]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2048x1024, .bf16⟩
  | .hbm, ⟨2, _⟩ => ⟨S8192x4096, .f32⟩
  | .hbm, ⟨3, _⟩ => ⟨S4x2048x1024, .bf16⟩
  | .hbm, ⟨4, _⟩ => ⟨S2048x4x1024, .bf16⟩
  | .hbm, ⟨5, _⟩ => ⟨S2048x4096, .bf16⟩
  | .hbm, ⟨6, _⟩ => ⟨S2048x4096, .f32⟩
  | .hbm, ⟨7, _⟩ => ⟨S8192x4096, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dyn0.lean ====
abbrev S8192x4096 : Shape := ⟨2, ![8192, 4096]⟩
abbrev S4x1x1024x2048 : Shape := ⟨4, ![4, 1, 1024, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4x1x1024x2048, .bf16⟩
  | .hbm, ⟨2, _⟩ => ⟨S8192x2048, .bf16⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dyn0Ideal.lean ====
abbrev S8192x4096 : Shape := ⟨2, ![8192, 4096]⟩
abbrev S4x1x1024x2048 : Shape := ⟨4, ![4, 1, 1024, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4x1x1024x2048, .bf16⟩
  | .hbm, ⟨2, _⟩ => ⟨S8192x2048, .bf16⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyn0Ideal.lean ====
abbrev S8192x4096 : Shape := ⟨2, ![8192, 4096]⟩
abbrev S4x1x1024x2048 : Shape := ⟨4, ![4, 1, 1024, 2048]⟩
abbrev S8192x2048 : Shape := ⟨2, ![8192, 2048]⟩
abbrev S4x1024x2048 : Shape := ⟨3, ![4, 1024, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x1x1024x2048, .bf16⟩
  | .hbm, ⟨2, _⟩ => ⟨S8192x2048, .bf16⟩
  | .hbm, ⟨3, _⟩ => ⟨S4x1024x2048, .bf16⟩
  | .hbm, ⟨4, _⟩ => ⟨S4096x2048, .bf16⟩
  | .hbm, ⟨5, _⟩ => ⟨S4096x2048, .f32⟩
  | .hbm, ⟨6, _⟩ => ⟨S8192x2048, .f32⟩
  | .hbm, ⟨7, _⟩ => ⟨S8192x2048, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhZ.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .bf16⟩
  | .hbm, ⟨2, _⟩ => ⟨S8192x4096, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhZIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .bf16⟩
  | .hbm, ⟨2, _⟩ => ⟨S8192x4096, .bf16⟩
  | .hbm, ⟨3, _⟩ => ⟨S2048x4096, .f32⟩
  | .hbm, ⟨4, _⟩ => ⟨S8192x4096, .f32⟩
  | .hbm, ⟨5, _⟩ => ⟨S8192x4096, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhXbc.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x6144, .bf16⟩
  | .hbm, ⟨2, _⟩ => ⟨S8192x6144, .bf16⟩
  | .hbm, ⟨3, _⟩ => ⟨S8192x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c2_i32 : BitVec 32 := 2#32
  let v7 : BitVec 1 := Scalar.cmpi .slt arg2 c2_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDhXbcIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .bf16⟩
  | .hbm, ⟨2, _⟩ => ⟨S8192x6144, .bf16⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x6144, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DhDt.lean ====
abbrev S8192x2048 : Shape := ⟨2, ![8192, 2048]⟩
abbrev S2048x128 : Shape := ⟨2, ![2048, 128]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x128, .bf16⟩
  | .hbm, ⟨2, _⟩ => ⟨S8192x128, .f32⟩
  | .hbm, ⟨3, _⟩ => ⟨S8192x2048, .f32⟩
  | .hbm, ⟨4, _⟩ => ⟨S8192x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDhDtIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x128, .bf16⟩
  | .hbm, ⟨2, _⟩ => ⟨S8192x128, .f32⟩
  | .hbm, ⟨3, _⟩ => ⟨S8192x2048, .f32⟩
  | .hbm, ⟨4, _⟩ => ⟨S2048x128, .f32⟩
  | .hbm, ⟨5, _⟩ => ⟨S8192x128, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Up0.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up0Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUp0Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x1x2048x2048, .bf16⟩
  | .hbm, ⟨3, _⟩ => ⟨S4x2048x2048, .bf16⟩
  | .hbm, ⟨4, _⟩ => ⟨S2048x4x2048, .bf16⟩
  | .hbm, ⟨5, _⟩ => ⟨S2048x8192, .bf16⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Up1.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up1Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUp1Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x1x2048x2048, .bf16⟩
  | .hbm, ⟨3, _⟩ => ⟨S4x2048x2048, .bf16⟩
  | .hbm, ⟨4, _⟩ => ⟨S2048x4x2048, .bf16⟩
  | .hbm, ⟨5, _⟩ => ⟨S2048x8192, .bf16⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Up2.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up2Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUp2Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x1x2048x2048, .bf16⟩
  | .hbm, ⟨3, _⟩ => ⟨S4x2048x2048, .bf16⟩
  | .hbm, ⟨4, _⟩ => ⟨S2048x4x2048, .bf16⟩
  | .hbm, ⟨5, _⟩ => ⟨S2048x8192, .bf16⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Up3.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up3Ideal.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUp3Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x1x2048x2048, .bf16⟩
  | .hbm, ⟨3, _⟩ => ⟨S4x2048x2048, .bf16⟩
  | .hbm, ⟨4, _⟩ => ⟨S2048x4x2048, .bf16⟩
  | .hbm, ⟨5, _⟩ => ⟨S2048x8192, .bf16⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Down0.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Down0Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDown0Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S4x1x2048x2048, .bf16⟩
  | .hbm, ⟨4, _⟩ => ⟨S4x2048x2048, .bf16⟩
  | .hbm, ⟨5, _⟩ => ⟨S8192x2048, .bf16⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down1.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Down1Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDown1Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S4x1x2048x2048, .bf16⟩
  | .hbm, ⟨4, _⟩ => ⟨S4x2048x2048, .bf16⟩
  | .hbm, ⟨5, _⟩ => ⟨S8192x2048, .bf16⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down2.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  ![v16.toNat, c2_i32.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Down2Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  ![v16.toNat, c2_i32.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDown2Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S4x1x2048x2048, .bf16⟩
  | .hbm, ⟨4, _⟩ => ⟨S4x2048x2048, .bf16⟩
  | .hbm, ⟨5, _⟩ => ⟨S8192x2048, .bf16⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down3.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Down3Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDown3Ideal.lean ====
abbrev S8192x2048 : Shape := ⟨2, ![8192, 2048]⟩
abbrev S8192x8192 : Shape := ⟨2, ![8192, 8192]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x4x2048x2048, .bf16⟩
  | .hbm, ⟨3, _⟩ => ⟨S4x1x2048x2048, .bf16⟩
  | .hbm, ⟨4, _⟩ => ⟨S4x2048x2048, .bf16⟩
  | .hbm, ⟨5, _⟩ => ⟨S8192x2048, .bf16⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qkv0.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .f32⟩
  | .local _ .vmem, ⟨5, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv0Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .f32⟩
  | .local _ .vmem, ⟨5, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefQkv0Ideal.lean ====
abbrev S8192x2048 : Shape := ⟨2, ![8192, 2048]⟩
abbrev S4x2x2048x1536 : Shape := ⟨4, ![4, 2, 2048, 1536]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S4x1x2048x1536, .bf16⟩
  | .hbm, ⟨3, _⟩ => ⟨S4x2048x1536, .bf16⟩
  | .hbm, ⟨4, _⟩ => ⟨S2048x4x1536, .bf16⟩
  | .hbm, ⟨5, _⟩ => ⟨S2048x6144, .bf16⟩
  | .hbm, ⟨6, _⟩ => ⟨S8192x2048, .f32⟩
  | .hbm, ⟨7, _⟩ => ⟨S2048x6144, .f32⟩
  | .hbm, ⟨8, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Qkv1.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .f32⟩
  | .local _ .vmem, ⟨5, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv1Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .f32⟩
  | .local _ .vmem, ⟨5, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefQkv1Ideal.lean ====
abbrev S8192x2048 : Shape := ⟨2, ![8192, 2048]⟩
abbrev S4x2x2048x1536 : Shape := ⟨4, ![4, 2, 2048, 1536]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S4x1x2048x1536, .bf16⟩
  | .hbm, ⟨3, _⟩ => ⟨S4x2048x1536, .bf16⟩
  | .hbm, ⟨4, _⟩ => ⟨S2048x4x1536, .bf16⟩
  | .hbm, ⟨5, _⟩ => ⟨S2048x6144, .bf16⟩
  | .hbm, ⟨6, _⟩ => ⟨S8192x2048, .f32⟩
  | .hbm, ⟨7, _⟩ => ⟨S2048x6144, .f32⟩
  | .hbm, ⟨8, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Out0.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2x512x2048, .bf16⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Out0Ideal.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2x512x2048, .bf16⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefOut0Ideal.lean ====
abbrev S8192x2048 : Shape := ⟨2, ![8192, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2x512x2048, .bf16⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out1.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2x512x2048, .bf16⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Out1Ideal.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2x512x2048, .bf16⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefOut1Ideal.lean ====
abbrev S8192x2048 : Shape := ⟨2, ![8192, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2x512x2048, .bf16⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CfIn.lean ====
abbrev S8192x2048 : Shape := ⟨2, ![8192, 2048]⟩
abbrev S4x1x2048x1024 : Shape := ⟨4, ![4, 1, 2048, 1024]⟩
abbrev S1x4096 : Shape := ⟨2, ![1, 4096]⟩
abbrev S8192x4096 : Shape := ⟨2, ![8192, 4096]⟩
abbrev S1024x2048 : Shape := ⟨2, ![1024, 2048]⟩
abbrev S1x1x2048x1024 : Shape := ⟨4, ![1, 1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x1x2048x1024, .bf16⟩
  | .hbm, ⟨2, _⟩ => ⟨S1x4096, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefCfInIdeal.lean ====
abbrev S8192x2048 : Shape := ⟨2, ![8192, 2048]⟩
abbrev S4x1x2048x1024 : Shape := ⟨4, ![4, 1, 2048, 1024]⟩
abbrev S1x4096 : Shape := ⟨2, ![1, 4096]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1x2048x1024, .bf16⟩
  | .hbm, ⟨2, _⟩ => ⟨S1x4096, .f32⟩
  | .hbm, ⟨3, _⟩ => ⟨S4x2048x1024, .bf16⟩
  | .hbm, ⟨4, _⟩ => ⟨S2048x4x1024, .bf16⟩
  | .hbm, ⟨5, _⟩ => ⟨S2048x4096, .bf16⟩
  | .hbm, ⟨6, _⟩ => ⟨S8192x2048, .f32⟩
  | .hbm, ⟨7, _⟩ => ⟨S2048x4096, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== CfOut.lean ====
abbrev S8192x2048 : Shape := ⟨2, ![8192, 2048]⟩
abbrev S4x1x512x2048 : Shape := ⟨4, ![4, 1, 512, 2048]⟩
abbrev S1x2048 : Shape := ⟨2, ![1, 2048]⟩
abbrev S1024x512 : Shape := ⟨2, ![1024, 512]⟩
abbrev S1x1x512x1024 : Shape := ⟨4, ![1, 1, 512, 1024]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x1x512x2048, .bf16⟩
  | .hbm, ⟨3, _⟩ => ⟨S1x2048, .f32⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefCfOutIdeal.lean ====
abbrev S8192x2048 : Shape := ⟨2, ![8192, 2048]⟩
abbrev S4x1x512x2048 : Shape := ⟨4, ![4, 1, 512, 2048]⟩
abbrev S1x2048 : Shape := ⟨2, ![1, 2048]⟩
abbrev S4x512x2048 : Shape := ⟨3, ![4, 512, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x1x512x2048, .bf16⟩
  | .hbm, ⟨3, _⟩ => ⟨S1x2048, .f32⟩
  | .hbm, ⟨4, _⟩ => ⟨S4x512x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Z.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefZIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Xbc.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefXbcIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dt.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDtIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== M2Out0.lean ====
abbrev S8192x2048 : Shape := ⟨2, ![8192, 2048]⟩
abbrev S8192x4096 : Shape := ⟨2, ![8192, 4096]⟩
abbrev S4x1x1024x2048 : Shape := ⟨4, ![4, 1, 1024, 2048]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4x1x1024x2048, .bf16⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== M2Out0Ideal.lean ====
abbrev S8192x2048 : Shape := ⟨2, ![8192, 2048]⟩
abbrev S8192x4096 : Shape := ⟨2, ![8192, 4096]⟩
abbrev S4x1x1024x2048 : Shape := ⟨4, ![4, 1, 1024, 2048]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4x1x1024x2048, .bf16⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let c3_i32 : BitVec 32 := 3#32
  let v8 : BitVec 1 := Scalar.cmpi .slt arg2 c3_i32
  let v9 : BitVec 1 := Scalar.andi v7 v8
  let v10 : BitVec 32 := Scalar.extui v9
  let c0_i32_7 : BitVec 32 := 0#32
  let v11 : BitVec 1 := Scalar.cmpi .ne v10 c0_i32_7
  v11

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefM2Out0Ideal.lean ====
abbrev S8192x2048 : Shape := ⟨2, ![8192, 2048]⟩
abbrev S8192x4096 : Shape := ⟨2, ![8192, 4096]⟩
abbrev S4x1x1024x2048 : Shape := ⟨4, ![4, 1, 1024, 2048]⟩
abbrev S4x1024x2048 : Shape := ⟨3, ![4, 1024, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4x1x1024x2048, .bf16⟩
  | .hbm, ⟨3, _⟩ => ⟨S4x1024x2048, .bf16⟩
  | .hbm, ⟨4, _⟩ => ⟨S4096x2048, .bf16⟩
  | .hbm, ⟨5, _⟩ => ⟨S8192x4096, .f32⟩
  | .hbm, ⟨6, _⟩ => ⟨S4096x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamQkv.lean ====
abbrev S4096x1536 : Shape := ⟨2, ![4096, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvIdeal.lean ====
abbrev S4096x1536 : Shape := ⟨2, ![4096, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamQkvIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamO.lean ====
abbrev S1024x2048 : Shape := ⟨2, ![1024, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOIdeal.lean ====
abbrev S1024x2048 : Shape := ⟨2, ![1024, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamOIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCfIn.lean ====
abbrev S2048x1024 : Shape := ⟨2, ![2048, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCfInIdeal.lean ====
abbrev S2048x1024 : Shape := ⟨2, ![2048, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamCfInIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCfOut.lean ====
abbrev S512x2048 : Shape := ⟨2, ![512, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCfOutIdeal.lean ====
abbrev S512x2048 : Shape := ⟨2, ![512, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamCfOutIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamM2In.lean ====
abbrev S2048x2576 : Shape := ⟨2, ![2048, 2576]⟩
abbrev S64x2576 : Shape := ⟨2, ![64, 2576]⟩

abbrev nBuf : Space → Nat
  | .hbm => 7
  | .vmem => 14
  | .smem => 0
  | _ => 0

abbrev bufTy : (tb : Table) → Fin (tcTables nBuf tb) → BufTy
  | .hbm, ⟨0, _⟩ => ⟨S2048x2576, .f32⟩
  | .hbm, ⟨1, _⟩ => ⟨S2048x2576, .f32⟩
  | .hbm, ⟨2, _⟩ => ⟨S2048x2576, .f32⟩
  | .hbm, ⟨3, _⟩ => ⟨S2048x2576, .f32⟩
  | .hbm, ⟨4, _⟩ => ⟨S2048x2576, .f32⟩
  | .hbm, ⟨5, _⟩ => ⟨S2048x2576, .f32⟩
  | .hbm, ⟨6, _⟩ => ⟨S2048x2576, .f32⟩
  | .local _ .vmem, ⟨0, _⟩ => ⟨S64x2576, .f32⟩
  | .local _ .vmem, ⟨1, _⟩ => ⟨S64x2576, .f32⟩
  | .local _ .vmem, ⟨2, _⟩ => ⟨S64x2576, .f32⟩
  | .local _ .vmem, ⟨3, _⟩ => ⟨S64x2576, .f32⟩
  | .local _ .vmem, ⟨4, _⟩ => ⟨S64x2576, .f32⟩
  | .local _ .vmem, ⟨5, _⟩ => ⟨S64x2576, .f32⟩
  | .local _ .vmem, ⟨6, _⟩ => ⟨S64x2576, .f32⟩
  | .local _ .vmem, ⟨7, _⟩ => ⟨S64x2576, .f32⟩
  | .local _ .vmem, ⟨8, _⟩ => ⟨S64x2576, .f32⟩
  | .local _ .vmem, ⟨9, _⟩ => ⟨S64x2576, .f32⟩
  | .local _ .vmem, ⟨10, _⟩ => ⟨S64x2576, .f32⟩
  | .local _ .vmem, ⟨11, _⟩ => ⟨S64x2576, .f32⟩
  | .local _ .vmem, ⟨12, _⟩ => ⟨S64x2576, .f32⟩
  | .local _ .vmem, ⟨13, _⟩ => ⟨S64x2576, .f32⟩
  | _, _ => ⟨S2048x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamM2InIdeal.lean ====
abbrev S2048x2576 : Shape := ⟨2, ![2048, 2576]⟩
abbrev S64x2576 : Shape := ⟨2, ![64, 2576]⟩

abbrev nBuf : Space → Nat
  | .hbm => 7
  | .vmem => 14
  | .smem => 0
  | _ => 0

abbrev bufTy : (tb : Table) → Fin (tcTables nBuf tb) → BufTy
  | .hbm, ⟨0, _⟩ => ⟨S2048x2576, .f32⟩
  | .hbm, ⟨1, _⟩ => ⟨S2048x2576, .f32⟩
  | .hbm, ⟨2, _⟩ => ⟨S2048x2576, .f32⟩
  | .hbm, ⟨3, _⟩ => ⟨S2048x2576, .f32⟩
  | .hbm, ⟨4, _⟩ => ⟨S2048x2576, .f32⟩
  | .hbm, ⟨5, _⟩ => ⟨S2048x2576, .f32⟩
  | .hbm, ⟨6, _⟩ => ⟨S2048x2576, .f32⟩
  | .local _ .vmem, ⟨0, _⟩ => ⟨S64x2576, .f32⟩
  | .local _ .vmem, ⟨1, _⟩ => ⟨S64x2576, .f32⟩
  | .local _ .vmem, ⟨2, _⟩ => ⟨S64x2576, .f32⟩
  | .local _ .vmem, ⟨3, _⟩ => ⟨S64x2576, .f32⟩
  | .local _ .vmem, ⟨4, _⟩ => ⟨S64x2576, .f32⟩
  | .local _ .vmem, ⟨5, _⟩ => ⟨S64x2576, .f32⟩
  | .local _ .vmem, ⟨6, _⟩ => ⟨S64x2576, .f32⟩
  | .local _ .vmem, ⟨7, _⟩ => ⟨S64x2576, .f32⟩
  | .local _ .vmem, ⟨8, _⟩ => ⟨S64x2576, .f32⟩
  | .local _ .vmem, ⟨9, _⟩ => ⟨S64x2576, .f32⟩
  | .local _ .vmem, ⟨10, _⟩ => ⟨S64x2576, .f32⟩
  | .local _ .vmem, ⟨11, _⟩ => ⟨S64x2576, .f32⟩
  | .local _ .vmem, ⟨12, _⟩ => ⟨S64x2576, .f32⟩
  | .local _ .vmem, ⟨13, _⟩ => ⟨S64x2576, .f32⟩
  | _, _ => ⟨S2048x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamM2InIdeal.lean ====
abbrev S2048x2576 : Shape := ⟨2, ![2048, 2576]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2576, .f32⟩
  | .hbm, ⟨1, _⟩ => ⟨S2048x2576, .f32⟩
  | .hbm, ⟨2, _⟩ => ⟨S2048x2576, .f32⟩
  | .hbm, ⟨3, _⟩ => ⟨S2048x2576, .f32⟩
  | .hbm, ⟨4, _⟩ => ⟨S_, .f32⟩
  | .hbm, ⟨5, _⟩ => ⟨S2048x2576, .f32⟩
  | .hbm, ⟨6, _⟩ => ⟨S2048x2576, .f32⟩
  | .hbm, ⟨7, _⟩ => ⟨S_, .f32⟩
  | .hbm, ⟨8, _⟩ => ⟨S2048x2576, .f32⟩
  | .hbm, ⟨9, _⟩ => ⟨S2048x2576, .f32⟩
  | .hbm, ⟨10, _⟩ => ⟨S2048x2576, .f32⟩
  | .hbm, ⟨11, _⟩ => ⟨S_, .f32⟩
  | .hbm, ⟨12, _⟩ => ⟨S2048x2576, .f32⟩
  | .hbm, ⟨13, _⟩ => ⟨S2048x2576, .f32⟩
  | .hbm, ⟨14, _⟩ => ⟨S2048x2576, .f32⟩
  | .hbm, ⟨15, _⟩ => ⟨S_, .f32⟩
  | .hbm, ⟨16, _⟩ => ⟨S2048x2576, .f32⟩
  | .hbm, ⟨17, _⟩ => ⟨S2048x2576, .f32⟩
  | .hbm, ⟨18, _⟩ => ⟨S2048x2576, .f32⟩
  | .hbm, ⟨19, _⟩ => ⟨S_, .f32⟩
  | .hbm, ⟨20, _⟩ => ⟨S2048x2576, .f32⟩
  | .hbm, ⟨21, _⟩ => ⟨S2048x2576, .f32⟩
  | .hbm, ⟨22, _⟩ => ⟨S_, .f32⟩
  | .hbm, ⟨23, _⟩ => ⟨S2048x2576, .f32⟩
  | .hbm, ⟨24, _⟩ => ⟨S2048x2576, .f32⟩
  | .hbm, ⟨25, _⟩ => ⟨S2048x2576, .f32⟩
  | .hbm, ⟨26, _⟩ => ⟨S_, .f32⟩
  | .hbm, ⟨27, _⟩ => ⟨S2048x2576, .f32⟩
  | .hbm, ⟨28, _⟩ => ⟨S2048x2576, .f32⟩
  | .hbm, ⟨29, _⟩ => ⟨S2048x2576, .f32⟩
  | .hbm, ⟨30, _⟩ => ⟨S_, .f32⟩
  | .hbm, ⟨31, _⟩ => ⟨S2048x2576, .f32⟩
  | .hbm, ⟨32, _⟩ => ⟨S2048x2576, .f32⟩
  | .hbm, ⟨33, _⟩ => ⟨S2048x2576, .f32⟩
  | .hbm, ⟨34, _⟩ => ⟨S_, .f32⟩
  | .hbm, ⟨35, _⟩ => ⟨S2048x2576, .f32⟩
  | .hbm, ⟨36, _⟩ => ⟨S2048x2576, .f32⟩
  | _, _ => ⟨S2048x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlp.lean ====
abbrev S8192x2048 : Shape := ⟨2, ![8192, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpIdeal.lean ====
abbrev S8192x2048 : Shape := ⟨2, ![8192, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamMlpIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCfConv.lean ====
abbrev S31x512 : Shape := ⟨2, ![31, 512]⟩

abbrev nBuf : Space → Nat
  | .hbm => 7
  | .vmem => 7
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCfConvIdeal.lean ====
abbrev S31x512 : Shape := ⟨2, ![31, 512]⟩

abbrev nBuf : Space → Nat
  | .hbm => 7
  | .vmem => 7
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamCfConvIdeal.lean ====
abbrev S31x512 : Shape := ⟨2, ![31, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S_, .f32⟩
  | .hbm, ⟨5, _⟩ => ⟨S31x512, .f32⟩
  | .hbm, ⟨6, _⟩ => ⟨S31x512, .f32⟩
  | .hbm, ⟨7, _⟩ => ⟨S_, .f32⟩
  | .hbm, ⟨8, _⟩ => ⟨S31x512, .f32⟩
  | .hbm, ⟨9, _⟩ => ⟨S31x512, .f32⟩
  | .hbm, ⟨10, _⟩ => ⟨S31x512, .f32⟩
  | .hbm, ⟨11, _⟩ => ⟨S_, .f32⟩
  | .hbm, ⟨12, _⟩ => ⟨S31x512, .f32⟩
  | .hbm, ⟨13, _⟩ => ⟨S31x512, .f32⟩
  | .hbm, ⟨14, _⟩ => ⟨S31x512, .f32⟩
  | .hbm, ⟨15, _⟩ => ⟨S_, .f32⟩
  | .hbm, ⟨16, _⟩ => ⟨S31x512, .f32⟩
  | .hbm, ⟨17, _⟩ => ⟨S31x512, .f32⟩
  | .hbm, ⟨18, _⟩ => ⟨S31x512, .f32⟩
  | .hbm, ⟨19, _⟩ => ⟨S_, .f32⟩
  | .hbm, ⟨20, _⟩ => ⟨S31x512, .f32⟩
  | .hbm, ⟨21, _⟩ => ⟨S31x512, .f32⟩
  | .hbm, ⟨22, _⟩ => ⟨S_, .f32⟩
  | .hbm, ⟨23, _⟩ => ⟨S31x512, .f32⟩
  | .hbm, ⟨24, _⟩ => ⟨S31x512, .f32⟩
  | .hbm, ⟨25, _⟩ => ⟨S31x512, .f32⟩
  | .hbm, ⟨26, _⟩ => ⟨S_, .f32⟩
  | .hbm, ⟨27, _⟩ => ⟨S31x512, .f32⟩
  | .hbm, ⟨28, _⟩ => ⟨S31x512, .f32⟩
  | .hbm, ⟨29, _⟩ => ⟨S31x512, .f32⟩
  | .hbm, ⟨30, _⟩ => ⟨S_, .f32⟩
  | .hbm, ⟨31, _⟩ => ⟨S31x512, .f32⟩
  | .hbm, ⟨32, _⟩ => ⟨S31x512, .f32⟩
  | .hbm, ⟨33, _⟩ => ⟨S31x512, .f32⟩
  | .hbm, ⟨34, _⟩ => ⟨S_, .f32⟩
  | .hbm, ⟨35, _⟩ => ⟨S31x512, .f32⟩
  | .hbm, ⟨36, _⟩ => ⟨S31x512, .f32⟩
  | _, _ => ⟨S31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamM2Conv.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamM2ConvIdeal.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamM2ConvIdeal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamM2Bias.lean ====
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamM2BiasIdeal.lean ====
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamM2BiasIdeal.lean ====
abbrev S1x1536 : Shape := ⟨2, ![1, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S_, .f32⟩
  | .hbm, ⟨5, _⟩ => ⟨S1x1536, .f32⟩
  | .hbm, ⟨6, _⟩ => ⟨S1x1536, .f32⟩
  | .hbm, ⟨7, _⟩ => ⟨S_, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S_, .f32⟩
  | .hbm, ⟨12, _⟩ => ⟨S1x1536, .f32⟩
  | .hbm, ⟨13, _⟩ => ⟨S1x1536, .f32⟩
  | .hbm, ⟨14, _⟩ => ⟨S1x1536, .f32⟩
  | .hbm, ⟨15, _⟩ => ⟨S_, .f32⟩
  | .hbm, ⟨16, _⟩ => ⟨S1x1536, .f32⟩
  | .hbm, ⟨17, _⟩ => ⟨S1x1536, .f32⟩
  | .hbm, ⟨18, _⟩ => ⟨S1x1536, .f32⟩
  | .hbm, ⟨19, _⟩ => ⟨S_, .f32⟩
  | .hbm, ⟨20, _⟩ => ⟨S1x1536, .f32⟩
  | .hbm, ⟨21, _⟩ => ⟨S1x1536, .f32⟩
  | .hbm, ⟨22, _⟩ => ⟨S_, .f32⟩
  | .hbm, ⟨23, _⟩ => ⟨S1x1536, .f32⟩
  | .hbm, ⟨24, _⟩ => ⟨S1x1536, .f32⟩
  | .hbm, ⟨25, _⟩ => ⟨S1x1536, .f32⟩
  | .hbm, ⟨26, _⟩ => ⟨S_, .f32⟩
  | .hbm, ⟨27, _⟩ => ⟨S1x1536, .f32⟩
  | .hbm, ⟨28, _⟩ => ⟨S1x1536, .f32⟩
  | .hbm, ⟨29, _⟩ => ⟨S1x1536, .f32⟩
  | .hbm, ⟨30, _⟩ => ⟨S_, .f32⟩
  | .hbm, ⟨31, _⟩ => ⟨S1x1536, .f32⟩
  | .hbm, ⟨32, _⟩ => ⟨S1x1536, .f32⟩
  | .hbm, ⟨33, _⟩ => ⟨S1x1536, .f32⟩
  | .hbm, ⟨34, _⟩ => ⟨S_, .f32⟩
  | .hbm, ⟨35, _⟩ => ⟨S1x1536, .f32⟩
  | .hbm, ⟨36, _⟩ => ⟨S1x1536, .f32⟩
  | _, _ => ⟨S1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamM2Norm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamM2NormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamM2NormIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRepl.lean ====
abbrev S1024x128 : Shape := ⟨2, ![1024, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamReplIdeal.lean ====
abbrev S1024x128 : Shape := ⟨2, ![1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RmsBwd.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RefRmsBwdIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== BiasIn.lean ====
abbrev S8192x4096 : Shape := ⟨2, ![8192, 4096]⟩
abbrev S1x4096 : Shape := ⟨2, ![1, 4096]⟩
abbrev S256x4096 : Shape := ⟨2, ![256, 4096]⟩
abbrev S4096 : Shape := ⟨1, ![4096]⟩

abbrev nBuf : Space → Nat
  | .hbm => 2
  | .vmem => 3
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== BiasInIdeal.lean ====
abbrev S8192x4096 : Shape := ⟨2, ![8192, 4096]⟩
abbrev S1x4096 : Shape := ⟨2, ![1, 4096]⟩
abbrev S256x4096 : Shape := ⟨2, ![256, 4096]⟩
abbrev S4096 : Shape := ⟨1, ![4096]⟩

abbrev nBuf : Space → Nat
  | .hbm => 2
  | .vmem => 3
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== RefBiasInIdeal.lean ====
abbrev S8192x4096 : Shape := ⟨2, ![8192, 4096]⟩
abbrev S_ : Shape := ⟨0, ![]⟩
abbrev S1x4096 : Shape := ⟨2, ![1, 4096]⟩
abbrev S4096 : Shape := ⟨1, ![4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S1x4096, .f32⟩
  | .hbm, ⟨3, _⟩ => ⟨S8192x4096, .f32⟩
  | .hbm, ⟨4, _⟩ => ⟨S_, .f32⟩
  | .hbm, ⟨5, _⟩ => ⟨S4096, .f32⟩
  | .hbm, ⟨6, _⟩ => ⟨S1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BiasOut.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== RefBiasOutIdeal.lean ====
abbrev S8192x2048 : Shape := ⟨2, ![8192, 2048]⟩
abbrev S_ : Shape := ⟨0, ![]⟩
abbrev S1x2048 : Shape := ⟨2, ![1, 2048]⟩
abbrev S2048 : Shape := ⟨1, ![2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S2048, .f32⟩
  | .hbm, ⟨6, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Conv4Buf.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Conv4

open Cert.KernelIdeal Cert.KernelIdeal.Gen Idealize.ShloMosaic Idealize.ShloMosaic.TcCoe Idealize.SL.Sem

/-! # The two buffers of one grid point

A point of the convolution's backward pass first copies its 512 rows of `x` behind 8 rows of the block before, and its 512 rows of the
cotangent in front of 8 rows of the block after. Every load of the body reads one of these two buffers. -/

/-- 512 rows `B` followed by the 8 rows `A`. -/
def below {α : Type} (B : S512x1024.Idx → α) (A : S8x1024.Idx → α) : S520x1024.Idx → α := fun i =>
  if h : (i 0 : ℕ) < 512 then B (ix2 ⟨i 0, h⟩ (i 1)) else A (ix2 ⟨(i 0 : ℕ) - 512, by have := (i 0).isLt; show _ < 8; change _ < 520 at this; omega⟩ (i 1))

/-- The 8 rows `A` followed by 512 rows `B`. -/
def above {α : Type} (A : S8x1024.Idx → α) (B : S512x1024.Idx → α) : S520x1024.Idx → α := fun i =>
  if h : (i 0 : ℕ) < 8 then A (ix2 ⟨i 0, h⟩ (i 1)) else B (ix2 ⟨(i 0 : ℕ) - 8, by have := (i 0).isLt; show _ < 512; change _ < 520 at this; omega⟩ (i 1))

section
variable {Val : EltTy → Type} [∀ e, Nonempty (Val e)] {sig : RefSig} {κ : Kind} {sp : Space} {e : EltTy}

/-- Any load of the buffer filled by these two stores reads `below`. -/
theorem readCov_below (v : View sig κ sp S520x1024 e) (inA inB) (A : S8x1024.Idx → Val e) (B : S512x1024.Idx → Val e) (R : Rect S520x1024) :
    v.readCov [⟨Rect.unit ![512, 0] (no_index S8x1024.size) inA, A⟩, ⟨Rect.unit ![0, 0] (no_index S512x1024.size) inB, B⟩] R.toLoadRect = View.ld (below B A) R := by
  rw [View.readCov_eq_canon']
  funext j
  show View.canon _ (R.emb j) = below B A (R.emb j)
  generalize R.emb j = y
  have hc : ∃ p ∈ ([⟨Rect.unit ![512, 0] S8x1024.size inA, A⟩, ⟨Rect.unit ![0, 0] S512x1024.size inB, B⟩] : List (View.Piece Val S520x1024 e)), y ∈ p.1.set := by
    have h0 : (y 0 : ℕ) < 520 := (y 0).isLt
    have h1 : (y 1 : ℕ) < 1024 := (y 1).isLt
    by_cases hy : (y 0 : ℕ) < 512
    · refine ⟨_, List.mem_cons_of_mem _ List.mem_cons_self, (Rect.mem_set_unit (inb := inB)).2 fun a => ?_⟩
      fin_cases a
      · exact ⟨Nat.zero_le _, by show (y 0 : ℕ) < 0 + 512; omega⟩
      · exact ⟨Nat.zero_le _, by show (y 1 : ℕ) < 0 + 1024; omega⟩
    · refine ⟨_, List.mem_cons_self, (Rect.mem_set_unit (inb := inA)).2 fun a => ?_⟩
      fin_cases a
      · exact ⟨by show 512 ≤ (y 0 : ℕ); omega, by show (y 0 : ℕ) < 512 + 8; omega⟩
      · exact ⟨Nat.zero_le _, by show (y 1 : ℕ) < 0 + 1024; omega⟩
  canon_tiles x h using hc
  · unfold below
    rw [dif_neg (by omega)]
    refine congrArg A (funext fun a => Fin.ext ?_)
    fin_cases a
    · show (x 0 : ℕ) = (y 0 : ℕ) - 512; omega
    · exact h1.symm
  · unfold below
    rw [dif_pos (by omega)]
    refine congrArg B (funext fun a => Fin.ext ?_)
    fin_cases a
    · show (x 0 : ℕ) = (y 0 : ℕ); omega
    · exact h1.symm

theorem readCov_above (v : View sig κ sp S520x1024 e) (inA inB) (A : S8x1024.Idx → Val e) (B : S512x1024.Idx → Val e) (R : Rect S520x1024) :
    v.readCov [⟨Rect.unit ![8, 0] (no_index S512x1024.size) inB, B⟩, ⟨Rect.unit ![0, 0] (no_index S8x1024.size) inA, A⟩] R.toLoadRect = View.ld (above A B) R := by
  rw [View.readCov_eq_canon']
  funext j
  show View.canon _ (R.emb j) = above A B (R.emb j)
  generalize R.emb j = y
  have hc : ∃ p ∈ ([⟨Rect.unit ![8, 0] S512x1024.size inB, B⟩, ⟨Rect.unit ![0, 0] S8x1024.size inA, A⟩] : List (View.Piece Val S520x1024 e)), y ∈ p.1.set := by
    have h0 : (y 0 : ℕ) < 520 := (y 0).isLt
    have h1 : (y 1 : ℕ) < 1024 := (y 1).isLt
    by_cases hy : (y 0 : ℕ) < 8
    · refine ⟨_, List.mem_cons_of_mem _ List.mem_cons_self, (Rect.mem_set_unit (inb := inA)).2 fun a => ?_⟩
      fin_cases a
      · exact ⟨Nat.zero_le _, by show (y 0 : ℕ) < 0 + 8; omega⟩
      · exact ⟨Nat.zero_le _, by show (y 1 : ℕ) < 0 + 1024; omega⟩
    · refine ⟨_, List.mem_cons_self, (Rect.mem_set_unit (inb := inB)).2 fun a => ?_⟩
      fin_cases a
      · exact ⟨by show 8 ≤ (y 0 : ℕ); omega, by show (y 0 : ℕ) < 8 + 512; omega⟩
      · exact ⟨Nat.zero_le _, by show (y 1 : ℕ) < 0 + 1024; omega⟩
  canon_tiles x h using hc
  · unfold above
    rw [dif_neg (by omega)]
    refine congrArg B (funext fun a => Fin.ext ?_)
    fin_cases a
    · show (x 0 : ℕ) = (y 0 : ℕ) - 8; omega
    · exact h1.symm
  · unfold above
    rw [dif_pos (by omega)]
    refine congrArg A (funext fun a => Fin.ext ?_)
    fin_cases a
    · show (x 0 : ℕ) = (y 0 : ℕ); omega
    · exact h1.symm
end

end Cert.KernelIdeal.Conv4

end
-- ==== Proof.Conv4Dx.lean ====
module

public import proofs.«01_k».proof.Proof.Conv4Buf

@[expose] public section

set_option maxRecDepth 16384

noncomputable section

namespace Cert.KernelIdeal.Conv4

open Cert.KernelIdeal Cert.KernelIdeal.Gen Idealize.ShloMosaic Idealize.ShloMosaic.TcCoe Idealize.SL.Sem

/-! # What one point leaves in the gradient of the input

Row `r` of the block is the sum of the four taps, tap `k` times row `r + 3 - k` of the cotangent's buffer. -/

variable (m : (ℓ : Loc nD τ sig) → Buf (Elt Ideal) ℓ)

theorem row_lt (y : S512x1024.Idx) : (y 0 : ℕ) < 512 := (y 0).isLt

/-- The block of the gradient, from the buffer `D` of cotangent rows and the four taps `W`. -/
def dxAt (D : S520x1024.Idx → EReal) (W : S4x1024.Idx → EReal) (y : S512x1024.Idx) : EReal :=
  W (ix2 0 (y 1)) * D (ix2 ⟨(y 0 : ℕ) + 3, by have := row_lt y; omega⟩ (y 1))
    + W (ix2 1 (y 1)) * D (ix2 ⟨(y 0 : ℕ) + 2, by have := row_lt y; omega⟩ (y 1))
    + W (ix2 2 (y 1)) * D (ix2 ⟨(y 0 : ℕ) + 1, by have := row_lt y; omega⟩ (y 1))
    + W (ix2 3 (y 1)) * D (ix2 ⟨(y 0 : ℕ), by have := row_lt y; omega⟩ (y 1))

/-- The same sum with the row numbers named. -/
theorem dxAt_of (D : S520x1024.Idx → EReal) (W : S4x1024.Idx → EReal) (y : S512x1024.Idx) (q : Fin 1024) (i3 i2 i1 i0 : Fin 520)
    (hq : (y 1 : ℕ) = q) (h3 : (i3 : ℕ) = y 0 + 3) (h2 : (i2 : ℕ) = y 0 + 2) (h1 : (i1 : ℕ) = y 0 + 1) (h0 : (i0 : ℕ) = y 0) :
    W (ix2 0 q) * D (ix2 i3 q) + W (ix2 1 q) * D (ix2 i2 q) + W (ix2 2 q) * D (ix2 i1 q) + W (ix2 3 q) * D (ix2 i0 q) = dxAt D W y := by
  obtain rfl : y 1 = q := Fin.ext hq
  unfold dxAt
  rw [show i3 = ⟨(y 0 : ℕ) + 3, _⟩ from Fin.ext h3, show i2 = ⟨(y 0 : ℕ) + 2, _⟩ from Fin.ext h2,
    show i1 = ⟨(y 0 : ℕ) + 1, _⟩ from Fin.ext h1, show i0 = ⟨(y 0 : ℕ), _⟩ from Fin.ext h0]

/-- The cotangent's buffer at point `t`. -/
abbrev dyBuf (c : Dev nD) (t : Fin cfg0.N) : S520x1024.Idx → EReal :=
  below (k0_pay3 (F := Ideal) (iblk m c 2 t)) (k0_pay4 (F := Ideal) (grid0.coords t) (iblk m c 3 t))

/-- The input's buffer at point `t`. -/
abbrev xBuf (c : Dev nD) (t : Fin cfg0.N) : S520x1024.Idx → EReal :=
  above (k0_pay1 (F := Ideal) (grid0.coords t) (iblk m c 1 t)) (k0_pay2 (F := Ideal) (iblk m c 0 t))

set_option maxHeartbeats 2000000 in
/-- The block at the first point of a column of blocks. -/
theorem dx_A (c : Dev nD) (t : Fin cfg0.N) (h0 : t.val % 16 = 0) (y : S512x1024.Idx) :
    (outsAt0 m c t.val t.isLt).1 y = dxAt (dyBuf m c t) (iblk m c 4 t) y := by
  rw [outsAt0_A m c t h0]
  dsimp only
  frame_open
  simp only [↓ readCov_below]
  frame_out
  unfold dyBuf
  generalize below _ _ = D
  clear h0
  canon_tiles x h
  all_goals
    open_payloads
    pointwise
    refine dxAt_of D _ y _ _ _ _ _ h1 ?_ ?_ ?_ ?_ <;> (dsimp only; omega)

set_option maxHeartbeats 2000000 in
/-- The block at the other points. -/
theorem dx_B (c : Dev nD) (t : Fin cfg0.N) (h0 : ¬ t.val % 16 = 0) (y : S512x1024.Idx) :
    (outsAt0 m c t.val t.isLt).1 y = dxAt (dyBuf m c t) (iblk m c 4 t) y := by
  rw [outsAt0_B m c t h0]
  dsimp only
  frame_open
  simp only [↓ readCov_below]
  frame_out
  unfold dyBuf
  generalize below _ _ = D
  clear h0
  canon_tiles x h
  all_goals
    open_payloads
    pointwise
    refine dxAt_of D _ y _ _ _ _ _ h1 ?_ ?_ ?_ ?_ <;> (dsimp only; omega)

/-- The block at any point. -/
theorem dx_point (c : Dev nD) (t : Fin cfg0.N) (y : S512x1024.Idx) :
    (outsAt0 m c t.val t.isLt).1 y = dxAt (dyBuf m c t) (iblk m c 4 t) y := by
  by_cases h : t.val % 16 = 0
  · exact dx_A m c t h y
  · exact dx_B m c t h y

end Cert.KernelIdeal.Conv4

end
-- ==== Proof.Conv4Sum.lean ====
module

public import proofs.«01_k».proof.Proof.Conv4Buf

@[expose] public section

set_option maxRecDepth 16384

noncomputable section

namespace Cert.KernelIdeal.Conv4

open Cert.KernelIdeal Cert.KernelIdeal.Gen Idealize.ShloMosaic Idealize.ShloMosaic.TcCoe Idealize.SL.Sem

/-! # Sums over the 512 rows of a block

The kernel adds the rows of a block in sixteen groups of 32, each folded to 8 rows by adding four, and adds the 8 rows last.
Addition of extended reals is associative and commutative, so this is the sum over the rows. -/

/-- Column `q` of a buffer by row number, zero outside. -/
def rowOf (D : S520x1024.Idx → EReal) (q : Fin 1024) (n : ℕ) : EReal := if h : n < 520 then D (ix2 ⟨n, h⟩ q) else 0

theorem rowOf_mk (D : S520x1024.Idx → EReal) (q : Fin 1024) (i : Fin 520) : D (ix2 i q) = rowOf D q i := by
  unfold rowOf; rw [dif_pos i.isLt]

/-- One tap's sum over the rows of a block: the cotangent times the input `s` rows further down its buffer. -/
def tapSum (D X : S520x1024.Idx → EReal) (q : Fin 1024) (s : ℕ) : EReal :=
  ∑ r ∈ Finset.range 512, rowOf D q r * rowOf X q (s + r)

/-- Four rows, eight apart. -/
def fold4 (g : ℕ → EReal) (s : ℕ) (b : ℕ) : EReal := g (b + s) + g (b + (8 + s)) + g (b + (16 + s)) + g (b + (24 + s))

theorem sum512 (g : ℕ → EReal) : ∑ r ∈ Finset.range 512, g r = ∑ s : Fin 8, ∑ p ∈ Finset.range 16, fold4 g s (32 * p) := by
  have e1 : ∑ r ∈ Finset.range 512, g r = ∑ j : Fin 64, ∑ s : Fin 8, g (j * 8 + s) := by
    rw [Finset.sum_range]; exact Fin.sum_univ_tiles 64 8 rfl fun k => g k
  rw [e1, Finset.sum_comm]
  refine Finset.sum_congr rfl fun s _ => ?_
  rw [show (∑ j : Fin 64, g (j * 8 + s)) = ∑ p : Fin 16, ∑ q : Fin 4, g ((p * 4 + q : ℕ) * 8 + s) from Fin.sum_univ_tiles 16 4 rfl fun k => g (k * 8 + s),
    Finset.sum_range]
  refine Finset.sum_congr rfl fun p _ => ?_
  rw [Fin.sum_univ_four]
  unfold fold4
  have e : ∀ a b : ℕ, a = b → g a = g b := fun a b h => by rw [h]
  refine congrArg₂ (· + ·) (congrArg₂ (· + ·) (congrArg₂ (· + ·) (e _ _ ?_) (e _ _ ?_)) (e _ _ ?_)) (e _ _ ?_)
  all_goals (simp only [Fin.isValue, Fin.val_zero, Fin.val_one, Fin.val_two, show ((3 : Fin 4) : ℕ) = 3 from rfl]; omega)

/-- The sum of one tap with the groups written out, as the kernel adds them. -/
theorem tapSum_eq (D X : S520x1024.Idx → EReal) (q : Fin 1024) (s : ℕ) (T : Fin 8 → EReal)
    (h : ∀ a : Fin 8, T a = ∑ p ∈ Finset.range 16, fold4 (fun r => rowOf D q r * rowOf X q (s + r)) a (32 * p)) :
    ∑ a : Fin 8, T a = tapSum D X q s := by
  unfold tapSum; rw [sum512]; exact Finset.sum_congr rfl fun a _ => h a

section
variable {Val : EltTy → Type} [∀ e, Nonempty (Val e)] {e : EltTy}

/-- Four stores of one row each, last row last, over earlier stores: row `k` is what store `k` left. -/
theorem canon_rows (i3 i2 i1 i0) (p3 p2 p1 p0 : S1x1024.Idx → Val e) (L : List (View.Piece Val S4x1024 e)) (k : Fin 4) (q : Fin 1024) (R : Fin 4 → Val e)
    (h3 : p3 (ix2 0 q) = R 3) (h2 : p2 (ix2 0 q) = R 2) (h1 : p1 (ix2 0 q) = R 1) (h0 : p0 (ix2 0 q) = R 0) :
    View.canon ((⟨Rect.unit ![3, 0] S1x1024.size i3, p3⟩ : View.Piece Val S4x1024 e) :: (⟨Rect.unit ![2, 0] S1x1024.size i2, p2⟩ : View.Piece Val S4x1024 e)
      :: (⟨Rect.unit ![1, 0] S1x1024.size i1, p1⟩ : View.Piece Val S4x1024 e) :: (⟨Rect.unit ![0, 0] S1x1024.size i0, p0⟩ : View.Piece Val S4x1024 e) :: L) (ix2 k q) = R k := by
  have key : ∀ (off : Fin 2 → ℕ) (i : ∀ a, off a + S1x1024.size a ≤ S4x1024.size a) (h1 : off 1 = 0) (p : S1x1024.Idx → Val e) (M : List (View.Piece Val S4x1024 e)),
      View.canon ((⟨Rect.unit off S1x1024.size i, p⟩ : View.Piece Val S4x1024 e) :: M) (ix2 k q : S4x1024.Idx) = if off 0 = k.val then p (ix2 0 q) else View.canon M (ix2 k q) := by
    intro off i hz p M
    by_cases hk : off 0 = k.val
    · rw [if_pos hk]
      have : (ix2 k q : S4x1024.Idx) = (Rect.unit (s := S4x1024) off S1x1024.size i).emb (ix2 0 q : S1x1024.Idx) := by
        funext a; refine Fin.ext ?_
        fin_cases a
        · show k.val = off 0 + 1 * 0; omega
        · show q.val = off 1 + 1 * q.val; omega
      rw [this, View.canon_cons_emb]
    · rw [if_neg hk, View.canon_cons_of_not_mem]
      intro hm
      have := (Rect.mem_set_unit (inb := i)).1 hm 0
      have h' : off 0 ≤ k.val ∧ k.val < off 0 + 1 := this
      omega
  rw [key _ i3 rfl, key _ i2 rfl, key _ i1 rfl, key _ i0 rfl, h3, h2, h1, h0]
  fin_cases k <;> rfl
end

end Cert.KernelIdeal.Conv4

end
-- ==== Proof.Conv4Dw.lean ====
module

public import proofs.«01_k».proof.Proof.Conv4Sum

@[expose] public section

set_option maxRecDepth 16384

noncomputable section

namespace Cert.KernelIdeal.Conv4

open Cert.KernelIdeal Cert.KernelIdeal.Gen Idealize.ShloMosaic Idealize.ShloMosaic.TcCoe Idealize.SL.Sem

/-! # What one point adds to the gradient of the taps

Tap `k` gets the sum over the block's rows of the cotangent times the input `3 - k` rows before it. -/

variable (m : (ℓ : Loc nD τ sig) → Buf (Elt Ideal) ℓ)

set_option maxHeartbeats 4000000 in
/-- A point after the first of its run adds its taps' sums. -/
theorem dw_B (c : Dev nD) (t : Fin cfg0.N) (h0 : ¬ t.val % 16 = 0) (k : Fin 4) (q : Fin 1024) :
    (outsAt0 m c t.val t.isLt).2.1 (ix2 k q) = (outsAt0 m c (t.val - 1) (Nat.lt_of_le_of_lt (Nat.sub_le _ _) t.isLt)).2.1 (ix2 k q)
      + tapSum (below (k0_pay3 (F := Ideal) (iblk m c 2 t)) (k0_pay4 (F := Ideal) (grid0.coords t) (iblk m c 3 t)))
        (above (k0_pay1 (F := Ideal) (grid0.coords t) (iblk m c 1 t)) (k0_pay2 (F := Ideal) (iblk m c 0 t))) q (5 + (k : ℕ)) := by
  rw [outsAt0_B m c t h0]
  dsimp only
  frame_open
  simp only [↓ readCov_below, ↓ readCov_above]
  frame_out
  generalize below _ _ = D
  generalize above _ _ = X
  clear h0
  refine canon_rows (Val := Elt Ideal) (e := .f32) _ _ _ _ _ _ _ _ _ k q
    (fun k => (show EReal from (outsAt0 m c (t.val - 1) (Nat.lt_of_le_of_lt (Nat.sub_le _ _) t.isLt)).2.1 (ix2 k q)) + tapSum D X q (5 + (k : ℕ))) ?_ ?_ ?_ ?_
  all_goals
    open_payloads
    pointwise
    refine Ideal.add_congr rfl (tapSum_eq D X _ _ _ fun a => ?_)
    simp only [Finset.sum_range_succ, Finset.sum_range_zero, zero_add, fold4, rowOf_mk, Fin.val_mk, ← Nat.add_assoc, Nat.reduceAdd, Nat.reduceMul]

set_option maxHeartbeats 4000000 in
/-- The first point of a run leaves its taps' sums alone. -/
theorem dw_A (c : Dev nD) (t : Fin cfg0.N) (h0 : t.val % 16 = 0) (k : Fin 4) (q : Fin 1024) :
    (outsAt0 m c t.val t.isLt).2.1 (ix2 k q)
      = tapSum (below (k0_pay3 (F := Ideal) (iblk m c 2 t)) (k0_pay4 (F := Ideal) (grid0.coords t) (iblk m c 3 t)))
        (above (k0_pay1 (F := Ideal) (grid0.coords t) (iblk m c 1 t)) (k0_pay2 (F := Ideal) (iblk m c 0 t))) q (5 + (k : ℕ)) := by
  rw [outsAt0_A m c t h0]
  dsimp only
  frame_open
  simp only [↓ readCov_below, ↓ readCov_above]
  simp (disch := decide) only [↓ View.readCov_skip, ↓ View.readCov_fill]
  frame_out
  generalize below _ _ = D
  generalize above _ _ = X
  clear h0
  refine canon_rows (Val := Elt Ideal) (e := .f32) _ _ _ _ _ _ _ _ _ k q (fun k => tapSum D X q (5 + (k : ℕ))) ?_ ?_ ?_ ?_
  all_goals
    open_payloads
    pointwise
    refine tapSum_eq D X _ _ _ fun a => ?_
    simp only [Finset.sum_range_succ, Finset.sum_range_zero, zero_add, fold4, rowOf_mk, Fin.val_mk, ← Nat.add_assoc, Nat.reduceAdd, Nat.reduceMul]

/-- A point after the first of its run adds the block's column sums. -/
theorem db_B (c : Dev nD) (t : Fin cfg0.N) (h0 : ¬ t.val % 16 = 0) (q : Fin 1024) :
    (outsAt0 m c t.val t.isLt).2.2 (ix2 0 q) = (outsAt0 m c (t.val - 1) (Nat.lt_of_le_of_lt (Nat.sub_le _ _) t.isLt)).2.2 (ix2 0 q)
      + ∑ r : Fin 512, (show FVec Ideal S512x1024 .f32 from iblk m c 2 t) (ix2 r q) := by
  rw [outsAt0_B m c t h0]
  dsimp only
  frame_out
  clear h0
  open_payloads
  pointwise

/-- The first point of a run leaves the block's column sums. -/
theorem db_A (c : Dev nD) (t : Fin cfg0.N) (h0 : t.val % 16 = 0) (q : Fin 1024) :
    (outsAt0 m c t.val t.isLt).2.2 (ix2 0 q) = ∑ r : Fin 512, (show FVec Ideal S512x1024 .f32 from iblk m c 2 t) (ix2 r q) := by
  rw [outsAt0_A m c t h0]
  dsimp only
  frame_out
  clear h0
  open_payloads
  pointwise

end Cert.KernelIdeal.Conv4

end
-- ==== Proof.Conv4Ref.lean ====
module

public import proofs.«01_k».proof.Proof.Gen.ReferenceIdeal.Run
public import Idealize.ShloMosaic.Lib.Pointwise

@[expose] public section

set_option maxRecDepth 16384

noncomputable section

namespace Cert.ReferenceIdeal.Conv4

open Cert.ReferenceIdeal Cert.ReferenceIdeal.Gen Idealize.ShloMosaic Idealize.ShloMosaic.TcCoe Idealize.SL.Sem

/-! # What the reference computes

The three results of the reference's backward pass, read at one index: sums over rows of the cotangent, where rows outside the sequence
count as zero. -/

/-- Column `q` by row number, zero past the end. -/
def rowAt (D : S8192x6144.Idx → EReal) (q : Fin 6144) (n : ℕ) : EReal := if h : n < 8192 then D (ix2 ⟨n, h⟩ q) else 0

/-- Column `q` by row number eight rows further down, zero before the start. -/
def rowBack (X : S8192x6144.Idx → EReal) (q : Fin 6144) (n : ℕ) : EReal := if n < 8 then 0 else rowAt X q (n - 8)

/-- The gradient of the input. -/
def refDx (D : FVec Ideal S8192x6144 .f32) (W : FVec Ideal S4x6144 .f32) : FVec Ideal S8192x6144 .bf16 :=
  truncf .bf16 (extractStridedSlice S8192x6144 ![3, 0] (addf (addf (addf (pad S8195x6144 ![3, 0] ![0, 0] ![0, 0] (mulf (shapeCast _ D shapeCasts_S8192x6144_S8192x6144) (broadcastInDim S8192x6144 ![0, 1] bcast_S1x6144_S8192x6144_0_1 (extractStridedSlice S1x6144 ![3, 0] W slices_S4x6144_S1x6144_3_0))) (constant S_ .f32 0x00000000#32) pads_S8192x6144_S8195x6144_300_000 h_S_) (pad S8195x6144 ![2, 0] ![1, 0] ![0, 0] (mulf (shapeCast _ D shapeCasts_S8192x6144_S8192x6144) (broadcastInDim S8192x6144 ![0, 1] bcast_S1x6144_S8192x6144_0_1 (extractStridedSlice S1x6144 ![2, 0] W slices_S4x6144_S1x6144_2_0))) (constant S_ .f32 0x00000000#32) pads_S8192x6144_S8195x6144_210_000 h_S_)) (pad S8195x6144 ![1, 0] ![2, 0] ![0, 0] (mulf (shapeCast _ D shapeCasts_S8192x6144_S8192x6144) (broadcastInDim S8192x6144 ![0, 1] bcast_S1x6144_S8192x6144_0_1 (extractStridedSlice S1x6144 ![1, 0] W slices_S4x6144_S1x6144_1_0))) (constant S_ .f32 0x00000000#32) pads_S8192x6144_S8195x6144_120_000 h_S_)) (pad S8195x6144 ![0, 0] ![3, 0] ![0, 0] (mulf (shapeCast _ D shapeCasts_S8192x6144_S8192x6144) (broadcastInDim S8192x6144 ![0, 1] bcast_S1x6144_S8192x6144_0_1 (extractStridedSlice S1x6144 ![0, 0] W slices_S4x6144_S1x6144_0_0))) (constant S_ .f32 0x00000000#32) pads_S8192x6144_S8195x6144_030_000 h_S_)) slices_S8195x6144_S8192x6144_3_0) bitsLt_bf16_f32

/-- The gradient of the taps. -/
def refDw (D X : FVec Ideal S8192x6144 .f32) : FVec Ideal S4x6144 .f32 :=
  addf (addf (addf (pad S4x6144 ![3, 0] ![0, 0] ![0, 0] (shapeCast _ (Host.reduceAdd (mulf (extractStridedSlice S8192x6144 ![3, 0] (concatenate S8195x6144 0 [⟨S3x6144, (broadcastInDim S3x6144 ![] bcast_S_S3x6144 (constant S_ .f32 0x00000000#32))⟩, ⟨S8192x6144, X⟩] concatenates_S3x6144_S8192x6144_S8195x6144_d0) slices_S8195x6144_S8192x6144_3_0) (shapeCast _ D shapeCasts_S8192x6144_S8192x6144)) (constant S_ .f32 0x00000000#32) reducesTo_S8192x6144_S6144_d0 h_S_) shapeCasts_S6144_S1x6144) (constant S_ .f32 0x00000000#32) pads_S1x6144_S4x6144_300_000 h_S_) (pad S4x6144 ![2, 0] ![1, 0] ![0, 0] (shapeCast _ (Host.reduceAdd (mulf (extractStridedSlice S8192x6144 ![2, 0] (concatenate S8195x6144 0 [⟨S3x6144, (broadcastInDim S3x6144 ![] bcast_S_S3x6144 (constant S_ .f32 0x00000000#32))⟩, ⟨S8192x6144, X⟩] concatenates_S3x6144_S8192x6144_S8195x6144_d0) slices_S8195x6144_S8192x6144_2_0) (shapeCast _ D shapeCasts_S8192x6144_S8192x6144)) (constant S_ .f32 0x00000000#32) reducesTo_S8192x6144_S6144_d0 h_S_) shapeCasts_S6144_S1x6144) (constant S_ .f32 0x00000000#32) pads_S1x6144_S4x6144_210_000 h_S_)) (pad S4x6144 ![1, 0] ![2, 0] ![0, 0] (shapeCast _ (Host.reduceAdd (mulf (extractStridedSlice S8192x6144 ![1, 0] (concatenate S8195x6144 0 [⟨S3x6144, (broadcastInDim S3x6144 ![] bcast_S_S3x6144 (constant S_ .f32 0x00000000#32))⟩, ⟨S8192x6144, X⟩] concatenates_S3x6144_S8192x6144_S8195x6144_d0) slices_S8195x6144_S8192x6144_1_0) (shapeCast _ D shapeCasts_S8192x6144_S8192x6144)) (constant S_ .f32 0x00000000#32) reducesTo_S8192x6144_S6144_d0 h_S_) shapeCasts_S6144_S1x6144) (constant S_ .f32 0x00000000#32) pads_S1x6144_S4x6144_120_000 h_S_)) (pad S4x6144 ![0, 0] ![3, 0] ![0, 0] (shapeCast _ (Host.reduceAdd (mulf (extractStridedSlice S8192x6144 ![0, 0] (concatenate S8195x6144 0 [⟨S3x6144, (broadcastInDim S3x6144 ![] bcast_S_S3x6144 (constant S_ .f32 0x00000000#32))⟩, ⟨S8192x6144, X⟩] concatenates_S3x6144_S8192x6144_S8195x6144_d0) slices_S8195x6144_S8192x6144_0_0) (shapeCast _ D shapeCasts_S8192x6144_S8192x6144)) (constant S_ .f32 0x00000000#32) reducesTo_S8192x6144_S6144_d0 h_S_) shapeCasts_S6144_S1x6144) (constant S_ .f32 0x00000000#32) pads_S1x6144_S4x6144_030_000 h_S_)

/-- The gradient of the bias. -/
def refDb (D : FVec Ideal S8192x6144 .f32) : FVec Ideal S1x6144 .f32 :=
  shapeCast _ (Host.reduceAdd D (constant S_ .f32 0x00000000#32) reducesTo_S8192x6144_S6144_d0 h_S_) shapeCasts_S6144_S1x6144

theorem rowAt_mk (D : S8192x6144.Idx → EReal) (q : Fin 6144) (i : Fin 8192) : rowAt D q i = D (ix2 i q) := by
  unfold rowAt; rw [dif_pos i.isLt]

/-- A padded read times a tap is the tap times the read that is zero outside. -/
theorem tap (D : S8192x6144.Idx → EReal) (q : Fin 6144) (w : EReal) (p : Prop) [Decidable p] (n' n : ℕ) (f : p → n' < 8192)
    (hp : p ↔ n < 8192) (hn : p → n' = n) : (if h : p then D (ix2 ⟨n', f h⟩ q) * w else 0) = w * rowAt D q n := by
  unfold rowAt
  by_cases h : p
  · obtain rfl := hn h
    rw [dif_pos h, dif_pos (f h), mul_comm]
  · rw [dif_neg h, dif_neg (fun a => h (hp.2 a)), mul_zero]

theorem rev4 (a b c d : EReal) : a + b + c + d = d + c + b + a := by ac_rfl

theorem refDx_at (D : FVec Ideal S8192x6144 .f32) (W : FVec Ideal S4x6144 .f32) (r : Fin 8192) (q : Fin 6144) :
    refDx D W (ix2 r q) = W (ix2 0 q) * rowAt D q (r + 3) + W (ix2 1 q) * rowAt D q (r + 2) + W (ix2 2 q) * rowAt D q (r + 1) + W (ix2 3 q) * rowAt D q r := by
  pointwise [refDx]
  rw [tap D q _ _ _ (r + 1) _ (by omega) (by omega), tap D q _ _ _ (r + 2) _ (by omega) (by omega), tap D q _ _ _ (r + 3) _ (by omega) (by omega),
    rowAt_mk]
  exact (rev4 _ _ _ _).trans (congrArg₂ (fun a b : EReal => a + b) rfl (mul_comm _ _))

/-- A masked read of the input is the read that is zero before the start. -/
theorem back (X : S8192x6144.Idx → EReal) (q : Fin 6144) (s x : ℕ) (hs : s < 3) (f : ¬ s + x < 3 → s + x - 3 < 8192) :
    (if h : s + x < 3 then 0 else X (ix2 ⟨s + x - 3, f h⟩ q)) = rowBack X q (5 + s + x) := by
  unfold rowBack
  by_cases h : s + x < 3
  · rw [dif_pos h, if_pos (by omega)]
  · rw [dif_neg h, if_neg (by omega)]
    have := f h
    rw [show 5 + s + x - 8 = s + x - 3 by omega]
    exact (rowAt_mk X q ⟨s + x - 3, f h⟩).symm

theorem refDw_at (D X : FVec Ideal S8192x6144 .f32) (k : Fin 4) (q : Fin 6144) :
    refDw D X (ix2 k q) = ∑ r ∈ Finset.range 8192, rowAt D q r * rowBack X q (5 + k + r) := by
  pointwise [refDw]
  fin_cases k
  · simp only [Fin.zero_eta, Fin.isValue, Fin.val_zero, Nat.reduceLeDiff, false_and, ↓reduceDIte, zero_add, Nat.lt_one_iff, zero_mul,
      Finset.sum_const_zero, add_zero, Nat.zero_lt_one]
    refine Eq.trans ?_ (Finset.sum_range_add (fun r => rowAt D q r * rowBack X q (5 + r)) 3 8189).symm
    have e : ∑ r ∈ Finset.range 3, rowAt D q r * rowBack X q (5 + r) = 0 := Finset.sum_eq_zero fun r hr => by
      have := Finset.mem_range.1 hr
      unfold rowBack
      rw [if_pos (by omega), mul_zero]
    rw [e, zero_add, Finset.sum_range]
    refine Finset.sum_congr rfl fun x _ => ?_
    have hx := x.isLt
    have hb : rowBack X q (5 + (3 + x)) = rowAt X q x := by
      unfold rowBack
      rw [if_neg (by omega), show 5 + (3 + (x : ℕ)) - 8 = x by omega]
    exact (mul_comm _ _).trans (congrArg₂ (fun a b : EReal => a * b) (rowAt_mk D q ⟨3 + x, by omega⟩).symm ((rowAt_mk X q ⟨x, by omega⟩).symm.trans hb.symm))
  · simp only [Fin.mk_one, Fin.isValue, Fin.val_one, Nat.reduceLeDiff, false_and, ↓reduceDIte, zero_add, Nat.lt_irrefl, le_refl, tsub_self, zero_lt_one, and_self,
      Nat.zero_lt_one, add_zero, Nat.reduceAdd]
    rw [Finset.sum_range]
    refine Finset.sum_congr rfl fun x _ => ?_
    rw [back X q 1 x (by omega), rowAt_mk, mul_comm]
  · simp only [Fin.reduceFinMk, Fin.isValue, show ((2 : Fin 4) : ℕ) = 2 from rfl, Nat.reduceLeDiff, false_and, ↓reduceDIte, zero_add, Nat.reduceSub, Nat.reduceLT, and_false,
      le_refl, tsub_self, and_self, add_zero, Nat.zero_lt_one, zero_lt_one, Nat.lt_irrefl, Nat.reduceAdd]
    rw [Finset.sum_range]
    refine Finset.sum_congr rfl fun x _ => ?_
    rw [back X q 2 x (by omega), rowAt_mk, mul_comm]
  · simp only [Fin.reduceFinMk, Fin.isValue, show ((3 : Fin 4) : ℕ) = 3 from rfl, Nat.reduceLeDiff, false_and, ↓reduceDIte, zero_add, Nat.reduceSub, Nat.reduceLT, and_false,
      le_refl, tsub_self, and_self, add_zero, Nat.zero_lt_one, zero_lt_one, Nat.lt_irrefl, Nat.reduceAdd]
    rw [Finset.sum_range]
    refine Finset.sum_congr rfl fun x _ => ?_
    unfold rowBack
    rw [if_neg (by omega), show 8 + (x : ℕ) - 8 = x by omega, rowAt_mk, rowAt_mk, mul_comm]

theorem refDb_at (D : FVec Ideal S8192x6144 .f32) (q : Fin 6144) :
    refDb D (ix2 0 q) = ∑ r : Fin 8192, D (ix2 r q) := by
  pointwise [refDb]

end Cert.ReferenceIdeal.Conv4

end
-- ==== Proof.Conv4Final.lean ====
module

public import proofs.«01_k».proof.Proof.Conv4Dx
public import proofs.«01_k».proof.Proof.Conv4Dw
public import proofs.«01_k».proof.Proof.Conv4Ref

@[expose] public section

set_option maxRecDepth 16384

noncomputable section

namespace Cert.KernelIdeal.Conv4

open Cert.KernelIdeal Cert.KernelIdeal.Gen Idealize.ShloMosaic Idealize.ShloMosaic.TcCoe Idealize.SL.Sem
open Cert.ReferenceIdeal.Conv4 (rowAt rowBack rowAt_mk refDx refDw refDb refDx_at refDw_at refDb_at)

/-! # The three arrays of the convolution's backward pass

At grid point `t` the two buffers hold the rows around block `t % 16` of columns block `t / 16`, with zeros outside the sequence. Block by
block the three results are then the reference's. -/

variable (m : (ℓ : Loc nD τ sig) → Buf (Elt Ideal) ℓ)

theorem N_eq : cfg0.N = 96 := by decide +kernel

theorem row_idx : ∀ t : Fin cfg0.N, win0_0.index t = ![t.val % 16, t.val / 16] ∧ win0_2.index t = ![t.val % 16, t.val / 16]
    ∧ win0_5.index t = ![t.val % 16, t.val / 16] :=
  (by decide +kernel : ∀ t : Fin grid0.N, _)

theorem halo_idx : ∀ t : Fin cfg0.N, win0_1.index t = ![t.val % 16 * 64 - 1, t.val / 16]
    ∧ win0_3.index t = ![min ((t.val % 16 + 1) * 64) 1023, t.val / 16] :=
  (by decide +kernel : ∀ t : Fin grid0.N, _)

theorem col_idx : ∀ t : Fin cfg0.N, win0_4.index t = ![0, t.val / 16] ∧ win0_6.index t = ![0, t.val / 16] ∧ win0_7.index t = ![0, t.val / 16] :=
  (by decide +kernel : ∀ t : Fin grid0.N, _)

theorem last_bit : ∀ t : Fin cfg0.N, Scalar.cmpi .eq (BitVec.ofNat 32 (grid0.coords t 1).val) 15#32 = if t.val % 16 = 15 then 1#1 else 0#1 :=
  (by decide +kernel : ∀ t : Fin grid0.N, _)

theorem first_bit : ∀ t : Fin cfg0.N, Scalar.cmpi .eq (BitVec.ofNat 32 (grid0.coords t 1).val) 0#32 = if t.val % 16 = 0 then 1#1 else 0#1 :=
  (by decide +kernel : ∀ t : Fin grid0.N, _)

/-- The 512 rows of the cotangent. -/
theorem dy_main (c : Dev nD) (t : Fin cfg0.N) (r : Fin 512) (q : Fin 1024) (Q : Fin 6144) (hQ : (Q : ℕ) = t.val / 16 * 1024 + q) :
    k0_pay3 (F := Ideal) (iblk m c 2 t) (ix2 r q) = rowAt (m ((c.tc : Thread nD τ).loc main_arg3)) Q (t.val % 16 * 512 + r) := by
  have ht : t.val < 96 := lt_of_lt_of_eq t.isLt N_eq
  pointwise [k0_pay3]
  refine Eq.trans ?_ (rowAt_mk _ Q ⟨t.val % 16 * 512 + r, by omega⟩).symm
  blk_point [iblk, V, row_idx t]

/-- The 8 rows after them. -/
theorem dy_halo (c : Dev nD) (t : Fin cfg0.N) (r : Fin 8) (q : Fin 1024) (Q : Fin 6144) (hQ : (Q : ℕ) = t.val / 16 * 1024 + q) :
    k0_pay4 (F := Ideal) (grid0.coords t) (iblk m c 3 t) (ix2 r q) = rowAt (m ((c.tc : Thread nD τ).loc main_arg3)) Q (t.val % 16 * 512 + (512 + r)) := by
  have ht : t.val < 96 := lt_of_lt_of_eq t.isLt N_eq
  pointwise [k0_pay4, last_bit]
  by_cases h : t.val % 16 = 15
  · rw [if_pos h]
    unfold rowAt
    rw [dif_neg (by omega)]
    rfl
  · rw [if_neg h]
    refine Eq.trans ?_ (rowAt_mk _ Q ⟨t.val % 16 * 512 + (512 + r), by omega⟩).symm
    blk_point [iblk, V, halo_idx t]

/-- The 512 rows of the input. -/
theorem x_main (c : Dev nD) (t : Fin cfg0.N) (r : Fin 512) (q : Fin 1024) (Q : Fin 6144) (hQ : (Q : ℕ) = t.val / 16 * 1024 + q) :
    k0_pay2 (F := Ideal) (iblk m c 0 t) (ix2 r q) = rowBack (m ((c.tc : Thread nD τ).loc main_arg0)) Q (t.val % 16 * 512 + (8 + r)) := by
  have ht : t.val < 96 := lt_of_lt_of_eq t.isLt N_eq
  pointwise [k0_pay2]
  unfold rowBack
  rw [if_neg (by omega), show t.val % 16 * 512 + (8 + (r : ℕ)) - 8 = t.val % 16 * 512 + r by omega]
  refine Eq.trans ?_ (rowAt_mk _ Q ⟨t.val % 16 * 512 + r, by omega⟩).symm
  blk_point [iblk, V, row_idx t]

/-- The 8 rows before them. -/
theorem x_halo (c : Dev nD) (t : Fin cfg0.N) (r : Fin 8) (q : Fin 1024) (Q : Fin 6144) (hQ : (Q : ℕ) = t.val / 16 * 1024 + q) :
    k0_pay1 (F := Ideal) (grid0.coords t) (iblk m c 1 t) (ix2 r q) = rowBack (m ((c.tc : Thread nD τ).loc main_arg0)) Q (t.val % 16 * 512 + r) := by
  have ht : t.val < 96 := lt_of_lt_of_eq t.isLt N_eq
  pointwise [k0_pay1, first_bit]
  unfold rowBack
  by_cases h : t.val % 16 = 0
  · rw [if_pos h, if_pos (by omega)]
    rfl
  · rw [if_neg h, if_neg (by omega)]
    refine Eq.trans ?_ (rowAt_mk _ Q ⟨t.val % 16 * 512 + r - 8, by omega⟩).symm
    blk_point [iblk, V, halo_idx t]

/-- The cotangent's buffer, row by row. -/
theorem dy_row (c : Dev nD) (t : Fin cfg0.N) (n : ℕ) (hn : n < 520) (q : Fin 1024) (Q : Fin 6144) (hQ : (Q : ℕ) = t.val / 16 * 1024 + q) :
    rowOf (dyBuf m c t) q n = rowAt (m ((c.tc : Thread nD τ).loc main_arg3)) Q (t.val % 16 * 512 + n) := by
  unfold rowOf
  rw [dif_pos hn]
  unfold dyBuf below
  by_cases h : n < 512
  · refine (dif_pos h).trans ?_
    exact dy_main m c t ⟨n, h⟩ q Q hQ
  · refine (dif_neg h).trans ?_
    refine (dy_halo m c t ⟨n - 512, by omega⟩ q Q hQ).trans ?_
    rw [show t.val % 16 * 512 + (512 + (n - 512)) = t.val % 16 * 512 + n by omega]

/-- The input's buffer, row by row. -/
theorem x_row (c : Dev nD) (t : Fin cfg0.N) (n : ℕ) (hn : n < 520) (q : Fin 1024) (Q : Fin 6144) (hQ : (Q : ℕ) = t.val / 16 * 1024 + q) :
    rowOf (xBuf m c t) q n = rowBack (m ((c.tc : Thread nD τ).loc main_arg0)) Q (t.val % 16 * 512 + n) := by
  unfold rowOf
  rw [dif_pos hn]
  unfold xBuf above
  by_cases h : n < 8
  · refine (dif_pos h).trans ?_
    exact x_halo m c t ⟨n, h⟩ q Q hQ
  · refine (dif_neg h).trans ?_
    refine (x_main m c t ⟨n - 8, by omega⟩ q Q hQ).trans ?_
    rw [show t.val % 16 * 512 + (8 + (n - 8)) = t.val % 16 * 512 + n by omega]

/-- The taps of the point's columns. -/
theorem tap_at (c : Dev nD) (t : Fin cfg0.N) (k : Fin 4) (q : Fin 1024) (Q : Fin 6144) (hQ : (Q : ℕ) = t.val / 16 * 1024 + q) :
    (show FVec Ideal S4x1024 .f32 from iblk m c 4 t) (ix2 k q) = m ((c.tc : Thread nD τ).loc main_arg1) (ix2 k Q) := by
  have ht : t.val < 96 := lt_of_lt_of_eq t.isLt N_eq
  blk_point [iblk, V, col_idx t]

/-- An element of the input's gradient, with the rows numbered. -/
theorem dxAt_rows (D : S520x1024.Idx → EReal) (W : FVec Ideal S4x1024 .f32) (y : S512x1024.Idx) :
    dxAt D W y = W (ix2 0 (y 1)) * rowOf D (y 1) ((y 0 : ℕ) + 3) + W (ix2 1 (y 1)) * rowOf D (y 1) ((y 0 : ℕ) + 2)
      + W (ix2 2 (y 1)) * rowOf D (y 1) ((y 0 : ℕ) + 1) + W (ix2 3 (y 1)) * rowOf D (y 1) (y 0 : ℕ) := by
  have h0 := row_lt y
  unfold dxAt rowOf
  rw [dif_pos (by omega), dif_pos (by omega), dif_pos (by omega), dif_pos (by omega)]

/-- One element of a block of the input's gradient. -/
theorem dx_elt (c : Dev nD) (t : Fin cfg0.N) (y : S512x1024.Idx) (R : Fin 8192) (Q : Fin 6144) (hR : (R : ℕ) = t.val % 16 * 512 + (y 0 : ℕ))
    (hQ : (Q : ℕ) = t.val / 16 * 1024 + (y 1 : ℕ)) :
    dxAt (dyBuf m c t) (iblk m c 4 t) y
      = refDx (m ((c.tc : Thread nD τ).loc main_arg3)) (m ((c.tc : Thread nD τ).loc main_arg1)) (ix2 R Q) := by
  have h0 := row_lt y
  rw [refDx_at, dxAt_rows, dy_row m c t _ (by dsimp only; omega) (y 1) Q hQ, dy_row m c t _ (by dsimp only; omega) (y 1) Q hQ,
    dy_row m c t _ (by dsimp only; omega) (y 1) Q hQ, dy_row m c t _ (by dsimp only; omega) (y 1) Q hQ, hR]
  have e := fun k => tap_at m c t k (y 1) Q hQ
  exact congrArg₂ (fun a b : EReal => a + b) (congrArg₂ (fun a b : EReal => a + b) (congrArg₂ (fun a b : EReal => a + b)
    (congrArg (fun a : EReal => a * _) (e 0)) (congrArg (fun a : EReal => a * _) (e 1))) (congrArg (fun a : EReal => a * _) (e 2)))
    (congrArg (fun a : EReal => a * _) (e 3))

/-- The array of the input's gradient. -/
theorem final_dx (c : Dev nD) : (dats m 0 c).arrAt 5 (cfgs 0).N
    = refDx (m ((c.tc : Thread nD τ).loc main_arg3)) (m ((c.tc : Thread nD τ).loc main_arg1)) := by
  refine (dats m 0 c).arrAt_eq_of_covers 5 _ (by decide +kernel) fun t hf y => ?_
  have ht : t.val < 96 := lt_of_lt_of_eq t.isLt N_eq
  blk_simp
  rw [after0_5, dx_point]
  have h0 := row_lt y
  have h1 : (y 1 : ℕ) < 1024 := (y 1).isLt
  refine (dx_elt m c t y ⟨t.val % 16 * 512 + (y 0 : ℕ), by omega⟩ ⟨t.val / 16 * 1024 + (y 1 : ℕ), by omega⟩ rfl rfl).trans (congrArg (refDx _ _) ?_)
  blk_ext [row_idx t]

/-- Sixteen blocks of 512 rows are all the rows. -/
theorem sum_blocks (g : ℕ → EReal) : ∑ s : Fin 16, ∑ r ∈ Finset.range 512, g (s * 512 + r) = ∑ r ∈ Finset.range 8192, g r := by
  rw [Finset.sum_range (n := 8192)]
  refine Eq.trans ?_ (Fin.sum_univ_tiles 16 512 rfl fun k : Fin 8192 => g k).symm
  exact Finset.sum_congr rfl fun s _ => Finset.sum_range _

/-- A point's sum for one tap, over the whole columns. -/
theorem tapSum_at (c : Dev nD) (t : Fin cfg0.N) (k : Fin 4) (q : Fin 1024) (Q : Fin 6144) (hQ : (Q : ℕ) = t.val / 16 * 1024 + q) :
    tapSum (dyBuf m c t) (xBuf m c t) q (5 + k)
      = ∑ r ∈ Finset.range 512, rowAt (m ((c.tc : Thread nD τ).loc main_arg3)) Q (t.val % 16 * 512 + r)
          * rowBack (m ((c.tc : Thread nD τ).loc main_arg0)) Q (5 + k + (t.val % 16 * 512 + r)) := by
  unfold tapSum
  refine Finset.sum_congr rfl fun r hr => ?_
  have := Finset.mem_range.1 hr
  rw [dy_row m c t r (by omega) q Q hQ, x_row m c t _ (by omega) q Q hQ, show t.val % 16 * 512 + (5 + (k : ℕ) + r) = 5 + k + (t.val % 16 * 512 + r) by omega]

/-- The sixteen blocks' sums for one tap are the sum over the whole sequence. -/
theorem dw_sum (c : Dev nD) (t : Fin cfg0.N) (p : Fin 16 → Fin cfg0.N) (hp : ∀ s, (p s : ℕ) = 16 * (t.val / 16) + s) (k : Fin 4) (q : Fin 1024)
    (Q : Fin 6144) (hQ : (Q : ℕ) = t.val / 16 * 1024 + q) :
    ∑ s : Fin 16, tapSum (dyBuf m c (p s)) (xBuf m c (p s)) q (5 + k)
      = refDw (m ((c.tc : Thread nD τ).loc main_arg3)) (m ((c.tc : Thread nD τ).loc main_arg0)) (ix2 k Q) := by
  rw [refDw_at, ← sum_blocks]
  refine Finset.sum_congr rfl fun s _ => ?_
  have hs := s.isLt
  have h := hp s
  rw [tapSum_at m c (p s) k q Q (by omega), show (p s : ℕ) % 16 = s by omega]

/-- A row block of the cotangent, as the bias's sum reads it. -/
theorem dy_at (c : Dev nD) (t : Fin cfg0.N) (r : Fin 512) (q : Fin 1024) (R : Fin 8192) (hR : (R : ℕ) = t.val % 16 * 512 + r) (Q : Fin 6144)
    (hQ : (Q : ℕ) = t.val / 16 * 1024 + q) :
    (show FVec Ideal S512x1024 .f32 from iblk m c 2 t) (ix2 r q) = m ((c.tc : Thread nD τ).loc main_arg3) (ix2 R Q) := by
  have ht : t.val < 96 := lt_of_lt_of_eq t.isLt N_eq
  blk_point [iblk, V, row_idx t]

/-- The sixteen blocks' column sums are the column sums of the whole cotangent. -/
theorem db_sum (c : Dev nD) (t : Fin cfg0.N) (p : Fin 16 → Fin cfg0.N) (hp : ∀ s, (p s : ℕ) = 16 * (t.val / 16) + s) (q : Fin 1024)
    (Q : Fin 6144) (hQ : (Q : ℕ) = t.val / 16 * 1024 + q) :
    (∑ s : Fin 16, ∑ r : Fin 512, (show FVec Ideal S512x1024 .f32 from iblk m c 2 (p s)) (ix2 r q) : EReal)
      = refDb (m ((c.tc : Thread nD τ).loc main_arg3)) (ix2 0 Q) := by
  rw [refDb_at]
  refine Eq.trans ?_ (Fin.sum_univ_tiles (M := EReal) 16 512 rfl fun R : Fin 8192 =>
    (show FVec Ideal S8192x6144 .f32 from m ((c.tc : Thread nD τ).loc main_arg3)) (ix2 R Q)).symm
  refine Finset.sum_congr rfl fun s _ => Finset.sum_congr rfl fun r _ => ?_
  have hs := s.isLt
  have h := hp s
  exact dy_at m c (p s) r q _ (by dsimp only; rw [show (p s : ℕ) % 16 = s by omega]) Q (by omega)

/-- The array of the taps' gradient. -/
theorem final_dw (c : Dev nD) : (dats m 0 c).arrAt 6 (cfgs 0).N
    = refDw (m ((c.tc : Thread nD τ).loc main_arg3)) (m ((c.tc : Thread nD τ).loc main_arg0)) := by
  refine (dats m 0 c).arrAt_eq_of_covers 6 _ (by decide +kernel) fun t hf y => ?_
  have ht : t.val < 96 := lt_of_lt_of_eq t.isLt N_eq
  have hl := (flush0_6 t).mp hf
  blk_simp
  have h0 : (y 0 : ℕ) < 4 := (y 0).isLt
  have h1 : (y 1 : ℕ) < 1024 := (y 1).isLt
  rw [after0_6, Pipeline.eq_sum_fin_of_reset_step_apply_of_flush (fun n h => (outsAt0 m c n h).2.1) 16 (fun _ => (0 : EReal))
    (fun p j => tapSum (dyBuf m c p) (xBuf m c p) (j 1) (5 + (j 0 : ℕ)))
    (fun t h j => by rw [eq_ix2 j]; exact (dw_A m c t h (j 0) (j 1)).trans (zero_add _).symm)
    (fun t h j => by rw [eq_ix2 j]; exact dw_B m c t h (j 0) (j 1)) t hl _, zero_add]
  refine (dw_sum m c t _ (fun _ => rfl) (y 0) (y 1) ⟨t.val / 16 * 1024 + (y 1 : ℕ), by omega⟩ rfl).trans (congrArg (refDw _ _) ?_)
  blk_ext [col_idx t]

/-- The array of the bias's gradient. -/
theorem final_db (c : Dev nD) : (dats m 0 c).arrAt 7 (cfgs 0).N = refDb (m ((c.tc : Thread nD τ).loc main_arg3)) := by
  refine (dats m 0 c).arrAt_eq_of_covers 7 _ (by decide +kernel) fun t hf y => ?_
  have ht : t.val < 96 := lt_of_lt_of_eq t.isLt N_eq
  have hl := (flush0_7 t).mp hf
  blk_simp
  have h0 : (y 0 : ℕ) < 1 := (y 0).isLt
  have h1 : (y 1 : ℕ) < 1024 := (y 1).isLt
  have e0 : ∀ j : S1x1024.Idx, j = ix2 0 (j 1) := fun j => by rw [eq_ix2 j]; congr 1; exact Subsingleton.elim (α := Fin 1) _ _
  rw [after0_7, Pipeline.eq_sum_fin_of_reset_step_apply_of_flush (fun n h => (outsAt0 m c n h).2.2) 16 (fun _ => (0 : EReal))
    (fun p j => ∑ r : Fin 512, (show FVec Ideal S512x1024 .f32 from iblk m c 2 p) (ix2 r (j 1)))
    (fun t h j => by rw [e0 j]; exact (db_A m c t h (j 1)).trans (zero_add _).symm)
    (fun t h j => by rw [e0 j]; exact db_B m c t h (j 1)) t hl _, zero_add]
  refine (db_sum m c t _ (fun _ => rfl) (y 1) ⟨t.val / 16 * 1024 + (y 1 : ℕ), by omega⟩ rfl).trans (congrArg (refDb _) ?_)
  blk_ext [col_idx t]

end Cert.KernelIdeal.Conv4

end
-- ==== Proof.Conv4Claim.lean ====
module

public import proofs.«01_k».proof.Defs
public import proofs.«01_k».proof.Proof.Gen.KernelIdeal.Value
public import proofs.«01_k».proof.Proof.Gen.ReferenceIdeal.Run
public import proofs.«01_k».proof.Proof.Conv4Final
public import Idealize.ShloMosaic.Adequacy
public import Idealize.ShloMosaic.Lib.Claim
public import Idealize.ShloMosaic.Lib.Quiescent
public import Idealize.ShloMosaic.Init

@[expose] public section

set_option maxRecDepth 16384

noncomputable section

namespace Cert.Conv4

open Idealize.ShloMosaic Idealize.SL.Sem Cert.KernelIdeal

/-- The reference's three results, named. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v63)
            = Cert.ReferenceIdeal.Conv4.refDx (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v58)
            = Cert.ReferenceIdeal.Conv4.refDw (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v26)
            = Cert.ReferenceIdeal.Conv4.refDb (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3) := by
  unfold Cert.ReferenceIdeal.Conv4.refDx Cert.ReferenceIdeal.Conv4.refDw Cert.ReferenceIdeal.Conv4.refDb
  exact Cert.ReferenceIdeal.Value.run m g

/-- The kernel's gradients are the reference's. -/
theorem algebraic : Cert.algebraic_KernelIdeal_ReferenceIdeal := by
  intro m g m' g' _ hagree
  refine ⟨fun c => Cert.ReferenceIdeal.Conv4.refDx (m ((c.tc : Thread Cert.KernelIdeal.nD Cert.KernelIdeal.τ).loc Cert.KernelIdeal.main_arg3))
      (m ((c.tc : Thread Cert.KernelIdeal.nD Cert.KernelIdeal.τ).loc Cert.KernelIdeal.main_arg1)),
    fun c => Cert.ReferenceIdeal.Conv4.refDw (m ((c.tc : Thread Cert.KernelIdeal.nD Cert.KernelIdeal.τ).loc Cert.KernelIdeal.main_arg3))
      (m ((c.tc : Thread Cert.KernelIdeal.nD Cert.KernelIdeal.τ).loc Cert.KernelIdeal.main_arg0)),
    fun c => Cert.ReferenceIdeal.Conv4.refDb (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Conv4.final_dx m c), (h c).2.1.trans (Cert.KernelIdeal.Conv4.final_dw m c),
        (h c).2.2.1.trans (Cert.KernelIdeal.Conv4.final_db m c), (h c).2.2.2⟩) (Cert.KernelIdeal.Value.run_blocks m g)
  · exact (θ_run Cert.ReferenceIdeal.defs _ _).mono
      (fun _ h c => ⟨(h c).1.trans (congrArg₂ Cert.ReferenceIdeal.Conv4.refDx (hagree c).2.2.2 (hagree c).2.1),
        (h c).2.1.trans (congrArg₂ Cert.ReferenceIdeal.Conv4.refDw (hagree c).2.2.2 (hagree c).1),
        (h c).2.2.1.trans (congrArg Cert.ReferenceIdeal.Conv4.refDb (hagree c).2.2.2), (h c).2.2.2⟩) (reference_run m' g')

/-- The reference ends with its arguments unchanged. -/
theorem frame_reference : Cert.quiescent_ReferenceIdeal := fun m g _ =>
  (θ_run Cert.ReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run m g)

end Cert.Conv4

end
-- ==== Proof.Products.lean ====
module

public import Idealize.ShloMosaic.Lib.Pipeline.ValueKit
public import Mathlib.Data.EReal.Basic

@[expose] public section

namespace Cert.Products

open Idealize.ShloMosaic

/-- A sum that is carried over runs of `k` points. The first point of a run leaves its own term and the points
    between add theirs to what the point before left; then what the last point finds, with its own term, is the
    sum of the run's terms. Nothing is said about what the last point does with it. -/
theorem run_total {N : ℕ} {ι : Type} (out : (n : ℕ) → n < N → ι → EReal) (term : Fin N → ι → EReal) (k : ℕ) [NeZero k]
    (first : ∀ t : Fin N, t.val % k = 0 → ∀ y, out t.val t.isLt y = term t y)
    (mid : ∀ t : Fin N, ¬ t.val % k = 0 → ¬ t.val % k = k - 1 → ∀ y,
      out t.val t.isLt y = out (t.val - 1) (Nat.lt_of_le_of_lt (Nat.sub_le _ _) t.isLt) y + term t y)
    (t : Fin N) (hl : t.val % k = k - 1) (hk : 1 < k) (y : ι) :
    out (t.val - 1) (Nat.lt_of_le_of_lt (Nat.sub_le _ _) t.isLt) y + term t y
      = ∑ s : Fin k, term ⟨k * (t.val / k) + s.val, Pipeline.run_point_lt_of_flush t hl s⟩ y := by
  let acc : (n : ℕ) → n < N → ι → EReal := fun n h y =>
    if n % k = k - 1 then out (n - 1) (Nat.lt_of_le_of_lt (Nat.sub_le _ _) h) y + term ⟨n, h⟩ y else out n h y
  have before : ∀ t : Fin N, ¬ t.val % k = 0 → ¬ (t.val - 1) % k = k - 1 := by
    intro t h h'
    have : t.val = k * ((t.val - 1) / k) + (t.val - 1) % k + 1 := by
      rw [Nat.div_add_mod]
      have : t.val ≠ 0 := fun e => h (by rw [e, Nat.zero_mod])
      omega
    refine h ?_
    rw [this, h', add_assoc, Nat.sub_add_cancel hk.le, ← Nat.mul_succ, Nat.mul_mod_right]
  have e := Pipeline.eq_sum_fin_of_reset_step_apply_of_flush acc k (fun _ => (0 : EReal)) term
    (fun t h y => by
      simp only [acc]
      rw [if_neg (by omega), first t h, zero_add])
    (fun t h y => by
      by_cases hl : t.val % k = k - 1
      · simp only [acc]
        rw [if_pos hl, if_neg (before t h)]
      · simp only [acc]
        rw [if_neg hl, if_neg (before t h)]
        exact mid t h hl y) t hl y
  rw [zero_add] at e
  exact (if_pos hl).symm.trans e

end Cert.Products
-- ==== Proof.PDwDown.lean ====
module

public import proofs.«01_k».proof.Defs
public import proofs.«01_k».proof.Proof.Gen.DwDownIdeal.Value
public import proofs.«01_k».proof.Proof.Gen.RefDwDownIdeal.Run
public import proofs.«01_k».proof.Proof.Gen.DwDown
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwDownIdeal.Prod

open Cert.RefDwDownIdeal Cert.RefDwDownIdeal.Gen Idealize.ShloMosaic Idealize.ShloMosaic.TcCoe Idealize.SL.Sem

/-- Element `(i, j)` of the whole product. -/
def whole (x0 : FVec Ideal S8192x8192 .bf16) (x2 : FVec Ideal S8192x2048 .bf16) (i : Fin 8192) (j : Fin 2048) : EReal :=
  ∑ r : Fin 8192, x0 (ix2 r i) * x2 (ix2 r j)

/-- The reference's result. -/
def ref (x0 : FVec Ideal S8192x8192 .bf16) (x2 : FVec Ideal S8192x2048 .bf16) : FVec Ideal S8192x2048 .bf16 :=
  truncf .bf16 (transpose S8192x2048 [1, 0] (Host.dotGeneral dot_S8192x2048_S8192x8192_S2048x8192_0_0_1_1_n_n none (extf .f32 x2 bitsLt_bf16_f32) (extf .f32 x0 bitsLt_bf16_f32)) transposes_S2048x8192_S8192x2048_1_0) bitsLt_bf16_f32

theorem ref_at (x0 : FVec Ideal S8192x8192 .bf16) (x2 : FVec Ideal S8192x2048 .bf16) (i : Fin 8192) (j : Fin 2048) :
    ref x0 x2 (ix2 i j) = whole x0 x2 i j := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwDownIdeal := fun m g _ =>
  (θ_run defs _ _).mono (fun r h => ⟨fun c => (h c).2, sem_eq_zero_of_no_sems (by decide) r.2⟩) (Value.run m g)

end Cert.RefDwDownIdeal.Prod

namespace Cert.DwDownIdeal.Prod

open Cert.DwDownIdeal Cert.DwDownIdeal.Gen Idealize.ShloMosaic Idealize.ShloMosaic.TcCoe Idealize.SL.Sem
open Cert.RefDwDownIdeal.Prod (whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S2048x1024 .bf16 from iblk m c 0 t) (ix2 r i) * (show FVec Ideal S2048x1024 .bf16 from iblk m c 1 t) (ix2 r j)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S2048x1024 .bf16 from iblk m c 0 t) (ix2 r i) = (show FVec Ideal S8192x8192 .bf16 from m ((c.tc : Thread nD τ).loc main_arg0)) (ix2 R I) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S2048x1024 .bf16 from iblk m c 1 t) (ix2 r j) = (show FVec Ideal S8192x2048 .bf16 from m ((c.tc : Thread nD τ).loc main_arg2)) (ix2 R J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt).2 (ix2 i j) = part m c t i j := by
  rw [outsAt0_A m c t h0 (by omega) (by omega)]
  dsimp only
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt).2 (ix2 i j) = (outsAt0 m c (t.val - 1) (Nat.lt_of_le_of_lt (Nat.sub_le _ _) t.isLt)).2 (ix2 i j) + part m c t i j := by
  rw [outsAt0_B m c t h0 (by omega) h2]
  dsimp only
  frame_out
  open_payloads
  pointwise
  rw [(Memref.isWhole_whole _).read_unread]
  rfl

/-- The last point writes the sum. -/
theorem out_last (c : Dev nD) (t : Fin cfg0.N) (h2 : t.val % 4 = 3) (i : Fin 1024) (j : Fin 1024) :
    (outsAt0 m c t.val t.isLt).1 (ix2 i j) = (show EReal from (outsAt0 m c (t.val - 1) (Nat.lt_of_le_of_lt (Nat.sub_le _ _) t.isLt)).2 (ix2 i j)) + part m c t i j := by
  rw [outsAt0_C m c t (by omega) (by omega) h2]
  dsimp only
  frame_out
  open_payloads
  pointwise
  rw [(Memref.isWhole_whole _).read_unread]
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)).2 (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h).2 (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_DwDownIdeal_RefDwDownIdeal := by
  intro m g m' g' _ hagree
  refine ⟨fun c => ref (m ((c.tc : Thread nD τ).loc main_arg0)) (m ((c.tc : Thread nD τ).loc main_arg2)), ?_, ?_⟩
  · exact (θ_run Cert.DwDownIdeal.defs _ _).mono
      (fun _ h c => ⟨(h c).1.trans (final0 m c), (h c).2⟩) (Cert.DwDownIdeal.Value.run_blocks m g)
  · exact (θ_run Cert.RefDwDownIdeal.defs _ _).mono
      (fun _ h c => ⟨(h c).1.trans (congrArg₂ ref (hagree c).1 (hagree c).2.2), (h c).2⟩) (Cert.RefDwDownIdeal.Prod.run m' g')

/-- The printed program and its ideal form run the same body. -/
theorem same_defs : Cert.DwDown.defs (F := Bits) = defs := by
  refine congrArg (Pipeline.defs pcfgs) ?_
  unfold Cert.DwDown.defs₀ defs₀
  congr 1
  funext l x
  match l, x with
  | 0, (_, _) => rfl

/-- The printed program ends with its arguments unchanged: its run is that of the ideal form, over bits. -/
theorem frame_bits : Cert.quiescent_DwDown := fun m g _ => by
  rw [same_defs]
  exact frame (F := Bits) m g

end Cert.DwDownIdeal.Prod

end
-- ==== Proof.PDwUp.lean ====
module

public import proofs.«01_k».proof.Defs
public import proofs.«01_k».proof.Proof.Gen.DwUpIdeal.Value
public import proofs.«01_k».proof.Proof.Gen.RefDwUpIdeal.Run
public import proofs.«01_k».proof.Proof.Gen.DwUp
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwUpIdeal.Prod

open Cert.RefDwUpIdeal Cert.RefDwUpIdeal.Gen Idealize.ShloMosaic Idealize.ShloMosaic.TcCoe Idealize.SL.Sem

/-- Element `(i, j)` of the whole product. -/
def whole (x0 : FVec Ideal S8192x2048 .bf16) (x2 : FVec Ideal S8192x8192 .bf16) (i : Fin 2048) (j : Fin 8192) : EReal :=
  ∑ r : Fin 8192, x0 (ix2 r i) * x2 (ix2 r j)

/-- The reference's result. -/
def ref (x0 : FVec Ideal S8192x2048 .bf16) (x2 : FVec Ideal S8192x8192 .bf16) : FVec Ideal S4x2048x2048 .bf16 :=
  truncf .bf16 (transpose S4x2048x2048 [1, 0, 2] (shapeCast _ (transpose S2048x8192 [1, 0] (Host.dotGeneral dot_S8192x8192_S8192x2048_S8192x2048_0_0_1_1_n_n none (extf .f32 x2 bitsLt_bf16_f32) (extf .f32 x0 bitsLt_bf16_f32)) transposes_S8192x2048_S2048x8192_1_0) shapeCasts_S2048x8192_S2048x4x2048) transposes_S2048x4x2048_S4x2048x2048_1_0_2) bitsLt_bf16_f32

theorem ref_at (x0 : FVec Ideal S8192x2048 .bf16) (x2 : FVec Ideal S8192x8192 .bf16) (s : Fin 4) (i : Fin 2048) (j : Fin 2048) :
    ref x0 x2 (ix3 s i j) = whole x0 x2 i ⟨s * 2048 + j, by omega⟩ := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwUpIdeal := fun m g _ =>
  (θ_run defs _ _).mono (fun r h => ⟨fun c => (h c).2, sem_eq_zero_of_no_sems (by decide) r.2⟩) (Value.run m g)

end Cert.RefDwUpIdeal.Prod

namespace Cert.DwUpIdeal.Prod

open Cert.DwUpIdeal Cert.DwUpIdeal.Gen Idealize.ShloMosaic Idealize.ShloMosaic.TcCoe Idealize.SL.Sem
open Cert.RefDwUpIdeal.Prod (whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val % 4, t.val / 32]
    ∧ win0_1.index t = ![t.val % 4, t.val / 4 % 8]
    ∧ win0_2.index t = ![t.val / 4 % 8 / 2, t.val / 32, t.val / 4 % 8 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S2048x1024 .bf16 from iblk m c 0 t) (ix2 r i) * (show FVec Ideal S2048x1024 .bf16 from iblk m c 1 t) (ix2 r j)

/-- The left block in the left array. -/
theorem a_at (c : Dev nD) (t : Fin cfg0.N) (i : Fin 1024) (r : Fin 2048) (I : Fin 2048) (R : Fin 8192) (hI : (I : ℕ) = t.val / 32 * 1024 + i) (hR : (R : ℕ) = t.val % 4 * 2048 + r) :
    (show FVec Ideal S2048x1024 .bf16 from iblk m c 0 t) (ix2 r i) = (show FVec Ideal S8192x2048 .bf16 from m ((c.tc : Thread nD τ).loc main_arg0)) (ix2 R I) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 8192) (hR : (R : ℕ) = t.val % 4 * 2048 + r) (hJ : (J : ℕ) = t.val / 4 % 8 * 1024 + j) :
    (show FVec Ideal S2048x1024 .bf16 from iblk m c 1 t) (ix2 r j) = (show FVec Ideal S8192x8192 .bf16 from m ((c.tc : Thread nD τ).loc main_arg2)) (ix2 R J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 2048) (J : Fin 8192) (hI : (I : ℕ) = t.val / 32 * 1024 + i) (hJ : (J : ℕ) = t.val / 4 % 8 * 1024 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt).2 (ix2 i j) = part m c t i j := by
  rw [outsAt0_A m c t h0 (by omega) (by omega)]
  dsimp only
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt).2 (ix2 i j) = (outsAt0 m c (t.val - 1) (Nat.lt_of_le_of_lt (Nat.sub_le _ _) t.isLt)).2 (ix2 i j) + part m c t i j := by
  rw [outsAt0_B m c t h0 (by omega) h2]
  dsimp only
  frame_out
  open_payloads
  pointwise
  rw [(Memref.isWhole_whole _).read_unread]
  rfl

/-- The last point writes the sum. -/
theorem out_last (c : Dev nD) (t : Fin cfg0.N) (h2 : t.val % 4 = 3) (i : Fin 1024) (j : Fin 1024) :
    (outsAt0 m c t.val t.isLt).1 (ix3 0 i j) = (show EReal from (outsAt0 m c (t.val - 1) (Nat.lt_of_le_of_lt (Nat.sub_le _ _) t.isLt)).2 (ix2 i j)) + part m c t i j := by
  rw [outsAt0_C m c t (by omega) (by omega) h2]
  dsimp only
  frame_out
  open_payloads
  pointwise
  rw [(Memref.isWhole_whole _).read_unread]
  rfl

/-- The running sum at the end of a run is the whole product. -/
theorem acc_last (c : Dev nD) (t : Fin cfg0.N) (hl : t.val % 4 = 3) (i : Fin 1024) (j : Fin 1024) (I : Fin 2048) (J : Fin 8192) (hI : (I : ℕ) = t.val / 32 * 1024 + i) (hJ : (J : ℕ) = t.val / 4 % 8 * 1024 + j) :
    (show EReal from (outsAt0 m c (t.val - 1) (Nat.lt_of_le_of_lt (Nat.sub_le _ _) t.isLt)).2 (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h).2 (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h1 : (y 1 : ℕ) < 1024 := (y 1).isLt
  have h2 : (y 2 : ℕ) < 1024 := (y 2).isLt
  have hy : y = ix3 0 (y 1) (y 2) := (eq_ix3 y).trans (by congr 1; exact Subsingleton.elim (α := Fin 1) _ _)
  rw [after0_2]
  refine ((congrArg _ hy).trans (out_last m c t hl (y 1) (y 2))).trans (Eq.trans ?_ (congrArg (ref _ _) (?_ : (ix3 ⟨t.val / 4 % 8 / 2, by omega⟩ ⟨t.val / 32 * 1024 + (y 1), by omega⟩ ⟨t.val / 4 % 8 % 2 * 1024 + (y 2), by omega⟩) = _)))
  · rw [ref_at]
    exact acc_last m c t hl (y 1) (y 2) _ _ rfl (by dsimp only; omega)
  · blk_ext [idx t]

/-- The kernel's result is the reference's. -/
theorem algebraic : Cert.algebraic_DwUpIdeal_RefDwUpIdeal := by
  intro m g m' g' _ hagree
  refine ⟨fun c => ref (m ((c.tc : Thread nD τ).loc main_arg0)) (m ((c.tc : Thread nD τ).loc main_arg2)), ?_, ?_⟩
  · exact (θ_run Cert.DwUpIdeal.defs _ _).mono
      (fun _ h c => ⟨(h c).1.trans (final0 m c), (h c).2⟩) (Cert.DwUpIdeal.Value.run_blocks m g)
  · exact (θ_run Cert.RefDwUpIdeal.defs _ _).mono
      (fun _ h c => ⟨(h c).1.trans (congrArg₂ ref (hagree c).1 (hagree c).2.2), (h c).2⟩) (Cert.RefDwUpIdeal.Prod.run m' g')

/-- The printed program and its ideal form run the same body. -/
theorem same_defs : Cert.DwUp.defs (F := Bits) = defs := by
  refine congrArg (Pipeline.defs pcfgs) ?_
  unfold Cert.DwUp.defs₀ defs₀
  congr 1
  funext l x
  match l, x with
  | 0, (_, _) => rfl

/-- The printed program ends with its arguments unchanged: its run is that of the ideal form, over bits. -/
theorem frame_bits : Cert.quiescent_DwUp := fun m g _ => by
  rw [same_defs]
  exact frame (F := Bits) m g

end Cert.DwUpIdeal.Prod

end
-- ==== Proof.PDwQkv.lean ====
module

public import proofs.«01_k».proof.Defs
public import proofs.«01_k».proof.Proof.Gen.DwQkvIdeal.Value
public import proofs.«01_k».proof.Proof.Gen.RefDwQkvIdeal.Run
public import proofs.«01_k».proof.Proof.Gen.DwQkv
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwQkvIdeal.Prod

open Cert.RefDwQkvIdeal Cert.RefDwQkvIdeal.Gen Idealize.ShloMosaic Idealize.ShloMosaic.TcCoe Idealize.SL.Sem

/-- Element `(i, j)` of the whole product. -/
def whole (x0 : FVec Ideal S8192x2048 .bf16) (x2 : FVec Ideal S8192x6144 .bf16) (i : Fin 2048) (j : Fin 6144) : EReal :=
  ∑ r : Fin 8192, x0 (ix2 r i) * x2 (ix2 r j)

/-- The reference's result. -/
def ref (x0 : FVec Ideal S8192x2048 .bf16) (x2 : FVec Ideal S8192x6144 .bf16) : FVec Ideal S4x2048x1536 .bf16 :=
  truncf .bf16 (transpose S4x2048x1536 [1, 0, 2] (shapeCast _ (transpose S2048x6144 [1, 0] (Host.dotGeneral dot_S8192x6144_S8192x2048_S6144x2048_0_0_1_1_n_n none (extf .f32 x2 bitsLt_bf16_f32) (extf .f32 x0 bitsLt_bf16_f32)) transposes_S6144x2048_S2048x6144_1_0) shapeCasts_S2048x6144_S2048x4x1536) transposes_S2048x4x1536_S4x2048x1536_1_0_2) bitsLt_bf16_f32

theorem ref_at (x0 : FVec Ideal S8192x2048 .bf16) (x2 : FVec Ideal S8192x6144 .bf16) (s : Fin 4) (i : Fin 2048) (j : Fin 1536) :
    ref x0 x2 (ix3 s i j) = whole x0 x2 i ⟨s * 1536 + j, by omega⟩ := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwQkvIdeal := fun m g _ =>
  (θ_run defs _ _).mono (fun r h => ⟨fun c => (h c).2, sem_eq_zero_of_no_sems (by decide) r.2⟩) (Value.run m g)

end Cert.RefDwQkvIdeal.Prod

namespace Cert.DwQkvIdeal.Prod

open Cert.DwQkvIdeal Cert.DwQkvIdeal.Gen Idealize.ShloMosaic Idealize.ShloMosaic.TcCoe Idealize.SL.Sem
open Cert.RefDwQkvIdeal.Prod (whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val % 4, t.val / 32]
    ∧ win0_1.index t = ![t.val % 4, t.val / 4 % 8]
    ∧ win0_2.index t = ![t.val / 4 % 8 / 2, t.val / 32, t.val / 4 % 8 % 2] :=
  (by decide +kernel : ∀ t : Fin grid0.N, _)

/-- What the point's two blocks contribute to element `(i, j)` of the result's block. -/
def part (c : Dev nD) (t : Fin cfg0.N) (i : Fin 1024) (j : Fin 768) : EReal :=
  ∑ r : Fin 2048, (show FVec Ideal S2048x1024 .bf16 from iblk m c 0 t) (ix2 r i) * (show FVec Ideal S2048x768 .bf16 from iblk m c 1 t) (ix2 r j)

/-- The left block in the left array. -/
theorem a_at (c : Dev nD) (t : Fin cfg0.N) (i : Fin 1024) (r : Fin 2048) (I : Fin 2048) (R : Fin 8192) (hI : (I : ℕ) = t.val / 32 * 1024 + i) (hR : (R : ℕ) = t.val % 4 * 2048 + r) :
    (show FVec Ideal S2048x1024 .bf16 from iblk m c 0 t) (ix2 r i) = (show FVec Ideal S8192x2048 .bf16 from m ((c.tc : Thread nD τ).loc main_arg0)) (ix2 R I) := by
  have ht : t.val < 64 := lt_of_lt_of_eq t.isLt N_eq
  blk_point [iblk, V, idx t]

/-- The right block in the right array. -/
theorem b_at (c : Dev nD) (t : Fin cfg0.N) (r : Fin 2048) (j : Fin 768) (R : Fin 8192) (J : Fin 6144) (hR : (R : ℕ) = t.val % 4 * 2048 + r) (hJ : (J : ℕ) = t.val / 4 % 8 * 768 + j) :
    (show FVec Ideal S2048x768 .bf16 from iblk m c 1 t) (ix2 r j) = (show FVec Ideal S8192x6144 .bf16 from m ((c.tc : Thread nD τ).loc main_arg2)) (ix2 R J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 768) (I : Fin 2048) (J : Fin 6144) (hI : (I : ℕ) = t.val / 32 * 1024 + i) (hJ : (J : ℕ) = t.val / 4 % 8 * 768 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 768) :
    (outsAt0 m c t.val t.isLt).2 (ix2 i j) = part m c t i j := by
  rw [outsAt0_A m c t h0 (by omega) (by omega)]
  dsimp only
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 768) :
    (outsAt0 m c t.val t.isLt).2 (ix2 i j) = (outsAt0 m c (t.val - 1) (Nat.lt_of_le_of_lt (Nat.sub_le _ _) t.isLt)).2 (ix2 i j) + part m c t i j := by
  rw [outsAt0_B m c t h0 (by omega) h2]
  dsimp only
  frame_out
  open_payloads
  pointwise
  rw [(Memref.isWhole_whole _).read_unread]
  rfl

/-- The last point writes the sum. -/
theorem out_last (c : Dev nD) (t : Fin cfg0.N) (h2 : t.val % 4 = 3) (i : Fin 1024) (j : Fin 768) :
    (outsAt0 m c t.val t.isLt).1 (ix3 0 i j) = (show EReal from (outsAt0 m c (t.val - 1) (Nat.lt_of_le_of_lt (Nat.sub_le _ _) t.isLt)).2 (ix2 i j)) + part m c t i j := by
  rw [outsAt0_C m c t (by omega) (by omega) h2]
  dsimp only
  frame_out
  open_payloads
  pointwise
  rw [(Memref.isWhole_whole _).read_unread]
  rfl

/-- The running sum at the end of a run is the whole product. -/
theorem acc_last (c : Dev nD) (t : Fin cfg0.N) (hl : t.val % 4 = 3) (i : Fin 1024) (j : Fin 768) (I : Fin 2048) (J : Fin 6144) (hI : (I : ℕ) = t.val / 32 * 1024 + i) (hJ : (J : ℕ) = t.val / 4 % 8 * 768 + j) :
    (show EReal from (outsAt0 m c (t.val - 1) (Nat.lt_of_le_of_lt (Nat.sub_le _ _) t.isLt)).2 (ix2 i j)) + part m c t i j = whole (m ((c.tc : Thread nD τ).loc main_arg0)) (m ((c.tc : Thread nD τ).loc main_arg2)) I J := by
  exact Eq.trans (Cert.Products.run_total (fun n h (y : Fin 1024 × Fin 768) => (show EReal from (outsAt0 m c n h).2 (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h1 : (y 1 : ℕ) < 1024 := (y 1).isLt
  have h2 : (y 2 : ℕ) < 768 := (y 2).isLt
  have hy : y = ix3 0 (y 1) (y 2) := (eq_ix3 y).trans (by congr 1; exact Subsingleton.elim (α := Fin 1) _ _)
  rw [after0_2]
  refine ((congrArg _ hy).trans (out_last m c t hl (y 1) (y 2))).trans (Eq.trans ?_ (congrArg (ref _ _) (?_ : (ix3 ⟨t.val / 4 % 8 / 2, by omega⟩ ⟨t.val / 32 * 1024 + (y 1), by omega⟩ ⟨t.val / 4 % 8 % 2 * 768 + (y 2), by omega⟩) = _)))
  · rw [ref_at]
    exact acc_last m c t hl (y 1) (y 2) _ _ rfl (by dsimp only; omega)
  · blk_ext [idx t]

/-- The kernel's result is the reference's. -/
theorem algebraic : Cert.algebraic_DwQkvIdeal_RefDwQkvIdeal := by
  intro m g m' g' _ hagree
  refine ⟨fun c => ref (m ((c.tc : Thread nD τ).loc main_arg0)) (m ((c.tc : Thread nD τ).loc main_arg2)), ?_, ?_⟩
  · exact (θ_run Cert.DwQkvIdeal.defs _ _).mono
      (fun _ h c => ⟨(h c).1.trans (final0 m c), (h c).2⟩) (Cert.DwQkvIdeal.Value.run_blocks m g)
  · exact (θ_run Cert.RefDwQkvIdeal.defs _ _).mono
      (fun _ h c => ⟨(h c).1.trans (congrArg₂ ref (hagree c).1 (hagree c).2.2), (h c).2⟩) (Cert.RefDwQkvIdeal.Prod.run m' g')

/-- The printed program and its ideal form run the same body. -/
theorem same_defs : Cert.DwQkv.defs (F := Bits) = defs := by
  refine congrArg (Pipeline.defs pcfgs) ?_
  unfold Cert.DwQkv.defs₀ defs₀
  congr 1
  funext l x
  match l, x with
  | 0, (_, _) => rfl

/-- The printed program ends with its arguments unchanged: its run is that of the ideal form, over bits. -/
theorem frame_bits : Cert.quiescent_DwQkv := fun m g _ => by
  rw [same_defs]
  exact frame (F := Bits) m g

end Cert.DwQkvIdeal.Prod

end
-- ==== Proof.PDwO.lean ====
module

public import proofs.«01_k».proof.Defs
public import proofs.«01_k».proof.Proof.Gen.DwOIdeal.Value
public import proofs.«01_k».proof.Proof.Gen.RefDwOIdeal.Run
public import proofs.«01_k».proof.Proof.Gen.DwO
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwOIdeal.Prod

open Cert.RefDwOIdeal Cert.RefDwOIdeal.Gen Idealize.ShloMosaic Idealize.ShloMosaic.TcCoe Idealize.SL.Sem

/-- Element `(i, j)` of the whole product. -/
def whole (x0 : FVec Ideal S8192x2048 .bf16) (x2 : FVec Ideal S8192x2048 .bf16) (i : Fin 2048) (j : Fin 2048) : EReal :=
  ∑ r : Fin 8192, x0 (ix2 r i) * x2 (ix2 r j)

/-- The reference's result. -/
def ref (x0 : FVec Ideal S8192x2048 .bf16) (x2 : FVec Ideal S8192x2048 .bf16) : FVec Ideal S2048x2048 .bf16 :=
  truncf .bf16 (transpose S2048x2048 [1, 0] (Host.dotGeneral dot_S8192x2048_S8192x2048_S2048x2048_0_0_1_1_n_n none (extf .f32 x2 bitsLt_bf16_f32) (extf .f32 x0 bitsLt_bf16_f32)) transposes_S2048x2048_S2048x2048_1_0) bitsLt_bf16_f32

theorem ref_at (x0 : FVec Ideal S8192x2048 .bf16) (x2 : FVec Ideal S8192x2048 .bf16) (i : Fin 2048) (j : Fin 2048) :
    ref x0 x2 (ix2 i j) = whole x0 x2 i j := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwOIdeal := fun m g _ =>
  (θ_run defs _ _).mono (fun r h => ⟨fun c => (h c).2, sem_eq_zero_of_no_sems (by decide) r.2⟩) (Value.run m g)

end Cert.RefDwOIdeal.Prod

namespace Cert.DwOIdeal.Prod

open Cert.DwOIdeal Cert.DwOIdeal.Gen Idealize.ShloMosaic Idealize.ShloMosaic.TcCoe Idealize.SL.Sem
open Cert.RefDwOIdeal.Prod (whole ref ref_at)

variable (m : (ℓ : Loc nD τ sig) → Buf (Elt Ideal) ℓ)

theorem N_eq : cfg0.N = 16 := by decide +kernel

/-- The block of each array at grid point `t`. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S2048x1024 .bf16 from iblk m c 0 t) (ix2 r i) * (show FVec Ideal S2048x1024 .bf16 from iblk m c 1 t) (ix2 r j)

/-- The left block in the left array. -/
theorem a_at (c : Dev nD) (t : Fin cfg0.N) (i : Fin 1024) (r : Fin 2048) (I : Fin 2048) (R : Fin 8192) (hI : (I : ℕ) = t.val / 8 * 1024 + i) (hR : (R : ℕ) = t.val % 4 * 2048 + r) :
    (show FVec Ideal S2048x1024 .bf16 from iblk m c 0 t) (ix2 r i) = (show FVec Ideal S8192x2048 .bf16 from m ((c.tc : Thread nD τ).loc main_arg0)) (ix2 R I) := by
  have ht : t.val < 16 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S2048x1024 .bf16 from iblk m c 1 t) (ix2 r j) = (show FVec Ideal S8192x2048 .bf16 from m ((c.tc : Thread nD τ).loc main_arg2)) (ix2 R J) := by
  have ht : t.val < 16 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 2048) (J : Fin 2048) (hI : (I : ℕ) = t.val / 8 * 1024 + i) (hJ : (J : ℕ) = t.val / 4 % 2 * 1024 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt).2 (ix2 i j) = part m c t i j := by
  rw [outsAt0_A m c t h0 (by omega) (by omega)]
  dsimp only
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt).2 (ix2 i j) = (outsAt0 m c (t.val - 1) (Nat.lt_of_le_of_lt (Nat.sub_le _ _) t.isLt)).2 (ix2 i j) + part m c t i j := by
  rw [outsAt0_B m c t h0 (by omega) h2]
  dsimp only
  frame_out
  open_payloads
  pointwise
  rw [(Memref.isWhole_whole _).read_unread]
  rfl

/-- The last point writes the sum. -/
theorem out_last (c : Dev nD) (t : Fin cfg0.N) (h2 : t.val % 4 = 3) (i : Fin 1024) (j : Fin 1024) :
    (outsAt0 m c t.val t.isLt).1 (ix2 i j) = (show EReal from (outsAt0 m c (t.val - 1) (Nat.lt_of_le_of_lt (Nat.sub_le _ _) t.isLt)).2 (ix2 i j)) + part m c t i j := by
  rw [outsAt0_C m c t (by omega) (by omega) h2]
  dsimp only
  frame_out
  open_payloads
  pointwise
  rw [(Memref.isWhole_whole _).read_unread]
  rfl

/-- The running sum at the end of a run is the whole product. -/
theorem acc_last (c : Dev nD) (t : Fin cfg0.N) (hl : t.val % 4 = 3) (i : Fin 1024) (j : Fin 1024) (I : Fin 2048) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)).2 (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h).2 (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 16 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_DwOIdeal_RefDwOIdeal := by
  intro m g m' g' _ hagree
  refine ⟨fun c => ref (m ((c.tc : Thread nD τ).loc main_arg0)) (m ((c.tc : Thread nD τ).loc main_arg2)), ?_, ?_⟩
  · exact (θ_run Cert.DwOIdeal.defs _ _).mono
      (fun _ h c => ⟨(h c).1.trans (final0 m c), (h c).2⟩) (Cert.DwOIdeal.Value.run_blocks m g)
  · exact (θ_run Cert.RefDwOIdeal.defs _ _).mono
      (fun _ h c => ⟨(h c).1.trans (congrArg₂ ref (hagree c).1 (hagree c).2.2), (h c).2⟩) (Cert.RefDwOIdeal.Prod.run m' g')

/-- The printed program and its ideal form run the same body. -/
theorem same_defs : Cert.DwO.defs (F := Bits) = defs := by
  refine congrArg (Pipeline.defs pcfgs) ?_
  unfold Cert.DwO.defs₀ defs₀
  congr 1
  funext l x
  match l, x with
  | 0, (_, _) => rfl

/-- The printed program ends with its arguments unchanged: its run is that of the ideal form, over bits. -/
theorem frame_bits : Cert.quiescent_DwO := fun m g _ => by
  rw [same_defs]
  exact frame (F := Bits) m g

end Cert.DwOIdeal.Prod

end
-- ==== Proof.PDwIn.lean ====
module

public import proofs.«01_k».proof.Defs
public import proofs.«01_k».proof.Proof.Gen.DwInIdeal.Value
public import proofs.«01_k».proof.Proof.Gen.RefDwInIdeal.Run
public import proofs.«01_k».proof.Proof.Gen.DwIn
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwInIdeal.Prod

open Cert.RefDwInIdeal Cert.RefDwInIdeal.Gen Idealize.ShloMosaic Idealize.ShloMosaic.TcCoe Idealize.SL.Sem

/-- Element `(i, j)` of the whole product. -/
def whole (x0 : FVec Ideal S8192x2048 .bf16) (x2 : FVec Ideal S8192x4096 .f32) (i : Fin 2048) (j : Fin 4096) : EReal :=
  ∑ r : Fin 8192, x0 (ix2 r i) * x2 (ix2 r j)

/-- The reference's result. -/
def ref (x0 : FVec Ideal S8192x2048 .bf16) (x2 : FVec Ideal S8192x4096 .f32) : FVec Ideal S4x2048x1024 .bf16 :=
  truncf .bf16 (transpose S4x2048x1024 [1, 0, 2] (shapeCast _ (transpose S2048x4096 [1, 0] (Host.dotGeneral dot_S8192x4096_S8192x2048_S4096x2048_0_0_1_1_n_n none x2 (extf .f32 x0 bitsLt_bf16_f32)) transposes_S4096x2048_S2048x4096_1_0) shapeCasts_S2048x4096_S2048x4x1024) transposes_S2048x4x1024_S4x2048x1024_1_0_2) bitsLt_bf16_f32

theorem ref_at (x0 : FVec Ideal S8192x2048 .bf16) (x2 : FVec Ideal S8192x4096 .f32) (s : Fin 4) (i : Fin 2048) (j : Fin 1024) :
    ref x0 x2 (ix3 s i j) = whole x0 x2 i ⟨s * 1024 + j, by omega⟩ := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwInIdeal := fun m g _ =>
  (θ_run defs _ _).mono (fun r h => ⟨fun c => (h c).2, sem_eq_zero_of_no_sems (by decide) r.2⟩) (Value.run m g)

end Cert.RefDwInIdeal.Prod

namespace Cert.DwInIdeal.Prod

open Cert.DwInIdeal Cert.DwInIdeal.Gen Idealize.ShloMosaic Idealize.ShloMosaic.TcCoe Idealize.SL.Sem
open Cert.RefDwInIdeal.Prod (whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val % 8, t.val / 32]
    ∧ win0_1.index t = ![t.val % 8, t.val / 8 % 4]
    ∧ win0_2.index t = ![t.val / 8 % 4, t.val / 32, 0] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 1024, (show FVec Ideal S1024x1024 .bf16 from iblk m c 0 t) (ix2 r i) * (show FVec Ideal S1024x1024 .f32 from iblk m c 1 t) (ix2 r j)

/-- The left block in the left array. -/
theorem a_at (c : Dev nD) (t : Fin cfg0.N) (i : Fin 1024) (r : Fin 1024) (I : Fin 2048) (R : Fin 8192) (hI : (I : ℕ) = t.val / 32 * 1024 + i) (hR : (R : ℕ) = t.val % 8 * 1024 + r) :
    (show FVec Ideal S1024x1024 .bf16 from iblk m c 0 t) (ix2 r i) = (show FVec Ideal S8192x2048 .bf16 from m ((c.tc : Thread nD τ).loc main_arg0)) (ix2 R I) := by
  have ht : t.val < 64 := lt_of_lt_of_eq t.isLt N_eq
  blk_point [iblk, V, idx t]

/-- The right block in the right array. -/
theorem b_at (c : Dev nD) (t : Fin cfg0.N) (r : Fin 1024) (j : Fin 1024) (R : Fin 8192) (J : Fin 4096) (hR : (R : ℕ) = t.val % 8 * 1024 + r) (hJ : (J : ℕ) = t.val / 8 % 4 * 1024 + j) :
    (show FVec Ideal S1024x1024 .f32 from iblk m c 1 t) (ix2 r j) = (show FVec Ideal S8192x4096 .f32 from m ((c.tc : Thread nD τ).loc main_arg2)) (ix2 R J) := by
  have ht : t.val < 64 := lt_of_lt_of_eq t.isLt N_eq
  blk_point [iblk, V, idx t]

/-- The points of one run make up the whole product. -/
theorem parts_sum (c : Dev nD) (t : Fin cfg0.N) (p : Fin 8 → Fin cfg0.N) (hp : ∀ s, (p s : ℕ) = 8 * (t.val / 8) + s) (i : Fin 1024) (j : Fin 1024) (I : Fin 2048) (J : Fin 4096) (hI : (I : ℕ) = t.val / 32 * 1024 + i) (hJ : (J : ℕ) = t.val / 8 % 4 * 1024 + j) :
    ∑ s : Fin 8, part m c (p s) i j = whole (m ((c.tc : Thread nD τ).loc main_arg0)) (m ((c.tc : Thread nD τ).loc main_arg2)) I J := by
  refine Eq.trans ?_ (Fin.sum_univ_tiles (M := EReal) 8 1024 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 8 = s by omega]))
    (b_at m c (p s) r j _ J (by dsimp only; rw [show (p s : ℕ) % 8 = s by omega]) (by omega))

/-- The first point of a run leaves its own part. -/
theorem acc_first (c : Dev nD) (t : Fin cfg0.N) (h0 : t.val % 8 = 0) (i : Fin 1024) (j : Fin 1024) :
    (outsAt0 m c t.val t.isLt).2 (ix2 i j) = part m c t i j := by
  rw [outsAt0_A m c t h0 (by omega) (by omega)]
  dsimp only
  frame_out
  open_payloads
  pointwise
  rfl

/-- The points between add theirs. -/
theorem acc_mid (c : Dev nD) (t : Fin cfg0.N) (h0 : ¬ t.val % 8 = 0) (h2 : ¬ t.val % 8 = 7) (i : Fin 1024) (j : Fin 1024) :
    (outsAt0 m c t.val t.isLt).2 (ix2 i j) = (outsAt0 m c (t.val - 1) (Nat.lt_of_le_of_lt (Nat.sub_le _ _) t.isLt)).2 (ix2 i j) + part m c t i j := by
  rw [outsAt0_B m c t h0 (by omega) h2]
  dsimp only
  frame_out
  open_payloads
  pointwise
  rw [(Memref.isWhole_whole _).read_unread]
  rfl

/-- The last point writes the sum. -/
theorem out_last (c : Dev nD) (t : Fin cfg0.N) (h2 : t.val % 8 = 7) (i : Fin 1024) (j : Fin 1024) :
    (outsAt0 m c t.val t.isLt).1 (ix3 0 i j) = (show EReal from (outsAt0 m c (t.val - 1) (Nat.lt_of_le_of_lt (Nat.sub_le _ _) t.isLt)).2 (ix2 i j)) + part m c t i j := by
  rw [outsAt0_C m c t (by omega) (by omega) h2]
  dsimp only
  frame_out
  open_payloads
  pointwise
  rw [(Memref.isWhole_whole _).read_unread]
  rfl

/-- The running sum at the end of a run is the whole product. -/
theorem acc_last (c : Dev nD) (t : Fin cfg0.N) (hl : t.val % 8 = 7) (i : Fin 1024) (j : Fin 1024) (I : Fin 2048) (J : Fin 4096) (hI : (I : ℕ) = t.val / 32 * 1024 + i) (hJ : (J : ℕ) = t.val / 8 % 4 * 1024 + j) :
    (show EReal from (outsAt0 m c (t.val - 1) (Nat.lt_of_le_of_lt (Nat.sub_le _ _) t.isLt)).2 (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h).2 (ix2 y.1 y.2))) (fun p y => part m c p y.1 y.2) 8
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h1 : (y 1 : ℕ) < 1024 := (y 1).isLt
  have h2 : (y 2 : ℕ) < 1024 := (y 2).isLt
  have hy : y = ix3 0 (y 1) (y 2) := (eq_ix3 y).trans (by congr 1; exact Subsingleton.elim (α := Fin 1) _ _)
  rw [after0_2]
  refine ((congrArg _ hy).trans (out_last m c t hl (y 1) (y 2))).trans (Eq.trans ?_ (congrArg (ref _ _) (?_ : (ix3 ⟨t.val / 8 % 4, by omega⟩ ⟨t.val / 32 * 1024 + (y 1), by omega⟩ ⟨0 + (y 2), by omega⟩) = _)))
  · rw [ref_at]
    exact acc_last m c t hl (y 1) (y 2) _ _ rfl (by dsimp only; omega)
  · blk_ext [idx t]

/-- The kernel's result is the reference's. -/
theorem algebraic : Cert.algebraic_DwInIdeal_RefDwInIdeal := by
  intro m g m' g' _ hagree
  refine ⟨fun c => ref (m ((c.tc : Thread nD τ).loc main_arg0)) (m ((c.tc : Thread nD τ).loc main_arg2)), ?_, ?_⟩
  · exact (θ_run Cert.DwInIdeal.defs _ _).mono
      (fun _ h c => ⟨(h c).1.trans (final0 m c), (h c).2⟩) (Cert.DwInIdeal.Value.run_blocks m g)
  · exact (θ_run Cert.RefDwInIdeal.defs _ _).mono
      (fun _ h c => ⟨(h c).1.trans (congrArg₂ ref (hagree c).1 (hagree c).2.2), (h c).2⟩) (Cert.RefDwInIdeal.Prod.run m' g')

/-- The printed program and its ideal form run the same body. -/
theorem same_defs : Cert.DwIn.defs (F := Bits) = defs := by
  refine congrArg (Pipeline.defs pcfgs) ?_
  unfold Cert.DwIn.defs₀ defs₀
  congr 1
  funext l x
  match l, x with
  | 0, (_, _) => rfl

/-- The printed program ends with its arguments unchanged: its run is that of the ideal form, over bits. -/
theorem frame_bits : Cert.quiescent_DwIn := fun m g _ => by
  rw [same_defs]
  exact frame (F := Bits) m g

end Cert.DwInIdeal.Prod

end
-- ==== Proof.PDwOut.lean ====
module

public import proofs.«01_k».proof.Defs
public import proofs.«01_k».proof.Proof.Gen.DwOutIdeal.Value
public import proofs.«01_k».proof.Proof.Gen.RefDwOutIdeal.Run
public import proofs.«01_k».proof.Proof.Gen.DwOut
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwOutIdeal.Prod

open Cert.RefDwOutIdeal Cert.RefDwOutIdeal.Gen Idealize.ShloMosaic Idealize.ShloMosaic.TcCoe Idealize.SL.Sem

/-- Element `(i, j)` of the whole product. -/
def whole (x0 : FVec Ideal S8192x4096 .bf16) (x2 : FVec Ideal S8192x2048 .bf16) (i : Fin 4096) (j : Fin 2048) : EReal :=
  ∑ r : Fin 8192, x0 (ix2 r i) * x2 (ix2 r j)

/-- The reference's result. -/
def ref (x0 : FVec Ideal S8192x4096 .bf16) (x2 : FVec Ideal S8192x2048 .bf16) : FVec Ideal S4096x2048 .bf16 :=
  truncf .bf16 (transpose S4096x2048 [1, 0] (Host.dotGeneral dot_S8192x2048_S8192x4096_S2048x4096_0_0_1_1_n_n none (extf .f32 x2 bitsLt_bf16_f32) (extf .f32 x0 bitsLt_bf16_f32)) transposes_S2048x4096_S4096x2048_1_0) bitsLt_bf16_f32

theorem ref_at (x0 : FVec Ideal S8192x4096 .bf16) (x2 : FVec Ideal S8192x2048 .bf16) (i : Fin 4096) (j : Fin 2048) :
    ref x0 x2 (ix2 i j) = whole x0 x2 i j := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwOutIdeal := fun m g _ =>
  (θ_run defs _ _).mono (fun r h => ⟨fun c => (h c).2, sem_eq_zero_of_no_sems (by decide) r.2⟩) (Value.run m g)

end Cert.RefDwOutIdeal.Prod

namespace Cert.DwOutIdeal.Prod

open Cert.DwOutIdeal Cert.DwOutIdeal.Gen Idealize.ShloMosaic Idealize.ShloMosaic.TcCoe Idealize.SL.Sem
open Cert.RefDwOutIdeal.Prod (whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S2048x1024 .bf16 from iblk m c 0 t) (ix2 r i) * (show FVec Ideal S2048x1024 .bf16 from iblk m c 1 t) (ix2 r j)

/-- The left block in the left array. -/
theorem a_at (c : Dev nD) (t : Fin cfg0.N) (i : Fin 1024) (r : Fin 2048) (I : Fin 4096) (R : Fin 8192) (hI : (I : ℕ) = t.val / 8 * 1024 + i) (hR : (R : ℕ) = t.val % 4 * 2048 + r) :
    (show FVec Ideal S2048x1024 .bf16 from iblk m c 0 t) (ix2 r i) = (show FVec Ideal S8192x4096 .bf16 from m ((c.tc : Thread nD τ).loc main_arg0)) (ix2 R I) := by
  have ht : t.val < 32 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S2048x1024 .bf16 from iblk m c 1 t) (ix2 r j) = (show FVec Ideal S8192x2048 .bf16 from m ((c.tc : Thread nD τ).loc main_arg2)) (ix2 R J) := by
  have ht : t.val < 32 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 4096) (J : Fin 2048) (hI : (I : ℕ) = t.val / 8 * 1024 + i) (hJ : (J : ℕ) = t.val / 4 % 2 * 1024 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt).2 (ix2 i j) = part m c t i j := by
  rw [outsAt0_A m c t h0 (by omega) (by omega)]
  dsimp only
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt).2 (ix2 i j) = (outsAt0 m c (t.val - 1) (Nat.lt_of_le_of_lt (Nat.sub_le _ _) t.isLt)).2 (ix2 i j) + part m c t i j := by
  rw [outsAt0_B m c t h0 (by omega) h2]
  dsimp only
  frame_out
  open_payloads
  pointwise
  rw [(Memref.isWhole_whole _).read_unread]
  rfl

/-- The last point writes the sum. -/
theorem out_last (c : Dev nD) (t : Fin cfg0.N) (h2 : t.val % 4 = 3) (i : Fin 1024) (j : Fin 1024) :
    (outsAt0 m c t.val t.isLt).1 (ix2 i j) = (show EReal from (outsAt0 m c (t.val - 1) (Nat.lt_of_le_of_lt (Nat.sub_le _ _) t.isLt)).2 (ix2 i j)) + part m c t i j := by
  rw [outsAt0_C m c t (by omega) (by omega) h2]
  dsimp only
  frame_out
  open_payloads
  pointwise
  rw [(Memref.isWhole_whole _).read_unread]
  rfl

/-- The running sum at the end of a run is the whole product. -/
theorem acc_last (c : Dev nD) (t : Fin cfg0.N) (hl : t.val % 4 = 3) (i : Fin 1024) (j : Fin 1024) (I : Fin 4096) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)).2 (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h).2 (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 32 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_DwOutIdeal_RefDwOutIdeal := by
  intro m g m' g' _ hagree
  refine ⟨fun c => ref (m ((c.tc : Thread nD τ).loc main_arg0)) (m ((c.tc : Thread nD τ).loc main_arg2)), ?_, ?_⟩
  · exact (θ_run Cert.DwOutIdeal.defs _ _).mono
      (fun _ h c => ⟨(h c).1.trans (final0 m c), (h c).2⟩) (Cert.DwOutIdeal.Value.run_blocks m g)
  · exact (θ_run Cert.RefDwOutIdeal.defs _ _).mono
      (fun _ h c => ⟨(h c).1.trans (congrArg₂ ref (hagree c).1 (hagree c).2.2), (h c).2⟩) (Cert.RefDwOutIdeal.Prod.run m' g')

/-- The printed program and its ideal form run the same body. -/
theorem same_defs : Cert.DwOut.defs (F := Bits) = defs := by
  refine congrArg (Pipeline.defs pcfgs) ?_
  unfold Cert.DwOut.defs₀ defs₀
  congr 1
  funext l x
  match l, x with
  | 0, (_, _) => rfl

/-- The printed program ends with its arguments unchanged: its run is that of the ideal form, over bits. -/
theorem frame_bits : Cert.quiescent_DwOut := fun m g _ => by
  rw [same_defs]
  exact frame (F := Bits) m g

end Cert.DwOutIdeal.Prod

end
-- ==== Proof.PDwZ.lean ====
module

public import proofs.«01_k».proof.Defs
public import proofs.«01_k».proof.Proof.Gen.DwZIdeal.Value
public import proofs.«01_k».proof.Proof.Gen.RefDwZIdeal.Run
public import proofs.«01_k».proof.Proof.Gen.DwZ
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwZIdeal.Prod

open Cert.RefDwZIdeal Cert.RefDwZIdeal.Gen Idealize.ShloMosaic Idealize.ShloMosaic.TcCoe Idealize.SL.Sem

/-- Element `(i, j)` of the whole product. -/
def whole (x0 : FVec Ideal S8192x2048 .bf16) (x2 : FVec Ideal S8192x4096 .bf16) (i : Fin 2048) (j : Fin 4096) : EReal :=
  ∑ r : Fin 8192, x0 (ix2 r i) * x2 (ix2 r j)

/-- The reference's result. -/
def ref (x0 : FVec Ideal S8192x2048 .bf16) (x2 : FVec Ideal S8192x4096 .bf16) : FVec Ideal S2048x4096 .f32 :=
  transpose S2048x4096 [1, 0] (Host.dotGeneral dot_S8192x4096_S8192x2048_S4096x2048_0_0_1_1_n_n none (extf .f32 x2 bitsLt_bf16_f32) (extf .f32 x0 bitsLt_bf16_f32)) transposes_S4096x2048_S2048x4096_1_0

theorem ref_at (x0 : FVec Ideal S8192x2048 .bf16) (x2 : FVec Ideal S8192x4096 .bf16) (i : Fin 2048) (j : Fin 4096) :
    ref x0 x2 (ix2 i j) = whole x0 x2 i j := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwZIdeal := fun m g _ =>
  (θ_run defs _ _).mono (fun r h => ⟨fun c => (h c).2, sem_eq_zero_of_no_sems (by decide) r.2⟩) (Value.run m g)

end Cert.RefDwZIdeal.Prod

namespace Cert.DwZIdeal.Prod

open Cert.DwZIdeal Cert.DwZIdeal.Gen Idealize.ShloMosaic Idealize.ShloMosaic.TcCoe Idealize.SL.Sem
open Cert.RefDwZIdeal.Prod (whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val % 4, t.val / 16]
    ∧ win0_1.index t = ![t.val % 4, t.val / 4 % 4]
    ∧ win0_2.index t = ![t.val / 16, t.val / 4 % 4] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S2048x1024 .bf16 from iblk m c 0 t) (ix2 r i) * (show FVec Ideal S2048x1024 .bf16 from iblk m c 1 t) (ix2 r j)

/-- The left block in the left array. -/
theorem a_at (c : Dev nD) (t : Fin cfg0.N) (i : Fin 1024) (r : Fin 2048) (I : Fin 2048) (R : Fin 8192) (hI : (I : ℕ) = t.val / 16 * 1024 + i) (hR : (R : ℕ) = t.val % 4 * 2048 + r) :
    (show FVec Ideal S2048x1024 .bf16 from iblk m c 0 t) (ix2 r i) = (show FVec Ideal S8192x2048 .bf16 from m ((c.tc : Thread nD τ).loc main_arg0)) (ix2 R I) := by
  have ht : t.val < 32 := lt_of_lt_of_eq t.isLt N_eq
  blk_point [iblk, V, idx t]

/-- The right block in the right array. -/
theorem b_at (c : Dev nD) (t : Fin cfg0.N) (r : Fin 2048) (j : Fin 1024) (R : Fin 8192) (J : Fin 4096) (hR : (R : ℕ) = t.val % 4 * 2048 + r) (hJ : (J : ℕ) = t.val / 4 % 4 * 1024 + j) :
    (show FVec Ideal S2048x1024 .bf16 from iblk m c 1 t) (ix2 r j) = (show FVec Ideal S8192x4096 .bf16 from m ((c.tc : Thread nD τ).loc main_arg2)) (ix2 R J) := by
  have ht : t.val < 32 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 2048) (J : Fin 4096) (hI : (I : ℕ) = t.val / 16 * 1024 + i) (hJ : (J : ℕ) = t.val / 4 % 4 * 1024 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 2048) (J : Fin 4096) (hI : (I : ℕ) = t.val / 16 * 1024 + i) (hJ : (J : ℕ) = t.val / 4 % 4 * 1024 + j) :
    (show EReal from (outsAt0 m c (t.val - 1) (Nat.lt_of_le_of_lt (Nat.sub_le _ _) t.isLt)) (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 32 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 16 * 1024 + (y 0), by omega⟩ ⟨t.val / 4 % 4 * 1024 + (y 1), by omega⟩) = _)))
  · rw [ref_at]
    exact acc_last m c t hl (y 0) (y 1) _ _ rfl rfl
  · blk_ext [idx t]

/-- The kernel's result is the reference's. -/
theorem algebraic : Cert.algebraic_DwZIdeal_RefDwZIdeal := by
  intro m g m' g' _ hagree
  refine ⟨fun c => ref (m ((c.tc : Thread nD τ).loc main_arg0)) (m ((c.tc : Thread nD τ).loc main_arg2)), ?_, ?_⟩
  · exact (θ_run Cert.DwZIdeal.defs _ _).mono
      (fun _ h c => ⟨(h c).1.trans (final0 m c), (h c).2⟩) (Cert.DwZIdeal.Value.run_blocks m g)
  · exact (θ_run Cert.RefDwZIdeal.defs _ _).mono
      (fun _ h c => ⟨(h c).1.trans (congrArg₂ ref (hagree c).1 (hagree c).2.2), (h c).2⟩) (Cert.RefDwZIdeal.Prod.run m' g')

/-- The printed program and its ideal form run the same body. -/
theorem same_defs : Cert.DwZ.defs (F := Bits) = defs := by
  refine congrArg (Pipeline.defs pcfgs) ?_
  unfold Cert.DwZ.defs₀ defs₀
  congr 1
  funext l x
  match l, x with
  | 0, (_, _) => rfl

/-- The printed program ends with its arguments unchanged: its run is that of the ideal form, over bits. -/
theorem frame_bits : Cert.quiescent_DwZ := fun m g _ => by
  rw [same_defs]
  exact frame (F := Bits) m g

end Cert.DwZIdeal.Prod

end
-- ==== Proof.PDwXbc.lean ====
module

public import proofs.«01_k».proof.Defs
public import proofs.«01_k».proof.Proof.Gen.DwXbcIdeal.Value
public import proofs.«01_k».proof.Proof.Gen.RefDwXbcIdeal.Run
public import proofs.«01_k».proof.Proof.Gen.DwXbc
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwXbcIdeal.Prod

open Cert.RefDwXbcIdeal Cert.RefDwXbcIdeal.Gen Idealize.ShloMosaic Idealize.ShloMosaic.TcCoe Idealize.SL.Sem

/-- Element `(i, j)` of the whole product. -/
def whole (x0 : FVec Ideal S8192x2048 .bf16) (x2 : FVec Ideal S8192x6144 .bf16) (i : Fin 2048) (j : Fin 6144) : EReal :=
  ∑ r : Fin 8192, x0 (ix2 r i) * x2 (ix2 r j)

/-- The reference's result. -/
def ref (x0 : FVec Ideal S8192x2048 .bf16) (x2 : FVec Ideal S8192x6144 .bf16) : FVec Ideal S2048x6144 .f32 :=
  transpose S2048x6144 [1, 0] (Host.dotGeneral dot_S8192x6144_S8192x2048_S6144x2048_0_0_1_1_n_n none (extf .f32 x2 bitsLt_bf16_f32) (extf .f32 x0 bitsLt_bf16_f32)) transposes_S6144x2048_S2048x6144_1_0

theorem ref_at (x0 : FVec Ideal S8192x2048 .bf16) (x2 : FVec Ideal S8192x6144 .bf16) (i : Fin 2048) (j : Fin 6144) :
    ref x0 x2 (ix2 i j) = whole x0 x2 i j := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwXbcIdeal := fun m g _ =>
  (θ_run defs _ _).mono (fun r h => ⟨fun c => (h c).2, sem_eq_zero_of_no_sems (by decide) r.2⟩) (Value.run m g)

end Cert.RefDwXbcIdeal.Prod

namespace Cert.DwXbcIdeal.Prod

open Cert.DwXbcIdeal Cert.DwXbcIdeal.Gen Idealize.ShloMosaic Idealize.ShloMosaic.TcCoe Idealize.SL.Sem
open Cert.RefDwXbcIdeal.Prod (whole ref ref_at)

variable (m : (ℓ : Loc nD τ sig) → Buf (Elt Ideal) ℓ)

theorem N_eq : cfg0.N = 48 := by decide +kernel

/-- The block of each array at grid point `t`. -/
theorem idx : ∀ t : Fin cfg0.N, win0_0.index t = ![t.val % 4, t.val / 24]
    ∧ win0_1.index t = ![t.val % 4, t.val / 4 % 6]
    ∧ win0_2.index t = ![t.val / 24, t.val / 4 % 6] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S2048x1024 .bf16 from iblk m c 0 t) (ix2 r i) * (show FVec Ideal S2048x1024 .bf16 from iblk m c 1 t) (ix2 r j)

/-- The left block in the left array. -/
theorem a_at (c : Dev nD) (t : Fin cfg0.N) (i : Fin 1024) (r : Fin 2048) (I : Fin 2048) (R : Fin 8192) (hI : (I : ℕ) = t.val / 24 * 1024 + i) (hR : (R : ℕ) = t.val % 4 * 2048 + r) :
    (show FVec Ideal S2048x1024 .bf16 from iblk m c 0 t) (ix2 r i) = (show FVec Ideal S8192x2048 .bf16 from m ((c.tc : Thread nD τ).loc main_arg0)) (ix2 R I) := by
  have ht : t.val < 48 := lt_of_lt_of_eq t.isLt N_eq
  blk_point [iblk, V, idx t]

/-- The right block in the right array. -/
theorem b_at (c : Dev nD) (t : Fin cfg0.N) (r : Fin 2048) (j : Fin 1024) (R : Fin 8192) (J : Fin 6144) (hR : (R : ℕ) = t.val % 4 * 2048 + r) (hJ : (J : ℕ) = t.val / 4 % 6 * 1024 + j) :
    (show FVec Ideal S2048x1024 .bf16 from iblk m c 1 t) (ix2 r j) = (show FVec Ideal S8192x6144 .bf16 from m ((c.tc : Thread nD τ).loc main_arg2)) (ix2 R J) := by
  have ht : t.val < 48 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 2048) (J : Fin 6144) (hI : (I : ℕ) = t.val / 24 * 1024 + i) (hJ : (J : ℕ) = t.val / 4 % 6 * 1024 + j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 2048) (J : Fin 6144) (hI : (I : ℕ) = t.val / 24 * 1024 + i) (hJ : (J : ℕ) = t.val / 4 % 6 * 1024 + j) :
    (show EReal from (outsAt0 m c (t.val - 1) (Nat.lt_of_le_of_lt (Nat.sub_le _ _) t.isLt)) (ix2 i j)) + part m c t i j = whole (m ((c.tc : Thread nD τ).loc main_arg0)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 48 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 24 * 1024 + (y 0), by omega⟩ ⟨t.val / 4 % 6 * 1024 + (y 1), by omega⟩) = _)))
  · rw [ref_at]
    exact acc_last m c t hl (y 0) (y 1) _ _ rfl rfl
  · blk_ext [idx t]

/-- The kernel's result is the reference's. -/
theorem algebraic : Cert.algebraic_DwXbcIdeal_RefDwXbcIdeal := by
  intro m g m' g' _ hagree
  refine ⟨fun c => ref (m ((c.tc : Thread nD τ).loc main_arg0)) (m ((c.tc : Thread nD τ).loc main_arg2)), ?_, ?_⟩
  · exact (θ_run Cert.DwXbcIdeal.defs _ _).mono
      (fun _ h c => ⟨(h c).1.trans (final0 m c), (h c).2⟩) (Cert.DwXbcIdeal.Value.run_blocks m g)
  · exact (θ_run Cert.RefDwXbcIdeal.defs _ _).mono
      (fun _ h c => ⟨(h c).1.trans (congrArg₂ ref (hagree c).1 (hagree c).2.2), (h c).2⟩) (Cert.RefDwXbcIdeal.Prod.run m' g')

/-- The printed program and its ideal form run the same body. -/
theorem same_defs : Cert.DwXbc.defs (F := Bits) = defs := by
  refine congrArg (Pipeline.defs pcfgs) ?_
  unfold Cert.DwXbc.defs₀ defs₀
  congr 1
  funext l x
  match l, x with
  | 0, (_, _) => rfl

/-- The printed program ends with its arguments unchanged: its run is that of the ideal form, over bits. -/
theorem frame_bits : Cert.quiescent_DwXbc := fun m g _ => by
  rw [same_defs]
  exact frame (F := Bits) m g

end Cert.DwXbcIdeal.Prod

end
-- ==== Proof.PDwDt.lean ====
module

public import proofs.«01_k».proof.Defs
public import proofs.«01_k».proof.Proof.Gen.DwDtIdeal.Value
public import proofs.«01_k».proof.Proof.Gen.RefDwDtIdeal.Run
public import proofs.«01_k».proof.Proof.Gen.DwDt
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDwDtIdeal.Prod

open Cert.RefDwDtIdeal Cert.RefDwDtIdeal.Gen Idealize.ShloMosaic Idealize.ShloMosaic.TcCoe Idealize.SL.Sem

/-- Element `(i, j)` of the whole product. -/
def whole (x0 : FVec Ideal S8192x2048 .bf16) (x2 : FVec Ideal S8192x128 .f32) (i : Fin 2048) (j : Fin 128) : EReal :=
  ∑ r : Fin 8192, x0 (ix2 r i) * x2 (ix2 r j)

/-- The reference's result. -/
def ref (x0 : FVec Ideal S8192x2048 .bf16) (x2 : FVec Ideal S8192x128 .f32) : FVec Ideal S2048x128 .f32 :=
  transpose S2048x128 [1, 0] (Host.dotGeneral dot_S8192x128_S8192x2048_S128x2048_0_0_1_1_n_n none x2 (extf .f32 x0 bitsLt_bf16_f32)) transposes_S128x2048_S2048x128_1_0

theorem ref_at (x0 : FVec Ideal S8192x2048 .bf16) (x2 : FVec Ideal S8192x128 .f32) (i : Fin 2048) (j : Fin 128) :
    ref x0 x2 (ix2 i j) = whole x0 x2 i j := by
  unfold ref whole
  pointwise
  exact Finset.sum_congr rfl fun r _ => mul_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = ref (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDwDtIdeal := fun m g _ =>
  (θ_run defs _ _).mono (fun r h => ⟨fun c => (h c).2, sem_eq_zero_of_no_sems (by decide) r.2⟩) (Value.run m g)

end Cert.RefDwDtIdeal.Prod

namespace Cert.DwDtIdeal.Prod

open Cert.DwDtIdeal Cert.DwDtIdeal.Gen Idealize.ShloMosaic Idealize.ShloMosaic.TcCoe Idealize.SL.Sem
open Cert.RefDwDtIdeal.Prod (whole ref ref_at)

variable (m : (ℓ : Loc nD τ sig) → Buf (Elt Ideal) ℓ)

theorem N_eq : cfg0.N = 8 := by decide +kernel

/-- The block of each array at grid point `t`. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- What the point's two blocks contribute to element `(i, j)` of the result's block. -/
def part (c : Dev nD) (t : Fin cfg0.N) (i : Fin 1024) (j : Fin 128) : EReal :=
  ∑ r : Fin 2048, (show FVec Ideal S2048x1024 .bf16 from iblk m c 0 t) (ix2 r i) * (show FVec Ideal S2048x128 .f32 from iblk m c 1 t) (ix2 r j)

/-- The left block in the left array. -/
theorem a_at (c : Dev nD) (t : Fin cfg0.N) (i : Fin 1024) (r : Fin 2048) (I : Fin 2048) (R : Fin 8192) (hI : (I : ℕ) = t.val / 4 * 1024 + i) (hR : (R : ℕ) = t.val % 4 * 2048 + r) :
    (show FVec Ideal S2048x1024 .bf16 from iblk m c 0 t) (ix2 r i) = (show FVec Ideal S8192x2048 .bf16 from m ((c.tc : Thread nD τ).loc main_arg0)) (ix2 R I) := by
  have ht : t.val < 8 := lt_of_lt_of_eq t.isLt N_eq
  blk_point [iblk, V, idx t]

/-- The right block in the right array. -/
theorem b_at (c : Dev nD) (t : Fin cfg0.N) (r : Fin 2048) (j : Fin 128) (R : Fin 8192) (J : Fin 128) (hR : (R : ℕ) = t.val % 4 * 2048 + r) (hJ : (J : ℕ) = j) :
    (show FVec Ideal S2048x128 .f32 from iblk m c 1 t) (ix2 r j) = (show FVec Ideal S8192x128 .f32 from m ((c.tc : Thread nD τ).loc main_arg2)) (ix2 R J) := by
  have ht : t.val < 8 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 128) (I : Fin 2048) (J : Fin 128) (hI : (I : ℕ) = t.val / 4 * 1024 + i) (hJ : (J : ℕ) = j) :
    ∑ s : Fin 4, part m c (p s) i j = whole (m ((c.tc : Thread nD τ).loc main_arg0)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 128) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 128) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 128) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 128) (I : Fin 2048) (J : Fin 128) (hI : (I : ℕ) = t.val / 4 * 1024 + i) (hJ : (J : ℕ) = j) :
    (show EReal from (outsAt0 m c (t.val - 1) (Nat.lt_of_le_of_lt (Nat.sub_le _ _) t.isLt)) (ix2 i j)) + part m c t i j = whole (m ((c.tc : Thread nD τ).loc main_arg0)) (m ((c.tc : Thread nD τ).loc main_arg2)) I J := by
  exact Eq.trans (Cert.Products.run_total (fun n h (y : Fin 1024 × Fin 128) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg0)) (m ((c.tc : Thread nD τ).loc main_arg2)) := by
  refine (dats m 0 c).arrAt_eq_of_covers 2 _ (by decide +kernel) fun t hf y => ?_
  have ht : t.val < 8 := lt_of_lt_of_eq t.isLt N_eq
  have hl := (flush0_2 t).mp hf
  blk_simp
  have h0 : (y 0 : ℕ) < 1024 := (y 0).isLt
  have h1 : (y 1 : ℕ) < 128 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 4 * 1024 + (y 0), by omega⟩ ⟨(y 1), by omega⟩) = _)))
  · rw [ref_at]
    exact acc_last m c t hl (y 0) (y 1) _ _ rfl rfl
  · blk_ext [idx t]

/-- The kernel's result is the reference's. -/
theorem algebraic : Cert.algebraic_DwDtIdeal_RefDwDtIdeal := by
  intro m g m' g' _ hagree
  refine ⟨fun c => ref (m ((c.tc : Thread nD τ).loc main_arg0)) (m ((c.tc : Thread nD τ).loc main_arg2)), ?_, ?_⟩
  · exact (θ_run Cert.DwDtIdeal.defs _ _).mono
      (fun _ h c => ⟨(h c).1.trans (final0 m c), (h c).2⟩) (Cert.DwDtIdeal.Value.run_blocks m g)
  · exact (θ_run Cert.RefDwDtIdeal.defs _ _).mono
      (fun _ h c => ⟨(h c).1.trans (congrArg₂ ref (hagree c).1 (hagree c).2.2), (h c).2⟩) (Cert.RefDwDtIdeal.Prod.run m' g')

/-- The printed program and its ideal form run the same body. -/
theorem same_defs : Cert.DwDt.defs (F := Bits) = defs := by
  refine congrArg (Pipeline.defs pcfgs) ?_
  unfold Cert.DwDt.defs₀ defs₀
  congr 1
  funext l x
  match l, x with
  | 0, (_, _) => rfl

/-- The printed program ends with its arguments unchanged: its run is that of the ideal form, over bits. -/
theorem frame_bits : Cert.quiescent_DwDt := fun m g _ => by
  rw [same_defs]
  exact frame (F := Bits) m g

end Cert.DwDtIdeal.Prod

end
-- ==== Proof.PDu0.lean ====
module

public import proofs.«01_k».proof.Defs
public import proofs.«01_k».proof.Proof.Gen.Du0Ideal.Value
public import proofs.«01_k».proof.Proof.Gen.RefDu0Ideal.Run
public import proofs.«01_k».proof.Proof.Gen.Du0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDu0Ideal.Prod

open Cert.RefDu0Ideal Cert.RefDu0Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 0 ⟨r % 2048, by omega⟩ c)

/-- Element `(i, j)` of the whole product. -/
def whole (x2 : FVec Ideal S8192x2048 .bf16) (x1 : FVec Ideal S4x4x2048x2048 .bf16) (i : Fin 8192) (j : Fin 8192) : EReal :=
  ∑ r : Fin 2048, x2 (ix2 i r) * wAt x1 j r

/-- The reference's result. -/
def ref (x0 : FVec Ideal S8192x8192 .f32) (x1 : FVec Ideal S4x4x2048x2048 .bf16) (x2 : FVec Ideal S8192x2048 .bf16) : FVec Ideal S8192x8192 .bf16 :=
  truncf .bf16 (select (cmpf .ogt x0 (broadcastInDim S8192x8192 ![] bcast_S_S8192x8192 (constant S_ .f32 0x00000000#32))) (mulf (Host.dotGeneral dot_S8192x2048_S8192x2048_S8192x8192_1_1_0_0_n_n none (extf .f32 x2 bitsLt_bf16_f32) (extf .f32 (shapeCast _ (shapeCast _ (extractStridedSlice S4x1x2048x2048 ![0, 0, 0, 0] x1 slices_S4x4x2048x2048_S4x1x2048x2048_0_0_0_0) shapeCasts_S4x1x2048x2048_S4x2048x2048) shapeCasts_S4x2048x2048_S8192x2048) bitsLt_bf16_f32)) (mulf (broadcastInDim S8192x8192 ![] bcast_S_S8192x8192 (constant S_ .f32 0x40000000#32)) (maximumf x0 (broadcastInDim S8192x8192 ![] bcast_S_S8192x8192 (constant S_ .f32 0x00000000#32))))) (broadcastInDim S8192x8192 ![] bcast_S_S8192x8192 (constant S_ .f32 0x00000000#32))) bitsLt_bf16_f32

theorem ref_at (x0 : FVec Ideal S8192x8192 .f32) (x1 : FVec Ideal S4x4x2048x2048 .bf16) (x2 : FVec Ideal S8192x2048 .bf16) (i : Fin 8192) (j : Fin 8192) :
    ref x0 x1 x2 (ix2 i j) = whole x2 x1 i j * (Ideal.ofBits .f32 0x40000000#32 * max (x0 (ix2 i j)) 0) := by
  unfold ref whole wAt
  pointwise
  by_cases h : 0 < x0 (ix2 i j)
  · exact if_pos h
  · rw [if_neg h, max_eq_right (not_lt.mp h), mul_zero, mul_zero]

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDu0Ideal := fun m g _ =>
  (θ_run defs _ _).mono (fun r h => ⟨fun c => (h c).2, sem_eq_zero_of_no_sems (by decide) r.2⟩) (Value.run m g)

end Cert.RefDu0Ideal.Prod

namespace Cert.Du0Ideal.Prod

open Cert.Du0Ideal Cert.Du0Ideal.Gen Idealize.ShloMosaic Idealize.ShloMosaic.TcCoe Idealize.SL.Sem
open Cert.RefDu0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 0, t.val % 8 % 2, 0]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 8192) (hI : (I : ℕ) = t.val / 8 * 1024 + i) (hJ : (J : ℕ) = t.val % 8 * 1024 + j) :
    (show FVec Ideal S1024x1024 .f32 from iblk m c 2 t) (ix2 i j) = (show FVec Ideal S8192x8192 .f32 from m ((c.tc : Thread nD τ).loc main_arg0)) (ix2 I J) := by
  have ht : t.val < 64 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_3 (F := Ideal) (iblk m c 0 t) (iblk m c 1 t) (iblk m c 2 t) (ix2 i j) = part m c t i j * (Ideal.ofBits .f32 0x40000000#32 * max ((show FVec Ideal S1024x1024 .f32 from iblk m c 2 t) (ix2 i j)) 0) := by
  frame_out
  open_payloads
  pointwise
  rfl

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out0_at m c t (y 0) (y 1))).trans (Eq.trans ?_ (congrArg (ref _ _ _) (?_ : (ix2 ⟨t.val / 8 * 1024 + (y 0), by omega⟩ ⟨t.val % 8 * 1024 + (y 1), by omega⟩) = _)))
  · rw [ref_at]
    exact congrArg₂ (fun a b : EReal => a * (Ideal.ofBits .f32 0x40000000#32 * max b 0)) (part_at m c t (y 0) (y 1) _ _ rfl rfl) (e0_at m c t (y 0) (y 1) _ _ rfl rfl)
  · blk_ext [idx t]

/-- The kernel's result is the reference's. -/
theorem algebraic : Cert.algebraic_Du0Ideal_RefDu0Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Du0Ideal.defs _ _).mono
      (fun _ h c => ⟨(h c).1.trans (final0 m c), (h c).2⟩) (Cert.Du0Ideal.Value.run_blocks m g)
  · exact (θ_run Cert.RefDu0Ideal.defs _ _).mono
      (fun _ h c => ⟨(h c).1.trans (congr (congrArg₂ ref (hagree c).1 (hagree c).2.1) (hagree c).2.2), (h c).2⟩) (Cert.RefDu0Ideal.Prod.run m' g')

/-- The printed program and its ideal form run the same body. -/
theorem same_defs : Cert.Du0.defs (F := Bits) = defs := by
  refine congrArg (Pipeline.defs pcfgs) ?_
  unfold Cert.Du0.defs₀ defs₀
  congr 1
  funext l x
  match l, x with
  | 0, (_, _) => rfl

/-- The printed program ends with its arguments unchanged: its run is that of the ideal form, over bits. -/
theorem frame_bits : Cert.quiescent_Du0 := fun m g _ => by
  rw [same_defs]
  exact frame (F := Bits) m g

end Cert.Du0Ideal.Prod

end
-- ==== Proof.PDu1.lean ====
module

public import proofs.«01_k».proof.Defs
public import proofs.«01_k».proof.Proof.Gen.Du1Ideal.Value
public import proofs.«01_k».proof.Proof.Gen.RefDu1Ideal.Run
public import proofs.«01_k».proof.Proof.Gen.Du1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDu1Ideal.Prod

open Cert.RefDu1Ideal Cert.RefDu1Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 1 ⟨r % 2048, by omega⟩ c)

/-- Element `(i, j)` of the whole product. -/
def whole (x2 : FVec Ideal S8192x2048 .bf16) (x1 : FVec Ideal S4x4x2048x2048 .bf16) (i : Fin 8192) (j : Fin 8192) : EReal :=
  ∑ r : Fin 2048, x2 (ix2 i r) * wAt x1 j r

/-- The reference's result. -/
def ref (x0 : FVec Ideal S8192x8192 .f32) (x1 : FVec Ideal S4x4x2048x2048 .bf16) (x2 : FVec Ideal S8192x2048 .bf16) : FVec Ideal S8192x8192 .bf16 :=
  truncf .bf16 (select (cmpf .ogt x0 (broadcastInDim S8192x8192 ![] bcast_S_S8192x8192 (constant S_ .f32 0x00000000#32))) (mulf (Host.dotGeneral dot_S8192x2048_S8192x2048_S8192x8192_1_1_0_0_n_n none (extf .f32 x2 bitsLt_bf16_f32) (extf .f32 (shapeCast _ (shapeCast _ (extractStridedSlice S4x1x2048x2048 ![0, 1, 0, 0] x1 slices_S4x4x2048x2048_S4x1x2048x2048_0_1_0_0) shapeCasts_S4x1x2048x2048_S4x2048x2048) shapeCasts_S4x2048x2048_S8192x2048) bitsLt_bf16_f32)) (mulf (broadcastInDim S8192x8192 ![] bcast_S_S8192x8192 (constant S_ .f32 0x40000000#32)) (maximumf x0 (broadcastInDim S8192x8192 ![] bcast_S_S8192x8192 (constant S_ .f32 0x00000000#32))))) (broadcastInDim S8192x8192 ![] bcast_S_S8192x8192 (constant S_ .f32 0x00000000#32))) bitsLt_bf16_f32

theorem ref_at (x0 : FVec Ideal S8192x8192 .f32) (x1 : FVec Ideal S4x4x2048x2048 .bf16) (x2 : FVec Ideal S8192x2048 .bf16) (i : Fin 8192) (j : Fin 8192) :
    ref x0 x1 x2 (ix2 i j) = whole x2 x1 i j * (Ideal.ofBits .f32 0x40000000#32 * max (x0 (ix2 i j)) 0) := by
  unfold ref whole wAt
  pointwise
  by_cases h : 0 < x0 (ix2 i j)
  · exact if_pos h
  · rw [if_neg h, max_eq_right (not_lt.mp h), mul_zero, mul_zero]

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDu1Ideal := fun m g _ =>
  (θ_run defs _ _).mono (fun r h => ⟨fun c => (h c).2, sem_eq_zero_of_no_sems (by decide) r.2⟩) (Value.run m g)

end Cert.RefDu1Ideal.Prod

namespace Cert.Du1Ideal.Prod

open Cert.Du1Ideal Cert.Du1Ideal.Gen Idealize.ShloMosaic Idealize.ShloMosaic.TcCoe Idealize.SL.Sem
open Cert.RefDu1Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 1, t.val % 8 % 2, 0]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 8192) (hI : (I : ℕ) = t.val / 8 * 1024 + i) (hJ : (J : ℕ) = t.val % 8 * 1024 + j) :
    (show FVec Ideal S1024x1024 .f32 from iblk m c 2 t) (ix2 i j) = (show FVec Ideal S8192x8192 .f32 from m ((c.tc : Thread nD τ).loc main_arg0)) (ix2 I J) := by
  have ht : t.val < 64 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_3 (F := Ideal) (iblk m c 0 t) (iblk m c 1 t) (iblk m c 2 t) (ix2 i j) = part m c t i j * (Ideal.ofBits .f32 0x40000000#32 * max ((show FVec Ideal S1024x1024 .f32 from iblk m c 2 t) (ix2 i j)) 0) := by
  frame_out
  open_payloads
  pointwise
  rfl

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out0_at m c t (y 0) (y 1))).trans (Eq.trans ?_ (congrArg (ref _ _ _) (?_ : (ix2 ⟨t.val / 8 * 1024 + (y 0), by omega⟩ ⟨t.val % 8 * 1024 + (y 1), by omega⟩) = _)))
  · rw [ref_at]
    exact congrArg₂ (fun a b : EReal => a * (Ideal.ofBits .f32 0x40000000#32 * max b 0)) (part_at m c t (y 0) (y 1) _ _ rfl rfl) (e0_at m c t (y 0) (y 1) _ _ rfl rfl)
  · blk_ext [idx t]

/-- The kernel's result is the reference's. -/
theorem algebraic : Cert.algebraic_Du1Ideal_RefDu1Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Du1Ideal.defs _ _).mono
      (fun _ h c => ⟨(h c).1.trans (final0 m c), (h c).2⟩) (Cert.Du1Ideal.Value.run_blocks m g)
  · exact (θ_run Cert.RefDu1Ideal.defs _ _).mono
      (fun _ h c => ⟨(h c).1.trans (congr (congrArg₂ ref (hagree c).1 (hagree c).2.1) (hagree c).2.2), (h c).2⟩) (Cert.RefDu1Ideal.Prod.run m' g')

/-- The printed program and its ideal form run the same body. -/
theorem same_defs : Cert.Du1.defs (F := Bits) = defs := by
  refine congrArg (Pipeline.defs pcfgs) ?_
  unfold Cert.Du1.defs₀ defs₀
  congr 1
  funext l x
  match l, x with
  | 0, (_, _) => rfl

/-- The printed program ends with its arguments unchanged: its run is that of the ideal form, over bits. -/
theorem frame_bits : Cert.quiescent_Du1 := fun m g _ => by
  rw [same_defs]
  exact frame (F := Bits) m g

end Cert.Du1Ideal.Prod

end
-- ==== Proof.PDu2.lean ====
module

public import proofs.«01_k».proof.Defs
public import proofs.«01_k».proof.Proof.Gen.Du2Ideal.Value
public import proofs.«01_k».proof.Proof.Gen.RefDu2Ideal.Run
public import proofs.«01_k».proof.Proof.Gen.Du2
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDu2Ideal.Prod

open Cert.RefDu2Ideal Cert.RefDu2Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 2 ⟨r % 2048, by omega⟩ c)

/-- Element `(i, j)` of the whole product. -/
def whole (x2 : FVec Ideal S8192x2048 .bf16) (x1 : FVec Ideal S4x4x2048x2048 .bf16) (i : Fin 8192) (j : Fin 8192) : EReal :=
  ∑ r : Fin 2048, x2 (ix2 i r) * wAt x1 j r

/-- The reference's result. -/
def ref (x0 : FVec Ideal S8192x8192 .f32) (x1 : FVec Ideal S4x4x2048x2048 .bf16) (x2 : FVec Ideal S8192x2048 .bf16) : FVec Ideal S8192x8192 .bf16 :=
  truncf .bf16 (select (cmpf .ogt x0 (broadcastInDim S8192x8192 ![] bcast_S_S8192x8192 (constant S_ .f32 0x00000000#32))) (mulf (Host.dotGeneral dot_S8192x2048_S8192x2048_S8192x8192_1_1_0_0_n_n none (extf .f32 x2 bitsLt_bf16_f32) (extf .f32 (shapeCast _ (shapeCast _ (extractStridedSlice S4x1x2048x2048 ![0, 2, 0, 0] x1 slices_S4x4x2048x2048_S4x1x2048x2048_0_2_0_0) shapeCasts_S4x1x2048x2048_S4x2048x2048) shapeCasts_S4x2048x2048_S8192x2048) bitsLt_bf16_f32)) (mulf (broadcastInDim S8192x8192 ![] bcast_S_S8192x8192 (constant S_ .f32 0x40000000#32)) (maximumf x0 (broadcastInDim S8192x8192 ![] bcast_S_S8192x8192 (constant S_ .f32 0x00000000#32))))) (broadcastInDim S8192x8192 ![] bcast_S_S8192x8192 (constant S_ .f32 0x00000000#32))) bitsLt_bf16_f32

theorem ref_at (x0 : FVec Ideal S8192x8192 .f32) (x1 : FVec Ideal S4x4x2048x2048 .bf16) (x2 : FVec Ideal S8192x2048 .bf16) (i : Fin 8192) (j : Fin 8192) :
    ref x0 x1 x2 (ix2 i j) = whole x2 x1 i j * (Ideal.ofBits .f32 0x40000000#32 * max (x0 (ix2 i j)) 0) := by
  unfold ref whole wAt
  pointwise
  by_cases h : 0 < x0 (ix2 i j)
  · exact if_pos h
  · rw [if_neg h, max_eq_right (not_lt.mp h), mul_zero, mul_zero]

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDu2Ideal := fun m g _ =>
  (θ_run defs _ _).mono (fun r h => ⟨fun c => (h c).2, sem_eq_zero_of_no_sems (by decide) r.2⟩) (Value.run m g)

end Cert.RefDu2Ideal.Prod

namespace Cert.Du2Ideal.Prod

open Cert.Du2Ideal Cert.Du2Ideal.Gen Idealize.ShloMosaic Idealize.ShloMosaic.TcCoe Idealize.SL.Sem
open Cert.RefDu2Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 2, t.val % 8 % 2, 0]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 8192) (hI : (I : ℕ) = t.val / 8 * 1024 + i) (hJ : (J : ℕ) = t.val % 8 * 1024 + j) :
    (show FVec Ideal S1024x1024 .f32 from iblk m c 2 t) (ix2 i j) = (show FVec Ideal S8192x8192 .f32 from m ((c.tc : Thread nD τ).loc main_arg0)) (ix2 I J) := by
  have ht : t.val < 64 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_3 (F := Ideal) (iblk m c 0 t) (iblk m c 1 t) (iblk m c 2 t) (ix2 i j) = part m c t i j * (Ideal.ofBits .f32 0x40000000#32 * max ((show FVec Ideal S1024x1024 .f32 from iblk m c 2 t) (ix2 i j)) 0) := by
  frame_out
  open_payloads
  pointwise
  rfl

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out0_at m c t (y 0) (y 1))).trans (Eq.trans ?_ (congrArg (ref _ _ _) (?_ : (ix2 ⟨t.val / 8 * 1024 + (y 0), by omega⟩ ⟨t.val % 8 * 1024 + (y 1), by omega⟩) = _)))
  · rw [ref_at]
    exact congrArg₂ (fun a b : EReal => a * (Ideal.ofBits .f32 0x40000000#32 * max b 0)) (part_at m c t (y 0) (y 1) _ _ rfl rfl) (e0_at m c t (y 0) (y 1) _ _ rfl rfl)
  · blk_ext [idx t]

/-- The kernel's result is the reference's. -/
theorem algebraic : Cert.algebraic_Du2Ideal_RefDu2Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Du2Ideal.defs _ _).mono
      (fun _ h c => ⟨(h c).1.trans (final0 m c), (h c).2⟩) (Cert.Du2Ideal.Value.run_blocks m g)
  · exact (θ_run Cert.RefDu2Ideal.defs _ _).mono
      (fun _ h c => ⟨(h c).1.trans (congr (congrArg₂ ref (hagree c).1 (hagree c).2.1) (hagree c).2.2), (h c).2⟩) (Cert.RefDu2Ideal.Prod.run m' g')

/-- The printed program and its ideal form run the same body. -/
theorem same_defs : Cert.Du2.defs (F := Bits) = defs := by
  refine congrArg (Pipeline.defs pcfgs) ?_
  unfold Cert.Du2.defs₀ defs₀
  congr 1
  funext l x
  match l, x with
  | 0, (_, _) => rfl

/-- The printed program ends with its arguments unchanged: its run is that of the ideal form, over bits. -/
theorem frame_bits : Cert.quiescent_Du2 := fun m g _ => by
  rw [same_defs]
  exact frame (F := Bits) m g

end Cert.Du2Ideal.Prod

end
-- ==== Proof.PDu3.lean ====
module

public import proofs.«01_k».proof.Defs
public import proofs.«01_k».proof.Proof.Gen.Du3Ideal.Value
public import proofs.«01_k».proof.Proof.Gen.RefDu3Ideal.Run
public import proofs.«01_k».proof.Proof.Gen.Du3
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDu3Ideal.Prod

open Cert.RefDu3Ideal Cert.RefDu3Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 3 ⟨r % 2048, by omega⟩ c)

/-- Element `(i, j)` of the whole product. -/
def whole (x2 : FVec Ideal S8192x2048 .bf16) (x1 : FVec Ideal S4x4x2048x2048 .bf16) (i : Fin 8192) (j : Fin 8192) : EReal :=
  ∑ r : Fin 2048, x2 (ix2 i r) * wAt x1 j r

/-- The reference's result. -/
def ref (x0 : FVec Ideal S8192x8192 .f32) (x1 : FVec Ideal S4x4x2048x2048 .bf16) (x2 : FVec Ideal S8192x2048 .bf16) : FVec Ideal S8192x8192 .bf16 :=
  truncf .bf16 (select (cmpf .ogt x0 (broadcastInDim S8192x8192 ![] bcast_S_S8192x8192 (constant S_ .f32 0x00000000#32))) (mulf (Host.dotGeneral dot_S8192x2048_S8192x2048_S8192x8192_1_1_0_0_n_n none (extf .f32 x2 bitsLt_bf16_f32) (extf .f32 (shapeCast _ (shapeCast _ (extractStridedSlice S4x1x2048x2048 ![0, 3, 0, 0] x1 slices_S4x4x2048x2048_S4x1x2048x2048_0_3_0_0) shapeCasts_S4x1x2048x2048_S4x2048x2048) shapeCasts_S4x2048x2048_S8192x2048) bitsLt_bf16_f32)) (mulf (broadcastInDim S8192x8192 ![] bcast_S_S8192x8192 (constant S_ .f32 0x40000000#32)) (maximumf x0 (broadcastInDim S8192x8192 ![] bcast_S_S8192x8192 (constant S_ .f32 0x00000000#32))))) (broadcastInDim S8192x8192 ![] bcast_S_S8192x8192 (constant S_ .f32 0x00000000#32))) bitsLt_bf16_f32

theorem ref_at (x0 : FVec Ideal S8192x8192 .f32) (x1 : FVec Ideal S4x4x2048x2048 .bf16) (x2 : FVec Ideal S8192x2048 .bf16) (i : Fin 8192) (j : Fin 8192) :
    ref x0 x1 x2 (ix2 i j) = whole x2 x1 i j * (Ideal.ofBits .f32 0x40000000#32 * max (x0 (ix2 i j)) 0) := by
  unfold ref whole wAt
  pointwise
  by_cases h : 0 < x0 (ix2 i j)
  · exact if_pos h
  · rw [if_neg h, max_eq_right (not_lt.mp h), mul_zero, mul_zero]

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDu3Ideal := fun m g _ =>
  (θ_run defs _ _).mono (fun r h => ⟨fun c => (h c).2, sem_eq_zero_of_no_sems (by decide) r.2⟩) (Value.run m g)

end Cert.RefDu3Ideal.Prod

namespace Cert.Du3Ideal.Prod

open Cert.Du3Ideal Cert.Du3Ideal.Gen Idealize.ShloMosaic Idealize.ShloMosaic.TcCoe Idealize.SL.Sem
open Cert.RefDu3Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 3, t.val % 8 % 2, 0]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 8192) (hI : (I : ℕ) = t.val / 8 * 1024 + i) (hJ : (J : ℕ) = t.val % 8 * 1024 + j) :
    (show FVec Ideal S1024x1024 .f32 from iblk m c 2 t) (ix2 i j) = (show FVec Ideal S8192x8192 .f32 from m ((c.tc : Thread nD τ).loc main_arg0)) (ix2 I J) := by
  have ht : t.val < 64 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_3 (F := Ideal) (iblk m c 0 t) (iblk m c 1 t) (iblk m c 2 t) (ix2 i j) = part m c t i j * (Ideal.ofBits .f32 0x40000000#32 * max ((show FVec Ideal S1024x1024 .f32 from iblk m c 2 t) (ix2 i j)) 0) := by
  frame_out
  open_payloads
  pointwise
  rfl

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out0_at m c t (y 0) (y 1))).trans (Eq.trans ?_ (congrArg (ref _ _ _) (?_ : (ix2 ⟨t.val / 8 * 1024 + (y 0), by omega⟩ ⟨t.val % 8 * 1024 + (y 1), by omega⟩) = _)))
  · rw [ref_at]
    exact congrArg₂ (fun a b : EReal => a * (Ideal.ofBits .f32 0x40000000#32 * max b 0)) (part_at m c t (y 0) (y 1) _ _ rfl rfl) (e0_at m c t (y 0) (y 1) _ _ rfl rfl)
  · blk_ext [idx t]

/-- The kernel's result is the reference's. -/
theorem algebraic : Cert.algebraic_Du3Ideal_RefDu3Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Du3Ideal.defs _ _).mono
      (fun _ h c => ⟨(h c).1.trans (final0 m c), (h c).2⟩) (Cert.Du3Ideal.Value.run_blocks m g)
  · exact (θ_run Cert.RefDu3Ideal.defs _ _).mono
      (fun _ h c => ⟨(h c).1.trans (congr (congrArg₂ ref (hagree c).1 (hagree c).2.1) (hagree c).2.2), (h c).2⟩) (Cert.RefDu3Ideal.Prod.run m' g')

/-- The printed program and its ideal form run the same body. -/
theorem same_defs : Cert.Du3.defs (F := Bits) = defs := by
  refine congrArg (Pipeline.defs pcfgs) ?_
  unfold Cert.Du3.defs₀ defs₀
  congr 1
  funext l x
  match l, x with
  | 0, (_, _) => rfl

/-- The printed program ends with its arguments unchanged: its run is that of the ideal form, over bits. -/
theorem frame_bits : Cert.quiescent_Du3 := fun m g _ => by
  rw [same_defs]
  exact frame (F := Bits) m g

end Cert.Du3Ideal.Prod

end
-- ==== Proof.PDh0.lean ====
module

public import proofs.«01_k».proof.Defs
public import proofs.«01_k».proof.Proof.Gen.Dh0Ideal.Value
public import proofs.«01_k».proof.Proof.Gen.RefDh0Ideal.Run
public import proofs.«01_k».proof.Proof.Gen.Dh0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDh0Ideal.Prod

open Cert.RefDh0Ideal Cert.RefDh0Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 0 r ⟨c % 2048, by omega⟩)

/-- Element `(i, j)` of the whole product. -/
def whole (x2 : FVec Ideal S8192x8192 .bf16) (x1 : FVec Ideal S4x4x2048x2048 .bf16) (i : Fin 8192) (j : Fin 2048) : EReal :=
  ∑ r : Fin 8192, x2 (ix2 i r) * wAt x1 j r

/-- The reference's result. -/
def ref (x1 : FVec Ideal S4x4x2048x2048 .bf16) (x2 : FVec Ideal S8192x8192 .bf16) : FVec Ideal S8192x2048 .f32 :=
  Host.dotGeneral dot_S8192x8192_S2048x8192_S8192x2048_1_1_0_0_n_n none (extf .f32 x2 bitsLt_bf16_f32) (extf .f32 (shapeCast _ (transpose S2048x4x2048 [1, 0, 2] (shapeCast _ (extractStridedSlice S4x1x2048x2048 ![0, 0, 0, 0] x1 slices_S4x4x2048x2048_S4x1x2048x2048_0_0_0_0) shapeCasts_S4x1x2048x2048_S4x2048x2048) transposes_S4x2048x2048_S2048x4x2048_1_0_2) shapeCasts_S2048x4x2048_S2048x8192) bitsLt_bf16_f32)

theorem ref_at (x1 : FVec Ideal S4x4x2048x2048 .bf16) (x2 : FVec Ideal S8192x8192 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDh0Ideal := fun m g _ =>
  (θ_run defs _ _).mono (fun r h => ⟨fun c => (h c).2, sem_eq_zero_of_no_sems (by decide) r.2⟩) (Value.run m g)

end Cert.RefDh0Ideal.Prod

namespace Cert.Dh0Ideal.Prod

open Cert.Dh0Ideal Cert.Dh0Ideal.Gen Idealize.ShloMosaic Idealize.ShloMosaic.TcCoe Idealize.SL.Sem
open Cert.RefDh0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_Dh0Ideal_RefDh0Ideal := by
  intro m g m' g' _ hagree
  refine ⟨fun c => ref (m ((c.tc : Thread nD τ).loc main_arg1)) (m ((c.tc : Thread nD τ).loc main_arg2)), ?_, ?_⟩
  · exact (θ_run Cert.Dh0Ideal.defs _ _).mono
      (fun _ h c => ⟨(h c).1.trans (final0 m c), (h c).2⟩) (Cert.Dh0Ideal.Value.run_blocks m g)
  · exact (θ_run Cert.RefDh0Ideal.defs _ _).mono
      (fun _ h c => ⟨(h c).1.trans (congrArg₂ ref (hagree c).2.1 (hagree c).2.2), (h c).2⟩) (Cert.RefDh0Ideal.Prod.run m' g')

/-- The printed program and its ideal form run the same body. -/
theorem same_defs : Cert.Dh0.defs (F := Bits) = defs := by
  refine congrArg (Pipeline.defs pcfgs) ?_
  unfold Cert.Dh0.defs₀ defs₀
  congr 1
  funext l x
  match l, x with
  | 0, (_, _) => rfl

/-- The printed program ends with its arguments unchanged: its run is that of the ideal form, over bits. -/
theorem frame_bits : Cert.quiescent_Dh0 := fun m g _ => by
  rw [same_defs]
  exact frame (F := Bits) m g

end Cert.Dh0Ideal.Prod

end
-- ==== Proof.PDh1.lean ====
module

public import proofs.«01_k».proof.Defs
public import proofs.«01_k».proof.Proof.Gen.Dh1Ideal.Value
public import proofs.«01_k».proof.Proof.Gen.RefDh1Ideal.Run
public import proofs.«01_k».proof.Proof.Gen.Dh1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDh1Ideal.Prod

open Cert.RefDh1Ideal Cert.RefDh1Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 1 r ⟨c % 2048, by omega⟩)

/-- Element `(i, j)` of the whole product. -/
def whole (x2 : FVec Ideal S8192x8192 .bf16) (x1 : FVec Ideal S4x4x2048x2048 .bf16) (i : Fin 8192) (j : Fin 2048) : EReal :=
  ∑ r : Fin 8192, x2 (ix2 i r) * wAt x1 j r

/-- The reference's result. -/
def ref (x1 : FVec Ideal S4x4x2048x2048 .bf16) (x2 : FVec Ideal S8192x8192 .bf16) : FVec Ideal S8192x2048 .f32 :=
  Host.dotGeneral dot_S8192x8192_S2048x8192_S8192x2048_1_1_0_0_n_n none (extf .f32 x2 bitsLt_bf16_f32) (extf .f32 (shapeCast _ (transpose S2048x4x2048 [1, 0, 2] (shapeCast _ (extractStridedSlice S4x1x2048x2048 ![0, 1, 0, 0] x1 slices_S4x4x2048x2048_S4x1x2048x2048_0_1_0_0) shapeCasts_S4x1x2048x2048_S4x2048x2048) transposes_S4x2048x2048_S2048x4x2048_1_0_2) shapeCasts_S2048x4x2048_S2048x8192) bitsLt_bf16_f32)

theorem ref_at (x1 : FVec Ideal S4x4x2048x2048 .bf16) (x2 : FVec Ideal S8192x8192 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDh1Ideal := fun m g _ =>
  (θ_run defs _ _).mono (fun r h => ⟨fun c => (h c).2, sem_eq_zero_of_no_sems (by decide) r.2⟩) (Value.run m g)

end Cert.RefDh1Ideal.Prod

namespace Cert.Dh1Ideal.Prod

open Cert.Dh1Ideal Cert.Dh1Ideal.Gen Idealize.ShloMosaic Idealize.ShloMosaic.TcCoe Idealize.SL.Sem
open Cert.RefDh1Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 1, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_Dh1Ideal_RefDh1Ideal := by
  intro m g m' g' _ hagree
  refine ⟨fun c => ref (m ((c.tc : Thread nD τ).loc main_arg1)) (m ((c.tc : Thread nD τ).loc main_arg2)), ?_, ?_⟩
  · exact (θ_run Cert.Dh1Ideal.defs _ _).mono
      (fun _ h c => ⟨(h c).1.trans (final0 m c), (h c).2⟩) (Cert.Dh1Ideal.Value.run_blocks m g)
  · exact (θ_run Cert.RefDh1Ideal.defs _ _).mono
      (fun _ h c => ⟨(h c).1.trans (congrArg₂ ref (hagree c).2.1 (hagree c).2.2), (h c).2⟩) (Cert.RefDh1Ideal.Prod.run m' g')

/-- The printed program and its ideal form run the same body. -/
theorem same_defs : Cert.Dh1.defs (F := Bits) = defs := by
  refine congrArg (Pipeline.defs pcfgs) ?_
  unfold Cert.Dh1.defs₀ defs₀
  congr 1
  funext l x
  match l, x with
  | 0, (_, _) => rfl

/-- The printed program ends with its arguments unchanged: its run is that of the ideal form, over bits. -/
theorem frame_bits : Cert.quiescent_Dh1 := fun m g _ => by
  rw [same_defs]
  exact frame (F := Bits) m g

end Cert.Dh1Ideal.Prod

end
-- ==== Proof.PDh2.lean ====
module

public import proofs.«01_k».proof.Defs
public import proofs.«01_k».proof.Proof.Gen.Dh2Ideal.Value
public import proofs.«01_k».proof.Proof.Gen.RefDh2Ideal.Run
public import proofs.«01_k».proof.Proof.Gen.Dh2
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDh2Ideal.Prod

open Cert.RefDh2Ideal Cert.RefDh2Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 2 r ⟨c % 2048, by omega⟩)

/-- Element `(i, j)` of the whole product. -/
def whole (x2 : FVec Ideal S8192x8192 .bf16) (x1 : FVec Ideal S4x4x2048x2048 .bf16) (i : Fin 8192) (j : Fin 2048) : EReal :=
  ∑ r : Fin 8192, x2 (ix2 i r) * wAt x1 j r

/-- The reference's result. -/
def ref (x1 : FVec Ideal S4x4x2048x2048 .bf16) (x2 : FVec Ideal S8192x8192 .bf16) : FVec Ideal S8192x2048 .f32 :=
  Host.dotGeneral dot_S8192x8192_S2048x8192_S8192x2048_1_1_0_0_n_n none (extf .f32 x2 bitsLt_bf16_f32) (extf .f32 (shapeCast _ (transpose S2048x4x2048 [1, 0, 2] (shapeCast _ (extractStridedSlice S4x1x2048x2048 ![0, 2, 0, 0] x1 slices_S4x4x2048x2048_S4x1x2048x2048_0_2_0_0) shapeCasts_S4x1x2048x2048_S4x2048x2048) transposes_S4x2048x2048_S2048x4x2048_1_0_2) shapeCasts_S2048x4x2048_S2048x8192) bitsLt_bf16_f32)

theorem ref_at (x1 : FVec Ideal S4x4x2048x2048 .bf16) (x2 : FVec Ideal S8192x8192 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDh2Ideal := fun m g _ =>
  (θ_run defs _ _).mono (fun r h => ⟨fun c => (h c).2, sem_eq_zero_of_no_sems (by decide) r.2⟩) (Value.run m g)

end Cert.RefDh2Ideal.Prod

namespace Cert.Dh2Ideal.Prod

open Cert.Dh2Ideal Cert.Dh2Ideal.Gen Idealize.ShloMosaic Idealize.ShloMosaic.TcCoe Idealize.SL.Sem
open Cert.RefDh2Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 2, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_Dh2Ideal_RefDh2Ideal := by
  intro m g m' g' _ hagree
  refine ⟨fun c => ref (m ((c.tc : Thread nD τ).loc main_arg1)) (m ((c.tc : Thread nD τ).loc main_arg2)), ?_, ?_⟩
  · exact (θ_run Cert.Dh2Ideal.defs _ _).mono
      (fun _ h c => ⟨(h c).1.trans (final0 m c), (h c).2⟩) (Cert.Dh2Ideal.Value.run_blocks m g)
  · exact (θ_run Cert.RefDh2Ideal.defs _ _).mono
      (fun _ h c => ⟨(h c).1.trans (congrArg₂ ref (hagree c).2.1 (hagree c).2.2), (h c).2⟩) (Cert.RefDh2Ideal.Prod.run m' g')

/-- The printed program and its ideal form run the same body. -/
theorem same_defs : Cert.Dh2.defs (F := Bits) = defs := by
  refine congrArg (Pipeline.defs pcfgs) ?_
  unfold Cert.Dh2.defs₀ defs₀
  congr 1
  funext l x
  match l, x with
  | 0, (_, _) => rfl

/-- The printed program ends with its arguments unchanged: its run is that of the ideal form, over bits. -/
theorem frame_bits : Cert.quiescent_Dh2 := fun m g _ => by
  rw [same_defs]
  exact frame (F := Bits) m g

end Cert.Dh2Ideal.Prod

end
-- ==== Proof.PDh3.lean ====
module

public import proofs.«01_k».proof.Defs
public import proofs.«01_k».proof.Proof.Gen.Dh3Ideal.Value
public import proofs.«01_k».proof.Proof.Gen.RefDh3Ideal.Run
public import proofs.«01_k».proof.Proof.Gen.Dh3
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDh3Ideal.Prod

open Cert.RefDh3Ideal Cert.RefDh3Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 3 r ⟨c % 2048, by omega⟩)

/-- Element `(i, j)` of the whole product. -/
def whole (x2 : FVec Ideal S8192x8192 .bf16) (x1 : FVec Ideal S4x4x2048x2048 .bf16) (i : Fin 8192) (j : Fin 2048) : EReal :=
  ∑ r : Fin 8192, x2 (ix2 i r) * wAt x1 j r

/-- The reference's result. -/
def ref (x1 : FVec Ideal S4x4x2048x2048 .bf16) (x2 : FVec Ideal S8192x8192 .bf16) : FVec Ideal S8192x2048 .f32 :=
  Host.dotGeneral dot_S8192x8192_S2048x8192_S8192x2048_1_1_0_0_n_n none (extf .f32 x2 bitsLt_bf16_f32) (extf .f32 (shapeCast _ (transpose S2048x4x2048 [1, 0, 2] (shapeCast _ (extractStridedSlice S4x1x2048x2048 ![0, 3, 0, 0] x1 slices_S4x4x2048x2048_S4x1x2048x2048_0_3_0_0) shapeCasts_S4x1x2048x2048_S4x2048x2048) transposes_S4x2048x2048_S2048x4x2048_1_0_2) shapeCasts_S2048x4x2048_S2048x8192) bitsLt_bf16_f32)

theorem ref_at (x1 : FVec Ideal S4x4x2048x2048 .bf16) (x2 : FVec Ideal S8192x8192 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDh3Ideal := fun m g _ =>
  (θ_run defs _ _).mono (fun r h => ⟨fun c => (h c).2, sem_eq_zero_of_no_sems (by decide) r.2⟩) (Value.run m g)

end Cert.RefDh3Ideal.Prod

namespace Cert.Dh3Ideal.Prod

open Cert.Dh3Ideal Cert.Dh3Ideal.Gen Idealize.ShloMosaic Idealize.ShloMosaic.TcCoe Idealize.SL.Sem
open Cert.RefDh3Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 3, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x1024x2048 .bf16 from iblk m c 1 t) (ix4 0 0 j r) = wAt (show FVec Ideal S4x4x2048x2048 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_Dh3Ideal_RefDh3Ideal := by
  intro m g m' g' _ hagree
  refine ⟨fun c => ref (m ((c.tc : Thread nD τ).loc main_arg1)) (m ((c.tc : Thread nD τ).loc main_arg2)), ?_, ?_⟩
  · exact (θ_run Cert.Dh3Ideal.defs _ _).mono
      (fun _ h c => ⟨(h c).1.trans (final0 m c), (h c).2⟩) (Cert.Dh3Ideal.Value.run_blocks m g)
  · exact (θ_run Cert.RefDh3Ideal.defs _ _).mono
      (fun _ h c => ⟨(h c).1.trans (congrArg₂ ref (hagree c).2.1 (hagree c).2.2), (h c).2⟩) (Cert.RefDh3Ideal.Prod.run m' g')

/-- The printed program and its ideal form run the same body. -/
theorem same_defs : Cert.Dh3.defs (F := Bits) = defs := by
  refine congrArg (Pipeline.defs pcfgs) ?_
  unfold Cert.Dh3.defs₀ defs₀
  congr 1
  funext l x
  match l, x with
  | 0, (_, _) => rfl

/-- The printed program ends with its arguments unchanged: its run is that of the ideal form, over bits. -/
theorem frame_bits : Cert.quiescent_Dh3 := fun m g _ => by
  rw [same_defs]
  exact frame (F := Bits) m g

end Cert.Dh3Ideal.Prod

end
-- ==== Proof.PDhQkv0.lean ====
module

public import proofs.«01_k».proof.Defs
public import proofs.«01_k».proof.Proof.Gen.DhQkv0Ideal.Value
public import proofs.«01_k».proof.Proof.Gen.RefDhQkv0Ideal.Run
public import proofs.«01_k».proof.Proof.Gen.DhQkv0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDhQkv0Ideal.Prod

open Cert.RefDhQkv0Ideal Cert.RefDhQkv0Ideal.Gen Idealize.ShloMosaic Idealize.ShloMosaic.TcCoe Idealize.SL.Sem

/-- Element `(r, c)` of the layer's whole weight, in the stack of the devices' parts. -/
def wAt (w : FVec Ideal S4x2x2048x1536 .bf16) (r : Fin 2048) (c : Fin 6144) : EReal := w (ix4 ⟨c / 1536, by omega⟩ 0 r ⟨c % 1536, by omega⟩)

/-- Element `(i, j)` of the whole product. -/
def whole (x2 : FVec Ideal S8192x6144 .bf16) (x1 : FVec Ideal S4x2x2048x1536 .bf16) (i : Fin 8192) (j : Fin 2048) : EReal :=
  ∑ r : Fin 6144, x2 (ix2 i r) * wAt x1 j r

/-- The reference's result. -/
def ref (x1 : FVec Ideal S4x2x2048x1536 .bf16) (x2 : FVec Ideal S8192x6144 .bf16) : FVec Ideal S8192x2048 .f32 :=
  Host.dotGeneral dot_S8192x6144_S2048x6144_S8192x2048_1_1_0_0_n_n none (extf .f32 x2 bitsLt_bf16_f32) (extf .f32 (shapeCast _ (transpose S2048x4x1536 [1, 0, 2] (shapeCast _ (extractStridedSlice S4x1x2048x1536 ![0, 0, 0, 0] x1 slices_S4x2x2048x1536_S4x1x2048x1536_0_0_0_0) shapeCasts_S4x1x2048x1536_S4x2048x1536) transposes_S4x2048x1536_S2048x4x1536_1_0_2) shapeCasts_S2048x4x1536_S2048x6144) bitsLt_bf16_f32)

theorem ref_at (x1 : FVec Ideal S4x2x2048x1536 .bf16) (x2 : FVec Ideal S8192x6144 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDhQkv0Ideal := fun m g _ =>
  (θ_run defs _ _).mono (fun r h => ⟨fun c => (h c).2, sem_eq_zero_of_no_sems (by decide) r.2⟩) (Value.run m g)

end Cert.RefDhQkv0Ideal.Prod

namespace Cert.DhQkv0Ideal.Prod

open Cert.DhQkv0Ideal Cert.DhQkv0Ideal.Gen Idealize.ShloMosaic Idealize.ShloMosaic.TcCoe Idealize.SL.Sem
open Cert.RefDhQkv0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 1536, (show FVec Ideal S1024x1536 .bf16 from iblk m c 0 t) (ix2 i r) * (show FVec Ideal S1x1x1024x1536 .bf16 from iblk m c 1 t) (ix4 0 0 j r)

/-- The left block in the left array. -/
theorem a_at (c : Dev nD) (t : Fin cfg0.N) (i : Fin 1024) (r : Fin 1536) (I : Fin 8192) (R : Fin 6144) (hI : (I : ℕ) = t.val / 8 * 1024 + i) (hR : (R : ℕ) = t.val % 4 * 1536 + r) :
    (show FVec Ideal S1024x1536 .bf16 from iblk m c 0 t) (ix2 i r) = (show FVec Ideal S8192x6144 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 1536) (j : Fin 1024) (R : Fin 6144) (J : Fin 2048) (hR : (R : ℕ) = t.val % 4 * 1536 + r) (hJ : (J : ℕ) = t.val / 4 % 2 * 1024 + j) :
    (show FVec Ideal S1x1x1024x1536 .bf16 from iblk m c 1 t) (ix4 0 0 j r) = wAt (show FVec Ideal S4x2x2048x1536 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 1536 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_DhQkv0Ideal_RefDhQkv0Ideal := by
  intro m g m' g' _ hagree
  refine ⟨fun c => ref (m ((c.tc : Thread nD τ).loc main_arg1)) (m ((c.tc : Thread nD τ).loc main_arg2)), ?_, ?_⟩
  · exact (θ_run Cert.DhQkv0Ideal.defs _ _).mono
      (fun _ h c => ⟨(h c).1.trans (final0 m c), (h c).2⟩) (Cert.DhQkv0Ideal.Value.run_blocks m g)
  · exact (θ_run Cert.RefDhQkv0Ideal.defs _ _).mono
      (fun _ h c => ⟨(h c).1.trans (congrArg₂ ref (hagree c).2.1 (hagree c).2.2), (h c).2⟩) (Cert.RefDhQkv0Ideal.Prod.run m' g')

/-- The printed program and its ideal form run the same body. -/
theorem same_defs : Cert.DhQkv0.defs (F := Bits) = defs := by
  refine congrArg (Pipeline.defs pcfgs) ?_
  unfold Cert.DhQkv0.defs₀ defs₀
  congr 1
  funext l x
  match l, x with
  | 0, (_, _) => rfl

/-- The printed program ends with its arguments unchanged: its run is that of the ideal form, over bits. -/
theorem frame_bits : Cert.quiescent_DhQkv0 := fun m g _ => by
  rw [same_defs]
  exact frame (F := Bits) m g

end Cert.DhQkv0Ideal.Prod

end
-- ==== Proof.PDhQkv1.lean ====
module

public import proofs.«01_k».proof.Defs
public import proofs.«01_k».proof.Proof.Gen.DhQkv1Ideal.Value
public import proofs.«01_k».proof.Proof.Gen.RefDhQkv1Ideal.Run
public import proofs.«01_k».proof.Proof.Gen.DhQkv1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDhQkv1Ideal.Prod

open Cert.RefDhQkv1Ideal Cert.RefDhQkv1Ideal.Gen Idealize.ShloMosaic Idealize.ShloMosaic.TcCoe Idealize.SL.Sem

/-- Element `(r, c)` of the layer's whole weight, in the stack of the devices' parts. -/
def wAt (w : FVec Ideal S4x2x2048x1536 .bf16) (r : Fin 2048) (c : Fin 6144) : EReal := w (ix4 ⟨c / 1536, by omega⟩ 1 r ⟨c % 1536, by omega⟩)

/-- Element `(i, j)` of the whole product. -/
def whole (x2 : FVec Ideal S8192x6144 .bf16) (x1 : FVec Ideal S4x2x2048x1536 .bf16) (i : Fin 8192) (j : Fin 2048) : EReal :=
  ∑ r : Fin 6144, x2 (ix2 i r) * wAt x1 j r

/-- The reference's result. -/
def ref (x1 : FVec Ideal S4x2x2048x1536 .bf16) (x2 : FVec Ideal S8192x6144 .bf16) : FVec Ideal S8192x2048 .f32 :=
  Host.dotGeneral dot_S8192x6144_S2048x6144_S8192x2048_1_1_0_0_n_n none (extf .f32 x2 bitsLt_bf16_f32) (extf .f32 (shapeCast _ (transpose S2048x4x1536 [1, 0, 2] (shapeCast _ (extractStridedSlice S4x1x2048x1536 ![0, 1, 0, 0] x1 slices_S4x2x2048x1536_S4x1x2048x1536_0_1_0_0) shapeCasts_S4x1x2048x1536_S4x2048x1536) transposes_S4x2048x1536_S2048x4x1536_1_0_2) shapeCasts_S2048x4x1536_S2048x6144) bitsLt_bf16_f32)

theorem ref_at (x1 : FVec Ideal S4x2x2048x1536 .bf16) (x2 : FVec Ideal S8192x6144 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDhQkv1Ideal := fun m g _ =>
  (θ_run defs _ _).mono (fun r h => ⟨fun c => (h c).2, sem_eq_zero_of_no_sems (by decide) r.2⟩) (Value.run m g)

end Cert.RefDhQkv1Ideal.Prod

namespace Cert.DhQkv1Ideal.Prod

open Cert.DhQkv1Ideal Cert.DhQkv1Ideal.Gen Idealize.ShloMosaic Idealize.ShloMosaic.TcCoe Idealize.SL.Sem
open Cert.RefDhQkv1Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 1, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 1536, (show FVec Ideal S1024x1536 .bf16 from iblk m c 0 t) (ix2 i r) * (show FVec Ideal S1x1x1024x1536 .bf16 from iblk m c 1 t) (ix4 0 0 j r)

/-- The left block in the left array. -/
theorem a_at (c : Dev nD) (t : Fin cfg0.N) (i : Fin 1024) (r : Fin 1536) (I : Fin 8192) (R : Fin 6144) (hI : (I : ℕ) = t.val / 8 * 1024 + i) (hR : (R : ℕ) = t.val % 4 * 1536 + r) :
    (show FVec Ideal S1024x1536 .bf16 from iblk m c 0 t) (ix2 i r) = (show FVec Ideal S8192x6144 .bf16 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 1536) (j : Fin 1024) (R : Fin 6144) (J : Fin 2048) (hR : (R : ℕ) = t.val % 4 * 1536 + r) (hJ : (J : ℕ) = t.val / 4 % 2 * 1024 + j) :
    (show FVec Ideal S1x1x1024x1536 .bf16 from iblk m c 1 t) (ix4 0 0 j r) = wAt (show FVec Ideal S4x2x2048x1536 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 1536 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_DhQkv1Ideal_RefDhQkv1Ideal := by
  intro m g m' g' _ hagree
  refine ⟨fun c => ref (m ((c.tc : Thread nD τ).loc main_arg1)) (m ((c.tc : Thread nD τ).loc main_arg2)), ?_, ?_⟩
  · exact (θ_run Cert.DhQkv1Ideal.defs _ _).mono
      (fun _ h c => ⟨(h c).1.trans (final0 m c), (h c).2⟩) (Cert.DhQkv1Ideal.Value.run_blocks m g)
  · exact (θ_run Cert.RefDhQkv1Ideal.defs _ _).mono
      (fun _ h c => ⟨(h c).1.trans (congrArg₂ ref (hagree c).2.1 (hagree c).2.2), (h c).2⟩) (Cert.RefDhQkv1Ideal.Prod.run m' g')

/-- The printed program and its ideal form run the same body. -/
theorem same_defs : Cert.DhQkv1.defs (F := Bits) = defs := by
  refine congrArg (Pipeline.defs pcfgs) ?_
  unfold Cert.DhQkv1.defs₀ defs₀
  congr 1
  funext l x
  match l, x with
  | 0, (_, _) => rfl

/-- The printed program ends with its arguments unchanged: its run is that of the ideal form, over bits. -/
theorem frame_bits : Cert.quiescent_DhQkv1 := fun m g _ => by
  rw [same_defs]
  exact frame (F := Bits) m g

end Cert.DhQkv1Ideal.Prod

end
-- ==== Proof.PDo0.lean ====
module

public import proofs.«01_k».proof.Defs
public import proofs.«01_k».proof.Proof.Gen.Do0Ideal.Value
public import proofs.«01_k».proof.Proof.Gen.RefDo0Ideal.Run
public import proofs.«01_k».proof.Proof.Gen.Do0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDo0Ideal.Prod

open Cert.RefDo0Ideal Cert.RefDo0Ideal.Gen Idealize.ShloMosaic Idealize.ShloMosaic.TcCoe Idealize.SL.Sem

/-- Element `(r, c)` of the layer's whole weight, in the stack of the devices' parts. -/
def wAt (w : FVec Ideal S4x2x512x2048 .bf16) (r : Fin 2048) (c : Fin 2048) : EReal := w (ix4 ⟨r / 512, by omega⟩ 0 ⟨r % 512, by omega⟩ c)

/-- Element `(i, j)` of the whole product. -/
def whole (x2 : FVec Ideal S8192x2048 .bf16) (x1 : FVec Ideal S4x2x512x2048 .bf16) (i : Fin 8192) (j : Fin 2048) : EReal :=
  ∑ r : Fin 2048, x2 (ix2 i r) * wAt x1 j r

/-- The reference's result. -/
def ref (x1 : FVec Ideal S4x2x512x2048 .bf16) (x2 : FVec Ideal S8192x2048 .bf16) : FVec Ideal S8192x2048 .f32 :=
  Host.dotGeneral dot_S8192x2048_S2048x2048_S8192x2048_1_1_0_0_n_n none (extf .f32 x2 bitsLt_bf16_f32) (extf .f32 (shapeCast _ (shapeCast _ (extractStridedSlice S4x1x512x2048 ![0, 0, 0, 0] x1 slices_S4x2x512x2048_S4x1x512x2048_0_0_0_0) shapeCasts_S4x1x512x2048_S4x512x2048) shapeCasts_S4x512x2048_S2048x2048) bitsLt_bf16_f32)

theorem ref_at (x1 : FVec Ideal S4x2x512x2048 .bf16) (x2 : FVec Ideal S8192x2048 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDo0Ideal := fun m g _ =>
  (θ_run defs _ _).mono (fun r h => ⟨fun c => (h c).2, sem_eq_zero_of_no_sems (by decide) r.2⟩) (Value.run m g)

end Cert.RefDo0Ideal.Prod

namespace Cert.Do0Ideal.Prod

open Cert.Do0Ideal Cert.Do0Ideal.Gen Idealize.ShloMosaic Idealize.ShloMosaic.TcCoe Idealize.SL.Sem
open Cert.RefDo0Ideal.Prod (wAt whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- What the point's two blocks contribute to element `(i, j)` of the result's block. -/
def part (c : Dev nD) (t : Fin cfg0.N) (i : Fin 1024) (j : Fin 512) : EReal :=
  ∑ r : Fin 2048, (show FVec Ideal S1024x2048 .bf16 from iblk m c 0 t) (ix2 i r) * (show FVec Ideal S1x1x512x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 4 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 32 := lt_of_lt_of_eq t.isLt N_eq
  blk_point [iblk, V, idx t]

/-- The right block in the right array. -/
theorem b_at (c : Dev nD) (t : Fin cfg0.N) (r : Fin 2048) (j : Fin 512) (R : Fin 2048) (J : Fin 2048) (hR : (R : ℕ) = r) (hJ : (J : ℕ) = t.val % 4 * 512 + j) :
    (show FVec Ideal S1x1x512x2048 .bf16 from iblk m c 1 t) (ix4 0 0 j r) = wAt (show FVec Ideal S4x2x512x2048 .bf16 from m ((c.tc : Thread nD τ).loc main_arg1)) J R := by
  have ht : t.val < 32 := lt_of_lt_of_eq t.isLt N_eq
  unfold wAt
  blk_point [iblk, V, idx t]

/-- The point's product is that part of the whole one. -/
theorem part_at (c : Dev nD) (t : Fin cfg0.N) (i : Fin 1024) (j : Fin 512) (I : Fin 8192) (J : Fin 2048) (hI : (I : ℕ) = t.val / 4 * 1024 + i) (hJ : (J : ℕ) = t.val % 4 * 512 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 512) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 32 := lt_of_lt_of_eq t.isLt N_eq
  blk_simp
  have h0 : (y 0 : ℕ) < 1024 := (y 0).isLt
  have h1 : (y 1 : ℕ) < 512 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 4 * 1024 + (y 0), by omega⟩ ⟨t.val % 4 * 512 + (y 1), by omega⟩) = _)))
  · rw [ref_at]
    exact part_at m c t (y 0) (y 1) _ _ rfl rfl
  · blk_ext [idx t]

/-- The kernel's result is the reference's. -/
theorem algebraic : Cert.algebraic_Do0Ideal_RefDo0Ideal := by
  intro m g m' g' _ hagree
  refine ⟨fun c => ref (m ((c.tc : Thread nD τ).loc main_arg1)) (m ((c.tc : Thread nD τ).loc main_arg2)), ?_, ?_⟩
  · exact (θ_run Cert.Do0Ideal.defs _ _).mono
      (fun _ h c => ⟨(h c).1.trans (final0 m c), (h c).2⟩) (Cert.Do0Ideal.Value.run_blocks m g)
  · exact (θ_run Cert.RefDo0Ideal.defs _ _).mono
      (fun _ h c => ⟨(h c).1.trans (congrArg₂ ref (hagree c).2.1 (hagree c).2.2), (h c).2⟩) (Cert.RefDo0Ideal.Prod.run m' g')

/-- The printed program and its ideal form run the same body. -/
theorem same_defs : Cert.Do0.defs (F := Bits) = defs := by
  refine congrArg (Pipeline.defs pcfgs) ?_
  unfold Cert.Do0.defs₀ defs₀
  congr 1
  funext l x
  match l, x with
  | 0, (_, _) => rfl

/-- The printed program ends with its arguments unchanged: its run is that of the ideal form, over bits. -/
theorem frame_bits : Cert.quiescent_Do0 := fun m g _ => by
  rw [same_defs]
  exact frame (F := Bits) m g

end Cert.Do0Ideal.Prod

end
-- ==== Proof.PDo1.lean ====
module

public import proofs.«01_k».proof.Defs
public import proofs.«01_k».proof.Proof.Gen.Do1Ideal.Value
public import proofs.«01_k».proof.Proof.Gen.RefDo1Ideal.Run
public import proofs.«01_k».proof.Proof.Gen.Do1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDo1Ideal.Prod

open Cert.RefDo1Ideal Cert.RefDo1Ideal.Gen Idealize.ShloMosaic Idealize.ShloMosaic.TcCoe Idealize.SL.Sem

/-- Element `(r, c)` of the layer's whole weight, in the stack of the devices' parts. -/
def wAt (w : FVec Ideal S4x2x512x2048 .bf16) (r : Fin 2048) (c : Fin 2048) : EReal := w (ix4 ⟨r / 512, by omega⟩ 1 ⟨r % 512, by omega⟩ c)

/-- Element `(i, j)` of the whole product. -/
def whole (x2 : FVec Ideal S8192x2048 .bf16) (x1 : FVec Ideal S4x2x512x2048 .bf16) (i : Fin 8192) (j : Fin 2048) : EReal :=
  ∑ r : Fin 2048, x2 (ix2 i r) * wAt x1 j r

/-- The reference's result. -/
def ref (x1 : FVec Ideal S4x2x512x2048 .bf16) (x2 : FVec Ideal S8192x2048 .bf16) : FVec Ideal S8192x2048 .f32 :=
  Host.dotGeneral dot_S8192x2048_S2048x2048_S8192x2048_1_1_0_0_n_n none (extf .f32 x2 bitsLt_bf16_f32) (extf .f32 (shapeCast _ (shapeCast _ (extractStridedSlice S4x1x512x2048 ![0, 1, 0, 0] x1 slices_S4x2x512x2048_S4x1x512x2048_0_1_0_0) shapeCasts_S4x1x512x2048_S4x512x2048) shapeCasts_S4x512x2048_S2048x2048) bitsLt_bf16_f32)

theorem ref_at (x1 : FVec Ideal S4x2x512x2048 .bf16) (x2 : FVec Ideal S8192x2048 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDo1Ideal := fun m g _ =>
  (θ_run defs _ _).mono (fun r h => ⟨fun c => (h c).2, sem_eq_zero_of_no_sems (by decide) r.2⟩) (Value.run m g)

end Cert.RefDo1Ideal.Prod

namespace Cert.Do1Ideal.Prod

open Cert.Do1Ideal Cert.Do1Ideal.Gen Idealize.ShloMosaic Idealize.ShloMosaic.TcCoe Idealize.SL.Sem
open Cert.RefDo1Ideal.Prod (wAt whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, 0]
    ∧ win0_1.index t = ![t.val % 4, 1, 0, 0]
    ∧ win0_2.index t = ![t.val / 4, t.val % 4] :=
  (by decide +kernel : ∀ t : Fin grid0.N, _)

/-- What the point's two blocks contribute to element `(i, j)` of the result's block. -/
def part (c : Dev nD) (t : Fin cfg0.N) (i : Fin 1024) (j : Fin 512) : EReal :=
  ∑ r : Fin 2048, (show FVec Ideal S1024x2048 .bf16 from iblk m c 0 t) (ix2 i r) * (show FVec Ideal S1x1x512x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 4 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 32 := lt_of_lt_of_eq t.isLt N_eq
  blk_point [iblk, V, idx t]

/-- The right block in the right array. -/
theorem b_at (c : Dev nD) (t : Fin cfg0.N) (r : Fin 2048) (j : Fin 512) (R : Fin 2048) (J : Fin 2048) (hR : (R : ℕ) = r) (hJ : (J : ℕ) = t.val % 4 * 512 + j) :
    (show FVec Ideal S1x1x512x2048 .bf16 from iblk m c 1 t) (ix4 0 0 j r) = wAt (show FVec Ideal S4x2x512x2048 .bf16 from m ((c.tc : Thread nD τ).loc main_arg1)) J R := by
  have ht : t.val < 32 := lt_of_lt_of_eq t.isLt N_eq
  unfold wAt
  blk_point [iblk, V, idx t]

/-- The point's product is that part of the whole one. -/
theorem part_at (c : Dev nD) (t : Fin cfg0.N) (i : Fin 1024) (j : Fin 512) (I : Fin 8192) (J : Fin 2048) (hI : (I : ℕ) = t.val / 4 * 1024 + i) (hJ : (J : ℕ) = t.val % 4 * 512 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 512) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 32 := lt_of_lt_of_eq t.isLt N_eq
  blk_simp
  have h0 : (y 0 : ℕ) < 1024 := (y 0).isLt
  have h1 : (y 1 : ℕ) < 512 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 4 * 1024 + (y 0), by omega⟩ ⟨t.val % 4 * 512 + (y 1), by omega⟩) = _)))
  · rw [ref_at]
    exact part_at m c t (y 0) (y 1) _ _ rfl rfl
  · blk_ext [idx t]

/-- The kernel's result is the reference's. -/
theorem algebraic : Cert.algebraic_Do1Ideal_RefDo1Ideal := by
  intro m g m' g' _ hagree
  refine ⟨fun c => ref (m ((c.tc : Thread nD τ).loc main_arg1)) (m ((c.tc : Thread nD τ).loc main_arg2)), ?_, ?_⟩
  · exact (θ_run Cert.Do1Ideal.defs _ _).mono
      (fun _ h c => ⟨(h c).1.trans (final0 m c), (h c).2⟩) (Cert.Do1Ideal.Value.run_blocks m g)
  · exact (θ_run Cert.RefDo1Ideal.defs _ _).mono
      (fun _ h c => ⟨(h c).1.trans (congrArg₂ ref (hagree c).2.1 (hagree c).2.2), (h c).2⟩) (Cert.RefDo1Ideal.Prod.run m' g')

/-- The printed program and its ideal form run the same body. -/
theorem same_defs : Cert.Do1.defs (F := Bits) = defs := by
  refine congrArg (Pipeline.defs pcfgs) ?_
  unfold Cert.Do1.defs₀ defs₀
  congr 1
  funext l x
  match l, x with
  | 0, (_, _) => rfl

/-- The printed program ends with its arguments unchanged: its run is that of the ideal form, over bits. -/
theorem frame_bits : Cert.quiescent_Do1 := fun m g _ => by
  rw [same_defs]
  exact frame (F := Bits) m g

end Cert.Do1Ideal.Prod

end
-- ==== Proof.PDs0.lean ====
module

public import proofs.«01_k».proof.Defs
public import proofs.«01_k».proof.Proof.Gen.Ds0Ideal.Value
public import proofs.«01_k».proof.Proof.Gen.RefDs0Ideal.Run
public import proofs.«01_k».proof.Proof.Gen.Ds0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDs0Ideal.Prod

open Cert.RefDs0Ideal Cert.RefDs0Ideal.Gen Idealize.ShloMosaic Idealize.ShloMosaic.TcCoe Idealize.SL.Sem

/-- Element `(r, c)` of the layer's whole weight, in the stack of the devices' parts. -/
def wAt (w : FVec Ideal S4x1x512x2048 .bf16) (r : Fin 2048) (c : Fin 2048) : EReal := w (ix4 ⟨r / 512, by omega⟩ 0 ⟨r % 512, by omega⟩ c)

/-- Element `(i, j)` of the whole product. -/
def whole (x2 : FVec Ideal S8192x2048 .bf16) (x1 : FVec Ideal S4x1x512x2048 .bf16) (i : Fin 8192) (j : Fin 2048) : EReal :=
  ∑ r : Fin 2048, x2 (ix2 i r) * wAt x1 j r

/-- The reference's result. -/
def ref (x1 : FVec Ideal S4x1x512x2048 .bf16) (x2 : FVec Ideal S8192x2048 .bf16) : FVec Ideal S8192x2048 .f32 :=
  Host.dotGeneral dot_S8192x2048_S2048x2048_S8192x2048_1_1_0_0_n_n none (extf .f32 x2 bitsLt_bf16_f32) (extf .f32 (shapeCast _ (shapeCast _ x1 shapeCasts_S4x1x512x2048_S4x512x2048) shapeCasts_S4x512x2048_S2048x2048) bitsLt_bf16_f32)

theorem ref_at (x1 : FVec Ideal S4x1x512x2048 .bf16) (x2 : FVec Ideal S8192x2048 .bf16) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDs0Ideal := fun m g _ =>
  (θ_run defs _ _).mono (fun r h => ⟨fun c => (h c).2, sem_eq_zero_of_no_sems (by decide) r.2⟩) (Value.run m g)

end Cert.RefDs0Ideal.Prod

namespace Cert.Ds0Ideal.Prod

open Cert.Ds0Ideal Cert.Ds0Ideal.Gen Idealize.ShloMosaic Idealize.ShloMosaic.TcCoe Idealize.SL.Sem
open Cert.RefDs0Ideal.Prod (wAt whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- What the point's two blocks contribute to element `(i, j)` of the result's block. -/
def part (c : Dev nD) (t : Fin cfg0.N) (i : Fin 1024) (j : Fin 512) : EReal :=
  ∑ r : Fin 2048, (show FVec Ideal S1024x2048 .bf16 from iblk m c 0 t) (ix2 i r) * (show FVec Ideal S1x1x512x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 4 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 32 := lt_of_lt_of_eq t.isLt N_eq
  blk_point [iblk, V, idx t]

/-- The right block in the right array. -/
theorem b_at (c : Dev nD) (t : Fin cfg0.N) (r : Fin 2048) (j : Fin 512) (R : Fin 2048) (J : Fin 2048) (hR : (R : ℕ) = r) (hJ : (J : ℕ) = t.val % 4 * 512 + j) :
    (show FVec Ideal S1x1x512x2048 .bf16 from iblk m c 1 t) (ix4 0 0 j r) = wAt (show FVec Ideal S4x1x512x2048 .bf16 from m ((c.tc : Thread nD τ).loc main_arg1)) J R := by
  have ht : t.val < 32 := lt_of_lt_of_eq t.isLt N_eq
  unfold wAt
  blk_point [iblk, V, idx t]

/-- The point's product is that part of the whole one. -/
theorem part_at (c : Dev nD) (t : Fin cfg0.N) (i : Fin 1024) (j : Fin 512) (I : Fin 8192) (J : Fin 2048) (hI : (I : ℕ) = t.val / 4 * 1024 + i) (hJ : (J : ℕ) = t.val % 4 * 512 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 512) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 32 := lt_of_lt_of_eq t.isLt N_eq
  blk_simp
  have h0 : (y 0 : ℕ) < 1024 := (y 0).isLt
  have h1 : (y 1 : ℕ) < 512 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 4 * 1024 + (y 0), by omega⟩ ⟨t.val % 4 * 512 + (y 1), by omega⟩) = _)))
  · rw [ref_at]
    exact part_at m c t (y 0) (y 1) _ _ rfl rfl
  · blk_ext [idx t]

/-- The kernel's result is the reference's. -/
theorem algebraic : Cert.algebraic_Ds0Ideal_RefDs0Ideal := by
  intro m g m' g' _ hagree
  refine ⟨fun c => ref (m ((c.tc : Thread nD τ).loc main_arg1)) (m ((c.tc : Thread nD τ).loc main_arg2)), ?_, ?_⟩
  · exact (θ_run Cert.Ds0Ideal.defs _ _).mono
      (fun _ h c => ⟨(h c).1.trans (final0 m c), (h c).2⟩) (Cert.Ds0Ideal.Value.run_blocks m g)
  · exact (θ_run Cert.RefDs0Ideal.defs _ _).mono
      (fun _ h c => ⟨(h c).1.trans (congrArg₂ ref (hagree c).2.1 (hagree c).2.2), (h c).2⟩) (Cert.RefDs0Ideal.Prod.run m' g')

/-- The printed program and its ideal form run the same body. -/
theorem same_defs : Cert.Ds0.defs (F := Bits) = defs := by
  refine congrArg (Pipeline.defs pcfgs) ?_
  unfold Cert.Ds0.defs₀ defs₀
  congr 1
  funext l x
  match l, x with
  | 0, (_, _) => rfl

/-- The printed program ends with its arguments unchanged: its run is that of the ideal form, over bits. -/
theorem frame_bits : Cert.quiescent_Ds0 := fun m g _ => by
  rw [same_defs]
  exact frame (F := Bits) m g

end Cert.Ds0Ideal.Prod

end
-- ==== Proof.PDhIn0.lean ====
module

public import proofs.«01_k».proof.Defs
public import proofs.«01_k».proof.Proof.Gen.DhIn0Ideal.Value
public import proofs.«01_k».proof.Proof.Gen.RefDhIn0Ideal.Run
public import proofs.«01_k».proof.Proof.Gen.DhIn0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDhIn0Ideal.Prod

open Cert.RefDhIn0Ideal Cert.RefDhIn0Ideal.Gen Idealize.ShloMosaic Idealize.ShloMosaic.TcCoe Idealize.SL.Sem

/-- Element `(r, c)` of the layer's whole weight, in the stack of the devices' parts. -/
def wAt (w : FVec Ideal S4x1x2048x1024 .bf16) (r : Fin 2048) (c : Fin 4096) : EReal := w (ix4 ⟨c / 1024, by omega⟩ 0 r ⟨c % 1024, by omega⟩)

/-- Element `(i, j)` of the whole product. -/
def whole (x2 : FVec Ideal S8192x4096 .f32) (x1 : FVec Ideal S4x1x2048x1024 .bf16) (i : Fin 8192) (j : Fin 2048) : EReal :=
  ∑ r : Fin 4096, x2 (ix2 i r) * wAt x1 j r

/-- The reference's result. -/
def ref (x1 : FVec Ideal S4x1x2048x1024 .bf16) (x2 : FVec Ideal S8192x4096 .f32) : FVec Ideal S8192x2048 .f32 :=
  Host.dotGeneral dot_S8192x4096_S2048x4096_S8192x2048_1_1_0_0_n_n none x2 (extf .f32 (shapeCast _ (transpose S2048x4x1024 [1, 0, 2] (shapeCast _ x1 shapeCasts_S4x1x2048x1024_S4x2048x1024) transposes_S4x2048x1024_S2048x4x1024_1_0_2) shapeCasts_S2048x4x1024_S2048x4096) bitsLt_bf16_f32)

theorem ref_at (x1 : FVec Ideal S4x1x2048x1024 .bf16) (x2 : FVec Ideal S8192x4096 .f32) (i : Fin 8192) (j : Fin 2048) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDhIn0Ideal := fun m g _ =>
  (θ_run defs _ _).mono (fun r h => ⟨fun c => (h c).2, sem_eq_zero_of_no_sems (by decide) r.2⟩) (Value.run m g)

end Cert.RefDhIn0Ideal.Prod

namespace Cert.DhIn0Ideal.Prod

open Cert.DhIn0Ideal Cert.DhIn0Ideal.Gen Idealize.ShloMosaic Idealize.ShloMosaic.TcCoe Idealize.SL.Sem
open Cert.RefDhIn0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 1024, (show FVec Ideal S1024x1024 .f32 from iblk m c 0 t) (ix2 i r) * (show FVec Ideal S1x1x1024x1024 .bf16 from iblk m c 1 t) (ix4 0 0 j r)

/-- The left block in the left array. -/
theorem a_at (c : Dev nD) (t : Fin cfg0.N) (i : Fin 1024) (r : Fin 1024) (I : Fin 8192) (R : Fin 4096) (hI : (I : ℕ) = t.val / 8 * 1024 + i) (hR : (R : ℕ) = t.val % 4 * 1024 + r) :
    (show FVec Ideal S1024x1024 .f32 from iblk m c 0 t) (ix2 i r) = (show FVec Ideal S8192x4096 .f32 from m ((c.tc : Thread nD τ).loc main_arg2)) (ix2 I R) := by
  have ht : t.val < 64 := lt_of_lt_of_eq t.isLt N_eq
  blk_point [iblk, V, idx t]

/-- The right block in the right array. -/
theorem b_at (c : Dev nD) (t : Fin cfg0.N) (r : Fin 1024) (j : Fin 1024) (R : Fin 4096) (J : Fin 2048) (hR : (R : ℕ) = t.val % 4 * 1024 + r) (hJ : (J : ℕ) = t.val / 4 % 2 * 1024 + j) :
    (show FVec Ideal S1x1x1024x1024 .bf16 from iblk m c 1 t) (ix4 0 0 j r) = wAt (show FVec Ideal S4x1x2048x1024 .bf16 from m ((c.tc : Thread nD τ).loc main_arg1)) J R := by
  have ht : t.val < 64 := lt_of_lt_of_eq t.isLt N_eq
  unfold wAt
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg2)) (m ((c.tc : Thread nD τ).loc main_arg1)) I J := by
  refine Eq.trans ?_ (Fin.sum_univ_tiles (M := EReal) 4 1024 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 64 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 8 * 1024 + (y 0), by omega⟩ ⟨t.val / 4 % 2 * 1024 + (y 1), by omega⟩) = _)))
  · rw [ref_at]
    exact acc_last m c t hl (y 0) (y 1) _ _ rfl rfl
  · blk_ext [idx t]

/-- The kernel's result is the reference's. -/
theorem algebraic : Cert.algebraic_DhIn0Ideal_RefDhIn0Ideal := by
  intro m g m' g' _ hagree
  refine ⟨fun c => ref (m ((c.tc : Thread nD τ).loc main_arg1)) (m ((c.tc : Thread nD τ).loc main_arg2)), ?_, ?_⟩
  · exact (θ_run Cert.DhIn0Ideal.defs _ _).mono
      (fun _ h c => ⟨(h c).1.trans (final0 m c), (h c).2⟩) (Cert.DhIn0Ideal.Value.run_blocks m g)
  · exact (θ_run Cert.RefDhIn0Ideal.defs _ _).mono
      (fun _ h c => ⟨(h c).1.trans (congrArg₂ ref (hagree c).2.1 (hagree c).2.2), (h c).2⟩) (Cert.RefDhIn0Ideal.Prod.run m' g')

/-- The printed program and its ideal form run the same body. -/
theorem same_defs : Cert.DhIn0.defs (F := Bits) = defs := by
  refine congrArg (Pipeline.defs pcfgs) ?_
  unfold Cert.DhIn0.defs₀ defs₀
  congr 1
  funext l x
  match l, x with
  | 0, (_, _) => rfl

/-- The printed program ends with its arguments unchanged: its run is that of the ideal form, over bits. -/
theorem frame_bits : Cert.quiescent_DhIn0 := fun m g _ => by
  rw [same_defs]
  exact frame (F := Bits) m g

end Cert.DhIn0Ideal.Prod

end
-- ==== Proof.PDyn0.lean ====
module

public import proofs.«01_k».proof.Defs
public import proofs.«01_k».proof.Proof.Gen.Dyn0Ideal.Value
public import proofs.«01_k».proof.Proof.Gen.RefDyn0Ideal.Run
public import proofs.«01_k».proof.Proof.Gen.Dyn0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDyn0Ideal.Prod

open Cert.RefDyn0Ideal Cert.RefDyn0Ideal.Gen Idealize.ShloMosaic Idealize.ShloMosaic.TcCoe Idealize.SL.Sem

/-- Element `(r, c)` of the layer's whole weight, in the stack of the devices' parts. -/
def wAt (w : FVec Ideal S4x1x1024x2048 .bf16) (r : Fin 4096) (c : Fin 2048) : EReal := w (ix4 ⟨r / 1024, by omega⟩ 0 ⟨r % 1024, by omega⟩ c)

/-- Element `(i, j)` of the whole product. -/
def whole (x2 : FVec Ideal S8192x2048 .bf16) (x1 : FVec Ideal S4x1x1024x2048 .bf16) (i : Fin 8192) (j : Fin 4096) : EReal :=
  ∑ r : Fin 2048, x2 (ix2 i r) * wAt x1 j r

/-- The reference's result. -/
def ref (x1 : FVec Ideal S4x1x1024x2048 .bf16) (x2 : FVec Ideal S8192x2048 .bf16) : FVec Ideal S8192x4096 .f32 :=
  Host.dotGeneral dot_S8192x2048_S4096x2048_S8192x4096_1_1_0_0_n_n none (extf .f32 x2 bitsLt_bf16_f32) (extf .f32 (shapeCast _ (shapeCast _ x1 shapeCasts_S4x1x1024x2048_S4x1024x2048) shapeCasts_S4x1024x2048_S4096x2048) bitsLt_bf16_f32)

theorem ref_at (x1 : FVec Ideal S4x1x1024x2048 .bf16) (x2 : FVec Ideal S8192x2048 .bf16) (i : Fin 8192) (j : Fin 4096) :
    ref x1 x2 (ix2 i j) = whole x2 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDyn0Ideal := fun m g _ =>
  (θ_run defs _ _).mono (fun r h => ⟨fun c => (h c).2, sem_eq_zero_of_no_sems (by decide) r.2⟩) (Value.run m g)

end Cert.RefDyn0Ideal.Prod

namespace Cert.Dyn0Ideal.Prod

open Cert.Dyn0Ideal Cert.Dyn0Ideal.Gen Idealize.ShloMosaic Idealize.ShloMosaic.TcCoe Idealize.SL.Sem
open Cert.RefDyn0Ideal.Prod (wAt whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x1024x2048 .bf16 from iblk m c 1 t) (ix4 0 0 j r)

/-- The left block in the left array. -/
theorem a_at (c : Dev nD) (t : Fin cfg0.N) (i : Fin 1024) (r : Fin 2048) (I : Fin 8192) (R : Fin 2048) (hI : (I : ℕ) = t.val / 4 * 1024 + i) (hR : (R : ℕ) = r) :
    (show FVec Ideal S1024x2048 .bf16 from iblk m c 0 t) (ix2 i r) = (show FVec Ideal S8192x2048 .bf16 from m ((c.tc : Thread nD τ).loc main_arg2)) (ix2 I R) := by
  have ht : t.val < 32 := lt_of_lt_of_eq t.isLt N_eq
  blk_point [iblk, V, idx t]

/-- The right block in the right array. -/
theorem b_at (c : Dev nD) (t : Fin cfg0.N) (r : Fin 2048) (j : Fin 1024) (R : Fin 2048) (J : Fin 4096) (hR : (R : ℕ) = r) (hJ : (J : ℕ) = t.val % 4 * 1024 + j) :
    (show FVec Ideal S1x1x1024x2048 .bf16 from iblk m c 1 t) (ix4 0 0 j r) = wAt (show FVec Ideal S4x1x1024x2048 .bf16 from m ((c.tc : Thread nD τ).loc main_arg1)) J R := by
  have ht : t.val < 32 := lt_of_lt_of_eq t.isLt N_eq
  unfold wAt
  blk_point [iblk, V, idx t]

/-- The point's product is that part of the whole one. -/
theorem part_at (c : Dev nD) (t : Fin cfg0.N) (i : Fin 1024) (j : Fin 1024) (I : Fin 8192) (J : Fin 4096) (hI : (I : ℕ) = t.val / 4 * 1024 + i) (hJ : (J : ℕ) = t.val % 4 * 1024 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 32 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 4 * 1024 + (y 0), by omega⟩ ⟨t.val % 4 * 1024 + (y 1), by omega⟩) = _)))
  · rw [ref_at]
    exact part_at m c t (y 0) (y 1) _ _ rfl rfl
  · blk_ext [idx t]

/-- The kernel's result is the reference's. -/
theorem algebraic : Cert.algebraic_Dyn0Ideal_RefDyn0Ideal := by
  intro m g m' g' _ hagree
  refine ⟨fun c => ref (m ((c.tc : Thread nD τ).loc main_arg1)) (m ((c.tc : Thread nD τ).loc main_arg2)), ?_, ?_⟩
  · exact (θ_run Cert.Dyn0Ideal.defs _ _).mono
      (fun _ h c => ⟨(h c).1.trans (final0 m c), (h c).2⟩) (Cert.Dyn0Ideal.Value.run_blocks m g)
  · exact (θ_run Cert.RefDyn0Ideal.defs _ _).mono
      (fun _ h c => ⟨(h c).1.trans (congrArg₂ ref (hagree c).2.1 (hagree c).2.2), (h c).2⟩) (Cert.RefDyn0Ideal.Prod.run m' g')

/-- The printed program and its ideal form run the same body. -/
theorem same_defs : Cert.Dyn0.defs (F := Bits) = defs := by
  refine congrArg (Pipeline.defs pcfgs) ?_
  unfold Cert.Dyn0.defs₀ defs₀
  congr 1
  funext l x
  match l, x with
  | 0, (_, _) => rfl

/-- The printed program ends with its arguments unchanged: its run is that of the ideal form, over bits. -/
theorem frame_bits : Cert.quiescent_Dyn0 := fun m g _ => by
  rw [same_defs]
  exact frame (F := Bits) m g

end Cert.Dyn0Ideal.Prod

end
-- ==== Proof.PDhZ.lean ====
module

public import proofs.«01_k».proof.Defs
public import proofs.«01_k».proof.Proof.Gen.DhZIdeal.Value
public import proofs.«01_k».proof.Proof.Gen.RefDhZIdeal.Run
public import proofs.«01_k».proof.Proof.Gen.DhZ
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDhZIdeal.Prod

open Cert.RefDhZIdeal Cert.RefDhZIdeal.Gen Idealize.ShloMosaic Idealize.ShloMosaic.TcCoe Idealize.SL.Sem

/-- Element `(i, j)` of the whole product. -/
def whole (x2 : FVec Ideal S8192x4096 .bf16) (x1 : FVec Ideal S2048x4096 .bf16) (i : Fin 8192) (j : Fin 2048) : EReal :=
  ∑ r : Fin 4096, x2 (ix2 i r) * x1 (ix2 j r)

/-- The reference's result. -/
def ref (x1 : FVec Ideal S2048x4096 .bf16) (x2 : FVec Ideal S8192x4096 .bf16) : FVec Ideal S8192x2048 .f32 :=
  Host.dotGeneral dot_S8192x4096_S2048x4096_S8192x2048_1_1_0_0_n_n none (extf .f32 x2 bitsLt_bf16_f32) (extf .f32 x1 bitsLt_bf16_f32)

theorem ref_at (x1 : FVec Ideal S2048x4096 .bf16) (x2 : FVec Ideal S8192x4096 .bf16) (i : Fin 8192) (j : Fin 2048) :
    ref x1 x2 (ix2 i j) = whole x2 x1 i j := by
  unfold ref whole
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = ref (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDhZIdeal := fun m g _ =>
  (θ_run defs _ _).mono (fun r h => ⟨fun c => (h c).2, sem_eq_zero_of_no_sems (by decide) r.2⟩) (Value.run m g)

end Cert.RefDhZIdeal.Prod

namespace Cert.DhZIdeal.Prod

open Cert.DhZIdeal Cert.DhZIdeal.Gen Idealize.ShloMosaic Idealize.ShloMosaic.TcCoe Idealize.SL.Sem
open Cert.RefDhZIdeal.Prod (whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, t.val % 2]
    ∧ win0_1.index t = ![t.val / 2 % 2, t.val % 2]
    ∧ win0_2.index t = ![t.val / 4, t.val / 2 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1024x2048 .bf16 from iblk m c 1 t) (ix2 j r)

/-- The left block in the left array. -/
theorem a_at (c : Dev nD) (t : Fin cfg0.N) (i : Fin 1024) (r : Fin 2048) (I : Fin 8192) (R : Fin 4096) (hI : (I : ℕ) = t.val / 4 * 1024 + i) (hR : (R : ℕ) = t.val % 2 * 2048 + r) :
    (show FVec Ideal S1024x2048 .bf16 from iblk m c 0 t) (ix2 i r) = (show FVec Ideal S8192x4096 .bf16 from m ((c.tc : Thread nD τ).loc main_arg2)) (ix2 I R) := by
  have ht : t.val < 32 := lt_of_lt_of_eq t.isLt N_eq
  blk_point [iblk, V, idx t]

/-- The right block in the right array. -/
theorem b_at (c : Dev nD) (t : Fin cfg0.N) (r : Fin 2048) (j : Fin 1024) (R : Fin 4096) (J : Fin 2048) (hR : (R : ℕ) = t.val % 2 * 2048 + r) (hJ : (J : ℕ) = t.val / 2 % 2 * 1024 + j) :
    (show FVec Ideal S1024x2048 .bf16 from iblk m c 1 t) (ix2 j r) = (show FVec Ideal S2048x4096 .bf16 from m ((c.tc : Thread nD τ).loc main_arg1)) (ix2 J R) := by
  have ht : t.val < 32 := lt_of_lt_of_eq t.isLt N_eq
  blk_point [iblk, V, idx t]

/-- The points of one run make up the whole product. -/
theorem parts_sum (c : Dev nD) (t : Fin cfg0.N) (p : Fin 2 → Fin cfg0.N) (hp : ∀ s, (p s : ℕ) = 2 * (t.val / 2) + s) (i : Fin 1024) (j : Fin 1024) (I : Fin 8192) (J : Fin 2048) (hI : (I : ℕ) = t.val / 4 * 1024 + i) (hJ : (J : ℕ) = t.val / 2 % 2 * 1024 + j) :
    ∑ s : Fin 2, part m c (p s) i j = whole (m ((c.tc : Thread nD τ).loc main_arg2)) (m ((c.tc : Thread nD τ).loc main_arg1)) I J := by
  refine Eq.trans ?_ (Fin.sum_univ_tiles (M := EReal) 2 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 2 = s by omega]))
    (b_at m c (p s) r j _ J (by dsimp only; rw [show (p s : ℕ) % 2 = s by omega]) (by omega))

/-- The first point of a run leaves its own part. -/
theorem acc_first (c : Dev nD) (t : Fin cfg0.N) (h0 : t.val % 2 = 0) (i : Fin 1024) (j : Fin 1024) :
    (outsAt0 m c t.val t.isLt) (ix2 i j) = part m c t i j := by
  rw [outsAt0_A m c t h0 (by omega)]
  frame_out
  open_payloads
  pointwise
  rfl

/-- The last point writes the sum. -/
theorem out_last (c : Dev nD) (t : Fin cfg0.N) (h2 : t.val % 2 = 1) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j := by
  rw [outsAt0_B m c t (by omega) h2]
  frame_out
  open_payloads
  pointwise
  rfl

/-- The running sum at the end of a run is the whole product. -/
theorem acc_last (c : Dev nD) (t : Fin cfg0.N) (hl : t.val % 2 = 1) (i : Fin 1024) (j : Fin 1024) (I : Fin 8192) (J : Fin 2048) (hI : (I : ℕ) = t.val / 4 * 1024 + i) (hJ : (J : ℕ) = t.val / 2 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 2
    (fun t h y => acc_first m c t h y.1 y.2) (fun t h h' y => (show False by omega).elim) t hl (by decide) (i, j))
    (parts_sum m c t _ (fun _ => rfl) i j I J hI hJ)

/-- The array of the result. -/
theorem final0 (c : Dev nD) : (dats m 0 c).arrAt 2 (cfgs 0).N = ref (m ((c.tc : Thread nD τ).loc main_arg1)) (m ((c.tc : Thread nD τ).loc main_arg2)) := by
  refine (dats m 0 c).arrAt_eq_of_covers 2 _ (by decide +kernel) fun t hf y => ?_
  have ht : t.val < 32 := lt_of_lt_of_eq t.isLt N_eq
  have hl := (flush0_2 t).mp hf
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out_last m c t hl (y 0) (y 1))).trans (Eq.trans ?_ (congrArg (ref _ _) (?_ : (ix2 ⟨t.val / 4 * 1024 + (y 0), by omega⟩ ⟨t.val / 2 % 2 * 1024 + (y 1), by omega⟩) = _)))
  · rw [ref_at]
    exact acc_last m c t hl (y 0) (y 1) _ _ rfl rfl
  · blk_ext [idx t]

/-- The kernel's result is the reference's. -/
theorem algebraic : Cert.algebraic_DhZIdeal_RefDhZIdeal := by
  intro m g m' g' _ hagree
  refine ⟨fun c => ref (m ((c.tc : Thread nD τ).loc main_arg1)) (m ((c.tc : Thread nD τ).loc main_arg2)), ?_, ?_⟩
  · exact (θ_run Cert.DhZIdeal.defs _ _).mono
      (fun _ h c => ⟨(h c).1.trans (final0 m c), (h c).2⟩) (Cert.DhZIdeal.Value.run_blocks m g)
  · exact (θ_run Cert.RefDhZIdeal.defs _ _).mono
      (fun _ h c => ⟨(h c).1.trans (congrArg₂ ref (hagree c).2.1 (hagree c).2.2), (h c).2⟩) (Cert.RefDhZIdeal.Prod.run m' g')

/-- The printed program and its ideal form run the same body. -/
theorem same_defs : Cert.DhZ.defs (F := Bits) = defs := by
  refine congrArg (Pipeline.defs pcfgs) ?_
  unfold Cert.DhZ.defs₀ defs₀
  congr 1
  funext l x
  match l, x with
  | 0, (_, _) => rfl

/-- The printed program ends with its arguments unchanged: its run is that of the ideal form, over bits. -/
theorem frame_bits : Cert.quiescent_DhZ := fun m g _ => by
  rw [same_defs]
  exact frame (F := Bits) m g

end Cert.DhZIdeal.Prod

end
-- ==== Proof.PDhXbc.lean ====
module

public import proofs.«01_k».proof.Defs
public import proofs.«01_k».proof.Proof.Gen.DhXbcIdeal.Value
public import proofs.«01_k».proof.Proof.Gen.RefDhXbcIdeal.Run
public import proofs.«01_k».proof.Proof.Gen.DhXbc
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDhXbcIdeal.Prod

open Cert.RefDhXbcIdeal Cert.RefDhXbcIdeal.Gen Idealize.ShloMosaic Idealize.ShloMosaic.TcCoe Idealize.SL.Sem

/-- Element `(i, j)` of the whole product. -/
def whole (x2 : FVec Ideal S8192x6144 .bf16) (x1 : FVec Ideal S2048x6144 .bf16) (i : Fin 8192) (j : Fin 2048) : EReal :=
  ∑ r : Fin 6144, x2 (ix2 i r) * x1 (ix2 j r)

/-- The reference's result. -/
def ref (x1 : FVec Ideal S2048x6144 .bf16) (x2 : FVec Ideal S8192x6144 .bf16) (x3 : FVec Ideal S8192x2048 .f32) : FVec Ideal S8192x2048 .f32 :=
  addf x3 (Host.dotGeneral dot_S8192x6144_S2048x6144_S8192x2048_1_1_0_0_n_n none (extf .f32 x2 bitsLt_bf16_f32) (extf .f32 x1 bitsLt_bf16_f32))

theorem ref_at (x1 : FVec Ideal S2048x6144 .bf16) (x2 : FVec Ideal S8192x6144 .bf16) (x3 : FVec Ideal S8192x2048 .f32) (i : Fin 8192) (j : Fin 2048) :
    ref x1 x2 x3 (ix2 i j) = whole x2 x1 i j + x3 (ix2 i j) := by
  unfold ref whole
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = ref (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold ref
  exact Value.run m g

/-- The reference ends with its arguments unchanged. -/
theorem frame : Cert.quiescent_RefDhXbcIdeal := fun m g _ =>
  (θ_run defs _ _).mono (fun r h => ⟨fun c => (h c).2, sem_eq_zero_of_no_sems (by decide) r.2⟩) (Value.run m g)

end Cert.RefDhXbcIdeal.Prod

namespace Cert.DhXbcIdeal.Prod

open Cert.DhXbcIdeal Cert.DhXbcIdeal.Gen Idealize.ShloMosaic Idealize.ShloMosaic.TcCoe Idealize.SL.Sem
open Cert.RefDhXbcIdeal.Prod (whole ref ref_at)

variable (m : (ℓ : Loc nD τ sig) → Buf (Elt Ideal) ℓ)

theorem N_eq : cfg0.N = 48 := by decide +kernel

/-- The block of each array at grid point `t`. -/
theorem idx : ∀ t : Fin cfg0.N, win0_0.index t = ![t.val / 6, t.val % 3]
    ∧ win0_1.index t = ![t.val / 3 % 2, t.val % 3]
    ∧ win0_2.index t = ![t.val / 6, t.val / 3 % 2]
    ∧ win0_3.index t = ![t.val / 6, t.val / 3 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1024x2048 .bf16 from iblk m c 1 t) (ix2 j r)

/-- The left block in the left array. -/
theorem a_at (c : Dev nD) (t : Fin cfg0.N) (i : Fin 1024) (r : Fin 2048) (I : Fin 8192) (R : Fin 6144) (hI : (I : ℕ) = t.val / 6 * 1024 + i) (hR : (R : ℕ) = t.val % 3 * 2048 + r) :
    (show FVec Ideal S1024x2048 .bf16 from iblk m c 0 t) (ix2 i r) = (show FVec Ideal S8192x6144 .bf16 from m ((c.tc : Thread nD τ).loc main_arg2)) (ix2 I R) := by
  have ht : t.val < 48 := lt_of_lt_of_eq t.isLt N_eq
  blk_point [iblk, V, idx t]

/-- The right block in the right array. -/
theorem b_at (c : Dev nD) (t : Fin cfg0.N) (r : Fin 2048) (j : Fin 1024) (R : Fin 6144) (J : Fin 2048) (hR : (R : ℕ) = t.val % 3 * 2048 + r) (hJ : (J : ℕ) = t.val / 3 % 2 * 1024 + j) :
    (show FVec Ideal S1024x2048 .bf16 from iblk m c 1 t) (ix2 j r) = (show FVec Ideal S2048x6144 .bf16 from m ((c.tc : Thread nD τ).loc main_arg1)) (ix2 J R) := by
  have ht : t.val < 48 := lt_of_lt_of_eq t.isLt N_eq
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 6 * 1024 + i) (hJ : (J : ℕ) = t.val / 3 % 2 * 1024 + j) :
    (show FVec Ideal S1024x1024 .f32 from iblk m c 2 t) (ix2 i j) = (show FVec Ideal S8192x2048 .f32 from m ((c.tc : Thread nD τ).loc main_arg3)) (ix2 I J) := by
  have ht : t.val < 48 := lt_of_lt_of_eq t.isLt N_eq
  blk_point [iblk, V, idx t]

/-- The points of one run make up the whole product. -/
theorem parts_sum (c : Dev nD) (t : Fin cfg0.N) (p : Fin 3 → Fin cfg0.N) (hp : ∀ s, (p s : ℕ) = 3 * (t.val / 3) + s) (i : Fin 1024) (j : Fin 1024) (I : Fin 8192) (J : Fin 2048) (hI : (I : ℕ) = t.val / 6 * 1024 + i) (hJ : (J : ℕ) = t.val / 3 % 2 * 1024 + j) :
    ∑ s : Fin 3, part m c (p s) i j = whole (m ((c.tc : Thread nD τ).loc main_arg2)) (m ((c.tc : Thread nD τ).loc main_arg1)) I J := by
  refine Eq.trans ?_ (Fin.sum_univ_tiles (M := EReal) 3 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 3 = s by omega]))
    (b_at m c (p s) r j _ J (by dsimp only; rw [show (p s : ℕ) % 3 = s by omega]) (by omega))

/-- The first point of a run leaves its own part. -/
theorem acc_first (c : Dev nD) (t : Fin cfg0.N) (h0 : t.val % 3 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 3 = 0) (h2 : ¬ t.val % 3 = 2) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 3 = 2) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 3 = 2) (i : Fin 1024) (j : Fin 1024) (I : Fin 8192) (J : Fin 2048) (hI : (I : ℕ) = t.val / 6 * 1024 + i) (hJ : (J : ℕ) = t.val / 3 % 2 * 1024 + j) :
    (show EReal from (outsAt0 m c (t.val - 1) (Nat.lt_of_le_of_lt (Nat.sub_le _ _) t.isLt)) (ix2 i j)) + part m c t i j = whole (m ((c.tc : Thread nD τ).loc main_arg2)) (m ((c.tc : Thread nD τ).loc main_arg1)) I J := by
  exact Eq.trans (Cert.Products.run_total (fun n h (y : Fin 1024 × Fin 1024) => (show EReal from (outsAt0 m c n h) (ix2 y.1 y.2))) (fun p y => part m c p y.1 y.2) 3
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  have ht : t.val < 48 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 6 * 1024 + (y 0), by omega⟩ ⟨t.val / 3 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_DhXbcIdeal_RefDhXbcIdeal := by
  intro m g m' g' _ hagree
  refine ⟨fun c => ref (m ((c.tc : Thread nD τ).loc main_arg1)) (m ((c.tc : Thread nD τ).loc main_arg2)) (m ((c.tc : Thread nD τ).loc main_arg3)), ?_, ?_⟩
  · exact (θ_run Cert.DhXbcIdeal.defs _ _).mono
      (fun _ h c => ⟨(h c).1.trans (final0 m c), (h c).2⟩) (Cert.DhXbcIdeal.Value.run_blocks m g)
  · exact (θ_run Cert.RefDhXbcIdeal.defs _ _).mono
      (fun _ h c => ⟨(h c).1.trans (congr (congrArg₂ ref (hagree c).2.1 (hagree c).2.2.1) (hagree c).2.2.2), (h c).2⟩) (Cert.RefDhXbcIdeal.Prod.run m' g')

/-- The printed program and its ideal form run the same body. -/
theorem same_defs : Cert.DhXbc.defs (F := Bits) = defs := by
  refine congrArg (Pipeline.defs pcfgs) ?_
  unfold Cert.DhXbc.defs₀ defs₀
  congr 1
  funext l x
  match l, x with
  | 0, (_, _) => rfl

/-- The printed program ends with its arguments unchanged: its run is that of the ideal form, over bits. -/
theorem frame_bits : Cert.quiescent_DhXbc := fun m g _ => by
  rw [same_defs]
  exact frame (F := Bits) m g

end Cert.DhXbcIdeal.Prod

end
-- ==== Proof.PDhDt.lean ====
module

public import proofs.«01_k».proof.Defs
public import proofs.«01_k».proof.Proof.Gen.DhDtIdeal.Value
public import proofs.«01_k».proof.Proof.Gen.RefDhDtIdeal.Run
public import proofs.«01_k».proof.Proof.Gen.DhDt
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDhDtIdeal.Prod

open Cert.RefDhDtIdeal Cert.RefDhDtIdeal.Gen Idealize.ShloMosaic Idealize.ShloMosaic.TcCoe Idealize.SL.Sem

/-- Element `(i, j)` of the whole product. -/
def whole (x2 : FVec Ideal S8192x128 .f32) (x1 : FVec Ideal S2048x128 .bf16) (i : Fin 8192) (j : Fin 2048) : EReal :=
  ∑ r : Fin 128, x2 (ix2 i r) * x1 (ix2 j r)

/-- The reference's result. -/
def ref (x1 : FVec Ideal S2048x128 .bf16) (x2 : FVec Ideal S8192x128 .f32) (x3 : FVec Ideal S8192x2048 .f32) : FVec Ideal S8192x2048 .f32 :=
  addf x3 (Host.dotGeneral dot_S8192x128_S2048x128_S8192x2048_1_1_0_0_n_n none x2 (extf .f32 x1 bitsLt_bf16_f32))

theorem ref_at (x1 : FVec Ideal S2048x128 .bf16) (x2 : FVec Ideal S8192x128 .f32) (x3 : FVec Ideal S8192x2048 .f32) (i : Fin 8192) (j : Fin 2048) :
    ref x1 x2 x3 (ix2 i j) = whole x2 x1 i j + x3 (ix2 i j) := by
  unfold ref whole
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = ref (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold ref
  exact Value.run m g

/-- The reference ends with its arguments unchanged. -/
theorem frame : Cert.quiescent_RefDhDtIdeal := fun m g _ =>
  (θ_run defs _ _).mono (fun r h => ⟨fun c => (h c).2, sem_eq_zero_of_no_sems (by decide) r.2⟩) (Value.run m g)

end Cert.RefDhDtIdeal.Prod

namespace Cert.DhDtIdeal.Prod

open Cert.DhDtIdeal Cert.DhDtIdeal.Gen Idealize.ShloMosaic Idealize.ShloMosaic.TcCoe Idealize.SL.Sem
open Cert.RefDhDtIdeal.Prod (whole ref ref_at)

variable (m : (ℓ : Loc nD τ sig) → Buf (Elt Ideal) ℓ)

theorem N_eq : cfg0.N = 16 := by decide +kernel

/-- The block of each array at grid point `t`. -/
theorem idx : ∀ t : Fin cfg0.N, win0_0.index t = ![t.val / 2, 0]
    ∧ win0_1.index t = ![t.val % 2, 0]
    ∧ win0_2.index t = ![t.val / 2, t.val % 2]
    ∧ win0_3.index t = ![t.val / 2, t.val % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 128, (show FVec Ideal S1024x128 .f32 from iblk m c 0 t) (ix2 i r) * (show FVec Ideal S1024x128 .bf16 from iblk m c 1 t) (ix2 j r)

/-- The left block in the left array. -/
theorem a_at (c : Dev nD) (t : Fin cfg0.N) (i : Fin 1024) (r : Fin 128) (I : Fin 8192) (R : Fin 128) (hI : (I : ℕ) = t.val / 2 * 1024 + i) (hR : (R : ℕ) = r) :
    (show FVec Ideal S1024x128 .f32 from iblk m c 0 t) (ix2 i r) = (show FVec Ideal S8192x128 .f32 from m ((c.tc : Thread nD τ).loc main_arg2)) (ix2 I R) := by
  have ht : t.val < 16 := lt_of_lt_of_eq t.isLt N_eq
  blk_point [iblk, V, idx t]

/-- The right block in the right array. -/
theorem b_at (c : Dev nD) (t : Fin cfg0.N) (r : Fin 128) (j : Fin 1024) (R : Fin 128) (J : Fin 2048) (hR : (R : ℕ) = r) (hJ : (J : ℕ) = t.val % 2 * 1024 + j) :
    (show FVec Ideal S1024x128 .bf16 from iblk m c 1 t) (ix2 j r) = (show FVec Ideal S2048x128 .bf16 from m ((c.tc : Thread nD τ).loc main_arg1)) (ix2 J R) := by
  have ht : t.val < 16 := lt_of_lt_of_eq t.isLt N_eq
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 2 * 1024 + i) (hJ : (J : ℕ) = t.val % 2 * 1024 + j) :
    (show FVec Ideal S1024x1024 .f32 from iblk m c 2 t) (ix2 i j) = (show FVec Ideal S8192x2048 .f32 from m ((c.tc : Thread nD τ).loc main_arg3)) (ix2 I J) := by
  have ht : t.val < 16 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 2048) (hI : (I : ℕ) = t.val / 2 * 1024 + i) (hJ : (J : ℕ) = t.val % 2 * 1024 + j) :
    part m c t i j = whole (m ((c.tc : Thread nD τ).loc main_arg2)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_3 (F := Ideal) (iblk m c 0 t) (iblk m c 1 t) (iblk m c 2 t) (ix2 i j) = part m c t i j + (show FVec Ideal S1024x1024 .f32 from iblk m c 2 t) (ix2 i j) := by
  frame_out
  open_payloads
  pointwise
  rfl

/-- The array of the result. -/
theorem final0 (c : Dev nD) : (dats m 0 c).arrAt 3 (cfgs 0).N = ref (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  have ht : t.val < 16 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out0_at m c t (y 0) (y 1))).trans (Eq.trans ?_ (congrArg (ref _ _ _) (?_ : (ix2 ⟨t.val / 2 * 1024 + (y 0), by omega⟩ ⟨t.val % 2 * 1024 + (y 1), by omega⟩) = _)))
  · rw [ref_at]
    exact congrArg₂ (fun a b : EReal => a + b) (part_at m c t (y 0) (y 1) _ _ rfl rfl) (e0_at m c t (y 0) (y 1) _ _ rfl rfl)
  · blk_ext [idx t]

/-- The kernel's result is the reference's. -/
theorem algebraic : Cert.algebraic_DhDtIdeal_RefDhDtIdeal := by
  intro m g m' g' _ hagree
  refine ⟨fun c => ref (m ((c.tc : Thread nD τ).loc main_arg1)) (m ((c.tc : Thread nD τ).loc main_arg2)) (m ((c.tc : Thread nD τ).loc main_arg3)), ?_, ?_⟩
  · exact (θ_run Cert.DhDtIdeal.defs _ _).mono
      (fun _ h c => ⟨(h c).1.trans (final0 m c), (h c).2⟩) (Cert.DhDtIdeal.Value.run_blocks m g)
  · exact (θ_run Cert.RefDhDtIdeal.defs _ _).mono
      (fun _ h c => ⟨(h c).1.trans (congr (congrArg₂ ref (hagree c).2.1 (hagree c).2.2.1) (hagree c).2.2.2), (h c).2⟩) (Cert.RefDhDtIdeal.Prod.run m' g')

/-- The printed program and its ideal form run the same body. -/
theorem same_defs : Cert.DhDt.defs (F := Bits) = defs := by
  refine congrArg (Pipeline.defs pcfgs) ?_
  unfold Cert.DhDt.defs₀ defs₀
  congr 1
  funext l x
  match l, x with
  | 0, (_, _) => rfl

/-- The printed program ends with its arguments unchanged: its run is that of the ideal form, over bits. -/
theorem frame_bits : Cert.quiescent_DhDt := fun m g _ => by
  rw [same_defs]
  exact frame (F := Bits) m g

end Cert.DhDtIdeal.Prod

end
-- ==== Proof.PUp0.lean ====
module

public import proofs.«01_k».proof.Defs
public import proofs.«01_k».proof.Proof.Gen.Up0Ideal.Value
public import proofs.«01_k».proof.Proof.Gen.RefUp0Ideal.Run
public import proofs.«01_k».proof.Proof.Gen.Up0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefUp0Ideal.Prod

open Cert.RefUp0Ideal Cert.RefUp0Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 0 r ⟨c % 2048, by omega⟩)

/-- Element `(i, j)` of the whole product. -/
def whole (x0 : FVec Ideal S8192x2048 .bf16) (x1 : FVec Ideal S4x4x2048x2048 .bf16) (i : Fin 8192) (j : Fin 8192) : EReal :=
  ∑ r : Fin 2048, x0 (ix2 i r) * wAt x1 r j

/-- The reference's result. -/
def ref (x0 : FVec Ideal S8192x2048 .bf16) (x1 : FVec Ideal S4x4x2048x2048 .bf16) : FVec Ideal S8192x8192 .f32 :=
  Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 0, 0, 0] x1 slices_S4x4x2048x2048_S4x1x2048x2048_0_0_0_0) shapeCasts_S4x1x2048x2048_S4x2048x2048) transposes_S4x2048x2048_S2048x4x2048_1_0_2) shapeCasts_S2048x4x2048_S2048x8192) bitsLt_bf16_f32)

theorem ref_at (x0 : FVec Ideal S8192x2048 .bf16) (x1 : FVec Ideal S4x4x2048x2048 .bf16) (i : Fin 8192) (j : Fin 8192) :
    ref x0 x1 (ix2 i j) = whole x0 x1 i j := by
  unfold ref whole wAt
  pointwise

/-- The reference's result behind the activation. -/
def refAct (x0 : FVec Ideal S8192x2048 .bf16) (x1 : FVec Ideal S4x4x2048x2048 .bf16) : FVec Ideal S8192x8192 .bf16 :=
  truncf .bf16 (mulf (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 0, 0, 0] x1 slices_S4x4x2048x2048_S4x1x2048x2048_0_0_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32))) (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 0, 0, 0] x1 slices_S4x4x2048x2048_S4x1x2048x2048_0_0_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32)))) bitsLt_bf16_f32

theorem refAct_at (x0 : FVec Ideal S8192x2048 .bf16) (x1 : FVec Ideal S4x4x2048x2048 .bf16) (i : Fin 8192) (j : Fin 8192) :
    refAct x0 x1 (ix2 i j) = max (whole x0 x1 i j) 0 * max (whole x0 x1 i j) 0 := by
  unfold refAct whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_v9) = refAct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref refAct
  exact Value.run m g

/-- The reference ends with its arguments unchanged. -/
theorem frame : Cert.quiescent_RefUp0Ideal := fun m g _ =>
  (θ_run defs _ _).mono (fun r h => ⟨fun c => (h c).2.2, sem_eq_zero_of_no_sems (by decide) r.2⟩) (Value.run m g)

end Cert.RefUp0Ideal.Prod

namespace Cert.Up0Ideal.Prod

open Cert.Up0Ideal Cert.Up0Ideal.Gen Idealize.ShloMosaic Idealize.ShloMosaic.TcCoe Idealize.SL.Sem
open Cert.RefUp0Ideal.Prod (wAt whole ref refAct ref_at refAct_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 0, 0, t.val % 8 % 2]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x2048x1024 .bf16 from iblk m c 1 t) (ix4 0 0 r j) = wAt (show FVec Ideal S4x4x2048x2048 .bf16 from m ((c.tc : Thread nD τ).loc main_arg1)) R J := by
  have ht : t.val < 64 := lt_of_lt_of_eq t.isLt N_eq
  unfold wAt
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- What a point leaves in its block of the result. -/
theorem out1_at (c : Dev nD) (t : Fin cfg0.N) (i : Fin 1024) (j : Fin 1024) :
    out0_3 (F := Ideal) (iblk m c 0 t) (iblk m c 1 t) (ix2 i j) = max (part m c t i j) 0 * max (part m c t i j) 0 := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 8 * 1024 + (y 0), by omega⟩ ⟨t.val % 8 * 1024 + (y 1), by omega⟩) = _)))
  · rw [ref_at]
    exact part_at m c t (y 0) (y 1) _ _ rfl rfl
  · blk_ext [idx t]

/-- The array of the result. -/
theorem final1 (c : Dev nD) : (dats m 0 c).arrAt 3 (cfgs 0).N = refAct (m ((c.tc : Thread nD τ).loc main_arg0)) (m ((c.tc : Thread nD τ).loc main_arg1)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out1_at m c t (y 0) (y 1))).trans (Eq.trans ?_ (congrArg (refAct _ _) (?_ : (ix2 ⟨t.val / 8 * 1024 + (y 0), by omega⟩ ⟨t.val % 8 * 1024 + (y 1), by omega⟩) = _)))
  · rw [refAct_at]
    exact congrArg (fun a : EReal => max a 0 * max a 0) (part_at m c t (y 0) (y 1) _ _ rfl rfl)
  · blk_ext [idx t]

/-- The kernel's result is the reference's. -/
theorem algebraic : Cert.algebraic_Up0Ideal_RefUp0Ideal := by
  intro m g m' g' _ hagree
  refine ⟨fun c => ref (m ((c.tc : Thread nD τ).loc main_arg0)) (m ((c.tc : Thread nD τ).loc main_arg1)), fun c => refAct (m ((c.tc : Thread nD τ).loc main_arg0)) (m ((c.tc : Thread nD τ).loc main_arg1)), ?_, ?_⟩
  · exact (θ_run Cert.Up0Ideal.defs _ _).mono
      (fun _ h c => ⟨(h c).1.trans (final0 m c), (h c).2.1.trans (final1 m c), (h c).2.2⟩) (Cert.Up0Ideal.Value.run_blocks m g)
  · exact (θ_run Cert.RefUp0Ideal.defs _ _).mono
      (fun _ h c => ⟨(h c).1.trans (congrArg₂ ref (hagree c).1 (hagree c).2), (h c).2.1.trans (congrArg₂ refAct (hagree c).1 (hagree c).2), (h c).2.2⟩) (Cert.RefUp0Ideal.Prod.run m' g')

/-- The printed program and its ideal form run the same body. -/
theorem same_defs : Cert.Up0.defs (F := Bits) = defs := by
  refine congrArg (Pipeline.defs pcfgs) ?_
  unfold Cert.Up0.defs₀ defs₀
  congr 1
  funext l x
  match l, x with
  | 0, (_, _) => rfl

/-- The printed program ends with its arguments unchanged: its run is that of the ideal form, over bits. -/
theorem frame_bits : Cert.quiescent_Up0 := fun m g _ => by
  rw [same_defs]
  exact frame (F := Bits) m g

end Cert.Up0Ideal.Prod

end
-- ==== Proof.PUp1.lean ====
module

public import proofs.«01_k».proof.Defs
public import proofs.«01_k».proof.Proof.Gen.Up1Ideal.Value
public import proofs.«01_k».proof.Proof.Gen.RefUp1Ideal.Run
public import proofs.«01_k».proof.Proof.Gen.Up1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefUp1Ideal.Prod

open Cert.RefUp1Ideal Cert.RefUp1Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 1 r ⟨c % 2048, by omega⟩)

/-- Element `(i, j)` of the whole product. -/
def whole (x0 : FVec Ideal S8192x2048 .bf16) (x1 : FVec Ideal S4x4x2048x2048 .bf16) (i : Fin 8192) (j : Fin 8192) : EReal :=
  ∑ r : Fin 2048, x0 (ix2 i r) * wAt x1 r j

/-- The reference's result. -/
def ref (x0 : FVec Ideal S8192x2048 .bf16) (x1 : FVec Ideal S4x4x2048x2048 .bf16) : FVec Ideal S8192x8192 .f32 :=
  Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 1, 0, 0] x1 slices_S4x4x2048x2048_S4x1x2048x2048_0_1_0_0) shapeCasts_S4x1x2048x2048_S4x2048x2048) transposes_S4x2048x2048_S2048x4x2048_1_0_2) shapeCasts_S2048x4x2048_S2048x8192) bitsLt_bf16_f32)

theorem ref_at (x0 : FVec Ideal S8192x2048 .bf16) (x1 : FVec Ideal S4x4x2048x2048 .bf16) (i : Fin 8192) (j : Fin 8192) :
    ref x0 x1 (ix2 i j) = whole x0 x1 i j := by
  unfold ref whole wAt
  pointwise

/-- The reference's result behind the activation. -/
def refAct (x0 : FVec Ideal S8192x2048 .bf16) (x1 : FVec Ideal S4x4x2048x2048 .bf16) : FVec Ideal S8192x8192 .bf16 :=
  truncf .bf16 (mulf (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 1, 0, 0] x1 slices_S4x4x2048x2048_S4x1x2048x2048_0_1_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32))) (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 1, 0, 0] x1 slices_S4x4x2048x2048_S4x1x2048x2048_0_1_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32)))) bitsLt_bf16_f32

theorem refAct_at (x0 : FVec Ideal S8192x2048 .bf16) (x1 : FVec Ideal S4x4x2048x2048 .bf16) (i : Fin 8192) (j : Fin 8192) :
    refAct x0 x1 (ix2 i j) = max (whole x0 x1 i j) 0 * max (whole x0 x1 i j) 0 := by
  unfold refAct whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_v9) = refAct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref refAct
  exact Value.run m g

/-- The reference ends with its arguments unchanged. -/
theorem frame : Cert.quiescent_RefUp1Ideal := fun m g _ =>
  (θ_run defs _ _).mono (fun r h => ⟨fun c => (h c).2.2, sem_eq_zero_of_no_sems (by decide) r.2⟩) (Value.run m g)

end Cert.RefUp1Ideal.Prod

namespace Cert.Up1Ideal.Prod

open Cert.Up1Ideal Cert.Up1Ideal.Gen Idealize.ShloMosaic Idealize.ShloMosaic.TcCoe Idealize.SL.Sem
open Cert.RefUp1Ideal.Prod (wAt whole ref refAct ref_at refAct_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 1, 0, t.val % 8 % 2]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x2048x1024 .bf16 from iblk m c 1 t) (ix4 0 0 r j) = wAt (show FVec Ideal S4x4x2048x2048 .bf16 from m ((c.tc : Thread nD τ).loc main_arg1)) R J := by
  have ht : t.val < 64 := lt_of_lt_of_eq t.isLt N_eq
  unfold wAt
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- What a point leaves in its block of the result. -/
theorem out1_at (c : Dev nD) (t : Fin cfg0.N) (i : Fin 1024) (j : Fin 1024) :
    out0_3 (F := Ideal) (iblk m c 0 t) (iblk m c 1 t) (ix2 i j) = max (part m c t i j) 0 * max (part m c t i j) 0 := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 8 * 1024 + (y 0), by omega⟩ ⟨t.val % 8 * 1024 + (y 1), by omega⟩) = _)))
  · rw [ref_at]
    exact part_at m c t (y 0) (y 1) _ _ rfl rfl
  · blk_ext [idx t]

/-- The array of the result. -/
theorem final1 (c : Dev nD) : (dats m 0 c).arrAt 3 (cfgs 0).N = refAct (m ((c.tc : Thread nD τ).loc main_arg0)) (m ((c.tc : Thread nD τ).loc main_arg1)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out1_at m c t (y 0) (y 1))).trans (Eq.trans ?_ (congrArg (refAct _ _) (?_ : (ix2 ⟨t.val / 8 * 1024 + (y 0), by omega⟩ ⟨t.val % 8 * 1024 + (y 1), by omega⟩) = _)))
  · rw [refAct_at]
    exact congrArg (fun a : EReal => max a 0 * max a 0) (part_at m c t (y 0) (y 1) _ _ rfl rfl)
  · blk_ext [idx t]

/-- The kernel's result is the reference's. -/
theorem algebraic : Cert.algebraic_Up1Ideal_RefUp1Ideal := by
  intro m g m' g' _ hagree
  refine ⟨fun c => ref (m ((c.tc : Thread nD τ).loc main_arg0)) (m ((c.tc : Thread nD τ).loc main_arg1)), fun c => refAct (m ((c.tc : Thread nD τ).loc main_arg0)) (m ((c.tc : Thread nD τ).loc main_arg1)), ?_, ?_⟩
  · exact (θ_run Cert.Up1Ideal.defs _ _).mono
      (fun _ h c => ⟨(h c).1.trans (final0 m c), (h c).2.1.trans (final1 m c), (h c).2.2⟩) (Cert.Up1Ideal.Value.run_blocks m g)
  · exact (θ_run Cert.RefUp1Ideal.defs _ _).mono
      (fun _ h c => ⟨(h c).1.trans (congrArg₂ ref (hagree c).1 (hagree c).2), (h c).2.1.trans (congrArg₂ refAct (hagree c).1 (hagree c).2), (h c).2.2⟩) (Cert.RefUp1Ideal.Prod.run m' g')

/-- The printed program and its ideal form run the same body. -/
theorem same_defs : Cert.Up1.defs (F := Bits) = defs := by
  refine congrArg (Pipeline.defs pcfgs) ?_
  unfold Cert.Up1.defs₀ defs₀
  congr 1
  funext l x
  match l, x with
  | 0, (_, _) => rfl

/-- The printed program ends with its arguments unchanged: its run is that of the ideal form, over bits. -/
theorem frame_bits : Cert.quiescent_Up1 := fun m g _ => by
  rw [same_defs]
  exact frame (F := Bits) m g

end Cert.Up1Ideal.Prod

end
-- ==== Proof.PUp2.lean ====
module

public import proofs.«01_k».proof.Defs
public import proofs.«01_k».proof.Proof.Gen.Up2Ideal.Value
public import proofs.«01_k».proof.Proof.Gen.RefUp2Ideal.Run
public import proofs.«01_k».proof.Proof.Gen.Up2
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefUp2Ideal.Prod

open Cert.RefUp2Ideal Cert.RefUp2Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 2 r ⟨c % 2048, by omega⟩)

/-- Element `(i, j)` of the whole product. -/
def whole (x0 : FVec Ideal S8192x2048 .bf16) (x1 : FVec Ideal S4x4x2048x2048 .bf16) (i : Fin 8192) (j : Fin 8192) : EReal :=
  ∑ r : Fin 2048, x0 (ix2 i r) * wAt x1 r j

/-- The reference's result. -/
def ref (x0 : FVec Ideal S8192x2048 .bf16) (x1 : FVec Ideal S4x4x2048x2048 .bf16) : FVec Ideal S8192x8192 .f32 :=
  Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 2, 0, 0] x1 slices_S4x4x2048x2048_S4x1x2048x2048_0_2_0_0) shapeCasts_S4x1x2048x2048_S4x2048x2048) transposes_S4x2048x2048_S2048x4x2048_1_0_2) shapeCasts_S2048x4x2048_S2048x8192) bitsLt_bf16_f32)

theorem ref_at (x0 : FVec Ideal S8192x2048 .bf16) (x1 : FVec Ideal S4x4x2048x2048 .bf16) (i : Fin 8192) (j : Fin 8192) :
    ref x0 x1 (ix2 i j) = whole x0 x1 i j := by
  unfold ref whole wAt
  pointwise

/-- The reference's result behind the activation. -/
def refAct (x0 : FVec Ideal S8192x2048 .bf16) (x1 : FVec Ideal S4x4x2048x2048 .bf16) : FVec Ideal S8192x8192 .bf16 :=
  truncf .bf16 (mulf (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 2, 0, 0] x1 slices_S4x4x2048x2048_S4x1x2048x2048_0_2_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32))) (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 2, 0, 0] x1 slices_S4x4x2048x2048_S4x1x2048x2048_0_2_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32)))) bitsLt_bf16_f32

theorem refAct_at (x0 : FVec Ideal S8192x2048 .bf16) (x1 : FVec Ideal S4x4x2048x2048 .bf16) (i : Fin 8192) (j : Fin 8192) :
    refAct x0 x1 (ix2 i j) = max (whole x0 x1 i j) 0 * max (whole x0 x1 i j) 0 := by
  unfold refAct whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_v9) = refAct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref refAct
  exact Value.run m g

/-- The reference ends with its arguments unchanged. -/
theorem frame : Cert.quiescent_RefUp2Ideal := fun m g _ =>
  (θ_run defs _ _).mono (fun r h => ⟨fun c => (h c).2.2, sem_eq_zero_of_no_sems (by decide) r.2⟩) (Value.run m g)

end Cert.RefUp2Ideal.Prod

namespace Cert.Up2Ideal.Prod

open Cert.Up2Ideal Cert.Up2Ideal.Gen Idealize.ShloMosaic Idealize.ShloMosaic.TcCoe Idealize.SL.Sem
open Cert.RefUp2Ideal.Prod (wAt whole ref refAct ref_at refAct_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 2, 0, t.val % 8 % 2]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x2048x1024 .bf16 from iblk m c 1 t) (ix4 0 0 r j) = wAt (show FVec Ideal S4x4x2048x2048 .bf16 from m ((c.tc : Thread nD τ).loc main_arg1)) R J := by
  have ht : t.val < 64 := lt_of_lt_of_eq t.isLt N_eq
  unfold wAt
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- What a point leaves in its block of the result. -/
theorem out1_at (c : Dev nD) (t : Fin cfg0.N) (i : Fin 1024) (j : Fin 1024) :
    out0_3 (F := Ideal) (iblk m c 0 t) (iblk m c 1 t) (ix2 i j) = max (part m c t i j) 0 * max (part m c t i j) 0 := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 8 * 1024 + (y 0), by omega⟩ ⟨t.val % 8 * 1024 + (y 1), by omega⟩) = _)))
  · rw [ref_at]
    exact part_at m c t (y 0) (y 1) _ _ rfl rfl
  · blk_ext [idx t]

/-- The array of the result. -/
theorem final1 (c : Dev nD) : (dats m 0 c).arrAt 3 (cfgs 0).N = refAct (m ((c.tc : Thread nD τ).loc main_arg0)) (m ((c.tc : Thread nD τ).loc main_arg1)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out1_at m c t (y 0) (y 1))).trans (Eq.trans ?_ (congrArg (refAct _ _) (?_ : (ix2 ⟨t.val / 8 * 1024 + (y 0), by omega⟩ ⟨t.val % 8 * 1024 + (y 1), by omega⟩) = _)))
  · rw [refAct_at]
    exact congrArg (fun a : EReal => max a 0 * max a 0) (part_at m c t (y 0) (y 1) _ _ rfl rfl)
  · blk_ext [idx t]

/-- The kernel's result is the reference's. -/
theorem algebraic : Cert.algebraic_Up2Ideal_RefUp2Ideal := by
  intro m g m' g' _ hagree
  refine ⟨fun c => ref (m ((c.tc : Thread nD τ).loc main_arg0)) (m ((c.tc : Thread nD τ).loc main_arg1)), fun c => refAct (m ((c.tc : Thread nD τ).loc main_arg0)) (m ((c.tc : Thread nD τ).loc main_arg1)), ?_, ?_⟩
  · exact (θ_run Cert.Up2Ideal.defs _ _).mono
      (fun _ h c => ⟨(h c).1.trans (final0 m c), (h c).2.1.trans (final1 m c), (h c).2.2⟩) (Cert.Up2Ideal.Value.run_blocks m g)
  · exact (θ_run Cert.RefUp2Ideal.defs _ _).mono
      (fun _ h c => ⟨(h c).1.trans (congrArg₂ ref (hagree c).1 (hagree c).2), (h c).2.1.trans (congrArg₂ refAct (hagree c).1 (hagree c).2), (h c).2.2⟩) (Cert.RefUp2Ideal.Prod.run m' g')

/-- The printed program and its ideal form run the same body. -/
theorem same_defs : Cert.Up2.defs (F := Bits) = defs := by
  refine congrArg (Pipeline.defs pcfgs) ?_
  unfold Cert.Up2.defs₀ defs₀
  congr 1
  funext l x
  match l, x with
  | 0, (_, _) => rfl

/-- The printed program ends with its arguments unchanged: its run is that of the ideal form, over bits. -/
theorem frame_bits : Cert.quiescent_Up2 := fun m g _ => by
  rw [same_defs]
  exact frame (F := Bits) m g

end Cert.Up2Ideal.Prod

end
-- ==== Proof.PUp3.lean ====
module

public import proofs.«01_k».proof.Defs
public import proofs.«01_k».proof.Proof.Gen.Up3Ideal.Value
public import proofs.«01_k».proof.Proof.Gen.RefUp3Ideal.Run
public import proofs.«01_k».proof.Proof.Gen.Up3
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefUp3Ideal.Prod

open Cert.RefUp3Ideal Cert.RefUp3Ideal.Gen Idealize.ShloMosaic Idealize.ShloMosaic.TcCoe Idealize.SL.Sem

/-- Element `(r, c)` of the layer's whole weight, in the stack of the devices' parts. -/
def wAt (w : FVec Ideal S4x4x2048x2048 .bf16) (r : Fin 2048) (c : Fin 8192) : EReal := w (ix4 ⟨c / 2048, by omega⟩ 3 r ⟨c % 2048, by omega⟩)

/-- Element `(i, j)` of the whole product. -/
def whole (x0 : FVec Ideal S8192x2048 .bf16) (x1 : FVec Ideal S4x4x2048x2048 .bf16) (i : Fin 8192) (j : Fin 8192) : EReal :=
  ∑ r : Fin 2048, x0 (ix2 i r) * wAt x1 r j

/-- The reference's result. -/
def ref (x0 : FVec Ideal S8192x2048 .bf16) (x1 : FVec Ideal S4x4x2048x2048 .bf16) : FVec Ideal S8192x8192 .f32 :=
  Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 3, 0, 0] x1 slices_S4x4x2048x2048_S4x1x2048x2048_0_3_0_0) shapeCasts_S4x1x2048x2048_S4x2048x2048) transposes_S4x2048x2048_S2048x4x2048_1_0_2) shapeCasts_S2048x4x2048_S2048x8192) bitsLt_bf16_f32)

theorem ref_at (x0 : FVec Ideal S8192x2048 .bf16) (x1 : FVec Ideal S4x4x2048x2048 .bf16) (i : Fin 8192) (j : Fin 8192) :
    ref x0 x1 (ix2 i j) = whole x0 x1 i j := by
  unfold ref whole wAt
  pointwise

/-- The reference's result behind the activation. -/
def refAct (x0 : FVec Ideal S8192x2048 .bf16) (x1 : FVec Ideal S4x4x2048x2048 .bf16) : FVec Ideal S8192x8192 .bf16 :=
  truncf .bf16 (mulf (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 3, 0, 0] x1 slices_S4x4x2048x2048_S4x1x2048x2048_0_3_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32))) (maximumf (Host.dotGeneral dot_S8192x2048_S2048x8192_S8192x8192_1_0_0_1_n_n none (extf .f32 x0 bitsLt_bf16_f32) (extf .f32 (shapeCast _ (transpose S2048x4x2048 [1, 0, 2] (shapeCast _ (extractStridedSlice S4x1x2048x2048 ![0, 3, 0, 0] x1 slices_S4x4x2048x2048_S4x1x2048x2048_0_3_0_0) shapeCasts_S4x1x2048x2048_S4x2048x2048) transposes_S4x2048x2048_S2048x4x2048_1_0_2) shapeCasts_S2048x4x2048_S2048x8192) bitsLt_bf16_f32)) (broadcastInDim S8192x8192 ![] bcast_S_S8192x8192 (constant S_ .f32 0x00000000#32)))) bitsLt_bf16_f32

theorem refAct_at (x0 : FVec Ideal S8192x2048 .bf16) (x1 : FVec Ideal S4x4x2048x2048 .bf16) (i : Fin 8192) (j : Fin 8192) :
    refAct x0 x1 (ix2 i j) = max (whole x0 x1 i j) 0 * max (whole x0 x1 i j) 0 := by
  unfold refAct whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_v9) = refAct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref refAct
  exact Value.run m g

/-- The reference ends with its arguments unchanged. -/
theorem frame : Cert.quiescent_RefUp3Ideal := fun m g _ =>
  (θ_run defs _ _).mono (fun r h => ⟨fun c => (h c).2.2, sem_eq_zero_of_no_sems (by decide) r.2⟩) (Value.run m g)

end Cert.RefUp3Ideal.Prod

namespace Cert.Up3Ideal.Prod

open Cert.Up3Ideal Cert.Up3Ideal.Gen Idealize.ShloMosaic Idealize.ShloMosaic.TcCoe Idealize.SL.Sem
open Cert.RefUp3Ideal.Prod (wAt whole ref refAct ref_at refAct_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 3, 0, t.val % 8 % 2]
    ∧ win0_2.index t = ![t.val / 8, t.val % 8]
    ∧ win0_3.index t = ![t.val / 8, t.val % 8] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 2048) (J : Fin 8192) (hR : (R : ℕ) = r) (hJ : (J : ℕ) = t.val % 8 * 1024 + j) :
    (show FVec Ideal S1x1x2048x1024 .bf16 from iblk m c 1 t) (ix4 0 0 r j) = wAt (show FVec Ideal S4x4x2048x2048 .bf16 from m ((c.tc : Thread nD τ).loc main_arg1)) R J := by
  have ht : t.val < 64 := lt_of_lt_of_eq t.isLt N_eq
  unfold wAt
  blk_point [iblk, V, idx t]

/-- The point's product is that part of the whole one. -/
theorem part_at (c : Dev nD) (t : Fin cfg0.N) (i : Fin 1024) (j : Fin 1024) (I : Fin 8192) (J : Fin 8192) (hI : (I : ℕ) = t.val / 8 * 1024 + i) (hJ : (J : ℕ) = t.val % 8 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- What a point leaves in its block of the result. -/
theorem out1_at (c : Dev nD) (t : Fin cfg0.N) (i : Fin 1024) (j : Fin 1024) :
    out0_3 (F := Ideal) (iblk m c 0 t) (iblk m c 1 t) (ix2 i j) = max (part m c t i j) 0 * max (part m c t i j) 0 := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 8 * 1024 + (y 0), by omega⟩ ⟨t.val % 8 * 1024 + (y 1), by omega⟩) = _)))
  · rw [ref_at]
    exact part_at m c t (y 0) (y 1) _ _ rfl rfl
  · blk_ext [idx t]

/-- The array of the result. -/
theorem final1 (c : Dev nD) : (dats m 0 c).arrAt 3 (cfgs 0).N = refAct (m ((c.tc : Thread nD τ).loc main_arg0)) (m ((c.tc : Thread nD τ).loc main_arg1)) := by
  refine (dats m 0 c).arrAt_eq_of_covers 3 _ (by decide +kernel) fun t hf y => ?_
  have ht : t.val < 64 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out1_at m c t (y 0) (y 1))).trans (Eq.trans ?_ (congrArg (refAct _ _) (?_ : (ix2 ⟨t.val / 8 * 1024 + (y 0), by omega⟩ ⟨t.val % 8 * 1024 + (y 1), by omega⟩) = _)))
  · rw [refAct_at]
    exact congrArg (fun a : EReal => max a 0 * max a 0) (part_at m c t (y 0) (y 1) _ _ rfl rfl)
  · blk_ext [idx t]

/-- The kernel's result is the reference's. -/
theorem algebraic : Cert.algebraic_Up3Ideal_RefUp3Ideal := by
  intro m g m' g' _ hagree
  refine ⟨fun c => ref (m ((c.tc : Thread nD τ).loc main_arg0)) (m ((c.tc : Thread nD τ).loc main_arg1)), fun c => refAct (m ((c.tc : Thread nD τ).loc main_arg0)) (m ((c.tc : Thread nD τ).loc main_arg1)), ?_, ?_⟩
  · exact (θ_run Cert.Up3Ideal.defs _ _).mono
      (fun _ h c => ⟨(h c).1.trans (final0 m c), (h c).2.1.trans (final1 m c), (h c).2.2⟩) (Cert.Up3Ideal.Value.run_blocks m g)
  · exact (θ_run Cert.RefUp3Ideal.defs _ _).mono
      (fun _ h c => ⟨(h c).1.trans (congrArg₂ ref (hagree c).1 (hagree c).2), (h c).2.1.trans (congrArg₂ refAct (hagree c).1 (hagree c).2), (h c).2.2⟩) (Cert.RefUp3Ideal.Prod.run m' g')

/-- The printed program and its ideal form run the same body. -/
theorem same_defs : Cert.Up3.defs (F := Bits) = defs := by
  refine congrArg (Pipeline.defs pcfgs) ?_
  unfold Cert.Up3.defs₀ defs₀
  congr 1
  funext l x
  match l, x with
  | 0, (_, _) => rfl

/-- The printed program ends with its arguments unchanged: its run is that of the ideal form, over bits. -/
theorem frame_bits : Cert.quiescent_Up3 := fun m g _ => by
  rw [same_defs]
  exact frame (F := Bits) m g

end Cert.Up3Ideal.Prod

end
-- ==== Proof.PDown0.lean ====
module

public import proofs.«01_k».proof.Defs
public import proofs.«01_k».proof.Proof.Gen.Down0Ideal.Value
public import proofs.«01_k».proof.Proof.Gen.RefDown0Ideal.Run
public import proofs.«01_k».proof.Proof.Gen.Down0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDown0Ideal.Prod

open Cert.RefDown0Ideal Cert.RefDown0Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 0 ⟨r % 2048, by omega⟩ c)

/-- Element `(i, j)` of the whole product. -/
def whole (x1 : FVec Ideal S8192x8192 .bf16) (x2 : FVec Ideal S4x4x2048x2048 .bf16) (i : Fin 8192) (j : Fin 2048) : EReal :=
  ∑ r : Fin 8192, x1 (ix2 i r) * wAt x2 r j

/-- The reference's result. -/
def ref (x0 : FVec Ideal S8192x2048 .f32) (x1 : FVec Ideal S8192x8192 .bf16) (x2 : FVec Ideal S4x4x2048x2048 .bf16) : FVec Ideal S8192x2048 .f32 :=
  addf x0 (Host.dotGeneral dot_S8192x8192_S8192x2048_S8192x2048_1_0_0_1_n_n none (extf .f32 x1 bitsLt_bf16_f32) (extf .f32 (shapeCast _ (shapeCast _ (extractStridedSlice S4x1x2048x2048 ![0, 0, 0, 0] x2 slices_S4x4x2048x2048_S4x1x2048x2048_0_0_0_0) shapeCasts_S4x1x2048x2048_S4x2048x2048) shapeCasts_S4x2048x2048_S8192x2048) bitsLt_bf16_f32))

theorem ref_at (x0 : FVec Ideal S8192x2048 .f32) (x1 : FVec Ideal S8192x8192 .bf16) (x2 : FVec Ideal S4x4x2048x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDown0Ideal := fun m g _ =>
  (θ_run defs _ _).mono (fun r h => ⟨fun c => (h c).2, sem_eq_zero_of_no_sems (by decide) r.2⟩) (Value.run m g)

end Cert.RefDown0Ideal.Prod

namespace Cert.Down0Ideal.Prod

open Cert.Down0Ideal Cert.Down0Ideal.Gen Idealize.ShloMosaic Idealize.ShloMosaic.TcCoe Idealize.SL.Sem
open Cert.RefDown0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x2048x1024 .bf16 from iblk m c 1 t) (ix4 0 0 r j) = wAt (show FVec Ideal S4x4x2048x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_Down0Ideal_RefDown0Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Down0Ideal.defs _ _).mono
      (fun _ h c => ⟨(h c).1.trans (final0 m c), (h c).2⟩) (Cert.Down0Ideal.Value.run_blocks m g)
  · exact (θ_run Cert.RefDown0Ideal.defs _ _).mono
      (fun _ h c => ⟨(h c).1.trans (congr (congrArg₂ ref (hagree c).1 (hagree c).2.1) (hagree c).2.2), (h c).2⟩) (Cert.RefDown0Ideal.Prod.run m' g')

/-- The printed program and its ideal form run the same body. -/
theorem same_defs : Cert.Down0.defs (F := Bits) = defs := by
  refine congrArg (Pipeline.defs pcfgs) ?_
  unfold Cert.Down0.defs₀ defs₀
  congr 1
  funext l x
  match l, x with
  | 0, (_, _) => rfl

/-- The printed program ends with its arguments unchanged: its run is that of the ideal form, over bits. -/
theorem frame_bits : Cert.quiescent_Down0 := fun m g _ => by
  rw [same_defs]
  exact frame (F := Bits) m g

end Cert.Down0Ideal.Prod

end
-- ==== Proof.PDown1.lean ====
module

public import proofs.«01_k».proof.Defs
public import proofs.«01_k».proof.Proof.Gen.Down1Ideal.Value
public import proofs.«01_k».proof.Proof.Gen.RefDown1Ideal.Run
public import proofs.«01_k».proof.Proof.Gen.Down1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDown1Ideal.Prod

open Cert.RefDown1Ideal Cert.RefDown1Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 1 ⟨r % 2048, by omega⟩ c)

/-- Element `(i, j)` of the whole product. -/
def whole (x1 : FVec Ideal S8192x8192 .bf16) (x2 : FVec Ideal S4x4x2048x2048 .bf16) (i : Fin 8192) (j : Fin 2048) : EReal :=
  ∑ r : Fin 8192, x1 (ix2 i r) * wAt x2 r j

/-- The reference's result. -/
def ref (x0 : FVec Ideal S8192x2048 .f32) (x1 : FVec Ideal S8192x8192 .bf16) (x2 : FVec Ideal S4x4x2048x2048 .bf16) : FVec Ideal S8192x2048 .f32 :=
  addf x0 (Host.dotGeneral dot_S8192x8192_S8192x2048_S8192x2048_1_0_0_1_n_n none (extf .f32 x1 bitsLt_bf16_f32) (extf .f32 (shapeCast _ (shapeCast _ (extractStridedSlice S4x1x2048x2048 ![0, 1, 0, 0] x2 slices_S4x4x2048x2048_S4x1x2048x2048_0_1_0_0) shapeCasts_S4x1x2048x2048_S4x2048x2048) shapeCasts_S4x2048x2048_S8192x2048) bitsLt_bf16_f32))

theorem ref_at (x0 : FVec Ideal S8192x2048 .f32) (x1 : FVec Ideal S8192x8192 .bf16) (x2 : FVec Ideal S4x4x2048x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDown1Ideal := fun m g _ =>
  (θ_run defs _ _).mono (fun r h => ⟨fun c => (h c).2, sem_eq_zero_of_no_sems (by decide) r.2⟩) (Value.run m g)

end Cert.RefDown1Ideal.Prod

namespace Cert.Down1Ideal.Prod

open Cert.Down1Ideal Cert.Down1Ideal.Gen Idealize.ShloMosaic Idealize.ShloMosaic.TcCoe Idealize.SL.Sem
open Cert.RefDown1Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 1, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x2048x1024 .bf16 from iblk m c 1 t) (ix4 0 0 r j) = wAt (show FVec Ideal S4x4x2048x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_Down1Ideal_RefDown1Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Down1Ideal.defs _ _).mono
      (fun _ h c => ⟨(h c).1.trans (final0 m c), (h c).2⟩) (Cert.Down1Ideal.Value.run_blocks m g)
  · exact (θ_run Cert.RefDown1Ideal.defs _ _).mono
      (fun _ h c => ⟨(h c).1.trans (congr (congrArg₂ ref (hagree c).1 (hagree c).2.1) (hagree c).2.2), (h c).2⟩) (Cert.RefDown1Ideal.Prod.run m' g')

/-- The printed program and its ideal form run the same body. -/
theorem same_defs : Cert.Down1.defs (F := Bits) = defs := by
  refine congrArg (Pipeline.defs pcfgs) ?_
  unfold Cert.Down1.defs₀ defs₀
  congr 1
  funext l x
  match l, x with
  | 0, (_, _) => rfl

/-- The printed program ends with its arguments unchanged: its run is that of the ideal form, over bits. -/
theorem frame_bits : Cert.quiescent_Down1 := fun m g _ => by
  rw [same_defs]
  exact frame (F := Bits) m g

end Cert.Down1Ideal.Prod

end
-- ==== Proof.PDown2.lean ====
module

public import proofs.«01_k».proof.Defs
public import proofs.«01_k».proof.Proof.Gen.Down2Ideal.Value
public import proofs.«01_k».proof.Proof.Gen.RefDown2Ideal.Run
public import proofs.«01_k».proof.Proof.Gen.Down2
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDown2Ideal.Prod

open Cert.RefDown2Ideal Cert.RefDown2Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 2 ⟨r % 2048, by omega⟩ c)

/-- Element `(i, j)` of the whole product. -/
def whole (x1 : FVec Ideal S8192x8192 .bf16) (x2 : FVec Ideal S4x4x2048x2048 .bf16) (i : Fin 8192) (j : Fin 2048) : EReal :=
  ∑ r : Fin 8192, x1 (ix2 i r) * wAt x2 r j

/-- The reference's result. -/
def ref (x0 : FVec Ideal S8192x2048 .f32) (x1 : FVec Ideal S8192x8192 .bf16) (x2 : FVec Ideal S4x4x2048x2048 .bf16) : FVec Ideal S8192x2048 .f32 :=
  addf x0 (Host.dotGeneral dot_S8192x8192_S8192x2048_S8192x2048_1_0_0_1_n_n none (extf .f32 x1 bitsLt_bf16_f32) (extf .f32 (shapeCast _ (shapeCast _ (extractStridedSlice S4x1x2048x2048 ![0, 2, 0, 0] x2 slices_S4x4x2048x2048_S4x1x2048x2048_0_2_0_0) shapeCasts_S4x1x2048x2048_S4x2048x2048) shapeCasts_S4x2048x2048_S8192x2048) bitsLt_bf16_f32))

theorem ref_at (x0 : FVec Ideal S8192x2048 .f32) (x1 : FVec Ideal S8192x8192 .bf16) (x2 : FVec Ideal S4x4x2048x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDown2Ideal := fun m g _ =>
  (θ_run defs _ _).mono (fun r h => ⟨fun c => (h c).2, sem_eq_zero_of_no_sems (by decide) r.2⟩) (Value.run m g)

end Cert.RefDown2Ideal.Prod

namespace Cert.Down2Ideal.Prod

open Cert.Down2Ideal Cert.Down2Ideal.Gen Idealize.ShloMosaic Idealize.ShloMosaic.TcCoe Idealize.SL.Sem
open Cert.RefDown2Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 2, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x2048x1024 .bf16 from iblk m c 1 t) (ix4 0 0 r j) = wAt (show FVec Ideal S4x4x2048x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_Down2Ideal_RefDown2Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Down2Ideal.defs _ _).mono
      (fun _ h c => ⟨(h c).1.trans (final0 m c), (h c).2⟩) (Cert.Down2Ideal.Value.run_blocks m g)
  · exact (θ_run Cert.RefDown2Ideal.defs _ _).mono
      (fun _ h c => ⟨(h c).1.trans (congr (congrArg₂ ref (hagree c).1 (hagree c).2.1) (hagree c).2.2), (h c).2⟩) (Cert.RefDown2Ideal.Prod.run m' g')

/-- The printed program and its ideal form run the same body. -/
theorem same_defs : Cert.Down2.defs (F := Bits) = defs := by
  refine congrArg (Pipeline.defs pcfgs) ?_
  unfold Cert.Down2.defs₀ defs₀
  congr 1
  funext l x
  match l, x with
  | 0, (_, _) => rfl

/-- The printed program ends with its arguments unchanged: its run is that of the ideal form, over bits. -/
theorem frame_bits : Cert.quiescent_Down2 := fun m g _ => by
  rw [same_defs]
  exact frame (F := Bits) m g

end Cert.Down2Ideal.Prod

end
-- ==== Proof.PDown3.lean ====
module

public import proofs.«01_k».proof.Defs
public import proofs.«01_k».proof.Proof.Gen.Down3Ideal.Value
public import proofs.«01_k».proof.Proof.Gen.RefDown3Ideal.Run
public import proofs.«01_k».proof.Proof.Gen.Down3
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDown3Ideal.Prod

open Cert.RefDown3Ideal Cert.RefDown3Ideal.Gen Idealize.ShloMosaic Idealize.ShloMosaic.TcCoe Idealize.SL.Sem

/-- Element `(r, c)` of the layer's whole weight, in the stack of the devices' parts. -/
def wAt (w : FVec Ideal S4x4x2048x2048 .bf16) (r : Fin 8192) (c : Fin 2048) : EReal := w (ix4 ⟨r / 2048, by omega⟩ 3 ⟨r % 2048, by omega⟩ c)

/-- Element `(i, j)` of the whole product. -/
def whole (x1 : FVec Ideal S8192x8192 .bf16) (x2 : FVec Ideal S4x4x2048x2048 .bf16) (i : Fin 8192) (j : Fin 2048) : EReal :=
  ∑ r : Fin 8192, x1 (ix2 i r) * wAt x2 r j

/-- The reference's result. -/
def ref (x0 : FVec Ideal S8192x2048 .f32) (x1 : FVec Ideal S8192x8192 .bf16) (x2 : FVec Ideal S4x4x2048x2048 .bf16) : FVec Ideal S8192x2048 .f32 :=
  addf x0 (Host.dotGeneral dot_S8192x8192_S8192x2048_S8192x2048_1_0_0_1_n_n none (extf .f32 x1 bitsLt_bf16_f32) (extf .f32 (shapeCast _ (shapeCast _ (extractStridedSlice S4x1x2048x2048 ![0, 3, 0, 0] x2 slices_S4x4x2048x2048_S4x1x2048x2048_0_3_0_0) shapeCasts_S4x1x2048x2048_S4x2048x2048) shapeCasts_S4x2048x2048_S8192x2048) bitsLt_bf16_f32))

theorem ref_at (x0 : FVec Ideal S8192x2048 .f32) (x1 : FVec Ideal S8192x8192 .bf16) (x2 : FVec Ideal S4x4x2048x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefDown3Ideal := fun m g _ =>
  (θ_run defs _ _).mono (fun r h => ⟨fun c => (h c).2, sem_eq_zero_of_no_sems (by decide) r.2⟩) (Value.run m g)

end Cert.RefDown3Ideal.Prod

namespace Cert.Down3Ideal.Prod

open Cert.Down3Ideal Cert.Down3Ideal.Gen Idealize.ShloMosaic Idealize.ShloMosaic.TcCoe Idealize.SL.Sem
open Cert.RefDown3Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 3, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 8192) (hI : (I : ℕ) = t.val / 8 * 1024 + i) (hR : (R : ℕ) = t.val % 4 * 2048 + r) :
    (show FVec Ideal S1024x2048 .bf16 from iblk m c 0 t) (ix2 i r) = (show FVec Ideal S8192x8192 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 2048) (j : Fin 1024) (R : Fin 8192) (J : Fin 2048) (hR : (R : ℕ) = t.val % 4 * 2048 + r) (hJ : (J : ℕ) = t.val / 4 % 2 * 1024 + j) :
    (show FVec Ideal S1x1x2048x1024 .bf16 from iblk m c 1 t) (ix4 0 0 r j) = wAt (show FVec Ideal S4x4x2048x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 2048 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_Down3Ideal_RefDown3Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Down3Ideal.defs _ _).mono
      (fun _ h c => ⟨(h c).1.trans (final0 m c), (h c).2⟩) (Cert.Down3Ideal.Value.run_blocks m g)
  · exact (θ_run Cert.RefDown3Ideal.defs _ _).mono
      (fun _ h c => ⟨(h c).1.trans (congr (congrArg₂ ref (hagree c).1 (hagree c).2.1) (hagree c).2.2), (h c).2⟩) (Cert.RefDown3Ideal.Prod.run m' g')

/-- The printed program and its ideal form run the same body. -/
theorem same_defs : Cert.Down3.defs (F := Bits) = defs := by
  refine congrArg (Pipeline.defs pcfgs) ?_
  unfold Cert.Down3.defs₀ defs₀
  congr 1
  funext l x
  match l, x with
  | 0, (_, _) => rfl

/-- The printed program ends with its arguments unchanged: its run is that of the ideal form, over bits. -/
theorem frame_bits : Cert.quiescent_Down3 := fun m g _ => by
  rw [same_defs]
  exact frame (F := Bits) m g

end Cert.Down3Ideal.Prod

end
-- ==== Proof.PQkv0.lean ====
module

public import proofs.«01_k».proof.Defs
public import proofs.«01_k».proof.Proof.Gen.Qkv0Ideal.Value
public import proofs.«01_k».proof.Proof.Gen.RefQkv0Ideal.Run
public import proofs.«01_k».proof.Proof.Gen.Qkv0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefQkv0Ideal.Prod

open Cert.RefQkv0Ideal Cert.RefQkv0Ideal.Gen Idealize.ShloMosaic Idealize.ShloMosaic.TcCoe Idealize.SL.Sem

/-- Element `(r, c)` of the layer's whole weight, in the stack of the devices' parts. -/
def wAt (w : FVec Ideal S4x2x2048x1536 .bf16) (r : Fin 2048) (c : Fin 6144) : EReal := w (ix4 ⟨c / 1536, by omega⟩ 0 r ⟨c % 1536, by omega⟩)

/-- Element `(i, j)` of the whole product. -/
def whole (x0 : FVec Ideal S8192x2048 .bf16) (x1 : FVec Ideal S4x2x2048x1536 .bf16) (i : Fin 8192) (j : Fin 6144) : EReal :=
  ∑ r : Fin 2048, x0 (ix2 i r) * wAt x1 r j

/-- The reference's result. -/
def ref (x0 : FVec Ideal S8192x2048 .bf16) (x1 : FVec Ideal S4x2x2048x1536 .bf16) : FVec Ideal S8192x6144 .f32 :=
  Host.dotGeneral dot_S8192x2048_S2048x6144_S8192x6144_1_0_0_1_n_n none (extf .f32 x0 bitsLt_bf16_f32) (extf .f32 (shapeCast _ (transpose S2048x4x1536 [1, 0, 2] (shapeCast _ (extractStridedSlice S4x1x2048x1536 ![0, 0, 0, 0] x1 slices_S4x2x2048x1536_S4x1x2048x1536_0_0_0_0) shapeCasts_S4x1x2048x1536_S4x2048x1536) transposes_S4x2048x1536_S2048x4x1536_1_0_2) shapeCasts_S2048x4x1536_S2048x6144) bitsLt_bf16_f32)

theorem ref_at (x0 : FVec Ideal S8192x2048 .bf16) (x1 : FVec Ideal S4x2x2048x1536 .bf16) (i : Fin 8192) (j : Fin 6144) :
    ref x0 x1 (ix2 i j) = whole x0 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref
  exact Value.run m g

/-- The reference ends with its arguments unchanged. -/
theorem frame : Cert.quiescent_RefQkv0Ideal := fun m g _ =>
  (θ_run defs _ _).mono (fun r h => ⟨fun c => (h c).2, sem_eq_zero_of_no_sems (by decide) r.2⟩) (Value.run m g)

end Cert.RefQkv0Ideal.Prod

namespace Cert.Qkv0Ideal.Prod

open Cert.Qkv0Ideal Cert.Qkv0Ideal.Gen Idealize.ShloMosaic Idealize.ShloMosaic.TcCoe Idealize.SL.Sem
open Cert.RefQkv0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 0, 0, t.val % 8 % 2]
    ∧ win0_2.index t = ![t.val / 8, t.val % 8] :=
  (by decide +kernel : ∀ t : Fin grid0.N, _)

/-- What the point's two blocks contribute to element `(i, j)` of the result's block. -/
def part (c : Dev nD) (t : Fin cfg0.N) (i : Fin 1024) (j : Fin 768) : EReal :=
  ∑ r : Fin 2048, (show FVec Ideal S1024x2048 .bf16 from iblk m c 0 t) (ix2 i r) * (show FVec Ideal S1x1x2048x768 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 64 := lt_of_lt_of_eq t.isLt N_eq
  blk_point [iblk, V, idx t]

/-- The right block in the right array. -/
theorem b_at (c : Dev nD) (t : Fin cfg0.N) (r : Fin 2048) (j : Fin 768) (R : Fin 2048) (J : Fin 6144) (hR : (R : ℕ) = r) (hJ : (J : ℕ) = t.val % 8 * 768 + j) :
    (show FVec Ideal S1x1x2048x768 .bf16 from iblk m c 1 t) (ix4 0 0 r j) = wAt (show FVec Ideal S4x2x2048x1536 .bf16 from m ((c.tc : Thread nD τ).loc main_arg1)) R J := by
  have ht : t.val < 64 := lt_of_lt_of_eq t.isLt N_eq
  unfold wAt
  blk_point [iblk, V, idx t]

/-- The point's product is that part of the whole one. -/
theorem part_at (c : Dev nD) (t : Fin cfg0.N) (i : Fin 1024) (j : Fin 768) (I : Fin 8192) (J : Fin 6144) (hI : (I : ℕ) = t.val / 8 * 1024 + i) (hJ : (J : ℕ) = t.val % 8 * 768 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 768) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 64 := lt_of_lt_of_eq t.isLt N_eq
  blk_simp
  have h0 : (y 0 : ℕ) < 1024 := (y 0).isLt
  have h1 : (y 1 : ℕ) < 768 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 8 * 1024 + (y 0), by omega⟩ ⟨t.val % 8 * 768 + (y 1), by omega⟩) = _)))
  · rw [ref_at]
    exact part_at m c t (y 0) (y 1) _ _ rfl rfl
  · blk_ext [idx t]

/-- The kernel's result is the reference's. -/
theorem algebraic : Cert.algebraic_Qkv0Ideal_RefQkv0Ideal := by
  intro m g m' g' _ hagree
  refine ⟨fun c => ref (m ((c.tc : Thread nD τ).loc main_arg0)) (m ((c.tc : Thread nD τ).loc main_arg1)), ?_, ?_⟩
  · exact (θ_run Cert.Qkv0Ideal.defs _ _).mono
      (fun _ h c => ⟨(h c).1.trans (final0 m c), (h c).2⟩) (Cert.Qkv0Ideal.Value.run_blocks m g)
  · exact (θ_run Cert.RefQkv0Ideal.defs _ _).mono
      (fun _ h c => ⟨(h c).1.trans (congrArg₂ ref (hagree c).1 (hagree c).2), (h c).2⟩) (Cert.RefQkv0Ideal.Prod.run m' g')

/-- The printed program and its ideal form run the same body. -/
theorem same_defs : Cert.Qkv0.defs (F := Bits) = defs := by
  refine congrArg (Pipeline.defs pcfgs) ?_
  unfold Cert.Qkv0.defs₀ defs₀
  congr 1
  funext l x
  match l, x with
  | 0, (_, _) => rfl

/-- The printed program ends with its arguments unchanged: its run is that of the ideal form, over bits. -/
theorem frame_bits : Cert.quiescent_Qkv0 := fun m g _ => by
  rw [same_defs]
  exact frame (F := Bits) m g

end Cert.Qkv0Ideal.Prod

end
-- ==== Proof.PQkv1.lean ====
module

public import proofs.«01_k».proof.Defs
public import proofs.«01_k».proof.Proof.Gen.Qkv1Ideal.Value
public import proofs.«01_k».proof.Proof.Gen.RefQkv1Ideal.Run
public import proofs.«01_k».proof.Proof.Gen.Qkv1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefQkv1Ideal.Prod

open Cert.RefQkv1Ideal Cert.RefQkv1Ideal.Gen Idealize.ShloMosaic Idealize.ShloMosaic.TcCoe Idealize.SL.Sem

/-- Element `(r, c)` of the layer's whole weight, in the stack of the devices' parts. -/
def wAt (w : FVec Ideal S4x2x2048x1536 .bf16) (r : Fin 2048) (c : Fin 6144) : EReal := w (ix4 ⟨c / 1536, by omega⟩ 1 r ⟨c % 1536, by omega⟩)

/-- Element `(i, j)` of the whole product. -/
def whole (x0 : FVec Ideal S8192x2048 .bf16) (x1 : FVec Ideal S4x2x2048x1536 .bf16) (i : Fin 8192) (j : Fin 6144) : EReal :=
  ∑ r : Fin 2048, x0 (ix2 i r) * wAt x1 r j

/-- The reference's result. -/
def ref (x0 : FVec Ideal S8192x2048 .bf16) (x1 : FVec Ideal S4x2x2048x1536 .bf16) : FVec Ideal S8192x6144 .f32 :=
  Host.dotGeneral dot_S8192x2048_S2048x6144_S8192x6144_1_0_0_1_n_n none (extf .f32 x0 bitsLt_bf16_f32) (extf .f32 (shapeCast _ (transpose S2048x4x1536 [1, 0, 2] (shapeCast _ (extractStridedSlice S4x1x2048x1536 ![0, 1, 0, 0] x1 slices_S4x2x2048x1536_S4x1x2048x1536_0_1_0_0) shapeCasts_S4x1x2048x1536_S4x2048x1536) transposes_S4x2048x1536_S2048x4x1536_1_0_2) shapeCasts_S2048x4x1536_S2048x6144) bitsLt_bf16_f32)

theorem ref_at (x0 : FVec Ideal S8192x2048 .bf16) (x1 : FVec Ideal S4x2x2048x1536 .bf16) (i : Fin 8192) (j : Fin 6144) :
    ref x0 x1 (ix2 i j) = whole x0 x1 i j := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref
  exact Value.run m g

/-- The reference ends with its arguments unchanged. -/
theorem frame : Cert.quiescent_RefQkv1Ideal := fun m g _ =>
  (θ_run defs _ _).mono (fun r h => ⟨fun c => (h c).2, sem_eq_zero_of_no_sems (by decide) r.2⟩) (Value.run m g)

end Cert.RefQkv1Ideal.Prod

namespace Cert.Qkv1Ideal.Prod

open Cert.Qkv1Ideal Cert.Qkv1Ideal.Gen Idealize.ShloMosaic Idealize.ShloMosaic.TcCoe Idealize.SL.Sem
open Cert.RefQkv1Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, 0]
    ∧ win0_1.index t = ![t.val % 8 / 2, 1, 0, t.val % 8 % 2]
    ∧ win0_2.index t = ![t.val / 8, t.val % 8] :=
  (by decide +kernel : ∀ t : Fin grid0.N, _)

/-- What the point's two blocks contribute to element `(i, j)` of the result's block. -/
def part (c : Dev nD) (t : Fin cfg0.N) (i : Fin 1024) (j : Fin 768) : EReal :=
  ∑ r : Fin 2048, (show FVec Ideal S1024x2048 .bf16 from iblk m c 0 t) (ix2 i r) * (show FVec Ideal S1x1x2048x768 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 8 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 64 := lt_of_lt_of_eq t.isLt N_eq
  blk_point [iblk, V, idx t]

/-- The right block in the right array. -/
theorem b_at (c : Dev nD) (t : Fin cfg0.N) (r : Fin 2048) (j : Fin 768) (R : Fin 2048) (J : Fin 6144) (hR : (R : ℕ) = r) (hJ : (J : ℕ) = t.val % 8 * 768 + j) :
    (show FVec Ideal S1x1x2048x768 .bf16 from iblk m c 1 t) (ix4 0 0 r j) = wAt (show FVec Ideal S4x2x2048x1536 .bf16 from m ((c.tc : Thread nD τ).loc main_arg1)) R J := by
  have ht : t.val < 64 := lt_of_lt_of_eq t.isLt N_eq
  unfold wAt
  blk_point [iblk, V, idx t]

/-- The point's product is that part of the whole one. -/
theorem part_at (c : Dev nD) (t : Fin cfg0.N) (i : Fin 1024) (j : Fin 768) (I : Fin 8192) (J : Fin 6144) (hI : (I : ℕ) = t.val / 8 * 1024 + i) (hJ : (J : ℕ) = t.val % 8 * 768 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 768) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 64 := lt_of_lt_of_eq t.isLt N_eq
  blk_simp
  have h0 : (y 0 : ℕ) < 1024 := (y 0).isLt
  have h1 : (y 1 : ℕ) < 768 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 8 * 1024 + (y 0), by omega⟩ ⟨t.val % 8 * 768 + (y 1), by omega⟩) = _)))
  · rw [ref_at]
    exact part_at m c t (y 0) (y 1) _ _ rfl rfl
  · blk_ext [idx t]

/-- The kernel's result is the reference's. -/
theorem algebraic : Cert.algebraic_Qkv1Ideal_RefQkv1Ideal := by
  intro m g m' g' _ hagree
  refine ⟨fun c => ref (m ((c.tc : Thread nD τ).loc main_arg0)) (m ((c.tc : Thread nD τ).loc main_arg1)), ?_, ?_⟩
  · exact (θ_run Cert.Qkv1Ideal.defs _ _).mono
      (fun _ h c => ⟨(h c).1.trans (final0 m c), (h c).2⟩) (Cert.Qkv1Ideal.Value.run_blocks m g)
  · exact (θ_run Cert.RefQkv1Ideal.defs _ _).mono
      (fun _ h c => ⟨(h c).1.trans (congrArg₂ ref (hagree c).1 (hagree c).2), (h c).2⟩) (Cert.RefQkv1Ideal.Prod.run m' g')

/-- The printed program and its ideal form run the same body. -/
theorem same_defs : Cert.Qkv1.defs (F := Bits) = defs := by
  refine congrArg (Pipeline.defs pcfgs) ?_
  unfold Cert.Qkv1.defs₀ defs₀
  congr 1
  funext l x
  match l, x with
  | 0, (_, _) => rfl

/-- The printed program ends with its arguments unchanged: its run is that of the ideal form, over bits. -/
theorem frame_bits : Cert.quiescent_Qkv1 := fun m g _ => by
  rw [same_defs]
  exact frame (F := Bits) m g

end Cert.Qkv1Ideal.Prod

end
-- ==== Proof.POut0.lean ====
module

public import proofs.«01_k».proof.Defs
public import proofs.«01_k».proof.Proof.Gen.Out0Ideal.Value
public import proofs.«01_k».proof.Proof.Gen.RefOut0Ideal.Run
public import proofs.«01_k».proof.Proof.Gen.Out0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefOut0Ideal.Prod

open Cert.RefOut0Ideal Cert.RefOut0Ideal.Gen Idealize.ShloMosaic Idealize.ShloMosaic.TcCoe Idealize.SL.Sem

/-- Element `(r, c)` of the layer's whole weight, in the stack of the devices' parts. -/
def wAt (w : FVec Ideal S4x2x512x2048 .bf16) (r : Fin 2048) (c : Fin 2048) : EReal := w (ix4 ⟨r / 512, by omega⟩ 0 ⟨r % 512, by omega⟩ c)

/-- Element `(i, j)` of the whole product. -/
def whole (x1 : FVec Ideal S8192x2048 .bf16) (x2 : FVec Ideal S4x2x512x2048 .bf16) (i : Fin 8192) (j : Fin 2048) : EReal :=
  ∑ r : Fin 2048, x1 (ix2 i r) * wAt x2 r j

/-- The reference's result. -/
def ref (x0 : FVec Ideal S8192x2048 .f32) (x1 : FVec Ideal S8192x2048 .bf16) (x2 : FVec Ideal S4x2x512x2048 .bf16) : FVec Ideal S8192x2048 .f32 :=
  addf x0 (Host.dotGeneral dot_S8192x2048_S2048x2048_S8192x2048_1_0_0_1_n_n none (extf .f32 x1 bitsLt_bf16_f32) (extf .f32 (shapeCast _ (shapeCast _ (extractStridedSlice S4x1x512x2048 ![0, 0, 0, 0] x2 slices_S4x2x512x2048_S4x1x512x2048_0_0_0_0) shapeCasts_S4x1x512x2048_S4x512x2048) shapeCasts_S4x512x2048_S2048x2048) bitsLt_bf16_f32))

theorem ref_at (x0 : FVec Ideal S8192x2048 .f32) (x1 : FVec Ideal S8192x2048 .bf16) (x2 : FVec Ideal S4x2x512x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefOut0Ideal := fun m g _ =>
  (θ_run defs _ _).mono (fun r h => ⟨fun c => (h c).2, sem_eq_zero_of_no_sems (by decide) r.2⟩) (Value.run m g)

end Cert.RefOut0Ideal.Prod

namespace Cert.Out0Ideal.Prod

open Cert.Out0Ideal Cert.Out0Ideal.Gen Idealize.ShloMosaic Idealize.ShloMosaic.TcCoe Idealize.SL.Sem
open Cert.RefOut0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 512, (show FVec Ideal S1024x512 .bf16 from iblk m c 0 t) (ix2 i r) * (show FVec Ideal S1x1x512x1024 .bf16 from iblk m c 1 t) (ix4 0 0 r j)

/-- The left block in the left array. -/
theorem a_at (c : Dev nD) (t : Fin cfg0.N) (i : Fin 1024) (r : Fin 512) (I : Fin 8192) (R : Fin 2048) (hI : (I : ℕ) = t.val / 8 * 1024 + i) (hR : (R : ℕ) = t.val % 4 * 512 + r) :
    (show FVec Ideal S1024x512 .bf16 from iblk m c 0 t) (ix2 i r) = (show FVec Ideal S8192x2048 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 512) (j : Fin 1024) (R : Fin 2048) (J : Fin 2048) (hR : (R : ℕ) = t.val % 4 * 512 + r) (hJ : (J : ℕ) = t.val / 4 % 2 * 1024 + j) :
    (show FVec Ideal S1x1x512x1024 .bf16 from iblk m c 1 t) (ix4 0 0 r j) = wAt (show FVec Ideal S4x2x512x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 512 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_Out0Ideal_RefOut0Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Out0Ideal.defs _ _).mono
      (fun _ h c => ⟨(h c).1.trans (final0 m c), (h c).2⟩) (Cert.Out0Ideal.Value.run_blocks m g)
  · exact (θ_run Cert.RefOut0Ideal.defs _ _).mono
      (fun _ h c => ⟨(h c).1.trans (congr (congrArg₂ ref (hagree c).1 (hagree c).2.1) (hagree c).2.2), (h c).2⟩) (Cert.RefOut0Ideal.Prod.run m' g')

/-- The printed program and its ideal form run the same body. -/
theorem same_defs : Cert.Out0.defs (F := Bits) = defs := by
  refine congrArg (Pipeline.defs pcfgs) ?_
  unfold Cert.Out0.defs₀ defs₀
  congr 1
  funext l x
  match l, x with
  | 0, (_, _) => rfl

/-- The printed program ends with its arguments unchanged: its run is that of the ideal form, over bits. -/
theorem frame_bits : Cert.quiescent_Out0 := fun m g _ => by
  rw [same_defs]
  exact frame (F := Bits) m g

end Cert.Out0Ideal.Prod

end
-- ==== Proof.POut1.lean ====
module

public import proofs.«01_k».proof.Defs
public import proofs.«01_k».proof.Proof.Gen.Out1Ideal.Value
public import proofs.«01_k».proof.Proof.Gen.RefOut1Ideal.Run
public import proofs.«01_k».proof.Proof.Gen.Out1
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefOut1Ideal.Prod

open Cert.RefOut1Ideal Cert.RefOut1Ideal.Gen Idealize.ShloMosaic Idealize.ShloMosaic.TcCoe Idealize.SL.Sem

/-- Element `(r, c)` of the layer's whole weight, in the stack of the devices' parts. -/
def wAt (w : FVec Ideal S4x2x512x2048 .bf16) (r : Fin 2048) (c : Fin 2048) : EReal := w (ix4 ⟨r / 512, by omega⟩ 1 ⟨r % 512, by omega⟩ c)

/-- Element `(i, j)` of the whole product. -/
def whole (x1 : FVec Ideal S8192x2048 .bf16) (x2 : FVec Ideal S4x2x512x2048 .bf16) (i : Fin 8192) (j : Fin 2048) : EReal :=
  ∑ r : Fin 2048, x1 (ix2 i r) * wAt x2 r j

/-- The reference's result. -/
def ref (x0 : FVec Ideal S8192x2048 .f32) (x1 : FVec Ideal S8192x2048 .bf16) (x2 : FVec Ideal S4x2x512x2048 .bf16) : FVec Ideal S8192x2048 .f32 :=
  addf x0 (Host.dotGeneral dot_S8192x2048_S2048x2048_S8192x2048_1_0_0_1_n_n none (extf .f32 x1 bitsLt_bf16_f32) (extf .f32 (shapeCast _ (shapeCast _ (extractStridedSlice S4x1x512x2048 ![0, 1, 0, 0] x2 slices_S4x2x512x2048_S4x1x512x2048_0_1_0_0) shapeCasts_S4x1x512x2048_S4x512x2048) shapeCasts_S4x512x2048_S2048x2048) bitsLt_bf16_f32))

theorem ref_at (x0 : FVec Ideal S8192x2048 .f32) (x1 : FVec Ideal S8192x2048 .bf16) (x2 : FVec Ideal S4x2x512x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefOut1Ideal := fun m g _ =>
  (θ_run defs _ _).mono (fun r h => ⟨fun c => (h c).2, sem_eq_zero_of_no_sems (by decide) r.2⟩) (Value.run m g)

end Cert.RefOut1Ideal.Prod

namespace Cert.Out1Ideal.Prod

open Cert.Out1Ideal Cert.Out1Ideal.Gen Idealize.ShloMosaic Idealize.ShloMosaic.TcCoe Idealize.SL.Sem
open Cert.RefOut1Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 1, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 512, (show FVec Ideal S1024x512 .bf16 from iblk m c 0 t) (ix2 i r) * (show FVec Ideal S1x1x512x1024 .bf16 from iblk m c 1 t) (ix4 0 0 r j)

/-- The left block in the left array. -/
theorem a_at (c : Dev nD) (t : Fin cfg0.N) (i : Fin 1024) (r : Fin 512) (I : Fin 8192) (R : Fin 2048) (hI : (I : ℕ) = t.val / 8 * 1024 + i) (hR : (R : ℕ) = t.val % 4 * 512 + r) :
    (show FVec Ideal S1024x512 .bf16 from iblk m c 0 t) (ix2 i r) = (show FVec Ideal S8192x2048 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 512) (j : Fin 1024) (R : Fin 2048) (J : Fin 2048) (hR : (R : ℕ) = t.val % 4 * 512 + r) (hJ : (J : ℕ) = t.val / 4 % 2 * 1024 + j) :
    (show FVec Ideal S1x1x512x1024 .bf16 from iblk m c 1 t) (ix4 0 0 r j) = wAt (show FVec Ideal S4x2x512x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 512 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_Out1Ideal_RefOut1Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.Out1Ideal.defs _ _).mono
      (fun _ h c => ⟨(h c).1.trans (final0 m c), (h c).2⟩) (Cert.Out1Ideal.Value.run_blocks m g)
  · exact (θ_run Cert.RefOut1Ideal.defs _ _).mono
      (fun _ h c => ⟨(h c).1.trans (congr (congrArg₂ ref (hagree c).1 (hagree c).2.1) (hagree c).2.2), (h c).2⟩) (Cert.RefOut1Ideal.Prod.run m' g')

/-- The printed program and its ideal form run the same body. -/
theorem same_defs : Cert.Out1.defs (F := Bits) = defs := by
  refine congrArg (Pipeline.defs pcfgs) ?_
  unfold Cert.Out1.defs₀ defs₀
  congr 1
  funext l x
  match l, x with
  | 0, (_, _) => rfl

/-- The printed program ends with its arguments unchanged: its run is that of the ideal form, over bits. -/
theorem frame_bits : Cert.quiescent_Out1 := fun m g _ => by
  rw [same_defs]
  exact frame (F := Bits) m g

end Cert.Out1Ideal.Prod

end
-- ==== Proof.PCfIn.lean ====
module

public import proofs.«01_k».proof.Defs
public import proofs.«01_k».proof.Proof.Gen.CfInIdeal.Value
public import proofs.«01_k».proof.Proof.Gen.RefCfInIdeal.Run
public import proofs.«01_k».proof.Proof.Gen.CfIn
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefCfInIdeal.Prod

open Cert.RefCfInIdeal Cert.RefCfInIdeal.Gen Idealize.ShloMosaic Idealize.ShloMosaic.TcCoe Idealize.SL.Sem

/-- Element `(r, c)` of the layer's whole weight, in the stack of the devices' parts. -/
def wAt (w : FVec Ideal S4x1x2048x1024 .bf16) (r : Fin 2048) (c : Fin 4096) : EReal := w (ix4 ⟨c / 1024, by omega⟩ 0 r ⟨c % 1024, by omega⟩)

/-- Element `(i, j)` of the whole product. -/
def whole (x0 : FVec Ideal S8192x2048 .bf16) (x1 : FVec Ideal S4x1x2048x1024 .bf16) (i : Fin 8192) (j : Fin 4096) : EReal :=
  ∑ r : Fin 2048, x0 (ix2 i r) * wAt x1 r j

/-- The reference's result. -/
def ref (x0 : FVec Ideal S8192x2048 .bf16) (x1 : FVec Ideal S4x1x2048x1024 .bf16) (x2 : FVec Ideal S1x4096 .f32) : FVec Ideal S8192x4096 .f32 :=
  addf (Host.dotGeneral dot_S8192x2048_S2048x4096_S8192x4096_1_0_0_1_n_n none (extf .f32 x0 bitsLt_bf16_f32) (extf .f32 (shapeCast _ (transpose S2048x4x1024 [1, 0, 2] (shapeCast _ x1 shapeCasts_S4x1x2048x1024_S4x2048x1024) transposes_S4x2048x1024_S2048x4x1024_1_0_2) shapeCasts_S2048x4x1024_S2048x4096) bitsLt_bf16_f32)) (broadcastInDim S8192x4096 ![0, 1] bcast_S1x4096_S8192x4096_0_1 x2)

theorem ref_at (x0 : FVec Ideal S8192x2048 .bf16) (x1 : FVec Ideal S4x1x2048x1024 .bf16) (x2 : FVec Ideal S1x4096 .f32) (i : Fin 8192) (j : Fin 4096) :
    ref x0 x1 x2 (ix2 i j) = whole x0 x1 i j + x2 (ix2 0 j) := by
  unfold ref whole wAt
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefCfInIdeal := fun m g _ =>
  (θ_run defs _ _).mono (fun r h => ⟨fun c => (h c).2, sem_eq_zero_of_no_sems (by decide) r.2⟩) (Value.run m g)

end Cert.RefCfInIdeal.Prod

namespace Cert.CfInIdeal.Prod

open Cert.CfInIdeal Cert.CfInIdeal.Gen Idealize.ShloMosaic Idealize.ShloMosaic.TcCoe Idealize.SL.Sem
open Cert.RefCfInIdeal.Prod (wAt whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, 0]
    ∧ win0_1.index t = ![t.val % 4, 0, 0, 0]
    ∧ win0_2.index t = ![0, t.val % 4]
    ∧ win0_3.index t = ![t.val / 4, t.val % 4] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S1x1x2048x1024 .bf16 from iblk m c 1 t) (ix4 0 0 r j)

/-- The left block in the left array. -/
theorem a_at (c : Dev nD) (t : Fin cfg0.N) (i : Fin 1024) (r : Fin 2048) (I : Fin 8192) (R : Fin 2048) (hI : (I : ℕ) = t.val / 4 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 32 := lt_of_lt_of_eq t.isLt N_eq
  blk_point [iblk, V, idx t]

/-- The right block in the right array. -/
theorem b_at (c : Dev nD) (t : Fin cfg0.N) (r : Fin 2048) (j : Fin 1024) (R : Fin 2048) (J : Fin 4096) (hR : (R : ℕ) = r) (hJ : (J : ℕ) = t.val % 4 * 1024 + j) :
    (show FVec Ideal S1x1x2048x1024 .bf16 from iblk m c 1 t) (ix4 0 0 r j) = wAt (show FVec Ideal S4x1x2048x1024 .bf16 from m ((c.tc : Thread nD τ).loc main_arg1)) R J := by
  have ht : t.val < 32 := lt_of_lt_of_eq t.isLt N_eq
  unfold wAt
  blk_point [iblk, V, idx t]

/-- The block that is added or scaled with, in its array. -/
theorem e0_at (c : Dev nD) (t : Fin cfg0.N) (j : Fin 1024) (J : Fin 4096) (hJ : (J : ℕ) = t.val % 4 * 1024 + j) :
    (show FVec Ideal S1x1024 .f32 from iblk m c 2 t) (ix2 0 j) = (show FVec Ideal S1x4096 .f32 from m ((c.tc : Thread nD τ).loc main_arg2)) (ix2 0 J) := by
  have ht : t.val < 32 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 4096) (hI : (I : ℕ) = t.val / 4 * 1024 + i) (hJ : (J : ℕ) = t.val % 4 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_3 (F := Ideal) (iblk m c 0 t) (iblk m c 1 t) (iblk m c 2 t) (ix2 i j) = part m c t i j + (show FVec Ideal S1x1024 .f32 from iblk m c 2 t) (ix2 0 j) := by
  frame_out
  open_payloads
  pointwise
  rfl

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 32 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out0_at m c t (y 0) (y 1))).trans (Eq.trans ?_ (congrArg (ref _ _ _) (?_ : (ix2 ⟨t.val / 4 * 1024 + (y 0), by omega⟩ ⟨t.val % 4 * 1024 + (y 1), by omega⟩) = _)))
  · rw [ref_at]
    exact congrArg₂ (fun a b : EReal => a + b) (part_at m c t (y 0) (y 1) _ _ rfl rfl) (e0_at m c t (y 1) _ rfl)
  · blk_ext [idx t]

/-- The kernel's result is the reference's. -/
theorem algebraic : Cert.algebraic_CfInIdeal_RefCfInIdeal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.CfInIdeal.defs _ _).mono
      (fun _ h c => ⟨(h c).1.trans (final0 m c), (h c).2⟩) (Cert.CfInIdeal.Value.run_blocks m g)
  · exact (θ_run Cert.RefCfInIdeal.defs _ _).mono
      (fun _ h c => ⟨(h c).1.trans (congr (congrArg₂ ref (hagree c).1 (hagree c).2.1) (hagree c).2.2), (h c).2⟩) (Cert.RefCfInIdeal.Prod.run m' g')

/-- The printed program and its ideal form run the same body. -/
theorem same_defs : Cert.CfIn.defs (F := Bits) = defs := by
  refine congrArg (Pipeline.defs pcfgs) ?_
  unfold Cert.CfIn.defs₀ defs₀
  congr 1
  funext l x
  match l, x with
  | 0, (_, _) => rfl

/-- The printed program ends with its arguments unchanged: its run is that of the ideal form, over bits. -/
theorem frame_bits : Cert.quiescent_CfIn := fun m g _ => by
  rw [same_defs]
  exact frame (F := Bits) m g

end Cert.CfInIdeal.Prod

end
-- ==== Proof.PCfOut.lean ====
module

public import proofs.«01_k».proof.Defs
public import proofs.«01_k».proof.Proof.Gen.CfOutIdeal.Value
public import proofs.«01_k».proof.Proof.Gen.RefCfOutIdeal.Run
public import proofs.«01_k».proof.Proof.Gen.CfOut
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefCfOutIdeal.Prod

open Cert.RefCfOutIdeal Cert.RefCfOutIdeal.Gen Idealize.ShloMosaic Idealize.ShloMosaic.TcCoe Idealize.SL.Sem

/-- Element `(r, c)` of the layer's whole weight, in the stack of the devices' parts. -/
def wAt (w : FVec Ideal S4x1x512x2048 .bf16) (r : Fin 2048) (c : Fin 2048) : EReal := w (ix4 ⟨r / 512, by omega⟩ 0 ⟨r % 512, by omega⟩ c)

/-- Element `(i, j)` of the whole product. -/
def whole (x1 : FVec Ideal S8192x2048 .bf16) (x2 : FVec Ideal S4x1x512x2048 .bf16) (i : Fin 8192) (j : Fin 2048) : EReal :=
  ∑ r : Fin 2048, x1 (ix2 i r) * wAt x2 r j

/-- The reference's result. -/
def ref (x0 : FVec Ideal S8192x2048 .f32) (x1 : FVec Ideal S8192x2048 .bf16) (x2 : FVec Ideal S4x1x512x2048 .bf16) (x3 : FVec Ideal S1x2048 .f32) : FVec Ideal S8192x2048 .f32 :=
  addf x0 (addf (Host.dotGeneral dot_S8192x2048_S2048x2048_S8192x2048_1_0_0_1_n_n none (extf .f32 x1 bitsLt_bf16_f32) (extf .f32 (shapeCast _ (shapeCast _ x2 shapeCasts_S4x1x512x2048_S4x512x2048) shapeCasts_S4x512x2048_S2048x2048) bitsLt_bf16_f32)) (broadcastInDim S8192x2048 ![0, 1] bcast_S1x2048_S8192x2048_0_1 x3))

theorem ref_at (x0 : FVec Ideal S8192x2048 .f32) (x1 : FVec Ideal S8192x2048 .bf16) (x2 : FVec Ideal S4x1x512x2048 .bf16) (x3 : FVec Ideal S1x2048 .f32) (i : Fin 8192) (j : Fin 2048) :
    ref x0 x1 x2 x3 (ix2 i j) = whole x1 x2 i j + x3 (ix2 0 j) + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold ref
  exact Value.run m g

/-- The reference ends with its arguments unchanged. -/
theorem frame : Cert.quiescent_RefCfOutIdeal := fun m g _ =>
  (θ_run defs _ _).mono (fun r h => ⟨fun c => (h c).2, sem_eq_zero_of_no_sems (by decide) r.2⟩) (Value.run m g)

end Cert.RefCfOutIdeal.Prod

namespace Cert.CfOutIdeal.Prod

open Cert.CfOutIdeal Cert.CfOutIdeal.Gen Idealize.ShloMosaic Idealize.ShloMosaic.TcCoe Idealize.SL.Sem
open Cert.RefCfOutIdeal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, 0, t.val / 4 % 2]
    ∧ win0_2.index t = ![0, t.val / 4 % 2]
    ∧ win0_3.index t = ![t.val / 8, t.val / 4 % 2]
    ∧ win0_4.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 512, (show FVec Ideal S1024x512 .bf16 from iblk m c 0 t) (ix2 i r) * (show FVec Ideal S1x1x512x1024 .bf16 from iblk m c 1 t) (ix4 0 0 r j)

/-- The left block in the left array. -/
theorem a_at (c : Dev nD) (t : Fin cfg0.N) (i : Fin 1024) (r : Fin 512) (I : Fin 8192) (R : Fin 2048) (hI : (I : ℕ) = t.val / 8 * 1024 + i) (hR : (R : ℕ) = t.val % 4 * 512 + r) :
    (show FVec Ideal S1024x512 .bf16 from iblk m c 0 t) (ix2 i r) = (show FVec Ideal S8192x2048 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 512) (j : Fin 1024) (R : Fin 2048) (J : Fin 2048) (hR : (R : ℕ) = t.val % 4 * 512 + r) (hJ : (J : ℕ) = t.val / 4 % 2 * 1024 + j) :
    (show FVec Ideal S1x1x512x1024 .bf16 from iblk m c 1 t) (ix4 0 0 r j) = wAt (show FVec Ideal S4x1x512x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (j : Fin 1024) (J : Fin 2048) (hJ : (J : ℕ) = t.val / 4 % 2 * 1024 + j) :
    (show FVec Ideal S1x1024 .f32 from iblk m c 2 t) (ix2 0 j) = (show FVec Ideal S1x2048 .f32 from m ((c.tc : Thread nD τ).loc main_arg3)) (ix2 0 J) := by
  have ht : t.val < 64 := lt_of_lt_of_eq t.isLt N_eq
  blk_point [iblk, V, idx t]

/-- The block that is added or scaled with, in its array. -/
theorem e1_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 3 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 512 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1x1024 .f32 from iblk m c 2 t) (ix2 0 j) + (show FVec Ideal S1024x1024 .f32 from iblk m c 3 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 4 (cfgs 0).N = ref (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have ht : t.val < 64 := lt_of_lt_of_eq t.isLt N_eq
  have hl := (flush0_4 t).mp hf
  blk_simp
  have h0 : (y 0 : ℕ) < 1024 := (y 0).isLt
  have h1 : (y 1 : ℕ) < 1024 := (y 1).isLt
  have hy : y = ix2 (y 0) (y 1) := eq_ix2 y
  rw [after0_4]
  refine ((congrArg _ hy).trans (out_last m c t hl (y 0) (y 1))).trans (Eq.trans ?_ (congrArg (ref _ _ _ _) (?_ : (ix2 ⟨t.val / 8 * 1024 + (y 0), by omega⟩ ⟨t.val / 4 % 2 * 1024 + (y 1), by omega⟩) = _)))
  · rw [ref_at]
    exact congrArg₂ (fun a b : EReal => a + b) (congrArg₂ (fun a b : EReal => a + b) (acc_last m c t hl (y 0) (y 1) _ _ rfl rfl) (e0_at m c t (y 1) _ rfl)) (e1_at m c t (y 0) (y 1) _ _ rfl rfl)
  · blk_ext [idx t]

/-- The kernel's result is the reference's. -/
theorem algebraic : Cert.algebraic_CfOutIdeal_RefCfOutIdeal := by
  intro m g m' g' _ hagree
  refine ⟨fun c => ref (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.CfOutIdeal.defs _ _).mono
      (fun _ h c => ⟨(h c).1.trans (final0 m c), (h c).2⟩) (Cert.CfOutIdeal.Value.run_blocks m g)
  · exact (θ_run Cert.RefCfOutIdeal.defs _ _).mono
      (fun _ h c => ⟨(h c).1.trans (congr (congr (congrArg₂ ref (hagree c).1 (hagree c).2.1) (hagree c).2.2.1) (hagree c).2.2.2), (h c).2⟩) (Cert.RefCfOutIdeal.Prod.run m' g')

/-- The printed program and its ideal form run the same body. -/
theorem same_defs : Cert.CfOut.defs (F := Bits) = defs := by
  refine congrArg (Pipeline.defs pcfgs) ?_
  unfold Cert.CfOut.defs₀ defs₀
  congr 1
  funext l x
  match l, x with
  | 0, (_, _) => rfl

/-- The printed program ends with its arguments unchanged: its run is that of the ideal form, over bits. -/
theorem frame_bits : Cert.quiescent_CfOut := fun m g _ => by
  rw [same_defs]
  exact frame (F := Bits) m g

end Cert.CfOutIdeal.Prod

end
-- ==== Proof.PZ.lean ====
module

public import proofs.«01_k».proof.Defs
public import proofs.«01_k».proof.Proof.Gen.ZIdeal.Value
public import proofs.«01_k».proof.Proof.Gen.RefZIdeal.Run
public import proofs.«01_k».proof.Proof.Gen.Z
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefZIdeal.Prod

open Cert.RefZIdeal Cert.RefZIdeal.Gen Idealize.ShloMosaic Idealize.ShloMosaic.TcCoe Idealize.SL.Sem

/-- Element `(i, j)` of the whole product. -/
def whole (x0 : FVec Ideal S8192x2048 .bf16) (x1 : FVec Ideal S2048x4096 .bf16) (i : Fin 8192) (j : Fin 4096) : EReal :=
  ∑ r : Fin 2048, x0 (ix2 i r) * x1 (ix2 r j)

/-- The reference's result. -/
def ref (x0 : FVec Ideal S8192x2048 .bf16) (x1 : FVec Ideal S2048x4096 .bf16) : FVec Ideal S8192x4096 .f32 :=
  Host.dotGeneral dot_S8192x2048_S2048x4096_S8192x4096_1_0_0_1_n_n none (extf .f32 x0 bitsLt_bf16_f32) (extf .f32 x1 bitsLt_bf16_f32)

theorem ref_at (x0 : FVec Ideal S8192x2048 .bf16) (x1 : FVec Ideal S2048x4096 .bf16) (i : Fin 8192) (j : Fin 4096) :
    ref x0 x1 (ix2 i j) = whole x0 x1 i j := by
  unfold ref whole
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref
  exact Value.run m g

/-- The reference ends with its arguments unchanged. -/
theorem frame : Cert.quiescent_RefZIdeal := fun m g _ =>
  (θ_run defs _ _).mono (fun r h => ⟨fun c => (h c).2, sem_eq_zero_of_no_sems (by decide) r.2⟩) (Value.run m g)

end Cert.RefZIdeal.Prod

namespace Cert.ZIdeal.Prod

open Cert.ZIdeal Cert.ZIdeal.Gen Idealize.ShloMosaic Idealize.ShloMosaic.TcCoe Idealize.SL.Sem
open Cert.RefZIdeal.Prod (whole ref ref_at)

variable (m : (ℓ : Loc nD τ sig) → Buf (Elt Ideal) ℓ)

theorem N_eq : cfg0.N = 32 := by decide +kernel

/-- The block of each array at grid point `t`. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S2048x1024 .bf16 from iblk m c 1 t) (ix2 r j)

/-- The left block in the left array. -/
theorem a_at (c : Dev nD) (t : Fin cfg0.N) (i : Fin 1024) (r : Fin 2048) (I : Fin 8192) (R : Fin 2048) (hI : (I : ℕ) = t.val / 4 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 32 := lt_of_lt_of_eq t.isLt N_eq
  blk_point [iblk, V, idx t]

/-- The right block in the right array. -/
theorem b_at (c : Dev nD) (t : Fin cfg0.N) (r : Fin 2048) (j : Fin 1024) (R : Fin 2048) (J : Fin 4096) (hR : (R : ℕ) = r) (hJ : (J : ℕ) = t.val % 4 * 1024 + j) :
    (show FVec Ideal S2048x1024 .bf16 from iblk m c 1 t) (ix2 r j) = (show FVec Ideal S2048x4096 .bf16 from m ((c.tc : Thread nD τ).loc main_arg1)) (ix2 R J) := by
  have ht : t.val < 32 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 4096) (hI : (I : ℕ) = t.val / 4 * 1024 + i) (hJ : (J : ℕ) = t.val % 4 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 32 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 4 * 1024 + (y 0), by omega⟩ ⟨t.val % 4 * 1024 + (y 1), by omega⟩) = _)))
  · rw [ref_at]
    exact part_at m c t (y 0) (y 1) _ _ rfl rfl
  · blk_ext [idx t]

/-- The kernel's result is the reference's. -/
theorem algebraic : Cert.algebraic_ZIdeal_RefZIdeal := by
  intro m g m' g' _ hagree
  refine ⟨fun c => ref (m ((c.tc : Thread nD τ).loc main_arg0)) (m ((c.tc : Thread nD τ).loc main_arg1)), ?_, ?_⟩
  · exact (θ_run Cert.ZIdeal.defs _ _).mono
      (fun _ h c => ⟨(h c).1.trans (final0 m c), (h c).2⟩) (Cert.ZIdeal.Value.run_blocks m g)
  · exact (θ_run Cert.RefZIdeal.defs _ _).mono
      (fun _ h c => ⟨(h c).1.trans (congrArg₂ ref (hagree c).1 (hagree c).2), (h c).2⟩) (Cert.RefZIdeal.Prod.run m' g')

/-- The printed program and its ideal form run the same body. -/
theorem same_defs : Cert.Z.defs (F := Bits) = defs := by
  refine congrArg (Pipeline.defs pcfgs) ?_
  unfold Cert.Z.defs₀ defs₀
  congr 1
  funext l x
  match l, x with
  | 0, (_, _) => rfl

/-- The printed program ends with its arguments unchanged: its run is that of the ideal form, over bits. -/
theorem frame_bits : Cert.quiescent_Z := fun m g _ => by
  rw [same_defs]
  exact frame (F := Bits) m g

end Cert.ZIdeal.Prod

end
-- ==== Proof.PXbc.lean ====
module

public import proofs.«01_k».proof.Defs
public import proofs.«01_k».proof.Proof.Gen.XbcIdeal.Value
public import proofs.«01_k».proof.Proof.Gen.RefXbcIdeal.Run
public import proofs.«01_k».proof.Proof.Gen.Xbc
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefXbcIdeal.Prod

open Cert.RefXbcIdeal Cert.RefXbcIdeal.Gen Idealize.ShloMosaic Idealize.ShloMosaic.TcCoe Idealize.SL.Sem

/-- Element `(i, j)` of the whole product. -/
def whole (x0 : FVec Ideal S8192x2048 .bf16) (x1 : FVec Ideal S2048x6144 .bf16) (i : Fin 8192) (j : Fin 6144) : EReal :=
  ∑ r : Fin 2048, x0 (ix2 i r) * x1 (ix2 r j)

/-- The reference's result. -/
def ref (x0 : FVec Ideal S8192x2048 .bf16) (x1 : FVec Ideal S2048x6144 .bf16) : FVec Ideal S8192x6144 .f32 :=
  Host.dotGeneral dot_S8192x2048_S2048x6144_S8192x6144_1_0_0_1_n_n none (extf .f32 x0 bitsLt_bf16_f32) (extf .f32 x1 bitsLt_bf16_f32)

theorem ref_at (x0 : FVec Ideal S8192x2048 .bf16) (x1 : FVec Ideal S2048x6144 .bf16) (i : Fin 8192) (j : Fin 6144) :
    ref x0 x1 (ix2 i j) = whole x0 x1 i j := by
  unfold ref whole
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref
  exact Value.run m g

/-- The reference ends with its arguments unchanged. -/
theorem frame : Cert.quiescent_RefXbcIdeal := fun m g _ =>
  (θ_run defs _ _).mono (fun r h => ⟨fun c => (h c).2, sem_eq_zero_of_no_sems (by decide) r.2⟩) (Value.run m g)

end Cert.RefXbcIdeal.Prod

namespace Cert.XbcIdeal.Prod

open Cert.XbcIdeal Cert.XbcIdeal.Gen Idealize.ShloMosaic Idealize.ShloMosaic.TcCoe Idealize.SL.Sem
open Cert.RefXbcIdeal.Prod (whole ref ref_at)

variable (m : (ℓ : Loc nD τ sig) → Buf (Elt Ideal) ℓ)

theorem N_eq : cfg0.N = 48 := by decide +kernel

/-- The block of each array at grid point `t`. -/
theorem idx : ∀ t : Fin cfg0.N, win0_0.index t = ![t.val / 6, 0]
    ∧ win0_1.index t = ![0, t.val % 6]
    ∧ win0_2.index t = ![t.val / 6, t.val % 6] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 2048, (show FVec Ideal S1024x2048 .bf16 from iblk m c 0 t) (ix2 i r) * (show FVec Ideal S2048x1024 .bf16 from iblk m c 1 t) (ix2 r j)

/-- The left block in the left array. -/
theorem a_at (c : Dev nD) (t : Fin cfg0.N) (i : Fin 1024) (r : Fin 2048) (I : Fin 8192) (R : Fin 2048) (hI : (I : ℕ) = t.val / 6 * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 48 := lt_of_lt_of_eq t.isLt N_eq
  blk_point [iblk, V, idx t]

/-- The right block in the right array. -/
theorem b_at (c : Dev nD) (t : Fin cfg0.N) (r : Fin 2048) (j : Fin 1024) (R : Fin 2048) (J : Fin 6144) (hR : (R : ℕ) = r) (hJ : (J : ℕ) = t.val % 6 * 1024 + j) :
    (show FVec Ideal S2048x1024 .bf16 from iblk m c 1 t) (ix2 r j) = (show FVec Ideal S2048x6144 .bf16 from m ((c.tc : Thread nD τ).loc main_arg1)) (ix2 R J) := by
  have ht : t.val < 48 := lt_of_lt_of_eq t.isLt N_eq
  blk_point [iblk, V, idx t]

/-- The point's product is that part of the whole one. -/
theorem part_at (c : Dev nD) (t : Fin cfg0.N) (i : Fin 1024) (j : Fin 1024) (I : Fin 8192) (J : Fin 6144) (hI : (I : ℕ) = t.val / 6 * 1024 + i) (hJ : (J : ℕ) = t.val % 6 * 1024 + j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 1024) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 48 := lt_of_lt_of_eq t.isLt N_eq
  blk_simp
  have h0 : (y 0 : ℕ) < 1024 := (y 0).isLt
  have h1 : (y 1 : ℕ) < 1024 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val / 6 * 1024 + (y 0), by omega⟩ ⟨t.val % 6 * 1024 + (y 1), by omega⟩) = _)))
  · rw [ref_at]
    exact part_at m c t (y 0) (y 1) _ _ rfl rfl
  · blk_ext [idx t]

/-- The kernel's result is the reference's. -/
theorem algebraic : Cert.algebraic_XbcIdeal_RefXbcIdeal := by
  intro m g m' g' _ hagree
  refine ⟨fun c => ref (m ((c.tc : Thread nD τ).loc main_arg0)) (m ((c.tc : Thread nD τ).loc main_arg1)), ?_, ?_⟩
  · exact (θ_run Cert.XbcIdeal.defs _ _).mono
      (fun _ h c => ⟨(h c).1.trans (final0 m c), (h c).2⟩) (Cert.XbcIdeal.Value.run_blocks m g)
  · exact (θ_run Cert.RefXbcIdeal.defs _ _).mono
      (fun _ h c => ⟨(h c).1.trans (congrArg₂ ref (hagree c).1 (hagree c).2), (h c).2⟩) (Cert.RefXbcIdeal.Prod.run m' g')

/-- The printed program and its ideal form run the same body. -/
theorem same_defs : Cert.Xbc.defs (F := Bits) = defs := by
  refine congrArg (Pipeline.defs pcfgs) ?_
  unfold Cert.Xbc.defs₀ defs₀
  congr 1
  funext l x
  match l, x with
  | 0, (_, _) => rfl

/-- The printed program ends with its arguments unchanged: its run is that of the ideal form, over bits. -/
theorem frame_bits : Cert.quiescent_Xbc := fun m g _ => by
  rw [same_defs]
  exact frame (F := Bits) m g

end Cert.XbcIdeal.Prod

end
-- ==== Proof.PDt.lean ====
module

public import proofs.«01_k».proof.Defs
public import proofs.«01_k».proof.Proof.Gen.DtIdeal.Value
public import proofs.«01_k».proof.Proof.Gen.RefDtIdeal.Run
public import proofs.«01_k».proof.Proof.Gen.Dt
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefDtIdeal.Prod

open Cert.RefDtIdeal Cert.RefDtIdeal.Gen Idealize.ShloMosaic Idealize.ShloMosaic.TcCoe Idealize.SL.Sem

/-- Element `(i, j)` of the whole product. -/
def whole (x0 : FVec Ideal S8192x2048 .bf16) (x1 : FVec Ideal S2048x128 .bf16) (i : Fin 8192) (j : Fin 128) : EReal :=
  ∑ r : Fin 2048, x0 (ix2 i r) * x1 (ix2 r j)

/-- The reference's result. -/
def ref (x0 : FVec Ideal S8192x2048 .bf16) (x1 : FVec Ideal S2048x128 .bf16) : FVec Ideal S8192x128 .f32 :=
  Host.dotGeneral dot_S8192x2048_S2048x128_S8192x128_1_0_0_1_n_n none (extf .f32 x0 bitsLt_bf16_f32) (extf .f32 x1 bitsLt_bf16_f32)

theorem ref_at (x0 : FVec Ideal S8192x2048 .bf16) (x1 : FVec Ideal S2048x128 .bf16) (i : Fin 8192) (j : Fin 128) :
    ref x0 x1 (ix2 i j) = whole x0 x1 i j := by
  unfold ref whole
  pointwise

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold ref
  exact Value.run m g

/-- The reference ends with its arguments unchanged. -/
theorem frame : Cert.quiescent_RefDtIdeal := fun m g _ =>
  (θ_run defs _ _).mono (fun r h => ⟨fun c => (h c).2, sem_eq_zero_of_no_sems (by decide) r.2⟩) (Value.run m g)

end Cert.RefDtIdeal.Prod

namespace Cert.DtIdeal.Prod

open Cert.DtIdeal Cert.DtIdeal.Gen Idealize.ShloMosaic Idealize.ShloMosaic.TcCoe Idealize.SL.Sem
open Cert.RefDtIdeal.Prod (whole ref ref_at)

variable (m : (ℓ : Loc nD τ sig) → Buf (Elt Ideal) ℓ)

theorem N_eq : cfg0.N = 8 := by decide +kernel

/-- The block of each array at grid point `t`. -/
theorem idx : ∀ t : Fin cfg0.N, win0_0.index t = ![t.val, 0]
    ∧ win0_1.index t = ![0, 0]
    ∧ win0_2.index t = ![t.val, 0] :=
  (by decide +kernel : ∀ t : Fin grid0.N, _)

/-- What the point's two blocks contribute to element `(i, j)` of the result's block. -/
def part (c : Dev nD) (t : Fin cfg0.N) (i : Fin 1024) (j : Fin 128) : EReal :=
  ∑ r : Fin 2048, (show FVec Ideal S1024x2048 .bf16 from iblk m c 0 t) (ix2 i r) * (show FVec Ideal S2048x128 .bf16 from iblk m c 1 t) (ix2 r j)

/-- The left block in the left array. -/
theorem a_at (c : Dev nD) (t : Fin cfg0.N) (i : Fin 1024) (r : Fin 2048) (I : Fin 8192) (R : Fin 2048) (hI : (I : ℕ) = t.val * 1024 + i) (hR : (R : ℕ) = r) :
    (show FVec Ideal S1024x2048 .bf16 from iblk m c 0 t) (ix2 i r) = (show FVec Ideal S8192x2048 .bf16 from m ((c.tc : Thread nD τ).loc main_arg0)) (ix2 I R) := by
  have ht : t.val < 8 := lt_of_lt_of_eq t.isLt N_eq
  blk_point [iblk, V, idx t]

/-- The right block in the right array. -/
theorem b_at (c : Dev nD) (t : Fin cfg0.N) (r : Fin 2048) (j : Fin 128) (R : Fin 2048) (J : Fin 128) (hR : (R : ℕ) = r) (hJ : (J : ℕ) = j) :
    (show FVec Ideal S2048x128 .bf16 from iblk m c 1 t) (ix2 r j) = (show FVec Ideal S2048x128 .bf16 from m ((c.tc : Thread nD τ).loc main_arg1)) (ix2 R J) := by
  have ht : t.val < 8 := lt_of_lt_of_eq t.isLt N_eq
  blk_point [iblk, V, idx t]

/-- The point's product is that part of the whole one. -/
theorem part_at (c : Dev nD) (t : Fin cfg0.N) (i : Fin 1024) (j : Fin 128) (I : Fin 8192) (J : Fin 128) (hI : (I : ℕ) = t.val * 1024 + i) (hJ : (J : ℕ) = j) :
    part m c t i j = whole (m ((c.tc : Thread nD τ).loc main_arg0)) (m ((c.tc : Thread nD τ).loc main_arg1)) I J :=
  Finset.sum_congr rfl fun r _ => congrArg₂ (fun a b : EReal => a * b) (a_at m c t i r I r hI rfl) (b_at m c t r j r J rfl hJ)

/-- What a point leaves in its block of the result. -/
theorem out0_at (c : Dev nD) (t : Fin cfg0.N) (i : Fin 1024) (j : Fin 128) :
    out0_2 (F := Ideal) (iblk m c 0 t) (iblk m c 1 t) (ix2 i j) = part m c t i j := by
  frame_out
  open_payloads
  pointwise
  rfl

/-- The array of the result. -/
theorem final0 (c : Dev nD) : (dats m 0 c).arrAt 2 (cfgs 0).N = ref (m ((c.tc : Thread nD τ).loc main_arg0)) (m ((c.tc : Thread nD τ).loc main_arg1)) := by
  refine (dats m 0 c).arrAt_eq_of_covers 2 _ (by decide +kernel) fun t hf y => ?_
  have ht : t.val < 8 := lt_of_lt_of_eq t.isLt N_eq
  blk_simp
  have h0 : (y 0 : ℕ) < 1024 := (y 0).isLt
  have h1 : (y 1 : ℕ) < 128 := (y 1).isLt
  have hy : y = ix2 (y 0) (y 1) := eq_ix2 y
  rw [after0_2]
  refine ((congrArg _ hy).trans (out0_at m c t (y 0) (y 1))).trans (Eq.trans ?_ (congrArg (ref _ _) (?_ : (ix2 ⟨t.val * 1024 + (y 0), by omega⟩ ⟨(y 1), by omega⟩) = _)))
  · rw [ref_at]
    exact part_at m c t (y 0) (y 1) _ _ rfl rfl
  · blk_ext [idx t]

/-- The kernel's result is the reference's. -/
theorem algebraic : Cert.algebraic_DtIdeal_RefDtIdeal := by
  intro m g m' g' _ hagree
  refine ⟨fun c => ref (m ((c.tc : Thread nD τ).loc main_arg0)) (m ((c.tc : Thread nD τ).loc main_arg1)), ?_, ?_⟩
  · exact (θ_run Cert.DtIdeal.defs _ _).mono
      (fun _ h c => ⟨(h c).1.trans (final0 m c), (h c).2⟩) (Cert.DtIdeal.Value.run_blocks m g)
  · exact (θ_run Cert.RefDtIdeal.defs _ _).mono
      (fun _ h c => ⟨(h c).1.trans (congrArg₂ ref (hagree c).1 (hagree c).2), (h c).2⟩) (Cert.RefDtIdeal.Prod.run m' g')

/-- The printed program and its ideal form run the same body. -/
theorem same_defs : Cert.Dt.defs (F := Bits) = defs := by
  refine congrArg (Pipeline.defs pcfgs) ?_
  unfold Cert.Dt.defs₀ defs₀
  congr 1
  funext l x
  match l, x with
  | 0, (_, _) => rfl

/-- The printed program ends with its arguments unchanged: its run is that of the ideal form, over bits. -/
theorem frame_bits : Cert.quiescent_Dt := fun m g _ => by
  rw [same_defs]
  exact frame (F := Bits) m g

end Cert.DtIdeal.Prod

end
-- ==== Proof.PM2Out0.lean ====
module

public import proofs.«01_k».proof.Defs
public import proofs.«01_k».proof.Proof.Gen.M2Out0Ideal.Value
public import proofs.«01_k».proof.Proof.Gen.RefM2Out0Ideal.Run
public import proofs.«01_k».proof.Proof.Gen.M2Out0
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefM2Out0Ideal.Prod

open Cert.RefM2Out0Ideal Cert.RefM2Out0Ideal.Gen Idealize.ShloMosaic Idealize.ShloMosaic.TcCoe Idealize.SL.Sem

/-- Element `(r, c)` of the layer's whole weight, in the stack of the devices' parts. -/
def wAt (w : FVec Ideal S4x1x1024x2048 .bf16) (r : Fin 4096) (c : Fin 2048) : EReal := w (ix4 ⟨r / 1024, by omega⟩ 0 ⟨r % 1024, by omega⟩ c)

/-- Element `(i, j)` of the whole product. -/
def whole (x1 : FVec Ideal S8192x4096 .bf16) (x2 : FVec Ideal S4x1x1024x2048 .bf16) (i : Fin 8192) (j : Fin 2048) : EReal :=
  ∑ r : Fin 4096, x1 (ix2 i r) * wAt x2 r j

/-- The reference's result. -/
def ref (x0 : FVec Ideal S8192x2048 .f32) (x1 : FVec Ideal S8192x4096 .bf16) (x2 : FVec Ideal S4x1x1024x2048 .bf16) : FVec Ideal S8192x2048 .f32 :=
  addf x0 (Host.dotGeneral dot_S8192x4096_S4096x2048_S8192x2048_1_0_0_1_n_n none (extf .f32 x1 bitsLt_bf16_f32) (extf .f32 (shapeCast _ (shapeCast _ x2 shapeCasts_S4x1x1024x2048_S4x1024x2048) shapeCasts_S4x1024x2048_S4096x2048) bitsLt_bf16_f32))

theorem ref_at (x0 : FVec Ideal S8192x2048 .f32) (x1 : FVec Ideal S8192x4096 .bf16) (x2 : FVec Ideal S4x1x1024x2048 .bf16) (i : Fin 8192) (j : Fin 2048) :
    ref x0 x1 x2 (ix2 i j) = whole x1 x2 i j + x0 (ix2 i j) := by
  unfold ref whole wAt
  pointwise
  exact add_comm _ _

/-- The reference leaves this result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold ref
  exact Value.run m g

/-- The reference ends with its arguments unchanged. -/
theorem frame : Cert.quiescent_RefM2Out0Ideal := fun m g _ =>
  (θ_run defs _ _).mono (fun r h => ⟨fun c => (h c).2, sem_eq_zero_of_no_sems (by decide) r.2⟩) (Value.run m g)

end Cert.RefM2Out0Ideal.Prod

namespace Cert.M2Out0Ideal.Prod

open Cert.M2Out0Ideal Cert.M2Out0Ideal.Gen Idealize.ShloMosaic Idealize.ShloMosaic.TcCoe Idealize.SL.Sem
open Cert.RefM2Out0Ideal.Prod (wAt whole ref ref_at)

variable (m : (ℓ : Loc nD τ sig) → Buf (Elt Ideal) ℓ)

theorem N_eq : cfg0.N = 64 := by decide +kernel

/-- The block of each array at grid point `t`. -/
theorem idx : ∀ t : Fin cfg0.N, win0_0.index t = ![t.val / 8, t.val % 4]
    ∧ win0_1.index t = ![t.val % 4, 0, 0, t.val / 4 % 2]
    ∧ win0_2.index t = ![t.val / 8, t.val / 4 % 2]
    ∧ win0_3.index t = ![t.val / 8, t.val / 4 % 2] :=
  (by decide +kernel : ∀ t : Fin grid0.N, _)

/-- What the point's two blocks contribute to element `(i, j)` of the result's block. -/
def part (c : Dev nD) (t : Fin cfg0.N) (i : Fin 1024) (j : Fin 1024) : EReal :=
  ∑ r : Fin 1024, (show FVec Ideal S1024x1024 .bf16 from iblk m c 0 t) (ix2 i r) * (show FVec Ideal S1x1x1024x1024 .bf16 from iblk m c 1 t) (ix4 0 0 r j)

/-- The left block in the left array. -/
theorem a_at (c : Dev nD) (t : Fin cfg0.N) (i : Fin 1024) (r : Fin 1024) (I : Fin 8192) (R : Fin 4096) (hI : (I : ℕ) = t.val / 8 * 1024 + i) (hR : (R : ℕ) = t.val % 4 * 1024 + r) :
    (show FVec Ideal S1024x1024 .bf16 from iblk m c 0 t) (ix2 i r) = (show FVec Ideal S8192x4096 .bf16 from m ((c.tc : Thread nD τ).loc main_arg1)) (ix2 I R) := by
  have ht : t.val < 64 := lt_of_lt_of_eq t.isLt N_eq
  blk_point [iblk, V, idx t]

/-- The right block in the right array. -/
theorem b_at (c : Dev nD) (t : Fin cfg0.N) (r : Fin 1024) (j : Fin 1024) (R : Fin 4096) (J : Fin 2048) (hR : (R : ℕ) = t.val % 4 * 1024 + r) (hJ : (J : ℕ) = t.val / 4 % 2 * 1024 + j) :
    (show FVec Ideal S1x1x1024x1024 .bf16 from iblk m c 1 t) (ix4 0 0 r j) = wAt (show FVec Ideal S4x1x1024x2048 .bf16 from m ((c.tc : Thread nD τ).loc main_arg2)) R J := by
  have ht : t.val < 64 := lt_of_lt_of_eq t.isLt N_eq
  unfold wAt
  blk_point [iblk, V, idx t]

/-- The block that is added or scaled with, in its array. -/
theorem e0_at (c : Dev nD) (t : Fin cfg0.N) (i : Fin 1024) (j : Fin 1024) (I : Fin 8192) (J : Fin 2048) (hI : (I : ℕ) = t.val / 8 * 1024 + i) (hJ : (J : ℕ) = t.val / 4 % 2 * 1024 + j) :
    (show FVec Ideal S1024x1024 .f32 from iblk m c 2 t) (ix2 i j) = (show FVec Ideal S8192x2048 .f32 from m ((c.tc : Thread nD τ).loc main_arg0)) (ix2 I J) := by
  have ht : t.val < 64 := lt_of_lt_of_eq t.isLt N_eq
  blk_point [iblk, V, idx t]

/-- The points of one run make up the whole product. -/
theorem parts_sum (c : Dev nD) (t : Fin cfg0.N) (p : Fin 4 → Fin cfg0.N) (hp : ∀ s, (p s : ℕ) = 4 * (t.val / 4) + s) (i : Fin 1024) (j : Fin 1024) (I : Fin 8192) (J : Fin 2048) (hI : (I : ℕ) = t.val / 8 * 1024 + i) (hJ : (J : ℕ) = t.val / 4 % 2 * 1024 + j) :
    ∑ s : Fin 4, part m c (p s) i j = whole (m ((c.tc : Thread nD τ).loc main_arg1)) (m ((c.tc : Thread nD τ).loc main_arg2)) I J := by
  refine Eq.trans ?_ (Fin.sum_univ_tiles (M := EReal) 4 1024 rfl _).symm
  refine Finset.sum_congr rfl fun s _ => Finset.sum_congr rfl fun r _ => ?_
  have hs := s.isLt
  have h := hp s
  exact congrArg₂ (fun a b : EReal => a * b) (a_at m c (p s) i r I _ (by omega) (by dsimp only; rw [show (p s : ℕ) % 4 = s by omega]))
    (b_at m c (p s) r j _ J (by dsimp only; rw [show (p s : ℕ) % 4 = s by omega]) (by omega))

/-- The first point of a run leaves its own part. -/
theorem acc_first (c : Dev nD) (t : Fin cfg0.N) (h0 : t.val % 4 = 0) (i : Fin 1024) (j : Fin 1024) :
    (outsAt0 m c t.val t.isLt) (ix2 i j) = part m c t i j := by
  rw [outsAt0_A m c t h0 (by omega) (by omega)]
  frame_out
  open_payloads
  pointwise
  rfl

/-- The points between add theirs. -/
theorem acc_mid (c : Dev nD) (t : Fin cfg0.N) (h0 : ¬ t.val % 4 = 0) (h2 : ¬ t.val % 4 = 3) (i : Fin 1024) (j : Fin 1024) :
    (outsAt0 m c t.val t.isLt) (ix2 i j) = (outsAt0 m c (t.val - 1) (Nat.lt_of_le_of_lt (Nat.sub_le _ _) t.isLt)) (ix2 i j) + part m c t i j := by
  rw [outsAt0_B m c t h0 (by omega) h2]
  frame_out
  open_payloads
  pointwise
  rfl

/-- The last point writes the sum and what goes with it. -/
theorem out_last (c : Dev nD) (t : Fin cfg0.N) (h2 : t.val % 4 = 3) (i : Fin 1024) (j : Fin 1024) :
    (outsAt0 m c t.val t.isLt) (ix2 i j) = (show EReal from (outsAt0 m c (t.val - 1) (Nat.lt_of_le_of_lt (Nat.sub_le _ _) t.isLt)) (ix2 i j)) + part m c t i j + (show FVec Ideal S1024x1024 .f32 from iblk m c 2 t) (ix2 i j) := by
  rw [outsAt0_C m c t (by omega) (by omega) h2]
  frame_out
  open_payloads
  pointwise
  rfl

/-- The running sum at the end of a run is the whole product. -/
theorem acc_last (c : Dev nD) (t : Fin cfg0.N) (hl : t.val % 4 = 3) (i : Fin 1024) (j : Fin 1024) (I : Fin 8192) (J : Fin 2048) (hI : (I : ℕ) = t.val / 8 * 1024 + i) (hJ : (J : ℕ) = t.val / 4 % 2 * 1024 + j) :
    (show EReal from (outsAt0 m c (t.val - 1) (Nat.lt_of_le_of_lt (Nat.sub_le _ _) t.isLt)) (ix2 i j)) + part m c t i j = whole (m ((c.tc : Thread nD τ).loc main_arg1)) (m ((c.tc : Thread nD τ).loc main_arg2)) I J := by
  exact Eq.trans (Cert.Products.run_total (fun n h (y : Fin 1024 × Fin 1024) => (show EReal from (outsAt0 m c n h) (ix2 y.1 y.2))) (fun p y => part m c p y.1 y.2) 4
    (fun t h y => acc_first m c t h y.1 y.2) (fun t h h' y => acc_mid m c t h h' y.1 y.2) t hl (by decide) (i, j))
    (parts_sum m c t _ (fun _ => rfl) i j I J hI hJ)

/-- The array of the result. -/
theorem final0 (c : Dev nD) : (dats m 0 c).arrAt 3 (cfgs 0).N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 64 := lt_of_lt_of_eq t.isLt N_eq
  have hl := (flush0_3 t).mp hf
  blk_simp
  have h0 : (y 0 : ℕ) < 1024 := (y 0).isLt
  have h1 : (y 1 : ℕ) < 1024 := (y 1).isLt
  have hy : y = ix2 (y 0) (y 1) := eq_ix2 y
  rw [after0_3]
  refine ((congrArg _ hy).trans (out_last m c t hl (y 0) (y 1))).trans (Eq.trans ?_ (congrArg (ref _ _ _) (?_ : (ix2 ⟨t.val / 8 * 1024 + (y 0), by omega⟩ ⟨t.val / 4 % 2 * 1024 + (y 1), by omega⟩) = _)))
  · rw [ref_at]
    exact congrArg₂ (fun a b : EReal => a + b) (acc_last m c t hl (y 0) (y 1) _ _ rfl rfl) (e0_at m c t (y 0) (y 1) _ _ rfl rfl)
  · blk_ext [idx t]

/-- The kernel's result is the reference's. -/
theorem algebraic : Cert.algebraic_M2Out0Ideal_RefM2Out0Ideal := by
  intro m g m' g' _ hagree
  refine ⟨fun c => ref (m ((c.tc : Thread nD τ).loc main_arg0)) (m ((c.tc : Thread nD τ).loc main_arg1)) (m ((c.tc : Thread nD τ).loc main_arg2)), ?_, ?_⟩
  · exact (θ_run Cert.M2Out0Ideal.defs _ _).mono
      (fun _ h c => ⟨(h c).1.trans (final0 m c), (h c).2⟩) (Cert.M2Out0Ideal.Value.run_blocks m g)
  · exact (θ_run Cert.RefM2Out0Ideal.defs _ _).mono
      (fun _ h c => ⟨(h c).1.trans (congr (congrArg₂ ref (hagree c).1 (hagree c).2.1) (hagree c).2.2), (h c).2⟩) (Cert.RefM2Out0Ideal.Prod.run m' g')

/-- The printed program and its ideal form run the same body. -/
theorem same_defs : Cert.M2Out0.defs (F := Bits) = defs := by
  refine congrArg (Pipeline.defs pcfgs) ?_
  unfold Cert.M2Out0.defs₀ defs₀
  congr 1
  funext l x
  match l, x with
  | 0, (_, _) => rfl

/-- The printed program ends with its arguments unchanged: its run is that of the ideal form, over bits. -/
theorem frame_bits : Cert.quiescent_M2Out0 := fun m g _ => by
  rw [same_defs]
  exact frame (F := Bits) m g

end Cert.M2Out0Ideal.Prod

end
-- ==== Proof.PAdamQkv.lean ====
module

public import proofs.«01_k».proof.Defs
public import proofs.«01_k».proof.Proof.Gen.AdamQkvIdeal.Value
public import proofs.«01_k».proof.Proof.Gen.RefAdamQkvIdeal.Run
public import proofs.«01_k».proof.Proof.Gen.AdamQkv
public import Idealize.ShloMosaic.Lib.Claim
public import Idealize.ShloMosaic.Lib.Quiescent

@[expose] public section

set_option maxRecDepth 16384

noncomputable section

namespace Cert.RefAdamQkvIdeal.Prod

open Cert.RefAdamQkvIdeal Cert.RefAdamQkvIdeal.Gen Idealize.ShloMosaic Idealize.ShloMosaic.TcCoe Idealize.SL.Sem

/-- The update. -/
def delta (x0 x1 x2 x3 : FVec Ideal S4096x1536 .f32) : FVec Ideal S4096x1536 .f32 :=
  mulf (broadcastInDim S4096x1536 ![] bcast_S_S4096x1536 (constant S_ .f32 0xBA83126F#32)) (addf (Host.divf (Host.divf (addf (mulf (broadcastInDim S4096x1536 ![] bcast_S_S4096x1536 (constant S_ .f32 0x3F666666#32)) x1) (mulf (broadcastInDim S4096x1536 ![] bcast_S_S4096x1536 (constant S_ .f32 0x3DCCCCCD#32)) x3)) (broadcastInDim S4096x1536 ![] bcast_S_S4096x1536 (constant S_ .f32 0x3F26BD02#32))) (addf (Host.sqrt (Host.divf (addf (mulf (broadcastInDim S4096x1536 ![] bcast_S_S4096x1536 (constant S_ .f32 0x3F7FBE77#32)) x2) (mulf (broadcastInDim S4096x1536 ![] bcast_S_S4096x1536 (constant S_ .f32 0x3A83126F#32)) (mulf x3 x3))) (broadcastInDim S4096x1536 ![] bcast_S_S4096x1536 (constant S_ .f32 0x3C231ACC#32)))) (broadcastInDim S4096x1536 ![] bcast_S_S4096x1536 (constant S_ .f32 0x322BCC77#32)))) (mulf (broadcastInDim S4096x1536 ![] bcast_S_S4096x1536 (constant S_ .f32 0x3C23D70A#32)) x0))

/-- The first moment. -/
def mom (x1 x3 : FVec Ideal S4096x1536 .f32) : FVec Ideal S4096x1536 .f32 :=
  addf (mulf (broadcastInDim S4096x1536 ![] bcast_S_S4096x1536 (constant S_ .f32 0x3F666666#32)) x1) (mulf (broadcastInDim S4096x1536 ![] bcast_S_S4096x1536 (constant S_ .f32 0x3DCCCCCD#32)) x3)

/-- The second moment. -/
def sq (x2 x3 : FVec Ideal S4096x1536 .f32) : FVec Ideal S4096x1536 .f32 :=
  addf (mulf (broadcastInDim S4096x1536 ![] bcast_S_S4096x1536 (constant S_ .f32 0x3F7FBE77#32)) x2) (mulf (broadcastInDim S4096x1536 ![] bcast_S_S4096x1536 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamQkvIdeal := fun m g _ =>
  (θ_run defs _ _).mono (fun r h => ⟨fun c => (h c).2.2.2, sem_eq_zero_of_no_sems (by decide) r.2⟩) (Value.run m g)

end Cert.RefAdamQkvIdeal.Prod

namespace Cert.AdamQkvIdeal.Prod

open Cert.AdamQkvIdeal Cert.AdamQkvIdeal.Gen Idealize.ShloMosaic Idealize.ShloMosaic.TcCoe Idealize.SL.Sem
open Cert.RefAdamQkvIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamQkvIdeal_RefAdamQkvIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamQkvIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamQkvIdeal.Prod.run m' g')

/-- The printed program and its ideal form run the same body. -/
theorem same_defs : Cert.AdamQkv.defs (F := Bits) = defs := by
  refine congrArg (Pipeline.defs pcfgs) ?_
  unfold Cert.AdamQkv.defs₀ defs₀
  congr 1
  funext l x
  match l, x with
  | 0, (_, _) => rfl

/-- The printed program ends with its arguments unchanged: its run is that of the ideal form, over bits. -/
theorem frame_bits : Cert.quiescent_AdamQkv := fun m g _ => by
  rw [same_defs]
  exact frame (F := Bits) m g

end Cert.AdamQkvIdeal.Prod

end
-- ==== Proof.PAdamO.lean ====
module

public import proofs.«01_k».proof.Defs
public import proofs.«01_k».proof.Proof.Gen.AdamOIdeal.Value
public import proofs.«01_k».proof.Proof.Gen.RefAdamOIdeal.Run
public import proofs.«01_k».proof.Proof.Gen.AdamO
public import Idealize.ShloMosaic.Lib.Claim
public import Idealize.ShloMosaic.Lib.Quiescent

@[expose] public section

set_option maxRecDepth 16384

noncomputable section

namespace Cert.RefAdamOIdeal.Prod

open Cert.RefAdamOIdeal Cert.RefAdamOIdeal.Gen Idealize.ShloMosaic Idealize.ShloMosaic.TcCoe Idealize.SL.Sem

/-- The update. -/
def delta (x0 x1 x2 x3 : FVec Ideal S1024x2048 .f32) : FVec Ideal S1024x2048 .f32 :=
  mulf (broadcastInDim S1024x2048 ![] bcast_S_S1024x2048 (constant S_ .f32 0xBA83126F#32)) (addf (Host.divf (Host.divf (addf (mulf (broadcastInDim S1024x2048 ![] bcast_S_S1024x2048 (constant S_ .f32 0x3F666666#32)) x1) (mulf (broadcastInDim S1024x2048 ![] bcast_S_S1024x2048 (constant S_ .f32 0x3DCCCCCD#32)) x3)) (broadcastInDim S1024x2048 ![] bcast_S_S1024x2048 (constant S_ .f32 0x3F26BD02#32))) (addf (Host.sqrt (Host.divf (addf (mulf (broadcastInDim S1024x2048 ![] bcast_S_S1024x2048 (constant S_ .f32 0x3F7FBE77#32)) x2) (mulf (broadcastInDim S1024x2048 ![] bcast_S_S1024x2048 (constant S_ .f32 0x3A83126F#32)) (mulf x3 x3))) (broadcastInDim S1024x2048 ![] bcast_S_S1024x2048 (constant S_ .f32 0x3C231ACC#32)))) (broadcastInDim S1024x2048 ![] bcast_S_S1024x2048 (constant S_ .f32 0x322BCC77#32)))) (mulf (broadcastInDim S1024x2048 ![] bcast_S_S1024x2048 (constant S_ .f32 0x3C23D70A#32)) x0))

/-- The first moment. -/
def mom (x1 x3 : FVec Ideal S1024x2048 .f32) : FVec Ideal S1024x2048 .f32 :=
  addf (mulf (broadcastInDim S1024x2048 ![] bcast_S_S1024x2048 (constant S_ .f32 0x3F666666#32)) x1) (mulf (broadcastInDim S1024x2048 ![] bcast_S_S1024x2048 (constant S_ .f32 0x3DCCCCCD#32)) x3)

/-- The second moment. -/
def sq (x2 x3 : FVec Ideal S1024x2048 .f32) : FVec Ideal S1024x2048 .f32 :=
  addf (mulf (broadcastInDim S1024x2048 ![] bcast_S_S1024x2048 (constant S_ .f32 0x3F7FBE77#32)) x2) (mulf (broadcastInDim S1024x2048 ![] bcast_S_S1024x2048 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamOIdeal := fun m g _ =>
  (θ_run defs _ _).mono (fun r h => ⟨fun c => (h c).2.2.2, sem_eq_zero_of_no_sems (by decide) r.2⟩) (Value.run m g)

end Cert.RefAdamOIdeal.Prod

namespace Cert.AdamOIdeal.Prod

open Cert.AdamOIdeal Cert.AdamOIdeal.Gen Idealize.ShloMosaic Idealize.ShloMosaic.TcCoe Idealize.SL.Sem
open Cert.RefAdamOIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamOIdeal_RefAdamOIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamOIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamOIdeal.Prod.run m' g')

/-- The printed program and its ideal form run the same body. -/
theorem same_defs : Cert.AdamO.defs (F := Bits) = defs := by
  refine congrArg (Pipeline.defs pcfgs) ?_
  unfold Cert.AdamO.defs₀ defs₀
  congr 1
  funext l x
  match l, x with
  | 0, (_, _) => rfl

/-- The printed program ends with its arguments unchanged: its run is that of the ideal form, over bits. -/
theorem frame_bits : Cert.quiescent_AdamO := fun m g _ => by
  rw [same_defs]
  exact frame (F := Bits) m g

end Cert.AdamOIdeal.Prod

end
-- ==== Proof.PAdamCfIn.lean ====
module

public import proofs.«01_k».proof.Defs
public import proofs.«01_k».proof.Proof.Gen.AdamCfInIdeal.Value
public import proofs.«01_k».proof.Proof.Gen.RefAdamCfInIdeal.Run
public import proofs.«01_k».proof.Proof.Gen.AdamCfIn
public import Idealize.ShloMosaic.Lib.Claim
public import Idealize.ShloMosaic.Lib.Quiescent

@[expose] public section

set_option maxRecDepth 16384

noncomputable section

namespace Cert.RefAdamCfInIdeal.Prod

open Cert.RefAdamCfInIdeal Cert.RefAdamCfInIdeal.Gen Idealize.ShloMosaic Idealize.ShloMosaic.TcCoe Idealize.SL.Sem

/-- The update. -/
def delta (x0 x1 x2 x3 : FVec Ideal S2048x1024 .f32) : FVec Ideal S2048x1024 .f32 :=
  mulf (broadcastInDim S2048x1024 ![] bcast_S_S2048x1024 (constant S_ .f32 0xBA83126F#32)) (addf (Host.divf (Host.divf (addf (mulf (broadcastInDim S2048x1024 ![] bcast_S_S2048x1024 (constant S_ .f32 0x3F666666#32)) x1) (mulf (broadcastInDim S2048x1024 ![] bcast_S_S2048x1024 (constant S_ .f32 0x3DCCCCCD#32)) x3)) (broadcastInDim S2048x1024 ![] bcast_S_S2048x1024 (constant S_ .f32 0x3F26BD02#32))) (addf (Host.sqrt (Host.divf (addf (mulf (broadcastInDim S2048x1024 ![] bcast_S_S2048x1024 (constant S_ .f32 0x3F7FBE77#32)) x2) (mulf (broadcastInDim S2048x1024 ![] bcast_S_S2048x1024 (constant S_ .f32 0x3A83126F#32)) (mulf x3 x3))) (broadcastInDim S2048x1024 ![] bcast_S_S2048x1024 (constant S_ .f32 0x3C231ACC#32)))) (broadcastInDim S2048x1024 ![] bcast_S_S2048x1024 (constant S_ .f32 0x322BCC77#32)))) (mulf (broadcastInDim S2048x1024 ![] bcast_S_S2048x1024 (constant S_ .f32 0x3C23D70A#32)) x0))

/-- The first moment. -/
def mom (x1 x3 : FVec Ideal S2048x1024 .f32) : FVec Ideal S2048x1024 .f32 :=
  addf (mulf (broadcastInDim S2048x1024 ![] bcast_S_S2048x1024 (constant S_ .f32 0x3F666666#32)) x1) (mulf (broadcastInDim S2048x1024 ![] bcast_S_S2048x1024 (constant S_ .f32 0x3DCCCCCD#32)) x3)

/-- The second moment. -/
def sq (x2 x3 : FVec Ideal S2048x1024 .f32) : FVec Ideal S2048x1024 .f32 :=
  addf (mulf (broadcastInDim S2048x1024 ![] bcast_S_S2048x1024 (constant S_ .f32 0x3F7FBE77#32)) x2) (mulf (broadcastInDim S2048x1024 ![] bcast_S_S2048x1024 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamCfInIdeal := fun m g _ =>
  (θ_run defs _ _).mono (fun r h => ⟨fun c => (h c).2.2.2, sem_eq_zero_of_no_sems (by decide) r.2⟩) (Value.run m g)

end Cert.RefAdamCfInIdeal.Prod

namespace Cert.AdamCfInIdeal.Prod

open Cert.AdamCfInIdeal Cert.AdamCfInIdeal.Gen Idealize.ShloMosaic Idealize.ShloMosaic.TcCoe Idealize.SL.Sem
open Cert.RefAdamCfInIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamCfInIdeal_RefAdamCfInIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamCfInIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamCfInIdeal.Prod.run m' g')

/-- The printed program and its ideal form run the same body. -/
theorem same_defs : Cert.AdamCfIn.defs (F := Bits) = defs := by
  refine congrArg (Pipeline.defs pcfgs) ?_
  unfold Cert.AdamCfIn.defs₀ defs₀
  congr 1
  funext l x
  match l, x with
  | 0, (_, _) => rfl

/-- The printed program ends with its arguments unchanged: its run is that of the ideal form, over bits. -/
theorem frame_bits : Cert.quiescent_AdamCfIn := fun m g _ => by
  rw [same_defs]
  exact frame (F := Bits) m g

end Cert.AdamCfInIdeal.Prod

end
-- ==== Proof.PAdamCfOut.lean ====
module

public import proofs.«01_k».proof.Defs
public import proofs.«01_k».proof.Proof.Gen.AdamCfOutIdeal.Value
public import proofs.«01_k».proof.Proof.Gen.RefAdamCfOutIdeal.Run
public import proofs.«01_k».proof.Proof.Gen.AdamCfOut
public import Idealize.ShloMosaic.Lib.Claim
public import Idealize.ShloMosaic.Lib.Quiescent

@[expose] public section

set_option maxRecDepth 16384

noncomputable section

namespace Cert.RefAdamCfOutIdeal.Prod

open Cert.RefAdamCfOutIdeal Cert.RefAdamCfOutIdeal.Gen Idealize.ShloMosaic Idealize.ShloMosaic.TcCoe Idealize.SL.Sem

/-- The update. -/
def delta (x0 x1 x2 x3 : FVec Ideal S512x2048 .f32) : FVec Ideal S512x2048 .f32 :=
  mulf (broadcastInDim S512x2048 ![] bcast_S_S512x2048 (constant S_ .f32 0xBA83126F#32)) (addf (Host.divf (Host.divf (addf (mulf (broadcastInDim S512x2048 ![] bcast_S_S512x2048 (constant S_ .f32 0x3F666666#32)) x1) (mulf (broadcastInDim S512x2048 ![] bcast_S_S512x2048 (constant S_ .f32 0x3DCCCCCD#32)) x3)) (broadcastInDim S512x2048 ![] bcast_S_S512x2048 (constant S_ .f32 0x3F26BD02#32))) (addf (Host.sqrt (Host.divf (addf (mulf (broadcastInDim S512x2048 ![] bcast_S_S512x2048 (constant S_ .f32 0x3F7FBE77#32)) x2) (mulf (broadcastInDim S512x2048 ![] bcast_S_S512x2048 (constant S_ .f32 0x3A83126F#32)) (mulf x3 x3))) (broadcastInDim S512x2048 ![] bcast_S_S512x2048 (constant S_ .f32 0x3C231ACC#32)))) (broadcastInDim S512x2048 ![] bcast_S_S512x2048 (constant S_ .f32 0x322BCC77#32)))) (mulf (broadcastInDim S512x2048 ![] bcast_S_S512x2048 (constant S_ .f32 0x3C23D70A#32)) x0))

/-- The first moment. -/
def mom (x1 x3 : FVec Ideal S512x2048 .f32) : FVec Ideal S512x2048 .f32 :=
  addf (mulf (broadcastInDim S512x2048 ![] bcast_S_S512x2048 (constant S_ .f32 0x3F666666#32)) x1) (mulf (broadcastInDim S512x2048 ![] bcast_S_S512x2048 (constant S_ .f32 0x3DCCCCCD#32)) x3)

/-- The second moment. -/
def sq (x2 x3 : FVec Ideal S512x2048 .f32) : FVec Ideal S512x2048 .f32 :=
  addf (mulf (broadcastInDim S512x2048 ![] bcast_S_S512x2048 (constant S_ .f32 0x3F7FBE77#32)) x2) (mulf (broadcastInDim S512x2048 ![] bcast_S_S512x2048 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamCfOutIdeal := fun m g _ =>
  (θ_run defs _ _).mono (fun r h => ⟨fun c => (h c).2.2.2, sem_eq_zero_of_no_sems (by decide) r.2⟩) (Value.run m g)

end Cert.RefAdamCfOutIdeal.Prod

namespace Cert.AdamCfOutIdeal.Prod

open Cert.AdamCfOutIdeal Cert.AdamCfOutIdeal.Gen Idealize.ShloMosaic Idealize.ShloMosaic.TcCoe Idealize.SL.Sem
open Cert.RefAdamCfOutIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamCfOutIdeal_RefAdamCfOutIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamCfOutIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamCfOutIdeal.Prod.run m' g')

/-- The printed program and its ideal form run the same body. -/
theorem same_defs : Cert.AdamCfOut.defs (F := Bits) = defs := by
  refine congrArg (Pipeline.defs pcfgs) ?_
  unfold Cert.AdamCfOut.defs₀ defs₀
  congr 1
  funext l x
  match l, x with
  | 0, (_, _) => rfl

/-- The printed program ends with its arguments unchanged: its run is that of the ideal form, over bits. -/
theorem frame_bits : Cert.quiescent_AdamCfOut := fun m g _ => by
  rw [same_defs]
  exact frame (F := Bits) m g

end Cert.AdamCfOutIdeal.Prod

end
-- ==== Proof.PAdamM2In.lean ====
module

public import proofs.«01_k».proof.Defs
public import proofs.«01_k».proof.Proof.Gen.AdamM2InIdeal.Value
public import proofs.«01_k».proof.Proof.Gen.RefAdamM2InIdeal.Run
public import proofs.«01_k».proof.Proof.Gen.AdamM2In
public import Idealize.ShloMosaic.Lib.Claim
public import Idealize.ShloMosaic.Lib.Quiescent

@[expose] public section

set_option maxRecDepth 16384

noncomputable section

namespace Cert.RefAdamM2InIdeal.Prod

open Cert.RefAdamM2InIdeal Cert.RefAdamM2InIdeal.Gen Idealize.ShloMosaic Idealize.ShloMosaic.TcCoe Idealize.SL.Sem

/-- The update. -/
def delta (x0 x1 x2 x3 : FVec Ideal S2048x2576 .f32) : FVec Ideal S2048x2576 .f32 :=
  mulf (broadcastInDim S2048x2576 ![] bcast_S_S2048x2576 (constant S_ .f32 0xBA83126F#32)) (addf (Host.divf (Host.divf (addf (mulf (broadcastInDim S2048x2576 ![] bcast_S_S2048x2576 (constant S_ .f32 0x3F666666#32)) x1) (mulf (broadcastInDim S2048x2576 ![] bcast_S_S2048x2576 (constant S_ .f32 0x3DCCCCCD#32)) x3)) (broadcastInDim S2048x2576 ![] bcast_S_S2048x2576 (constant S_ .f32 0x3F26BD02#32))) (addf (Host.sqrt (Host.divf (addf (mulf (broadcastInDim S2048x2576 ![] bcast_S_S2048x2576 (constant S_ .f32 0x3F7FBE77#32)) x2) (mulf (broadcastInDim S2048x2576 ![] bcast_S_S2048x2576 (constant S_ .f32 0x3A83126F#32)) (mulf x3 x3))) (broadcastInDim S2048x2576 ![] bcast_S_S2048x2576 (constant S_ .f32 0x3C231ACC#32)))) (broadcastInDim S2048x2576 ![] bcast_S_S2048x2576 (constant S_ .f32 0x322BCC77#32)))) (mulf (broadcastInDim S2048x2576 ![] bcast_S_S2048x2576 (constant S_ .f32 0x3C23D70A#32)) x0))

/-- The first moment. -/
def mom (x1 x3 : FVec Ideal S2048x2576 .f32) : FVec Ideal S2048x2576 .f32 :=
  addf (mulf (broadcastInDim S2048x2576 ![] bcast_S_S2048x2576 (constant S_ .f32 0x3F666666#32)) x1) (mulf (broadcastInDim S2048x2576 ![] bcast_S_S2048x2576 (constant S_ .f32 0x3DCCCCCD#32)) x3)

/-- The second moment. -/
def sq (x2 x3 : FVec Ideal S2048x2576 .f32) : FVec Ideal S2048x2576 .f32 :=
  addf (mulf (broadcastInDim S2048x2576 ![] bcast_S_S2048x2576 (constant S_ .f32 0x3F7FBE77#32)) x2) (mulf (broadcastInDim S2048x2576 ![] bcast_S_S2048x2576 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamM2InIdeal := fun m g _ =>
  (θ_run defs _ _).mono (fun r h => ⟨fun c => (h c).2.2.2, sem_eq_zero_of_no_sems (by decide) r.2⟩) (Value.run m g)

end Cert.RefAdamM2InIdeal.Prod

namespace Cert.AdamM2InIdeal.Prod

open Cert.AdamM2InIdeal Cert.AdamM2InIdeal.Gen Idealize.ShloMosaic Idealize.ShloMosaic.TcCoe Idealize.SL.Sem
open Cert.RefAdamM2InIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamM2InIdeal_RefAdamM2InIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamM2InIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamM2InIdeal.Prod.run m' g')

/-- The printed program and its ideal form run the same body. -/
theorem same_defs : Cert.AdamM2In.defs (F := Bits) = defs := by
  refine congrArg (Pipeline.defs pcfgs) ?_
  unfold Cert.AdamM2In.defs₀ defs₀
  congr 1
  funext l x
  match l, x with
  | 0, (_, _) => rfl

/-- The printed program ends with its arguments unchanged: its run is that of the ideal form, over bits. -/
theorem frame_bits : Cert.quiescent_AdamM2In := fun m g _ => by
  rw [same_defs]
  exact frame (F := Bits) m g

end Cert.AdamM2InIdeal.Prod

end
-- ==== Proof.PAdamMlp.lean ====
module

public import proofs.«01_k».proof.Defs
public import proofs.«01_k».proof.Proof.Gen.AdamMlpIdeal.Value
public import proofs.«01_k».proof.Proof.Gen.RefAdamMlpIdeal.Run
public import proofs.«01_k».proof.Proof.Gen.AdamMlp
public import Idealize.ShloMosaic.Lib.Claim
public import Idealize.ShloMosaic.Lib.Quiescent

@[expose] public section

set_option maxRecDepth 16384

noncomputable section

namespace Cert.RefAdamMlpIdeal.Prod

open Cert.RefAdamMlpIdeal Cert.RefAdamMlpIdeal.Gen Idealize.ShloMosaic Idealize.ShloMosaic.TcCoe Idealize.SL.Sem

/-- The update. -/
def delta (x0 x1 x2 x3 : FVec Ideal S8192x2048 .f32) : FVec Ideal S8192x2048 .f32 :=
  mulf (broadcastInDim S8192x2048 ![] bcast_S_S8192x2048 (constant S_ .f32 0xBA83126F#32)) (addf (Host.divf (Host.divf (addf (mulf (broadcastInDim S8192x2048 ![] bcast_S_S8192x2048 (constant S_ .f32 0x3F666666#32)) x1) (mulf (broadcastInDim S8192x2048 ![] bcast_S_S8192x2048 (constant S_ .f32 0x3DCCCCCD#32)) x3)) (broadcastInDim S8192x2048 ![] bcast_S_S8192x2048 (constant S_ .f32 0x3F26BD02#32))) (addf (Host.sqrt (Host.divf (addf (mulf (broadcastInDim S8192x2048 ![] bcast_S_S8192x2048 (constant S_ .f32 0x3F7FBE77#32)) x2) (mulf (broadcastInDim S8192x2048 ![] bcast_S_S8192x2048 (constant S_ .f32 0x3A83126F#32)) (mulf x3 x3))) (broadcastInDim S8192x2048 ![] bcast_S_S8192x2048 (constant S_ .f32 0x3C231ACC#32)))) (broadcastInDim S8192x2048 ![] bcast_S_S8192x2048 (constant S_ .f32 0x322BCC77#32)))) (mulf (broadcastInDim S8192x2048 ![] bcast_S_S8192x2048 (constant S_ .f32 0x3C23D70A#32)) x0))

/-- The first moment. -/
def mom (x1 x3 : FVec Ideal S8192x2048 .f32) : FVec Ideal S8192x2048 .f32 :=
  addf (mulf (broadcastInDim S8192x2048 ![] bcast_S_S8192x2048 (constant S_ .f32 0x3F666666#32)) x1) (mulf (broadcastInDim S8192x2048 ![] bcast_S_S8192x2048 (constant S_ .f32 0x3DCCCCCD#32)) x3)

/-- The second moment. -/
def sq (x2 x3 : FVec Ideal S8192x2048 .f32) : FVec Ideal S8192x2048 .f32 :=
  addf (mulf (broadcastInDim S8192x2048 ![] bcast_S_S8192x2048 (constant S_ .f32 0x3F7FBE77#32)) x2) (mulf (broadcastInDim S8192x2048 ![] bcast_S_S8192x2048 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamMlpIdeal := fun m g _ =>
  (θ_run defs _ _).mono (fun r h => ⟨fun c => (h c).2.2.2, sem_eq_zero_of_no_sems (by decide) r.2⟩) (Value.run m g)

end Cert.RefAdamMlpIdeal.Prod

namespace Cert.AdamMlpIdeal.Prod

open Cert.AdamMlpIdeal Cert.AdamMlpIdeal.Gen Idealize.ShloMosaic Idealize.ShloMosaic.TcCoe Idealize.SL.Sem
open Cert.RefAdamMlpIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamMlpIdeal_RefAdamMlpIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamMlpIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamMlpIdeal.Prod.run m' g')

/-- The printed program and its ideal form run the same body. -/
theorem same_defs : Cert.AdamMlp.defs (F := Bits) = defs := by
  refine congrArg (Pipeline.defs pcfgs) ?_
  unfold Cert.AdamMlp.defs₀ defs₀
  congr 1
  funext l x
  match l, x with
  | 0, (_, _) => rfl

/-- The printed program ends with its arguments unchanged: its run is that of the ideal form, over bits. -/
theorem frame_bits : Cert.quiescent_AdamMlp := fun m g _ => by
  rw [same_defs]
  exact frame (F := Bits) m g

end Cert.AdamMlpIdeal.Prod

end
-- ==== Proof.PAdamCfConv.lean ====
module

public import proofs.«01_k».proof.Defs
public import proofs.«01_k».proof.Proof.Gen.AdamCfConvIdeal.Value
public import proofs.«01_k».proof.Proof.Gen.RefAdamCfConvIdeal.Run
public import proofs.«01_k».proof.Proof.Gen.AdamCfConv
public import Idealize.ShloMosaic.Lib.Claim
public import Idealize.ShloMosaic.Lib.Quiescent

@[expose] public section

set_option maxRecDepth 16384

noncomputable section

namespace Cert.RefAdamCfConvIdeal.Prod

open Cert.RefAdamCfConvIdeal Cert.RefAdamCfConvIdeal.Gen Idealize.ShloMosaic Idealize.ShloMosaic.TcCoe Idealize.SL.Sem

/-- The update. -/
def delta (x0 x1 x2 x3 : FVec Ideal S31x512 .f32) : FVec Ideal S31x512 .f32 :=
  mulf (broadcastInDim S31x512 ![] bcast_S_S31x512 (constant S_ .f32 0xBA83126F#32)) (addf (Host.divf (Host.divf (addf (mulf (broadcastInDim S31x512 ![] bcast_S_S31x512 (constant S_ .f32 0x3F666666#32)) x1) (mulf (broadcastInDim S31x512 ![] bcast_S_S31x512 (constant S_ .f32 0x3DCCCCCD#32)) x3)) (broadcastInDim S31x512 ![] bcast_S_S31x512 (constant S_ .f32 0x3F26BD02#32))) (addf (Host.sqrt (Host.divf (addf (mulf (broadcastInDim S31x512 ![] bcast_S_S31x512 (constant S_ .f32 0x3F7FBE77#32)) x2) (mulf (broadcastInDim S31x512 ![] bcast_S_S31x512 (constant S_ .f32 0x3A83126F#32)) (mulf x3 x3))) (broadcastInDim S31x512 ![] bcast_S_S31x512 (constant S_ .f32 0x3C231ACC#32)))) (broadcastInDim S31x512 ![] bcast_S_S31x512 (constant S_ .f32 0x322BCC77#32)))) (mulf (broadcastInDim S31x512 ![] bcast_S_S31x512 (constant S_ .f32 0x3C23D70A#32)) x0))

/-- The first moment. -/
def mom (x1 x3 : FVec Ideal S31x512 .f32) : FVec Ideal S31x512 .f32 :=
  addf (mulf (broadcastInDim S31x512 ![] bcast_S_S31x512 (constant S_ .f32 0x3F666666#32)) x1) (mulf (broadcastInDim S31x512 ![] bcast_S_S31x512 (constant S_ .f32 0x3DCCCCCD#32)) x3)

/-- The second moment. -/
def sq (x2 x3 : FVec Ideal S31x512 .f32) : FVec Ideal S31x512 .f32 :=
  addf (mulf (broadcastInDim S31x512 ![] bcast_S_S31x512 (constant S_ .f32 0x3F7FBE77#32)) x2) (mulf (broadcastInDim S31x512 ![] bcast_S_S31x512 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamCfConvIdeal := fun m g _ =>
  (θ_run defs _ _).mono (fun r h => ⟨fun c => (h c).2.2.2, sem_eq_zero_of_no_sems (by decide) r.2⟩) (Value.run m g)

end Cert.RefAdamCfConvIdeal.Prod

namespace Cert.AdamCfConvIdeal.Prod

open Cert.AdamCfConvIdeal Cert.AdamCfConvIdeal.Gen Idealize.ShloMosaic Idealize.ShloMosaic.TcCoe Idealize.SL.Sem
open Cert.RefAdamCfConvIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamCfConvIdeal_RefAdamCfConvIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamCfConvIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamCfConvIdeal.Prod.run m' g')

/-- The printed program and its ideal form run the same body. -/
theorem same_defs : Cert.AdamCfConv.defs (F := Bits) = defs := by
  refine congrArg (Pipeline.defs pcfgs) ?_
  unfold Cert.AdamCfConv.defs₀ defs₀
  congr 1
  funext l x
  match l, x with
  | 0, (_, _) => rfl

/-- The printed program ends with its arguments unchanged: its run is that of the ideal form, over bits. -/
theorem frame_bits : Cert.quiescent_AdamCfConv := fun m g _ => by
  rw [same_defs]
  exact frame (F := Bits) m g

end Cert.AdamCfConvIdeal.Prod

end
-- ==== Proof.PAdamM2Conv.lean ====
module

public import proofs.«01_k».proof.Defs
public import proofs.«01_k».proof.Proof.Gen.AdamM2ConvIdeal.Value
public import proofs.«01_k».proof.Proof.Gen.RefAdamM2ConvIdeal.Run
public import proofs.«01_k».proof.Proof.Gen.AdamM2Conv
public import Idealize.ShloMosaic.Lib.Claim
public import Idealize.ShloMosaic.Lib.Quiescent

@[expose] public section

set_option maxRecDepth 16384

noncomputable section

namespace Cert.RefAdamM2ConvIdeal.Prod

open Cert.RefAdamM2ConvIdeal Cert.RefAdamM2ConvIdeal.Gen Idealize.ShloMosaic Idealize.ShloMosaic.TcCoe Idealize.SL.Sem

/-- The update. -/
def delta (x0 x1 x2 x3 : FVec Ideal S4x1536 .f32) : FVec Ideal S4x1536 .f32 :=
  mulf (broadcastInDim S4x1536 ![] bcast_S_S4x1536 (constant S_ .f32 0xBA83126F#32)) (addf (Host.divf (Host.divf (addf (mulf (broadcastInDim S4x1536 ![] bcast_S_S4x1536 (constant S_ .f32 0x3F666666#32)) x1) (mulf (broadcastInDim S4x1536 ![] bcast_S_S4x1536 (constant S_ .f32 0x3DCCCCCD#32)) x3)) (broadcastInDim S4x1536 ![] bcast_S_S4x1536 (constant S_ .f32 0x3F26BD02#32))) (addf (Host.sqrt (Host.divf (addf (mulf (broadcastInDim S4x1536 ![] bcast_S_S4x1536 (constant S_ .f32 0x3F7FBE77#32)) x2) (mulf (broadcastInDim S4x1536 ![] bcast_S_S4x1536 (constant S_ .f32 0x3A83126F#32)) (mulf x3 x3))) (broadcastInDim S4x1536 ![] bcast_S_S4x1536 (constant S_ .f32 0x3C231ACC#32)))) (broadcastInDim S4x1536 ![] bcast_S_S4x1536 (constant S_ .f32 0x322BCC77#32)))) (mulf (broadcastInDim S4x1536 ![] bcast_S_S4x1536 (constant S_ .f32 0x3C23D70A#32)) x0))

/-- The first moment. -/
def mom (x1 x3 : FVec Ideal S4x1536 .f32) : FVec Ideal S4x1536 .f32 :=
  addf (mulf (broadcastInDim S4x1536 ![] bcast_S_S4x1536 (constant S_ .f32 0x3F666666#32)) x1) (mulf (broadcastInDim S4x1536 ![] bcast_S_S4x1536 (constant S_ .f32 0x3DCCCCCD#32)) x3)

/-- The second moment. -/
def sq (x2 x3 : FVec Ideal S4x1536 .f32) : FVec Ideal S4x1536 .f32 :=
  addf (mulf (broadcastInDim S4x1536 ![] bcast_S_S4x1536 (constant S_ .f32 0x3F7FBE77#32)) x2) (mulf (broadcastInDim S4x1536 ![] bcast_S_S4x1536 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamM2ConvIdeal := fun m g _ =>
  (θ_run defs _ _).mono (fun r h => ⟨fun c => (h c).2.2.2, sem_eq_zero_of_no_sems (by decide) r.2⟩) (Value.run m g)

end Cert.RefAdamM2ConvIdeal.Prod

namespace Cert.AdamM2ConvIdeal.Prod

open Cert.AdamM2ConvIdeal Cert.AdamM2ConvIdeal.Gen Idealize.ShloMosaic Idealize.ShloMosaic.TcCoe Idealize.SL.Sem
open Cert.RefAdamM2ConvIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamM2ConvIdeal_RefAdamM2ConvIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamM2ConvIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamM2ConvIdeal.Prod.run m' g')

/-- The printed program and its ideal form run the same body. -/
theorem same_defs : Cert.AdamM2Conv.defs (F := Bits) = defs := by
  refine congrArg (Pipeline.defs pcfgs) ?_
  unfold Cert.AdamM2Conv.defs₀ defs₀
  congr 1
  funext l x
  match l, x with
  | 0, (_, _) => rfl

/-- The printed program ends with its arguments unchanged: its run is that of the ideal form, over bits. -/
theorem frame_bits : Cert.quiescent_AdamM2Conv := fun m g _ => by
  rw [same_defs]
  exact frame (F := Bits) m g

end Cert.AdamM2ConvIdeal.Prod

end
-- ==== Proof.PAdamM2Bias.lean ====
module

public import proofs.«01_k».proof.Defs
public import proofs.«01_k».proof.Proof.Gen.AdamM2BiasIdeal.Value
public import proofs.«01_k».proof.Proof.Gen.RefAdamM2BiasIdeal.Run
public import proofs.«01_k».proof.Proof.Gen.AdamM2Bias
public import Idealize.ShloMosaic.Lib.Claim
public import Idealize.ShloMosaic.Lib.Quiescent

@[expose] public section

set_option maxRecDepth 16384

noncomputable section

namespace Cert.RefAdamM2BiasIdeal.Prod

open Cert.RefAdamM2BiasIdeal Cert.RefAdamM2BiasIdeal.Gen Idealize.ShloMosaic Idealize.ShloMosaic.TcCoe Idealize.SL.Sem

/-- The update. -/
def delta (x0 x1 x2 x3 : FVec Ideal S1x1536 .f32) : FVec Ideal S1x1536 .f32 :=
  mulf (broadcastInDim S1x1536 ![] bcast_S_S1x1536 (constant S_ .f32 0xBA83126F#32)) (addf (Host.divf (Host.divf (addf (mulf (broadcastInDim S1x1536 ![] bcast_S_S1x1536 (constant S_ .f32 0x3F666666#32)) x1) (mulf (broadcastInDim S1x1536 ![] bcast_S_S1x1536 (constant S_ .f32 0x3DCCCCCD#32)) x3)) (broadcastInDim S1x1536 ![] bcast_S_S1x1536 (constant S_ .f32 0x3F26BD02#32))) (addf (Host.sqrt (Host.divf (addf (mulf (broadcastInDim S1x1536 ![] bcast_S_S1x1536 (constant S_ .f32 0x3F7FBE77#32)) x2) (mulf (broadcastInDim S1x1536 ![] bcast_S_S1x1536 (constant S_ .f32 0x3A83126F#32)) (mulf x3 x3))) (broadcastInDim S1x1536 ![] bcast_S_S1x1536 (constant S_ .f32 0x3C231ACC#32)))) (broadcastInDim S1x1536 ![] bcast_S_S1x1536 (constant S_ .f32 0x322BCC77#32)))) (mulf (broadcastInDim S1x1536 ![] bcast_S_S1x1536 (constant S_ .f32 0x3C23D70A#32)) x0))

/-- The first moment. -/
def mom (x1 x3 : FVec Ideal S1x1536 .f32) : FVec Ideal S1x1536 .f32 :=
  addf (mulf (broadcastInDim S1x1536 ![] bcast_S_S1x1536 (constant S_ .f32 0x3F666666#32)) x1) (mulf (broadcastInDim S1x1536 ![] bcast_S_S1x1536 (constant S_ .f32 0x3DCCCCCD#32)) x3)

/-- The second moment. -/
def sq (x2 x3 : FVec Ideal S1x1536 .f32) : FVec Ideal S1x1536 .f32 :=
  addf (mulf (broadcastInDim S1x1536 ![] bcast_S_S1x1536 (constant S_ .f32 0x3F7FBE77#32)) x2) (mulf (broadcastInDim S1x1536 ![] bcast_S_S1x1536 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamM2BiasIdeal := fun m g _ =>
  (θ_run defs _ _).mono (fun r h => ⟨fun c => (h c).2.2.2, sem_eq_zero_of_no_sems (by decide) r.2⟩) (Value.run m g)

end Cert.RefAdamM2BiasIdeal.Prod

namespace Cert.AdamM2BiasIdeal.Prod

open Cert.AdamM2BiasIdeal Cert.AdamM2BiasIdeal.Gen Idealize.ShloMosaic Idealize.ShloMosaic.TcCoe Idealize.SL.Sem
open Cert.RefAdamM2BiasIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamM2BiasIdeal_RefAdamM2BiasIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamM2BiasIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamM2BiasIdeal.Prod.run m' g')

/-- The printed program and its ideal form run the same body. -/
theorem same_defs : Cert.AdamM2Bias.defs (F := Bits) = defs := by
  refine congrArg (Pipeline.defs pcfgs) ?_
  unfold Cert.AdamM2Bias.defs₀ defs₀
  congr 1
  funext l x
  match l, x with
  | 0, (_, _) => rfl

/-- The printed program ends with its arguments unchanged: its run is that of the ideal form, over bits. -/
theorem frame_bits : Cert.quiescent_AdamM2Bias := fun m g _ => by
  rw [same_defs]
  exact frame (F := Bits) m g

end Cert.AdamM2BiasIdeal.Prod

end
-- ==== Proof.PAdamM2Norm.lean ====
module

public import proofs.«01_k».proof.Defs
public import proofs.«01_k».proof.Proof.Gen.AdamM2NormIdeal.Value
public import proofs.«01_k».proof.Proof.Gen.RefAdamM2NormIdeal.Run
public import proofs.«01_k».proof.Proof.Gen.AdamM2Norm
public import Idealize.ShloMosaic.Lib.Claim
public import Idealize.ShloMosaic.Lib.Quiescent

@[expose] public section

set_option maxRecDepth 16384

noncomputable section

namespace Cert.RefAdamM2NormIdeal.Prod

open Cert.RefAdamM2NormIdeal Cert.RefAdamM2NormIdeal.Gen Idealize.ShloMosaic Idealize.ShloMosaic.TcCoe Idealize.SL.Sem

/-- The update. -/
def delta (x0 x1 x2 x3 : FVec Ideal S1x1024 .f32) : FVec Ideal S1x1024 .f32 :=
  mulf (broadcastInDim S1x1024 ![] bcast_S_S1x1024 (constant S_ .f32 0xBA83126F#32)) (addf (Host.divf (Host.divf (addf (mulf (broadcastInDim S1x1024 ![] bcast_S_S1x1024 (constant S_ .f32 0x3F666666#32)) x1) (mulf (broadcastInDim S1x1024 ![] bcast_S_S1x1024 (constant S_ .f32 0x3DCCCCCD#32)) x3)) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) x2) (mulf (broadcastInDim S1x1024 ![] bcast_S_S1x1024 (constant S_ .f32 0x3A83126F#32)) (mulf x3 x3))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) x0))

/-- The first moment. -/
def mom (x1 x3 : FVec Ideal S1x1024 .f32) : FVec Ideal S1x1024 .f32 :=
  addf (mulf (broadcastInDim S1x1024 ![] bcast_S_S1x1024 (constant S_ .f32 0x3F666666#32)) x1) (mulf (broadcastInDim S1x1024 ![] bcast_S_S1x1024 (constant S_ .f32 0x3DCCCCCD#32)) x3)

/-- The second moment. -/
def sq (x2 x3 : FVec Ideal S1x1024 .f32) : FVec Ideal S1x1024 .f32 :=
  addf (mulf (broadcastInDim S1x1024 ![] bcast_S_S1x1024 (constant S_ .f32 0x3F7FBE77#32)) x2) (mulf (broadcastInDim S1x1024 ![] bcast_S_S1x1024 (constant S_ .f32 0x3A83126F#32)) (mulf x3 x3))

/-- The reference leaves the three and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = mom (m ((c.tc : Thread nD τ).loc main_arg1)) (m ((c.tc : Thread nD τ).loc main_arg3))
      ∧ r.2.mem ((c.tc : Thread nD τ).loc main_v10) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold delta mom sq
  exact Value.run m g

/-- The reference ends with its arguments unchanged. -/
theorem frame : Cert.quiescent_RefAdamM2NormIdeal := fun m g _ =>
  (θ_run defs _ _).mono (fun r h => ⟨fun c => (h c).2.2.2, sem_eq_zero_of_no_sems (by decide) r.2⟩) (Value.run m g)

end Cert.RefAdamM2NormIdeal.Prod

namespace Cert.AdamM2NormIdeal.Prod

open Cert.AdamM2NormIdeal Cert.AdamM2NormIdeal.Gen Idealize.ShloMosaic Idealize.ShloMosaic.TcCoe Idealize.SL.Sem
open Cert.RefAdamM2NormIdeal.Prod (delta mom sq)

/-- The kernel's update, moments and arguments: element by element the reference's formulas. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = mom (m ((c.tc : Thread nD τ).loc main_arg1)) (m ((c.tc : Thread nD τ).loc main_arg3))
      ∧ r.2.mem ((c.tc : Thread nD τ).loc main_v0_2) = sq (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun _ => rfl), (h c).2.1.trans (funext fun _ => rfl),
    (h c).2.2.1.trans (funext fun _ => rfl), (h c).2.2.2⟩) (Value.run m g)

/-- The kernel's results are the reference's. -/
theorem algebraic : Cert.algebraic_AdamM2NormIdeal_RefAdamM2NormIdeal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => mom (m ((c.tc : Thread nD τ).loc main_arg1)) (m ((c.tc : Thread nD τ).loc main_arg3)), fun c => sq (m ((c.tc : Thread nD τ).loc main_arg2)) (m ((c.tc : Thread nD τ).loc main_arg3)), ?_, ?_⟩
  · exact run m g
  · exact (θ_run Cert.RefAdamM2NormIdeal.defs _ _).mono
      (fun _ h c => ⟨(h c).1.trans (congr (congr (congrArg₂ delta (hagree c).1 (hagree c).2.1) (hagree c).2.2.1) (hagree c).2.2.2), (h c).2.1.trans (congrArg₂ mom (hagree c).2.1 (hagree c).2.2.2), (h c).2.2.1.trans (congrArg₂ sq (hagree c).2.2.1 (hagree c).2.2.2), (h c).2.2.2⟩) (Cert.RefAdamM2NormIdeal.Prod.run m' g')

/-- The printed program and its ideal form run the same body. -/
theorem same_defs : Cert.AdamM2Norm.defs (F := Bits) = defs := by
  refine congrArg (Pipeline.defs pcfgs) ?_
  unfold Cert.AdamM2Norm.defs₀ defs₀
  congr 1
  funext l x
  match l, x with
  | 0, (_, _) => rfl

/-- The printed program ends with its arguments unchanged: its run is that of the ideal form, over bits. -/
theorem frame_bits : Cert.quiescent_AdamM2Norm := fun m g _ => by
  rw [same_defs]
  exact frame (F := Bits) m g

end Cert.AdamM2NormIdeal.Prod

end
-- ==== Proof.PAdamRepl.lean ====
module

public import proofs.«01_k».proof.Defs
public import proofs.«01_k».proof.Proof.Gen.AdamReplIdeal.Value
public import proofs.«01_k».proof.Proof.Gen.RefAdamReplIdeal.Run
public import proofs.«01_k».proof.Proof.Gen.AdamRepl
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.RefAdamReplIdeal.Prod

open Cert.RefAdamReplIdeal Cert.RefAdamReplIdeal.Gen Idealize.ShloMosaic Idealize.ShloMosaic.TcCoe Idealize.SL.Sem

/-- The sum of the two gradients. -/
def total (x3 x4 : FVec Ideal S1024x128 .f32) : FVec Ideal S1024x128 .f32 :=
  addf x3 x4

/-- Of one element. -/
def totalOf (a b : Ideal .f32) : Ideal .f32 :=
  FloatOps.addf a b

theorem total_at (x3 x4 : FVec Ideal S1024x128 .f32) (i : Fin 1024) (j : Fin 128) : total x3 x4 (ix2 i j) = totalOf (x3 (ix2 i j)) (x4 (ix2 i j)) := rfl

/-- The update. -/
def delta (x0 x1 x2 x3 x4 : FVec Ideal S1024x128 .f32) : FVec Ideal S1024x128 .f32 :=
  mulf (broadcastInDim S1024x128 ![] bcast_S_S1024x128 (constant S_ .f32 0xBA83126F#32)) (addf (Host.divf (Host.divf (addf (mulf (broadcastInDim S1024x128 ![] bcast_S_S1024x128 (constant S_ .f32 0x3F666666#32)) x1) (mulf (broadcastInDim S1024x128 ![] bcast_S_S1024x128 (constant S_ .f32 0x3DCCCCCD#32)) (addf x3 x4))) (broadcastInDim S1024x128 ![] bcast_S_S1024x128 (constant S_ .f32 0x3F26BD02#32))) (addf (Host.sqrt (Host.divf (addf (mulf (broadcastInDim S1024x128 ![] bcast_S_S1024x128 (constant S_ .f32 0x3F7FBE77#32)) x2) (mulf (broadcastInDim S1024x128 ![] bcast_S_S1024x128 (constant S_ .f32 0x3A83126F#32)) (mulf (addf x3 x4) (addf x3 x4)))) (broadcastInDim S1024x128 ![] bcast_S_S1024x128 (constant S_ .f32 0x3C231ACC#32)))) (broadcastInDim S1024x128 ![] bcast_S_S1024x128 (constant S_ .f32 0x322BCC77#32)))) (mulf (broadcastInDim S1024x128 ![] bcast_S_S1024x128 (constant S_ .f32 0x3C23D70A#32)) x0))

/-- Of one element. -/
def deltaOf (w m v a b : Ideal .f32) : Ideal .f32 :=
  FloatOps.mulf (Scalar.ofBits .f32 0xBA83126F#32) (FloatOps.addf (FloatOps.divf (FloatOps.divf (FloatOps.addf (FloatOps.mulf (Scalar.ofBits .f32 0x3F666666#32) m) (FloatOps.mulf (Scalar.ofBits .f32 0x3DCCCCCD#32) (FloatOps.addf a b))) (Scalar.ofBits .f32 0x3F26BD02#32)) (FloatOps.addf (FloatOps.sqrt (FloatOps.divf (FloatOps.addf (FloatOps.mulf (Scalar.ofBits .f32 0x3F7FBE77#32) v) (FloatOps.mulf (Scalar.ofBits .f32 0x3A83126F#32) (FloatOps.mulf (FloatOps.addf a b) (FloatOps.addf a b)))) (Scalar.ofBits .f32 0x3C231ACC#32))) (Scalar.ofBits .f32 0x322BCC77#32))) (FloatOps.mulf (Scalar.ofBits .f32 0x3C23D70A#32) w))

theorem delta_at (x0 x1 x2 x3 x4 : FVec Ideal S1024x128 .f32) (i : Fin 1024) (j : Fin 128) : delta x0 x1 x2 x3 x4 (ix2 i j) = deltaOf (x0 (ix2 i j)) (x1 (ix2 i j)) (x2 (ix2 i j)) (x3 (ix2 i j)) (x4 (ix2 i j)) := rfl

/-- The first moment. -/
def mom (x1 x3 x4 : FVec Ideal S1024x128 .f32) : FVec Ideal S1024x128 .f32 :=
  addf (mulf (broadcastInDim S1024x128 ![] bcast_S_S1024x128 (constant S_ .f32 0x3F666666#32)) x1) (mulf (broadcastInDim S1024x128 ![] bcast_S_S1024x128 (constant S_ .f32 0x3DCCCCCD#32)) (addf x3 x4))

/-- Of one element. -/
def momOf (m a b : Ideal .f32) : Ideal .f32 :=
  FloatOps.addf (FloatOps.mulf (Scalar.ofBits .f32 0x3F666666#32) m) (FloatOps.mulf (Scalar.ofBits .f32 0x3DCCCCCD#32) (FloatOps.addf a b))

theorem mom_at (x1 x3 x4 : FVec Ideal S1024x128 .f32) (i : Fin 1024) (j : Fin 128) : mom x1 x3 x4 (ix2 i j) = momOf (x1 (ix2 i j)) (x3 (ix2 i j)) (x4 (ix2 i j)) := rfl

/-- The second moment. -/
def sq (x2 x3 x4 : FVec Ideal S1024x128 .f32) : FVec Ideal S1024x128 .f32 :=
  addf (mulf (broadcastInDim S1024x128 ![] bcast_S_S1024x128 (constant S_ .f32 0x3F7FBE77#32)) x2) (mulf (broadcastInDim S1024x128 ![] bcast_S_S1024x128 (constant S_ .f32 0x3A83126F#32)) (mulf (addf x3 x4) (addf x3 x4)))

/-- Of one element. -/
def sqOf (v a b : Ideal .f32) : Ideal .f32 :=
  FloatOps.addf (FloatOps.mulf (Scalar.ofBits .f32 0x3F7FBE77#32) v) (FloatOps.mulf (Scalar.ofBits .f32 0x3A83126F#32) (FloatOps.mulf (FloatOps.addf a b) (FloatOps.addf a b)))

theorem sq_at (x2 x3 x4 : FVec Ideal S1024x128 .f32) (i : Fin 1024) (j : Fin 128) : sq x2 x3 x4 (ix2 i j) = sqOf (x2 (ix2 i j)) (x3 (ix2 i j)) (x4 (ix2 i j)) := rfl

/-- The reference leaves the four and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0) = total (m ((c.tc : Thread nD τ).loc main_arg3)) (m ((c.tc : Thread nD τ).loc main_arg4))
      ∧ r.2.mem ((c.tc : Thread nD τ).loc main_v24) = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5) = mom (m ((c.tc : Thread nD τ).loc main_arg1)) (m ((c.tc : Thread nD τ).loc main_arg3)) (m ((c.tc : Thread nD τ).loc main_arg4))
      ∧ r.2.mem ((c.tc : Thread nD τ).loc main_v11) = sq (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold total delta mom sq
  exact Value.run m g

/-- The reference ends with its arguments unchanged. -/
theorem frame : Cert.quiescent_RefAdamReplIdeal := fun m g _ =>
  (θ_run defs _ _).mono (fun r h => ⟨fun c => (h c).2.2.2.2, sem_eq_zero_of_no_sems (by decide) r.2⟩) (Value.run m g)

end Cert.RefAdamReplIdeal.Prod

namespace Cert.AdamReplIdeal.Prod

open Cert.AdamReplIdeal Cert.AdamReplIdeal.Gen Idealize.ShloMosaic Idealize.ShloMosaic.TcCoe Idealize.SL.Sem
open Cert.RefAdamReplIdeal.Prod (total delta mom sq totalOf deltaOf momOf sqOf total_at delta_at mom_at sq_at)

variable (m : (ℓ : Loc nD τ sig) → Buf (Elt Ideal) ℓ)

theorem N_eq : cfg0.N = 2 := by decide +kernel

/-- Every array is cut into the same two blocks. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem x0_at (c : Dev nD) (t : Fin cfg0.N) (i : Fin 512) (j : Fin 128) (I : Fin 1024) (hI : (I : ℕ) = t.val * 512 + i) :
    (show FVec Ideal S512x128 .f32 from iblk m c 0 t) (ix2 i j) = (show FVec Ideal S1024x128 .f32 from m ((c.tc : Thread nD τ).loc main_arg0)) (ix2 I j) := by
  have ht : t.val < 2 := lt_of_lt_of_eq t.isLt N_eq
  blk_point [iblk, V, idx t]

theorem x1_at (c : Dev nD) (t : Fin cfg0.N) (i : Fin 512) (j : Fin 128) (I : Fin 1024) (hI : (I : ℕ) = t.val * 512 + i) :
    (show FVec Ideal S512x128 .f32 from iblk m c 1 t) (ix2 i j) = (show FVec Ideal S1024x128 .f32 from m ((c.tc : Thread nD τ).loc main_arg1)) (ix2 I j) := by
  have ht : t.val < 2 := lt_of_lt_of_eq t.isLt N_eq
  blk_point [iblk, V, idx t]

theorem x2_at (c : Dev nD) (t : Fin cfg0.N) (i : Fin 512) (j : Fin 128) (I : Fin 1024) (hI : (I : ℕ) = t.val * 512 + i) :
    (show FVec Ideal S512x128 .f32 from iblk m c 2 t) (ix2 i j) = (show FVec Ideal S1024x128 .f32 from m ((c.tc : Thread nD τ).loc main_arg2)) (ix2 I j) := by
  have ht : t.val < 2 := lt_of_lt_of_eq t.isLt N_eq
  blk_point [iblk, V, idx t]

theorem x3_at (c : Dev nD) (t : Fin cfg0.N) (i : Fin 512) (j : Fin 128) (I : Fin 1024) (hI : (I : ℕ) = t.val * 512 + i) :
    (show FVec Ideal S512x128 .f32 from iblk m c 3 t) (ix2 i j) = (show FVec Ideal S1024x128 .f32 from m ((c.tc : Thread nD τ).loc main_arg3)) (ix2 I j) := by
  have ht : t.val < 2 := lt_of_lt_of_eq t.isLt N_eq
  blk_point [iblk, V, idx t]

theorem x4_at (c : Dev nD) (t : Fin cfg0.N) (i : Fin 512) (j : Fin 128) (I : Fin 1024) (hI : (I : ℕ) = t.val * 512 + i) :
    (show FVec Ideal S512x128 .f32 from iblk m c 4 t) (ix2 i j) = (show FVec Ideal S1024x128 .f32 from m ((c.tc : Thread nD τ).loc main_arg4)) (ix2 I j) := by
  have ht : t.val < 2 := lt_of_lt_of_eq t.isLt N_eq
  blk_point [iblk, V, idx t]

theorem out0_at (c : Dev nD) (t : Fin cfg0.N) (i : Fin 512) (j : Fin 128) :
    out0_5 (F := Ideal) (iblk m c 0 t) (iblk m c 1 t) (iblk m c 2 t) (iblk m c 3 t) (iblk m c 4 t) (ix2 i j) = totalOf ((show FVec Ideal S512x128 .f32 from iblk m c 3 t) (ix2 i j)) ((show FVec Ideal S512x128 .f32 from iblk m c 4 t) (ix2 i j)) := by
  frame_out
  rfl

theorem final0 (c : Dev nD) : (dats m 0 c).arrAt 5 (cfgs 0).N = total (m ((c.tc : Thread nD τ).loc main_arg3)) (m ((c.tc : Thread nD τ).loc main_arg4)) := by
  refine (dats m 0 c).arrAt_eq_of_covers 5 _ (by decide +kernel) fun t hf y => ?_
  have ht : t.val < 2 := lt_of_lt_of_eq t.isLt N_eq
  blk_simp
  have h0 : (y 0 : ℕ) < 512 := (y 0).isLt
  have h1 : (y 1 : ℕ) < 128 := (y 1).isLt
  have hy : y = ix2 (y 0) (y 1) := eq_ix2 y
  rw [after0_5]
  refine ((congrArg _ hy).trans (out0_at m c t (y 0) (y 1))).trans (Eq.trans ?_ (congrArg (total _ _) (?_ : (ix2 ⟨t.val * 512 + (y 0), by omega⟩ ⟨(y 1), by omega⟩) = _)))
  · rw [total_at]
    exact congrArg₂ totalOf (x3_at m c t (y 0) (y 1) _ rfl) (x4_at m c t (y 0) (y 1) _ rfl)
  · blk_ext [idx t]

theorem out1_at (c : Dev nD) (t : Fin cfg0.N) (i : Fin 512) (j : Fin 128) :
    out0_6 (F := Ideal) (iblk m c 0 t) (iblk m c 1 t) (iblk m c 2 t) (iblk m c 3 t) (iblk m c 4 t) (ix2 i j) = deltaOf ((show FVec Ideal S512x128 .f32 from iblk m c 0 t) (ix2 i j)) ((show FVec Ideal S512x128 .f32 from iblk m c 1 t) (ix2 i j)) ((show FVec Ideal S512x128 .f32 from iblk m c 2 t) (ix2 i j)) ((show FVec Ideal S512x128 .f32 from iblk m c 3 t) (ix2 i j)) ((show FVec Ideal S512x128 .f32 from iblk m c 4 t) (ix2 i j)) := by
  frame_out
  rfl

theorem final1 (c : Dev nD) : (dats m 0 c).arrAt 6 (cfgs 0).N = delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have ht : t.val < 2 := lt_of_lt_of_eq t.isLt N_eq
  blk_simp
  have h0 : (y 0 : ℕ) < 512 := (y 0).isLt
  have h1 : (y 1 : ℕ) < 128 := (y 1).isLt
  have hy : y = ix2 (y 0) (y 1) := eq_ix2 y
  rw [after0_6]
  refine ((congrArg _ hy).trans (out1_at m c t (y 0) (y 1))).trans (Eq.trans ?_ (congrArg (delta _ _ _ _ _) (?_ : (ix2 ⟨t.val * 512 + (y 0), by omega⟩ ⟨(y 1), by omega⟩) = _)))
  · rw [delta_at]
    exact congr (congr (congr (congrArg₂ deltaOf (x0_at m c t (y 0) (y 1) _ rfl) (x1_at m c t (y 0) (y 1) _ rfl)) (x2_at m c t (y 0) (y 1) _ rfl)) (x3_at m c t (y 0) (y 1) _ rfl)) (x4_at m c t (y 0) (y 1) _ rfl)
  · blk_ext [idx t]

theorem out2_at (c : Dev nD) (t : Fin cfg0.N) (i : Fin 512) (j : Fin 128) :
    out0_7 (F := Ideal) (iblk m c 0 t) (iblk m c 1 t) (iblk m c 2 t) (iblk m c 3 t) (iblk m c 4 t) (ix2 i j) = momOf ((show FVec Ideal S512x128 .f32 from iblk m c 1 t) (ix2 i j)) ((show FVec Ideal S512x128 .f32 from iblk m c 3 t) (ix2 i j)) ((show FVec Ideal S512x128 .f32 from iblk m c 4 t) (ix2 i j)) := by
  frame_out
  rfl

theorem final2 (c : Dev nD) : (dats m 0 c).arrAt 7 (cfgs 0).N = mom (m ((c.tc : Thread nD τ).loc main_arg1)) (m ((c.tc : Thread nD τ).loc main_arg3)) (m ((c.tc : Thread nD τ).loc main_arg4)) := by
  refine (dats m 0 c).arrAt_eq_of_covers 7 _ (by decide +kernel) fun t hf y => ?_
  have ht : t.val < 2 := lt_of_lt_of_eq t.isLt N_eq
  blk_simp
  have h0 : (y 0 : ℕ) < 512 := (y 0).isLt
  have h1 : (y 1 : ℕ) < 128 := (y 1).isLt
  have hy : y = ix2 (y 0) (y 1) := eq_ix2 y
  rw [after0_7]
  refine ((congrArg _ hy).trans (out2_at m c t (y 0) (y 1))).trans (Eq.trans ?_ (congrArg (mom _ _ _) (?_ : (ix2 ⟨t.val * 512 + (y 0), by omega⟩ ⟨(y 1), by omega⟩) = _)))
  · rw [mom_at]
    exact congr (congrArg₂ momOf (x1_at m c t (y 0) (y 1) _ rfl) (x3_at m c t (y 0) (y 1) _ rfl)) (x4_at m c t (y 0) (y 1) _ rfl)
  · blk_ext [idx t]

theorem out3_at (c : Dev nD) (t : Fin cfg0.N) (i : Fin 512) (j : Fin 128) :
    out0_8 (F := Ideal) (iblk m c 0 t) (iblk m c 1 t) (iblk m c 2 t) (iblk m c 3 t) (iblk m c 4 t) (ix2 i j) = sqOf ((show FVec Ideal S512x128 .f32 from iblk m c 2 t) (ix2 i j)) ((show FVec Ideal S512x128 .f32 from iblk m c 3 t) (ix2 i j)) ((show FVec Ideal S512x128 .f32 from iblk m c 4 t) (ix2 i j)) := by
  frame_out
  rfl

theorem final3 (c : Dev nD) : (dats m 0 c).arrAt 8 (cfgs 0).N = sq (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  have ht : t.val < 2 := lt_of_lt_of_eq t.isLt N_eq
  blk_simp
  have h0 : (y 0 : ℕ) < 512 := (y 0).isLt
  have h1 : (y 1 : ℕ) < 128 := (y 1).isLt
  have hy : y = ix2 (y 0) (y 1) := eq_ix2 y
  rw [after0_8]
  refine ((congrArg _ hy).trans (out3_at m c t (y 0) (y 1))).trans (Eq.trans ?_ (congrArg (sq _ _ _) (?_ : (ix2 ⟨t.val * 512 + (y 0), by omega⟩ ⟨(y 1), by omega⟩) = _)))
  · rw [sq_at]
    exact congr (congrArg₂ sqOf (x2_at m c t (y 0) (y 1) _ rfl) (x3_at m c t (y 0) (y 1) _ rfl)) (x4_at m c t (y 0) (y 1) _ rfl)
  · blk_ext [idx t]

/-- The kernel's results are the reference's. -/
theorem algebraic : Cert.algebraic_AdamReplIdeal_RefAdamReplIdeal := by
  intro m g m' g' _ hagree
  refine ⟨fun c => total (m ((c.tc : Thread nD τ).loc main_arg3)) (m ((c.tc : Thread nD τ).loc main_arg4)), fun c => delta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => mom (m ((c.tc : Thread nD τ).loc main_arg1)) (m ((c.tc : Thread nD τ).loc main_arg3)) (m ((c.tc : Thread nD τ).loc main_arg4)), fun c => sq (m ((c.tc : Thread nD τ).loc main_arg2)) (m ((c.tc : Thread nD τ).loc main_arg3)) (m ((c.tc : Thread nD τ).loc main_arg4)), ?_, ?_⟩
  · exact (θ_run Cert.AdamReplIdeal.defs _ _).mono
      (fun _ h c => ⟨(h c).1.trans (final0 m c), (h c).2.1.trans (final1 m c), (h c).2.2.1.trans (final2 m c), (h c).2.2.2.1.trans (final3 m c), (h c).2.2.2.2⟩) (Cert.AdamReplIdeal.Value.run_blocks m g)
  · exact (θ_run Cert.RefAdamReplIdeal.defs _ _).mono
      (fun _ h c => ⟨(h c).1.trans (congrArg₂ total (hagree c).2.2.2.1 (hagree c).2.2.2.2), (h c).2.1.trans (congr (congr (congr (congrArg₂ delta (hagree c).1 (hagree c).2.1) (hagree c).2.2.1) (hagree c).2.2.2.1) (hagree c).2.2.2.2), (h c).2.2.1.trans (congr (congrArg₂ mom (hagree c).2.1 (hagree c).2.2.2.1) (hagree c).2.2.2.2), (h c).2.2.2.1.trans (congr (congrArg₂ sq (hagree c).2.2.1 (hagree c).2.2.2.1) (hagree c).2.2.2.2), (h c).2.2.2.2⟩) (Cert.RefAdamReplIdeal.Prod.run m' g')

/-- The printed program and its ideal form run the same body. -/
theorem same_defs : Cert.AdamRepl.defs (F := Bits) = defs := by
  refine congrArg (Pipeline.defs pcfgs) ?_
  unfold Cert.AdamRepl.defs₀ defs₀
  congr 1
  funext l x
  match l, x with
  | 0, (_, _) => rfl

/-- The printed program ends with its arguments unchanged: its run is that of the ideal form, over bits. -/
theorem frame_bits : Cert.quiescent_AdamRepl := fun m g _ => by
  rw [same_defs]
  exact frame (F := Bits) m g

end Cert.AdamReplIdeal.Prod

end
-- ==== Proof.PRmsBwd.lean ====
module

public import proofs.«01_k».proof.Defs
public import proofs.«01_k».proof.Proof.Gen.RmsBwdIdeal.Value
public import proofs.«01_k».proof.Proof.Gen.RefRmsBwdIdeal.Run
public import proofs.«01_k».proof.Proof.Gen.RmsBwd
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefRmsBwdIdeal.Prod

open Cert.RefRmsBwdIdeal Cert.RefRmsBwdIdeal.Gen Idealize.ShloMosaic Idealize.ShloMosaic.TcCoe Idealize.SL.Sem

/-- The gradient of the input, with the residual branch's. -/
def dx (x0 : FVec Ideal S8192x2048 .f32) (x1 : FVec Ideal S1x2048 .f32) (x2 : FVec Ideal S8192x2048 .f32) (x3 : FVec Ideal S8192x2048 .f32) : FVec Ideal S8192x2048 .f32 :=
  addf (addf (addf (mulf (mulf x2 (broadcastInDim S8192x2048 ![0, 1] bcast_S1x2048_S8192x2048_0_1 x1)) (broadcastInDim S8192x2048 ![0, 1] bcast_S8192x1_S8192x2048_0_1 (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (mulf x0 (broadcastInDim S8192x2048 ![0] bcast_S8192_S8192x2048_0 (Host.reduceAdd (Host.divf (mulf (shapeCast _ (Host.reduceAdd (mulf x0 (mulf x2 (broadcastInDim S8192x2048 ![0, 1] bcast_S1x2048_S8192x2048_0_1 x1))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x0 (mulf x2 (broadcastInDim S8192x2048 ![0, 1] bcast_S1x2048_S8192x2048_0_1 x1))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)) x0)) x3

/-- The same, as the call returns it for the products. -/
def dxb (x0 : FVec Ideal S8192x2048 .f32) (x1 : FVec Ideal S1x2048 .f32) (x2 : FVec Ideal S8192x2048 .f32) (x3 : FVec Ideal S8192x2048 .f32) : FVec Ideal S8192x2048 .bf16 :=
  truncf .bf16 (addf (addf (addf (mulf (mulf x2 (broadcastInDim S8192x2048 ![0, 1] bcast_S1x2048_S8192x2048_0_1 x1)) (broadcastInDim S8192x2048 ![0, 1] bcast_S8192x1_S8192x2048_0_1 (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (mulf x0 (broadcastInDim S8192x2048 ![0] bcast_S8192_S8192x2048_0 (Host.reduceAdd (Host.divf (mulf (shapeCast _ (Host.reduceAdd (mulf x0 (mulf x2 (broadcastInDim S8192x2048 ![0, 1] bcast_S1x2048_S8192x2048_0_1 x1))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x0 (mulf x2 (broadcastInDim S8192x2048 ![0, 1] bcast_S1x2048_S8192x2048_0_1 x1))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)) x0)) x3) bitsLt_bf16_f32

/-- The gradient of the weight. -/
def dw (x0 : FVec Ideal S8192x2048 .f32) (x2 : FVec Ideal S8192x2048 .f32) : FVec Ideal S1x2048 .f32 :=
  shapeCast _ (Host.reduceAdd (mulf (mulf x0 (broadcastInDim S8192x2048 ![0, 1] bcast_S8192x1_S8192x2048_0_1 (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) x2) (constant S_ .f32 0x00000000#32) reducesTo_S8192x2048_S2048_d0 h_S_) shapeCasts_S2048_S1x2048

/-- The mean square of a row and the small constant. -/
def ms (x : Fin 2048 → EReal) : EReal := Ideal.div (∑ k, x k * x k) (Ideal.ofBits .f32 0x45000000#32) + Ideal.ofBits .f32 0x358637BD#32

/-- The gradient of the mean square's part in a row, as it enters each element. -/
def pull (x d : Fin 2048 → EReal) : EReal :=
  Ideal.div ((∑ k, x k * d k) * (Ideal.ofBits .f32 0xBF000000#32 * Ideal.div (Ideal.rsqrt (ms x)) (ms x))) (Ideal.ofBits .f32 0x45000000#32)

/-- The gradient of one element of the norm's input. -/
def dxRow (x d : Fin 2048 → EReal) (j : Fin 2048) : EReal := d j * Ideal.rsqrt (ms x) + x j * pull x d + pull x d * x j

theorem dx_at (x0 : FVec Ideal S8192x2048 .f32) (x1 : FVec Ideal S1x2048 .f32) (x2 : FVec Ideal S8192x2048 .f32) (x3 : FVec Ideal S8192x2048 .f32) (i : Fin 8192) (j : Fin 2048) :
    dx x0 x1 x2 x3 (ix2 i j) = dxRow (fun k => x0 (ix2 i k)) (fun k => x2 (ix2 i k) * x1 (ix2 0 k)) j + x3 (ix2 i j) := by
  unfold dx dxRow pull ms
  pointwise
  simp only [Fin.sum_univ_one]

theorem dxb_at (x0 : FVec Ideal S8192x2048 .f32) (x1 : FVec Ideal S1x2048 .f32) (x2 : FVec Ideal S8192x2048 .f32) (x3 : FVec Ideal S8192x2048 .f32) (i : Fin 8192) (j : Fin 2048) :
    dxb x0 x1 x2 x3 (ix2 i j) = dxRow (fun k => x0 (ix2 i k)) (fun k => x2 (ix2 i k) * x1 (ix2 0 k)) j + x3 (ix2 i j) := dx_at x0 x1 x2 x3 i j

theorem dw_at (x0 : FVec Ideal S8192x2048 .f32) (x2 : FVec Ideal S8192x2048 .f32) (j : Fin 2048) :
    dw x0 x2 (ix2 0 j) = ∑ i : Fin 8192, x0 (ix2 i j) * Ideal.rsqrt (ms fun k => x0 (ix2 i k)) * x2 (ix2 i j) := by
  unfold dw ms
  pointwise

/-- What the reference leaves. Its arguments stay as they are. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v34) = dx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = dxb (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = dw (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold dx dxb dw
  exact Value.run m g

/-- The reference ends with its arguments unchanged. -/
theorem frame : Cert.quiescent_RefRmsBwdIdeal := fun m g _ =>
  (θ_run defs _ _).mono (fun r h => ⟨fun c => (h c).2.2.2, sem_eq_zero_of_no_sems (by decide) r.2⟩) (Value.run m g)

end Cert.RefRmsBwdIdeal.Prod

namespace Cert.RmsBwdIdeal.Prod

open Cert.RmsBwdIdeal Cert.RmsBwdIdeal.Gen Idealize.ShloMosaic Idealize.ShloMosaic.TcCoe Idealize.SL.Sem
open Cert.RefRmsBwdIdeal.Prod hiding run frame

variable (m : (ℓ : Loc nD τ sig) → Buf (Elt Ideal) ℓ)

theorem N_eq : cfg0.N = 64 := by decide +kernel

/-- The block of each array at grid point `t`. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- Rows of this array's block in the array. -/
theorem x_at (c : Dev nD) (t : Fin cfg0.N) (i : Fin 128) (j : Fin 2048) (I : Fin 8192) (hI : (I : ℕ) = t.val * 128 + i) :
    (show FVec Ideal S128x2048 .f32 from iblk m c 0 t) (ix2 i j) = (show FVec Ideal S8192x2048 .f32 from m ((c.tc : Thread nD τ).loc main_arg0)) (ix2 I j) := by
  have ht : t.val < 64 := lt_of_lt_of_eq t.isLt N_eq
  blk_point [iblk, V, idx t]

/-- Rows of this array's block in the array. -/
theorem dh_at (c : Dev nD) (t : Fin cfg0.N) (i : Fin 128) (j : Fin 2048) (I : Fin 8192) (hI : (I : ℕ) = t.val * 128 + i) :
    (show FVec Ideal S128x2048 .f32 from iblk m c 1 t) (ix2 i j) = (show FVec Ideal S8192x2048 .f32 from m ((c.tc : Thread nD τ).loc main_arg2)) (ix2 I j) := by
  have ht : t.val < 64 := lt_of_lt_of_eq t.isLt N_eq
  blk_point [iblk, V, idx t]

/-- Rows of this array's block in the array. -/
theorem res_at (c : Dev nD) (t : Fin cfg0.N) (i : Fin 128) (j : Fin 2048) (I : Fin 8192) (hI : (I : ℕ) = t.val * 128 + i) :
    (show FVec Ideal S128x2048 .f32 from iblk m c 2 t) (ix2 i j) = (show FVec Ideal S8192x2048 .f32 from m ((c.tc : Thread nD τ).loc main_arg3)) (ix2 I j) := by
  have ht : t.val < 64 := lt_of_lt_of_eq t.isLt N_eq
  blk_point [iblk, V, idx t]

/-- This array's one block is the array. -/
theorem w_at (c : Dev nD) (t : Fin cfg0.N) (j : Fin 2048) :
    (show FVec Ideal S1x2048 .f32 from iblk m c 3 t) (ix2 0 j) = (show FVec Ideal S1x2048 .f32 from m ((c.tc : Thread nD τ).loc main_arg1)) (ix2 0 j) := by
  have ht : t.val < 64 := lt_of_lt_of_eq t.isLt N_eq
  blk_point [iblk, V, idx t]

/-- What a point leaves in its rows. -/
theorem dx_out (c : Dev nD) (t : Fin cfg0.N) (i : Fin 128) (j : Fin 2048) :
    (outsAt0 m c t.val t.isLt).1 (ix2 i j) = dxRow (fun k => (show FVec Ideal S128x2048 .f32 from iblk m c 0 t) (ix2 i k)) (fun k => (show FVec Ideal S128x2048 .f32 from iblk m c 1 t) (ix2 i k) * (show FVec Ideal S1x2048 .f32 from iblk m c 3 t) (ix2 0 k)) j + (show FVec Ideal S128x2048 .f32 from iblk m c 2 t) (ix2 i j) := by
  unfold dxRow pull ms
  by_cases h : t.val % 64 = 0
  · rw [outsAt0_A m c t h]
    dsimp only
    frame_out
    open_payloads
    pointwise
    simp only [Fin.sum_univ_one]
  · rw [outsAt0_B m c t h]
    dsimp only
    frame_out
    open_payloads
    pointwise
    simp only [Fin.sum_univ_one]

/-- What a point leaves in its rows. -/
theorem dxb_out (c : Dev nD) (t : Fin cfg0.N) (i : Fin 128) (j : Fin 2048) :
    (outsAt0 m c t.val t.isLt).2.1 (ix2 i j) = dxRow (fun k => (show FVec Ideal S128x2048 .f32 from iblk m c 0 t) (ix2 i k)) (fun k => (show FVec Ideal S128x2048 .f32 from iblk m c 1 t) (ix2 i k) * (show FVec Ideal S1x2048 .f32 from iblk m c 3 t) (ix2 0 k)) j + (show FVec Ideal S128x2048 .f32 from iblk m c 2 t) (ix2 i j) := by
  unfold dxRow pull ms
  by_cases h : t.val % 64 = 0
  · rw [outsAt0_A m c t h]
    dsimp only
    frame_out
    open_payloads
    pointwise
    simp only [Fin.sum_univ_one]
  · rw [outsAt0_B m c t h]
    dsimp only
    frame_out
    open_payloads
    pointwise
    simp only [Fin.sum_univ_one]

theorem final0 (c : Dev nD) : (dats m 0 c).arrAt 4 (cfgs 0).N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have ht : t.val < 64 := lt_of_lt_of_eq t.isLt N_eq
  blk_simp
  have h0 : (y 0 : ℕ) < 128 := (y 0).isLt
  have h1 : (y 1 : ℕ) < 2048 := (y 1).isLt
  have hy : y = ix2 (y 0) (y 1) := eq_ix2 y
  rw [after0_4]
  refine ((congrArg _ hy).trans (dx_out m c t (y 0) (y 1))).trans (Eq.trans ?_ (congrArg (dx _ _ _ _) (?_ : (ix2 ⟨t.val * 128 + (y 0), by omega⟩ ⟨(y 1), by omega⟩) = _)))
  · rw [dx_at]
    exact congrArg₂ (fun a b : EReal => a + b) (congrFun (congrArg₂ dxRow (funext fun k => x_at m c t (y 0) k _ rfl)
      (funext fun k => congrArg₂ (fun a b : EReal => a * b) (dh_at m c t (y 0) k _ rfl) (w_at m c t k))) (y 1)) (res_at m c t (y 0) (y 1) _ rfl)
  · blk_ext [idx t]

theorem final1 (c : Dev nD) : (dats m 0 c).arrAt 5 (cfgs 0).N = dxb (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have ht : t.val < 64 := lt_of_lt_of_eq t.isLt N_eq
  blk_simp
  have h0 : (y 0 : ℕ) < 128 := (y 0).isLt
  have h1 : (y 1 : ℕ) < 2048 := (y 1).isLt
  have hy : y = ix2 (y 0) (y 1) := eq_ix2 y
  rw [after0_5]
  refine ((congrArg _ hy).trans (dxb_out m c t (y 0) (y 1))).trans (Eq.trans ?_ (congrArg (dxb _ _ _ _) (?_ : (ix2 ⟨t.val * 128 + (y 0), by omega⟩ ⟨(y 1), by omega⟩) = _)))
  · rw [dxb_at]
    exact congrArg₂ (fun a b : EReal => a + b) (congrFun (congrArg₂ dxRow (funext fun k => x_at m c t (y 0) k _ rfl)
      (funext fun k => congrArg₂ (fun a b : EReal => a * b) (dh_at m c t (y 0) k _ rfl) (w_at m c t k))) (y 1)) (res_at m c t (y 0) (y 1) _ rfl)
  · blk_ext [idx t]

/-- What the point's rows contribute to the gradient of the weight. -/
def wpart (c : Dev nD) (t : Fin cfg0.N) (j : Fin 2048) : EReal :=
  ∑ r : Fin 128, (show FVec Ideal S128x2048 .f32 from iblk m c 0 t) (ix2 r j) * Ideal.rsqrt (ms fun k => (show FVec Ideal S128x2048 .f32 from iblk m c 0 t) (ix2 r k)) * (show FVec Ideal S128x2048 .f32 from iblk m c 1 t) (ix2 r j)

theorem wfirst (c : Dev nD) (t : Fin cfg0.N) (h : t.val % 64 = 0) (j : Fin 2048) :
    (outsAt0 m c t.val t.isLt).2.2 (ix2 0 j) = wpart m c t j := by
  rw [outsAt0_A m c t h]
  dsimp only
  frame_out
  open_payloads
  pointwise
  rfl

theorem wnext (c : Dev nD) (t : Fin cfg0.N) (h : ¬ t.val % 64 = 0) (j : Fin 2048) :
    (outsAt0 m c t.val t.isLt).2.2 (ix2 0 j) = (show EReal from (outsAt0 m c (t.val - 1) (Nat.lt_of_le_of_lt (Nat.sub_le _ _) t.isLt)).2.2 (ix2 0 j)) + wpart m c t j := by
  rw [outsAt0_B m c t h]
  dsimp only
  frame_out
  open_payloads
  pointwise
  rfl

/-- After the last point every row is in. -/
theorem wlast (c : Dev nD) (t : Fin cfg0.N) (hl : t.val % 64 = 63) (j : Fin 2048) :
    (outsAt0 m c t.val t.isLt).2.2 (ix2 0 j) = ∑ r : Fin 8192, (show FVec Ideal S8192x2048 .f32 from m ((c.tc : Thread nD τ).loc main_arg0)) (ix2 r j) * Ideal.rsqrt (ms fun k => (show FVec Ideal S8192x2048 .f32 from m ((c.tc : Thread nD τ).loc main_arg0)) (ix2 r k)) * (show FVec Ideal S8192x2048 .f32 from m ((c.tc : Thread nD τ).loc main_arg2)) (ix2 r j) := by
  refine (wnext m c t (by omega) j).trans ((Cert.Products.run_total (fun n h (y : Fin 2048) => (show EReal from (outsAt0 m c n h).2.2 (ix2 0 y))) (fun p y => wpart m c p y) 64
    (fun t h y => wfirst m c t h y) (fun t h _ y => wnext m c t h y) t hl (by decide) j).trans ?_)
  refine Eq.trans ?_ (Fin.sum_univ_tiles (M := EReal) 64 128 rfl _).symm
  refine Finset.sum_congr rfl fun s _ => Finset.sum_congr rfl fun r _ => ?_
  have hs := s.isLt
  have ht : t.val < 64 := lt_of_lt_of_eq t.isLt N_eq
  refine congrArg₂ (fun a b : EReal => a * b) (congrArg₂ (fun a b : EReal => a * b) (x_at m c _ r j _ ?_) (congrArg (fun f => Ideal.rsqrt (ms f)) (funext fun k => x_at m c _ r k _ ?_))) (dh_at m c _ r j _ ?_)
  all_goals (dsimp only; omega)

theorem final2 (c : Dev nD) : (dats m 0 c).arrAt 6 (cfgs 0).N = dw (m ((c.tc : Thread nD τ).loc main_arg0)) (m ((c.tc : Thread nD τ).loc main_arg2)) := by
  refine (dats m 0 c).arrAt_eq_of_covers 6 _ (by decide +kernel) fun t hf y => ?_
  have ht : t.val < 64 := lt_of_lt_of_eq t.isLt N_eq
  have hl := (flush0_6 t).mp hf
  blk_simp
  have h1 : (y 1 : ℕ) < 2048 := (y 1).isLt
  have hy : y = ix2 0 (y 1) := (eq_ix2 y).trans (by congr 1; exact Subsingleton.elim (α := Fin 1) _ _)
  rw [after0_6]
  refine ((congrArg _ hy).trans (wlast m c t hl (y 1))).trans (Eq.trans ?_ (congrArg (dw _ _) (?_ : (ix2 0 ⟨(y 1), by omega⟩) = _)))
  · rw [dw_at]
    rfl
  · blk_ext [idx t]

/-- The kernel's results are the reference's. -/
theorem algebraic : Cert.algebraic_RmsBwdIdeal_RefRmsBwdIdeal := by
  intro m g m' g' _ hagree
  refine ⟨fun c => dx (m ((c.tc : Thread nD τ).loc main_arg0)) (m ((c.tc : Thread nD τ).loc main_arg1)) (m ((c.tc : Thread nD τ).loc main_arg2)) (m ((c.tc : Thread nD τ).loc main_arg3)), fun c => dxb (m ((c.tc : Thread nD τ).loc main_arg0)) (m ((c.tc : Thread nD τ).loc main_arg1)) (m ((c.tc : Thread nD τ).loc main_arg2)) (m ((c.tc : Thread nD τ).loc main_arg3)), fun c => dw (m ((c.tc : Thread nD τ).loc main_arg0)) (m ((c.tc : Thread nD τ).loc main_arg2)), ?_, ?_⟩
  · exact (θ_run Cert.RmsBwdIdeal.defs _ _).mono
      (fun _ h c => ⟨(h c).1.trans (final0 m c), (h c).2.1.trans (final1 m c), (h c).2.2.1.trans (final2 m c), (h c).2.2.2⟩) (Cert.RmsBwdIdeal.Value.run_blocks m g)
  · exact (θ_run Cert.RefRmsBwdIdeal.defs _ _).mono
      (fun _ h c => ⟨(h c).1.trans (congr (congr (congrArg₂ dx ((hagree c).1) ((hagree c).2.1)) ((hagree c).2.2.1)) ((hagree c).2.2.2)), (h c).2.1.trans (congr (congr (congrArg₂ dxb ((hagree c).1) ((hagree c).2.1)) ((hagree c).2.2.1)) ((hagree c).2.2.2)), (h c).2.2.1.trans (congrArg₂ dw ((hagree c).1) ((hagree c).2.2.1)), (h c).2.2.2⟩) (Cert.RefRmsBwdIdeal.Prod.run m' g')

/-- The printed program and its ideal form run the same body. -/
theorem same_defs : Cert.RmsBwd.defs (F := Bits) = defs := by
  refine congrArg (Pipeline.defs pcfgs) ?_
  unfold Cert.RmsBwd.defs₀ defs₀
  congr 1
  funext l x
  match l, x with
  | 0, (_, _) => rfl

/-- The printed program ends with its arguments unchanged: its run is that of the ideal form, over bits. -/
theorem frame_bits : Cert.quiescent_RmsBwd := fun m g _ => by
  rw [same_defs]
  exact frame (F := Bits) m g

end Cert.RmsBwdIdeal.Prod

end
-- ==== Proof.PBiasIn.lean ====
module

public import proofs.«01_k».proof.Defs
public import proofs.«01_k».proof.Proof.Gen.BiasInIdeal.Value
public import proofs.«01_k».proof.Proof.Gen.RefBiasInIdeal.Run
public import proofs.«01_k».proof.Proof.Gen.BiasIn
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefBiasInIdeal.Prod

open Cert.RefBiasInIdeal Cert.RefBiasInIdeal.Gen Idealize.ShloMosaic Idealize.ShloMosaic.TcCoe Idealize.SL.Sem

/-- The sum of each column. -/
def ref (x0 : FVec Ideal S8192x4096 .f32) : FVec Ideal S1x4096 .f32 :=
  broadcastInDim S1x4096 ![1] bcast_S4096_S1x4096_1 (Host.reduceAdd x0 (constant S_ .f32 0x00000000#32) reducesTo_S8192x4096_S4096_d0 h_S_)

theorem ref_at (x0 : FVec Ideal S8192x4096 .f32) (j : Fin 4096) : ref x0 (ix2 0 j) = ∑ r : Fin 8192, x0 (ix2 r j) := by
  unfold ref
  pointwise

/-- What the reference leaves. Its arguments stay as they are. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = ref (m ((c.tc : Thread nD τ).loc main_arg0))
      ∧ r.2.mem ((c.tc : Thread nD τ).loc main_arg0) = m ((c.tc : Thread nD τ).loc main_arg0) := by
  unfold ref
  exact Value.run m g

/-- The reference ends with its arguments unchanged. -/
theorem frame : Cert.quiescent_RefBiasInIdeal := fun m g _ =>
  (θ_run defs _ _).mono (fun r h => ⟨fun c => (h c).2, sem_eq_zero_of_no_sems (by decide) r.2⟩) (Value.run m g)

end Cert.RefBiasInIdeal.Prod

namespace Cert.BiasInIdeal.Prod

open Cert.BiasInIdeal Cert.BiasInIdeal.Gen Idealize.ShloMosaic Idealize.ShloMosaic.TcCoe Idealize.SL.Sem
open Cert.RefBiasInIdeal.Prod hiding run frame

variable (m : (ℓ : Loc nD τ sig) → Buf (Elt Ideal) ℓ)

theorem N_eq : cfg0.N = 32 := by decide +kernel

/-- The block of each array at grid point `t`. -/
theorem idx : ∀ t : Fin cfg0.N, win0_0.index t = ![t.val, 0]
    ∧ win0_1.index t = ![0, 0] :=
  (by decide +kernel : ∀ t : Fin grid0.N, _)

/-- What the point's block contributes to column `j`. -/
def part (c : Dev nD) (t : Fin cfg0.N) (j : Fin 4096) : EReal :=
  ∑ r : Fin 256, (show FVec Ideal S256x4096 .f32 from iblk m c 0 t) (ix2 r j)

/-- Rows of this array's block in the array. -/
theorem x_at (c : Dev nD) (t : Fin cfg0.N) (i : Fin 256) (j : Fin 4096) (I : Fin 8192) (hI : (I : ℕ) = t.val * 256 + i) :
    (show FVec Ideal S256x4096 .f32 from iblk m c 0 t) (ix2 i j) = (show FVec Ideal S8192x4096 .f32 from m ((c.tc : Thread nD τ).loc main_arg0)) (ix2 I j) := by
  have ht : t.val < 32 := lt_of_lt_of_eq t.isLt N_eq
  blk_point [iblk, V, idx t]

theorem acc_first (c : Dev nD) (t : Fin cfg0.N) (h : t.val % 32 = 0) (j : Fin 4096) :
    (outsAt0 m c t.val t.isLt) (ix2 0 j) = part m c t j := by
  rw [outsAt0_A m c t h]
  frame_out
  open_payloads
  pointwise
  rfl

theorem acc_next (c : Dev nD) (t : Fin cfg0.N) (h : ¬ t.val % 32 = 0) (j : Fin 4096) :
    (outsAt0 m c t.val t.isLt) (ix2 0 j) = (show EReal from (outsAt0 m c (t.val - 1) (Nat.lt_of_le_of_lt (Nat.sub_le _ _) t.isLt)) (ix2 0 j)) + part m c t j := by
  rw [outsAt0_B m c t h]
  frame_out
  open_payloads
  pointwise
  rfl

/-- After the last point every row is in. -/
theorem acc_last (c : Dev nD) (t : Fin cfg0.N) (hl : t.val % 32 = 31) (j : Fin 4096) :
    (outsAt0 m c t.val t.isLt) (ix2 0 j) = ∑ r : Fin 8192, (show FVec Ideal S8192x4096 .f32 from m ((c.tc : Thread nD τ).loc main_arg0)) (ix2 r j) := by
  refine (acc_next m c t (by omega) j).trans ((Cert.Products.run_total (fun n h (y : Fin 4096) => (show EReal from (outsAt0 m c n h) (ix2 0 y))) (fun p y => part m c p y) 32
    (fun t h y => acc_first m c t h y) (fun t h _ y => acc_next m c t h y) t hl (by decide) j).trans ?_)
  refine Eq.trans ?_ (Fin.sum_univ_tiles (M := EReal) 32 256 rfl _).symm
  refine Finset.sum_congr rfl fun s _ => Finset.sum_congr rfl fun r _ => ?_
  have hs := s.isLt
  have ht : t.val < 32 := lt_of_lt_of_eq t.isLt N_eq
  exact x_at m c _ r j _ (by dsimp only; omega)

theorem final0 (c : Dev nD) : (dats m 0 c).arrAt 1 (cfgs 0).N = ref (m ((c.tc : Thread nD τ).loc main_arg0)) := by
  refine (dats m 0 c).arrAt_eq_of_covers 1 _ (by decide +kernel) fun t hf y => ?_
  have ht : t.val < 32 := lt_of_lt_of_eq t.isLt N_eq
  have hl := (flush0_1 t).mp hf
  blk_simp
  have h1 : (y 1 : ℕ) < 4096 := (y 1).isLt
  have hy : y = ix2 0 (y 1) := (eq_ix2 y).trans (by congr 1; exact Subsingleton.elim (α := Fin 1) _ _)
  rw [after0_1]
  refine ((congrArg _ hy).trans (acc_last m c t hl (y 1))).trans (Eq.trans ?_ (congrArg (ref _) (?_ : (ix2 0 ⟨(y 1), by omega⟩) = _)))
  · rw [ref_at]
    rfl
  · blk_ext [idx t]

/-- The kernel's results are the reference's. -/
theorem algebraic : Cert.algebraic_BiasInIdeal_RefBiasInIdeal := by
  intro m g m' g' _ hagree
  refine ⟨fun c => ref (m ((c.tc : Thread nD τ).loc main_arg0)), ?_, ?_⟩
  · exact (θ_run Cert.BiasInIdeal.defs _ _).mono
      (fun _ h c => ⟨(h c).1.trans (final0 m c), (h c).2⟩) (Cert.BiasInIdeal.Value.run_blocks m g)
  · exact (θ_run Cert.RefBiasInIdeal.defs _ _).mono
      (fun _ h c => ⟨(h c).1.trans (congrArg ref (hagree c)), (h c).2⟩) (Cert.RefBiasInIdeal.Prod.run m' g')

/-- The printed program and its ideal form run the same body. -/
theorem same_defs : Cert.BiasIn.defs (F := Bits) = defs := by
  refine congrArg (Pipeline.defs pcfgs) ?_
  unfold Cert.BiasIn.defs₀ defs₀
  congr 1
  funext l x
  match l, x with
  | 0, (_, _) => rfl

/-- The printed program ends with its arguments unchanged: its run is that of the ideal form, over bits. -/
theorem frame_bits : Cert.quiescent_BiasIn := fun m g _ => by
  rw [same_defs]
  exact frame (F := Bits) m g

end Cert.BiasInIdeal.Prod

end
-- ==== Proof.PBiasOut.lean ====
module

public import proofs.«01_k».proof.Defs
public import proofs.«01_k».proof.Proof.Gen.BiasOutIdeal.Value
public import proofs.«01_k».proof.Proof.Gen.RefBiasOutIdeal.Run
public import proofs.«01_k».proof.Proof.Gen.BiasOut
public import proofs.«01_k».proof.Proof.Products
public import Idealize.ShloMosaic.Lib.Pipeline.ReadBack
public import Idealize.ShloMosaic.Lib.Claim
public import Idealize.ShloMosaic.Lib.Quiescent

@[expose] public section

set_option maxRecDepth 16384

noncomputable section

namespace Cert.RefBiasOutIdeal.Prod

open Cert.RefBiasOutIdeal Cert.RefBiasOutIdeal.Gen Idealize.ShloMosaic Idealize.ShloMosaic.TcCoe Idealize.SL.Sem

/-- The sum of each column. -/
def ref (x0 : FVec Ideal S8192x2048 .f32) : FVec Ideal S1x2048 .f32 :=
  broadcastInDim S1x2048 ![1] bcast_S2048_S1x2048_1 (Host.reduceAdd x0 (constant S_ .f32 0x00000000#32) reducesTo_S8192x2048_S2048_d0 h_S_)

theorem ref_at (x0 : FVec Ideal S8192x2048 .f32) (j : Fin 2048) : ref x0 (ix2 0 j) = ∑ r : Fin 8192, x0 (ix2 r j) := by
  unfold ref
  pointwise

/-- What the reference leaves. Its arguments stay as they are. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = ref (m ((c.tc : Thread nD τ).loc main_arg0))
      ∧ r.2.mem ((c.tc : Thread nD τ).loc main_arg0) = m ((c.tc : Thread nD τ).loc main_arg0) := by
  unfold ref
  exact Value.run m g

/-- The reference ends with its arguments unchanged. -/
theorem frame : Cert.quiescent_RefBiasOutIdeal := fun m g _ =>
  (θ_run defs _ _).mono (fun r h => ⟨fun c => (h c).2, sem_eq_zero_of_no_sems (by decide) r.2⟩) (Value.run m g)

end Cert.RefBiasOutIdeal.Prod

namespace Cert.BiasOutIdeal.Prod

open Cert.BiasOutIdeal Cert.BiasOutIdeal.Gen Idealize.ShloMosaic Idealize.ShloMosaic.TcCoe Idealize.SL.Sem
open Cert.RefBiasOutIdeal.Prod hiding run frame

variable (m : (ℓ : Loc nD τ sig) → Buf (Elt Ideal) ℓ)

theorem N_eq : cfg0.N = 16 := by decide +kernel

/-- The block of each array at grid point `t`. -/
theorem idx : ∀ t : Fin cfg0.N, win0_0.index t = ![t.val, 0]
    ∧ win0_1.index t = ![0, 0] :=
  (by decide +kernel : ∀ t : Fin grid0.N, _)

/-- What the point's block contributes to column `j`. -/
def part (c : Dev nD) (t : Fin cfg0.N) (j : Fin 2048) : EReal :=
  ∑ r : Fin 512, (show FVec Ideal S512x2048 .f32 from iblk m c 0 t) (ix2 r j)

/-- Rows of this array's block in the array. -/
theorem x_at (c : Dev nD) (t : Fin cfg0.N) (i : Fin 512) (j : Fin 2048) (I : Fin 8192) (hI : (I : ℕ) = t.val * 512 + i) :
    (show FVec Ideal S512x2048 .f32 from iblk m c 0 t) (ix2 i j) = (show FVec Ideal S8192x2048 .f32 from m ((c.tc : Thread nD τ).loc main_arg0)) (ix2 I j) := by
  have ht : t.val < 16 := lt_of_lt_of_eq t.isLt N_eq
  blk_point [iblk, V, idx t]

theorem acc_first (c : Dev nD) (t : Fin cfg0.N) (h : t.val % 16 = 0) (j : Fin 2048) :
    (outsAt0 m c t.val t.isLt) (ix2 0 j) = part m c t j := by
  rw [outsAt0_A m c t h]
  frame_out
  open_payloads
  pointwise
  rfl

theorem acc_next (c : Dev nD) (t : Fin cfg0.N) (h : ¬ t.val % 16 = 0) (j : Fin 2048) :
    (outsAt0 m c t.val t.isLt) (ix2 0 j) = (show EReal from (outsAt0 m c (t.val - 1) (Nat.lt_of_le_of_lt (Nat.sub_le _ _) t.isLt)) (ix2 0 j)) + part m c t j := by
  rw [outsAt0_B m c t h]
  frame_out
  open_payloads
  pointwise
  rfl

/-- After the last point every row is in. -/
theorem acc_last (c : Dev nD) (t : Fin cfg0.N) (hl : t.val % 16 = 15) (j : Fin 2048) :
    (outsAt0 m c t.val t.isLt) (ix2 0 j) = ∑ r : Fin 8192, (show FVec Ideal S8192x2048 .f32 from m ((c.tc : Thread nD τ).loc main_arg0)) (ix2 r j) := by
  refine (acc_next m c t (by omega) j).trans ((Cert.Products.run_total (fun n h (y : Fin 2048) => (show EReal from (outsAt0 m c n h) (ix2 0 y))) (fun p y => part m c p y) 16
    (fun t h y => acc_first m c t h y) (fun t h _ y => acc_next m c t h y) t hl (by decide) j).trans ?_)
  refine Eq.trans ?_ (Fin.sum_univ_tiles (M := EReal) 16 512 rfl _).symm
  refine Finset.sum_congr rfl fun s _ => Finset.sum_congr rfl fun r _ => ?_
  have hs := s.isLt
  have ht : t.val < 16 := lt_of_lt_of_eq t.isLt N_eq
  exact x_at m c _ r j _ (by dsimp only; omega)

theorem final0 (c : Dev nD) : (dats m 0 c).arrAt 1 (cfgs 0).N = ref (m ((c.tc : Thread nD τ).loc main_arg0)) := by
  refine (dats m 0 c).arrAt_eq_of_covers 1 _ (by decide +kernel) fun t hf y => ?_
  have ht : t.val < 16 := lt_of_lt_of_eq t.isLt N_eq
  have hl := (flush0_1 t).mp hf
  blk_simp
  have h1 : (y 1 : ℕ) < 2048 := (y 1).isLt
  have hy : y = ix2 0 (y 1) := (eq_ix2 y).trans (by congr 1; exact Subsingleton.elim (α := Fin 1) _ _)
  rw [after0_1]
  refine ((congrArg _ hy).trans (acc_last m c t hl (y 1))).trans (Eq.trans ?_ (congrArg (ref _) (?_ : (ix2 0 ⟨(y 1), by omega⟩) = _)))
  · rw [ref_at]
    rfl
  · blk_ext [idx t]

/-- The kernel's results are the reference's. -/
theorem algebraic : Cert.algebraic_BiasOutIdeal_RefBiasOutIdeal := by
  intro m g m' g' _ hagree
  refine ⟨fun c => ref (m ((c.tc : Thread nD τ).loc main_arg0)), ?_, ?_⟩
  · exact (θ_run Cert.BiasOutIdeal.defs _ _).mono
      (fun _ h c => ⟨(h c).1.trans (final0 m c), (h c).2⟩) (Cert.BiasOutIdeal.Value.run_blocks m g)
  · exact (θ_run Cert.RefBiasOutIdeal.defs _ _).mono
      (fun _ h c => ⟨(h c).1.trans (congrArg ref (hagree c)), (h c).2⟩) (Cert.RefBiasOutIdeal.Prod.run m' g')

/-- The printed program and its ideal form run the same body. -/
theorem same_defs : Cert.BiasOut.defs (F := Bits) = defs := by
  refine congrArg (Pipeline.defs pcfgs) ?_
  unfold Cert.BiasOut.defs₀ defs₀
  congr 1
  funext l x
  match l, x with
  | 0, (_, _) => rfl

/-- The printed program ends with its arguments unchanged: its run is that of the ideal form, over bits. -/
theorem frame_bits : Cert.quiescent_BiasOut := fun m g _ => by
  rw [same_defs]
  exact frame (F := Bits) m g

end Cert.BiasOutIdeal.Prod

end
-- ==== Proof.lean ====
module

public import proofs.«01_k».proof.Defs
public import proofs.«01_k».proof.Proof.Gen.Kernel.Frame
public import proofs.«01_k».proof.Proof.Conv4Claim
public import proofs.«01_k».proof.Proof.Gen.KernelIdeal.Value
public import proofs.«01_k».proof.Proof.Gen.ReferenceIdeal.Run
public import proofs.«01_k».proof.Proof.Gen.DwDownIdeal.Value
public import proofs.«01_k».proof.Proof.Gen.RefDwDownIdeal.Run
public import proofs.«01_k».proof.Proof.Gen.DwUpIdeal.Value
public import proofs.«01_k».proof.Proof.Gen.RefDwUpIdeal.Run
public import proofs.«01_k».proof.Proof.Gen.DwQkvIdeal.Value
public import proofs.«01_k».proof.Proof.Gen.RefDwQkvIdeal.Run
public import proofs.«01_k».proof.Proof.Gen.DwOIdeal.Value
public import proofs.«01_k».proof.Proof.Gen.RefDwOIdeal.Run
public import proofs.«01_k».proof.Proof.Gen.DwInIdeal.Value
public import proofs.«01_k».proof.Proof.Gen.RefDwInIdeal.Run
public import proofs.«01_k».proof.Proof.Gen.DwOutIdeal.Value
public import proofs.«01_k».proof.Proof.Gen.RefDwOutIdeal.Run
public import proofs.«01_k».proof.Proof.Gen.DwZIdeal.Value
public import proofs.«01_k».proof.Proof.Gen.RefDwZIdeal.Run
public import proofs.«01_k».proof.Proof.Gen.DwXbcIdeal.Value
public import proofs.«01_k».proof.Proof.Gen.RefDwXbcIdeal.Run
public import proofs.«01_k».proof.Proof.Gen.DwDtIdeal.Value
public import proofs.«01_k».proof.Proof.Gen.RefDwDtIdeal.Run
public import proofs.«01_k».proof.Proof.Gen.Du0Ideal.Value
public import proofs.«01_k».proof.Proof.Gen.RefDu0Ideal.Run
public import proofs.«01_k».proof.Proof.Gen.Du1Ideal.Value
public import proofs.«01_k».proof.Proof.Gen.RefDu1Ideal.Run
public import proofs.«01_k».proof.Proof.Gen.Du2Ideal.Value
public import proofs.«01_k».proof.Proof.Gen.RefDu2Ideal.Run
public import proofs.«01_k».proof.Proof.Gen.Du3Ideal.Value
public import proofs.«01_k».proof.Proof.Gen.RefDu3Ideal.Run
public import proofs.«01_k».proof.Proof.Gen.Dh0Ideal.Value
public import proofs.«01_k».proof.Proof.Gen.RefDh0Ideal.Run
public import proofs.«01_k».proof.Proof.Gen.Dh1Ideal.Value
public import proofs.«01_k».proof.Proof.Gen.RefDh1Ideal.Run
public import proofs.«01_k».proof.Proof.Gen.Dh2Ideal.Value
public import proofs.«01_k».proof.Proof.Gen.RefDh2Ideal.Run
public import proofs.«01_k».proof.Proof.Gen.Dh3Ideal.Value
public import proofs.«01_k».proof.Proof.Gen.RefDh3Ideal.Run
public import proofs.«01_k».proof.Proof.Gen.DhQkv0Ideal.Value
public import proofs.«01_k».proof.Proof.Gen.RefDhQkv0Ideal.Run
public import proofs.«01_k».proof.Proof.Gen.DhQkv1Ideal.Value
public import proofs.«01_k».proof.Proof.Gen.RefDhQkv1Ideal.Run
public import proofs.«01_k».proof.Proof.Gen.Do0Ideal.Value
public import proofs.«01_k».proof.Proof.Gen.RefDo0Ideal.Run
public import proofs.«01_k».proof.Proof.Gen.Do1Ideal.Value
public import proofs.«01_k».proof.Proof.Gen.RefDo1Ideal.Run
public import proofs.«01_k».proof.Proof.Gen.Ds0Ideal.Value
public import proofs.«01_k».proof.Proof.Gen.RefDs0Ideal.Run
public import proofs.«01_k».proof.Proof.Gen.DhIn0Ideal.Value
public import proofs.«01_k».proof.Proof.Gen.RefDhIn0Ideal.Run
public import proofs.«01_k».proof.Proof.Gen.Dyn0Ideal.Value
public import proofs.«01_k».proof.Proof.Gen.RefDyn0Ideal.Run
public import proofs.«01_k».proof.Proof.Gen.DhZIdeal.Value
public import proofs.«01_k».proof.Proof.Gen.RefDhZIdeal.Run
public import proofs.«01_k».proof.Proof.Gen.DhXbcIdeal.Value
public import proofs.«01_k».proof.Proof.Gen.RefDhXbcIdeal.Run
public import proofs.«01_k».proof.Proof.Gen.DhDtIdeal.Value
public import proofs.«01_k».proof.Proof.Gen.RefDhDtIdeal.Run
public import proofs.«01_k».proof.Proof.Gen.Up0Ideal.Value
public import proofs.«01_k».proof.Proof.Gen.RefUp0Ideal.Run
public import proofs.«01_k».proof.Proof.Gen.Up1Ideal.Value
public import proofs.«01_k».proof.Proof.Gen.RefUp1Ideal.Run
public import proofs.«01_k».proof.Proof.Gen.Up2Ideal.Value
public import proofs.«01_k».proof.Proof.Gen.RefUp2Ideal.Run
public import proofs.«01_k».proof.Proof.Gen.Up3Ideal.Value
public import proofs.«01_k».proof.Proof.Gen.RefUp3Ideal.Run
public import proofs.«01_k».proof.Proof.Gen.Down0Ideal.Value
public import proofs.«01_k».proof.Proof.Gen.RefDown0Ideal.Run
public import proofs.«01_k».proof.Proof.Gen.Down1Ideal.Value
public import proofs.«01_k».proof.Proof.Gen.RefDown1Ideal.Run
public import proofs.«01_k».proof.Proof.Gen.Down2Ideal.Value
public import proofs.«01_k».proof.Proof.Gen.RefDown2Ideal.Run
public import proofs.«01_k».proof.Proof.Gen.Down3Ideal.Value
public import proofs.«01_k».proof.Proof.Gen.RefDown3Ideal.Run
public import proofs.«01_k».proof.Proof.Gen.Qkv0Ideal.Value
public import proofs.«01_k».proof.Proof.Gen.RefQkv0Ideal.Run
public import proofs.«01_k».proof.Proof.Gen.Qkv1Ideal.Value
public import proofs.«01_k».proof.Proof.Gen.RefQkv1Ideal.Run
public import proofs.«01_k».proof.Proof.Gen.Out0Ideal.Value
public import proofs.«01_k».proof.Proof.Gen.RefOut0Ideal.Run
public import proofs.«01_k».proof.Proof.Gen.Out1Ideal.Value
public import proofs.«01_k».proof.Proof.Gen.RefOut1Ideal.Run
public import proofs.«01_k».proof.Proof.Gen.CfInIdeal.Value
public import proofs.«01_k».proof.Proof.Gen.RefCfInIdeal.Run
public import proofs.«01_k».proof.Proof.Gen.CfOutIdeal.Value
public import proofs.«01_k».proof.Proof.Gen.RefCfOutIdeal.Run
public import proofs.«01_k».proof.Proof.Gen.ZIdeal.Value
public import proofs.«01_k».proof.Proof.Gen.RefZIdeal.Run
public import proofs.«01_k».proof.Proof.Gen.XbcIdeal.Value
public import proofs.«01_k».proof.Proof.Gen.RefXbcIdeal.Run
public import proofs.«01_k».proof.Proof.Gen.DtIdeal.Value
public import proofs.«01_k».proof.Proof.Gen.RefDtIdeal.Run
public import proofs.«01_k».proof.Proof.Gen.M2Out0Ideal.Value
public import proofs.«01_k».proof.Proof.Gen.RefM2Out0Ideal.Run
public import proofs.«01_k».proof.Proof.Gen.AdamQkvIdeal.Value
public import proofs.«01_k».proof.Proof.Gen.RefAdamQkvIdeal.Run
public import proofs.«01_k».proof.Proof.Gen.AdamOIdeal.Value
public import proofs.«01_k».proof.Proof.Gen.RefAdamOIdeal.Run
public import proofs.«01_k».proof.Proof.Gen.AdamCfInIdeal.Value
public import proofs.«01_k».proof.Proof.Gen.RefAdamCfInIdeal.Run
public import proofs.«01_k».proof.Proof.Gen.AdamCfOutIdeal.Value
public import proofs.«01_k».proof.Proof.Gen.RefAdamCfOutIdeal.Run
public import proofs.«01_k».proof.Proof.Gen.AdamM2InIdeal.Value
public import proofs.«01_k».proof.Proof.Gen.RefAdamM2InIdeal.Run
public import proofs.«01_k».proof.Proof.Gen.AdamMlpIdeal.Value
public import proofs.«01_k».proof.Proof.Gen.RefAdamMlpIdeal.Run
public import proofs.«01_k».proof.Proof.Gen.AdamCfConvIdeal.Value
public import proofs.«01_k».proof.Proof.Gen.RefAdamCfConvIdeal.Run
public import proofs.«01_k».proof.Proof.Gen.AdamM2ConvIdeal.Value
public import proofs.«01_k».proof.Proof.Gen.RefAdamM2ConvIdeal.Run
public import proofs.«01_k».proof.Proof.Gen.AdamM2BiasIdeal.Value
public import proofs.«01_k».proof.Proof.Gen.RefAdamM2BiasIdeal.Run
public import proofs.«01_k».proof.Proof.Gen.AdamM2NormIdeal.Value
public import proofs.«01_k».proof.Proof.Gen.RefAdamM2NormIdeal.Run
public import proofs.«01_k».proof.Proof.Gen.AdamReplIdeal.Value
public import proofs.«01_k».proof.Proof.Gen.RefAdamReplIdeal.Run
public import proofs.«01_k».proof.Proof.Gen.RmsBwdIdeal.Value
public import proofs.«01_k».proof.Proof.Gen.RefRmsBwdIdeal.Run
public import proofs.«01_k».proof.Proof.Gen.BiasInIdeal.Value
public import proofs.«01_k».proof.Proof.Gen.RefBiasInIdeal.Run
public import proofs.«01_k».proof.Proof.Gen.BiasOutIdeal.Value
public import proofs.«01_k».proof.Proof.Gen.RefBiasOutIdeal.Run
public import proofs.«01_k».proof.Proof.PDwDown
public import proofs.«01_k».proof.Proof.PDwUp
public import proofs.«01_k».proof.Proof.PDwQkv
public import proofs.«01_k».proof.Proof.PDwO
public import proofs.«01_k».proof.Proof.PDwIn
public import proofs.«01_k».proof.Proof.PDwOut
public import proofs.«01_k».proof.Proof.PDwZ
public import proofs.«01_k».proof.Proof.PDwXbc
public import proofs.«01_k».proof.Proof.PDwDt
public import proofs.«01_k».proof.Proof.PDu0
public import proofs.«01_k».proof.Proof.PDu1
public import proofs.«01_k».proof.Proof.PDu2
public import proofs.«01_k».proof.Proof.PDu3
public import proofs.«01_k».proof.Proof.PDh0
public import proofs.«01_k».proof.Proof.PDh1
public import proofs.«01_k».proof.Proof.PDh2
public import proofs.«01_k».proof.Proof.PDh3
public import proofs.«01_k».proof.Proof.PDhQkv0
public import proofs.«01_k».proof.Proof.PDhQkv1
public import proofs.«01_k».proof.Proof.PDo0
public import proofs.«01_k».proof.Proof.PDo1
public import proofs.«01_k».proof.Proof.PDs0
public import proofs.«01_k».proof.Proof.PDhIn0
public import proofs.«01_k».proof.Proof.PDyn0
public import proofs.«01_k».proof.Proof.PDhZ
public import proofs.«01_k».proof.Proof.PDhXbc
public import proofs.«01_k».proof.Proof.PDhDt
public import proofs.«01_k».proof.Proof.PUp0
public import proofs.«01_k».proof.Proof.PUp1
public import proofs.«01_k».proof.Proof.PUp2
public import proofs.«01_k».proof.Proof.PUp3
public import proofs.«01_k».proof.Proof.PDown0
public import proofs.«01_k».proof.Proof.PDown1
public import proofs.«01_k».proof.Proof.PDown2
public import proofs.«01_k».proof.Proof.PDown3
public import proofs.«01_k».proof.Proof.PQkv0
public import proofs.«01_k».proof.Proof.PQkv1
public import proofs.«01_k».proof.Proof.POut0
public import proofs.«01_k».proof.Proof.POut1
public import proofs.«01_k».proof.Proof.PCfIn
public import proofs.«01_k».proof.Proof.PCfOut
public import proofs.«01_k».proof.Proof.PZ
public import proofs.«01_k».proof.Proof.PXbc
public import proofs.«01_k».proof.Proof.PDt
public import proofs.«01_k».proof.Proof.PM2Out0
public import proofs.«01_k».proof.Proof.PAdamQkv
public import proofs.«01_k».proof.Proof.PAdamO
public import proofs.«01_k».proof.Proof.PAdamCfIn
public import proofs.«01_k».proof.Proof.PAdamCfOut
public import proofs.«01_k».proof.Proof.PAdamM2In
public import proofs.«01_k».proof.Proof.PAdamMlp
public import proofs.«01_k».proof.Proof.PAdamCfConv
public import proofs.«01_k».proof.Proof.PAdamM2Conv
public import proofs.«01_k».proof.Proof.PAdamM2Bias
public import proofs.«01_k».proof.Proof.PAdamM2Norm
public import proofs.«01_k».proof.Proof.PAdamRepl
public import proofs.«01_k».proof.Proof.PRmsBwd
public import proofs.«01_k».proof.Proof.PBiasIn
public import proofs.«01_k».proof.Proof.PBiasOut

@[expose] public section

set_option maxRecDepth 16384

namespace Cert.Proof

/-- The witnesses of what the programs state; then, program by program, the three frames; then the ideal form and the equality
    with the reference. -/
theorem claim : Cert.Claim :=
  ⟨Cert.Kernel.Gen.facts, Cert.KernelIdeal.Gen.facts, Cert.ReferenceIdeal.Gen.facts,
  Cert.DwDown.Gen.facts, Cert.DwDownIdeal.Gen.facts, Cert.RefDwDownIdeal.Gen.facts,
  Cert.DwUp.Gen.facts, Cert.DwUpIdeal.Gen.facts, Cert.RefDwUpIdeal.Gen.facts,
  Cert.DwQkv.Gen.facts, Cert.DwQkvIdeal.Gen.facts, Cert.RefDwQkvIdeal.Gen.facts,
  Cert.DwO.Gen.facts, Cert.DwOIdeal.Gen.facts, Cert.RefDwOIdeal.Gen.facts,
  Cert.DwIn.Gen.facts, Cert.DwInIdeal.Gen.facts, Cert.RefDwInIdeal.Gen.facts,
  Cert.DwOut.Gen.facts, Cert.DwOutIdeal.Gen.facts, Cert.RefDwOutIdeal.Gen.facts,
  Cert.DwZ.Gen.facts, Cert.DwZIdeal.Gen.facts, Cert.RefDwZIdeal.Gen.facts,
  Cert.DwXbc.Gen.facts, Cert.DwXbcIdeal.Gen.facts, Cert.RefDwXbcIdeal.Gen.facts,
  Cert.DwDt.Gen.facts, Cert.DwDtIdeal.Gen.facts, Cert.RefDwDtIdeal.Gen.facts,
  Cert.Du0.Gen.facts, Cert.Du0Ideal.Gen.facts, Cert.RefDu0Ideal.Gen.facts,
  Cert.Du1.Gen.facts, Cert.Du1Ideal.Gen.facts, Cert.RefDu1Ideal.Gen.facts,
  Cert.Du2.Gen.facts, Cert.Du2Ideal.Gen.facts, Cert.RefDu2Ideal.Gen.facts,
  Cert.Du3.Gen.facts, Cert.Du3Ideal.Gen.facts, Cert.RefDu3Ideal.Gen.facts,
  Cert.Dh0.Gen.facts, Cert.Dh0Ideal.Gen.facts, Cert.RefDh0Ideal.Gen.facts,
  Cert.Dh1.Gen.facts, Cert.Dh1Ideal.Gen.facts, Cert.RefDh1Ideal.Gen.facts,
  Cert.Dh2.Gen.facts, Cert.Dh2Ideal.Gen.facts, Cert.RefDh2Ideal.Gen.facts,
  Cert.Dh3.Gen.facts, Cert.Dh3Ideal.Gen.facts, Cert.RefDh3Ideal.Gen.facts,
  Cert.DhQkv0.Gen.facts, Cert.DhQkv0Ideal.Gen.facts, Cert.RefDhQkv0Ideal.Gen.facts,
  Cert.DhQkv1.Gen.facts, Cert.DhQkv1Ideal.Gen.facts, Cert.RefDhQkv1Ideal.Gen.facts,
  Cert.Do0.Gen.facts, Cert.Do0Ideal.Gen.facts, Cert.RefDo0Ideal.Gen.facts,
  Cert.Do1.Gen.facts, Cert.Do1Ideal.Gen.facts, Cert.RefDo1Ideal.Gen.facts,
  Cert.Ds0.Gen.facts, Cert.Ds0Ideal.Gen.facts, Cert.RefDs0Ideal.Gen.facts,
  Cert.DhIn0.Gen.facts, Cert.DhIn0Ideal.Gen.facts, Cert.RefDhIn0Ideal.Gen.facts,
  Cert.Dyn0.Gen.facts, Cert.Dyn0Ideal.Gen.facts, Cert.RefDyn0Ideal.Gen.facts,
  Cert.DhZ.Gen.facts, Cert.DhZIdeal.Gen.facts, Cert.RefDhZIdeal.Gen.facts,
  Cert.DhXbc.Gen.facts, Cert.DhXbcIdeal.Gen.facts, Cert.RefDhXbcIdeal.Gen.facts,
  Cert.DhDt.Gen.facts, Cert.DhDtIdeal.Gen.facts, Cert.RefDhDtIdeal.Gen.facts,
  Cert.Up0.Gen.facts, Cert.Up0Ideal.Gen.facts, Cert.RefUp0Ideal.Gen.facts,
  Cert.Up1.Gen.facts, Cert.Up1Ideal.Gen.facts, Cert.RefUp1Ideal.Gen.facts,
  Cert.Up2.Gen.facts, Cert.Up2Ideal.Gen.facts, Cert.RefUp2Ideal.Gen.facts,
  Cert.Up3.Gen.facts, Cert.Up3Ideal.Gen.facts, Cert.RefUp3Ideal.Gen.facts,
  Cert.Down0.Gen.facts, Cert.Down0Ideal.Gen.facts, Cert.RefDown0Ideal.Gen.facts,
  Cert.Down1.Gen.facts, Cert.Down1Ideal.Gen.facts, Cert.RefDown1Ideal.Gen.facts,
  Cert.Down2.Gen.facts, Cert.Down2Ideal.Gen.facts, Cert.RefDown2Ideal.Gen.facts,
  Cert.Down3.Gen.facts, Cert.Down3Ideal.Gen.facts, Cert.RefDown3Ideal.Gen.facts,
  Cert.Qkv0.Gen.facts, Cert.Qkv0Ideal.Gen.facts, Cert.RefQkv0Ideal.Gen.facts,
  Cert.Qkv1.Gen.facts, Cert.Qkv1Ideal.Gen.facts, Cert.RefQkv1Ideal.Gen.facts,
  Cert.Out0.Gen.facts, Cert.Out0Ideal.Gen.facts, Cert.RefOut0Ideal.Gen.facts,
  Cert.Out1.Gen.facts, Cert.Out1Ideal.Gen.facts, Cert.RefOut1Ideal.Gen.facts,
  Cert.CfIn.Gen.facts, Cert.CfInIdeal.Gen.facts, Cert.RefCfInIdeal.Gen.facts,
  Cert.CfOut.Gen.facts, Cert.CfOutIdeal.Gen.facts, Cert.RefCfOutIdeal.Gen.facts,
  Cert.Z.Gen.facts, Cert.ZIdeal.Gen.facts, Cert.RefZIdeal.Gen.facts,
  Cert.Xbc.Gen.facts, Cert.XbcIdeal.Gen.facts, Cert.RefXbcIdeal.Gen.facts,
  Cert.Dt.Gen.facts, Cert.DtIdeal.Gen.facts, Cert.RefDtIdeal.Gen.facts,
  Cert.M2Out0.Gen.facts, Cert.M2Out0Ideal.Gen.facts, Cert.RefM2Out0Ideal.Gen.facts,
  Cert.AdamQkv.Gen.facts, Cert.AdamQkvIdeal.Gen.facts, Cert.RefAdamQkvIdeal.Gen.facts,
  Cert.AdamO.Gen.facts, Cert.AdamOIdeal.Gen.facts, Cert.RefAdamOIdeal.Gen.facts,
  Cert.AdamCfIn.Gen.facts, Cert.AdamCfInIdeal.Gen.facts, Cert.RefAdamCfInIdeal.Gen.facts,
  Cert.AdamCfOut.Gen.facts, Cert.AdamCfOutIdeal.Gen.facts, Cert.RefAdamCfOutIdeal.Gen.facts,
  Cert.AdamM2In.Gen.facts, Cert.AdamM2InIdeal.Gen.facts, Cert.RefAdamM2InIdeal.Gen.facts,
  Cert.AdamMlp.Gen.facts, Cert.AdamMlpIdeal.Gen.facts, Cert.RefAdamMlpIdeal.Gen.facts,
  Cert.AdamCfConv.Gen.facts, Cert.AdamCfConvIdeal.Gen.facts, Cert.RefAdamCfConvIdeal.Gen.facts,
  Cert.AdamM2Conv.Gen.facts, Cert.AdamM2ConvIdeal.Gen.facts, Cert.RefAdamM2ConvIdeal.Gen.facts,
  Cert.AdamM2Bias.Gen.facts, Cert.AdamM2BiasIdeal.Gen.facts, Cert.RefAdamM2BiasIdeal.Gen.facts,
  Cert.AdamM2Norm.Gen.facts, Cert.AdamM2NormIdeal.Gen.facts, Cert.RefAdamM2NormIdeal.Gen.facts,
  Cert.AdamRepl.Gen.facts, Cert.AdamReplIdeal.Gen.facts, Cert.RefAdamReplIdeal.Gen.facts,
  Cert.RmsBwd.Gen.facts, Cert.RmsBwdIdeal.Gen.facts, Cert.RefRmsBwdIdeal.Gen.facts,
  Cert.BiasIn.Gen.facts, Cert.BiasInIdeal.Gen.facts, Cert.RefBiasInIdeal.Gen.facts,
  Cert.BiasOut.Gen.facts, Cert.BiasOutIdeal.Gen.facts, Cert.RefBiasOutIdeal.Gen.facts,

  fun m ρ _ => Cert.Kernel.Gen.frame m ρ, fun m ρ _ => Cert.KernelIdeal.Gen.frame m ρ, Cert.Conv4.frame_reference,
  Cert.DwDownIdeal.Prod.frame_bits, fun m ρ _ => Cert.DwDownIdeal.Gen.frame m ρ, Cert.RefDwDownIdeal.Prod.frame,
  Cert.DwUpIdeal.Prod.frame_bits, fun m ρ _ => Cert.DwUpIdeal.Gen.frame m ρ, Cert.RefDwUpIdeal.Prod.frame,
  Cert.DwQkvIdeal.Prod.frame_bits, fun m ρ _ => Cert.DwQkvIdeal.Gen.frame m ρ, Cert.RefDwQkvIdeal.Prod.frame,
  Cert.DwOIdeal.Prod.frame_bits, fun m ρ _ => Cert.DwOIdeal.Gen.frame m ρ, Cert.RefDwOIdeal.Prod.frame,
  Cert.DwInIdeal.Prod.frame_bits, fun m ρ _ => Cert.DwInIdeal.Gen.frame m ρ, Cert.RefDwInIdeal.Prod.frame,
  Cert.DwOutIdeal.Prod.frame_bits, fun m ρ _ => Cert.DwOutIdeal.Gen.frame m ρ, Cert.RefDwOutIdeal.Prod.frame,
  Cert.DwZIdeal.Prod.frame_bits, fun m ρ _ => Cert.DwZIdeal.Gen.frame m ρ, Cert.RefDwZIdeal.Prod.frame,
  Cert.DwXbcIdeal.Prod.frame_bits, fun m ρ _ => Cert.DwXbcIdeal.Gen.frame m ρ, Cert.RefDwXbcIdeal.Prod.frame,
  Cert.DwDtIdeal.Prod.frame_bits, fun m ρ _ => Cert.DwDtIdeal.Gen.frame m ρ, Cert.RefDwDtIdeal.Prod.frame,
  Cert.Du0Ideal.Prod.frame_bits, fun m ρ _ => Cert.Du0Ideal.Gen.frame m ρ, Cert.RefDu0Ideal.Prod.frame,
  Cert.Du1Ideal.Prod.frame_bits, fun m ρ _ => Cert.Du1Ideal.Gen.frame m ρ, Cert.RefDu1Ideal.Prod.frame,
  Cert.Du2Ideal.Prod.frame_bits, fun m ρ _ => Cert.Du2Ideal.Gen.frame m ρ, Cert.RefDu2Ideal.Prod.frame,
  Cert.Du3Ideal.Prod.frame_bits, fun m ρ _ => Cert.Du3Ideal.Gen.frame m ρ, Cert.RefDu3Ideal.Prod.frame,
  Cert.Dh0Ideal.Prod.frame_bits, fun m ρ _ => Cert.Dh0Ideal.Gen.frame m ρ, Cert.RefDh0Ideal.Prod.frame,
  Cert.Dh1Ideal.Prod.frame_bits, fun m ρ _ => Cert.Dh1Ideal.Gen.frame m ρ, Cert.RefDh1Ideal.Prod.frame,
  Cert.Dh2Ideal.Prod.frame_bits, fun m ρ _ => Cert.Dh2Ideal.Gen.frame m ρ, Cert.RefDh2Ideal.Prod.frame,
  Cert.Dh3Ideal.Prod.frame_bits, fun m ρ _ => Cert.Dh3Ideal.Gen.frame m ρ, Cert.RefDh3Ideal.Prod.frame,
  Cert.DhQkv0Ideal.Prod.frame_bits, fun m ρ _ => Cert.DhQkv0Ideal.Gen.frame m ρ, Cert.RefDhQkv0Ideal.Prod.frame,
  Cert.DhQkv1Ideal.Prod.frame_bits, fun m ρ _ => Cert.DhQkv1Ideal.Gen.frame m ρ, Cert.RefDhQkv1Ideal.Prod.frame,
  Cert.Do0Ideal.Prod.frame_bits, fun m ρ _ => Cert.Do0Ideal.Gen.frame m ρ, Cert.RefDo0Ideal.Prod.frame,
  Cert.Do1Ideal.Prod.frame_bits, fun m ρ _ => Cert.Do1Ideal.Gen.frame m ρ, Cert.RefDo1Ideal.Prod.frame,
  Cert.Ds0Ideal.Prod.frame_bits, fun m ρ _ => Cert.Ds0Ideal.Gen.frame m ρ, Cert.RefDs0Ideal.Prod.frame,
  Cert.DhIn0Ideal.Prod.frame_bits, fun m ρ _ => Cert.DhIn0Ideal.Gen.frame m ρ, Cert.RefDhIn0Ideal.Prod.frame,
  Cert.Dyn0Ideal.Prod.frame_bits, fun m ρ _ => Cert.Dyn0Ideal.Gen.frame m ρ, Cert.RefDyn0Ideal.Prod.frame,
  Cert.DhZIdeal.Prod.frame_bits, fun m ρ _ => Cert.DhZIdeal.Gen.frame m ρ, Cert.RefDhZIdeal.Prod.frame,
  Cert.DhXbcIdeal.Prod.frame_bits, fun m ρ _ => Cert.DhXbcIdeal.Gen.frame m ρ, Cert.RefDhXbcIdeal.Prod.frame,
  Cert.DhDtIdeal.Prod.frame_bits, fun m ρ _ => Cert.DhDtIdeal.Gen.frame m ρ, Cert.RefDhDtIdeal.Prod.frame,
  Cert.Up0Ideal.Prod.frame_bits, fun m ρ _ => Cert.Up0Ideal.Gen.frame m ρ, Cert.RefUp0Ideal.Prod.frame,
  Cert.Up1Ideal.Prod.frame_bits, fun m ρ _ => Cert.Up1Ideal.Gen.frame m ρ, Cert.RefUp1Ideal.Prod.frame,
  Cert.Up2Ideal.Prod.frame_bits, fun m ρ _ => Cert.Up2Ideal.Gen.frame m ρ, Cert.RefUp2Ideal.Prod.frame,
  Cert.Up3Ideal.Prod.frame_bits, fun m ρ _ => Cert.Up3Ideal.Gen.frame m ρ, Cert.RefUp3Ideal.Prod.frame,
  Cert.Down0Ideal.Prod.frame_bits, fun m ρ _ => Cert.Down0Ideal.Gen.frame m ρ, Cert.RefDown0Ideal.Prod.frame,
  Cert.Down1Ideal.Prod.frame_bits, fun m ρ _ => Cert.Down1Ideal.Gen.frame m ρ, Cert.RefDown1Ideal.Prod.frame,
  Cert.Down2Ideal.Prod.frame_bits, fun m ρ _ => Cert.Down2Ideal.Gen.frame m ρ, Cert.RefDown2Ideal.Prod.frame,
  Cert.Down3Ideal.Prod.frame_bits, fun m ρ _ => Cert.Down3Ideal.Gen.frame m ρ, Cert.RefDown3Ideal.Prod.frame,
  Cert.Qkv0Ideal.Prod.frame_bits, fun m ρ _ => Cert.Qkv0Ideal.Gen.frame m ρ, Cert.RefQkv0Ideal.Prod.frame,
  Cert.Qkv1Ideal.Prod.frame_bits, fun m ρ _ => Cert.Qkv1Ideal.Gen.frame m ρ, Cert.RefQkv1Ideal.Prod.frame,
  Cert.Out0Ideal.Prod.frame_bits, fun m ρ _ => Cert.Out0Ideal.Gen.frame m ρ, Cert.RefOut0Ideal.Prod.frame,
  Cert.Out1Ideal.Prod.frame_bits, fun m ρ _ => Cert.Out1Ideal.Gen.frame m ρ, Cert.RefOut1Ideal.Prod.frame,
  Cert.CfInIdeal.Prod.frame_bits, fun m ρ _ => Cert.CfInIdeal.Gen.frame m ρ, Cert.RefCfInIdeal.Prod.frame,
  Cert.CfOutIdeal.Prod.frame_bits, fun m ρ _ => Cert.CfOutIdeal.Gen.frame m ρ, Cert.RefCfOutIdeal.Prod.frame,
  Cert.ZIdeal.Prod.frame_bits, fun m ρ _ => Cert.ZIdeal.Gen.frame m ρ, Cert.RefZIdeal.Prod.frame,
  Cert.XbcIdeal.Prod.frame_bits, fun m ρ _ => Cert.XbcIdeal.Gen.frame m ρ, Cert.RefXbcIdeal.Prod.frame,
  Cert.DtIdeal.Prod.frame_bits, fun m ρ _ => Cert.DtIdeal.Gen.frame m ρ, Cert.RefDtIdeal.Prod.frame,
  Cert.M2Out0Ideal.Prod.frame_bits, fun m ρ _ => Cert.M2Out0Ideal.Gen.frame m ρ, Cert.RefM2Out0Ideal.Prod.frame,
  Cert.AdamQkvIdeal.Prod.frame_bits, fun m ρ _ => Cert.AdamQkvIdeal.Gen.frame m ρ, Cert.RefAdamQkvIdeal.Prod.frame,
  Cert.AdamOIdeal.Prod.frame_bits, fun m ρ _ => Cert.AdamOIdeal.Gen.frame m ρ, Cert.RefAdamOIdeal.Prod.frame,
  Cert.AdamCfInIdeal.Prod.frame_bits, fun m ρ _ => Cert.AdamCfInIdeal.Gen.frame m ρ, Cert.RefAdamCfInIdeal.Prod.frame,
  Cert.AdamCfOutIdeal.Prod.frame_bits, fun m ρ _ => Cert.AdamCfOutIdeal.Gen.frame m ρ, Cert.RefAdamCfOutIdeal.Prod.frame,
  Cert.AdamM2InIdeal.Prod.frame_bits, fun m ρ _ => Cert.AdamM2InIdeal.Gen.frame m ρ, Cert.RefAdamM2InIdeal.Prod.frame,
  Cert.AdamMlpIdeal.Prod.frame_bits, fun m ρ _ => Cert.AdamMlpIdeal.Gen.frame m ρ, Cert.RefAdamMlpIdeal.Prod.frame,
  Cert.AdamCfConvIdeal.Prod.frame_bits, fun m ρ _ => Cert.AdamCfConvIdeal.Gen.frame m ρ, Cert.RefAdamCfConvIdeal.Prod.frame,
  Cert.AdamM2ConvIdeal.Prod.frame_bits, fun m ρ _ => Cert.AdamM2ConvIdeal.Gen.frame m ρ, Cert.RefAdamM2ConvIdeal.Prod.frame,
  Cert.AdamM2BiasIdeal.Prod.frame_bits, fun m ρ _ => Cert.AdamM2BiasIdeal.Gen.frame m ρ, Cert.RefAdamM2BiasIdeal.Prod.frame,
  Cert.AdamM2NormIdeal.Prod.frame_bits, fun m ρ _ => Cert.AdamM2NormIdeal.Gen.frame m ρ, Cert.RefAdamM2NormIdeal.Prod.frame,
  Cert.AdamReplIdeal.Prod.frame_bits, fun m ρ _ => Cert.AdamReplIdeal.Gen.frame m ρ, Cert.RefAdamReplIdeal.Prod.frame,
  Cert.RmsBwdIdeal.Prod.frame_bits, fun m ρ _ => Cert.RmsBwdIdeal.Gen.frame m ρ, Cert.RefRmsBwdIdeal.Prod.frame,
  Cert.BiasInIdeal.Prod.frame_bits, fun m ρ _ => Cert.BiasInIdeal.Gen.frame m ρ, Cert.RefBiasInIdeal.Prod.frame,
  Cert.BiasOutIdeal.Prod.frame_bits, fun m ρ _ => Cert.BiasOutIdeal.Gen.frame m ρ, Cert.RefBiasOutIdeal.Prod.frame,

  trivial, Cert.Conv4.algebraic,
  trivial, Cert.DwDownIdeal.Prod.algebraic,
  trivial, Cert.DwUpIdeal.Prod.algebraic,
  trivial, Cert.DwQkvIdeal.Prod.algebraic,
  trivial, Cert.DwOIdeal.Prod.algebraic,
  trivial, Cert.DwInIdeal.Prod.algebraic,
  trivial, Cert.DwOutIdeal.Prod.algebraic,
  trivial, Cert.DwZIdeal.Prod.algebraic,
  trivial, Cert.DwXbcIdeal.Prod.algebraic,
  trivial, Cert.DwDtIdeal.Prod.algebraic,
  trivial, Cert.Du0Ideal.Prod.algebraic,
  trivial, Cert.Du1Ideal.Prod.algebraic,
  trivial, Cert.Du2Ideal.Prod.algebraic,
  trivial, Cert.Du3Ideal.Prod.algebraic,
  trivial, Cert.Dh0Ideal.Prod.algebraic,
  trivial, Cert.Dh1Ideal.Prod.algebraic,
  trivial, Cert.Dh2Ideal.Prod.algebraic,
  trivial, Cert.Dh3Ideal.Prod.algebraic,
  trivial, Cert.DhQkv0Ideal.Prod.algebraic,
  trivial, Cert.DhQkv1Ideal.Prod.algebraic,
  trivial, Cert.Do0Ideal.Prod.algebraic,
  trivial, Cert.Do1Ideal.Prod.algebraic,
  trivial, Cert.Ds0Ideal.Prod.algebraic,
  trivial, Cert.DhIn0Ideal.Prod.algebraic,
  trivial, Cert.Dyn0Ideal.Prod.algebraic,
  trivial, Cert.DhZIdeal.Prod.algebraic,
  trivial, Cert.DhXbcIdeal.Prod.algebraic,
  trivial, Cert.DhDtIdeal.Prod.algebraic,
  trivial, Cert.Up0Ideal.Prod.algebraic,
  trivial, Cert.Up1Ideal.Prod.algebraic,
  trivial, Cert.Up2Ideal.Prod.algebraic,
  trivial, Cert.Up3Ideal.Prod.algebraic,
  trivial, Cert.Down0Ideal.Prod.algebraic,
  trivial, Cert.Down1Ideal.Prod.algebraic,
  trivial, Cert.Down2Ideal.Prod.algebraic,
  trivial, Cert.Down3Ideal.Prod.algebraic,
  trivial, Cert.Qkv0Ideal.Prod.algebraic,
  trivial, Cert.Qkv1Ideal.Prod.algebraic,
  trivial, Cert.Out0Ideal.Prod.algebraic,
  trivial, Cert.Out1Ideal.Prod.algebraic,
  trivial, Cert.CfInIdeal.Prod.algebraic,
  trivial, Cert.CfOutIdeal.Prod.algebraic,
  trivial, Cert.ZIdeal.Prod.algebraic,
  trivial, Cert.XbcIdeal.Prod.algebraic,
  trivial, Cert.DtIdeal.Prod.algebraic,
  trivial, Cert.M2Out0Ideal.Prod.algebraic,
  trivial, Cert.AdamQkvIdeal.Prod.algebraic,
  trivial, Cert.AdamOIdeal.Prod.algebraic,
  trivial, Cert.AdamCfInIdeal.Prod.algebraic,
  trivial, Cert.AdamCfOutIdeal.Prod.algebraic,
  trivial, Cert.AdamM2InIdeal.Prod.algebraic,
  trivial, Cert.AdamMlpIdeal.Prod.algebraic,
  trivial, Cert.AdamCfConvIdeal.Prod.algebraic,
  trivial, Cert.AdamM2ConvIdeal.Prod.algebraic,
  trivial, Cert.AdamM2BiasIdeal.Prod.algebraic,
  trivial, Cert.AdamM2NormIdeal.Prod.algebraic,
  trivial, Cert.AdamReplIdeal.Prod.algebraic,
  trivial, Cert.RmsBwdIdeal.Prod.algebraic,
  trivial, Cert.BiasInIdeal.Prod.algebraic,
  trivial, Cert.BiasOutIdeal.Prod.algebraic⟩

end Cert.Proof
